-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_GwUp (m : (ℓ : Loc Cert.GwUp.nD Cert.GwUp.τ Cert.GwUp.sig) → Buf (Elt Bits) ℓ) : Prop :=
  True

def Pre_GwUpIdeal (m : (ℓ : Loc Cert.GwUpIdeal.nD Cert.GwUpIdeal.τ Cert.GwUpIdeal.sig) → Buf (Elt Ideal) ℓ) : Prop :=
  True

def Pre_GwUpRefIdeal (m : (ℓ : Loc Cert.GwUpRefIdeal.nD Cert.GwUpRefIdeal.τ Cert.GwUpRefIdeal.sig) → Buf (Elt Ideal) ℓ) : Prop :=
  True

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_DH2RefIdeal (m : (ℓ : Loc Cert.DH2RefIdeal.nD Cert.DH2RefIdeal.τ Cert.DH2RefIdeal.sig) → Buf (Elt Ideal) ℓ) : Prop :=
  True

def Pre_GwQkv (m : (ℓ : Loc Cert.GwQkv.nD Cert.GwQkv.τ Cert.GwQkv.sig) → Buf (Elt Bits) ℓ) : Prop :=
  True

def Pre_GwQkvIdeal (m : (ℓ : Loc Cert.GwQkvIdeal.nD Cert.GwQkvIdeal.τ Cert.GwQkvIdeal.sig) → Buf (Elt Ideal) ℓ) : Prop :=
  True

def Pre_GwQkvRefIdeal (m : (ℓ : Loc Cert.GwQkvRefIdeal.nD Cert.GwQkvRefIdeal.τ Cert.GwQkvRefIdeal.sig) → Buf (Elt Ideal) ℓ) : Prop :=
  True

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_DH1RefIdeal (m : (ℓ : Loc Cert.DH1RefIdeal.nD Cert.DH1RefIdeal.τ Cert.DH1RefIdeal.sig) → Buf (Elt Ideal) ℓ) : Prop :=
  True

def Pre_GwDown (m : (ℓ : Loc Cert.GwDown.nD Cert.GwDown.τ Cert.GwDown.sig) → Buf (Elt Bits) ℓ) : Prop :=
  True

def Pre_GwDownIdeal (m : (ℓ : Loc Cert.GwDownIdeal.nD Cert.GwDownIdeal.τ Cert.GwDownIdeal.sig) → Buf (Elt Ideal) ℓ) : Prop :=
  True

def Pre_GwDownRefIdeal (m : (ℓ : Loc Cert.GwDownRefIdeal.nD Cert.GwDownRefIdeal.τ Cert.GwDownRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_GwO (m : (ℓ : Loc Cert.GwO.nD Cert.GwO.τ Cert.GwO.sig) → Buf (Elt Bits) ℓ) : Prop :=
  True

def Pre_GwOIdeal (m : (ℓ : Loc Cert.GwOIdeal.nD Cert.GwOIdeal.τ Cert.GwOIdeal.sig) → Buf (Elt Ideal) ℓ) : Prop :=
  True

def Pre_GwORefIdeal (m : (ℓ : Loc Cert.GwORefIdeal.nD Cert.GwORefIdeal.τ Cert.GwORefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_ProjZ (m : (ℓ : Loc Cert.ProjZ.nD Cert.ProjZ.τ Cert.ProjZ.sig) → Buf (Elt Bits) ℓ) : Prop :=
  True

def Pre_ProjZIdeal (m : (ℓ : Loc Cert.ProjZIdeal.nD Cert.ProjZIdeal.τ Cert.ProjZIdeal.sig) → Buf (Elt Ideal) ℓ) : Prop :=
  True

def Pre_ProjZRefIdeal (m : (ℓ : Loc Cert.ProjZRefIdeal.nD Cert.ProjZRefIdeal.τ Cert.ProjZRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite_norm [hPre_finite_norm : Cert.Pre_finite_norm.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite_norm.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6))).1 = (fun _ => 1#1)
    ∧ (Cert.Pre_finite_norm.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6))).2.1 = (fun _ => 1#1)
    ∧ (Cert.Pre_finite_norm.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6))).2.2.1 = (fun _ => 1#1)
    ∧ (Cert.Pre_finite_norm.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6))).2.2.2 = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_finite_norm [hPre_finite_norm : Cert.Pre_finite_norm.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_finite_norm.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4)) (m ((c.tc : Thread Cert.LnBwdRefIdeal.nD Cert.LnBwdRefIdeal.τ).loc Cert.LnBwdRefIdeal.main_arg5)) (m ((c.tc : Thread Cert.LnBwdRefIdeal.nD Cert.LnBwdRefIdeal.τ).loc Cert.LnBwdRefIdeal.main_arg6))).1 = (fun _ => 1#1)
    ∧ (Cert.Pre_finite_norm.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4)) (m ((c.tc : Thread Cert.LnBwdRefIdeal.nD Cert.LnBwdRefIdeal.τ).loc Cert.LnBwdRefIdeal.main_arg5)) (m ((c.tc : Thread Cert.LnBwdRefIdeal.nD Cert.LnBwdRefIdeal.τ).loc Cert.LnBwdRefIdeal.main_arg6))).2.1 = (fun _ => 1#1)
    ∧ (Cert.Pre_finite_norm.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4)) (m ((c.tc : Thread Cert.LnBwdRefIdeal.nD Cert.LnBwdRefIdeal.τ).loc Cert.LnBwdRefIdeal.main_arg5)) (m ((c.tc : Thread Cert.LnBwdRefIdeal.nD Cert.LnBwdRefIdeal.τ).loc Cert.LnBwdRefIdeal.main_arg6))).2.2.1 = (fun _ => 1#1)
    ∧ (Cert.Pre_finite_norm.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4)) (m ((c.tc : Thread Cert.LnBwdRefIdeal.nD Cert.LnBwdRefIdeal.τ).loc Cert.LnBwdRefIdeal.main_arg5)) (m ((c.tc : Thread Cert.LnBwdRefIdeal.nD Cert.LnBwdRefIdeal.τ).loc Cert.LnBwdRefIdeal.main_arg6))).2.2.2 = (fun _ => 1#1)

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_finite_gate [hPre_finite_gate : Cert.Pre_finite_gate.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).1 = (fun _ => 1#1)
    ∧ (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).2 = (fun _ => 1#1)

def Pre_GateBwdRefIdeal (m : (ℓ : Loc Cert.GateBwdRefIdeal.nD Cert.GateBwdRefIdeal.τ Cert.GateBwdRefIdeal.sig) → Buf (Elt Ideal) ℓ) : Prop :=
  True

def Pre_GateBwdRefIdeal_finite_gate [hPre_finite_gate : Cert.Pre_finite_gate.Facts] (m : (ℓ : Loc Cert.GateBwdRefIdeal.nD Cert.GateBwdRefIdeal.τ Cert.GateBwdRefIdeal.sig) → Buf (Elt Ideal) ℓ) : Prop :=
  ∀ c : Dev Cert.GateBwdRefIdeal.nD,
    (Cert.Pre_finite_gate.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3))).1 = (fun _ => 1#1)
    ∧ (Cert.Pre_finite_gate.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3))).2 = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalIdeal_finite_loss [hPre_finite_loss : Cert.Pre_finite_loss.Facts] (m : (ℓ : Loc Cert.FinalIdeal.nD Cert.FinalIdeal.τ Cert.FinalIdeal.sig) → Buf (Elt Ideal) ℓ) : Prop :=
  ∀ c : Dev Cert.FinalIdeal.nD,
    (Cert.Pre_finite_loss.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3)) (m ((c.tc : Thread Cert.FinalIdeal.nD Cert.FinalIdeal.τ).loc Cert.FinalIdeal.main_arg4)) (m ((c.tc : Thread Cert.FinalIdeal.nD Cert.FinalIdeal.τ).loc Cert.FinalIdeal.main_arg5))).1 = (fun _ => 1#1)
    ∧ (Cert.Pre_finite_loss.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3)) (m ((c.tc : Thread Cert.FinalIdeal.nD Cert.FinalIdeal.τ).loc Cert.FinalIdeal.main_arg4)) (m ((c.tc : Thread Cert.FinalIdeal.nD Cert.FinalIdeal.τ).loc Cert.FinalIdeal.main_arg5))).2.1 = (fun _ => 1#1)
    ∧ (Cert.Pre_finite_loss.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3)) (m ((c.tc : Thread Cert.FinalIdeal.nD Cert.FinalIdeal.τ).loc Cert.FinalIdeal.main_arg4)) (m ((c.tc : Thread Cert.FinalIdeal.nD Cert.FinalIdeal.τ).loc Cert.FinalIdeal.main_arg5))).2.2 = (fun _ => 1#1)

def Pre_FinalRefIdeal (m : (ℓ : Loc Cert.FinalRefIdeal.nD Cert.FinalRefIdeal.τ Cert.FinalRefIdeal.sig) → Buf (Elt Ideal) ℓ) : Prop :=
  True

def Pre_FinalRefIdeal_finite_loss [hPre_finite_loss : Cert.Pre_finite_loss.Facts] (m : (ℓ : Loc Cert.FinalRefIdeal.nD Cert.FinalRefIdeal.τ Cert.FinalRefIdeal.sig) → Buf (Elt Ideal) ℓ) : Prop :=
  ∀ c : Dev Cert.FinalRefIdeal.nD,
    (Cert.Pre_finite_loss.fn (F := Ideal) (m ((c.tc : Thread Cert.FinalRefIdeal.nD Cert.FinalRefIdeal.τ).loc Cert.FinalRefIdeal.main_arg0)) (m ((c.tc : Thread Cert.FinalRefIdeal.nD Cert.FinalRefIdeal.τ).loc Cert.FinalRefIdeal.main_arg1)) (m ((c.tc : Thread Cert.FinalRefIdeal.nD Cert.FinalRefIdeal.τ).loc Cert.FinalRefIdeal.main_arg2)) (m ((c.tc : Thread Cert.FinalRefIdeal.nD Cert.FinalRefIdeal.τ).loc Cert.FinalRefIdeal.main_arg3)) (m ((c.tc : Thread Cert.FinalRefIdeal.nD Cert.FinalRefIdeal.τ).loc Cert.FinalRefIdeal.main_arg4)) (m ((c.tc : Thread Cert.FinalRefIdeal.nD Cert.FinalRefIdeal.τ).loc Cert.FinalRefIdeal.main_arg5))).1 = (fun _ => 1#1)
    ∧ (Cert.Pre_finite_loss.fn (F := Ideal) (m ((c.tc : Thread Cert.FinalRefIdeal.nD Cert.FinalRefIdeal.τ).loc Cert.FinalRefIdeal.main_arg0)) (m ((c.tc : Thread Cert.FinalRefIdeal.nD Cert.FinalRefIdeal.τ).loc Cert.FinalRefIdeal.main_arg1)) (m ((c.tc : Thread Cert.FinalRefIdeal.nD Cert.FinalRefIdeal.τ).loc Cert.FinalRefIdeal.main_arg2)) (m ((c.tc : Thread Cert.FinalRefIdeal.nD Cert.FinalRefIdeal.τ).loc Cert.FinalRefIdeal.main_arg3)) (m ((c.tc : Thread Cert.FinalRefIdeal.nD Cert.FinalRefIdeal.τ).loc Cert.FinalRefIdeal.main_arg4)) (m ((c.tc : Thread Cert.FinalRefIdeal.nD Cert.FinalRefIdeal.τ).loc Cert.FinalRefIdeal.main_arg5))).2.1 = (fun _ => 1#1)
    ∧ (Cert.Pre_finite_loss.fn (F := Ideal) (m ((c.tc : Thread Cert.FinalRefIdeal.nD Cert.FinalRefIdeal.τ).loc Cert.FinalRefIdeal.main_arg0)) (m ((c.tc : Thread Cert.FinalRefIdeal.nD Cert.FinalRefIdeal.τ).loc Cert.FinalRefIdeal.main_arg1)) (m ((c.tc : Thread Cert.FinalRefIdeal.nD Cert.FinalRefIdeal.τ).loc Cert.FinalRefIdeal.main_arg2)) (m ((c.tc : Thread Cert.FinalRefIdeal.nD Cert.FinalRefIdeal.τ).loc Cert.FinalRefIdeal.main_arg3)) (m ((c.tc : Thread Cert.FinalRefIdeal.nD Cert.FinalRefIdeal.τ).loc Cert.FinalRefIdeal.main_arg4)) (m ((c.tc : Thread Cert.FinalRefIdeal.nD Cert.FinalRefIdeal.τ).loc Cert.FinalRefIdeal.main_arg5))).2.2 = (fun _ => 1#1)

def Pre_ModT (m : (ℓ : Loc Cert.ModT.nD Cert.ModT.τ Cert.ModT.sig) → Buf (Elt Bits) ℓ) : Prop :=
  True

def Pre_ModTIdeal (m : (ℓ : Loc Cert.ModTIdeal.nD Cert.ModTIdeal.τ Cert.ModTIdeal.sig) → Buf (Elt Ideal) ℓ) : Prop :=
  True

def Pre_ModTRefIdeal (m : (ℓ : Loc Cert.ModTRefIdeal.nD Cert.ModTRefIdeal.τ Cert.ModTRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdRefIdeal (m : (ℓ : Loc Cert.LnFwdRefIdeal.nD Cert.LnFwdRefIdeal.τ Cert.LnFwdRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_ProjG (m : (ℓ : Loc Cert.ProjG.nD Cert.ProjG.τ Cert.ProjG.sig) → Buf (Elt Bits) ℓ) : Prop :=
  True

def Pre_ProjGIdeal (m : (ℓ : Loc Cert.ProjGIdeal.nD Cert.ProjGIdeal.τ Cert.ProjGIdeal.sig) → Buf (Elt Ideal) ℓ) : Prop :=
  True

def Pre_ProjGRefIdeal (m : (ℓ : Loc Cert.ProjGRefIdeal.nD Cert.ProjGRefIdeal.τ Cert.ProjGRefIdeal.sig) → Buf (Elt Ideal) ℓ) : Prop :=
  True

def Pre_ProjBa (m : (ℓ : Loc Cert.ProjBa.nD Cert.ProjBa.τ Cert.ProjBa.sig) → Buf (Elt Bits) ℓ) : Prop :=
  True

def Pre_ProjBaIdeal (m : (ℓ : Loc Cert.ProjBaIdeal.nD Cert.ProjBaIdeal.τ Cert.ProjBaIdeal.sig) → Buf (Elt Ideal) ℓ) : Prop :=
  True

def Pre_ProjBaRefIdeal (m : (ℓ : Loc Cert.ProjBaRefIdeal.nD Cert.ProjBaRefIdeal.τ Cert.ProjBaRefIdeal.sig) → Buf (Elt Ideal) ℓ) : Prop :=
  True

def Pre_GwG (m : (ℓ : Loc Cert.GwG.nD Cert.GwG.τ Cert.GwG.sig) → Buf (Elt Bits) ℓ) : Prop :=
  True

def Pre_GwGIdeal (m : (ℓ : Loc Cert.GwGIdeal.nD Cert.GwGIdeal.τ Cert.GwGIdeal.sig) → Buf (Elt Ideal) ℓ) : Prop :=
  True

def Pre_GwGRefIdeal (m : (ℓ : Loc Cert.GwGRefIdeal.nD Cert.GwGRefIdeal.τ Cert.GwGRefIdeal.sig) → Buf (Elt Ideal) ℓ) : Prop :=
  True

def Pre_GwBa (m : (ℓ : Loc Cert.GwBa.nD Cert.GwBa.τ Cert.GwBa.sig) → Buf (Elt Bits) ℓ) : Prop :=
  True

def Pre_GwBaIdeal (m : (ℓ : Loc Cert.GwBaIdeal.nD Cert.GwBaIdeal.τ Cert.GwBaIdeal.sig) → Buf (Elt Ideal) ℓ) : Prop :=
  True

def Pre_GwBaRefIdeal (m : (ℓ : Loc Cert.GwBaRefIdeal.nD Cert.GwBaRefIdeal.τ Cert.GwBaRefIdeal.sig) → Buf (Elt Ideal) ℓ) : Prop :=
  True

def Pre_DH1Ba (m : (ℓ : Loc Cert.DH1Ba.nD Cert.DH1Ba.τ Cert.DH1Ba.sig) → Buf (Elt Bits) ℓ) : Prop :=
  True

def Pre_DH1BaIdeal (m : (ℓ : Loc Cert.DH1BaIdeal.nD Cert.DH1BaIdeal.τ Cert.DH1BaIdeal.sig) → Buf (Elt Ideal) ℓ) : Prop :=
  True

def Pre_DH1BaRefIdeal (m : (ℓ : Loc Cert.DH1BaRefIdeal.nD Cert.DH1BaRefIdeal.τ Cert.DH1BaRefIdeal.sig) → Buf (Elt Ideal) ℓ) : Prop :=
  True

def Pre_DH1Z (m : (ℓ : Loc Cert.DH1Z.nD Cert.DH1Z.τ Cert.DH1Z.sig) → Buf (Elt Bits) ℓ) : Prop :=
  True

def Pre_DH1ZIdeal (m : (ℓ : Loc Cert.DH1ZIdeal.nD Cert.DH1ZIdeal.τ Cert.DH1ZIdeal.sig) → Buf (Elt Ideal) ℓ) : Prop :=
  True

def Pre_DH1ZRefIdeal (m : (ℓ : Loc Cert.DH1ZRefIdeal.nD Cert.DH1ZRefIdeal.τ Cert.DH1ZRefIdeal.sig) → Buf (Elt Ideal) ℓ) : Prop :=
  True

def Pre_DH1G (m : (ℓ : Loc Cert.DH1G.nD Cert.DH1G.τ Cert.DH1G.sig) → Buf (Elt Bits) ℓ) : Prop :=
  True

def Pre_DH1GIdeal (m : (ℓ : Loc Cert.DH1GIdeal.nD Cert.DH1GIdeal.τ Cert.DH1GIdeal.sig) → Buf (Elt Ideal) ℓ) : Prop :=
  True

def Pre_DH1GRefIdeal (m : (ℓ : Loc Cert.DH1GRefIdeal.nD Cert.DH1GRefIdeal.τ Cert.DH1GRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_PairSquare (m : (ℓ : Loc Cert.PairSquare.nD Cert.PairSquare.τ Cert.PairSquare.sig) → Buf (Elt Bits) ℓ) : Prop :=
  True

def Pre_PairSquareIdeal (m : (ℓ : Loc Cert.PairSquareIdeal.nD Cert.PairSquareIdeal.τ Cert.PairSquareIdeal.sig) → Buf (Elt Ideal) ℓ) : Prop :=
  True

def Pre_PairSquareRefIdeal (m : (ℓ : Loc Cert.PairSquareRefIdeal.nD Cert.PairSquareRefIdeal.τ Cert.PairSquareRefIdeal.sig) → Buf (Elt Ideal) ℓ) : Prop :=
  True

def Pre_PairUp (m : (ℓ : Loc Cert.PairUp.nD Cert.PairUp.τ Cert.PairUp.sig) → Buf (Elt Bits) ℓ) : Prop :=
  True

def Pre_PairUpIdeal (m : (ℓ : Loc Cert.PairUpIdeal.nD Cert.PairUpIdeal.τ Cert.PairUpIdeal.sig) → Buf (Elt Ideal) ℓ) : Prop :=
  True

def Pre_PairUpRefIdeal (m : (ℓ : Loc Cert.PairUpRefIdeal.nD Cert.PairUpRefIdeal.τ Cert.PairUpRefIdeal.sig) → Buf (Elt Ideal) ℓ) : Prop :=
  True

def Pre_PairDown (m : (ℓ : Loc Cert.PairDown.nD Cert.PairDown.τ Cert.PairDown.sig) → Buf (Elt Bits) ℓ) : Prop :=
  True

def Pre_PairDownIdeal (m : (ℓ : Loc Cert.PairDownIdeal.nD Cert.PairDownIdeal.τ Cert.PairDownIdeal.sig) → Buf (Elt Ideal) ℓ) : Prop :=
  True

def Pre_PairDownRefIdeal (m : (ℓ : Loc Cert.PairDownRefIdeal.nD Cert.PairDownRefIdeal.τ Cert.PairDownRefIdeal.sig) → Buf (Elt Ideal) ℓ) : Prop :=
  True

def Pre_PairIn (m : (ℓ : Loc Cert.PairIn.nD Cert.PairIn.τ Cert.PairIn.sig) → Buf (Elt Bits) ℓ) : Prop :=
  True

def Pre_PairInIdeal (m : (ℓ : Loc Cert.PairInIdeal.nD Cert.PairInIdeal.τ Cert.PairInIdeal.sig) → Buf (Elt Ideal) ℓ) : Prop :=
  True

def Pre_PairInRefIdeal (m : (ℓ : Loc Cert.PairInRefIdeal.nD Cert.PairInRefIdeal.τ Cert.PairInRefIdeal.sig) → Buf (Elt Ideal) ℓ) : Prop :=
  True

def Pre_SumSquare (m : (ℓ : Loc Cert.SumSquare.nD Cert.SumSquare.τ Cert.SumSquare.sig) → Buf (Elt Bits) ℓ) : Prop :=
  True

def Pre_SumSquareIdeal (m : (ℓ : Loc Cert.SumSquareIdeal.nD Cert.SumSquareIdeal.τ Cert.SumSquareIdeal.sig) → Buf (Elt Ideal) ℓ) : Prop :=
  True

def Pre_SumSquareRefIdeal (m : (ℓ : Loc Cert.SumSquareRefIdeal.nD Cert.SumSquareRefIdeal.τ Cert.SumSquareRefIdeal.sig) → Buf (Elt Ideal) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_SumUpRefIdeal (m : (ℓ : Loc Cert.SumUpRefIdeal.nD Cert.SumUpRefIdeal.τ Cert.SumUpRefIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_SumDownRefIdeal (m : (ℓ : Loc Cert.SumDownRefIdeal.nD Cert.SumDownRefIdeal.τ Cert.SumDownRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_GwUp [hGwUp : Cert.GwUp.Facts] : Prop :=
  ∀ (m : (ℓ : Loc Cert.GwUp.nD Cert.GwUp.τ Cert.GwUp.sig) → Buf (Elt Bits) ℓ) (g : Dev Cert.GwUp.nD → PrngReg), Pre_GwUp m →
    θ_run (Cert.GwUp.defs (F := Bits)) (onTc (τ := Cert.GwUp.τ) (Cert.GwUp.main (F := Bits))) ⟨m, fun _ => 0, g⟩ (fun r => (∀ c : Dev Cert.GwUp.nD,
      r.2.mem ((c.tc : Thread Cert.GwUp.nD Cert.GwUp.τ).loc Cert.GwUp.main_arg0) = m ((c.tc : Thread Cert.GwUp.nD Cert.GwUp.τ).loc Cert.GwUp.main_arg0)
      ∧ r.2.mem ((c.tc : Thread Cert.GwUp.nD Cert.GwUp.τ).loc Cert.GwUp.main_arg1) = m ((c.tc : Thread Cert.GwUp.nD Cert.GwUp.τ).loc Cert.GwUp.main_arg1))
      ∧ r.2.sem = fun _ => 0)

def quiescent_GwUpIdeal [hGwUpIdeal : Cert.GwUpIdeal.Facts] : Prop :=
  ∀ (m : (ℓ : Loc Cert.GwUpIdeal.nD Cert.GwUpIdeal.τ Cert.GwUpIdeal.sig) → Buf (Elt Ideal) ℓ) (g : Dev Cert.GwUpIdeal.nD → PrngReg), Pre_GwUpIdeal m →
    θ_run (Cert.GwUpIdeal.defs (F := Ideal)) (onTc (τ := Cert.GwUpIdeal.τ) (Cert.GwUpIdeal.main (F := Ideal))) ⟨m, fun _ => 0, g⟩ (fun r => (∀ c : Dev Cert.GwUpIdeal.nD,
      r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
      ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ r.2.sem = fun _ => 0)

def quiescent_GwUpRefIdeal [hGwUpRefIdeal : Cert.GwUpRefIdeal.Facts] : Prop :=
  ∀ (m : (ℓ : Loc Cert.GwUpRefIdeal.nD Cert.GwUpRefIdeal.τ Cert.GwUpRefIdeal.sig) → Buf (Elt Ideal) ℓ) (g : Dev Cert.GwUpRefIdeal.nD → PrngReg), Pre_GwUpRefIdeal m →
    θ_run (Cert.GwUpRefIdeal.defs (F := Ideal)) (onTc (τ := Cert.GwUpRefIdeal.τ) (Cert.GwUpRefIdeal.main (F := Ideal))) ⟨m, fun _ => 0, g⟩ (fun r => (∀ c : Dev Cert.GwUpRefIdeal.nD,
      r.2.mem ((c.tc : Thread Cert.GwUpRefIdeal.nD Cert.GwUpRefIdeal.τ).loc Cert.GwUpRefIdeal.main_arg0) = m ((c.tc : Thread Cert.GwUpRefIdeal.nD Cert.GwUpRefIdeal.τ).loc Cert.GwUpRefIdeal.main_arg0)
      ∧ r.2.mem ((c.tc : Thread Cert.GwUpRefIdeal.nD Cert.GwUpRefIdeal.τ).loc Cert.GwUpRefIdeal.main_arg1) = m ((c.tc : Thread Cert.GwUpRefIdeal.nD Cert.GwUpRefIdeal.τ).loc Cert.GwUpRefIdeal.main_arg1))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ r.2.sem = fun _ => 0)

def quiescent_DH2RefIdeal [hDH2RefIdeal : Cert.DH2RefIdeal.Facts] : Prop :=
  ∀ (m : (ℓ : Loc Cert.DH2RefIdeal.nD Cert.DH2RefIdeal.τ Cert.DH2RefIdeal.sig) → Buf (Elt Ideal) ℓ) (g : Dev Cert.DH2RefIdeal.nD → PrngReg), Pre_DH2RefIdeal m →
    θ_run (Cert.DH2RefIdeal.defs (F := Ideal)) (onTc (τ := Cert.DH2RefIdeal.τ) (Cert.DH2RefIdeal.main (F := Ideal))) ⟨m, fun _ => 0, g⟩ (fun r => (∀ c : Dev Cert.DH2RefIdeal.nD,
      r.2.mem ((c.tc : Thread Cert.DH2RefIdeal.nD Cert.DH2RefIdeal.τ).loc Cert.DH2RefIdeal.main_arg0) = m ((c.tc : Thread Cert.DH2RefIdeal.nD Cert.DH2RefIdeal.τ).loc Cert.DH2RefIdeal.main_arg0)
      ∧ r.2.mem ((c.tc : Thread Cert.DH2RefIdeal.nD Cert.DH2RefIdeal.τ).loc Cert.DH2RefIdeal.main_arg1) = m ((c.tc : Thread Cert.DH2RefIdeal.nD Cert.DH2RefIdeal.τ).loc Cert.DH2RefIdeal.main_arg1))
      ∧ r.2.sem = fun _ => 0)

def quiescent_GwQkv [hGwQkv : Cert.GwQkv.Facts] : Prop :=
  ∀ (m : (ℓ : Loc Cert.GwQkv.nD Cert.GwQkv.τ Cert.GwQkv.sig) → Buf (Elt Bits) ℓ) (g : Dev Cert.GwQkv.nD → PrngReg), Pre_GwQkv m →
    θ_run (Cert.GwQkv.defs (F := Bits)) (onTc (τ := Cert.GwQkv.τ) (Cert.GwQkv.main (F := Bits))) ⟨m, fun _ => 0, g⟩ (fun r => (∀ c : Dev Cert.GwQkv.nD,
      r.2.mem ((c.tc : Thread Cert.GwQkv.nD Cert.GwQkv.τ).loc Cert.GwQkv.main_arg0) = m ((c.tc : Thread Cert.GwQkv.nD Cert.GwQkv.τ).loc Cert.GwQkv.main_arg0)
      ∧ r.2.mem ((c.tc : Thread Cert.GwQkv.nD Cert.GwQkv.τ).loc Cert.GwQkv.main_arg1) = m ((c.tc : Thread Cert.GwQkv.nD Cert.GwQkv.τ).loc Cert.GwQkv.main_arg1))
      ∧ r.2.sem = fun _ => 0)

def quiescent_GwQkvIdeal [hGwQkvIdeal : Cert.GwQkvIdeal.Facts] : Prop :=
  ∀ (m : (ℓ : Loc Cert.GwQkvIdeal.nD Cert.GwQkvIdeal.τ Cert.GwQkvIdeal.sig) → Buf (Elt Ideal) ℓ) (g : Dev Cert.GwQkvIdeal.nD → PrngReg), Pre_GwQkvIdeal m →
    θ_run (Cert.GwQkvIdeal.defs (F := Ideal)) (onTc (τ := Cert.GwQkvIdeal.τ) (Cert.GwQkvIdeal.main (F := Ideal))) ⟨m, fun _ => 0, g⟩ (fun r => (∀ c : Dev Cert.GwQkvIdeal.nD,
      r.2.mem ((c.tc : Thread Cert.GwQkvIdeal.nD Cert.GwQkvIdeal.τ).loc Cert.GwQkvIdeal.main_arg0) = m ((c.tc : Thread Cert.GwQkvIdeal.nD Cert.GwQkvIdeal.τ).loc Cert.GwQkvIdeal.main_arg0)
      ∧ r.2.mem ((c.tc : Thread Cert.GwQkvIdeal.nD Cert.GwQkvIdeal.τ).loc Cert.GwQkvIdeal.main_arg1) = m ((c.tc : Thread Cert.GwQkvIdeal.nD Cert.GwQkvIdeal.τ).loc Cert.GwQkvIdeal.main_arg1))
      ∧ r.2.sem = fun _ => 0)

def quiescent_GwQkvRefIdeal [hGwQkvRefIdeal : Cert.GwQkvRefIdeal.Facts] : Prop :=
  ∀ (m : (ℓ : Loc Cert.GwQkvRefIdeal.nD Cert.GwQkvRefIdeal.τ Cert.GwQkvRefIdeal.sig) → Buf (Elt Ideal) ℓ) (g : Dev Cert.GwQkvRefIdeal.nD → PrngReg), Pre_GwQkvRefIdeal m →
    θ_run (Cert.GwQkvRefIdeal.defs (F := Ideal)) (onTc (τ := Cert.GwQkvRefIdeal.τ) (Cert.GwQkvRefIdeal.main (F := Ideal))) ⟨m, fun _ => 0, g⟩ (fun r => (∀ c : Dev Cert.GwQkvRefIdeal.nD,
      r.2.mem ((c.tc : Thread Cert.GwQkvRefIdeal.nD Cert.GwQkvRefIdeal.τ).loc Cert.GwQkvRefIdeal.main_arg0) = m ((c.tc : Thread Cert.GwQkvRefIdeal.nD Cert.GwQkvRefIdeal.τ).loc Cert.GwQkvRefIdeal.main_arg0)
      ∧ r.2.mem ((c.tc : Thread Cert.GwQkvRefIdeal.nD Cert.GwQkvRefIdeal.τ).loc Cert.GwQkvRefIdeal.main_arg1) = m ((c.tc : Thread Cert.GwQkvRefIdeal.nD Cert.GwQkvRefIdeal.τ).loc Cert.GwQkvRefIdeal.main_arg1))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1)
      ∧ r.2.mem ((c.tc : Thread Cert.DH1.nD Cert.DH1.τ).loc Cert.DH1.main_arg2) = m ((c.tc : Thread Cert.DH1.nD Cert.DH1.τ).loc Cert.DH1.main_arg2))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
      ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2))
      ∧ r.2.sem = fun _ => 0)

def quiescent_DH1RefIdeal [hDH1RefIdeal : Cert.DH1RefIdeal.Facts] : Prop :=
  ∀ (m : (ℓ : Loc Cert.DH1RefIdeal.nD Cert.DH1RefIdeal.τ Cert.DH1RefIdeal.sig) → Buf (Elt Ideal) ℓ) (g : Dev Cert.DH1RefIdeal.nD → PrngReg), Pre_DH1RefIdeal m →
    θ_run (Cert.DH1RefIdeal.defs (F := Ideal)) (onTc (τ := Cert.DH1RefIdeal.τ) (Cert.DH1RefIdeal.main (F := Ideal))) ⟨m, fun _ => 0, g⟩ (fun r => (∀ c : Dev Cert.DH1RefIdeal.nD,
      r.2.mem ((c.tc : Thread Cert.DH1RefIdeal.nD Cert.DH1RefIdeal.τ).loc Cert.DH1RefIdeal.main_arg0) = m ((c.tc : Thread Cert.DH1RefIdeal.nD Cert.DH1RefIdeal.τ).loc Cert.DH1RefIdeal.main_arg0)
      ∧ r.2.mem ((c.tc : Thread Cert.DH1RefIdeal.nD Cert.DH1RefIdeal.τ).loc Cert.DH1RefIdeal.main_arg1) = m ((c.tc : Thread Cert.DH1RefIdeal.nD Cert.DH1RefIdeal.τ).loc Cert.DH1RefIdeal.main_arg1)
      ∧ r.2.mem ((c.tc : Thread Cert.DH1RefIdeal.nD Cert.DH1RefIdeal.τ).loc Cert.DH1RefIdeal.main_arg2) = m ((c.tc : Thread Cert.DH1RefIdeal.nD Cert.DH1RefIdeal.τ).loc Cert.DH1RefIdeal.main_arg2))
      ∧ r.2.sem = fun _ => 0)

def quiescent_GwDown [hGwDown : Cert.GwDown.Facts] : Prop :=
  ∀ (m : (ℓ : Loc Cert.GwDown.nD Cert.GwDown.τ Cert.GwDown.sig) → Buf (Elt Bits) ℓ) (g : Dev Cert.GwDown.nD → PrngReg), Pre_GwDown m →
    θ_run (Cert.GwDown.defs (F := Bits)) (onTc (τ := Cert.GwDown.τ) (Cert.GwDown.main (F := Bits))) ⟨m, fun _ => 0, g⟩ (fun r => (∀ c : Dev Cert.GwDown.nD,
      r.2.mem ((c.tc : Thread Cert.GwDown.nD Cert.GwDown.τ).loc Cert.GwDown.main_arg0) = m ((c.tc : Thread Cert.GwDown.nD Cert.GwDown.τ).loc Cert.GwDown.main_arg0)
      ∧ r.2.mem ((c.tc : Thread Cert.GwDown.nD Cert.GwDown.τ).loc Cert.GwDown.main_arg1) = m ((c.tc : Thread Cert.GwDown.nD Cert.GwDown.τ).loc Cert.GwDown.main_arg1))
      ∧ r.2.sem = fun _ => 0)

def quiescent_GwDownIdeal [hGwDownIdeal : Cert.GwDownIdeal.Facts] : Prop :=
  ∀ (m : (ℓ : Loc Cert.GwDownIdeal.nD Cert.GwDownIdeal.τ Cert.GwDownIdeal.sig) → Buf (Elt Ideal) ℓ) (g : Dev Cert.GwDownIdeal.nD → PrngReg), Pre_GwDownIdeal m →
    θ_run (Cert.GwDownIdeal.defs (F := Ideal)) (onTc (τ := Cert.GwDownIdeal.τ) (Cert.GwDownIdeal.main (F := Ideal))) ⟨m, fun _ => 0, g⟩ (fun r => (∀ c : Dev Cert.GwDownIdeal.nD,
      r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
      ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ r.2.sem = fun _ => 0)

def quiescent_GwDownRefIdeal [hGwDownRefIdeal : Cert.GwDownRefIdeal.Facts] : Prop :=
  ∀ (m : (ℓ : Loc Cert.GwDownRefIdeal.nD Cert.GwDownRefIdeal.τ Cert.GwDownRefIdeal.sig) → Buf (Elt Ideal) ℓ) (g : Dev Cert.GwDownRefIdeal.nD → PrngReg), Pre_GwDownRefIdeal m →
    θ_run (Cert.GwDownRefIdeal.defs (F := Ideal)) (onTc (τ := Cert.GwDownRefIdeal.τ) (Cert.GwDownRefIdeal.main (F := Ideal))) ⟨m, fun _ => 0, g⟩ (fun r => (∀ c : Dev Cert.GwDownRefIdeal.nD,
      r.2.mem ((c.tc : Thread Cert.GwDownRefIdeal.nD Cert.GwDownRefIdeal.τ).loc Cert.GwDownRefIdeal.main_arg0) = m ((c.tc : Thread Cert.GwDownRefIdeal.nD Cert.GwDownRefIdeal.τ).loc Cert.GwDownRefIdeal.main_arg0)
      ∧ r.2.mem ((c.tc : Thread Cert.GwDownRefIdeal.nD Cert.GwDownRefIdeal.τ).loc Cert.GwDownRefIdeal.main_arg1) = m ((c.tc : Thread Cert.GwDownRefIdeal.nD Cert.GwDownRefIdeal.τ).loc Cert.GwDownRefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_GwO [hGwO : Cert.GwO.Facts] : Prop :=
  ∀ (m : (ℓ : Loc Cert.GwO.nD Cert.GwO.τ Cert.GwO.sig) → Buf (Elt Bits) ℓ) (g : Dev Cert.GwO.nD → PrngReg), Pre_GwO m →
    θ_run (Cert.GwO.defs (F := Bits)) (onTc (τ := Cert.GwO.τ) (Cert.GwO.main (F := Bits))) ⟨m, fun _ => 0, g⟩ (fun r => (∀ c : Dev Cert.GwO.nD,
      r.2.mem ((c.tc : Thread Cert.GwO.nD Cert.GwO.τ).loc Cert.GwO.main_arg0) = m ((c.tc : Thread Cert.GwO.nD Cert.GwO.τ).loc Cert.GwO.main_arg0)
      ∧ r.2.mem ((c.tc : Thread Cert.GwO.nD Cert.GwO.τ).loc Cert.GwO.main_arg1) = m ((c.tc : Thread Cert.GwO.nD Cert.GwO.τ).loc Cert.GwO.main_arg1))
      ∧ r.2.sem = fun _ => 0)

def quiescent_GwOIdeal [hGwOIdeal : Cert.GwOIdeal.Facts] : Prop :=
  ∀ (m : (ℓ : Loc Cert.GwOIdeal.nD Cert.GwOIdeal.τ Cert.GwOIdeal.sig) → Buf (Elt Ideal) ℓ) (g : Dev Cert.GwOIdeal.nD → PrngReg), Pre_GwOIdeal m →
    θ_run (Cert.GwOIdeal.defs (F := Ideal)) (onTc (τ := Cert.GwOIdeal.τ) (Cert.GwOIdeal.main (F := Ideal))) ⟨m, fun _ => 0, g⟩ (fun r => (∀ c : Dev Cert.GwOIdeal.nD,
      r.2.mem ((c.tc : Thread Cert.GwOIdeal.nD Cert.GwOIdeal.τ).loc Cert.GwOIdeal.main_arg0) = m ((c.tc : Thread Cert.GwOIdeal.nD Cert.GwOIdeal.τ).loc Cert.GwOIdeal.main_arg0)
      ∧ r.2.mem ((c.tc : Thread Cert.GwOIdeal.nD Cert.GwOIdeal.τ).loc Cert.GwOIdeal.main_arg1) = m ((c.tc : Thread Cert.GwOIdeal.nD Cert.GwOIdeal.τ).loc Cert.GwOIdeal.main_arg1))
      ∧ r.2.sem = fun _ => 0)

def quiescent_GwORefIdeal [hGwORefIdeal : Cert.GwORefIdeal.Facts] : Prop :=
  ∀ (m : (ℓ : Loc Cert.GwORefIdeal.nD Cert.GwORefIdeal.τ Cert.GwORefIdeal.sig) → Buf (Elt Ideal) ℓ) (g : Dev Cert.GwORefIdeal.nD → PrngReg), Pre_GwORefIdeal m →
    θ_run (Cert.GwORefIdeal.defs (F := Ideal)) (onTc (τ := Cert.GwORefIdeal.τ) (Cert.GwORefIdeal.main (F := Ideal))) ⟨m, fun _ => 0, g⟩ (fun r => (∀ c : Dev Cert.GwORefIdeal.nD,
      r.2.mem ((c.tc : Thread Cert.GwORefIdeal.nD Cert.GwORefIdeal.τ).loc Cert.GwORefIdeal.main_arg0) = m ((c.tc : Thread Cert.GwORefIdeal.nD Cert.GwORefIdeal.τ).loc Cert.GwORefIdeal.main_arg0)
      ∧ r.2.mem ((c.tc : Thread Cert.GwORefIdeal.nD Cert.GwORefIdeal.τ).loc Cert.GwORefIdeal.main_arg1) = m ((c.tc : Thread Cert.GwORefIdeal.nD Cert.GwORefIdeal.τ).loc Cert.GwORefIdeal.main_arg1))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1))
      ∧ r.2.sem = fun _ => 0)

def quiescent_ProjZ [hProjZ : Cert.ProjZ.Facts] : Prop :=
  ∀ (m : (ℓ : Loc Cert.ProjZ.nD Cert.ProjZ.τ Cert.ProjZ.sig) → Buf (Elt Bits) ℓ) (g : Dev Cert.ProjZ.nD → PrngReg), Pre_ProjZ m →
    θ_run (Cert.ProjZ.defs (F := Bits)) (onTc (τ := Cert.ProjZ.τ) (Cert.ProjZ.main (F := Bits))) ⟨m, fun _ => 0, g⟩ (fun r => (∀ c : Dev Cert.ProjZ.nD,
      r.2.mem ((c.tc : Thread Cert.ProjZ.nD Cert.ProjZ.τ).loc Cert.ProjZ.main_arg0) = m ((c.tc : Thread Cert.ProjZ.nD Cert.ProjZ.τ).loc Cert.ProjZ.main_arg0)
      ∧ r.2.mem ((c.tc : Thread Cert.ProjZ.nD Cert.ProjZ.τ).loc Cert.ProjZ.main_arg1) = m ((c.tc : Thread Cert.ProjZ.nD Cert.ProjZ.τ).loc Cert.ProjZ.main_arg1))
      ∧ r.2.sem = fun _ => 0)

def quiescent_ProjZIdeal [hProjZIdeal : Cert.ProjZIdeal.Facts] : Prop :=
  ∀ (m : (ℓ : Loc Cert.ProjZIdeal.nD Cert.ProjZIdeal.τ Cert.ProjZIdeal.sig) → Buf (Elt Ideal) ℓ) (g : Dev Cert.ProjZIdeal.nD → PrngReg), Pre_ProjZIdeal m →
    θ_run (Cert.ProjZIdeal.defs (F := Ideal)) (onTc (τ := Cert.ProjZIdeal.τ) (Cert.ProjZIdeal.main (F := Ideal))) ⟨m, fun _ => 0, g⟩ (fun r => (∀ c : Dev Cert.ProjZIdeal.nD,
      r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
      ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ r.2.sem = fun _ => 0)

def quiescent_ProjZRefIdeal [hProjZRefIdeal : Cert.ProjZRefIdeal.Facts] : Prop :=
  ∀ (m : (ℓ : Loc Cert.ProjZRefIdeal.nD Cert.ProjZRefIdeal.τ Cert.ProjZRefIdeal.sig) → Buf (Elt Ideal) ℓ) (g : Dev Cert.ProjZRefIdeal.nD → PrngReg), Pre_ProjZRefIdeal m →
    θ_run (Cert.ProjZRefIdeal.defs (F := Ideal)) (onTc (τ := Cert.ProjZRefIdeal.τ) (Cert.ProjZRefIdeal.main (F := Ideal))) ⟨m, fun _ => 0, g⟩ (fun r => (∀ c : Dev Cert.ProjZRefIdeal.nD,
      r.2.mem ((c.tc : Thread Cert.ProjZRefIdeal.nD Cert.ProjZRefIdeal.τ).loc Cert.ProjZRefIdeal.main_arg0) = m ((c.tc : Thread Cert.ProjZRefIdeal.nD Cert.ProjZRefIdeal.τ).loc Cert.ProjZRefIdeal.main_arg0)
      ∧ r.2.mem ((c.tc : Thread Cert.ProjZRefIdeal.nD Cert.ProjZRefIdeal.τ).loc Cert.ProjZRefIdeal.main_arg1) = m ((c.tc : Thread Cert.ProjZRefIdeal.nD Cert.ProjZRefIdeal.τ).loc Cert.ProjZRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4)
      ∧ r.2.mem ((c.tc : Thread Cert.LnBwd.nD Cert.LnBwd.τ).loc Cert.LnBwd.main_arg5) = m ((c.tc : Thread Cert.LnBwd.nD Cert.LnBwd.τ).loc Cert.LnBwd.main_arg5)
      ∧ r.2.mem ((c.tc : Thread Cert.LnBwd.nD Cert.LnBwd.τ).loc Cert.LnBwd.main_arg6) = m ((c.tc : Thread Cert.LnBwd.nD Cert.LnBwd.τ).loc Cert.LnBwd.main_arg6))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
      ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5)
      ∧ r.2.mem ((c.tc : Thread Cert.LnBwdIdeal.nD Cert.LnBwdIdeal.τ).loc Cert.LnBwdIdeal.main_arg6) = m ((c.tc : Thread Cert.LnBwdIdeal.nD Cert.LnBwdIdeal.τ).loc Cert.LnBwdIdeal.main_arg6))
      ∧ r.2.sem = fun _ => 0)

def quiescent_LnBwdIdeal_pre_finite_norm [hLnBwdIdeal : Cert.LnBwdIdeal.Facts] [hPre_finite_norm : Cert.Pre_finite_norm.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite_norm m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
      ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5)
      ∧ r.2.mem ((c.tc : Thread Cert.LnBwdIdeal.nD Cert.LnBwdIdeal.τ).loc Cert.LnBwdIdeal.main_arg6) = m ((c.tc : Thread Cert.LnBwdIdeal.nD Cert.LnBwdIdeal.τ).loc Cert.LnBwdIdeal.main_arg6))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4)
      ∧ r.2.mem ((c.tc : Thread Cert.LnBwdRefIdeal.nD Cert.LnBwdRefIdeal.τ).loc Cert.LnBwdRefIdeal.main_arg5) = m ((c.tc : Thread Cert.LnBwdRefIdeal.nD Cert.LnBwdRefIdeal.τ).loc Cert.LnBwdRefIdeal.main_arg5)
      ∧ r.2.mem ((c.tc : Thread Cert.LnBwdRefIdeal.nD Cert.LnBwdRefIdeal.τ).loc Cert.LnBwdRefIdeal.main_arg6) = m ((c.tc : Thread Cert.LnBwdRefIdeal.nD Cert.LnBwdRefIdeal.τ).loc Cert.LnBwdRefIdeal.main_arg6))
      ∧ r.2.sem = fun _ => 0)

def quiescent_LnBwdRefIdeal_pre_finite_norm [hLnBwdRefIdeal : Cert.LnBwdRefIdeal.Facts] [hPre_finite_norm : Cert.Pre_finite_norm.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_finite_norm m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4)
      ∧ r.2.mem ((c.tc : Thread Cert.LnBwdRefIdeal.nD Cert.LnBwdRefIdeal.τ).loc Cert.LnBwdRefIdeal.main_arg5) = m ((c.tc : Thread Cert.LnBwdRefIdeal.nD Cert.LnBwdRefIdeal.τ).loc Cert.LnBwdRefIdeal.main_arg5)
      ∧ r.2.mem ((c.tc : Thread Cert.LnBwdRefIdeal.nD Cert.LnBwdRefIdeal.τ).loc Cert.LnBwdRefIdeal.main_arg6) = m ((c.tc : Thread Cert.LnBwdRefIdeal.nD Cert.LnBwdRefIdeal.τ).loc Cert.LnBwdRefIdeal.main_arg6))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdIdeal_pre_finite_gate [hGateBwdIdeal : Cert.GateBwdIdeal.Facts] [hPre_finite_gate : Cert.Pre_finite_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_finite_gate m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3))
      ∧ r.2.sem = fun _ => 0)

def quiescent_GateBwdRefIdeal_pre_finite_gate [hGateBwdRefIdeal : Cert.GateBwdRefIdeal.Facts] [hPre_finite_gate : Cert.Pre_finite_gate.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal_finite_gate m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ r.2.sem = fun _ => 0)

def quiescent_FinalIdeal_pre_finite_loss [hFinalIdeal : Cert.FinalIdeal.Facts] [hPre_finite_loss : Cert.Pre_finite_loss.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal_finite_loss m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5))
      ∧ r.2.sem = fun _ => 0)

def quiescent_FinalRefIdeal_pre_finite_loss [hFinalRefIdeal : Cert.FinalRefIdeal.Facts] [hPre_finite_loss : Cert.Pre_finite_loss.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal_finite_loss m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5))
      ∧ r.2.sem = fun _ => 0)

def quiescent_ModT [hModT : Cert.ModT.Facts] : Prop :=
  ∀ (m : (ℓ : Loc Cert.ModT.nD Cert.ModT.τ Cert.ModT.sig) → Buf (Elt Bits) ℓ) (g : Dev Cert.ModT.nD → PrngReg), Pre_ModT m →
    θ_run (Cert.ModT.defs (F := Bits)) (onTc (τ := Cert.ModT.τ) (Cert.ModT.main (F := Bits))) ⟨m, fun _ => 0, g⟩ (fun r => (∀ c : Dev Cert.ModT.nD,
      r.2.mem ((c.tc : Thread Cert.ModT.nD Cert.ModT.τ).loc Cert.ModT.main_arg0) = m ((c.tc : Thread Cert.ModT.nD Cert.ModT.τ).loc Cert.ModT.main_arg0)
      ∧ r.2.mem ((c.tc : Thread Cert.ModT.nD Cert.ModT.τ).loc Cert.ModT.main_arg1) = m ((c.tc : Thread Cert.ModT.nD Cert.ModT.τ).loc Cert.ModT.main_arg1))
      ∧ r.2.sem = fun _ => 0)

def quiescent_ModTIdeal [hModTIdeal : Cert.ModTIdeal.Facts] : Prop :=
  ∀ (m : (ℓ : Loc Cert.ModTIdeal.nD Cert.ModTIdeal.τ Cert.ModTIdeal.sig) → Buf (Elt Ideal) ℓ) (g : Dev Cert.ModTIdeal.nD → PrngReg), Pre_ModTIdeal m →
    θ_run (Cert.ModTIdeal.defs (F := Ideal)) (onTc (τ := Cert.ModTIdeal.τ) (Cert.ModTIdeal.main (F := Ideal))) ⟨m, fun _ => 0, g⟩ (fun r => (∀ c : Dev Cert.ModTIdeal.nD,
      r.2.mem ((c.tc : Thread Cert.ModTIdeal.nD Cert.ModTIdeal.τ).loc Cert.ModTIdeal.main_arg0) = m ((c.tc : Thread Cert.ModTIdeal.nD Cert.ModTIdeal.τ).loc Cert.ModTIdeal.main_arg0)
      ∧ r.2.mem ((c.tc : Thread Cert.ModTIdeal.nD Cert.ModTIdeal.τ).loc Cert.ModTIdeal.main_arg1) = m ((c.tc : Thread Cert.ModTIdeal.nD Cert.ModTIdeal.τ).loc Cert.ModTIdeal.main_arg1))
      ∧ r.2.sem = fun _ => 0)

def quiescent_ModTRefIdeal [hModTRefIdeal : Cert.ModTRefIdeal.Facts] : Prop :=
  ∀ (m : (ℓ : Loc Cert.ModTRefIdeal.nD Cert.ModTRefIdeal.τ Cert.ModTRefIdeal.sig) → Buf (Elt Ideal) ℓ) (g : Dev Cert.ModTRefIdeal.nD → PrngReg), Pre_ModTRefIdeal m →
    θ_run (Cert.ModTRefIdeal.defs (F := Ideal)) (onTc (τ := Cert.ModTRefIdeal.τ) (Cert.ModTRefIdeal.main (F := Ideal))) ⟨m, fun _ => 0, g⟩ (fun r => (∀ c : Dev Cert.ModTRefIdeal.nD,
      r.2.mem ((c.tc : Thread Cert.ModTRefIdeal.nD Cert.ModTRefIdeal.τ).loc Cert.ModTRefIdeal.main_arg0) = m ((c.tc : Thread Cert.ModTRefIdeal.nD Cert.ModTRefIdeal.τ).loc Cert.ModTRefIdeal.main_arg0)
      ∧ r.2.mem ((c.tc : Thread Cert.ModTRefIdeal.nD Cert.ModTRefIdeal.τ).loc Cert.ModTRefIdeal.main_arg1) = m ((c.tc : Thread Cert.ModTRefIdeal.nD Cert.ModTRefIdeal.τ).loc Cert.ModTRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2)
      ∧ r.2.mem ((c.tc : Thread Cert.LnFwd.nD Cert.LnFwd.τ).loc Cert.LnFwd.main_arg3) = m ((c.tc : Thread Cert.LnFwd.nD Cert.LnFwd.τ).loc Cert.LnFwd.main_arg3)
      ∧ r.2.mem ((c.tc : Thread Cert.LnFwd.nD Cert.LnFwd.τ).loc Cert.LnFwd.main_arg4) = m ((c.tc : Thread Cert.LnFwd.nD Cert.LnFwd.τ).loc Cert.LnFwd.main_arg4))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
      ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3)
      ∧ r.2.mem ((c.tc : Thread Cert.LnFwdIdeal.nD Cert.LnFwdIdeal.τ).loc Cert.LnFwdIdeal.main_arg4) = m ((c.tc : Thread Cert.LnFwdIdeal.nD Cert.LnFwdIdeal.τ).loc Cert.LnFwdIdeal.main_arg4))
      ∧ r.2.sem = fun _ => 0)

def quiescent_LnFwdRefIdeal [hLnFwdRefIdeal : Cert.LnFwdRefIdeal.Facts] : Prop :=
  ∀ (m : (ℓ : Loc Cert.LnFwdRefIdeal.nD Cert.LnFwdRefIdeal.τ Cert.LnFwdRefIdeal.sig) → Buf (Elt Ideal) ℓ) (g : Dev Cert.LnFwdRefIdeal.nD → PrngReg), Pre_LnFwdRefIdeal m →
    θ_run (Cert.LnFwdRefIdeal.defs (F := Ideal)) (onTc (τ := Cert.LnFwdRefIdeal.τ) (Cert.LnFwdRefIdeal.main (F := Ideal))) ⟨m, fun _ => 0, g⟩ (fun r => (∀ c : Dev Cert.LnFwdRefIdeal.nD,
      r.2.mem ((c.tc : Thread Cert.LnFwdRefIdeal.nD Cert.LnFwdRefIdeal.τ).loc Cert.LnFwdRefIdeal.main_arg0) = m ((c.tc : Thread Cert.LnFwdRefIdeal.nD Cert.LnFwdRefIdeal.τ).loc Cert.LnFwdRefIdeal.main_arg0)
      ∧ r.2.mem ((c.tc : Thread Cert.LnFwdRefIdeal.nD Cert.LnFwdRefIdeal.τ).loc Cert.LnFwdRefIdeal.main_arg1) = m ((c.tc : Thread Cert.LnFwdRefIdeal.nD Cert.LnFwdRefIdeal.τ).loc Cert.LnFwdRefIdeal.main_arg1)
      ∧ r.2.mem ((c.tc : Thread Cert.LnFwdRefIdeal.nD Cert.LnFwdRefIdeal.τ).loc Cert.LnFwdRefIdeal.main_arg2) = m ((c.tc : Thread Cert.LnFwdRefIdeal.nD Cert.LnFwdRefIdeal.τ).loc Cert.LnFwdRefIdeal.main_arg2)
      ∧ r.2.mem ((c.tc : Thread Cert.LnFwdRefIdeal.nD Cert.LnFwdRefIdeal.τ).loc Cert.LnFwdRefIdeal.main_arg3) = m ((c.tc : Thread Cert.LnFwdRefIdeal.nD Cert.LnFwdRefIdeal.τ).loc Cert.LnFwdRefIdeal.main_arg3)
      ∧ r.2.mem ((c.tc : Thread Cert.LnFwdRefIdeal.nD Cert.LnFwdRefIdeal.τ).loc Cert.LnFwdRefIdeal.main_arg4) = m ((c.tc : Thread Cert.LnFwdRefIdeal.nD Cert.LnFwdRefIdeal.τ).loc Cert.LnFwdRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def quiescent_ProjG [hProjG : Cert.ProjG.Facts] : Prop :=
  ∀ (m : (ℓ : Loc Cert.ProjG.nD Cert.ProjG.τ Cert.ProjG.sig) → Buf (Elt Bits) ℓ) (g : Dev Cert.ProjG.nD → PrngReg), Pre_ProjG m →
    θ_run (Cert.ProjG.defs (F := Bits)) (onTc (τ := Cert.ProjG.τ) (Cert.ProjG.main (F := Bits))) ⟨m, fun _ => 0, g⟩ (fun r => (∀ c : Dev Cert.ProjG.nD,
      r.2.mem ((c.tc : Thread Cert.ProjG.nD Cert.ProjG.τ).loc Cert.ProjG.main_arg0) = m ((c.tc : Thread Cert.ProjG.nD Cert.ProjG.τ).loc Cert.ProjG.main_arg0)
      ∧ r.2.mem ((c.tc : Thread Cert.ProjG.nD Cert.ProjG.τ).loc Cert.ProjG.main_arg1) = m ((c.tc : Thread Cert.ProjG.nD Cert.ProjG.τ).loc Cert.ProjG.main_arg1))
      ∧ r.2.sem = fun _ => 0)

def quiescent_ProjGIdeal [hProjGIdeal : Cert.ProjGIdeal.Facts] : Prop :=
  ∀ (m : (ℓ : Loc Cert.ProjGIdeal.nD Cert.ProjGIdeal.τ Cert.ProjGIdeal.sig) → Buf (Elt Ideal) ℓ) (g : Dev Cert.ProjGIdeal.nD → PrngReg), Pre_ProjGIdeal m →
    θ_run (Cert.ProjGIdeal.defs (F := Ideal)) (onTc (τ := Cert.ProjGIdeal.τ) (Cert.ProjGIdeal.main (F := Ideal))) ⟨m, fun _ => 0, g⟩ (fun r => (∀ c : Dev Cert.ProjGIdeal.nD,
      r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
      ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ r.2.sem = fun _ => 0)

def quiescent_ProjGRefIdeal [hProjGRefIdeal : Cert.ProjGRefIdeal.Facts] : Prop :=
  ∀ (m : (ℓ : Loc Cert.ProjGRefIdeal.nD Cert.ProjGRefIdeal.τ Cert.ProjGRefIdeal.sig) → Buf (Elt Ideal) ℓ) (g : Dev Cert.ProjGRefIdeal.nD → PrngReg), Pre_ProjGRefIdeal m →
    θ_run (Cert.ProjGRefIdeal.defs (F := Ideal)) (onTc (τ := Cert.ProjGRefIdeal.τ) (Cert.ProjGRefIdeal.main (F := Ideal))) ⟨m, fun _ => 0, g⟩ (fun r => (∀ c : Dev Cert.ProjGRefIdeal.nD,
      r.2.mem ((c.tc : Thread Cert.ProjGRefIdeal.nD Cert.ProjGRefIdeal.τ).loc Cert.ProjGRefIdeal.main_arg0) = m ((c.tc : Thread Cert.ProjGRefIdeal.nD Cert.ProjGRefIdeal.τ).loc Cert.ProjGRefIdeal.main_arg0)
      ∧ r.2.mem ((c.tc : Thread Cert.ProjGRefIdeal.nD Cert.ProjGRefIdeal.τ).loc Cert.ProjGRefIdeal.main_arg1) = m ((c.tc : Thread Cert.ProjGRefIdeal.nD Cert.ProjGRefIdeal.τ).loc Cert.ProjGRefIdeal.main_arg1))
      ∧ r.2.sem = fun _ => 0)

def quiescent_ProjBa [hProjBa : Cert.ProjBa.Facts] : Prop :=
  ∀ (m : (ℓ : Loc Cert.ProjBa.nD Cert.ProjBa.τ Cert.ProjBa.sig) → Buf (Elt Bits) ℓ) (g : Dev Cert.ProjBa.nD → PrngReg), Pre_ProjBa m →
    θ_run (Cert.ProjBa.defs (F := Bits)) (onTc (τ := Cert.ProjBa.τ) (Cert.ProjBa.main (F := Bits))) ⟨m, fun _ => 0, g⟩ (fun r => (∀ c : Dev Cert.ProjBa.nD,
      r.2.mem ((c.tc : Thread Cert.ProjBa.nD Cert.ProjBa.τ).loc Cert.ProjBa.main_arg0) = m ((c.tc : Thread Cert.ProjBa.nD Cert.ProjBa.τ).loc Cert.ProjBa.main_arg0)
      ∧ r.2.mem ((c.tc : Thread Cert.ProjBa.nD Cert.ProjBa.τ).loc Cert.ProjBa.main_arg1) = m ((c.tc : Thread Cert.ProjBa.nD Cert.ProjBa.τ).loc Cert.ProjBa.main_arg1))
      ∧ r.2.sem = fun _ => 0)

def quiescent_ProjBaIdeal [hProjBaIdeal : Cert.ProjBaIdeal.Facts] : Prop :=
  ∀ (m : (ℓ : Loc Cert.ProjBaIdeal.nD Cert.ProjBaIdeal.τ Cert.ProjBaIdeal.sig) → Buf (Elt Ideal) ℓ) (g : Dev Cert.ProjBaIdeal.nD → PrngReg), Pre_ProjBaIdeal m →
    θ_run (Cert.ProjBaIdeal.defs (F := Ideal)) (onTc (τ := Cert.ProjBaIdeal.τ) (Cert.ProjBaIdeal.main (F := Ideal))) ⟨m, fun _ => 0, g⟩ (fun r => (∀ c : Dev Cert.ProjBaIdeal.nD,
      r.2.mem ((c.tc : Thread Cert.ProjBaIdeal.nD Cert.ProjBaIdeal.τ).loc Cert.ProjBaIdeal.main_arg0) = m ((c.tc : Thread Cert.ProjBaIdeal.nD Cert.ProjBaIdeal.τ).loc Cert.ProjBaIdeal.main_arg0)
      ∧ r.2.mem ((c.tc : Thread Cert.ProjBaIdeal.nD Cert.ProjBaIdeal.τ).loc Cert.ProjBaIdeal.main_arg1) = m ((c.tc : Thread Cert.ProjBaIdeal.nD Cert.ProjBaIdeal.τ).loc Cert.ProjBaIdeal.main_arg1))
      ∧ r.2.sem = fun _ => 0)

def quiescent_ProjBaRefIdeal [hProjBaRefIdeal : Cert.ProjBaRefIdeal.Facts] : Prop :=
  ∀ (m : (ℓ : Loc Cert.ProjBaRefIdeal.nD Cert.ProjBaRefIdeal.τ Cert.ProjBaRefIdeal.sig) → Buf (Elt Ideal) ℓ) (g : Dev Cert.ProjBaRefIdeal.nD → PrngReg), Pre_ProjBaRefIdeal m →
    θ_run (Cert.ProjBaRefIdeal.defs (F := Ideal)) (onTc (τ := Cert.ProjBaRefIdeal.τ) (Cert.ProjBaRefIdeal.main (F := Ideal))) ⟨m, fun _ => 0, g⟩ (fun r => (∀ c : Dev Cert.ProjBaRefIdeal.nD,
      r.2.mem ((c.tc : Thread Cert.ProjBaRefIdeal.nD Cert.ProjBaRefIdeal.τ).loc Cert.ProjBaRefIdeal.main_arg0) = m ((c.tc : Thread Cert.ProjBaRefIdeal.nD Cert.ProjBaRefIdeal.τ).loc Cert.ProjBaRefIdeal.main_arg0)
      ∧ r.2.mem ((c.tc : Thread Cert.ProjBaRefIdeal.nD Cert.ProjBaRefIdeal.τ).loc Cert.ProjBaRefIdeal.main_arg1) = m ((c.tc : Thread Cert.ProjBaRefIdeal.nD Cert.ProjBaRefIdeal.τ).loc Cert.ProjBaRefIdeal.main_arg1))
      ∧ r.2.sem = fun _ => 0)

def quiescent_GwG [hGwG : Cert.GwG.Facts] : Prop :=
  ∀ (m : (ℓ : Loc Cert.GwG.nD Cert.GwG.τ Cert.GwG.sig) → Buf (Elt Bits) ℓ) (g : Dev Cert.GwG.nD → PrngReg), Pre_GwG m →
    θ_run (Cert.GwG.defs (F := Bits)) (onTc (τ := Cert.GwG.τ) (Cert.GwG.main (F := Bits))) ⟨m, fun _ => 0, g⟩ (fun r => (∀ c : Dev Cert.GwG.nD,
      r.2.mem ((c.tc : Thread Cert.GwG.nD Cert.GwG.τ).loc Cert.GwG.main_arg0) = m ((c.tc : Thread Cert.GwG.nD Cert.GwG.τ).loc Cert.GwG.main_arg0)
      ∧ r.2.mem ((c.tc : Thread Cert.GwG.nD Cert.GwG.τ).loc Cert.GwG.main_arg1) = m ((c.tc : Thread Cert.GwG.nD Cert.GwG.τ).loc Cert.GwG.main_arg1))
      ∧ r.2.sem = fun _ => 0)

def quiescent_GwGIdeal [hGwGIdeal : Cert.GwGIdeal.Facts] : Prop :=
  ∀ (m : (ℓ : Loc Cert.GwGIdeal.nD Cert.GwGIdeal.τ Cert.GwGIdeal.sig) → Buf (Elt Ideal) ℓ) (g : Dev Cert.GwGIdeal.nD → PrngReg), Pre_GwGIdeal m →
    θ_run (Cert.GwGIdeal.defs (F := Ideal)) (onTc (τ := Cert.GwGIdeal.τ) (Cert.GwGIdeal.main (F := Ideal))) ⟨m, fun _ => 0, g⟩ (fun r => (∀ c : Dev Cert.GwGIdeal.nD,
      r.2.mem ((c.tc : Thread Cert.GwGIdeal.nD Cert.GwGIdeal.τ).loc Cert.GwGIdeal.main_arg0) = m ((c.tc : Thread Cert.GwGIdeal.nD Cert.GwGIdeal.τ).loc Cert.GwGIdeal.main_arg0)
      ∧ r.2.mem ((c.tc : Thread Cert.GwGIdeal.nD Cert.GwGIdeal.τ).loc Cert.GwGIdeal.main_arg1) = m ((c.tc : Thread Cert.GwGIdeal.nD Cert.GwGIdeal.τ).loc Cert.GwGIdeal.main_arg1))
      ∧ r.2.sem = fun _ => 0)

def quiescent_GwGRefIdeal [hGwGRefIdeal : Cert.GwGRefIdeal.Facts] : Prop :=
  ∀ (m : (ℓ : Loc Cert.GwGRefIdeal.nD Cert.GwGRefIdeal.τ Cert.GwGRefIdeal.sig) → Buf (Elt Ideal) ℓ) (g : Dev Cert.GwGRefIdeal.nD → PrngReg), Pre_GwGRefIdeal m →
    θ_run (Cert.GwGRefIdeal.defs (F := Ideal)) (onTc (τ := Cert.GwGRefIdeal.τ) (Cert.GwGRefIdeal.main (F := Ideal))) ⟨m, fun _ => 0, g⟩ (fun r => (∀ c : Dev Cert.GwGRefIdeal.nD,
      r.2.mem ((c.tc : Thread Cert.GwGRefIdeal.nD Cert.GwGRefIdeal.τ).loc Cert.GwGRefIdeal.main_arg0) = m ((c.tc : Thread Cert.GwGRefIdeal.nD Cert.GwGRefIdeal.τ).loc Cert.GwGRefIdeal.main_arg0)
      ∧ r.2.mem ((c.tc : Thread Cert.GwGRefIdeal.nD Cert.GwGRefIdeal.τ).loc Cert.GwGRefIdeal.main_arg1) = m ((c.tc : Thread Cert.GwGRefIdeal.nD Cert.GwGRefIdeal.τ).loc Cert.GwGRefIdeal.main_arg1))
      ∧ r.2.sem = fun _ => 0)

def quiescent_GwBa [hGwBa : Cert.GwBa.Facts] : Prop :=
  ∀ (m : (ℓ : Loc Cert.GwBa.nD Cert.GwBa.τ Cert.GwBa.sig) → Buf (Elt Bits) ℓ) (g : Dev Cert.GwBa.nD → PrngReg), Pre_GwBa m →
    θ_run (Cert.GwBa.defs (F := Bits)) (onTc (τ := Cert.GwBa.τ) (Cert.GwBa.main (F := Bits))) ⟨m, fun _ => 0, g⟩ (fun r => (∀ c : Dev Cert.GwBa.nD,
      r.2.mem ((c.tc : Thread Cert.GwBa.nD Cert.GwBa.τ).loc Cert.GwBa.main_arg0) = m ((c.tc : Thread Cert.GwBa.nD Cert.GwBa.τ).loc Cert.GwBa.main_arg0)
      ∧ r.2.mem ((c.tc : Thread Cert.GwBa.nD Cert.GwBa.τ).loc Cert.GwBa.main_arg1) = m ((c.tc : Thread Cert.GwBa.nD Cert.GwBa.τ).loc Cert.GwBa.main_arg1))
      ∧ r.2.sem = fun _ => 0)

def quiescent_GwBaIdeal [hGwBaIdeal : Cert.GwBaIdeal.Facts] : Prop :=
  ∀ (m : (ℓ : Loc Cert.GwBaIdeal.nD Cert.GwBaIdeal.τ Cert.GwBaIdeal.sig) → Buf (Elt Ideal) ℓ) (g : Dev Cert.GwBaIdeal.nD → PrngReg), Pre_GwBaIdeal m →
    θ_run (Cert.GwBaIdeal.defs (F := Ideal)) (onTc (τ := Cert.GwBaIdeal.τ) (Cert.GwBaIdeal.main (F := Ideal))) ⟨m, fun _ => 0, g⟩ (fun r => (∀ c : Dev Cert.GwBaIdeal.nD,
      r.2.mem ((c.tc : Thread Cert.GwBaIdeal.nD Cert.GwBaIdeal.τ).loc Cert.GwBaIdeal.main_arg0) = m ((c.tc : Thread Cert.GwBaIdeal.nD Cert.GwBaIdeal.τ).loc Cert.GwBaIdeal.main_arg0)
      ∧ r.2.mem ((c.tc : Thread Cert.GwBaIdeal.nD Cert.GwBaIdeal.τ).loc Cert.GwBaIdeal.main_arg1) = m ((c.tc : Thread Cert.GwBaIdeal.nD Cert.GwBaIdeal.τ).loc Cert.GwBaIdeal.main_arg1))
      ∧ r.2.sem = fun _ => 0)

def quiescent_GwBaRefIdeal [hGwBaRefIdeal : Cert.GwBaRefIdeal.Facts] : Prop :=
  ∀ (m : (ℓ : Loc Cert.GwBaRefIdeal.nD Cert.GwBaRefIdeal.τ Cert.GwBaRefIdeal.sig) → Buf (Elt Ideal) ℓ) (g : Dev Cert.GwBaRefIdeal.nD → PrngReg), Pre_GwBaRefIdeal m →
    θ_run (Cert.GwBaRefIdeal.defs (F := Ideal)) (onTc (τ := Cert.GwBaRefIdeal.τ) (Cert.GwBaRefIdeal.main (F := Ideal))) ⟨m, fun _ => 0, g⟩ (fun r => (∀ c : Dev Cert.GwBaRefIdeal.nD,
      r.2.mem ((c.tc : Thread Cert.GwBaRefIdeal.nD Cert.GwBaRefIdeal.τ).loc Cert.GwBaRefIdeal.main_arg0) = m ((c.tc : Thread Cert.GwBaRefIdeal.nD Cert.GwBaRefIdeal.τ).loc Cert.GwBaRefIdeal.main_arg0)
      ∧ r.2.mem ((c.tc : Thread Cert.GwBaRefIdeal.nD Cert.GwBaRefIdeal.τ).loc Cert.GwBaRefIdeal.main_arg1) = m ((c.tc : Thread Cert.GwBaRefIdeal.nD Cert.GwBaRefIdeal.τ).loc Cert.GwBaRefIdeal.main_arg1))
      ∧ r.2.sem = fun _ => 0)

def quiescent_DH1Ba [hDH1Ba : Cert.DH1Ba.Facts] : Prop :=
  ∀ (m : (ℓ : Loc Cert.DH1Ba.nD Cert.DH1Ba.τ Cert.DH1Ba.sig) → Buf (Elt Bits) ℓ) (g : Dev Cert.DH1Ba.nD → PrngReg), Pre_DH1Ba m →
    θ_run (Cert.DH1Ba.defs (F := Bits)) (onTc (τ := Cert.DH1Ba.τ) (Cert.DH1Ba.main (F := Bits))) ⟨m, fun _ => 0, g⟩ (fun r => (∀ c : Dev Cert.DH1Ba.nD,
      r.2.mem ((c.tc : Thread Cert.DH1Ba.nD Cert.DH1Ba.τ).loc Cert.DH1Ba.main_arg0) = m ((c.tc : Thread Cert.DH1Ba.nD Cert.DH1Ba.τ).loc Cert.DH1Ba.main_arg0)
      ∧ r.2.mem ((c.tc : Thread Cert.DH1Ba.nD Cert.DH1Ba.τ).loc Cert.DH1Ba.main_arg1) = m ((c.tc : Thread Cert.DH1Ba.nD Cert.DH1Ba.τ).loc Cert.DH1Ba.main_arg1))
      ∧ r.2.sem = fun _ => 0)

def quiescent_DH1BaIdeal [hDH1BaIdeal : Cert.DH1BaIdeal.Facts] : Prop :=
  ∀ (m : (ℓ : Loc Cert.DH1BaIdeal.nD Cert.DH1BaIdeal.τ Cert.DH1BaIdeal.sig) → Buf (Elt Ideal) ℓ) (g : Dev Cert.DH1BaIdeal.nD → PrngReg), Pre_DH1BaIdeal m →
    θ_run (Cert.DH1BaIdeal.defs (F := Ideal)) (onTc (τ := Cert.DH1BaIdeal.τ) (Cert.DH1BaIdeal.main (F := Ideal))) ⟨m, fun _ => 0, g⟩ (fun r => (∀ c : Dev Cert.DH1BaIdeal.nD,
      r.2.mem ((c.tc : Thread Cert.DH1BaIdeal.nD Cert.DH1BaIdeal.τ).loc Cert.DH1BaIdeal.main_arg0) = m ((c.tc : Thread Cert.DH1BaIdeal.nD Cert.DH1BaIdeal.τ).loc Cert.DH1BaIdeal.main_arg0)
      ∧ r.2.mem ((c.tc : Thread Cert.DH1BaIdeal.nD Cert.DH1BaIdeal.τ).loc Cert.DH1BaIdeal.main_arg1) = m ((c.tc : Thread Cert.DH1BaIdeal.nD Cert.DH1BaIdeal.τ).loc Cert.DH1BaIdeal.main_arg1))
      ∧ r.2.sem = fun _ => 0)

def quiescent_DH1BaRefIdeal [hDH1BaRefIdeal : Cert.DH1BaRefIdeal.Facts] : Prop :=
  ∀ (m : (ℓ : Loc Cert.DH1BaRefIdeal.nD Cert.DH1BaRefIdeal.τ Cert.DH1BaRefIdeal.sig) → Buf (Elt Ideal) ℓ) (g : Dev Cert.DH1BaRefIdeal.nD → PrngReg), Pre_DH1BaRefIdeal m →
    θ_run (Cert.DH1BaRefIdeal.defs (F := Ideal)) (onTc (τ := Cert.DH1BaRefIdeal.τ) (Cert.DH1BaRefIdeal.main (F := Ideal))) ⟨m, fun _ => 0, g⟩ (fun r => (∀ c : Dev Cert.DH1BaRefIdeal.nD,
      r.2.mem ((c.tc : Thread Cert.DH1BaRefIdeal.nD Cert.DH1BaRefIdeal.τ).loc Cert.DH1BaRefIdeal.main_arg0) = m ((c.tc : Thread Cert.DH1BaRefIdeal.nD Cert.DH1BaRefIdeal.τ).loc Cert.DH1BaRefIdeal.main_arg0)
      ∧ r.2.mem ((c.tc : Thread Cert.DH1BaRefIdeal.nD Cert.DH1BaRefIdeal.τ).loc Cert.DH1BaRefIdeal.main_arg1) = m ((c.tc : Thread Cert.DH1BaRefIdeal.nD Cert.DH1BaRefIdeal.τ).loc Cert.DH1BaRefIdeal.main_arg1))
      ∧ r.2.sem = fun _ => 0)

def quiescent_DH1Z [hDH1Z : Cert.DH1Z.Facts] : Prop :=
  ∀ (m : (ℓ : Loc Cert.DH1Z.nD Cert.DH1Z.τ Cert.DH1Z.sig) → Buf (Elt Bits) ℓ) (g : Dev Cert.DH1Z.nD → PrngReg), Pre_DH1Z m →
    θ_run (Cert.DH1Z.defs (F := Bits)) (onTc (τ := Cert.DH1Z.τ) (Cert.DH1Z.main (F := Bits))) ⟨m, fun _ => 0, g⟩ (fun r => (∀ c : Dev Cert.DH1Z.nD,
      r.2.mem ((c.tc : Thread Cert.DH1Z.nD Cert.DH1Z.τ).loc Cert.DH1Z.main_arg0) = m ((c.tc : Thread Cert.DH1Z.nD Cert.DH1Z.τ).loc Cert.DH1Z.main_arg0)
      ∧ r.2.mem ((c.tc : Thread Cert.DH1Z.nD Cert.DH1Z.τ).loc Cert.DH1Z.main_arg1) = m ((c.tc : Thread Cert.DH1Z.nD Cert.DH1Z.τ).loc Cert.DH1Z.main_arg1)
      ∧ r.2.mem ((c.tc : Thread Cert.DH1Z.nD Cert.DH1Z.τ).loc Cert.DH1Z.main_arg2) = m ((c.tc : Thread Cert.DH1Z.nD Cert.DH1Z.τ).loc Cert.DH1Z.main_arg2))
      ∧ r.2.sem = fun _ => 0)

def quiescent_DH1ZIdeal [hDH1ZIdeal : Cert.DH1ZIdeal.Facts] : Prop :=
  ∀ (m : (ℓ : Loc Cert.DH1ZIdeal.nD Cert.DH1ZIdeal.τ Cert.DH1ZIdeal.sig) → Buf (Elt Ideal) ℓ) (g : Dev Cert.DH1ZIdeal.nD → PrngReg), Pre_DH1ZIdeal m →
    θ_run (Cert.DH1ZIdeal.defs (F := Ideal)) (onTc (τ := Cert.DH1ZIdeal.τ) (Cert.DH1ZIdeal.main (F := Ideal))) ⟨m, fun _ => 0, g⟩ (fun r => (∀ c : Dev Cert.DH1ZIdeal.nD,
      r.2.mem ((c.tc : Thread Cert.DH1ZIdeal.nD Cert.DH1ZIdeal.τ).loc Cert.DH1ZIdeal.main_arg0) = m ((c.tc : Thread Cert.DH1ZIdeal.nD Cert.DH1ZIdeal.τ).loc Cert.DH1ZIdeal.main_arg0)
      ∧ r.2.mem ((c.tc : Thread Cert.DH1ZIdeal.nD Cert.DH1ZIdeal.τ).loc Cert.DH1ZIdeal.main_arg1) = m ((c.tc : Thread Cert.DH1ZIdeal.nD Cert.DH1ZIdeal.τ).loc Cert.DH1ZIdeal.main_arg1)
      ∧ r.2.mem ((c.tc : Thread Cert.DH1ZIdeal.nD Cert.DH1ZIdeal.τ).loc Cert.DH1ZIdeal.main_arg2) = m ((c.tc : Thread Cert.DH1ZIdeal.nD Cert.DH1ZIdeal.τ).loc Cert.DH1ZIdeal.main_arg2))
      ∧ r.2.sem = fun _ => 0)

def quiescent_DH1ZRefIdeal [hDH1ZRefIdeal : Cert.DH1ZRefIdeal.Facts] : Prop :=
  ∀ (m : (ℓ : Loc Cert.DH1ZRefIdeal.nD Cert.DH1ZRefIdeal.τ Cert.DH1ZRefIdeal.sig) → Buf (Elt Ideal) ℓ) (g : Dev Cert.DH1ZRefIdeal.nD → PrngReg), Pre_DH1ZRefIdeal m →
    θ_run (Cert.DH1ZRefIdeal.defs (F := Ideal)) (onTc (τ := Cert.DH1ZRefIdeal.τ) (Cert.DH1ZRefIdeal.main (F := Ideal))) ⟨m, fun _ => 0, g⟩ (fun r => (∀ c : Dev Cert.DH1ZRefIdeal.nD,
      r.2.mem ((c.tc : Thread Cert.DH1ZRefIdeal.nD Cert.DH1ZRefIdeal.τ).loc Cert.DH1ZRefIdeal.main_arg0) = m ((c.tc : Thread Cert.DH1ZRefIdeal.nD Cert.DH1ZRefIdeal.τ).loc Cert.DH1ZRefIdeal.main_arg0)
      ∧ r.2.mem ((c.tc : Thread Cert.DH1ZRefIdeal.nD Cert.DH1ZRefIdeal.τ).loc Cert.DH1ZRefIdeal.main_arg1) = m ((c.tc : Thread Cert.DH1ZRefIdeal.nD Cert.DH1ZRefIdeal.τ).loc Cert.DH1ZRefIdeal.main_arg1)
      ∧ r.2.mem ((c.tc : Thread Cert.DH1ZRefIdeal.nD Cert.DH1ZRefIdeal.τ).loc Cert.DH1ZRefIdeal.main_arg2) = m ((c.tc : Thread Cert.DH1ZRefIdeal.nD Cert.DH1ZRefIdeal.τ).loc Cert.DH1ZRefIdeal.main_arg2))
      ∧ r.2.sem = fun _ => 0)

def quiescent_DH1G [hDH1G : Cert.DH1G.Facts] : Prop :=
  ∀ (m : (ℓ : Loc Cert.DH1G.nD Cert.DH1G.τ Cert.DH1G.sig) → Buf (Elt Bits) ℓ) (g : Dev Cert.DH1G.nD → PrngReg), Pre_DH1G m →
    θ_run (Cert.DH1G.defs (F := Bits)) (onTc (τ := Cert.DH1G.τ) (Cert.DH1G.main (F := Bits))) ⟨m, fun _ => 0, g⟩ (fun r => (∀ c : Dev Cert.DH1G.nD,
      r.2.mem ((c.tc : Thread Cert.DH1G.nD Cert.DH1G.τ).loc Cert.DH1G.main_arg0) = m ((c.tc : Thread Cert.DH1G.nD Cert.DH1G.τ).loc Cert.DH1G.main_arg0)
      ∧ r.2.mem ((c.tc : Thread Cert.DH1G.nD Cert.DH1G.τ).loc Cert.DH1G.main_arg1) = m ((c.tc : Thread Cert.DH1G.nD Cert.DH1G.τ).loc Cert.DH1G.main_arg1)
      ∧ r.2.mem ((c.tc : Thread Cert.DH1G.nD Cert.DH1G.τ).loc Cert.DH1G.main_arg2) = m ((c.tc : Thread Cert.DH1G.nD Cert.DH1G.τ).loc Cert.DH1G.main_arg2))
      ∧ r.2.sem = fun _ => 0)

def quiescent_DH1GIdeal [hDH1GIdeal : Cert.DH1GIdeal.Facts] : Prop :=
  ∀ (m : (ℓ : Loc Cert.DH1GIdeal.nD Cert.DH1GIdeal.τ Cert.DH1GIdeal.sig) → Buf (Elt Ideal) ℓ) (g : Dev Cert.DH1GIdeal.nD → PrngReg), Pre_DH1GIdeal m →
    θ_run (Cert.DH1GIdeal.defs (F := Ideal)) (onTc (τ := Cert.DH1GIdeal.τ) (Cert.DH1GIdeal.main (F := Ideal))) ⟨m, fun _ => 0, g⟩ (fun r => (∀ c : Dev Cert.DH1GIdeal.nD,
      r.2.mem ((c.tc : Thread Cert.DH1GIdeal.nD Cert.DH1GIdeal.τ).loc Cert.DH1GIdeal.main_arg0) = m ((c.tc : Thread Cert.DH1GIdeal.nD Cert.DH1GIdeal.τ).loc Cert.DH1GIdeal.main_arg0)
      ∧ r.2.mem ((c.tc : Thread Cert.DH1GIdeal.nD Cert.DH1GIdeal.τ).loc Cert.DH1GIdeal.main_arg1) = m ((c.tc : Thread Cert.DH1GIdeal.nD Cert.DH1GIdeal.τ).loc Cert.DH1GIdeal.main_arg1)
      ∧ r.2.mem ((c.tc : Thread Cert.DH1GIdeal.nD Cert.DH1GIdeal.τ).loc Cert.DH1GIdeal.main_arg2) = m ((c.tc : Thread Cert.DH1GIdeal.nD Cert.DH1GIdeal.τ).loc Cert.DH1GIdeal.main_arg2))
      ∧ r.2.sem = fun _ => 0)

def quiescent_DH1GRefIdeal [hDH1GRefIdeal : Cert.DH1GRefIdeal.Facts] : Prop :=
  ∀ (m : (ℓ : Loc Cert.DH1GRefIdeal.nD Cert.DH1GRefIdeal.τ Cert.DH1GRefIdeal.sig) → Buf (Elt Ideal) ℓ) (g : Dev Cert.DH1GRefIdeal.nD → PrngReg), Pre_DH1GRefIdeal m →
    θ_run (Cert.DH1GRefIdeal.defs (F := Ideal)) (onTc (τ := Cert.DH1GRefIdeal.τ) (Cert.DH1GRefIdeal.main (F := Ideal))) ⟨m, fun _ => 0, g⟩ (fun r => (∀ c : Dev Cert.DH1GRefIdeal.nD,
      r.2.mem ((c.tc : Thread Cert.DH1GRefIdeal.nD Cert.DH1GRefIdeal.τ).loc Cert.DH1GRefIdeal.main_arg0) = m ((c.tc : Thread Cert.DH1GRefIdeal.nD Cert.DH1GRefIdeal.τ).loc Cert.DH1GRefIdeal.main_arg0)
      ∧ r.2.mem ((c.tc : Thread Cert.DH1GRefIdeal.nD Cert.DH1GRefIdeal.τ).loc Cert.DH1GRefIdeal.main_arg1) = m ((c.tc : Thread Cert.DH1GRefIdeal.nD Cert.DH1GRefIdeal.τ).loc Cert.DH1GRefIdeal.main_arg1)
      ∧ r.2.mem ((c.tc : Thread Cert.DH1GRefIdeal.nD Cert.DH1GRefIdeal.τ).loc Cert.DH1GRefIdeal.main_arg2) = m ((c.tc : Thread Cert.DH1GRefIdeal.nD Cert.DH1GRefIdeal.τ).loc Cert.DH1GRefIdeal.main_arg2))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_PairSquare [hPairSquare : Cert.PairSquare.Facts] : Prop :=
  ∀ (m : (ℓ : Loc Cert.PairSquare.nD Cert.PairSquare.τ Cert.PairSquare.sig) → Buf (Elt Bits) ℓ) (g : Dev Cert.PairSquare.nD → PrngReg), Pre_PairSquare m →
    θ_run (Cert.PairSquare.defs (F := Bits)) (onTc (τ := Cert.PairSquare.τ) (Cert.PairSquare.main (F := Bits))) ⟨m, fun _ => 0, g⟩ (fun r => (∀ c : Dev Cert.PairSquare.nD,
      r.2.mem ((c.tc : Thread Cert.PairSquare.nD Cert.PairSquare.τ).loc Cert.PairSquare.main_arg0) = m ((c.tc : Thread Cert.PairSquare.nD Cert.PairSquare.τ).loc Cert.PairSquare.main_arg0)
      ∧ r.2.mem ((c.tc : Thread Cert.PairSquare.nD Cert.PairSquare.τ).loc Cert.PairSquare.main_arg1) = m ((c.tc : Thread Cert.PairSquare.nD Cert.PairSquare.τ).loc Cert.PairSquare.main_arg1))
      ∧ r.2.sem = fun _ => 0)

def quiescent_PairSquareIdeal [hPairSquareIdeal : Cert.PairSquareIdeal.Facts] : Prop :=
  ∀ (m : (ℓ : Loc Cert.PairSquareIdeal.nD Cert.PairSquareIdeal.τ Cert.PairSquareIdeal.sig) → Buf (Elt Ideal) ℓ) (g : Dev Cert.PairSquareIdeal.nD → PrngReg), Pre_PairSquareIdeal m →
    θ_run (Cert.PairSquareIdeal.defs (F := Ideal)) (onTc (τ := Cert.PairSquareIdeal.τ) (Cert.PairSquareIdeal.main (F := Ideal))) ⟨m, fun _ => 0, g⟩ (fun r => (∀ c : Dev Cert.PairSquareIdeal.nD,
      r.2.mem ((c.tc : Thread Cert.PairSquareIdeal.nD Cert.PairSquareIdeal.τ).loc Cert.PairSquareIdeal.main_arg0) = m ((c.tc : Thread Cert.PairSquareIdeal.nD Cert.PairSquareIdeal.τ).loc Cert.PairSquareIdeal.main_arg0)
      ∧ r.2.mem ((c.tc : Thread Cert.PairSquareIdeal.nD Cert.PairSquareIdeal.τ).loc Cert.PairSquareIdeal.main_arg1) = m ((c.tc : Thread Cert.PairSquareIdeal.nD Cert.PairSquareIdeal.τ).loc Cert.PairSquareIdeal.main_arg1))
      ∧ r.2.sem = fun _ => 0)

def quiescent_PairSquareRefIdeal [hPairSquareRefIdeal : Cert.PairSquareRefIdeal.Facts] : Prop :=
  ∀ (m : (ℓ : Loc Cert.PairSquareRefIdeal.nD Cert.PairSquareRefIdeal.τ Cert.PairSquareRefIdeal.sig) → Buf (Elt Ideal) ℓ) (g : Dev Cert.PairSquareRefIdeal.nD → PrngReg), Pre_PairSquareRefIdeal m →
    θ_run (Cert.PairSquareRefIdeal.defs (F := Ideal)) (onTc (τ := Cert.PairSquareRefIdeal.τ) (Cert.PairSquareRefIdeal.main (F := Ideal))) ⟨m, fun _ => 0, g⟩ (fun r => (∀ c : Dev Cert.PairSquareRefIdeal.nD,
      r.2.mem ((c.tc : Thread Cert.PairSquareRefIdeal.nD Cert.PairSquareRefIdeal.τ).loc Cert.PairSquareRefIdeal.main_arg0) = m ((c.tc : Thread Cert.PairSquareRefIdeal.nD Cert.PairSquareRefIdeal.τ).loc Cert.PairSquareRefIdeal.main_arg0)
      ∧ r.2.mem ((c.tc : Thread Cert.PairSquareRefIdeal.nD Cert.PairSquareRefIdeal.τ).loc Cert.PairSquareRefIdeal.main_arg1) = m ((c.tc : Thread Cert.PairSquareRefIdeal.nD Cert.PairSquareRefIdeal.τ).loc Cert.PairSquareRefIdeal.main_arg1))
      ∧ r.2.sem = fun _ => 0)

def quiescent_PairUp [hPairUp : Cert.PairUp.Facts] : Prop :=
  ∀ (m : (ℓ : Loc Cert.PairUp.nD Cert.PairUp.τ Cert.PairUp.sig) → Buf (Elt Bits) ℓ) (g : Dev Cert.PairUp.nD → PrngReg), Pre_PairUp m →
    θ_run (Cert.PairUp.defs (F := Bits)) (onTc (τ := Cert.PairUp.τ) (Cert.PairUp.main (F := Bits))) ⟨m, fun _ => 0, g⟩ (fun r => (∀ c : Dev Cert.PairUp.nD,
      r.2.mem ((c.tc : Thread Cert.PairUp.nD Cert.PairUp.τ).loc Cert.PairUp.main_arg0) = m ((c.tc : Thread Cert.PairUp.nD Cert.PairUp.τ).loc Cert.PairUp.main_arg0)
      ∧ r.2.mem ((c.tc : Thread Cert.PairUp.nD Cert.PairUp.τ).loc Cert.PairUp.main_arg1) = m ((c.tc : Thread Cert.PairUp.nD Cert.PairUp.τ).loc Cert.PairUp.main_arg1))
      ∧ r.2.sem = fun _ => 0)

def quiescent_PairUpIdeal [hPairUpIdeal : Cert.PairUpIdeal.Facts] : Prop :=
  ∀ (m : (ℓ : Loc Cert.PairUpIdeal.nD Cert.PairUpIdeal.τ Cert.PairUpIdeal.sig) → Buf (Elt Ideal) ℓ) (g : Dev Cert.PairUpIdeal.nD → PrngReg), Pre_PairUpIdeal m →
    θ_run (Cert.PairUpIdeal.defs (F := Ideal)) (onTc (τ := Cert.PairUpIdeal.τ) (Cert.PairUpIdeal.main (F := Ideal))) ⟨m, fun _ => 0, g⟩ (fun r => (∀ c : Dev Cert.PairUpIdeal.nD,
      r.2.mem ((c.tc : Thread Cert.PairUpIdeal.nD Cert.PairUpIdeal.τ).loc Cert.PairUpIdeal.main_arg0) = m ((c.tc : Thread Cert.PairUpIdeal.nD Cert.PairUpIdeal.τ).loc Cert.PairUpIdeal.main_arg0)
      ∧ r.2.mem ((c.tc : Thread Cert.PairUpIdeal.nD Cert.PairUpIdeal.τ).loc Cert.PairUpIdeal.main_arg1) = m ((c.tc : Thread Cert.PairUpIdeal.nD Cert.PairUpIdeal.τ).loc Cert.PairUpIdeal.main_arg1))
      ∧ r.2.sem = fun _ => 0)

def quiescent_PairUpRefIdeal [hPairUpRefIdeal : Cert.PairUpRefIdeal.Facts] : Prop :=
  ∀ (m : (ℓ : Loc Cert.PairUpRefIdeal.nD Cert.PairUpRefIdeal.τ Cert.PairUpRefIdeal.sig) → Buf (Elt Ideal) ℓ) (g : Dev Cert.PairUpRefIdeal.nD → PrngReg), Pre_PairUpRefIdeal m →
    θ_run (Cert.PairUpRefIdeal.defs (F := Ideal)) (onTc (τ := Cert.PairUpRefIdeal.τ) (Cert.PairUpRefIdeal.main (F := Ideal))) ⟨m, fun _ => 0, g⟩ (fun r => (∀ c : Dev Cert.PairUpRefIdeal.nD,
      r.2.mem ((c.tc : Thread Cert.PairUpRefIdeal.nD Cert.PairUpRefIdeal.τ).loc Cert.PairUpRefIdeal.main_arg0) = m ((c.tc : Thread Cert.PairUpRefIdeal.nD Cert.PairUpRefIdeal.τ).loc Cert.PairUpRefIdeal.main_arg0)
      ∧ r.2.mem ((c.tc : Thread Cert.PairUpRefIdeal.nD Cert.PairUpRefIdeal.τ).loc Cert.PairUpRefIdeal.main_arg1) = m ((c.tc : Thread Cert.PairUpRefIdeal.nD Cert.PairUpRefIdeal.τ).loc Cert.PairUpRefIdeal.main_arg1))
      ∧ r.2.sem = fun _ => 0)

def quiescent_PairDown [hPairDown : Cert.PairDown.Facts] : Prop :=
  ∀ (m : (ℓ : Loc Cert.PairDown.nD Cert.PairDown.τ Cert.PairDown.sig) → Buf (Elt Bits) ℓ) (g : Dev Cert.PairDown.nD → PrngReg), Pre_PairDown m →
    θ_run (Cert.PairDown.defs (F := Bits)) (onTc (τ := Cert.PairDown.τ) (Cert.PairDown.main (F := Bits))) ⟨m, fun _ => 0, g⟩ (fun r => (∀ c : Dev Cert.PairDown.nD,
      r.2.mem ((c.tc : Thread Cert.PairDown.nD Cert.PairDown.τ).loc Cert.PairDown.main_arg0) = m ((c.tc : Thread Cert.PairDown.nD Cert.PairDown.τ).loc Cert.PairDown.main_arg0)
      ∧ r.2.mem ((c.tc : Thread Cert.PairDown.nD Cert.PairDown.τ).loc Cert.PairDown.main_arg1) = m ((c.tc : Thread Cert.PairDown.nD Cert.PairDown.τ).loc Cert.PairDown.main_arg1))
      ∧ r.2.sem = fun _ => 0)

def quiescent_PairDownIdeal [hPairDownIdeal : Cert.PairDownIdeal.Facts] : Prop :=
  ∀ (m : (ℓ : Loc Cert.PairDownIdeal.nD Cert.PairDownIdeal.τ Cert.PairDownIdeal.sig) → Buf (Elt Ideal) ℓ) (g : Dev Cert.PairDownIdeal.nD → PrngReg), Pre_PairDownIdeal m →
    θ_run (Cert.PairDownIdeal.defs (F := Ideal)) (onTc (τ := Cert.PairDownIdeal.τ) (Cert.PairDownIdeal.main (F := Ideal))) ⟨m, fun _ => 0, g⟩ (fun r => (∀ c : Dev Cert.PairDownIdeal.nD,
      r.2.mem ((c.tc : Thread Cert.PairDownIdeal.nD Cert.PairDownIdeal.τ).loc Cert.PairDownIdeal.main_arg0) = m ((c.tc : Thread Cert.PairDownIdeal.nD Cert.PairDownIdeal.τ).loc Cert.PairDownIdeal.main_arg0)
      ∧ r.2.mem ((c.tc : Thread Cert.PairDownIdeal.nD Cert.PairDownIdeal.τ).loc Cert.PairDownIdeal.main_arg1) = m ((c.tc : Thread Cert.PairDownIdeal.nD Cert.PairDownIdeal.τ).loc Cert.PairDownIdeal.main_arg1))
      ∧ r.2.sem = fun _ => 0)

def quiescent_PairDownRefIdeal [hPairDownRefIdeal : Cert.PairDownRefIdeal.Facts] : Prop :=
  ∀ (m : (ℓ : Loc Cert.PairDownRefIdeal.nD Cert.PairDownRefIdeal.τ Cert.PairDownRefIdeal.sig) → Buf (Elt Ideal) ℓ) (g : Dev Cert.PairDownRefIdeal.nD → PrngReg), Pre_PairDownRefIdeal m →
    θ_run (Cert.PairDownRefIdeal.defs (F := Ideal)) (onTc (τ := Cert.PairDownRefIdeal.τ) (Cert.PairDownRefIdeal.main (F := Ideal))) ⟨m, fun _ => 0, g⟩ (fun r => (∀ c : Dev Cert.PairDownRefIdeal.nD,
      r.2.mem ((c.tc : Thread Cert.PairDownRefIdeal.nD Cert.PairDownRefIdeal.τ).loc Cert.PairDownRefIdeal.main_arg0) = m ((c.tc : Thread Cert.PairDownRefIdeal.nD Cert.PairDownRefIdeal.τ).loc Cert.PairDownRefIdeal.main_arg0)
      ∧ r.2.mem ((c.tc : Thread Cert.PairDownRefIdeal.nD Cert.PairDownRefIdeal.τ).loc Cert.PairDownRefIdeal.main_arg1) = m ((c.tc : Thread Cert.PairDownRefIdeal.nD Cert.PairDownRefIdeal.τ).loc Cert.PairDownRefIdeal.main_arg1))
      ∧ r.2.sem = fun _ => 0)

def quiescent_PairIn [hPairIn : Cert.PairIn.Facts] : Prop :=
  ∀ (m : (ℓ : Loc Cert.PairIn.nD Cert.PairIn.τ Cert.PairIn.sig) → Buf (Elt Bits) ℓ) (g : Dev Cert.PairIn.nD → PrngReg), Pre_PairIn m →
    θ_run (Cert.PairIn.defs (F := Bits)) (onTc (τ := Cert.PairIn.τ) (Cert.PairIn.main (F := Bits))) ⟨m, fun _ => 0, g⟩ (fun r => (∀ c : Dev Cert.PairIn.nD,
      r.2.mem ((c.tc : Thread Cert.PairIn.nD Cert.PairIn.τ).loc Cert.PairIn.main_arg0) = m ((c.tc : Thread Cert.PairIn.nD Cert.PairIn.τ).loc Cert.PairIn.main_arg0)
      ∧ r.2.mem ((c.tc : Thread Cert.PairIn.nD Cert.PairIn.τ).loc Cert.PairIn.main_arg1) = m ((c.tc : Thread Cert.PairIn.nD Cert.PairIn.τ).loc Cert.PairIn.main_arg1))
      ∧ r.2.sem = fun _ => 0)

def quiescent_PairInIdeal [hPairInIdeal : Cert.PairInIdeal.Facts] : Prop :=
  ∀ (m : (ℓ : Loc Cert.PairInIdeal.nD Cert.PairInIdeal.τ Cert.PairInIdeal.sig) → Buf (Elt Ideal) ℓ) (g : Dev Cert.PairInIdeal.nD → PrngReg), Pre_PairInIdeal m →
    θ_run (Cert.PairInIdeal.defs (F := Ideal)) (onTc (τ := Cert.PairInIdeal.τ) (Cert.PairInIdeal.main (F := Ideal))) ⟨m, fun _ => 0, g⟩ (fun r => (∀ c : Dev Cert.PairInIdeal.nD,
      r.2.mem ((c.tc : Thread Cert.PairInIdeal.nD Cert.PairInIdeal.τ).loc Cert.PairInIdeal.main_arg0) = m ((c.tc : Thread Cert.PairInIdeal.nD Cert.PairInIdeal.τ).loc Cert.PairInIdeal.main_arg0)
      ∧ r.2.mem ((c.tc : Thread Cert.PairInIdeal.nD Cert.PairInIdeal.τ).loc Cert.PairInIdeal.main_arg1) = m ((c.tc : Thread Cert.PairInIdeal.nD Cert.PairInIdeal.τ).loc Cert.PairInIdeal.main_arg1))
      ∧ r.2.sem = fun _ => 0)

def quiescent_PairInRefIdeal [hPairInRefIdeal : Cert.PairInRefIdeal.Facts] : Prop :=
  ∀ (m : (ℓ : Loc Cert.PairInRefIdeal.nD Cert.PairInRefIdeal.τ Cert.PairInRefIdeal.sig) → Buf (Elt Ideal) ℓ) (g : Dev Cert.PairInRefIdeal.nD → PrngReg), Pre_PairInRefIdeal m →
    θ_run (Cert.PairInRefIdeal.defs (F := Ideal)) (onTc (τ := Cert.PairInRefIdeal.τ) (Cert.PairInRefIdeal.main (F := Ideal))) ⟨m, fun _ => 0, g⟩ (fun r => (∀ c : Dev Cert.PairInRefIdeal.nD,
      r.2.mem ((c.tc : Thread Cert.PairInRefIdeal.nD Cert.PairInRefIdeal.τ).loc Cert.PairInRefIdeal.main_arg0) = m ((c.tc : Thread Cert.PairInRefIdeal.nD Cert.PairInRefIdeal.τ).loc Cert.PairInRefIdeal.main_arg0)
      ∧ r.2.mem ((c.tc : Thread Cert.PairInRefIdeal.nD Cert.PairInRefIdeal.τ).loc Cert.PairInRefIdeal.main_arg1) = m ((c.tc : Thread Cert.PairInRefIdeal.nD Cert.PairInRefIdeal.τ).loc Cert.PairInRefIdeal.main_arg1))
      ∧ r.2.sem = fun _ => 0)

def quiescent_SumSquare [hSumSquare : Cert.SumSquare.Facts] : Prop :=
  ∀ (m : (ℓ : Loc Cert.SumSquare.nD Cert.SumSquare.τ Cert.SumSquare.sig) → Buf (Elt Bits) ℓ) (g : Dev Cert.SumSquare.nD → PrngReg), Pre_SumSquare m →
    θ_run (Cert.SumSquare.defs (F := Bits)) (onTc (τ := Cert.SumSquare.τ) (Cert.SumSquare.main (F := Bits))) ⟨m, fun _ => 0, g⟩ (fun r => (∀ c : Dev Cert.SumSquare.nD,
      r.2.mem ((c.tc : Thread Cert.SumSquare.nD Cert.SumSquare.τ).loc Cert.SumSquare.main_arg0) = m ((c.tc : Thread Cert.SumSquare.nD Cert.SumSquare.τ).loc Cert.SumSquare.main_arg0))
      ∧ r.2.sem = fun _ => 0)

def quiescent_SumSquareIdeal [hSumSquareIdeal : Cert.SumSquareIdeal.Facts] : Prop :=
  ∀ (m : (ℓ : Loc Cert.SumSquareIdeal.nD Cert.SumSquareIdeal.τ Cert.SumSquareIdeal.sig) → Buf (Elt Ideal) ℓ) (g : Dev Cert.SumSquareIdeal.nD → PrngReg), Pre_SumSquareIdeal m →
    θ_run (Cert.SumSquareIdeal.defs (F := Ideal)) (onTc (τ := Cert.SumSquareIdeal.τ) (Cert.SumSquareIdeal.main (F := Ideal))) ⟨m, fun _ => 0, g⟩ (fun r => (∀ c : Dev Cert.SumSquareIdeal.nD,
      r.2.mem ((c.tc : Thread Cert.SumSquareIdeal.nD Cert.SumSquareIdeal.τ).loc Cert.SumSquareIdeal.main_arg0) = m ((c.tc : Thread Cert.SumSquareIdeal.nD Cert.SumSquareIdeal.τ).loc Cert.SumSquareIdeal.main_arg0))
      ∧ r.2.sem = fun _ => 0)

def quiescent_SumSquareRefIdeal [hSumSquareRefIdeal : Cert.SumSquareRefIdeal.Facts] : Prop :=
  ∀ (m : (ℓ : Loc Cert.SumSquareRefIdeal.nD Cert.SumSquareRefIdeal.τ Cert.SumSquareRefIdeal.sig) → Buf (Elt Ideal) ℓ) (g : Dev Cert.SumSquareRefIdeal.nD → PrngReg), Pre_SumSquareRefIdeal m →
    θ_run (Cert.SumSquareRefIdeal.defs (F := Ideal)) (onTc (τ := Cert.SumSquareRefIdeal.τ) (Cert.SumSquareRefIdeal.main (F := Ideal))) ⟨m, fun _ => 0, g⟩ (fun r => (∀ c : Dev Cert.SumSquareRefIdeal.nD,
      r.2.mem ((c.tc : Thread Cert.SumSquareRefIdeal.nD Cert.SumSquareRefIdeal.τ).loc Cert.SumSquareRefIdeal.main_arg0) = m ((c.tc : Thread Cert.SumSquareRefIdeal.nD Cert.SumSquareRefIdeal.τ).loc Cert.SumSquareRefIdeal.main_arg0))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ r.2.sem = fun _ => 0)

def quiescent_SumDownRefIdeal [hSumDownRefIdeal : Cert.SumDownRefIdeal.Facts] : Prop :=
  ∀ (m : (ℓ : Loc Cert.SumDownRefIdeal.nD Cert.SumDownRefIdeal.τ Cert.SumDownRefIdeal.sig) → Buf (Elt Ideal) ℓ) (g : Dev Cert.SumDownRefIdeal.nD → PrngReg), Pre_SumDownRefIdeal m →
    θ_run (Cert.SumDownRefIdeal.defs (F := Ideal)) (onTc (τ := Cert.SumDownRefIdeal.τ) (Cert.SumDownRefIdeal.main (F := Ideal))) ⟨m, fun _ => 0, g⟩ (fun r => (∀ c : Dev Cert.SumDownRefIdeal.nD,
      r.2.mem ((c.tc : Thread Cert.SumDownRefIdeal.nD Cert.SumDownRefIdeal.τ).loc Cert.SumDownRefIdeal.main_arg0) = m ((c.tc : Thread Cert.SumDownRefIdeal.nD Cert.SumDownRefIdeal.τ).loc Cert.SumDownRefIdeal.main_arg0))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_v169) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_GwUp_GwUpIdeal : Prop :=
  True

def algebraic_GwUpIdeal_GwUpRefIdeal [hGwUpIdeal : Cert.GwUpIdeal.Facts] [hGwUpRefIdeal : Cert.GwUpRefIdeal.Facts] : Prop :=
  ∀ (m : (ℓ : Loc Cert.GwUpIdeal.nD Cert.GwUpIdeal.τ Cert.GwUpIdeal.sig) → Buf (Elt Ideal) ℓ) (g : Dev Cert.GwUpIdeal.nD → PrngReg)
    (m' : (ℓ : Loc Cert.GwUpRefIdeal.nD Cert.GwUpRefIdeal.τ Cert.GwUpRefIdeal.sig) → Buf (Elt Ideal) ℓ) (g' : Dev Cert.GwUpRefIdeal.nD → PrngReg), Pre_GwUpIdeal m →
    (∀ c : Dev Cert.GwUpIdeal.nD,
      m' ((c.tc : Thread Cert.GwUpRefIdeal.nD Cert.GwUpRefIdeal.τ).loc Cert.GwUpRefIdeal.main_arg0) = m ((c.tc : Thread Cert.GwUpIdeal.nD Cert.GwUpIdeal.τ).loc Cert.GwUpIdeal.main_arg0)
      ∧ m' ((c.tc : Thread Cert.GwUpRefIdeal.nD Cert.GwUpRefIdeal.τ).loc Cert.GwUpRefIdeal.main_arg1) = m ((c.tc : Thread Cert.GwUpIdeal.nD Cert.GwUpIdeal.τ).loc Cert.GwUpIdeal.main_arg1)) →
    ∃ (v0 : (c : Dev Cert.GwUpIdeal.nD) → Buf (Elt Ideal) ((c.tc : Thread Cert.GwUpIdeal.nD Cert.GwUpIdeal.τ).loc Cert.GwUpIdeal.main_v0)),
      θ_run (Cert.GwUpIdeal.defs (F := Ideal)) (onTc (τ := Cert.GwUpIdeal.τ) (Cert.GwUpIdeal.main (F := Ideal))) ⟨m, fun _ => 0, g⟩ (fun r => ∀ c : Dev Cert.GwUpIdeal.nD,
          r.2.mem ((c.tc : Thread Cert.GwUpIdeal.nD Cert.GwUpIdeal.τ).loc Cert.GwUpIdeal.main_v0) = v0 c
          ∧ r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
          ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ θ_run (Cert.GwUpRefIdeal.defs (F := Ideal)) (onTc (τ := Cert.GwUpRefIdeal.τ) (Cert.GwUpRefIdeal.main (F := Ideal))) ⟨m', fun _ => 0, g'⟩ (fun r => ∀ c : Dev Cert.GwUpRefIdeal.nD,
          r.2.mem ((c.tc : Thread Cert.GwUpRefIdeal.nD Cert.GwUpRefIdeal.τ).loc Cert.GwUpRefIdeal.main_v15) = v0 c
          ∧ r.2.mem ((c.tc : Thread Cert.GwUpRefIdeal.nD Cert.GwUpRefIdeal.τ).loc Cert.GwUpRefIdeal.main_arg0) = m' ((c.tc : Thread Cert.GwUpRefIdeal.nD Cert.GwUpRefIdeal.τ).loc Cert.GwUpRefIdeal.main_arg0)
          ∧ r.2.mem ((c.tc : Thread Cert.GwUpRefIdeal.nD Cert.GwUpRefIdeal.τ).loc Cert.GwUpRefIdeal.main_arg1) = m' ((c.tc : Thread Cert.GwUpRefIdeal.nD Cert.GwUpRefIdeal.τ).loc Cert.GwUpRefIdeal.main_arg1))

def preserves_DH2_DH2Ideal : Prop :=
  True

def algebraic_DH2Ideal_DH2RefIdeal [hDH2Ideal : Cert.DH2Ideal.Facts] [hDH2RefIdeal : Cert.DH2RefIdeal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.DH2RefIdeal.nD Cert.DH2RefIdeal.τ Cert.DH2RefIdeal.sig) → Buf (Elt Ideal) ℓ) (g' : Dev Cert.DH2RefIdeal.nD → PrngReg), Pre_DH2Ideal m →
    (∀ c : Dev Cert.DH2Ideal.nD,
      m' ((c.tc : Thread Cert.DH2RefIdeal.nD Cert.DH2RefIdeal.τ).loc Cert.DH2RefIdeal.main_arg0) = m ((c.tc : Thread Cert.DH2Ideal.nD Cert.DH2Ideal.τ).loc Cert.DH2Ideal.main_arg0)
      ∧ m' ((c.tc : Thread Cert.DH2RefIdeal.nD Cert.DH2RefIdeal.τ).loc Cert.DH2RefIdeal.main_arg1) = m ((c.tc : Thread Cert.DH2Ideal.nD Cert.DH2Ideal.τ).loc Cert.DH2Ideal.main_arg1)) →
    ∃ (v0 : (c : Dev Cert.DH2Ideal.nD) → Buf (Elt Ideal) ((c.tc : Thread Cert.DH2Ideal.nD Cert.DH2Ideal.τ).loc Cert.DH2Ideal.main_v0)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v0) = v0 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ θ_run (Cert.DH2RefIdeal.defs (F := Ideal)) (onTc (τ := Cert.DH2RefIdeal.τ) (Cert.DH2RefIdeal.main (F := Ideal))) ⟨m', fun _ => 0, g'⟩ (fun r => ∀ c : Dev Cert.DH2RefIdeal.nD,
          r.2.mem ((c.tc : Thread Cert.DH2RefIdeal.nD Cert.DH2RefIdeal.τ).loc Cert.DH2RefIdeal.main_v13) = v0 c
          ∧ r.2.mem ((c.tc : Thread Cert.DH2RefIdeal.nD Cert.DH2RefIdeal.τ).loc Cert.DH2RefIdeal.main_arg0) = m' ((c.tc : Thread Cert.DH2RefIdeal.nD Cert.DH2RefIdeal.τ).loc Cert.DH2RefIdeal.main_arg0)
          ∧ r.2.mem ((c.tc : Thread Cert.DH2RefIdeal.nD Cert.DH2RefIdeal.τ).loc Cert.DH2RefIdeal.main_arg1) = m' ((c.tc : Thread Cert.DH2RefIdeal.nD Cert.DH2RefIdeal.τ).loc Cert.DH2RefIdeal.main_arg1))

def preserves_GwQkv_GwQkvIdeal : Prop :=
  True

def algebraic_GwQkvIdeal_GwQkvRefIdeal [hGwQkvIdeal : Cert.GwQkvIdeal.Facts] [hGwQkvRefIdeal : Cert.GwQkvRefIdeal.Facts] : Prop :=
  ∀ (m : (ℓ : Loc Cert.GwQkvIdeal.nD Cert.GwQkvIdeal.τ Cert.GwQkvIdeal.sig) → Buf (Elt Ideal) ℓ) (g : Dev Cert.GwQkvIdeal.nD → PrngReg)
    (m' : (ℓ : Loc Cert.GwQkvRefIdeal.nD Cert.GwQkvRefIdeal.τ Cert.GwQkvRefIdeal.sig) → Buf (Elt Ideal) ℓ) (g' : Dev Cert.GwQkvRefIdeal.nD → PrngReg), Pre_GwQkvIdeal m →
    (∀ c : Dev Cert.GwQkvIdeal.nD,
      m' ((c.tc : Thread Cert.GwQkvRefIdeal.nD Cert.GwQkvRefIdeal.τ).loc Cert.GwQkvRefIdeal.main_arg0) = m ((c.tc : Thread Cert.GwQkvIdeal.nD Cert.GwQkvIdeal.τ).loc Cert.GwQkvIdeal.main_arg0)
      ∧ m' ((c.tc : Thread Cert.GwQkvRefIdeal.nD Cert.GwQkvRefIdeal.τ).loc Cert.GwQkvRefIdeal.main_arg1) = m ((c.tc : Thread Cert.GwQkvIdeal.nD Cert.GwQkvIdeal.τ).loc Cert.GwQkvIdeal.main_arg1)) →
    ∃ (v0 : (c : Dev Cert.GwQkvIdeal.nD) → Buf (Elt Ideal) ((c.tc : Thread Cert.GwQkvIdeal.nD Cert.GwQkvIdeal.τ).loc Cert.GwQkvIdeal.main_v0)),
      θ_run (Cert.GwQkvIdeal.defs (F := Ideal)) (onTc (τ := Cert.GwQkvIdeal.τ) (Cert.GwQkvIdeal.main (F := Ideal))) ⟨m, fun _ => 0, g⟩ (fun r => ∀ c : Dev Cert.GwQkvIdeal.nD,
          r.2.mem ((c.tc : Thread Cert.GwQkvIdeal.nD Cert.GwQkvIdeal.τ).loc Cert.GwQkvIdeal.main_v0) = v0 c
          ∧ r.2.mem ((c.tc : Thread Cert.GwQkvIdeal.nD Cert.GwQkvIdeal.τ).loc Cert.GwQkvIdeal.main_arg0) = m ((c.tc : Thread Cert.GwQkvIdeal.nD Cert.GwQkvIdeal.τ).loc Cert.GwQkvIdeal.main_arg0)
          ∧ r.2.mem ((c.tc : Thread Cert.GwQkvIdeal.nD Cert.GwQkvIdeal.τ).loc Cert.GwQkvIdeal.main_arg1) = m ((c.tc : Thread Cert.GwQkvIdeal.nD Cert.GwQkvIdeal.τ).loc Cert.GwQkvIdeal.main_arg1))
      ∧ θ_run (Cert.GwQkvRefIdeal.defs (F := Ideal)) (onTc (τ := Cert.GwQkvRefIdeal.τ) (Cert.GwQkvRefIdeal.main (F := Ideal))) ⟨m', fun _ => 0, g'⟩ (fun r => ∀ c : Dev Cert.GwQkvRefIdeal.nD,
          r.2.mem ((c.tc : Thread Cert.GwQkvRefIdeal.nD Cert.GwQkvRefIdeal.τ).loc Cert.GwQkvRefIdeal.main_v6) = v0 c
          ∧ r.2.mem ((c.tc : Thread Cert.GwQkvRefIdeal.nD Cert.GwQkvRefIdeal.τ).loc Cert.GwQkvRefIdeal.main_arg0) = m' ((c.tc : Thread Cert.GwQkvRefIdeal.nD Cert.GwQkvRefIdeal.τ).loc Cert.GwQkvRefIdeal.main_arg0)
          ∧ r.2.mem ((c.tc : Thread Cert.GwQkvRefIdeal.nD Cert.GwQkvRefIdeal.τ).loc Cert.GwQkvRefIdeal.main_arg1) = m' ((c.tc : Thread Cert.GwQkvRefIdeal.nD Cert.GwQkvRefIdeal.τ).loc Cert.GwQkvRefIdeal.main_arg1))

def preserves_DH1_DH1Ideal : Prop :=
  True

def algebraic_DH1Ideal_DH1RefIdeal [hDH1Ideal : Cert.DH1Ideal.Facts] [hDH1RefIdeal : Cert.DH1RefIdeal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.DH1RefIdeal.nD Cert.DH1RefIdeal.τ Cert.DH1RefIdeal.sig) → Buf (Elt Ideal) ℓ) (g' : Dev Cert.DH1RefIdeal.nD → PrngReg), Pre_DH1Ideal m →
    (∀ c : Dev Cert.DH1Ideal.nD,
      m' ((c.tc : Thread Cert.DH1RefIdeal.nD Cert.DH1RefIdeal.τ).loc Cert.DH1RefIdeal.main_arg0) = m ((c.tc : Thread Cert.DH1Ideal.nD Cert.DH1Ideal.τ).loc Cert.DH1Ideal.main_arg0)
      ∧ m' ((c.tc : Thread Cert.DH1RefIdeal.nD Cert.DH1RefIdeal.τ).loc Cert.DH1RefIdeal.main_arg1) = m ((c.tc : Thread Cert.DH1Ideal.nD Cert.DH1Ideal.τ).loc Cert.DH1Ideal.main_arg1)
      ∧ m' ((c.tc : Thread Cert.DH1RefIdeal.nD Cert.DH1RefIdeal.τ).loc Cert.DH1RefIdeal.main_arg2) = m ((c.tc : Thread Cert.DH1Ideal.nD Cert.DH1Ideal.τ).loc Cert.DH1Ideal.main_arg2)) →
    ∃ (v0 : (c : Dev Cert.DH1Ideal.nD) → Buf (Elt Ideal) ((c.tc : Thread Cert.DH1Ideal.nD Cert.DH1Ideal.τ).loc Cert.DH1Ideal.main_v0)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v0) = v0 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
          ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2))
      ∧ θ_run (Cert.DH1RefIdeal.defs (F := Ideal)) (onTc (τ := Cert.DH1RefIdeal.τ) (Cert.DH1RefIdeal.main (F := Ideal))) ⟨m', fun _ => 0, g'⟩ (fun r => ∀ c : Dev Cert.DH1RefIdeal.nD,
          r.2.mem ((c.tc : Thread Cert.DH1RefIdeal.nD Cert.DH1RefIdeal.τ).loc Cert.DH1RefIdeal.main_v5) = v0 c
          ∧ r.2.mem ((c.tc : Thread Cert.DH1RefIdeal.nD Cert.DH1RefIdeal.τ).loc Cert.DH1RefIdeal.main_arg0) = m' ((c.tc : Thread Cert.DH1RefIdeal.nD Cert.DH1RefIdeal.τ).loc Cert.DH1RefIdeal.main_arg0)
          ∧ r.2.mem ((c.tc : Thread Cert.DH1RefIdeal.nD Cert.DH1RefIdeal.τ).loc Cert.DH1RefIdeal.main_arg1) = m' ((c.tc : Thread Cert.DH1RefIdeal.nD Cert.DH1RefIdeal.τ).loc Cert.DH1RefIdeal.main_arg1)
          ∧ r.2.mem ((c.tc : Thread Cert.DH1RefIdeal.nD Cert.DH1RefIdeal.τ).loc Cert.DH1RefIdeal.main_arg2) = m' ((c.tc : Thread Cert.DH1RefIdeal.nD Cert.DH1RefIdeal.τ).loc Cert.DH1RefIdeal.main_arg2))

def preserves_GwDown_GwDownIdeal : Prop :=
  True

def algebraic_GwDownIdeal_GwDownRefIdeal [hGwDownIdeal : Cert.GwDownIdeal.Facts] [hGwDownRefIdeal : Cert.GwDownRefIdeal.Facts] : Prop :=
  ∀ (m : (ℓ : Loc Cert.GwDownIdeal.nD Cert.GwDownIdeal.τ Cert.GwDownIdeal.sig) → Buf (Elt Ideal) ℓ) (g : Dev Cert.GwDownIdeal.nD → PrngReg)
    (m' : (ℓ : Loc Cert.GwDownRefIdeal.nD Cert.GwDownRefIdeal.τ Cert.GwDownRefIdeal.sig) → Buf (Elt Ideal) ℓ) (g' : Dev Cert.GwDownRefIdeal.nD → PrngReg), Pre_GwDownIdeal m →
    (∀ c : Dev Cert.GwDownIdeal.nD,
      m' ((c.tc : Thread Cert.GwDownRefIdeal.nD Cert.GwDownRefIdeal.τ).loc Cert.GwDownRefIdeal.main_arg0) = m ((c.tc : Thread Cert.GwDownIdeal.nD Cert.GwDownIdeal.τ).loc Cert.GwDownIdeal.main_arg0)
      ∧ m' ((c.tc : Thread Cert.GwDownRefIdeal.nD Cert.GwDownRefIdeal.τ).loc Cert.GwDownRefIdeal.main_arg1) = m ((c.tc : Thread Cert.GwDownIdeal.nD Cert.GwDownIdeal.τ).loc Cert.GwDownIdeal.main_arg1)) →
    ∃ (v0 : (c : Dev Cert.GwDownIdeal.nD) → Buf (Elt Ideal) ((c.tc : Thread Cert.GwDownIdeal.nD Cert.GwDownIdeal.τ).loc Cert.GwDownIdeal.main_v0)),
      θ_run (Cert.GwDownIdeal.defs (F := Ideal)) (onTc (τ := Cert.GwDownIdeal.τ) (Cert.GwDownIdeal.main (F := Ideal))) ⟨m, fun _ => 0, g⟩ (fun r => ∀ c : Dev Cert.GwDownIdeal.nD,
          r.2.mem ((c.tc : Thread Cert.GwDownIdeal.nD Cert.GwDownIdeal.τ).loc Cert.GwDownIdeal.main_v0) = v0 c
          ∧ r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
          ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ θ_run (Cert.GwDownRefIdeal.defs (F := Ideal)) (onTc (τ := Cert.GwDownRefIdeal.τ) (Cert.GwDownRefIdeal.main (F := Ideal))) ⟨m', fun _ => 0, g'⟩ (fun r => ∀ c : Dev Cert.GwDownRefIdeal.nD,
          r.2.mem ((c.tc : Thread Cert.GwDownRefIdeal.nD Cert.GwDownRefIdeal.τ).loc Cert.GwDownRefIdeal.main_v6) = v0 c
          ∧ r.2.mem ((c.tc : Thread Cert.GwDownRefIdeal.nD Cert.GwDownRefIdeal.τ).loc Cert.GwDownRefIdeal.main_arg0) = m' ((c.tc : Thread Cert.GwDownRefIdeal.nD Cert.GwDownRefIdeal.τ).loc Cert.GwDownRefIdeal.main_arg0)
          ∧ r.2.mem ((c.tc : Thread Cert.GwDownRefIdeal.nD Cert.GwDownRefIdeal.τ).loc Cert.GwDownRefIdeal.main_arg1) = m' ((c.tc : Thread Cert.GwDownRefIdeal.nD Cert.GwDownRefIdeal.τ).loc Cert.GwDownRefIdeal.main_arg1))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v5) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_GwO_GwOIdeal : Prop :=
  True

def algebraic_GwOIdeal_GwORefIdeal [hGwOIdeal : Cert.GwOIdeal.Facts] [hGwORefIdeal : Cert.GwORefIdeal.Facts] : Prop :=
  ∀ (m : (ℓ : Loc Cert.GwOIdeal.nD Cert.GwOIdeal.τ Cert.GwOIdeal.sig) → Buf (Elt Ideal) ℓ) (g : Dev Cert.GwOIdeal.nD → PrngReg)
    (m' : (ℓ : Loc Cert.GwORefIdeal.nD Cert.GwORefIdeal.τ Cert.GwORefIdeal.sig) → Buf (Elt Ideal) ℓ) (g' : Dev Cert.GwORefIdeal.nD → PrngReg), Pre_GwOIdeal m →
    (∀ c : Dev Cert.GwOIdeal.nD,
      m' ((c.tc : Thread Cert.GwORefIdeal.nD Cert.GwORefIdeal.τ).loc Cert.GwORefIdeal.main_arg0) = m ((c.tc : Thread Cert.GwOIdeal.nD Cert.GwOIdeal.τ).loc Cert.GwOIdeal.main_arg0)
      ∧ m' ((c.tc : Thread Cert.GwORefIdeal.nD Cert.GwORefIdeal.τ).loc Cert.GwORefIdeal.main_arg1) = m ((c.tc : Thread Cert.GwOIdeal.nD Cert.GwOIdeal.τ).loc Cert.GwOIdeal.main_arg1)) →
    ∃ (v0 : (c : Dev Cert.GwOIdeal.nD) → Buf (Elt Ideal) ((c.tc : Thread Cert.GwOIdeal.nD Cert.GwOIdeal.τ).loc Cert.GwOIdeal.main_v0)),
      θ_run (Cert.GwOIdeal.defs (F := Ideal)) (onTc (τ := Cert.GwOIdeal.τ) (Cert.GwOIdeal.main (F := Ideal))) ⟨m, fun _ => 0, g⟩ (fun r => ∀ c : Dev Cert.GwOIdeal.nD,
          r.2.mem ((c.tc : Thread Cert.GwOIdeal.nD Cert.GwOIdeal.τ).loc Cert.GwOIdeal.main_v0) = v0 c
          ∧ r.2.mem ((c.tc : Thread Cert.GwOIdeal.nD Cert.GwOIdeal.τ).loc Cert.GwOIdeal.main_arg0) = m ((c.tc : Thread Cert.GwOIdeal.nD Cert.GwOIdeal.τ).loc Cert.GwOIdeal.main_arg0)
          ∧ r.2.mem ((c.tc : Thread Cert.GwOIdeal.nD Cert.GwOIdeal.τ).loc Cert.GwOIdeal.main_arg1) = m ((c.tc : Thread Cert.GwOIdeal.nD Cert.GwOIdeal.τ).loc Cert.GwOIdeal.main_arg1))
      ∧ θ_run (Cert.GwORefIdeal.defs (F := Ideal)) (onTc (τ := Cert.GwORefIdeal.τ) (Cert.GwORefIdeal.main (F := Ideal))) ⟨m', fun _ => 0, g'⟩ (fun r => ∀ c : Dev Cert.GwORefIdeal.nD,
          r.2.mem ((c.tc : Thread Cert.GwORefIdeal.nD Cert.GwORefIdeal.τ).loc Cert.GwORefIdeal.main_v6) = v0 c
          ∧ r.2.mem ((c.tc : Thread Cert.GwORefIdeal.nD Cert.GwORefIdeal.τ).loc Cert.GwORefIdeal.main_arg0) = m' ((c.tc : Thread Cert.GwORefIdeal.nD Cert.GwORefIdeal.τ).loc Cert.GwORefIdeal.main_arg0)
          ∧ r.2.mem ((c.tc : Thread Cert.GwORefIdeal.nD Cert.GwORefIdeal.τ).loc Cert.GwORefIdeal.main_arg1) = m' ((c.tc : Thread Cert.GwORefIdeal.nD Cert.GwORefIdeal.τ).loc Cert.GwORefIdeal.main_arg1))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v0)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v5) = v0 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v12) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)) →
    ∃ (v0 : (c : Dev Cert.ProjQkvIdeal.nD) → Buf (Elt Ideal) ((c.tc : Thread Cert.ProjQkvIdeal.nD Cert.ProjQkvIdeal.τ).loc Cert.ProjQkvIdeal.main_v0)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v0) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v3) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1))

def preserves_ProjZ_ProjZIdeal : Prop :=
  True

def algebraic_ProjZIdeal_ProjZRefIdeal [hProjZIdeal : Cert.ProjZIdeal.Facts] [hProjZRefIdeal : Cert.ProjZRefIdeal.Facts] : Prop :=
  ∀ (m : (ℓ : Loc Cert.ProjZIdeal.nD Cert.ProjZIdeal.τ Cert.ProjZIdeal.sig) → Buf (Elt Ideal) ℓ) (g : Dev Cert.ProjZIdeal.nD → PrngReg)
    (m' : (ℓ : Loc Cert.ProjZRefIdeal.nD Cert.ProjZRefIdeal.τ Cert.ProjZRefIdeal.sig) → Buf (Elt Ideal) ℓ) (g' : Dev Cert.ProjZRefIdeal.nD → PrngReg), Pre_ProjZIdeal m →
    (∀ c : Dev Cert.ProjZIdeal.nD,
      m' ((c.tc : Thread Cert.ProjZRefIdeal.nD Cert.ProjZRefIdeal.τ).loc Cert.ProjZRefIdeal.main_arg0) = m ((c.tc : Thread Cert.ProjZIdeal.nD Cert.ProjZIdeal.τ).loc Cert.ProjZIdeal.main_arg0)
      ∧ m' ((c.tc : Thread Cert.ProjZRefIdeal.nD Cert.ProjZRefIdeal.τ).loc Cert.ProjZRefIdeal.main_arg1) = m ((c.tc : Thread Cert.ProjZIdeal.nD Cert.ProjZIdeal.τ).loc Cert.ProjZIdeal.main_arg1)) →
    ∃ (v0 : (c : Dev Cert.ProjZIdeal.nD) → Buf (Elt Ideal) ((c.tc : Thread Cert.ProjZIdeal.nD Cert.ProjZIdeal.τ).loc Cert.ProjZIdeal.main_v0)),
      θ_run (Cert.ProjZIdeal.defs (F := Ideal)) (onTc (τ := Cert.ProjZIdeal.τ) (Cert.ProjZIdeal.main (F := Ideal))) ⟨m, fun _ => 0, g⟩ (fun r => ∀ c : Dev Cert.ProjZIdeal.nD,
          r.2.mem ((c.tc : Thread Cert.ProjZIdeal.nD Cert.ProjZIdeal.τ).loc Cert.ProjZIdeal.main_v0) = v0 c
          ∧ r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
          ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ θ_run (Cert.ProjZRefIdeal.defs (F := Ideal)) (onTc (τ := Cert.ProjZRefIdeal.τ) (Cert.ProjZRefIdeal.main (F := Ideal))) ⟨m', fun _ => 0, g'⟩ (fun r => ∀ c : Dev Cert.ProjZRefIdeal.nD,
          r.2.mem ((c.tc : Thread Cert.ProjZRefIdeal.nD Cert.ProjZRefIdeal.τ).loc Cert.ProjZRefIdeal.main_v3) = v0 c
          ∧ r.2.mem ((c.tc : Thread Cert.ProjZRefIdeal.nD Cert.ProjZRefIdeal.τ).loc Cert.ProjZRefIdeal.main_arg0) = m' ((c.tc : Thread Cert.ProjZRefIdeal.nD Cert.ProjZRefIdeal.τ).loc Cert.ProjZRefIdeal.main_arg0)
          ∧ r.2.mem ((c.tc : Thread Cert.ProjZRefIdeal.nD Cert.ProjZRefIdeal.τ).loc Cert.ProjZRefIdeal.main_arg1) = m' ((c.tc : Thread Cert.ProjZRefIdeal.nD Cert.ProjZRefIdeal.τ).loc Cert.ProjZRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_LnBwd_LnBwdIdeal : Prop :=
  True

def algebraic_LnBwdIdeal_LnBwdRefIdeal_pre_finite_norm [hLnBwdIdeal : Cert.LnBwdIdeal.Facts] [hLnBwdRefIdeal : Cert.LnBwdRefIdeal.Facts] [hPre_finite_norm : Cert.Pre_finite_norm.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_finite_norm m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)
      ∧ m' ((c.tc : Thread Cert.LnBwdRefIdeal.nD Cert.LnBwdRefIdeal.τ).loc Cert.LnBwdRefIdeal.main_arg4) = m ((c.tc : Thread Cert.LnBwdIdeal.nD Cert.LnBwdIdeal.τ).loc Cert.LnBwdIdeal.main_arg4)
      ∧ m' ((c.tc : Thread Cert.LnBwdRefIdeal.nD Cert.LnBwdRefIdeal.τ).loc Cert.LnBwdRefIdeal.main_arg5) = m ((c.tc : Thread Cert.LnBwdIdeal.nD Cert.LnBwdIdeal.τ).loc Cert.LnBwdIdeal.main_arg5)
      ∧ m' ((c.tc : Thread Cert.LnBwdRefIdeal.nD Cert.LnBwdRefIdeal.τ).loc Cert.LnBwdRefIdeal.main_arg6) = m ((c.tc : Thread Cert.LnBwdIdeal.nD Cert.LnBwdIdeal.τ).loc Cert.LnBwdIdeal.main_arg6)) →
    ∃ (v0 : (c : Dev Cert.LnBwdIdeal.nD) → Buf (Elt Ideal) ((c.tc : Thread Cert.LnBwdIdeal.nD Cert.LnBwdIdeal.τ).loc Cert.LnBwdIdeal.main_v0_0)) (v1 : (c : Dev Cert.LnBwdIdeal.nD) → Buf (Elt Ideal) ((c.tc : Thread Cert.LnBwdIdeal.nD Cert.LnBwdIdeal.τ).loc Cert.LnBwdIdeal.main_v0_1)) (v2 : (c : Dev Cert.LnBwdIdeal.nD) → Buf (Elt Ideal) ((c.tc : Thread Cert.LnBwdIdeal.nD Cert.LnBwdIdeal.τ).loc Cert.LnBwdIdeal.main_v0_2)) (v3 : (c : Dev Cert.LnBwdIdeal.nD) → Buf (Elt Ideal) ((c.tc : Thread Cert.LnBwdIdeal.nD Cert.LnBwdIdeal.τ).loc Cert.LnBwdIdeal.main_v0_3)) (v4 : (c : Dev Cert.LnBwdIdeal.nD) → Buf (Elt Ideal) ((c.tc : Thread Cert.LnBwdIdeal.nD Cert.LnBwdIdeal.τ).loc Cert.LnBwdIdeal.main_v0_4)) (v5 : (c : Dev Cert.LnBwdIdeal.nD) → Buf (Elt Ideal) ((c.tc : Thread Cert.LnBwdIdeal.nD Cert.LnBwdIdeal.τ).loc Cert.LnBwdIdeal.main_v0_5)) (v6 : (c : Dev Cert.LnBwdIdeal.nD) → Buf (Elt Ideal) ((c.tc : Thread Cert.LnBwdIdeal.nD Cert.LnBwdIdeal.τ).loc Cert.LnBwdIdeal.main_v0_6)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v0_0) = v0 c
          ∧ r.2.mem ((c.tc : Thread Cert.LnBwdIdeal.nD Cert.LnBwdIdeal.τ).loc Cert.LnBwdIdeal.main_v0_1) = v1 c
          ∧ r.2.mem ((c.tc : Thread Cert.LnBwdIdeal.nD Cert.LnBwdIdeal.τ).loc Cert.LnBwdIdeal.main_v0_2) = v2 c
          ∧ r.2.mem ((c.tc : Thread Cert.LnBwdIdeal.nD Cert.LnBwdIdeal.τ).loc Cert.LnBwdIdeal.main_v0_3) = v3 c
          ∧ r.2.mem ((c.tc : Thread Cert.LnBwdIdeal.nD Cert.LnBwdIdeal.τ).loc Cert.LnBwdIdeal.main_v0_4) = v4 c
          ∧ r.2.mem ((c.tc : Thread Cert.LnBwdIdeal.nD Cert.LnBwdIdeal.τ).loc Cert.LnBwdIdeal.main_v0_5) = v5 c
          ∧ r.2.mem ((c.tc : Thread Cert.LnBwdIdeal.nD Cert.LnBwdIdeal.τ).loc Cert.LnBwdIdeal.main_v0_6) = v6 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
          ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5)
          ∧ r.2.mem ((c.tc : Thread Cert.LnBwdIdeal.nD Cert.LnBwdIdeal.τ).loc Cert.LnBwdIdeal.main_arg6) = m ((c.tc : Thread Cert.LnBwdIdeal.nD Cert.LnBwdIdeal.τ).loc Cert.LnBwdIdeal.main_arg6))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v82) = v0 c
          ∧ r.2.mem ((c.tc : Thread Cert.LnBwdRefIdeal.nD Cert.LnBwdRefIdeal.τ).loc Cert.LnBwdRefIdeal.main_v90) = v1 c
          ∧ r.2.mem ((c.tc : Thread Cert.LnBwdRefIdeal.nD Cert.LnBwdRefIdeal.τ).loc Cert.LnBwdRefIdeal.main_v46) = v2 c
          ∧ r.2.mem ((c.tc : Thread Cert.LnBwdRefIdeal.nD Cert.LnBwdRefIdeal.τ).loc Cert.LnBwdRefIdeal.main_v43) = v3 c
          ∧ r.2.mem ((c.tc : Thread Cert.LnBwdRefIdeal.nD Cert.LnBwdRefIdeal.τ).loc Cert.LnBwdRefIdeal.main_v89) = v4 c
          ∧ r.2.mem ((c.tc : Thread Cert.LnBwdRefIdeal.nD Cert.LnBwdRefIdeal.τ).loc Cert.LnBwdRefIdeal.main_v56) = v5 c
          ∧ r.2.mem ((c.tc : Thread Cert.LnBwdRefIdeal.nD Cert.LnBwdRefIdeal.τ).loc Cert.LnBwdRefIdeal.main_v53) = v6 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3)
          ∧ r.2.mem ((c.tc : Thread Cert.LnBwdRefIdeal.nD Cert.LnBwdRefIdeal.τ).loc Cert.LnBwdRefIdeal.main_arg4) = m' ((c.tc : Thread Cert.LnBwdRefIdeal.nD Cert.LnBwdRefIdeal.τ).loc Cert.LnBwdRefIdeal.main_arg4)
          ∧ r.2.mem ((c.tc : Thread Cert.LnBwdRefIdeal.nD Cert.LnBwdRefIdeal.τ).loc Cert.LnBwdRefIdeal.main_arg5) = m' ((c.tc : Thread Cert.LnBwdRefIdeal.nD Cert.LnBwdRefIdeal.τ).loc Cert.LnBwdRefIdeal.main_arg5)
          ∧ r.2.mem ((c.tc : Thread Cert.LnBwdRefIdeal.nD Cert.LnBwdRefIdeal.τ).loc Cert.LnBwdRefIdeal.main_arg6) = m' ((c.tc : Thread Cert.LnBwdRefIdeal.nD Cert.LnBwdRefIdeal.τ).loc Cert.LnBwdRefIdeal.main_arg6))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v28) = v0 c
          ∧ r.2.mem ((c.tc : Thread Cert.MergeBwdRefIdeal.nD Cert.MergeBwdRefIdeal.τ).loc Cert.MergeBwdRefIdeal.main_v29) = v1 c
          ∧ r.2.mem ((c.tc : Thread Cert.MergeBwdRefIdeal.nD Cert.MergeBwdRefIdeal.τ).loc Cert.MergeBwdRefIdeal.main_v30) = v2 c
          ∧ r.2.mem ((c.tc : Thread Cert.MergeBwdRefIdeal.nD Cert.MergeBwdRefIdeal.τ).loc Cert.MergeBwdRefIdeal.main_v27) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)) →
    ∃ (v0 : (c : Dev Cert.GradXIdeal.nD) → Buf (Elt Ideal) ((c.tc : Thread Cert.GradXIdeal.nD Cert.GradXIdeal.τ).loc Cert.GradXIdeal.main_v0_0)) (v1 : (c : Dev Cert.GradXIdeal.nD) → Buf (Elt Ideal) ((c.tc : Thread Cert.GradXIdeal.nD Cert.GradXIdeal.τ).loc Cert.GradXIdeal.main_v0_1)) (v2 : (c : Dev Cert.GradXIdeal.nD) → Buf (Elt Ideal) ((c.tc : Thread Cert.GradXIdeal.nD Cert.GradXIdeal.τ).loc Cert.GradXIdeal.main_v0_2)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0_0) = v0 c
          ∧ r.2.mem ((c.tc : Thread Cert.GradXIdeal.nD Cert.GradXIdeal.τ).loc Cert.GradXIdeal.main_v0_1) = v1 c
          ∧ r.2.mem ((c.tc : Thread Cert.GradXIdeal.nD Cert.GradXIdeal.τ).loc Cert.GradXIdeal.main_v0_2) = v2 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v24) = v0 c
          ∧ r.2.mem ((c.tc : Thread Cert.GradXRefIdeal.nD Cert.GradXRefIdeal.τ).loc Cert.GradXRefIdeal.main_v19) = v1 c
          ∧ r.2.mem ((c.tc : Thread Cert.GradXRefIdeal.nD Cert.GradXRefIdeal.τ).loc Cert.GradXRefIdeal.main_v16) = v2 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3))

def preserves_GateBwd_GateBwdIdeal : Prop :=
  True

def algebraic_GateBwdIdeal_GateBwdRefIdeal_pre_finite_gate [hGateBwdIdeal : Cert.GateBwdIdeal.Facts] [hGateBwdRefIdeal : Cert.GateBwdRefIdeal.Facts] [hPre_finite_gate : Cert.Pre_finite_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal_finite_gate m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)) (v2 : (c : Dev Cert.GateBwdIdeal.nD) → Buf (Elt Ideal) ((c.tc : Thread Cert.GateBwdIdeal.nD Cert.GateBwdIdeal.τ).loc Cert.GateBwdIdeal.main_v0_2)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_v0_2) = v2 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v49) = v0 c
          ∧ r.2.mem ((c.tc : Thread Cert.GateBwdRefIdeal.nD Cert.GateBwdRefIdeal.τ).loc Cert.GateBwdRefIdeal.main_v50) = v1 c
          ∧ r.2.mem ((c.tc : Thread Cert.GateBwdRefIdeal.nD Cert.GateBwdRefIdeal.τ).loc Cert.GateBwdRefIdeal.main_v36) = v2 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3))

def preserves_Final_FinalIdeal : Prop :=
  True

def algebraic_FinalIdeal_FinalRefIdeal_pre_finite_loss [hFinalIdeal : Cert.FinalIdeal.Facts] [hFinalRefIdeal : Cert.FinalRefIdeal.Facts] [hPre_finite_loss : Cert.Pre_finite_loss.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal_finite_loss m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)
      ∧ m' ((c.tc : Thread Cert.FinalRefIdeal.nD Cert.FinalRefIdeal.τ).loc Cert.FinalRefIdeal.main_arg5) = m ((c.tc : Thread Cert.FinalIdeal.nD Cert.FinalIdeal.τ).loc Cert.FinalIdeal.main_arg5)) →
    ∃ (v0 : (c : Dev Cert.FinalIdeal.nD) → Buf (Elt Ideal) ((c.tc : Thread Cert.FinalIdeal.nD Cert.FinalIdeal.τ).loc Cert.FinalIdeal.main_v0_0)) (v1 : (c : Dev Cert.FinalIdeal.nD) → Buf (Elt Ideal) ((c.tc : Thread Cert.FinalIdeal.nD Cert.FinalIdeal.τ).loc Cert.FinalIdeal.main_v0_1)) (v2 : (c : Dev Cert.FinalIdeal.nD) → Buf (Elt Ideal) ((c.tc : Thread Cert.FinalIdeal.nD Cert.FinalIdeal.τ).loc Cert.FinalIdeal.main_v0_2)) (v3 : (c : Dev Cert.FinalIdeal.nD) → Buf (Elt Ideal) ((c.tc : Thread Cert.FinalIdeal.nD Cert.FinalIdeal.τ).loc Cert.FinalIdeal.main_v0_3)) (v4 : (c : Dev Cert.FinalIdeal.nD) → Buf (Elt Ideal) ((c.tc : Thread Cert.FinalIdeal.nD Cert.FinalIdeal.τ).loc Cert.FinalIdeal.main_v0_4)) (v5 : (c : Dev Cert.FinalIdeal.nD) → Buf (Elt Ideal) ((c.tc : Thread Cert.FinalIdeal.nD Cert.FinalIdeal.τ).loc Cert.FinalIdeal.main_v0_5)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0_0) = v0 c
          ∧ r.2.mem ((c.tc : Thread Cert.FinalIdeal.nD Cert.FinalIdeal.τ).loc Cert.FinalIdeal.main_v0_1) = v1 c
          ∧ r.2.mem ((c.tc : Thread Cert.FinalIdeal.nD Cert.FinalIdeal.τ).loc Cert.FinalIdeal.main_v0_2) = v2 c
          ∧ r.2.mem ((c.tc : Thread Cert.FinalIdeal.nD Cert.FinalIdeal.τ).loc Cert.FinalIdeal.main_v0_3) = v3 c
          ∧ r.2.mem ((c.tc : Thread Cert.FinalIdeal.nD Cert.FinalIdeal.τ).loc Cert.FinalIdeal.main_v0_4) = v4 c
          ∧ r.2.mem ((c.tc : Thread Cert.FinalIdeal.nD Cert.FinalIdeal.τ).loc Cert.FinalIdeal.main_v0_5) = v5 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v83) = v0 c
          ∧ r.2.mem ((c.tc : Thread Cert.FinalRefIdeal.nD Cert.FinalRefIdeal.τ).loc Cert.FinalRefIdeal.main_v91) = v1 c
          ∧ r.2.mem ((c.tc : Thread Cert.FinalRefIdeal.nD Cert.FinalRefIdeal.τ).loc Cert.FinalRefIdeal.main_v92) = v2 c
          ∧ r.2.mem ((c.tc : Thread Cert.FinalRefIdeal.nD Cert.FinalRefIdeal.τ).loc Cert.FinalRefIdeal.main_v90) = v3 c
          ∧ r.2.mem ((c.tc : Thread Cert.FinalRefIdeal.nD Cert.FinalRefIdeal.τ).loc Cert.FinalRefIdeal.main_v57) = v4 c
          ∧ r.2.mem ((c.tc : Thread Cert.FinalRefIdeal.nD Cert.FinalRefIdeal.τ).loc Cert.FinalRefIdeal.main_v54) = v5 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4)
          ∧ r.2.mem ((c.tc : Thread Cert.FinalRefIdeal.nD Cert.FinalRefIdeal.τ).loc Cert.FinalRefIdeal.main_arg5) = m' ((c.tc : Thread Cert.FinalRefIdeal.nD Cert.FinalRefIdeal.τ).loc Cert.FinalRefIdeal.main_arg5))

def preserves_ModT_ModTIdeal : Prop :=
  True

def algebraic_ModTIdeal_ModTRefIdeal [hModTIdeal : Cert.ModTIdeal.Facts] [hModTRefIdeal : Cert.ModTRefIdeal.Facts] : Prop :=
  ∀ (m : (ℓ : Loc Cert.ModTIdeal.nD Cert.ModTIdeal.τ Cert.ModTIdeal.sig) → Buf (Elt Ideal) ℓ) (g : Dev Cert.ModTIdeal.nD → PrngReg)
    (m' : (ℓ : Loc Cert.ModTRefIdeal.nD Cert.ModTRefIdeal.τ Cert.ModTRefIdeal.sig) → Buf (Elt Ideal) ℓ) (g' : Dev Cert.ModTRefIdeal.nD → PrngReg), Pre_ModTIdeal m →
    (∀ c : Dev Cert.ModTIdeal.nD,
      m' ((c.tc : Thread Cert.ModTRefIdeal.nD Cert.ModTRefIdeal.τ).loc Cert.ModTRefIdeal.main_arg0) = m ((c.tc : Thread Cert.ModTIdeal.nD Cert.ModTIdeal.τ).loc Cert.ModTIdeal.main_arg0)
      ∧ m' ((c.tc : Thread Cert.ModTRefIdeal.nD Cert.ModTRefIdeal.τ).loc Cert.ModTRefIdeal.main_arg1) = m ((c.tc : Thread Cert.ModTIdeal.nD Cert.ModTIdeal.τ).loc Cert.ModTIdeal.main_arg1)) →
    ∃ (v0 : (c : Dev Cert.ModTIdeal.nD) → Buf (Elt Ideal) ((c.tc : Thread Cert.ModTIdeal.nD Cert.ModTIdeal.τ).loc Cert.ModTIdeal.main_v0)),
      θ_run (Cert.ModTIdeal.defs (F := Ideal)) (onTc (τ := Cert.ModTIdeal.τ) (Cert.ModTIdeal.main (F := Ideal))) ⟨m, fun _ => 0, g⟩ (fun r => ∀ c : Dev Cert.ModTIdeal.nD,
          r.2.mem ((c.tc : Thread Cert.ModTIdeal.nD Cert.ModTIdeal.τ).loc Cert.ModTIdeal.main_v0) = v0 c
          ∧ r.2.mem ((c.tc : Thread Cert.ModTIdeal.nD Cert.ModTIdeal.τ).loc Cert.ModTIdeal.main_arg0) = m ((c.tc : Thread Cert.ModTIdeal.nD Cert.ModTIdeal.τ).loc Cert.ModTIdeal.main_arg0)
          ∧ r.2.mem ((c.tc : Thread Cert.ModTIdeal.nD Cert.ModTIdeal.τ).loc Cert.ModTIdeal.main_arg1) = m ((c.tc : Thread Cert.ModTIdeal.nD Cert.ModTIdeal.τ).loc Cert.ModTIdeal.main_arg1))
      ∧ θ_run (Cert.ModTRefIdeal.defs (F := Ideal)) (onTc (τ := Cert.ModTRefIdeal.τ) (Cert.ModTRefIdeal.main (F := Ideal))) ⟨m', fun _ => 0, g'⟩ (fun r => ∀ c : Dev Cert.ModTRefIdeal.nD,
          r.2.mem ((c.tc : Thread Cert.ModTRefIdeal.nD Cert.ModTRefIdeal.τ).loc Cert.ModTRefIdeal.main_v12) = v0 c
          ∧ r.2.mem ((c.tc : Thread Cert.ModTRefIdeal.nD Cert.ModTRefIdeal.τ).loc Cert.ModTRefIdeal.main_arg0) = m' ((c.tc : Thread Cert.ModTRefIdeal.nD Cert.ModTRefIdeal.τ).loc Cert.ModTRefIdeal.main_arg0)
          ∧ r.2.mem ((c.tc : Thread Cert.ModTRefIdeal.nD Cert.ModTRefIdeal.τ).loc Cert.ModTRefIdeal.main_arg1) = m' ((c.tc : Thread Cert.ModTRefIdeal.nD Cert.ModTRefIdeal.τ).loc Cert.ModTRefIdeal.main_arg1))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)) →
    ∃ (v0 : (c : Dev Cert.GateFwdIdeal.nD) → Buf (Elt Ideal) ((c.tc : Thread Cert.GateFwdIdeal.nD Cert.GateFwdIdeal.τ).loc Cert.GateFwdIdeal.main_v0)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v19) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v16) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3))

def preserves_LnFwd_LnFwdIdeal : Prop :=
  True

def algebraic_LnFwdIdeal_LnFwdRefIdeal [hLnFwdIdeal : Cert.LnFwdIdeal.Facts] [hLnFwdRefIdeal : Cert.LnFwdRefIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdRefIdeal.nD Cert.LnFwdRefIdeal.τ Cert.LnFwdRefIdeal.sig) → Buf (Elt Ideal) ℓ) (g' : Dev Cert.LnFwdRefIdeal.nD → PrngReg), Pre_LnFwdIdeal m →
    (∀ c : Dev Cert.LnFwdIdeal.nD,
      m' ((c.tc : Thread Cert.LnFwdRefIdeal.nD Cert.LnFwdRefIdeal.τ).loc Cert.LnFwdRefIdeal.main_arg0) = m ((c.tc : Thread Cert.LnFwdIdeal.nD Cert.LnFwdIdeal.τ).loc Cert.LnFwdIdeal.main_arg0)
      ∧ m' ((c.tc : Thread Cert.LnFwdRefIdeal.nD Cert.LnFwdRefIdeal.τ).loc Cert.LnFwdRefIdeal.main_arg1) = m ((c.tc : Thread Cert.LnFwdIdeal.nD Cert.LnFwdIdeal.τ).loc Cert.LnFwdIdeal.main_arg1)
      ∧ m' ((c.tc : Thread Cert.LnFwdRefIdeal.nD Cert.LnFwdRefIdeal.τ).loc Cert.LnFwdRefIdeal.main_arg2) = m ((c.tc : Thread Cert.LnFwdIdeal.nD Cert.LnFwdIdeal.τ).loc Cert.LnFwdIdeal.main_arg2)
      ∧ m' ((c.tc : Thread Cert.LnFwdRefIdeal.nD Cert.LnFwdRefIdeal.τ).loc Cert.LnFwdRefIdeal.main_arg3) = m ((c.tc : Thread Cert.LnFwdIdeal.nD Cert.LnFwdIdeal.τ).loc Cert.LnFwdIdeal.main_arg3)
      ∧ m' ((c.tc : Thread Cert.LnFwdRefIdeal.nD Cert.LnFwdRefIdeal.τ).loc Cert.LnFwdRefIdeal.main_arg4) = m ((c.tc : Thread Cert.LnFwdIdeal.nD Cert.LnFwdIdeal.τ).loc Cert.LnFwdIdeal.main_arg4)) →
    ∃ (v0 : (c : Dev Cert.LnFwdIdeal.nD) → Buf (Elt Ideal) ((c.tc : Thread Cert.LnFwdIdeal.nD Cert.LnFwdIdeal.τ).loc Cert.LnFwdIdeal.main_v0_0)) (v1 : (c : Dev Cert.LnFwdIdeal.nD) → Buf (Elt Ideal) ((c.tc : Thread Cert.LnFwdIdeal.nD Cert.LnFwdIdeal.τ).loc Cert.LnFwdIdeal.main_v0_1)) (v2 : (c : Dev Cert.LnFwdIdeal.nD) → Buf (Elt Ideal) ((c.tc : Thread Cert.LnFwdIdeal.nD Cert.LnFwdIdeal.τ).loc Cert.LnFwdIdeal.main_v0_2)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v0_0) = v0 c
          ∧ r.2.mem ((c.tc : Thread Cert.LnFwdIdeal.nD Cert.LnFwdIdeal.τ).loc Cert.LnFwdIdeal.main_v0_1) = v1 c
          ∧ r.2.mem ((c.tc : Thread Cert.LnFwdIdeal.nD Cert.LnFwdIdeal.τ).loc Cert.LnFwdIdeal.main_v0_2) = v2 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
          ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3)
          ∧ r.2.mem ((c.tc : Thread Cert.LnFwdIdeal.nD Cert.LnFwdIdeal.τ).loc Cert.LnFwdIdeal.main_arg4) = m ((c.tc : Thread Cert.LnFwdIdeal.nD Cert.LnFwdIdeal.τ).loc Cert.LnFwdIdeal.main_arg4))
      ∧ θ_run (Cert.LnFwdRefIdeal.defs (F := Ideal)) (onTc (τ := Cert.LnFwdRefIdeal.τ) (Cert.LnFwdRefIdeal.main (F := Ideal))) ⟨m', fun _ => 0, g'⟩ (fun r => ∀ c : Dev Cert.LnFwdRefIdeal.nD,
          r.2.mem ((c.tc : Thread Cert.LnFwdRefIdeal.nD Cert.LnFwdRefIdeal.τ).loc Cert.LnFwdRefIdeal.main_v10) = v0 c
          ∧ r.2.mem ((c.tc : Thread Cert.LnFwdRefIdeal.nD Cert.LnFwdRefIdeal.τ).loc Cert.LnFwdRefIdeal.main_v32) = v1 c
          ∧ r.2.mem ((c.tc : Thread Cert.LnFwdRefIdeal.nD Cert.LnFwdRefIdeal.τ).loc Cert.LnFwdRefIdeal.main_v39) = v2 c
          ∧ r.2.mem ((c.tc : Thread Cert.LnFwdRefIdeal.nD Cert.LnFwdRefIdeal.τ).loc Cert.LnFwdRefIdeal.main_arg0) = m' ((c.tc : Thread Cert.LnFwdRefIdeal.nD Cert.LnFwdRefIdeal.τ).loc Cert.LnFwdRefIdeal.main_arg0)
          ∧ r.2.mem ((c.tc : Thread Cert.LnFwdRefIdeal.nD Cert.LnFwdRefIdeal.τ).loc Cert.LnFwdRefIdeal.main_arg1) = m' ((c.tc : Thread Cert.LnFwdRefIdeal.nD Cert.LnFwdRefIdeal.τ).loc Cert.LnFwdRefIdeal.main_arg1)
          ∧ r.2.mem ((c.tc : Thread Cert.LnFwdRefIdeal.nD Cert.LnFwdRefIdeal.τ).loc Cert.LnFwdRefIdeal.main_arg2) = m' ((c.tc : Thread Cert.LnFwdRefIdeal.nD Cert.LnFwdRefIdeal.τ).loc Cert.LnFwdRefIdeal.main_arg2)
          ∧ r.2.mem ((c.tc : Thread Cert.LnFwdRefIdeal.nD Cert.LnFwdRefIdeal.τ).loc Cert.LnFwdRefIdeal.main_arg3) = m' ((c.tc : Thread Cert.LnFwdRefIdeal.nD Cert.LnFwdRefIdeal.τ).loc Cert.LnFwdRefIdeal.main_arg3)
          ∧ r.2.mem ((c.tc : Thread Cert.LnFwdRefIdeal.nD Cert.LnFwdRefIdeal.τ).loc Cert.LnFwdRefIdeal.main_arg4) = m' ((c.tc : Thread Cert.LnFwdRefIdeal.nD Cert.LnFwdRefIdeal.τ).loc Cert.LnFwdRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v2) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))

def preserves_ProjG_ProjGIdeal : Prop :=
  True

def algebraic_ProjGIdeal_ProjGRefIdeal [hProjGIdeal : Cert.ProjGIdeal.Facts] [hProjGRefIdeal : Cert.ProjGRefIdeal.Facts] : Prop :=
  ∀ (m : (ℓ : Loc Cert.ProjGIdeal.nD Cert.ProjGIdeal.τ Cert.ProjGIdeal.sig) → Buf (Elt Ideal) ℓ) (g : Dev Cert.ProjGIdeal.nD → PrngReg)
    (m' : (ℓ : Loc Cert.ProjGRefIdeal.nD Cert.ProjGRefIdeal.τ Cert.ProjGRefIdeal.sig) → Buf (Elt Ideal) ℓ) (g' : Dev Cert.ProjGRefIdeal.nD → PrngReg), Pre_ProjGIdeal m →
    (∀ c : Dev Cert.ProjGIdeal.nD,
      m' ((c.tc : Thread Cert.ProjGRefIdeal.nD Cert.ProjGRefIdeal.τ).loc Cert.ProjGRefIdeal.main_arg0) = m ((c.tc : Thread Cert.ProjGIdeal.nD Cert.ProjGIdeal.τ).loc Cert.ProjGIdeal.main_arg0)
      ∧ m' ((c.tc : Thread Cert.ProjGRefIdeal.nD Cert.ProjGRefIdeal.τ).loc Cert.ProjGRefIdeal.main_arg1) = m ((c.tc : Thread Cert.ProjGIdeal.nD Cert.ProjGIdeal.τ).loc Cert.ProjGIdeal.main_arg1)) →
    ∃ (v0 : (c : Dev Cert.ProjGIdeal.nD) → Buf (Elt Ideal) ((c.tc : Thread Cert.ProjGIdeal.nD Cert.ProjGIdeal.τ).loc Cert.ProjGIdeal.main_v0)),
      θ_run (Cert.ProjGIdeal.defs (F := Ideal)) (onTc (τ := Cert.ProjGIdeal.τ) (Cert.ProjGIdeal.main (F := Ideal))) ⟨m, fun _ => 0, g⟩ (fun r => ∀ c : Dev Cert.ProjGIdeal.nD,
          r.2.mem ((c.tc : Thread Cert.ProjGIdeal.nD Cert.ProjGIdeal.τ).loc Cert.ProjGIdeal.main_v0) = v0 c
          ∧ r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
          ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ θ_run (Cert.ProjGRefIdeal.defs (F := Ideal)) (onTc (τ := Cert.ProjGRefIdeal.τ) (Cert.ProjGRefIdeal.main (F := Ideal))) ⟨m', fun _ => 0, g'⟩ (fun r => ∀ c : Dev Cert.ProjGRefIdeal.nD,
          r.2.mem ((c.tc : Thread Cert.ProjGRefIdeal.nD Cert.ProjGRefIdeal.τ).loc Cert.ProjGRefIdeal.main_v3) = v0 c
          ∧ r.2.mem ((c.tc : Thread Cert.ProjGRefIdeal.nD Cert.ProjGRefIdeal.τ).loc Cert.ProjGRefIdeal.main_arg0) = m' ((c.tc : Thread Cert.ProjGRefIdeal.nD Cert.ProjGRefIdeal.τ).loc Cert.ProjGRefIdeal.main_arg0)
          ∧ r.2.mem ((c.tc : Thread Cert.ProjGRefIdeal.nD Cert.ProjGRefIdeal.τ).loc Cert.ProjGRefIdeal.main_arg1) = m' ((c.tc : Thread Cert.ProjGRefIdeal.nD Cert.ProjGRefIdeal.τ).loc Cert.ProjGRefIdeal.main_arg1))

def preserves_ProjBa_ProjBaIdeal : Prop :=
  True

def algebraic_ProjBaIdeal_ProjBaRefIdeal [hProjBaIdeal : Cert.ProjBaIdeal.Facts] [hProjBaRefIdeal : Cert.ProjBaRefIdeal.Facts] : Prop :=
  ∀ (m : (ℓ : Loc Cert.ProjBaIdeal.nD Cert.ProjBaIdeal.τ Cert.ProjBaIdeal.sig) → Buf (Elt Ideal) ℓ) (g : Dev Cert.ProjBaIdeal.nD → PrngReg)
    (m' : (ℓ : Loc Cert.ProjBaRefIdeal.nD Cert.ProjBaRefIdeal.τ Cert.ProjBaRefIdeal.sig) → Buf (Elt Ideal) ℓ) (g' : Dev Cert.ProjBaRefIdeal.nD → PrngReg), Pre_ProjBaIdeal m →
    (∀ c : Dev Cert.ProjBaIdeal.nD,
      m' ((c.tc : Thread Cert.ProjBaRefIdeal.nD Cert.ProjBaRefIdeal.τ).loc Cert.ProjBaRefIdeal.main_arg0) = m ((c.tc : Thread Cert.ProjBaIdeal.nD Cert.ProjBaIdeal.τ).loc Cert.ProjBaIdeal.main_arg0)
      ∧ m' ((c.tc : Thread Cert.ProjBaRefIdeal.nD Cert.ProjBaRefIdeal.τ).loc Cert.ProjBaRefIdeal.main_arg1) = m ((c.tc : Thread Cert.ProjBaIdeal.nD Cert.ProjBaIdeal.τ).loc Cert.ProjBaIdeal.main_arg1)) →
    ∃ (v0 : (c : Dev Cert.ProjBaIdeal.nD) → Buf (Elt Ideal) ((c.tc : Thread Cert.ProjBaIdeal.nD Cert.ProjBaIdeal.τ).loc Cert.ProjBaIdeal.main_v0)),
      θ_run (Cert.ProjBaIdeal.defs (F := Ideal)) (onTc (τ := Cert.ProjBaIdeal.τ) (Cert.ProjBaIdeal.main (F := Ideal))) ⟨m, fun _ => 0, g⟩ (fun r => ∀ c : Dev Cert.ProjBaIdeal.nD,
          r.2.mem ((c.tc : Thread Cert.ProjBaIdeal.nD Cert.ProjBaIdeal.τ).loc Cert.ProjBaIdeal.main_v0) = v0 c
          ∧ r.2.mem ((c.tc : Thread Cert.ProjBaIdeal.nD Cert.ProjBaIdeal.τ).loc Cert.ProjBaIdeal.main_arg0) = m ((c.tc : Thread Cert.ProjBaIdeal.nD Cert.ProjBaIdeal.τ).loc Cert.ProjBaIdeal.main_arg0)
          ∧ r.2.mem ((c.tc : Thread Cert.ProjBaIdeal.nD Cert.ProjBaIdeal.τ).loc Cert.ProjBaIdeal.main_arg1) = m ((c.tc : Thread Cert.ProjBaIdeal.nD Cert.ProjBaIdeal.τ).loc Cert.ProjBaIdeal.main_arg1))
      ∧ θ_run (Cert.ProjBaRefIdeal.defs (F := Ideal)) (onTc (τ := Cert.ProjBaRefIdeal.τ) (Cert.ProjBaRefIdeal.main (F := Ideal))) ⟨m', fun _ => 0, g'⟩ (fun r => ∀ c : Dev Cert.ProjBaRefIdeal.nD,
          r.2.mem ((c.tc : Thread Cert.ProjBaRefIdeal.nD Cert.ProjBaRefIdeal.τ).loc Cert.ProjBaRefIdeal.main_v2) = v0 c
          ∧ r.2.mem ((c.tc : Thread Cert.ProjBaRefIdeal.nD Cert.ProjBaRefIdeal.τ).loc Cert.ProjBaRefIdeal.main_arg0) = m' ((c.tc : Thread Cert.ProjBaRefIdeal.nD Cert.ProjBaRefIdeal.τ).loc Cert.ProjBaRefIdeal.main_arg0)
          ∧ r.2.mem ((c.tc : Thread Cert.ProjBaRefIdeal.nD Cert.ProjBaRefIdeal.τ).loc Cert.ProjBaRefIdeal.main_arg1) = m' ((c.tc : Thread Cert.ProjBaRefIdeal.nD Cert.ProjBaRefIdeal.τ).loc Cert.ProjBaRefIdeal.main_arg1))

def preserves_GwG_GwGIdeal : Prop :=
  True

def algebraic_GwGIdeal_GwGRefIdeal [hGwGIdeal : Cert.GwGIdeal.Facts] [hGwGRefIdeal : Cert.GwGRefIdeal.Facts] : Prop :=
  ∀ (m : (ℓ : Loc Cert.GwGIdeal.nD Cert.GwGIdeal.τ Cert.GwGIdeal.sig) → Buf (Elt Ideal) ℓ) (g : Dev Cert.GwGIdeal.nD → PrngReg)
    (m' : (ℓ : Loc Cert.GwGRefIdeal.nD Cert.GwGRefIdeal.τ Cert.GwGRefIdeal.sig) → Buf (Elt Ideal) ℓ) (g' : Dev Cert.GwGRefIdeal.nD → PrngReg), Pre_GwGIdeal m →
    (∀ c : Dev Cert.GwGIdeal.nD,
      m' ((c.tc : Thread Cert.GwGRefIdeal.nD Cert.GwGRefIdeal.τ).loc Cert.GwGRefIdeal.main_arg0) = m ((c.tc : Thread Cert.GwGIdeal.nD Cert.GwGIdeal.τ).loc Cert.GwGIdeal.main_arg0)
      ∧ m' ((c.tc : Thread Cert.GwGRefIdeal.nD Cert.GwGRefIdeal.τ).loc Cert.GwGRefIdeal.main_arg1) = m ((c.tc : Thread Cert.GwGIdeal.nD Cert.GwGIdeal.τ).loc Cert.GwGIdeal.main_arg1)) →
    ∃ (v0 : (c : Dev Cert.GwGIdeal.nD) → Buf (Elt Ideal) ((c.tc : Thread Cert.GwGIdeal.nD Cert.GwGIdeal.τ).loc Cert.GwGIdeal.main_v0)),
      θ_run (Cert.GwGIdeal.defs (F := Ideal)) (onTc (τ := Cert.GwGIdeal.τ) (Cert.GwGIdeal.main (F := Ideal))) ⟨m, fun _ => 0, g⟩ (fun r => ∀ c : Dev Cert.GwGIdeal.nD,
          r.2.mem ((c.tc : Thread Cert.GwGIdeal.nD Cert.GwGIdeal.τ).loc Cert.GwGIdeal.main_v0) = v0 c
          ∧ r.2.mem ((c.tc : Thread Cert.GwGIdeal.nD Cert.GwGIdeal.τ).loc Cert.GwGIdeal.main_arg0) = m ((c.tc : Thread Cert.GwGIdeal.nD Cert.GwGIdeal.τ).loc Cert.GwGIdeal.main_arg0)
          ∧ r.2.mem ((c.tc : Thread Cert.GwGIdeal.nD Cert.GwGIdeal.τ).loc Cert.GwGIdeal.main_arg1) = m ((c.tc : Thread Cert.GwGIdeal.nD Cert.GwGIdeal.τ).loc Cert.GwGIdeal.main_arg1))
      ∧ θ_run (Cert.GwGRefIdeal.defs (F := Ideal)) (onTc (τ := Cert.GwGRefIdeal.τ) (Cert.GwGRefIdeal.main (F := Ideal))) ⟨m', fun _ => 0, g'⟩ (fun r => ∀ c : Dev Cert.GwGRefIdeal.nD,
          r.2.mem ((c.tc : Thread Cert.GwGRefIdeal.nD Cert.GwGRefIdeal.τ).loc Cert.GwGRefIdeal.main_v6) = v0 c
          ∧ r.2.mem ((c.tc : Thread Cert.GwGRefIdeal.nD Cert.GwGRefIdeal.τ).loc Cert.GwGRefIdeal.main_arg0) = m' ((c.tc : Thread Cert.GwGRefIdeal.nD Cert.GwGRefIdeal.τ).loc Cert.GwGRefIdeal.main_arg0)
          ∧ r.2.mem ((c.tc : Thread Cert.GwGRefIdeal.nD Cert.GwGRefIdeal.τ).loc Cert.GwGRefIdeal.main_arg1) = m' ((c.tc : Thread Cert.GwGRefIdeal.nD Cert.GwGRefIdeal.τ).loc Cert.GwGRefIdeal.main_arg1))

def preserves_GwBa_GwBaIdeal : Prop :=
  True

def algebraic_GwBaIdeal_GwBaRefIdeal [hGwBaIdeal : Cert.GwBaIdeal.Facts] [hGwBaRefIdeal : Cert.GwBaRefIdeal.Facts] : Prop :=
  ∀ (m : (ℓ : Loc Cert.GwBaIdeal.nD Cert.GwBaIdeal.τ Cert.GwBaIdeal.sig) → Buf (Elt Ideal) ℓ) (g : Dev Cert.GwBaIdeal.nD → PrngReg)
    (m' : (ℓ : Loc Cert.GwBaRefIdeal.nD Cert.GwBaRefIdeal.τ Cert.GwBaRefIdeal.sig) → Buf (Elt Ideal) ℓ) (g' : Dev Cert.GwBaRefIdeal.nD → PrngReg), Pre_GwBaIdeal m →
    (∀ c : Dev Cert.GwBaIdeal.nD,
      m' ((c.tc : Thread Cert.GwBaRefIdeal.nD Cert.GwBaRefIdeal.τ).loc Cert.GwBaRefIdeal.main_arg0) = m ((c.tc : Thread Cert.GwBaIdeal.nD Cert.GwBaIdeal.τ).loc Cert.GwBaIdeal.main_arg0)
      ∧ m' ((c.tc : Thread Cert.GwBaRefIdeal.nD Cert.GwBaRefIdeal.τ).loc Cert.GwBaRefIdeal.main_arg1) = m ((c.tc : Thread Cert.GwBaIdeal.nD Cert.GwBaIdeal.τ).loc Cert.GwBaIdeal.main_arg1)) →
    ∃ (v0 : (c : Dev Cert.GwBaIdeal.nD) → Buf (Elt Ideal) ((c.tc : Thread Cert.GwBaIdeal.nD Cert.GwBaIdeal.τ).loc Cert.GwBaIdeal.main_v0)),
      θ_run (Cert.GwBaIdeal.defs (F := Ideal)) (onTc (τ := Cert.GwBaIdeal.τ) (Cert.GwBaIdeal.main (F := Ideal))) ⟨m, fun _ => 0, g⟩ (fun r => ∀ c : Dev Cert.GwBaIdeal.nD,
          r.2.mem ((c.tc : Thread Cert.GwBaIdeal.nD Cert.GwBaIdeal.τ).loc Cert.GwBaIdeal.main_v0) = v0 c
          ∧ r.2.mem ((c.tc : Thread Cert.GwBaIdeal.nD Cert.GwBaIdeal.τ).loc Cert.GwBaIdeal.main_arg0) = m ((c.tc : Thread Cert.GwBaIdeal.nD Cert.GwBaIdeal.τ).loc Cert.GwBaIdeal.main_arg0)
          ∧ r.2.mem ((c.tc : Thread Cert.GwBaIdeal.nD Cert.GwBaIdeal.τ).loc Cert.GwBaIdeal.main_arg1) = m ((c.tc : Thread Cert.GwBaIdeal.nD Cert.GwBaIdeal.τ).loc Cert.GwBaIdeal.main_arg1))
      ∧ θ_run (Cert.GwBaRefIdeal.defs (F := Ideal)) (onTc (τ := Cert.GwBaRefIdeal.τ) (Cert.GwBaRefIdeal.main (F := Ideal))) ⟨m', fun _ => 0, g'⟩ (fun r => ∀ c : Dev Cert.GwBaRefIdeal.nD,
          r.2.mem ((c.tc : Thread Cert.GwBaRefIdeal.nD Cert.GwBaRefIdeal.τ).loc Cert.GwBaRefIdeal.main_v6) = v0 c
          ∧ r.2.mem ((c.tc : Thread Cert.GwBaRefIdeal.nD Cert.GwBaRefIdeal.τ).loc Cert.GwBaRefIdeal.main_arg0) = m' ((c.tc : Thread Cert.GwBaRefIdeal.nD Cert.GwBaRefIdeal.τ).loc Cert.GwBaRefIdeal.main_arg0)
          ∧ r.2.mem ((c.tc : Thread Cert.GwBaRefIdeal.nD Cert.GwBaRefIdeal.τ).loc Cert.GwBaRefIdeal.main_arg1) = m' ((c.tc : Thread Cert.GwBaRefIdeal.nD Cert.GwBaRefIdeal.τ).loc Cert.GwBaRefIdeal.main_arg1))

def preserves_DH1Ba_DH1BaIdeal : Prop :=
  True

def algebraic_DH1BaIdeal_DH1BaRefIdeal [hDH1BaIdeal : Cert.DH1BaIdeal.Facts] [hDH1BaRefIdeal : Cert.DH1BaRefIdeal.Facts] : Prop :=
  ∀ (m : (ℓ : Loc Cert.DH1BaIdeal.nD Cert.DH1BaIdeal.τ Cert.DH1BaIdeal.sig) → Buf (Elt Ideal) ℓ) (g : Dev Cert.DH1BaIdeal.nD → PrngReg)
    (m' : (ℓ : Loc Cert.DH1BaRefIdeal.nD Cert.DH1BaRefIdeal.τ Cert.DH1BaRefIdeal.sig) → Buf (Elt Ideal) ℓ) (g' : Dev Cert.DH1BaRefIdeal.nD → PrngReg), Pre_DH1BaIdeal m →
    (∀ c : Dev Cert.DH1BaIdeal.nD,
      m' ((c.tc : Thread Cert.DH1BaRefIdeal.nD Cert.DH1BaRefIdeal.τ).loc Cert.DH1BaRefIdeal.main_arg0) = m ((c.tc : Thread Cert.DH1BaIdeal.nD Cert.DH1BaIdeal.τ).loc Cert.DH1BaIdeal.main_arg0)
      ∧ m' ((c.tc : Thread Cert.DH1BaRefIdeal.nD Cert.DH1BaRefIdeal.τ).loc Cert.DH1BaRefIdeal.main_arg1) = m ((c.tc : Thread Cert.DH1BaIdeal.nD Cert.DH1BaIdeal.τ).loc Cert.DH1BaIdeal.main_arg1)) →
    ∃ (v0 : (c : Dev Cert.DH1BaIdeal.nD) → Buf (Elt Ideal) ((c.tc : Thread Cert.DH1BaIdeal.nD Cert.DH1BaIdeal.τ).loc Cert.DH1BaIdeal.main_v0)),
      θ_run (Cert.DH1BaIdeal.defs (F := Ideal)) (onTc (τ := Cert.DH1BaIdeal.τ) (Cert.DH1BaIdeal.main (F := Ideal))) ⟨m, fun _ => 0, g⟩ (fun r => ∀ c : Dev Cert.DH1BaIdeal.nD,
          r.2.mem ((c.tc : Thread Cert.DH1BaIdeal.nD Cert.DH1BaIdeal.τ).loc Cert.DH1BaIdeal.main_v0) = v0 c
          ∧ r.2.mem ((c.tc : Thread Cert.DH1BaIdeal.nD Cert.DH1BaIdeal.τ).loc Cert.DH1BaIdeal.main_arg0) = m ((c.tc : Thread Cert.DH1BaIdeal.nD Cert.DH1BaIdeal.τ).loc Cert.DH1BaIdeal.main_arg0)
          ∧ r.2.mem ((c.tc : Thread Cert.DH1BaIdeal.nD Cert.DH1BaIdeal.τ).loc Cert.DH1BaIdeal.main_arg1) = m ((c.tc : Thread Cert.DH1BaIdeal.nD Cert.DH1BaIdeal.τ).loc Cert.DH1BaIdeal.main_arg1))
      ∧ θ_run (Cert.DH1BaRefIdeal.defs (F := Ideal)) (onTc (τ := Cert.DH1BaRefIdeal.τ) (Cert.DH1BaRefIdeal.main (F := Ideal))) ⟨m', fun _ => 0, g'⟩ (fun r => ∀ c : Dev Cert.DH1BaRefIdeal.nD,
          r.2.mem ((c.tc : Thread Cert.DH1BaRefIdeal.nD Cert.DH1BaRefIdeal.τ).loc Cert.DH1BaRefIdeal.main_v4) = v0 c
          ∧ r.2.mem ((c.tc : Thread Cert.DH1BaRefIdeal.nD Cert.DH1BaRefIdeal.τ).loc Cert.DH1BaRefIdeal.main_arg0) = m' ((c.tc : Thread Cert.DH1BaRefIdeal.nD Cert.DH1BaRefIdeal.τ).loc Cert.DH1BaRefIdeal.main_arg0)
          ∧ r.2.mem ((c.tc : Thread Cert.DH1BaRefIdeal.nD Cert.DH1BaRefIdeal.τ).loc Cert.DH1BaRefIdeal.main_arg1) = m' ((c.tc : Thread Cert.DH1BaRefIdeal.nD Cert.DH1BaRefIdeal.τ).loc Cert.DH1BaRefIdeal.main_arg1))

def preserves_DH1Z_DH1ZIdeal : Prop :=
  True

def algebraic_DH1ZIdeal_DH1ZRefIdeal [hDH1ZIdeal : Cert.DH1ZIdeal.Facts] [hDH1ZRefIdeal : Cert.DH1ZRefIdeal.Facts] : Prop :=
  ∀ (m : (ℓ : Loc Cert.DH1ZIdeal.nD Cert.DH1ZIdeal.τ Cert.DH1ZIdeal.sig) → Buf (Elt Ideal) ℓ) (g : Dev Cert.DH1ZIdeal.nD → PrngReg)
    (m' : (ℓ : Loc Cert.DH1ZRefIdeal.nD Cert.DH1ZRefIdeal.τ Cert.DH1ZRefIdeal.sig) → Buf (Elt Ideal) ℓ) (g' : Dev Cert.DH1ZRefIdeal.nD → PrngReg), Pre_DH1ZIdeal m →
    (∀ c : Dev Cert.DH1ZIdeal.nD,
      m' ((c.tc : Thread Cert.DH1ZRefIdeal.nD Cert.DH1ZRefIdeal.τ).loc Cert.DH1ZRefIdeal.main_arg0) = m ((c.tc : Thread Cert.DH1ZIdeal.nD Cert.DH1ZIdeal.τ).loc Cert.DH1ZIdeal.main_arg0)
      ∧ m' ((c.tc : Thread Cert.DH1ZRefIdeal.nD Cert.DH1ZRefIdeal.τ).loc Cert.DH1ZRefIdeal.main_arg1) = m ((c.tc : Thread Cert.DH1ZIdeal.nD Cert.DH1ZIdeal.τ).loc Cert.DH1ZIdeal.main_arg1)
      ∧ m' ((c.tc : Thread Cert.DH1ZRefIdeal.nD Cert.DH1ZRefIdeal.τ).loc Cert.DH1ZRefIdeal.main_arg2) = m ((c.tc : Thread Cert.DH1ZIdeal.nD Cert.DH1ZIdeal.τ).loc Cert.DH1ZIdeal.main_arg2)) →
    ∃ (v0 : (c : Dev Cert.DH1ZIdeal.nD) → Buf (Elt Ideal) ((c.tc : Thread Cert.DH1ZIdeal.nD Cert.DH1ZIdeal.τ).loc Cert.DH1ZIdeal.main_v0)),
      θ_run (Cert.DH1ZIdeal.defs (F := Ideal)) (onTc (τ := Cert.DH1ZIdeal.τ) (Cert.DH1ZIdeal.main (F := Ideal))) ⟨m, fun _ => 0, g⟩ (fun r => ∀ c : Dev Cert.DH1ZIdeal.nD,
          r.2.mem ((c.tc : Thread Cert.DH1ZIdeal.nD Cert.DH1ZIdeal.τ).loc Cert.DH1ZIdeal.main_v0) = v0 c
          ∧ r.2.mem ((c.tc : Thread Cert.DH1ZIdeal.nD Cert.DH1ZIdeal.τ).loc Cert.DH1ZIdeal.main_arg0) = m ((c.tc : Thread Cert.DH1ZIdeal.nD Cert.DH1ZIdeal.τ).loc Cert.DH1ZIdeal.main_arg0)
          ∧ r.2.mem ((c.tc : Thread Cert.DH1ZIdeal.nD Cert.DH1ZIdeal.τ).loc Cert.DH1ZIdeal.main_arg1) = m ((c.tc : Thread Cert.DH1ZIdeal.nD Cert.DH1ZIdeal.τ).loc Cert.DH1ZIdeal.main_arg1)
          ∧ r.2.mem ((c.tc : Thread Cert.DH1ZIdeal.nD Cert.DH1ZIdeal.τ).loc Cert.DH1ZIdeal.main_arg2) = m ((c.tc : Thread Cert.DH1ZIdeal.nD Cert.DH1ZIdeal.τ).loc Cert.DH1ZIdeal.main_arg2))
      ∧ θ_run (Cert.DH1ZRefIdeal.defs (F := Ideal)) (onTc (τ := Cert.DH1ZRefIdeal.τ) (Cert.DH1ZRefIdeal.main (F := Ideal))) ⟨m', fun _ => 0, g'⟩ (fun r => ∀ c : Dev Cert.DH1ZRefIdeal.nD,
          r.2.mem ((c.tc : Thread Cert.DH1ZRefIdeal.nD Cert.DH1ZRefIdeal.τ).loc Cert.DH1ZRefIdeal.main_v5) = v0 c
          ∧ r.2.mem ((c.tc : Thread Cert.DH1ZRefIdeal.nD Cert.DH1ZRefIdeal.τ).loc Cert.DH1ZRefIdeal.main_arg0) = m' ((c.tc : Thread Cert.DH1ZRefIdeal.nD Cert.DH1ZRefIdeal.τ).loc Cert.DH1ZRefIdeal.main_arg0)
          ∧ r.2.mem ((c.tc : Thread Cert.DH1ZRefIdeal.nD Cert.DH1ZRefIdeal.τ).loc Cert.DH1ZRefIdeal.main_arg1) = m' ((c.tc : Thread Cert.DH1ZRefIdeal.nD Cert.DH1ZRefIdeal.τ).loc Cert.DH1ZRefIdeal.main_arg1)
          ∧ r.2.mem ((c.tc : Thread Cert.DH1ZRefIdeal.nD Cert.DH1ZRefIdeal.τ).loc Cert.DH1ZRefIdeal.main_arg2) = m' ((c.tc : Thread Cert.DH1ZRefIdeal.nD Cert.DH1ZRefIdeal.τ).loc Cert.DH1ZRefIdeal.main_arg2))

def preserves_DH1G_DH1GIdeal : Prop :=
  True

def algebraic_DH1GIdeal_DH1GRefIdeal [hDH1GIdeal : Cert.DH1GIdeal.Facts] [hDH1GRefIdeal : Cert.DH1GRefIdeal.Facts] : Prop :=
  ∀ (m : (ℓ : Loc Cert.DH1GIdeal.nD Cert.DH1GIdeal.τ Cert.DH1GIdeal.sig) → Buf (Elt Ideal) ℓ) (g : Dev Cert.DH1GIdeal.nD → PrngReg)
    (m' : (ℓ : Loc Cert.DH1GRefIdeal.nD Cert.DH1GRefIdeal.τ Cert.DH1GRefIdeal.sig) → Buf (Elt Ideal) ℓ) (g' : Dev Cert.DH1GRefIdeal.nD → PrngReg), Pre_DH1GIdeal m →
    (∀ c : Dev Cert.DH1GIdeal.nD,
      m' ((c.tc : Thread Cert.DH1GRefIdeal.nD Cert.DH1GRefIdeal.τ).loc Cert.DH1GRefIdeal.main_arg0) = m ((c.tc : Thread Cert.DH1GIdeal.nD Cert.DH1GIdeal.τ).loc Cert.DH1GIdeal.main_arg0)
      ∧ m' ((c.tc : Thread Cert.DH1GRefIdeal.nD Cert.DH1GRefIdeal.τ).loc Cert.DH1GRefIdeal.main_arg1) = m ((c.tc : Thread Cert.DH1GIdeal.nD Cert.DH1GIdeal.τ).loc Cert.DH1GIdeal.main_arg1)
      ∧ m' ((c.tc : Thread Cert.DH1GRefIdeal.nD Cert.DH1GRefIdeal.τ).loc Cert.DH1GRefIdeal.main_arg2) = m ((c.tc : Thread Cert.DH1GIdeal.nD Cert.DH1GIdeal.τ).loc Cert.DH1GIdeal.main_arg2)) →
    ∃ (v0 : (c : Dev Cert.DH1GIdeal.nD) → Buf (Elt Ideal) ((c.tc : Thread Cert.DH1GIdeal.nD Cert.DH1GIdeal.τ).loc Cert.DH1GIdeal.main_v0)),
      θ_run (Cert.DH1GIdeal.defs (F := Ideal)) (onTc (τ := Cert.DH1GIdeal.τ) (Cert.DH1GIdeal.main (F := Ideal))) ⟨m, fun _ => 0, g⟩ (fun r => ∀ c : Dev Cert.DH1GIdeal.nD,
          r.2.mem ((c.tc : Thread Cert.DH1GIdeal.nD Cert.DH1GIdeal.τ).loc Cert.DH1GIdeal.main_v0) = v0 c
          ∧ r.2.mem ((c.tc : Thread Cert.DH1GIdeal.nD Cert.DH1GIdeal.τ).loc Cert.DH1GIdeal.main_arg0) = m ((c.tc : Thread Cert.DH1GIdeal.nD Cert.DH1GIdeal.τ).loc Cert.DH1GIdeal.main_arg0)
          ∧ r.2.mem ((c.tc : Thread Cert.DH1GIdeal.nD Cert.DH1GIdeal.τ).loc Cert.DH1GIdeal.main_arg1) = m ((c.tc : Thread Cert.DH1GIdeal.nD Cert.DH1GIdeal.τ).loc Cert.DH1GIdeal.main_arg1)
          ∧ r.2.mem ((c.tc : Thread Cert.DH1GIdeal.nD Cert.DH1GIdeal.τ).loc Cert.DH1GIdeal.main_arg2) = m ((c.tc : Thread Cert.DH1GIdeal.nD Cert.DH1GIdeal.τ).loc Cert.DH1GIdeal.main_arg2))
      ∧ θ_run (Cert.DH1GRefIdeal.defs (F := Ideal)) (onTc (τ := Cert.DH1GRefIdeal.τ) (Cert.DH1GRefIdeal.main (F := Ideal))) ⟨m', fun _ => 0, g'⟩ (fun r => ∀ c : Dev Cert.DH1GRefIdeal.nD,
          r.2.mem ((c.tc : Thread Cert.DH1GRefIdeal.nD Cert.DH1GRefIdeal.τ).loc Cert.DH1GRefIdeal.main_v5) = v0 c
          ∧ r.2.mem ((c.tc : Thread Cert.DH1GRefIdeal.nD Cert.DH1GRefIdeal.τ).loc Cert.DH1GRefIdeal.main_arg0) = m' ((c.tc : Thread Cert.DH1GRefIdeal.nD Cert.DH1GRefIdeal.τ).loc Cert.DH1GRefIdeal.main_arg0)
          ∧ r.2.mem ((c.tc : Thread Cert.DH1GRefIdeal.nD Cert.DH1GRefIdeal.τ).loc Cert.DH1GRefIdeal.main_arg1) = m' ((c.tc : Thread Cert.DH1GRefIdeal.nD Cert.DH1GRefIdeal.τ).loc Cert.DH1GRefIdeal.main_arg1)
          ∧ r.2.mem ((c.tc : Thread Cert.DH1GRefIdeal.nD Cert.DH1GRefIdeal.τ).loc Cert.DH1GRefIdeal.main_arg2) = m' ((c.tc : Thread Cert.DH1GRefIdeal.nD Cert.DH1GRefIdeal.τ).loc Cert.DH1GRefIdeal.main_arg2))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)) →
    ∃ (v0 : (c : Dev Cert.AdaBwdIdeal.nD) → Buf (Elt Ideal) ((c.tc : Thread Cert.AdaBwdIdeal.nD Cert.AdaBwdIdeal.τ).loc Cert.AdaBwdIdeal.main_v0)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v7) = v0 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v3) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v23) = v0 c
          ∧ r.2.mem ((c.tc : Thread Cert.AdamAdaRefIdeal.nD Cert.AdamAdaRefIdeal.τ).loc Cert.AdamAdaRefIdeal.main_v4) = v1 c
          ∧ r.2.mem ((c.tc : Thread Cert.AdamAdaRefIdeal.nD Cert.AdamAdaRefIdeal.τ).loc Cert.AdamAdaRefIdeal.main_v10) = v2 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v23) = v0 c
          ∧ r.2.mem ((c.tc : Thread Cert.AdamSquareRefIdeal.nD Cert.AdamSquareRefIdeal.τ).loc Cert.AdamSquareRefIdeal.main_v4) = v1 c
          ∧ r.2.mem ((c.tc : Thread Cert.AdamSquareRefIdeal.nD Cert.AdamSquareRefIdeal.τ).loc Cert.AdamSquareRefIdeal.main_v10) = v2 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_PairSquare_PairSquareIdeal : Prop :=
  True

def algebraic_PairSquareIdeal_PairSquareRefIdeal [hPairSquareIdeal : Cert.PairSquareIdeal.Facts] [hPairSquareRefIdeal : Cert.PairSquareRefIdeal.Facts] : Prop :=
  ∀ (m : (ℓ : Loc Cert.PairSquareIdeal.nD Cert.PairSquareIdeal.τ Cert.PairSquareIdeal.sig) → Buf (Elt Ideal) ℓ) (g : Dev Cert.PairSquareIdeal.nD → PrngReg)
    (m' : (ℓ : Loc Cert.PairSquareRefIdeal.nD Cert.PairSquareRefIdeal.τ Cert.PairSquareRefIdeal.sig) → Buf (Elt Ideal) ℓ) (g' : Dev Cert.PairSquareRefIdeal.nD → PrngReg), Pre_PairSquareIdeal m →
    (∀ c : Dev Cert.PairSquareIdeal.nD,
      m' ((c.tc : Thread Cert.PairSquareRefIdeal.nD Cert.PairSquareRefIdeal.τ).loc Cert.PairSquareRefIdeal.main_arg0) = m ((c.tc : Thread Cert.PairSquareIdeal.nD Cert.PairSquareIdeal.τ).loc Cert.PairSquareIdeal.main_arg0)
      ∧ m' ((c.tc : Thread Cert.PairSquareRefIdeal.nD Cert.PairSquareRefIdeal.τ).loc Cert.PairSquareRefIdeal.main_arg1) = m ((c.tc : Thread Cert.PairSquareIdeal.nD Cert.PairSquareIdeal.τ).loc Cert.PairSquareIdeal.main_arg1)) →
    ∃ (v0 : (c : Dev Cert.PairSquareIdeal.nD) → Buf (Elt Ideal) ((c.tc : Thread Cert.PairSquareIdeal.nD Cert.PairSquareIdeal.τ).loc Cert.PairSquareIdeal.main_v0)),
      θ_run (Cert.PairSquareIdeal.defs (F := Ideal)) (onTc (τ := Cert.PairSquareIdeal.τ) (Cert.PairSquareIdeal.main (F := Ideal))) ⟨m, fun _ => 0, g⟩ (fun r => ∀ c : Dev Cert.PairSquareIdeal.nD,
          r.2.mem ((c.tc : Thread Cert.PairSquareIdeal.nD Cert.PairSquareIdeal.τ).loc Cert.PairSquareIdeal.main_v0) = v0 c
          ∧ r.2.mem ((c.tc : Thread Cert.PairSquareIdeal.nD Cert.PairSquareIdeal.τ).loc Cert.PairSquareIdeal.main_arg0) = m ((c.tc : Thread Cert.PairSquareIdeal.nD Cert.PairSquareIdeal.τ).loc Cert.PairSquareIdeal.main_arg0)
          ∧ r.2.mem ((c.tc : Thread Cert.PairSquareIdeal.nD Cert.PairSquareIdeal.τ).loc Cert.PairSquareIdeal.main_arg1) = m ((c.tc : Thread Cert.PairSquareIdeal.nD Cert.PairSquareIdeal.τ).loc Cert.PairSquareIdeal.main_arg1))
      ∧ θ_run (Cert.PairSquareRefIdeal.defs (F := Ideal)) (onTc (τ := Cert.PairSquareRefIdeal.τ) (Cert.PairSquareRefIdeal.main (F := Ideal))) ⟨m', fun _ => 0, g'⟩ (fun r => ∀ c : Dev Cert.PairSquareRefIdeal.nD,
          r.2.mem ((c.tc : Thread Cert.PairSquareRefIdeal.nD Cert.PairSquareRefIdeal.τ).loc Cert.PairSquareRefIdeal.main_v3) = v0 c
          ∧ r.2.mem ((c.tc : Thread Cert.PairSquareRefIdeal.nD Cert.PairSquareRefIdeal.τ).loc Cert.PairSquareRefIdeal.main_arg0) = m' ((c.tc : Thread Cert.PairSquareRefIdeal.nD Cert.PairSquareRefIdeal.τ).loc Cert.PairSquareRefIdeal.main_arg0)
          ∧ r.2.mem ((c.tc : Thread Cert.PairSquareRefIdeal.nD Cert.PairSquareRefIdeal.τ).loc Cert.PairSquareRefIdeal.main_arg1) = m' ((c.tc : Thread Cert.PairSquareRefIdeal.nD Cert.PairSquareRefIdeal.τ).loc Cert.PairSquareRefIdeal.main_arg1))

def preserves_PairUp_PairUpIdeal : Prop :=
  True

def algebraic_PairUpIdeal_PairUpRefIdeal [hPairUpIdeal : Cert.PairUpIdeal.Facts] [hPairUpRefIdeal : Cert.PairUpRefIdeal.Facts] : Prop :=
  ∀ (m : (ℓ : Loc Cert.PairUpIdeal.nD Cert.PairUpIdeal.τ Cert.PairUpIdeal.sig) → Buf (Elt Ideal) ℓ) (g : Dev Cert.PairUpIdeal.nD → PrngReg)
    (m' : (ℓ : Loc Cert.PairUpRefIdeal.nD Cert.PairUpRefIdeal.τ Cert.PairUpRefIdeal.sig) → Buf (Elt Ideal) ℓ) (g' : Dev Cert.PairUpRefIdeal.nD → PrngReg), Pre_PairUpIdeal m →
    (∀ c : Dev Cert.PairUpIdeal.nD,
      m' ((c.tc : Thread Cert.PairUpRefIdeal.nD Cert.PairUpRefIdeal.τ).loc Cert.PairUpRefIdeal.main_arg0) = m ((c.tc : Thread Cert.PairUpIdeal.nD Cert.PairUpIdeal.τ).loc Cert.PairUpIdeal.main_arg0)
      ∧ m' ((c.tc : Thread Cert.PairUpRefIdeal.nD Cert.PairUpRefIdeal.τ).loc Cert.PairUpRefIdeal.main_arg1) = m ((c.tc : Thread Cert.PairUpIdeal.nD Cert.PairUpIdeal.τ).loc Cert.PairUpIdeal.main_arg1)) →
    ∃ (v0 : (c : Dev Cert.PairUpIdeal.nD) → Buf (Elt Ideal) ((c.tc : Thread Cert.PairUpIdeal.nD Cert.PairUpIdeal.τ).loc Cert.PairUpIdeal.main_v0)),
      θ_run (Cert.PairUpIdeal.defs (F := Ideal)) (onTc (τ := Cert.PairUpIdeal.τ) (Cert.PairUpIdeal.main (F := Ideal))) ⟨m, fun _ => 0, g⟩ (fun r => ∀ c : Dev Cert.PairUpIdeal.nD,
          r.2.mem ((c.tc : Thread Cert.PairUpIdeal.nD Cert.PairUpIdeal.τ).loc Cert.PairUpIdeal.main_v0) = v0 c
          ∧ r.2.mem ((c.tc : Thread Cert.PairUpIdeal.nD Cert.PairUpIdeal.τ).loc Cert.PairUpIdeal.main_arg0) = m ((c.tc : Thread Cert.PairUpIdeal.nD Cert.PairUpIdeal.τ).loc Cert.PairUpIdeal.main_arg0)
          ∧ r.2.mem ((c.tc : Thread Cert.PairUpIdeal.nD Cert.PairUpIdeal.τ).loc Cert.PairUpIdeal.main_arg1) = m ((c.tc : Thread Cert.PairUpIdeal.nD Cert.PairUpIdeal.τ).loc Cert.PairUpIdeal.main_arg1))
      ∧ θ_run (Cert.PairUpRefIdeal.defs (F := Ideal)) (onTc (τ := Cert.PairUpRefIdeal.τ) (Cert.PairUpRefIdeal.main (F := Ideal))) ⟨m', fun _ => 0, g'⟩ (fun r => ∀ c : Dev Cert.PairUpRefIdeal.nD,
          r.2.mem ((c.tc : Thread Cert.PairUpRefIdeal.nD Cert.PairUpRefIdeal.τ).loc Cert.PairUpRefIdeal.main_v3) = v0 c
          ∧ r.2.mem ((c.tc : Thread Cert.PairUpRefIdeal.nD Cert.PairUpRefIdeal.τ).loc Cert.PairUpRefIdeal.main_arg0) = m' ((c.tc : Thread Cert.PairUpRefIdeal.nD Cert.PairUpRefIdeal.τ).loc Cert.PairUpRefIdeal.main_arg0)
          ∧ r.2.mem ((c.tc : Thread Cert.PairUpRefIdeal.nD Cert.PairUpRefIdeal.τ).loc Cert.PairUpRefIdeal.main_arg1) = m' ((c.tc : Thread Cert.PairUpRefIdeal.nD Cert.PairUpRefIdeal.τ).loc Cert.PairUpRefIdeal.main_arg1))

def preserves_PairDown_PairDownIdeal : Prop :=
  True

def algebraic_PairDownIdeal_PairDownRefIdeal [hPairDownIdeal : Cert.PairDownIdeal.Facts] [hPairDownRefIdeal : Cert.PairDownRefIdeal.Facts] : Prop :=
  ∀ (m : (ℓ : Loc Cert.PairDownIdeal.nD Cert.PairDownIdeal.τ Cert.PairDownIdeal.sig) → Buf (Elt Ideal) ℓ) (g : Dev Cert.PairDownIdeal.nD → PrngReg)
    (m' : (ℓ : Loc Cert.PairDownRefIdeal.nD Cert.PairDownRefIdeal.τ Cert.PairDownRefIdeal.sig) → Buf (Elt Ideal) ℓ) (g' : Dev Cert.PairDownRefIdeal.nD → PrngReg), Pre_PairDownIdeal m →
    (∀ c : Dev Cert.PairDownIdeal.nD,
      m' ((c.tc : Thread Cert.PairDownRefIdeal.nD Cert.PairDownRefIdeal.τ).loc Cert.PairDownRefIdeal.main_arg0) = m ((c.tc : Thread Cert.PairDownIdeal.nD Cert.PairDownIdeal.τ).loc Cert.PairDownIdeal.main_arg0)
      ∧ m' ((c.tc : Thread Cert.PairDownRefIdeal.nD Cert.PairDownRefIdeal.τ).loc Cert.PairDownRefIdeal.main_arg1) = m ((c.tc : Thread Cert.PairDownIdeal.nD Cert.PairDownIdeal.τ).loc Cert.PairDownIdeal.main_arg1)) →
    ∃ (v0 : (c : Dev Cert.PairDownIdeal.nD) → Buf (Elt Ideal) ((c.tc : Thread Cert.PairDownIdeal.nD Cert.PairDownIdeal.τ).loc Cert.PairDownIdeal.main_v0)),
      θ_run (Cert.PairDownIdeal.defs (F := Ideal)) (onTc (τ := Cert.PairDownIdeal.τ) (Cert.PairDownIdeal.main (F := Ideal))) ⟨m, fun _ => 0, g⟩ (fun r => ∀ c : Dev Cert.PairDownIdeal.nD,
          r.2.mem ((c.tc : Thread Cert.PairDownIdeal.nD Cert.PairDownIdeal.τ).loc Cert.PairDownIdeal.main_v0) = v0 c
          ∧ r.2.mem ((c.tc : Thread Cert.PairDownIdeal.nD Cert.PairDownIdeal.τ).loc Cert.PairDownIdeal.main_arg0) = m ((c.tc : Thread Cert.PairDownIdeal.nD Cert.PairDownIdeal.τ).loc Cert.PairDownIdeal.main_arg0)
          ∧ r.2.mem ((c.tc : Thread Cert.PairDownIdeal.nD Cert.PairDownIdeal.τ).loc Cert.PairDownIdeal.main_arg1) = m ((c.tc : Thread Cert.PairDownIdeal.nD Cert.PairDownIdeal.τ).loc Cert.PairDownIdeal.main_arg1))
      ∧ θ_run (Cert.PairDownRefIdeal.defs (F := Ideal)) (onTc (τ := Cert.PairDownRefIdeal.τ) (Cert.PairDownRefIdeal.main (F := Ideal))) ⟨m', fun _ => 0, g'⟩ (fun r => ∀ c : Dev Cert.PairDownRefIdeal.nD,
          r.2.mem ((c.tc : Thread Cert.PairDownRefIdeal.nD Cert.PairDownRefIdeal.τ).loc Cert.PairDownRefIdeal.main_v3) = v0 c
          ∧ r.2.mem ((c.tc : Thread Cert.PairDownRefIdeal.nD Cert.PairDownRefIdeal.τ).loc Cert.PairDownRefIdeal.main_arg0) = m' ((c.tc : Thread Cert.PairDownRefIdeal.nD Cert.PairDownRefIdeal.τ).loc Cert.PairDownRefIdeal.main_arg0)
          ∧ r.2.mem ((c.tc : Thread Cert.PairDownRefIdeal.nD Cert.PairDownRefIdeal.τ).loc Cert.PairDownRefIdeal.main_arg1) = m' ((c.tc : Thread Cert.PairDownRefIdeal.nD Cert.PairDownRefIdeal.τ).loc Cert.PairDownRefIdeal.main_arg1))

def preserves_PairIn_PairInIdeal : Prop :=
  True

def algebraic_PairInIdeal_PairInRefIdeal [hPairInIdeal : Cert.PairInIdeal.Facts] [hPairInRefIdeal : Cert.PairInRefIdeal.Facts] : Prop :=
  ∀ (m : (ℓ : Loc Cert.PairInIdeal.nD Cert.PairInIdeal.τ Cert.PairInIdeal.sig) → Buf (Elt Ideal) ℓ) (g : Dev Cert.PairInIdeal.nD → PrngReg)
    (m' : (ℓ : Loc Cert.PairInRefIdeal.nD Cert.PairInRefIdeal.τ Cert.PairInRefIdeal.sig) → Buf (Elt Ideal) ℓ) (g' : Dev Cert.PairInRefIdeal.nD → PrngReg), Pre_PairInIdeal m →
    (∀ c : Dev Cert.PairInIdeal.nD,
      m' ((c.tc : Thread Cert.PairInRefIdeal.nD Cert.PairInRefIdeal.τ).loc Cert.PairInRefIdeal.main_arg0) = m ((c.tc : Thread Cert.PairInIdeal.nD Cert.PairInIdeal.τ).loc Cert.PairInIdeal.main_arg0)
      ∧ m' ((c.tc : Thread Cert.PairInRefIdeal.nD Cert.PairInRefIdeal.τ).loc Cert.PairInRefIdeal.main_arg1) = m ((c.tc : Thread Cert.PairInIdeal.nD Cert.PairInIdeal.τ).loc Cert.PairInIdeal.main_arg1)) →
    ∃ (v0 : (c : Dev Cert.PairInIdeal.nD) → Buf (Elt Ideal) ((c.tc : Thread Cert.PairInIdeal.nD Cert.PairInIdeal.τ).loc Cert.PairInIdeal.main_v0)),
      θ_run (Cert.PairInIdeal.defs (F := Ideal)) (onTc (τ := Cert.PairInIdeal.τ) (Cert.PairInIdeal.main (F := Ideal))) ⟨m, fun _ => 0, g⟩ (fun r => ∀ c : Dev Cert.PairInIdeal.nD,
          r.2.mem ((c.tc : Thread Cert.PairInIdeal.nD Cert.PairInIdeal.τ).loc Cert.PairInIdeal.main_v0) = v0 c
          ∧ r.2.mem ((c.tc : Thread Cert.PairInIdeal.nD Cert.PairInIdeal.τ).loc Cert.PairInIdeal.main_arg0) = m ((c.tc : Thread Cert.PairInIdeal.nD Cert.PairInIdeal.τ).loc Cert.PairInIdeal.main_arg0)
          ∧ r.2.mem ((c.tc : Thread Cert.PairInIdeal.nD Cert.PairInIdeal.τ).loc Cert.PairInIdeal.main_arg1) = m ((c.tc : Thread Cert.PairInIdeal.nD Cert.PairInIdeal.τ).loc Cert.PairInIdeal.main_arg1))
      ∧ θ_run (Cert.PairInRefIdeal.defs (F := Ideal)) (onTc (τ := Cert.PairInRefIdeal.τ) (Cert.PairInRefIdeal.main (F := Ideal))) ⟨m', fun _ => 0, g'⟩ (fun r => ∀ c : Dev Cert.PairInRefIdeal.nD,
          r.2.mem ((c.tc : Thread Cert.PairInRefIdeal.nD Cert.PairInRefIdeal.τ).loc Cert.PairInRefIdeal.main_v3) = v0 c
          ∧ r.2.mem ((c.tc : Thread Cert.PairInRefIdeal.nD Cert.PairInRefIdeal.τ).loc Cert.PairInRefIdeal.main_arg0) = m' ((c.tc : Thread Cert.PairInRefIdeal.nD Cert.PairInRefIdeal.τ).loc Cert.PairInRefIdeal.main_arg0)
          ∧ r.2.mem ((c.tc : Thread Cert.PairInRefIdeal.nD Cert.PairInRefIdeal.τ).loc Cert.PairInRefIdeal.main_arg1) = m' ((c.tc : Thread Cert.PairInRefIdeal.nD Cert.PairInRefIdeal.τ).loc Cert.PairInRefIdeal.main_arg1))

def preserves_SumSquare_SumSquareIdeal : Prop :=
  True

def algebraic_SumSquareIdeal_SumSquareRefIdeal [hSumSquareIdeal : Cert.SumSquareIdeal.Facts] [hSumSquareRefIdeal : Cert.SumSquareRefIdeal.Facts] : Prop :=
  ∀ (m : (ℓ : Loc Cert.SumSquareIdeal.nD Cert.SumSquareIdeal.τ Cert.SumSquareIdeal.sig) → Buf (Elt Ideal) ℓ) (g : Dev Cert.SumSquareIdeal.nD → PrngReg)
    (m' : (ℓ : Loc Cert.SumSquareRefIdeal.nD Cert.SumSquareRefIdeal.τ Cert.SumSquareRefIdeal.sig) → Buf (Elt Ideal) ℓ) (g' : Dev Cert.SumSquareRefIdeal.nD → PrngReg), Pre_SumSquareIdeal m →
    (∀ c : Dev Cert.SumSquareIdeal.nD,
      m' ((c.tc : Thread Cert.SumSquareRefIdeal.nD Cert.SumSquareRefIdeal.τ).loc Cert.SumSquareRefIdeal.main_arg0) = m ((c.tc : Thread Cert.SumSquareIdeal.nD Cert.SumSquareIdeal.τ).loc Cert.SumSquareIdeal.main_arg0)) →
    ∃ (v0 : (c : Dev Cert.SumSquareIdeal.nD) → Buf (Elt Ideal) ((c.tc : Thread Cert.SumSquareIdeal.nD Cert.SumSquareIdeal.τ).loc Cert.SumSquareIdeal.main_v0)),
      θ_run (Cert.SumSquareIdeal.defs (F := Ideal)) (onTc (τ := Cert.SumSquareIdeal.τ) (Cert.SumSquareIdeal.main (F := Ideal))) ⟨m, fun _ => 0, g⟩ (fun r => ∀ c : Dev Cert.SumSquareIdeal.nD,
          r.2.mem ((c.tc : Thread Cert.SumSquareIdeal.nD Cert.SumSquareIdeal.τ).loc Cert.SumSquareIdeal.main_v0) = v0 c
          ∧ r.2.mem ((c.tc : Thread Cert.SumSquareIdeal.nD Cert.SumSquareIdeal.τ).loc Cert.SumSquareIdeal.main_arg0) = m ((c.tc : Thread Cert.SumSquareIdeal.nD Cert.SumSquareIdeal.τ).loc Cert.SumSquareIdeal.main_arg0))
      ∧ θ_run (Cert.SumSquareRefIdeal.defs (F := Ideal)) (onTc (τ := Cert.SumSquareRefIdeal.τ) (Cert.SumSquareRefIdeal.main (F := Ideal))) ⟨m', fun _ => 0, g'⟩ (fun r => ∀ c : Dev Cert.SumSquareRefIdeal.nD,
          r.2.mem ((c.tc : Thread Cert.SumSquareRefIdeal.nD Cert.SumSquareRefIdeal.τ).loc Cert.SumSquareRefIdeal.main_v1) = v0 c
          ∧ r.2.mem ((c.tc : Thread Cert.SumSquareRefIdeal.nD Cert.SumSquareRefIdeal.τ).loc Cert.SumSquareRefIdeal.main_arg0) = m' ((c.tc : Thread Cert.SumSquareRefIdeal.nD Cert.SumSquareRefIdeal.τ).loc Cert.SumSquareRefIdeal.main_arg0))

def preserves_SumUp_SumUpIdeal : Prop :=
  True

def algebraic_SumUpIdeal_SumUpRefIdeal [hSumUpIdeal : Cert.SumUpIdeal.Facts] [hSumUpRefIdeal : Cert.SumUpRefIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)) →
    ∃ (v0 : (c : Dev Cert.SumUpIdeal.nD) → Buf (Elt Ideal) ((c.tc : Thread Cert.SumUpIdeal.nD Cert.SumUpIdeal.τ).loc Cert.SumUpIdeal.main_v0)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v0) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v1) = v0 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0))

def preserves_SumDown_SumDownIdeal : Prop :=
  True

def algebraic_SumDownIdeal_SumDownRefIdeal [hSumDownIdeal : Cert.SumDownIdeal.Facts] [hSumDownRefIdeal : Cert.SumDownRefIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownRefIdeal.nD Cert.SumDownRefIdeal.τ Cert.SumDownRefIdeal.sig) → Buf (Elt Ideal) ℓ) (g' : Dev Cert.SumDownRefIdeal.nD → PrngReg), Pre_SumDownIdeal m →
    (∀ c : Dev Cert.SumDownIdeal.nD,
      m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0)) →
    ∃ (v0 : (c : Dev Cert.SumDownIdeal.nD) → Buf (Elt Ideal) ((c.tc : Thread Cert.SumDownIdeal.nD Cert.SumDownIdeal.τ).loc Cert.SumDownIdeal.main_v0)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v0) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ θ_run (Cert.SumDownRefIdeal.defs (F := Ideal)) (onTc (τ := Cert.SumDownRefIdeal.τ) (Cert.SumDownRefIdeal.main (F := Ideal))) ⟨m', fun _ => 0, g'⟩ (fun r => ∀ c : Dev Cert.SumDownRefIdeal.nD,
          r.2.mem ((c.tc : Thread Cert.SumDownRefIdeal.nD Cert.SumDownRefIdeal.τ).loc Cert.SumDownRefIdeal.main_v1) = v0 c
          ∧ r.2.mem ((c.tc : Thread Cert.SumDownRefIdeal.nD Cert.SumDownRefIdeal.τ).loc Cert.SumDownRefIdeal.main_arg0) = m' ((c.tc : Thread Cert.SumDownRefIdeal.nD Cert.SumDownRefIdeal.τ).loc Cert.SumDownRefIdeal.main_arg0))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v1) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def Claim : Prop :=
  ∃ (hKernel : Cert.Kernel.Facts) (hKernelIdeal : Cert.KernelIdeal.Facts) (hReferenceIdeal : Cert.ReferenceIdeal.Facts) (hGwUp : Cert.GwUp.Facts) (hGwUpIdeal : Cert.GwUpIdeal.Facts) (hGwUpRefIdeal : Cert.GwUpRefIdeal.Facts) (hDH2 : Cert.DH2.Facts) (hDH2Ideal : Cert.DH2Ideal.Facts) (hDH2RefIdeal : Cert.DH2RefIdeal.Facts) (hGwQkv : Cert.GwQkv.Facts) (hGwQkvIdeal : Cert.GwQkvIdeal.Facts) (hGwQkvRefIdeal : Cert.GwQkvRefIdeal.Facts) (hDH1 : Cert.DH1.Facts) (hDH1Ideal : Cert.DH1Ideal.Facts) (hDH1RefIdeal : Cert.DH1RefIdeal.Facts) (hGwDown : Cert.GwDown.Facts) (hGwDownIdeal : Cert.GwDownIdeal.Facts) (hGwDownRefIdeal : Cert.GwDownRefIdeal.Facts) (hDAct : Cert.DAct.Facts) (hDActIdeal : Cert.DActIdeal.Facts) (hDActRefIdeal : Cert.DActRefIdeal.Facts) (hGwO : Cert.GwO.Facts) (hGwOIdeal : Cert.GwOIdeal.Facts) (hGwORefIdeal : Cert.GwORefIdeal.Facts) (hDMerged : Cert.DMerged.Facts) (hDMergedIdeal : Cert.DMergedIdeal.Facts) (hDMergedRefIdeal : Cert.DMergedRefIdeal.Facts) (hFfnUp : Cert.FfnUp.Facts) (hFfnUpIdeal : Cert.FfnUpIdeal.Facts) (hFfnUpRefIdeal : Cert.FfnUpRefIdeal.Facts) (hProjQkv : Cert.ProjQkv.Facts) (hProjQkvIdeal : Cert.ProjQkvIdeal.Facts) (hProjQkvRefIdeal : Cert.ProjQkvRefIdeal.Facts) (hProjZ : Cert.ProjZ.Facts) (hProjZIdeal : Cert.ProjZIdeal.Facts) (hProjZRefIdeal : Cert.ProjZRefIdeal.Facts) (hFfnDown : Cert.FfnDown.Facts) (hFfnDownIdeal : Cert.FfnDownIdeal.Facts) (hFfnDownRefIdeal : Cert.FfnDownRefIdeal.Facts) (hLnBwd : Cert.LnBwd.Facts) (hLnBwdIdeal : Cert.LnBwdIdeal.Facts) (hLnBwdRefIdeal : Cert.LnBwdRefIdeal.Facts) (hMergeBwd : Cert.MergeBwd.Facts) (hMergeBwdIdeal : Cert.MergeBwdIdeal.Facts) (hMergeBwdRefIdeal : Cert.MergeBwdRefIdeal.Facts) (hGradX : Cert.GradX.Facts) (hGradXIdeal : Cert.GradXIdeal.Facts) (hGradXRefIdeal : Cert.GradXRefIdeal.Facts) (hGateBwd : Cert.GateBwd.Facts) (hGateBwdIdeal : Cert.GateBwdIdeal.Facts) (hGateBwdRefIdeal : Cert.GateBwdRefIdeal.Facts) (hFinal : Cert.Final.Facts) (hFinalIdeal : Cert.FinalIdeal.Facts) (hFinalRefIdeal : Cert.FinalRefIdeal.Facts) (hModT : Cert.ModT.Facts) (hModTIdeal : Cert.ModTIdeal.Facts) (hModTRefIdeal : Cert.ModTRefIdeal.Facts) (hGateFwd : Cert.GateFwd.Facts) (hGateFwdIdeal : Cert.GateFwdIdeal.Facts) (hGateFwdRefIdeal : Cert.GateFwdRefIdeal.Facts) (hMergeFwd : Cert.MergeFwd.Facts) (hMergeFwdIdeal : Cert.MergeFwdIdeal.Facts) (hMergeFwdRefIdeal : Cert.MergeFwdRefIdeal.Facts) (hLnFwd : Cert.LnFwd.Facts) (hLnFwdIdeal : Cert.LnFwdIdeal.Facts) (hLnFwdRefIdeal : Cert.LnFwdRefIdeal.Facts) (hMix : Cert.Mix.Facts) (hMixIdeal : Cert.MixIdeal.Facts) (hMixRefIdeal : Cert.MixRefIdeal.Facts) (hProjG : Cert.ProjG.Facts) (hProjGIdeal : Cert.ProjGIdeal.Facts) (hProjGRefIdeal : Cert.ProjGRefIdeal.Facts) (hProjBa : Cert.ProjBa.Facts) (hProjBaIdeal : Cert.ProjBaIdeal.Facts) (hProjBaRefIdeal : Cert.ProjBaRefIdeal.Facts) (hGwG : Cert.GwG.Facts) (hGwGIdeal : Cert.GwGIdeal.Facts) (hGwGRefIdeal : Cert.GwGRefIdeal.Facts) (hGwBa : Cert.GwBa.Facts) (hGwBaIdeal : Cert.GwBaIdeal.Facts) (hGwBaRefIdeal : Cert.GwBaRefIdeal.Facts) (hDH1Ba : Cert.DH1Ba.Facts) (hDH1BaIdeal : Cert.DH1BaIdeal.Facts) (hDH1BaRefIdeal : Cert.DH1BaRefIdeal.Facts) (hDH1Z : Cert.DH1Z.Facts) (hDH1ZIdeal : Cert.DH1ZIdeal.Facts) (hDH1ZRefIdeal : Cert.DH1ZRefIdeal.Facts) (hDH1G : Cert.DH1G.Facts) (hDH1GIdeal : Cert.DH1GIdeal.Facts) (hDH1GRefIdeal : Cert.DH1GRefIdeal.Facts) (hAdaBwd : Cert.AdaBwd.Facts) (hAdaBwdIdeal : Cert.AdaBwdIdeal.Facts) (hAdaBwdRefIdeal : Cert.AdaBwdRefIdeal.Facts) (hAdaFwd : Cert.AdaFwd.Facts) (hAdaFwdIdeal : Cert.AdaFwdIdeal.Facts) (hAdaFwdRefIdeal : Cert.AdaFwdRefIdeal.Facts) (hAdamAda : Cert.AdamAda.Facts) (hAdamAdaIdeal : Cert.AdamAdaIdeal.Facts) (hAdamAdaRefIdeal : Cert.AdamAdaRefIdeal.Facts) (hAdamIn : Cert.AdamIn.Facts) (hAdamInIdeal : Cert.AdamInIdeal.Facts) (hAdamInRefIdeal : Cert.AdamInRefIdeal.Facts) (hAdamSquare : Cert.AdamSquare.Facts) (hAdamSquareIdeal : Cert.AdamSquareIdeal.Facts) (hAdamSquareRefIdeal : Cert.AdamSquareRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hPairSquare : Cert.PairSquare.Facts) (hPairSquareIdeal : Cert.PairSquareIdeal.Facts) (hPairSquareRefIdeal : Cert.PairSquareRefIdeal.Facts) (hPairUp : Cert.PairUp.Facts) (hPairUpIdeal : Cert.PairUpIdeal.Facts) (hPairUpRefIdeal : Cert.PairUpRefIdeal.Facts) (hPairDown : Cert.PairDown.Facts) (hPairDownIdeal : Cert.PairDownIdeal.Facts) (hPairDownRefIdeal : Cert.PairDownRefIdeal.Facts) (hPairIn : Cert.PairIn.Facts) (hPairInIdeal : Cert.PairInIdeal.Facts) (hPairInRefIdeal : Cert.PairInRefIdeal.Facts) (hSumSquare : Cert.SumSquare.Facts) (hSumSquareIdeal : Cert.SumSquareIdeal.Facts) (hSumSquareRefIdeal : Cert.SumSquareRefIdeal.Facts) (hSumUp : Cert.SumUp.Facts) (hSumUpIdeal : Cert.SumUpIdeal.Facts) (hSumUpRefIdeal : Cert.SumUpRefIdeal.Facts) (hSumDown : Cert.SumDown.Facts) (hSumDownIdeal : Cert.SumDownIdeal.Facts) (hSumDownRefIdeal : Cert.SumDownRefIdeal.Facts) (hSumIn : Cert.SumIn.Facts) (hSumInIdeal : Cert.SumInIdeal.Facts) (hSumInRefIdeal : Cert.SumInRefIdeal.Facts) (hSumSmall : Cert.SumSmall.Facts) (hSumSmallIdeal : Cert.SumSmallIdeal.Facts) (hSumSmallRefIdeal : Cert.SumSmallRefIdeal.Facts) (hPre_finite_scores : Cert.Pre_finite_scores.Facts) (hPre_finite_norm : Cert.Pre_finite_norm.Facts) (hPre_finite_gate : Cert.Pre_finite_gate.Facts) (hPre_finite_loss : Cert.Pre_finite_loss.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_GwUp (hGwUp := hGwUp)
    ∧ quiescent_GwUpIdeal (hGwUpIdeal := hGwUpIdeal)
    ∧ quiescent_GwUpRefIdeal (hGwUpRefIdeal := hGwUpRefIdeal)
    ∧ quiescent_DH2 (hDH2 := hDH2)
    ∧ quiescent_DH2Ideal (hDH2Ideal := hDH2Ideal)
    ∧ quiescent_DH2RefIdeal (hDH2RefIdeal := hDH2RefIdeal)
    ∧ quiescent_GwQkv (hGwQkv := hGwQkv)
    ∧ quiescent_GwQkvIdeal (hGwQkvIdeal := hGwQkvIdeal)
    ∧ quiescent_GwQkvRefIdeal (hGwQkvRefIdeal := hGwQkvRefIdeal)
    ∧ quiescent_DH1 (hDH1 := hDH1)
    ∧ quiescent_DH1Ideal (hDH1Ideal := hDH1Ideal)
    ∧ quiescent_DH1RefIdeal (hDH1RefIdeal := hDH1RefIdeal)
    ∧ quiescent_GwDown (hGwDown := hGwDown)
    ∧ quiescent_GwDownIdeal (hGwDownIdeal := hGwDownIdeal)
    ∧ quiescent_GwDownRefIdeal (hGwDownRefIdeal := hGwDownRefIdeal)
    ∧ quiescent_DAct (hDAct := hDAct)
    ∧ quiescent_DActIdeal (hDActIdeal := hDActIdeal)
    ∧ quiescent_DActRefIdeal (hDActRefIdeal := hDActRefIdeal)
    ∧ quiescent_GwO (hGwO := hGwO)
    ∧ quiescent_GwOIdeal (hGwOIdeal := hGwOIdeal)
    ∧ quiescent_GwORefIdeal (hGwORefIdeal := hGwORefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_ProjZ (hProjZ := hProjZ)
    ∧ quiescent_ProjZIdeal (hProjZIdeal := hProjZIdeal)
    ∧ quiescent_ProjZRefIdeal (hProjZRefIdeal := hProjZRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_LnBwd (hLnBwd := hLnBwd)
    ∧ quiescent_LnBwdIdeal (hLnBwdIdeal := hLnBwdIdeal)
    ∧ quiescent_LnBwdIdeal_pre_finite_norm (hLnBwdIdeal := hLnBwdIdeal) (hPre_finite_norm := hPre_finite_norm)
    ∧ quiescent_LnBwdRefIdeal (hLnBwdRefIdeal := hLnBwdRefIdeal)
    ∧ quiescent_LnBwdRefIdeal_pre_finite_norm (hLnBwdRefIdeal := hLnBwdRefIdeal) (hPre_finite_norm := hPre_finite_norm)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_GradX (hGradX := hGradX)
    ∧ quiescent_GradXIdeal (hGradXIdeal := hGradXIdeal)
    ∧ quiescent_GradXRefIdeal (hGradXRefIdeal := hGradXRefIdeal)
    ∧ quiescent_GateBwd (hGateBwd := hGateBwd)
    ∧ quiescent_GateBwdIdeal (hGateBwdIdeal := hGateBwdIdeal)
    ∧ quiescent_GateBwdIdeal_pre_finite_gate (hGateBwdIdeal := hGateBwdIdeal) (hPre_finite_gate := hPre_finite_gate)
    ∧ quiescent_GateBwdRefIdeal (hGateBwdRefIdeal := hGateBwdRefIdeal)
    ∧ quiescent_GateBwdRefIdeal_pre_finite_gate (hGateBwdRefIdeal := hGateBwdRefIdeal) (hPre_finite_gate := hPre_finite_gate)
    ∧ quiescent_Final (hFinal := hFinal)
    ∧ quiescent_FinalIdeal (hFinalIdeal := hFinalIdeal)
    ∧ quiescent_FinalIdeal_pre_finite_loss (hFinalIdeal := hFinalIdeal) (hPre_finite_loss := hPre_finite_loss)
    ∧ quiescent_FinalRefIdeal (hFinalRefIdeal := hFinalRefIdeal)
    ∧ quiescent_FinalRefIdeal_pre_finite_loss (hFinalRefIdeal := hFinalRefIdeal) (hPre_finite_loss := hPre_finite_loss)
    ∧ quiescent_ModT (hModT := hModT)
    ∧ quiescent_ModTIdeal (hModTIdeal := hModTIdeal)
    ∧ quiescent_ModTRefIdeal (hModTRefIdeal := hModTRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_LnFwd (hLnFwd := hLnFwd)
    ∧ quiescent_LnFwdIdeal (hLnFwdIdeal := hLnFwdIdeal)
    ∧ quiescent_LnFwdRefIdeal (hLnFwdRefIdeal := hLnFwdRefIdeal)
    ∧ quiescent_Mix (hMix := hMix)
    ∧ quiescent_MixIdeal (hMixIdeal := hMixIdeal)
    ∧ quiescent_MixRefIdeal (hMixRefIdeal := hMixRefIdeal)
    ∧ quiescent_ProjG (hProjG := hProjG)
    ∧ quiescent_ProjGIdeal (hProjGIdeal := hProjGIdeal)
    ∧ quiescent_ProjGRefIdeal (hProjGRefIdeal := hProjGRefIdeal)
    ∧ quiescent_ProjBa (hProjBa := hProjBa)
    ∧ quiescent_ProjBaIdeal (hProjBaIdeal := hProjBaIdeal)
    ∧ quiescent_ProjBaRefIdeal (hProjBaRefIdeal := hProjBaRefIdeal)
    ∧ quiescent_GwG (hGwG := hGwG)
    ∧ quiescent_GwGIdeal (hGwGIdeal := hGwGIdeal)
    ∧ quiescent_GwGRefIdeal (hGwGRefIdeal := hGwGRefIdeal)
    ∧ quiescent_GwBa (hGwBa := hGwBa)
    ∧ quiescent_GwBaIdeal (hGwBaIdeal := hGwBaIdeal)
    ∧ quiescent_GwBaRefIdeal (hGwBaRefIdeal := hGwBaRefIdeal)
    ∧ quiescent_DH1Ba (hDH1Ba := hDH1Ba)
    ∧ quiescent_DH1BaIdeal (hDH1BaIdeal := hDH1BaIdeal)
    ∧ quiescent_DH1BaRefIdeal (hDH1BaRefIdeal := hDH1BaRefIdeal)
    ∧ quiescent_DH1Z (hDH1Z := hDH1Z)
    ∧ quiescent_DH1ZIdeal (hDH1ZIdeal := hDH1ZIdeal)
    ∧ quiescent_DH1ZRefIdeal (hDH1ZRefIdeal := hDH1ZRefIdeal)
    ∧ quiescent_DH1G (hDH1G := hDH1G)
    ∧ quiescent_DH1GIdeal (hDH1GIdeal := hDH1GIdeal)
    ∧ quiescent_DH1GRefIdeal (hDH1GRefIdeal := hDH1GRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_PairSquare (hPairSquare := hPairSquare)
    ∧ quiescent_PairSquareIdeal (hPairSquareIdeal := hPairSquareIdeal)
    ∧ quiescent_PairSquareRefIdeal (hPairSquareRefIdeal := hPairSquareRefIdeal)
    ∧ quiescent_PairUp (hPairUp := hPairUp)
    ∧ quiescent_PairUpIdeal (hPairUpIdeal := hPairUpIdeal)
    ∧ quiescent_PairUpRefIdeal (hPairUpRefIdeal := hPairUpRefIdeal)
    ∧ quiescent_PairDown (hPairDown := hPairDown)
    ∧ quiescent_PairDownIdeal (hPairDownIdeal := hPairDownIdeal)
    ∧ quiescent_PairDownRefIdeal (hPairDownRefIdeal := hPairDownRefIdeal)
    ∧ quiescent_PairIn (hPairIn := hPairIn)
    ∧ quiescent_PairInIdeal (hPairInIdeal := hPairInIdeal)
    ∧ quiescent_PairInRefIdeal (hPairInRefIdeal := hPairInRefIdeal)
    ∧ quiescent_SumSquare (hSumSquare := hSumSquare)
    ∧ quiescent_SumSquareIdeal (hSumSquareIdeal := hSumSquareIdeal)
    ∧ quiescent_SumSquareRefIdeal (hSumSquareRefIdeal := hSumSquareRefIdeal)
    ∧ quiescent_SumUp (hSumUp := hSumUp)
    ∧ quiescent_SumUpIdeal (hSumUpIdeal := hSumUpIdeal)
    ∧ quiescent_SumUpRefIdeal (hSumUpRefIdeal := hSumUpRefIdeal)
    ∧ quiescent_SumDown (hSumDown := hSumDown)
    ∧ quiescent_SumDownIdeal (hSumDownIdeal := hSumDownIdeal)
    ∧ quiescent_SumDownRefIdeal (hSumDownRefIdeal := hSumDownRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_GwUp_GwUpIdeal
    ∧ algebraic_GwUpIdeal_GwUpRefIdeal (hGwUpIdeal := hGwUpIdeal) (hGwUpRefIdeal := hGwUpRefIdeal)
    ∧ preserves_DH2_DH2Ideal
    ∧ algebraic_DH2Ideal_DH2RefIdeal (hDH2Ideal := hDH2Ideal) (hDH2RefIdeal := hDH2RefIdeal)
    ∧ preserves_GwQkv_GwQkvIdeal
    ∧ algebraic_GwQkvIdeal_GwQkvRefIdeal (hGwQkvIdeal := hGwQkvIdeal) (hGwQkvRefIdeal := hGwQkvRefIdeal)
    ∧ preserves_DH1_DH1Ideal
    ∧ algebraic_DH1Ideal_DH1RefIdeal (hDH1Ideal := hDH1Ideal) (hDH1RefIdeal := hDH1RefIdeal)
    ∧ preserves_GwDown_GwDownIdeal
    ∧ algebraic_GwDownIdeal_GwDownRefIdeal (hGwDownIdeal := hGwDownIdeal) (hGwDownRefIdeal := hGwDownRefIdeal)
    ∧ preserves_DAct_DActIdeal
    ∧ algebraic_DActIdeal_DActRefIdeal (hDActIdeal := hDActIdeal) (hDActRefIdeal := hDActRefIdeal)
    ∧ preserves_GwO_GwOIdeal
    ∧ algebraic_GwOIdeal_GwORefIdeal (hGwOIdeal := hGwOIdeal) (hGwORefIdeal := hGwORefIdeal)
    ∧ preserves_DMerged_DMergedIdeal
    ∧ algebraic_DMergedIdeal_DMergedRefIdeal (hDMergedIdeal := hDMergedIdeal) (hDMergedRefIdeal := hDMergedRefIdeal)
    ∧ preserves_FfnUp_FfnUpIdeal
    ∧ algebraic_FfnUpIdeal_FfnUpRefIdeal (hFfnUpIdeal := hFfnUpIdeal) (hFfnUpRefIdeal := hFfnUpRefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_ProjZ_ProjZIdeal
    ∧ algebraic_ProjZIdeal_ProjZRefIdeal (hProjZIdeal := hProjZIdeal) (hProjZRefIdeal := hProjZRefIdeal)
    ∧ preserves_FfnDown_FfnDownIdeal
    ∧ algebraic_FfnDownIdeal_FfnDownRefIdeal (hFfnDownIdeal := hFfnDownIdeal) (hFfnDownRefIdeal := hFfnDownRefIdeal)
    ∧ preserves_LnBwd_LnBwdIdeal
    ∧ algebraic_LnBwdIdeal_LnBwdRefIdeal_pre_finite_norm (hLnBwdIdeal := hLnBwdIdeal) (hLnBwdRefIdeal := hLnBwdRefIdeal) (hPre_finite_norm := hPre_finite_norm)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_GradX_GradXIdeal
    ∧ algebraic_GradXIdeal_GradXRefIdeal (hGradXIdeal := hGradXIdeal) (hGradXRefIdeal := hGradXRefIdeal)
    ∧ preserves_GateBwd_GateBwdIdeal
    ∧ algebraic_GateBwdIdeal_GateBwdRefIdeal_pre_finite_gate (hGateBwdIdeal := hGateBwdIdeal) (hGateBwdRefIdeal := hGateBwdRefIdeal) (hPre_finite_gate := hPre_finite_gate)
    ∧ preserves_Final_FinalIdeal
    ∧ algebraic_FinalIdeal_FinalRefIdeal_pre_finite_loss (hFinalIdeal := hFinalIdeal) (hFinalRefIdeal := hFinalRefIdeal) (hPre_finite_loss := hPre_finite_loss)
    ∧ preserves_ModT_ModTIdeal
    ∧ algebraic_ModTIdeal_ModTRefIdeal (hModTIdeal := hModTIdeal) (hModTRefIdeal := hModTRefIdeal)
    ∧ preserves_GateFwd_GateFwdIdeal
    ∧ algebraic_GateFwdIdeal_GateFwdRefIdeal (hGateFwdIdeal := hGateFwdIdeal) (hGateFwdRefIdeal := hGateFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_LnFwd_LnFwdIdeal
    ∧ algebraic_LnFwdIdeal_LnFwdRefIdeal (hLnFwdIdeal := hLnFwdIdeal) (hLnFwdRefIdeal := hLnFwdRefIdeal)
    ∧ preserves_Mix_MixIdeal
    ∧ algebraic_MixIdeal_MixRefIdeal (hMixIdeal := hMixIdeal) (hMixRefIdeal := hMixRefIdeal)
    ∧ preserves_ProjG_ProjGIdeal
    ∧ algebraic_ProjGIdeal_ProjGRefIdeal (hProjGIdeal := hProjGIdeal) (hProjGRefIdeal := hProjGRefIdeal)
    ∧ preserves_ProjBa_ProjBaIdeal
    ∧ algebraic_ProjBaIdeal_ProjBaRefIdeal (hProjBaIdeal := hProjBaIdeal) (hProjBaRefIdeal := hProjBaRefIdeal)
    ∧ preserves_GwG_GwGIdeal
    ∧ algebraic_GwGIdeal_GwGRefIdeal (hGwGIdeal := hGwGIdeal) (hGwGRefIdeal := hGwGRefIdeal)
    ∧ preserves_GwBa_GwBaIdeal
    ∧ algebraic_GwBaIdeal_GwBaRefIdeal (hGwBaIdeal := hGwBaIdeal) (hGwBaRefIdeal := hGwBaRefIdeal)
    ∧ preserves_DH1Ba_DH1BaIdeal
    ∧ algebraic_DH1BaIdeal_DH1BaRefIdeal (hDH1BaIdeal := hDH1BaIdeal) (hDH1BaRefIdeal := hDH1BaRefIdeal)
    ∧ preserves_DH1Z_DH1ZIdeal
    ∧ algebraic_DH1ZIdeal_DH1ZRefIdeal (hDH1ZIdeal := hDH1ZIdeal) (hDH1ZRefIdeal := hDH1ZRefIdeal)
    ∧ preserves_DH1G_DH1GIdeal
    ∧ algebraic_DH1GIdeal_DH1GRefIdeal (hDH1GIdeal := hDH1GIdeal) (hDH1GRefIdeal := hDH1GRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamIn_AdamInIdeal
    ∧ algebraic_AdamInIdeal_AdamInRefIdeal (hAdamInIdeal := hAdamInIdeal) (hAdamInRefIdeal := hAdamInRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_PairSquare_PairSquareIdeal
    ∧ algebraic_PairSquareIdeal_PairSquareRefIdeal (hPairSquareIdeal := hPairSquareIdeal) (hPairSquareRefIdeal := hPairSquareRefIdeal)
    ∧ preserves_PairUp_PairUpIdeal
    ∧ algebraic_PairUpIdeal_PairUpRefIdeal (hPairUpIdeal := hPairUpIdeal) (hPairUpRefIdeal := hPairUpRefIdeal)
    ∧ preserves_PairDown_PairDownIdeal
    ∧ algebraic_PairDownIdeal_PairDownRefIdeal (hPairDownIdeal := hPairDownIdeal) (hPairDownRefIdeal := hPairDownRefIdeal)
    ∧ preserves_PairIn_PairInIdeal
    ∧ algebraic_PairInIdeal_PairInRefIdeal (hPairInIdeal := hPairInIdeal) (hPairInRefIdeal := hPairInRefIdeal)
    ∧ preserves_SumSquare_SumSquareIdeal
    ∧ algebraic_SumSquareIdeal_SumSquareRefIdeal (hSumSquareIdeal := hSumSquareIdeal) (hSumSquareRefIdeal := hSumSquareRefIdeal)
    ∧ preserves_SumUp_SumUpIdeal
    ∧ algebraic_SumUpIdeal_SumUpRefIdeal (hSumUpIdeal := hSumUpIdeal) (hSumUpRefIdeal := hSumUpRefIdeal)
    ∧ preserves_SumDown_SumDownIdeal
    ∧ algebraic_SumDownIdeal_SumDownRefIdeal (hSumDownIdeal := hSumDownIdeal) (hSumDownRefIdeal := hSumDownRefIdeal)
    ∧ preserves_SumIn_SumInIdeal
    ∧ algebraic_SumInIdeal_SumInRefIdeal (hSumInIdeal := hSumInIdeal) (hSumInRefIdeal := hSumInRefIdeal)
    ∧ preserves_SumSmall_SumSmallIdeal
    ∧ algebraic_SumSmallIdeal_SumSmallRefIdeal (hSumSmallIdeal := hSumSmallIdeal) (hSumSmallRefIdeal := hSumSmallRefIdeal)
-- ==== Pre_finite_gate.lean ====
abbrev S8192x1024 : Shape := ⟨2, ![8192, 1024]⟩
abbrev S1x128 : Shape := ⟨2, ![1, 128]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1x128 : S_.BroadcastsInDim S1x128 (![] : Fin 0 → Fin S1x128.rank)

variable [Facts]

def fn {F : FTy → Type} [FloatOps F] (main_arg0 : FVec F S8192x1024 .bf16) (main_arg1 : FVec F S8192x1024 .f32) (main_arg2 : FVec F S8192x1024 .bf16) (main_arg3 : FVec F S1x128 .f32) : IVec S8192x1024 1 × IVec S1x128 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  (main_v3, main_v6)
-- ==== Pre_finite_loss.lean ====
abbrev S8192x1024 : Shape := ⟨2, ![8192, 1024]⟩
abbrev S6x1024 : Shape := ⟨2, ![6, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .f32) (main_arg2 : FVec F S8192x1024 .f32) (main_arg3 : FVec F S6x1024 .f32) (main_arg4 : FVec F S1x1024 .f32) (main_arg5 : FVec F S1x1024 .f32) : IVec S8192x1024 1 × IVec S1x1024 1 × IVec S1x1024 1 :=
  let main_v0 : FVec F S8192x1024 .f32 := Host.absf main_arg2
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg4
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg5
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Pre_finite_norm.lean ====
abbrev S8192x1024 : Shape := ⟨2, ![8192, 1024]⟩
abbrev S6x1024 : Shape := ⟨2, ![6, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  slices_S6x1024_S1x1024_4_0 : S6x1024.Slices ![4, 0] S1x1024
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S6x1024 .f32) (main_arg5 : FVec F S1x1024 .f32) (main_arg6 : FVec F S1x1024 .f32) : IVec S8192x1024 1 × IVec S8192x1024 1 × IVec S1x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := (extractStridedSlice S1x1024 ![4, 0] · slices_S6x1024_S1x1024_4_0) main_arg4
  let main_v7 : FVec F S1x1024 .f32 := Host.absf main_v6
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S1x1024 .f32 := Host.absf main_arg5
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  (main_v2, main_v5, main_v9, main_v12)
-- ==== Pre_finite_scores.lean ====
abbrev S8192x3072 : Shape := ⟨2, ![8192, 3072]⟩
abbrev S16x64x576 : Shape := ⟨3, ![16, 64, 576]⟩
abbrev S8192x1024 : Shape := ⟨2, ![8192, 1024]⟩
abbrev S8192x2048 : Shape := ⟨2, ![8192, 2048]⟩
abbrev S_ : Shape := ⟨0, ![]⟩

class Facts : Prop where
  slices_S8192x3072_S8192x2048_0_0 : S8192x3072.Slices ![0, 0] S8192x2048
  bitsLt_bf16_f32 : FTy.bits .bf16 < FTy.bits .f32
  bcast_S_S8192x2048 : S_.BroadcastsInDim S8192x2048 (![] : Fin 0 → Fin S8192x2048.rank)
  bcast_S_S16x64x576 : S_.BroadcastsInDim S16x64x576 (![] : Fin 0 → Fin S16x64x576.rank)

variable [Facts]

def fn {F : FTy → Type} [FloatOps F] (main_arg0 : FVec F S8192x3072 .bf16) (main_arg1 : FVec F S16x64x576 .f32) (main_arg2 : FVec F S8192x1024 .bf16) : IVec S8192x2048 1 × IVec S16x64x576 1 :=
  let main_v0 : FVec F S8192x2048 .bf16 := (extractStridedSlice S8192x2048 ![0, 0] · slices_S8192x3072_S8192x2048_0_0) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_v5 : FVec F S16x64x576 .f32 := Host.absf main_arg1
  let main_cst_0 : FVec F S_ .f32 := constant S_ .f32 0x7F800000#32
  let main_v6 : FVec F S16x64x576 .f32 := broadcastInDim S16x64x576 ![] bcast_S_S16x64x576 main_cst_0
  let main_v7 : IVec S16x64x576 1 := cmpf .olt main_v5 main_v6
  (main_v4, main_v7)
-- ==== Kernel.lean ====
abbrev S8192x3072 : Shape := ⟨2, ![8192, 3072]⟩
abbrev S16x64x576 : Shape := ⟨3, ![16, 64, 576]⟩
abbrev S8192x1024 : Shape := ⟨2, ![8192, 1024]⟩
abbrev S_ : Shape := ⟨0, ![]⟩
abbrev S8704x3072 : Shape := ⟨2, ![8704, 3072]⟩
abbrev S8704x1024 : Shape := ⟨2, ![8704, 1024]⟩
abbrev S256x128 : Shape := ⟨2, ![256, 128]⟩
abbrev S8704x128 : Shape := ⟨2, ![8704, 128]⟩
abbrev S2x64x576 : Shape := ⟨3, ![2, 64, 576]⟩
abbrev S2x256x768 : Shape := ⟨3, ![2, 256, 768]⟩
abbrev S1x64x576 : Shape := ⟨3, ![1, 64, 576]⟩
abbrev S64x576 : Shape := ⟨2, ![64, 576]⟩
abbrev S768x128 : Shape := ⟨2, ![768, 128]⟩
abbrev S256x768 : Shape := ⟨2, ![256, 768]⟩
abbrev S256x64 : Shape := ⟨2, ![256, 64]⟩
abbrev S768x64 : Shape := ⟨2, ![768, 64]⟩
abbrev S1x256x768 : Shape := ⟨3, ![1, 256, 768]⟩
abbrev S256 : Shape := ⟨1, ![256]⟩
abbrev S256x1 : Shape := ⟨2, ![256, 1]⟩

abbrev nBuf : Space → Nat
  | .hbm => 10
  | .vmem => 19
  | .smem => 0
  | _ => 0

abbrev bufTy : (tb : Table) → Fin (tcTables nBuf tb) → BufTy
  | .hbm, ⟨0, _⟩ => ⟨S8192x3072, .bf16⟩
  | .hbm, ⟨1, _⟩ => ⟨S16x64x576, .f32⟩
  | .hbm, ⟨2, _⟩ => ⟨S8192x1024, .bf16⟩
  | .hbm, ⟨3, _⟩ => ⟨S_, .i32⟩
  | .hbm, ⟨4, _⟩ => ⟨S_, .bf16⟩
  | .hbm, ⟨5, _⟩ => ⟨S8704x3072, .bf16⟩
  | .hbm, ⟨6, _⟩ => ⟨S8192x1024, .bf16⟩
  | .hbm, ⟨7, _⟩ => ⟨S8704x1024, .f32⟩
  | .hbm, ⟨8, _⟩ => ⟨S8704x1024, .f32⟩
  | .hbm, ⟨9, _⟩ => ⟨S16x64x576, .f32⟩
  | .local _ .vmem, ⟨0, _⟩ => ⟨S256x128, .bf16⟩
  | .local _ .vmem, ⟨1, _⟩ => ⟨S256x128, .bf16⟩
  | .local _ .vmem, ⟨2, _⟩ => ⟨S8704x128, .bf16⟩
  | .local _ .vmem, ⟨3, _⟩ => ⟨S8704x128, .bf16⟩
  | .local _ .vmem, ⟨4, _⟩ => ⟨S8704x128, .bf16⟩
  | .local _ .vmem, ⟨5, _⟩ => ⟨S8704x128, .bf16⟩
  | .local _ .vmem, ⟨6, _⟩ => ⟨S2x64x576, .f32⟩
  | .local _ .vmem, ⟨7, _⟩ => ⟨S2x64x576, .f32⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S8704x128, .f32⟩
  | .local _ .vmem, ⟨13, _⟩ => ⟨S8704x128, .f32⟩
  | .local _ .vmem, ⟨14, _⟩ => ⟨S8704x128, .f32⟩
  | .local _ .vmem, ⟨15, _⟩ => ⟨S8704x128, .f32⟩
  | .local _ .vmem, ⟨16, _⟩ => ⟨S2x64x576, .f32⟩
  | .local _ .vmem, ⟨17, _⟩ => ⟨S2x64x576, .f32⟩
  | .local _ .vmem, ⟨18, _⟩ => ⟨S2x256x768, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8704x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8704x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x64x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8704x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8704x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x64x576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x3072 : Shape := ⟨2, ![8192, 3072]⟩
abbrev S16x64x576 : Shape := ⟨3, ![16, 64, 576]⟩
abbrev S8192x1024 : Shape := ⟨2, ![8192, 1024]⟩
abbrev S8192x16x64 : Shape := ⟨3, ![8192, 16, 64]⟩
abbrev S_ : Shape := ⟨0, ![]⟩
abbrev S8704x16x64 : Shape := ⟨3, ![8704, 16, 64]⟩
abbrev S128x64x16x64 : Shape := ⟨4, ![128, 64, 16, 64]⟩
abbrev S136x64x16x64 : Shape := ⟨4, ![136, 64, 16, 64]⟩
abbrev S128x576x16x64 : Shape := ⟨4, ![128, 576, 16, 64]⟩
abbrev S576 : Shape := ⟨1, ![576]⟩
abbrev S128 : Shape := ⟨1, ![128]⟩
abbrev S128x1 : Shape := ⟨2, ![128, 1]⟩
abbrev S1x576 : Shape := ⟨2, ![1, 576]⟩
abbrev S128x576 : Shape := ⟨2, ![128, 576]⟩
abbrev S128x16x64x576 : Shape := ⟨4, ![128, 16, 64, 576]⟩
abbrev S1x16x64x576 : Shape := ⟨4, ![1, 16, 64, 576]⟩
abbrev S128x1x1x576 : Shape := ⟨4, ![128, 1, 1, 576]⟩
abbrev S128x16x64 : Shape := ⟨3, ![128, 16, 64]⟩
abbrev S128x16x64x1 : Shape := ⟨4, ![128, 16, 64, 1]⟩
abbrev S128x16x64x64 : Shape := ⟨4, ![128, 16, 64, 64]⟩
abbrev S128x16x576x64 : Shape := ⟨4, ![128, 16, 576, 64]⟩
abbrev S8704x1024 : Shape := ⟨2, ![8704, 1024]⟩

abbrev nBuf : Space → Nat
  | .hbm => 238
  | .vmem => 0
  | .smem => 0
  | _ => 0

abbrev hbmTy0_0 (i : Nat) : BufTy := match i % 128 with
  | 0 => ⟨S8192x3072, .bf16⟩
  | 1 => ⟨S16x64x576, .f32⟩
  | 2 => ⟨S8192x1024, .bf16⟩
  | 3 => ⟨S8192x3072, .f32⟩
  | 4 => ⟨S8192x1024, .f32⟩
  | 5 => ⟨S8192x1024, .f32⟩
  | 6 => ⟨S8192x1024, .f32⟩
  | 7 => ⟨S8192x16x64, .f32⟩
  | 8 => ⟨S8192x16x64, .f32⟩
  | 9 => ⟨S8192x16x64, .f32⟩
  | 10 => ⟨S_, .i32⟩
  | 11 => ⟨S_, .f32⟩
  | 12 => ⟨S8704x16x64, .f32⟩
  | 13 => ⟨S_, .i32⟩
  | 14 => ⟨S_, .f32⟩
  | 15 => ⟨S8704x16x64, .f32⟩
  | 16 => ⟨S128x64x16x64, .f32⟩
  | 17 => ⟨S136x64x16x64, .f32⟩
  | 18 => ⟨S128x64x16x64, .f32⟩
  | 19 => ⟨S128x64x16x64, .f32⟩
  | 20 => ⟨S128x64x16x64, .f32⟩
  | 21 => ⟨S128x64x16x64, .f32⟩
  | 22 => ⟨S128x64x16x64, .f32⟩
  | 23 => ⟨S128x64x16x64, .f32⟩
  | 24 => ⟨S128x64x16x64, .f32⟩
  | 25 => ⟨S128x64x16x64, .f32⟩
  | 26 => ⟨S128x64x16x64, .f32⟩
  | 27 => ⟨S128x576x16x64, .f32⟩
  | 28 => ⟨S136x64x16x64, .f32⟩
  | 29 => ⟨S128x64x16x64, .f32⟩
  | 30 => ⟨S128x64x16x64, .f32⟩
  | 31 => ⟨S128x64x16x64, .f32⟩
  | 32 => ⟨S128x64x16x64, .f32⟩
  | 33 => ⟨S128x64x16x64, .f32⟩
  | 34 => ⟨S128x64x16x64, .f32⟩
  | 35 => ⟨S128x64x16x64, .f32⟩
  | 36 => ⟨S128x64x16x64, .f32⟩
  | 37 => ⟨S128x64x16x64, .f32⟩
  | 38 => ⟨S128x576x16x64, .f32⟩
  | 39 => ⟨S576, .i32⟩
  | 40 => ⟨S_, .i32⟩
  | 41 => ⟨S_, .i32⟩
  | 42 => ⟨S576, .i32⟩
  | 43 => ⟨S576, .i32⟩
  | 44 => ⟨S576, .i32⟩
  | 45 => ⟨S_, .i32⟩
  | 46 => ⟨S576, .i32⟩
  | 47 => ⟨S576, .i1⟩
  | 48 => ⟨S576, .i32⟩
  | 49 => ⟨S576, .i32⟩
  | 50 => ⟨S_, .i32⟩
  | 51 => ⟨S576, .i32⟩
  | 52 => ⟨S576, .i1⟩
  | 53 => ⟨S576, .i1⟩
  | 54 => ⟨S_, .i32⟩
  | 55 => ⟨S576, .i32⟩
  | 56 => ⟨S576, .i32⟩
  | 57 => ⟨S576, .i32⟩
  | 58 => ⟨S128, .i32⟩
  | 59 => ⟨S128x1, .i32⟩
  | 60 => ⟨S_, .i32⟩
  | 61 => ⟨S128x1, .i32⟩
  | 62 => ⟨S128x1, .i32⟩
  | 63 => ⟨S1x576, .i32⟩
  | 64 => ⟨S128x576, .i32⟩
  | 65 => ⟨S128x576, .i32⟩
  | 66 => ⟨S128x576, .i32⟩
  | 67 => ⟨S_, .i32⟩
  | 68 => ⟨S128x576, .i32⟩
  | 69 => ⟨S128x576, .i1⟩
  | 70 => ⟨S128x16x64x576, .f32⟩
  | 71 => ⟨S_, .f32⟩
  | 72 => ⟨S128x16x64x576, .f32⟩
  | 73 => ⟨S128x16x64x576, .f32⟩
  | 74 => ⟨S1x16x64x576, .f32⟩
  | 75 => ⟨S128x16x64x576, .f32⟩
  | 76 => ⟨S128x16x64x576, .f32⟩
  | 77 => ⟨S128x1x1x576, .i1⟩
  | 78 => ⟨S_, .f32⟩
  | 79 => ⟨S_, .f32⟩
  | 80 => ⟨S128x16x64x576, .i1⟩
  | 81 => ⟨S128x16x64x576, .f32⟩
  | 82 => ⟨S128x16x64x576, .f32⟩
  | 83 => ⟨S_, .f32⟩
  | 84 => ⟨S128x16x64x576, .f32⟩
  | 85 => ⟨S_, .f32⟩
  | 86 => ⟨S128x16x64, .f32⟩
  | 87 => ⟨S128x16x64x1, .f32⟩
  | 88 => ⟨S128x16x64x576, .f32⟩
  | 89 => ⟨S128x16x64x576, .i1⟩
  | 90 => ⟨S128x16x64x576, .f32⟩
  | 91 => ⟨S_, .f32⟩
  | 92 => ⟨S128x16x64, .f32⟩
  | 93 => ⟨S_, .f32⟩
  | 94 => ⟨S128x16x64, .f32⟩
  | 95 => ⟨S128x16x64, .f32⟩
  | 96 => ⟨S_, .f32⟩
  | 97 => ⟨S128x16x64, .f32⟩
  | 98 => ⟨S128x16x64, .i1⟩
  | 99 => ⟨S_, .f32⟩
  | 100 => ⟨S128x16x64, .f32⟩
  | 101 => ⟨S128x16x64, .i1⟩
  | 102 => ⟨S_, .f32⟩
  | 103 => ⟨S128x16x64, .f32⟩
  | 104 => ⟨S_, .f32⟩
  | 105 => ⟨S128x16x64, .f32⟩
  | 106 => ⟨S_, .f32⟩
  | 107 => ⟨S128x16x64, .f32⟩
  | 108 => ⟨S128x16x64, .f32⟩
  | 109 => ⟨S128x16x64, .f32⟩
  | 110 => ⟨S128x16x64x1, .f32⟩
  | 111 => ⟨S128x16x64x576, .f32⟩
  | 112 => ⟨S128x16x64x576, .f32⟩
  | 113 => ⟨S128x16x64x576, .f32⟩
  | 114 => ⟨S_, .f32⟩
  | 115 => ⟨S128x16x64, .f32⟩
  | 116 => ⟨S128x16x64x1, .f32⟩
  | 117 => ⟨S128x16x64x576, .f32⟩
  | 118 => ⟨S128x16x64x576, .f32⟩
  | 119 => ⟨S128x16x64x1, .f32⟩
  | 120 => ⟨S_, .f32⟩
  | 121 => ⟨S128x16x64x1, .f32⟩
  | 122 => ⟨S128x16x64x1, .f32⟩
  | 123 => ⟨S128x16x64x64, .f32⟩
  | 124 => ⟨S128x64x16x64, .f32⟩
  | 125 => ⟨S8192x1024, .f32⟩
  | 126 => ⟨S8192x1024, .f32⟩
  | 127 => ⟨S128x64x16x64, .f32⟩
  | _ => ⟨S8192x3072, .bf16⟩

abbrev hbmTy0_1 (i : Nat) : BufTy := match i % 128 with
  | 0 => ⟨S128x16x64x64, .f32⟩
  | 1 => ⟨S128x16x64x576, .f32⟩
  | 2 => ⟨S128x16x64x576, .f32⟩
  | 3 => ⟨S128x576x16x64, .f32⟩
  | 4 => ⟨S128x16x64x576, .f32⟩
  | 5 => ⟨S128x16x64x576, .f32⟩
  | 6 => ⟨S128x16x64x576, .f32⟩
  | 7 => ⟨S_, .f32⟩
  | 8 => ⟨S128x16x64, .f32⟩
  | 9 => ⟨S128x16x64x1, .f32⟩
  | 10 => ⟨S128x16x64x1, .f32⟩
  | 11 => ⟨S128x16x64x576, .f32⟩
  | 12 => ⟨S128x16x64x576, .f32⟩
  | 13 => ⟨S_, .f32⟩
  | 14 => ⟨S128x16x64, .f32⟩
  | 15 => ⟨S128x16x64x576, .f32⟩
  | 16 => ⟨S128x16x64x576, .f32⟩
  | 17 => ⟨S128x16x64x576, .f32⟩
  | 18 => ⟨S_, .f32⟩
  | 19 => ⟨S128x16x64x576, .f32⟩
  | 20 => ⟨S128x16x64x576, .f32⟩
  | 21 => ⟨S_, .f32⟩
  | 22 => ⟨S16x64x576, .f32⟩
  | 23 => ⟨S1x16x64x576, .f32⟩
  | 24 => ⟨S_, .f32⟩
  | 25 => ⟨S16x64x576, .f32⟩
  | 26 => ⟨S_, .f32⟩
  | 27 => ⟨S128x16x64x576, .f32⟩
  | 28 => ⟨S128x16x64x576, .f32⟩
  | 29 => ⟨S128x16x576x64, .f32⟩
  | 30 => ⟨S128x576x16x64, .f32⟩
  | 31 => ⟨S128x16x64x64, .f32⟩
  | 32 => ⟨S128x64x16x64, .f32⟩
  | 33 => ⟨S128x64x16x64, .f32⟩
  | 34 => ⟨S128x64x16x64, .f32⟩
  | 35 => ⟨S128x64x16x64, .f32⟩
  | 36 => ⟨S128x64x16x64, .f32⟩
  | 37 => ⟨S128x64x16x64, .f32⟩
  | 38 => ⟨S128x64x16x64, .f32⟩
  | 39 => ⟨S128x64x16x64, .f32⟩
  | 40 => ⟨S128x64x16x64, .f32⟩
  | 41 => ⟨S128x64x16x64, .f32⟩
  | 42 => ⟨S_, .f32⟩
  | 43 => ⟨S136x64x16x64, .f32⟩
  | 44 => ⟨S_, .f32⟩
  | 45 => ⟨S136x64x16x64, .f32⟩
  | 46 => ⟨S136x64x16x64, .f32⟩
  | 47 => ⟨S_, .f32⟩
  | 48 => ⟨S136x64x16x64, .f32⟩
  | 49 => ⟨S136x64x16x64, .f32⟩
  | 50 => ⟨S_, .f32⟩
  | 51 => ⟨S136x64x16x64, .f32⟩
  | 52 => ⟨S136x64x16x64, .f32⟩
  | 53 => ⟨S_, .f32⟩
  | 54 => ⟨S136x64x16x64, .f32⟩
  | 55 => ⟨S136x64x16x64, .f32⟩
  | 56 => ⟨S_, .f32⟩
  | 57 => ⟨S136x64x16x64, .f32⟩
  | 58 => ⟨S136x64x16x64, .f32⟩
  | 59 => ⟨S_, .f32⟩
  | 60 => ⟨S136x64x16x64, .f32⟩
  | 61 => ⟨S136x64x16x64, .f32⟩
  | 62 => ⟨S_, .f32⟩
  | 63 => ⟨S136x64x16x64, .f32⟩
  | 64 => ⟨S136x64x16x64, .f32⟩
  | 65 => ⟨S_, .f32⟩
  | 66 => ⟨S136x64x16x64, .f32⟩
  | 67 => ⟨S136x64x16x64, .f32⟩
  | 68 => ⟨S8704x16x64, .f32⟩
  | 69 => ⟨S128x64x16x64, .f32⟩
  | 70 => ⟨S128x64x16x64, .f32⟩
  | 71 => ⟨S128x64x16x64, .f32⟩
  | 72 => ⟨S128x64x16x64, .f32⟩
  | 73 => ⟨S128x64x16x64, .f32⟩
  | 74 => ⟨S128x64x16x64, .f32⟩
  | 75 => ⟨S128x64x16x64, .f32⟩
  | 76 => ⟨S128x64x16x64, .f32⟩
  | 77 => ⟨S128x64x16x64, .f32⟩
  | 78 => ⟨S_, .f32⟩
  | 79 => ⟨S136x64x16x64, .f32⟩
  | 80 => ⟨S_, .f32⟩
  | 81 => ⟨S136x64x16x64, .f32⟩
  | 82 => ⟨S136x64x16x64, .f32⟩
  | 83 => ⟨S_, .f32⟩
  | 84 => ⟨S136x64x16x64, .f32⟩
  | 85 => ⟨S136x64x16x64, .f32⟩
  | 86 => ⟨S_, .f32⟩
  | 87 => ⟨S136x64x16x64, .f32⟩
  | 88 => ⟨S136x64x16x64, .f32⟩
  | 89 => ⟨S_, .f32⟩
  | 90 => ⟨S136x64x16x64, .f32⟩
  | 91 => ⟨S136x64x16x64, .f32⟩
  | 92 => ⟨S_, .f32⟩
  | 93 => ⟨S136x64x16x64, .f32⟩
  | 94 => ⟨S136x64x16x64, .f32⟩
  | 95 => ⟨S_, .f32⟩
  | 96 => ⟨S136x64x16x64, .f32⟩
  | 97 => ⟨S136x64x16x64, .f32⟩
  | 98 => ⟨S_, .f32⟩
  | 99 => ⟨S136x64x16x64, .f32⟩
  | 100 => ⟨S136x64x16x64, .f32⟩
  | 101 => ⟨S_, .f32⟩
  | 102 => ⟨S136x64x16x64, .f32⟩
  | 103 => ⟨S136x64x16x64, .f32⟩
  | 104 => ⟨S8704x16x64, .f32⟩
  | 105 => ⟨S8192x16x64, .f32⟩
  | 106 => ⟨S8192x1024, .f32⟩
  | 107 => ⟨S8192x1024, .bf16⟩
  | 108 => ⟨S8704x1024, .f32⟩
  | 109 => ⟨S8704x1024, .f32⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_1 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_0 : Ref sig .tc := ⟨.hbm, 54, rfl⟩
abbrev main_call2_v12 : Ref sig .tc := ⟨.hbm, 55, rfl⟩
abbrev main_call2_v13 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_2 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_3 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_4 : Ref sig .tc := ⟨.hbm, 78, rfl⟩
abbrev main_call3_v0 : Ref sig .tc := ⟨.hbm, 79, rfl⟩
abbrev main_v51_1 : Ref sig .tc := ⟨.hbm, 80, rfl⟩
abbrev main_call3_v2 : Ref sig .tc := ⟨.hbm, 81, rfl⟩
abbrev main_v51_0 : Ref sig .tc := ⟨.hbm, 82, rfl⟩
abbrev main_call3_cst : Ref sig .tc := ⟨.hbm, 83, rfl⟩
abbrev main_v51_2 : Ref sig .tc := ⟨.hbm, 84, rfl⟩
abbrev main_cst_5 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_6 : Ref sig .tc := ⟨.hbm, 91, rfl⟩
abbrev main_v57 : Ref sig .tc := ⟨.hbm, 92, rfl⟩
abbrev main_cst_7 : Ref sig .tc := ⟨.hbm, 93, rfl⟩
abbrev main_v58 : Ref sig .tc := ⟨.hbm, 94, rfl⟩
abbrev main_v59 : Ref sig .tc := ⟨.hbm, 95, rfl⟩
abbrev main_cst_8 : Ref sig .tc := ⟨.hbm, 96, rfl⟩
abbrev main_v60 : Ref sig .tc := ⟨.hbm, 97, rfl⟩
abbrev main_v61 : Ref sig .tc := ⟨.hbm, 98, rfl⟩
abbrev main_cst_9 : Ref sig .tc := ⟨.hbm, 99, rfl⟩
abbrev main_v62 : Ref sig .tc := ⟨.hbm, 100, rfl⟩
abbrev main_v63 : Ref sig .tc := ⟨.hbm, 101, rfl⟩
abbrev main_cst_10 : Ref sig .tc := ⟨.hbm, 102, rfl⟩
abbrev main_v64 : Ref sig .tc := ⟨.hbm, 103, rfl⟩
abbrev main_cst_11 : Ref sig .tc := ⟨.hbm, 104, rfl⟩
abbrev main_v65 : Ref sig .tc := ⟨.hbm, 105, rfl⟩
abbrev main_cst_12 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_13 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_14 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_15 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_16 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_call4_cst : Ref sig .tc := ⟨.hbm, 146, rfl⟩
abbrev main_call4_v0 : Ref sig .tc := ⟨.hbm, 147, rfl⟩
abbrev main_v101 : Ref sig .tc := ⟨.hbm, 148, rfl⟩
abbrev main_cst_17 : Ref sig .tc := ⟨.hbm, 149, rfl⟩
abbrev main_v102 : Ref sig .tc := ⟨.hbm, 150, rfl⟩
abbrev main_v103 : Ref sig .tc := ⟨.hbm, 151, rfl⟩
abbrev main_cst_18 : Ref sig .tc := ⟨.hbm, 152, rfl⟩
abbrev main_v104 : Ref sig .tc := ⟨.hbm, 153, rfl⟩
abbrev main_cst_19 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_20 : Ref sig .tc := ⟨.hbm, 170, rfl⟩
abbrev main_v120 : Ref sig .tc := ⟨.hbm, 171, rfl⟩
abbrev main_cst_21 : Ref sig .tc := ⟨.hbm, 172, rfl⟩
abbrev main_v121 : Ref sig .tc := ⟨.hbm, 173, rfl⟩
abbrev main_v122 : Ref sig .tc := ⟨.hbm, 174, rfl⟩
abbrev main_cst_22 : Ref sig .tc := ⟨.hbm, 175, rfl⟩
abbrev main_v123 : Ref sig .tc := ⟨.hbm, 176, rfl⟩
abbrev main_v124 : Ref sig .tc := ⟨.hbm, 177, rfl⟩
abbrev main_cst_23 : Ref sig .tc := ⟨.hbm, 178, rfl⟩
abbrev main_v125 : Ref sig .tc := ⟨.hbm, 179, rfl⟩
abbrev main_v126 : Ref sig .tc := ⟨.hbm, 180, rfl⟩
abbrev main_cst_24 : Ref sig .tc := ⟨.hbm, 181, rfl⟩
abbrev main_v127 : Ref sig .tc := ⟨.hbm, 182, rfl⟩
abbrev main_v128 : Ref sig .tc := ⟨.hbm, 183, rfl⟩
abbrev main_cst_25 : Ref sig .tc := ⟨.hbm, 184, rfl⟩
abbrev main_v129 : Ref sig .tc := ⟨.hbm, 185, rfl⟩
abbrev main_v130 : Ref sig .tc := ⟨.hbm, 186, rfl⟩
abbrev main_cst_26 : Ref sig .tc := ⟨.hbm, 187, rfl⟩
abbrev main_v131 : Ref sig .tc := ⟨.hbm, 188, rfl⟩
abbrev main_v132 : Ref sig .tc := ⟨.hbm, 189, rfl⟩
abbrev main_cst_27 : Ref sig .tc := ⟨.hbm, 190, rfl⟩
abbrev main_v133 : Ref sig .tc := ⟨.hbm, 191, rfl⟩
abbrev main_v134 : Ref sig .tc := ⟨.hbm, 192, rfl⟩
abbrev main_cst_28 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_cst_29 : Ref sig .tc := ⟨.hbm, 206, rfl⟩
abbrev main_v147 : Ref sig .tc := ⟨.hbm, 207, rfl⟩
abbrev main_cst_30 : Ref sig .tc := ⟨.hbm, 208, rfl⟩
abbrev main_v148 : Ref sig .tc := ⟨.hbm, 209, rfl⟩
abbrev main_v149 : Ref sig .tc := ⟨.hbm, 210, rfl⟩
abbrev main_cst_31 : Ref sig .tc := ⟨.hbm, 211, rfl⟩
abbrev main_v150 : Ref sig .tc := ⟨.hbm, 212, rfl⟩
abbrev main_v151 : Ref sig .tc := ⟨.hbm, 213, rfl⟩
abbrev main_cst_32 : Ref sig .tc := ⟨.hbm, 214, rfl⟩
abbrev main_v152 : Ref sig .tc := ⟨.hbm, 215, rfl⟩
abbrev main_v153 : Ref sig .tc := ⟨.hbm, 216, rfl⟩
abbrev main_cst_33 : Ref sig .tc := ⟨.hbm, 217, rfl⟩
abbrev main_v154 : Ref sig .tc := ⟨.hbm, 218, rfl⟩
abbrev main_v155 : Ref sig .tc := ⟨.hbm, 219, rfl⟩
abbrev main_cst_34 : Ref sig .tc := ⟨.hbm, 220, rfl⟩
abbrev main_v156 : Ref sig .tc := ⟨.hbm, 221, rfl⟩
abbrev main_v157 : Ref sig .tc := ⟨.hbm, 222, rfl⟩
abbrev main_cst_35 : Ref sig .tc := ⟨.hbm, 223, rfl⟩
abbrev main_v158 : Ref sig .tc := ⟨.hbm, 224, rfl⟩
abbrev main_v159 : Ref sig .tc := ⟨.hbm, 225, rfl⟩
abbrev main_cst_36 : Ref sig .tc := ⟨.hbm, 226, rfl⟩
abbrev main_v160 : Ref sig .tc := ⟨.hbm, 227, rfl⟩
abbrev main_v161 : Ref sig .tc := ⟨.hbm, 228, rfl⟩
abbrev main_cst_37 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩

abbrev nD : Nat := 1
abbrev τ : Topo := Topo.v7x

variable {F : FTy → Type} [FloatOps F]
-- ==== GwUp.lean ====
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwUpRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x1408, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S1x1024x1408, .f32⟩
  | .hbm, ⟨14, _⟩ => ⟨S1x1024x1408, .f32⟩
  | .hbm, ⟨15, _⟩ => ⟨S1x1024x1408, .f32⟩
  | .hbm, ⟨16, _⟩ => ⟨S1x1024x1408, .f32⟩
  | .hbm, ⟨17, _⟩ => ⟨S4x1024x1408, .f32⟩
  | .hbm, ⟨18, _⟩ => ⟨S4x1024x1408, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== DH2.lean ====
abbrev S8192x5632 : Shape := ⟨2, ![8192, 5632]⟩
abbrev S4x1024x1408 : Shape := ⟨3, ![4, 1024, 1408]⟩
abbrev S8192x1024 : Shape := ⟨2, ![8192, 1024]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S4x1024x1408, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH2RefIdeal.lean ====
abbrev S8192x5632 : Shape := ⟨2, ![8192, 5632]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S_ : Shape := ⟨0, ![]⟩
abbrev S8192x1024 : Shape := ⟨2, ![8192, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x1024x1408, .bf16⟩
  | .hbm, ⟨2, _⟩ => ⟨S1x1024x1408, .bf16⟩
  | .hbm, ⟨3, _⟩ => ⟨S1024x1408, .bf16⟩
  | .hbm, ⟨4, _⟩ => ⟨S1x1024x1408, .bf16⟩
  | .hbm, ⟨5, _⟩ => ⟨S1024x1408, .bf16⟩
  | .hbm, ⟨6, _⟩ => ⟨S1x1024x1408, .bf16⟩
  | .hbm, ⟨7, _⟩ => ⟨S1024x1408, .bf16⟩
  | .hbm, ⟨8, _⟩ => ⟨S1x1024x1408, .bf16⟩
  | .hbm, ⟨9, _⟩ => ⟨S1024x1408, .bf16⟩
  | .hbm, ⟨10, _⟩ => ⟨S1024x5632, .bf16⟩
  | .hbm, ⟨11, _⟩ => ⟨S_, .f32⟩
  | .hbm, ⟨12, _⟩ => ⟨S8192x1024, .f32⟩
  | .hbm, ⟨13, _⟩ => ⟨S1024x5632, .f32⟩
  | .hbm, ⟨14, _⟩ => ⟨S8192x5632, .f32⟩
  | .hbm, ⟨15, _⟩ => ⟨S8192x5632, .f32⟩
  | .hbm, ⟨16, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== GwQkv.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwQkvRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DH1.lean ====
abbrev S8192x3072 : Shape := ⟨2, ![8192, 3072]⟩
abbrev S1024x3072 : Shape := ⟨2, ![1024, 3072]⟩
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DH1RefIdeal.lean ====
abbrev S8192x3072 : Shape := ⟨2, ![8192, 3072]⟩
abbrev S1024x3072 : Shape := ⟨2, ![1024, 3072]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S8192x1024, .f32⟩
  | .hbm, ⟨9, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== GwDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DAct.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GwO.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GwORefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DMerged.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnUp.lean ====
abbrev S8192x1024 : Shape := ⟨2, ![8192, 1024]⟩
abbrev S4x1024x1408 : Shape := ⟨3, ![4, 1024, 1408]⟩
abbrev S8192x5632 : Shape := ⟨2, ![8192, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S8192x1024 : Shape := ⟨2, ![8192, 1024]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S8192x5632 : Shape := ⟨2, ![8192, 5632]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S1x1024x1408, .bf16⟩
  | .hbm, ⟨3, _⟩ => ⟨S1024x1408, .bf16⟩
  | .hbm, ⟨4, _⟩ => ⟨S1x1024x1408, .bf16⟩
  | .hbm, ⟨5, _⟩ => ⟨S1024x1408, .bf16⟩
  | .hbm, ⟨6, _⟩ => ⟨S1x1024x1408, .bf16⟩
  | .hbm, ⟨7, _⟩ => ⟨S1024x1408, .bf16⟩
  | .hbm, ⟨8, _⟩ => ⟨S1x1024x1408, .bf16⟩
  | .hbm, ⟨9, _⟩ => ⟨S1024x1408, .bf16⟩
  | .hbm, ⟨10, _⟩ => ⟨S1024x5632, .bf16⟩
  | .hbm, ⟨11, _⟩ => ⟨S8192x1024, .f32⟩
  | .hbm, ⟨12, _⟩ => ⟨S1024x5632, .f32⟩
  | .hbm, ⟨13, _⟩ => ⟨S8192x5632, .f32⟩
  | .hbm, ⟨14, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== ProjQkv.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjQkvRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjZ.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjZRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnDown.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== LnBwd.lean ====
abbrev S8192x1024 : Shape := ⟨2, ![8192, 1024]⟩
abbrev S6x1024 : Shape := ⟨2, ![6, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S6x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S6x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== LnBwdRefIdeal.lean ====
abbrev S8192x1024 : Shape := ⟨2, ![8192, 1024]⟩
abbrev S6x1024 : Shape := ⟨2, ![6, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 120
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S6x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S8192x1, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S8192, .f32⟩
  | .hbm, ⟨101, _⟩ => ⟨S8192x1, .f32⟩
  | .hbm, ⟨102, _⟩ => ⟨S8192x1024, .f32⟩
  | .hbm, ⟨103, _⟩ => ⟨S8192x1, .f32⟩
  | .hbm, ⟨104, _⟩ => ⟨S_, .f32⟩
  | .hbm, ⟨105, _⟩ => ⟨S8192x1, .f32⟩
  | .hbm, ⟨106, _⟩ => ⟨S8192x1, .f32⟩
  | .hbm, ⟨107, _⟩ => ⟨S_, .f32⟩
  | .hbm, ⟨108, _⟩ => ⟨S8192, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S_, .f32⟩
  | .hbm, ⟨117, _⟩ => ⟨S1024, .f32⟩
  | .hbm, ⟨118, _⟩ => ⟨S1x1024, .f32⟩
  | .hbm, ⟨119, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_cst_15 : Ref sig .tc := ⟨.hbm, 91, rfl⟩
abbrev main_v68 : Ref sig .tc := ⟨.hbm, 92, rfl⟩
abbrev main_v69 : Ref sig .tc := ⟨.hbm, 93, rfl⟩
abbrev main_cst_16 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_17 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_18 : Ref sig .tc := ⟨.hbm, 104, rfl⟩
abbrev main_v78 : Ref sig .tc := ⟨.hbm, 105, rfl⟩
abbrev main_v79 : Ref sig .tc := ⟨.hbm, 106, rfl⟩
abbrev main_cst_19 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_20 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]
-- ==== MergeBwd.lean ====
abbrev S8192x1024 : Shape := ⟨2, ![8192, 1024]⟩
abbrev S8192x2048 : Shape := ⟨2, ![8192, 2048]⟩
abbrev S1x2048 : Shape := ⟨2, ![1, 2048]⟩
abbrev S512x1024 : Shape := ⟨2, ![512, 1024]⟩
abbrev S512x2048 : Shape := ⟨2, ![512, 2048]⟩
abbrev S2048 : Shape := ⟨1, ![2048]⟩

abbrev nBuf : Space → Nat
  | .hbm => 9
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1x2048, .f32⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x2048, .bf16⟩
  | .hbm, ⟨8, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MergeBwdRefIdeal.lean ====
abbrev S8192x1024 : Shape := ⟨2, ![8192, 1024]⟩
abbrev S8192x2048 : Shape := ⟨2, ![8192, 2048]⟩
abbrev S1x2048 : Shape := ⟨2, ![1, 2048]⟩
abbrev S_ : Shape := ⟨0, ![]⟩
abbrev S2048 : Shape := ⟨1, ![2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1x2048, .f32⟩
  | .hbm, ⟨3, _⟩ => ⟨S8192x1024, .bf16⟩
  | .hbm, ⟨4, _⟩ => ⟨S8192x1024, .bf16⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S8192x1024, .bf16⟩
  | .hbm, ⟨38, _⟩ => ⟨S8192x1024, .bf16⟩
  | .hbm, ⟨39, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== GradX.lean ====
abbrev S8192x1024 : Shape := ⟨2, ![8192, 1024]⟩
abbrev S6x1024 : Shape := ⟨2, ![6, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S6x1024, .f32⟩
  | .hbm, ⟨4, _⟩ => ⟨S8192x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S6x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GradXRefIdeal.lean ====
abbrev S8192x1024 : Shape := ⟨2, ![8192, 1024]⟩
abbrev S6x1024 : Shape := ⟨2, ![6, 1024]⟩
abbrev S1x1024 : Shape := ⟨2, ![1, 1024]⟩
abbrev S_ : Shape := ⟨0, ![]⟩
abbrev S1024 : Shape := ⟨1, ![1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S6x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== GateBwd.lean ====
abbrev S8192x1024 : Shape := ⟨2, ![8192, 1024]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .bf16⟩
  | .hbm, ⟨3, _⟩ => ⟨S1x128, .f32⟩
  | .hbm, ⟨4, _⟩ => ⟨S8192x1024, .f32⟩
  | .hbm, ⟨5, _⟩ => ⟨S8192x1024, .bf16⟩
  | .hbm, ⟨6, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x128, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateBwdRefIdeal.lean ====
abbrev S8192x1024 : Shape := ⟨2, ![8192, 1024]⟩
abbrev S1x128 : Shape := ⟨2, ![1, 128]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩
abbrev S128 : Shape := ⟨1, ![128]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .bf16⟩
  | .hbm, ⟨3, _⟩ => ⟨S1x128, .f32⟩
  | .hbm, ⟨4, _⟩ => ⟨S8192x1024, .f32⟩
  | .hbm, ⟨5, _⟩ => ⟨S8192x8x128, .f32⟩
  | .hbm, ⟨6, _⟩ => ⟨S8192x8x128, .f32⟩
  | .hbm, ⟨7, _⟩ => ⟨S_, .f32⟩
  | .hbm, ⟨8, _⟩ => ⟨S8192x8x128, .f32⟩
  | .hbm, ⟨9, _⟩ => ⟨S8192x8x128, .f32⟩
  | .hbm, ⟨10, _⟩ => ⟨S_, .f32⟩
  | .hbm, ⟨11, _⟩ => ⟨S8192x8, .f32⟩
  | .hbm, ⟨12, _⟩ => ⟨S8192x8x1, .f32⟩
  | .hbm, ⟨13, _⟩ => ⟨S_, .f32⟩
  | .hbm, ⟨14, _⟩ => ⟨S8192x8x1, .f32⟩
  | .hbm, ⟨15, _⟩ => ⟨S8192x8x1, .f32⟩
  | .hbm, ⟨16, _⟩ => ⟨S_, .f32⟩
  | .hbm, ⟨17, _⟩ => ⟨S8192x8x1, .f32⟩
  | .hbm, ⟨18, _⟩ => ⟨S8192x8x1, .f32⟩
  | .hbm, ⟨19, _⟩ => ⟨S8192x8x1, .f32⟩
  | .hbm, ⟨20, _⟩ => ⟨S8192x8x1, .f32⟩
  | .hbm, ⟨21, _⟩ => ⟨S_, .f32⟩
  | .hbm, ⟨22, _⟩ => ⟨S8192x8x1, .f32⟩
  | .hbm, ⟨23, _⟩ => ⟨S8192x8x1, .f32⟩
  | .hbm, ⟨24, _⟩ => ⟨S8192x8x128, .f32⟩
  | .hbm, ⟨25, _⟩ => ⟨S8192x8x128, .f32⟩
  | .hbm, ⟨26, _⟩ => ⟨S1x1x128, .f32⟩
  | .hbm, ⟨27, _⟩ => ⟨S8192x8x128, .f32⟩
  | .hbm, ⟨28, _⟩ => ⟨S8192x8x128, .f32⟩
  | .hbm, ⟨29, _⟩ => ⟨S8192x8x128, .f32⟩
  | .hbm, ⟨30, _⟩ => ⟨S8192x8x128, .f32⟩
  | .hbm, ⟨31, _⟩ => ⟨S8192x8x128, .f32⟩
  | .hbm, ⟨32, _⟩ => ⟨S_, .f32⟩
  | .hbm, ⟨33, _⟩ => ⟨S8192x8x128, .f32⟩
  | .hbm, ⟨34, _⟩ => ⟨S8192x8x128, .f32⟩
  | .hbm, ⟨35, _⟩ => ⟨S_, .f32⟩
  | .hbm, ⟨36, _⟩ => ⟨S8192x8x128, .f32⟩
  | .hbm, ⟨37, _⟩ => ⟨S8192x8x128, .f32⟩
  | .hbm, ⟨38, _⟩ => ⟨S_, .f32⟩
  | .hbm, ⟨39, _⟩ => ⟨S8192x8x128, .f32⟩
  | .hbm, ⟨40, _⟩ => ⟨S8192x8x128, .f32⟩
  | .hbm, ⟨41, _⟩ => ⟨S8192x8x128, .f32⟩
  | .hbm, ⟨42, _⟩ => ⟨S8192x8x128, .f32⟩
  | .hbm, ⟨43, _⟩ => ⟨S8192x8x128, .f32⟩
  | .hbm, ⟨44, _⟩ => ⟨S8192x1024, .f32⟩
  | .hbm, ⟨45, _⟩ => ⟨S8192x1024, .f32⟩
  | .hbm, ⟨46, _⟩ => ⟨S8192x8x128, .f32⟩
  | .hbm, ⟨47, _⟩ => ⟨S8192x8x128, .f32⟩
  | .hbm, ⟨48, _⟩ => ⟨S8192x8x128, .f32⟩
  | .hbm, ⟨49, _⟩ => ⟨S8192x8x128, .f32⟩
  | .hbm, ⟨50, _⟩ => ⟨S8192x8x128, .f32⟩
  | .hbm, ⟨51, _⟩ => ⟨S8192x8x128, .f32⟩
  | .hbm, ⟨52, _⟩ => ⟨S8192x8x128, .f32⟩
  | .hbm, ⟨53, _⟩ => ⟨S8192x1024, .f32⟩
  | .hbm, ⟨54, _⟩ => ⟨S8192x8x128, .f32⟩
  | .hbm, ⟨55, _⟩ => ⟨S_, .f32⟩
  | .hbm, ⟨56, _⟩ => ⟨S128, .f32⟩
  | .hbm, ⟨57, _⟩ => ⟨S1x1x128, .f32⟩
  | .hbm, ⟨58, _⟩ => ⟨S8192x8x128, .f32⟩
  | .hbm, ⟨59, _⟩ => ⟨S8192x8x128, .f32⟩
  | .hbm, ⟨60, _⟩ => ⟨S_, .f32⟩
  | .hbm, ⟨61, _⟩ => ⟨S128, .f32⟩
  | .hbm, ⟨62, _⟩ => ⟨S1x128, .f32⟩
  | .hbm, ⟨63, _⟩ => ⟨S8192x8x128, .f32⟩
  | .hbm, ⟨64, _⟩ => ⟨S_, .f32⟩
  | .hbm, ⟨65, _⟩ => ⟨S8192x8, .f32⟩
  | .hbm, ⟨66, _⟩ => ⟨S8192x8x1, .f32⟩
  | .hbm, ⟨67, _⟩ => ⟨S8192x8x128, .f32⟩
  | .hbm, ⟨68, _⟩ => ⟨S8192x8x128, .f32⟩
  | .hbm, ⟨69, _⟩ => ⟨S8192x8x1, .f32⟩
  | .hbm, ⟨70, _⟩ => ⟨S_, .f32⟩
  | .hbm, ⟨71, _⟩ => ⟨S8192x8x1, .f32⟩
  | .hbm, ⟨72, _⟩ => ⟨S8192x8x1, .f32⟩
  | .hbm, ⟨73, _⟩ => ⟨S_, .f32⟩
  | .hbm, ⟨74, _⟩ => ⟨S8192x8, .f32⟩
  | .hbm, ⟨75, _⟩ => ⟨S8192x8x128, .f32⟩
  | .hbm, ⟨76, _⟩ => ⟨S8192x8x128, .f32⟩
  | .hbm, ⟨77, _⟩ => ⟨S8192x8x128, .f32⟩
  | .hbm, ⟨78, _⟩ => ⟨S8192x1024, .f32⟩
  | .hbm, ⟨79, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v21_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v21_1 : Ref sig .tc := ⟨.hbm, 41, rfl⟩
abbrev main_v21_0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩

abbrev nD : Nat := 1
abbrev τ : Topo := Topo.v7x

variable {F : FTy → Type} [FloatOps F]
-- ==== Final.lean ====
abbrev S8192x1024 : Shape := ⟨2, ![8192, 1024]⟩
abbrev S6x1024 : Shape := ⟨2, ![6, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 12
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S6x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1, .f32⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S6x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FinalRefIdeal.lean ====
abbrev S8192x1024 : Shape := ⟨2, ![8192, 1024]⟩
abbrev S6x1024 : Shape := ⟨2, ![6, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S6x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S8192x1024, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S_, .f32⟩
  | .hbm, ⟨104, _⟩ => ⟨S8192, .f32⟩
  | .hbm, ⟨105, _⟩ => ⟨S8192x1, .f32⟩
  | .hbm, ⟨106, _⟩ => ⟨S8192x1024, .f32⟩
  | .hbm, ⟨107, _⟩ => ⟨S8192x1, .f32⟩
  | .hbm, ⟨108, _⟩ => ⟨S_, .f32⟩
  | .hbm, ⟨109, _⟩ => ⟨S8192x1, .f32⟩
  | .hbm, ⟨110, _⟩ => ⟨S8192x1, .f32⟩
  | .hbm, ⟨111, _⟩ => ⟨S_, .f32⟩
  | .hbm, ⟨112, _⟩ => ⟨S8192, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x1024, .f32⟩
  | .hbm, ⟨118, _⟩ => ⟨S8192x1024, .f32⟩
  | .hbm, ⟨119, _⟩ => ⟨S8192x1024, .f32⟩
  | .hbm, ⟨120, _⟩ => ⟨S_, .f32⟩
  | .hbm, ⟨121, _⟩ => ⟨S1024, .f32⟩
  | .hbm, ⟨122, _⟩ => ⟨S1x1024, .f32⟩
  | .hbm, ⟨123, _⟩ => ⟨S8192x1024, .bf16⟩
  | .hbm, ⟨124, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_cst_12 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_16 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_17 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_18 : Ref sig .tc := ⟨.hbm, 92, rfl⟩
abbrev main_v67 : Ref sig .tc := ⟨.hbm, 93, rfl⟩
abbrev main_v68 : Ref sig .tc := ⟨.hbm, 94, rfl⟩
abbrev main_cst_19 : Ref sig .tc := ⟨.hbm, 95, rfl⟩
abbrev main_v69 : Ref sig .tc := ⟨.hbm, 96, rfl⟩
abbrev main_v70 : Ref sig .tc := ⟨.hbm, 97, rfl⟩
abbrev main_cst_20 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_21 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_22 : Ref sig .tc := ⟨.hbm, 108, rfl⟩
abbrev main_v79 : Ref sig .tc := ⟨.hbm, 109, rfl⟩
abbrev main_v80 : Ref sig .tc := ⟨.hbm, 110, rfl⟩
abbrev main_cst_23 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_24 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩

abbrev nD : Nat := 1
abbrev τ : Topo := Topo.v7x

variable {F : FTy → Type} [FloatOps F]
-- ==== ModT.lean ====
abbrev S8192x1024 : Shape := ⟨2, ![8192, 1024]⟩
abbrev S6x1024 : Shape := ⟨2, ![6, 1024]⟩
abbrev S1024x1024 : Shape := ⟨2, ![1024, 1024]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S6x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ModTRefIdeal.lean ====
abbrev S8192x1024 : Shape := ⟨2, ![8192, 1024]⟩
abbrev S6x1024 : Shape := ⟨2, ![6, 1024]⟩
abbrev S1x1024 : Shape := ⟨2, ![1, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== GateFwd.lean ====
abbrev S8192x1024 : Shape := ⟨2, ![8192, 1024]⟩
abbrev S1x128 : Shape := ⟨2, ![1, 128]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x128, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x128, .f32⟩
  | .local _ .vmem, ⟨5, _⟩ => ⟨S1024x1024, .bf16⟩
  | .local _ .vmem, ⟨6, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateFwdRefIdeal.lean ====
abbrev S8192x1024 : Shape := ⟨2, ![8192, 1024]⟩
abbrev S1x128 : Shape := ⟨2, ![1, 128]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x128, .f32⟩
  | .hbm, ⟨3, _⟩ => ⟨S8192x1024, .f32⟩
  | .hbm, ⟨4, _⟩ => ⟨S8192x8x128, .f32⟩
  | .hbm, ⟨5, _⟩ => ⟨S8192x8x128, .f32⟩
  | .hbm, ⟨6, _⟩ => ⟨S_, .f32⟩
  | .hbm, ⟨7, _⟩ => ⟨S8192x8, .f32⟩
  | .hbm, ⟨8, _⟩ => ⟨S8192x8x1, .f32⟩
  | .hbm, ⟨9, _⟩ => ⟨S_, .f32⟩
  | .hbm, ⟨10, _⟩ => ⟨S8192x8x1, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S8192x8x1, .f32⟩
  | .hbm, ⟨16, _⟩ => ⟨S8192x8x128, .f32⟩
  | .hbm, ⟨17, _⟩ => ⟨S8192x8x128, .f32⟩
  | .hbm, ⟨18, _⟩ => ⟨S1x1x128, .f32⟩
  | .hbm, ⟨19, _⟩ => ⟨S8192x8x128, .f32⟩
  | .hbm, ⟨20, _⟩ => ⟨S8192x8x128, .f32⟩
  | .hbm, ⟨21, _⟩ => ⟨S8192x8x128, .f32⟩
  | .hbm, ⟨22, _⟩ => ⟨S8192x8x128, .f32⟩
  | .hbm, ⟨23, _⟩ => ⟨S8192x8x128, .f32⟩
  | .hbm, ⟨24, _⟩ => ⟨S_, .f32⟩
  | .hbm, ⟨25, _⟩ => ⟨S8192x8x128, .f32⟩
  | .hbm, ⟨26, _⟩ => ⟨S8192x8x128, .f32⟩
  | .hbm, ⟨27, _⟩ => ⟨S_, .f32⟩
  | .hbm, ⟨28, _⟩ => ⟨S8192x8x128, .f32⟩
  | .hbm, ⟨29, _⟩ => ⟨S8192x8x128, .f32⟩
  | .hbm, ⟨30, _⟩ => ⟨S8192x8x128, .f32⟩
  | .hbm, ⟨31, _⟩ => ⟨S8192x8x128, .f32⟩
  | .hbm, ⟨32, _⟩ => ⟨S8192x1024, .f32⟩
  | .hbm, ⟨33, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== MergeFwd.lean ====
abbrev S8192x2048 : Shape := ⟨2, ![8192, 2048]⟩
abbrev S1x2048 : Shape := ⟨2, ![1, 2048]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S1x2048, .f32⟩
  | .hbm, ⟨2, _⟩ => ⟨S8192x1024, .bf16⟩
  | .hbm, ⟨3, _⟩ => ⟨S8192x1024, .bf16⟩
  | .hbm, ⟨4, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S1x2048, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeFwdRefIdeal.lean ====
abbrev S8192x2048 : Shape := ⟨2, ![8192, 2048]⟩
abbrev S1x2048 : Shape := ⟨2, ![1, 2048]⟩
abbrev S8192x1024 : Shape := ⟨2, ![8192, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048, .f32⟩
  | .hbm, ⟨2, _⟩ => ⟨S8192x1024, .bf16⟩
  | .hbm, ⟨3, _⟩ => ⟨S8192x1024, .bf16⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== LnFwd.lean ====
abbrev S8192x1024 : Shape := ⟨2, ![8192, 1024]⟩
abbrev S6x1024 : Shape := ⟨2, ![6, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S6x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S6x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LnFwdRefIdeal.lean ====
abbrev S8192x1024 : Shape := ⟨2, ![8192, 1024]⟩
abbrev S6x1024 : Shape := ⟨2, ![6, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S6x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Mix.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjG.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjBa.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBaRefIdeal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GwG.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwGRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GwBa.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GwBaRefIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S8192x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DH1Ba.lean ====
abbrev S8192x128 : Shape := ⟨2, ![8192, 128]⟩
abbrev S1024x128 : Shape := ⟨2, ![1024, 128]⟩
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH1BaRefIdeal.lean ====
abbrev S8192x128 : Shape := ⟨2, ![8192, 128]⟩
abbrev S1024x128 : Shape := ⟨2, ![1024, 128]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S_, .f32⟩
  | .hbm, ⟨3, _⟩ => ⟨S8192x1024, .f32⟩
  | .hbm, ⟨4, _⟩ => ⟨S1024x128, .f32⟩
  | .hbm, ⟨5, _⟩ => ⟨S8192x128, .f32⟩
  | .hbm, ⟨6, _⟩ => ⟨S8192x128, .f32⟩
  | .hbm, ⟨7, _⟩ => ⟨S8192x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DH1Z.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DH1ZRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DH1G.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DH1GRefIdeal.lean ====
abbrev S8192x2048 : Shape := ⟨2, ![8192, 2048]⟩
abbrev S1024x2048 : Shape := ⟨2, ![1024, 2048]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x2048, .f32⟩
  | .hbm, ⟨6, _⟩ => ⟨S8192x2048, .f32⟩
  | .hbm, ⟨7, _⟩ => ⟨S8192x2048, .f32⟩
  | .hbm, ⟨8, _⟩ => ⟨S8192x1024, .f32⟩
  | .hbm, ⟨9, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== AdaBwd.lean ====
abbrev S8x1024 : Shape := ⟨2, ![8, 1024]⟩
abbrev S8x1536 : Shape := ⟨2, ![8, 1536]⟩
abbrev S1024x1536 : Shape := ⟨2, ![1024, 1536]⟩
abbrev S8x512 : Shape := ⟨2, ![8, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1024x1536, .f32⟩
  | .local _ .vmem, ⟨0, _⟩ => ⟨S8x1024, .f32⟩
  | .local _ .vmem, ⟨1, _⟩ => ⟨S8x512, .f32⟩
  | .local _ .vmem, ⟨2, _⟩ => ⟨S8x512, .f32⟩
  | .local _ .vmem, ⟨3, _⟩ => ⟨S1024x512, .f32⟩
  | .local _ .vmem, ⟨4, _⟩ => ⟨S1024x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaBwdRefIdeal.lean ====
abbrev S8x1024 : Shape := ⟨2, ![8, 1024]⟩
abbrev S8x1536 : Shape := ⟨2, ![8, 1536]⟩
abbrev S_ : Shape := ⟨0, ![]⟩
abbrev S1x1536 : Shape := ⟨2, ![1, 1536]⟩
abbrev S1024x1536 : Shape := ⟨2, ![1024, 1536]⟩
abbrev S1536x1024 : Shape := ⟨2, ![1536, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S_, .f32⟩
  | .hbm, ⟨3, _⟩ => ⟨S1x1536, .f32⟩
  | .hbm, ⟨4, _⟩ => ⟨S_, .f32⟩
  | .hbm, ⟨5, _⟩ => ⟨S1024x1536, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1536, .f32⟩
  | .hbm, ⟨16, _⟩ => ⟨S8x1536, .f32⟩
  | .hbm, ⟨17, _⟩ => ⟨S8x1536, .f32⟩
  | .hbm, ⟨18, _⟩ => ⟨S1536x1024, .f32⟩
  | .hbm, ⟨19, _⟩ => ⟨S1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== AdaFwd.lean ====
abbrev S8x1024 : Shape := ⟨2, ![8, 1024]⟩
abbrev S1024x1536 : Shape := ⟨2, ![1024, 1536]⟩
abbrev S1x1536 : Shape := ⟨2, ![1, 1536]⟩
abbrev S8x1536 : Shape := ⟨2, ![8, 1536]⟩
abbrev S1024x512 : Shape := ⟨2, ![1024, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x1536, .f32⟩
  | .hbm, ⟨2, _⟩ => ⟨S1x1536, .f32⟩
  | .hbm, ⟨3, _⟩ => ⟨S8x1536, .f32⟩
  | .local _ .vmem, ⟨0, _⟩ => ⟨S8x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaFwdRefIdeal.lean ====
abbrev S8x1024 : Shape := ⟨2, ![8, 1024]⟩
abbrev S1024x1536 : Shape := ⟨2, ![1024, 1536]⟩
abbrev S1x1536 : Shape := ⟨2, ![1, 1536]⟩
abbrev S_ : Shape := ⟨0, ![]⟩
abbrev S8x1536 : Shape := ⟨2, ![8, 1536]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x1536, .f32⟩
  | .hbm, ⟨2, _⟩ => ⟨S1x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1536, .f32⟩
  | .hbm, ⟨13, _⟩ => ⟨S8x1536, .f32⟩
  | .hbm, ⟨14, _⟩ => ⟨S8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== AdamAda.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaIdeal.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaRefIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S1024x2308 : Shape := ⟨2, ![1024, 2308]⟩
abbrev S128x2308 : Shape := ⟨2, ![128, 2308]⟩

abbrev nBuf : Space → Nat
  | .hbm => 7
  | .vmem => 14
  | .smem => 0
  | _ => 0

abbrev bufTy : (tb : Table) → Fin (tcTables nBuf tb) → BufTy
  | .hbm, ⟨0, _⟩ => ⟨S1024x2308, .f32⟩
  | .hbm, ⟨1, _⟩ => ⟨S1024x2308, .f32⟩
  | .hbm, ⟨2, _⟩ => ⟨S1024x2308, .f32⟩
  | .hbm, ⟨3, _⟩ => ⟨S1024x2308, .f32⟩
  | .hbm, ⟨4, _⟩ => ⟨S1024x2308, .f32⟩
  | .hbm, ⟨5, _⟩ => ⟨S1024x2308, .f32⟩
  | .hbm, ⟨6, _⟩ => ⟨S1024x2308, .f32⟩
  | .local _ .vmem, ⟨0, _⟩ => ⟨S128x2308, .f32⟩
  | .local _ .vmem, ⟨1, _⟩ => ⟨S128x2308, .f32⟩
  | .local _ .vmem, ⟨2, _⟩ => ⟨S128x2308, .f32⟩
  | .local _ .vmem, ⟨3, _⟩ => ⟨S128x2308, .f32⟩
  | .local _ .vmem, ⟨4, _⟩ => ⟨S128x2308, .f32⟩
  | .local _ .vmem, ⟨5, _⟩ => ⟨S128x2308, .f32⟩
  | .local _ .vmem, ⟨6, _⟩ => ⟨S128x2308, .f32⟩
  | .local _ .vmem, ⟨7, _⟩ => ⟨S128x2308, .f32⟩
  | .local _ .vmem, ⟨8, _⟩ => ⟨S128x2308, .f32⟩
  | .local _ .vmem, ⟨9, _⟩ => ⟨S128x2308, .f32⟩
  | .local _ .vmem, ⟨10, _⟩ => ⟨S128x2308, .f32⟩
  | .local _ .vmem, ⟨11, _⟩ => ⟨S128x2308, .f32⟩
  | .local _ .vmem, ⟨12, _⟩ => ⟨S128x2308, .f32⟩
  | .local _ .vmem, ⟨13, _⟩ => ⟨S128x2308, .f32⟩
  | _, _ => ⟨S1024x2308, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2308 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2308 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2308 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2308 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2308 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2308 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2308 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1024x2308 : Shape := ⟨2, ![1024, 2308]⟩
abbrev S128x2308 : Shape := ⟨2, ![128, 2308]⟩

abbrev nBuf : Space → Nat
  | .hbm => 7
  | .vmem => 14
  | .smem => 0
  | _ => 0

abbrev bufTy : (tb : Table) → Fin (tcTables nBuf tb) → BufTy
  | .hbm, ⟨0, _⟩ => ⟨S1024x2308, .f32⟩
  | .hbm, ⟨1, _⟩ => ⟨S1024x2308, .f32⟩
  | .hbm, ⟨2, _⟩ => ⟨S1024x2308, .f32⟩
  | .hbm, ⟨3, _⟩ => ⟨S1024x2308, .f32⟩
  | .hbm, ⟨4, _⟩ => ⟨S1024x2308, .f32⟩
  | .hbm, ⟨5, _⟩ => ⟨S1024x2308, .f32⟩
  | .hbm, ⟨6, _⟩ => ⟨S1024x2308, .f32⟩
  | .local _ .vmem, ⟨0, _⟩ => ⟨S128x2308, .f32⟩
  | .local _ .vmem, ⟨1, _⟩ => ⟨S128x2308, .f32⟩
  | .local _ .vmem, ⟨2, _⟩ => ⟨S128x2308, .f32⟩
  | .local _ .vmem, ⟨3, _⟩ => ⟨S128x2308, .f32⟩
  | .local _ .vmem, ⟨4, _⟩ => ⟨S128x2308, .f32⟩
  | .local _ .vmem, ⟨5, _⟩ => ⟨S128x2308, .f32⟩
  | .local _ .vmem, ⟨6, _⟩ => ⟨S128x2308, .f32⟩
  | .local _ .vmem, ⟨7, _⟩ => ⟨S128x2308, .f32⟩
  | .local _ .vmem, ⟨8, _⟩ => ⟨S128x2308, .f32⟩
  | .local _ .vmem, ⟨9, _⟩ => ⟨S128x2308, .f32⟩
  | .local _ .vmem, ⟨10, _⟩ => ⟨S128x2308, .f32⟩
  | .local _ .vmem, ⟨11, _⟩ => ⟨S128x2308, .f32⟩
  | .local _ .vmem, ⟨12, _⟩ => ⟨S128x2308, .f32⟩
  | .local _ .vmem, ⟨13, _⟩ => ⟨S128x2308, .f32⟩
  | _, _ => ⟨S1024x2308, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2308 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2308 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2308 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2308 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2308 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2308 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2308 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1024x2308 : Shape := ⟨2, ![1024, 2308]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2308, .f32⟩
  | .hbm, ⟨1, _⟩ => ⟨S1024x2308, .f32⟩
  | .hbm, ⟨2, _⟩ => ⟨S1024x2308, .f32⟩
  | .hbm, ⟨3, _⟩ => ⟨S1024x2308, .f32⟩
  | .hbm, ⟨4, _⟩ => ⟨S_, .f32⟩
  | .hbm, ⟨5, _⟩ => ⟨S1024x2308, .f32⟩
  | .hbm, ⟨6, _⟩ => ⟨S1024x2308, .f32⟩
  | .hbm, ⟨7, _⟩ => ⟨S_, .f32⟩
  | .hbm, ⟨8, _⟩ => ⟨S1024x2308, .f32⟩
  | .hbm, ⟨9, _⟩ => ⟨S1024x2308, .f32⟩
  | .hbm, ⟨10, _⟩ => ⟨S1024x2308, .f32⟩
  | .hbm, ⟨11, _⟩ => ⟨S_, .f32⟩
  | .hbm, ⟨12, _⟩ => ⟨S1024x2308, .f32⟩
  | .hbm, ⟨13, _⟩ => ⟨S1024x2308, .f32⟩
  | .hbm, ⟨14, _⟩ => ⟨S1024x2308, .f32⟩
  | .hbm, ⟨15, _⟩ => ⟨S_, .f32⟩
  | .hbm, ⟨16, _⟩ => ⟨S1024x2308, .f32⟩
  | .hbm, ⟨17, _⟩ => ⟨S1024x2308, .f32⟩
  | .hbm, ⟨18, _⟩ => ⟨S1024x2308, .f32⟩
  | .hbm, ⟨19, _⟩ => ⟨S_, .f32⟩
  | .hbm, ⟨20, _⟩ => ⟨S1024x2308, .f32⟩
  | .hbm, ⟨21, _⟩ => ⟨S1024x2308, .f32⟩
  | .hbm, ⟨22, _⟩ => ⟨S_, .f32⟩
  | .hbm, ⟨23, _⟩ => ⟨S1024x2308, .f32⟩
  | .hbm, ⟨24, _⟩ => ⟨S1024x2308, .f32⟩
  | .hbm, ⟨25, _⟩ => ⟨S1024x2308, .f32⟩
  | .hbm, ⟨26, _⟩ => ⟨S_, .f32⟩
  | .hbm, ⟨27, _⟩ => ⟨S1024x2308, .f32⟩
  | .hbm, ⟨28, _⟩ => ⟨S1024x2308, .f32⟩
  | .hbm, ⟨29, _⟩ => ⟨S1024x2308, .f32⟩
  | .hbm, ⟨30, _⟩ => ⟨S_, .f32⟩
  | .hbm, ⟨31, _⟩ => ⟨S1024x2308, .f32⟩
  | .hbm, ⟨32, _⟩ => ⟨S1024x2308, .f32⟩
  | .hbm, ⟨33, _⟩ => ⟨S1024x2308, .f32⟩
  | .hbm, ⟨34, _⟩ => ⟨S_, .f32⟩
  | .hbm, ⟨35, _⟩ => ⟨S1024x2308, .f32⟩
  | .hbm, ⟨36, _⟩ => ⟨S1024x2308, .f32⟩
  | _, _ => ⟨S1024x2308, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSquare.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S32x1024 : Shape := ⟨2, ![32, 1024]⟩

abbrev nBuf : Space → Nat
  | .hbm => 7
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S32x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S32x1024 : Shape := ⟨2, ![32, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S_, .f32⟩
  | .hbm, ⟨5, _⟩ => ⟨S32x1024, .f32⟩
  | .hbm, ⟨6, _⟩ => ⟨S32x1024, .f32⟩
  | .hbm, ⟨7, _⟩ => ⟨S_, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S_, .f32⟩
  | .hbm, ⟨16, _⟩ => ⟨S32x1024, .f32⟩
  | .hbm, ⟨17, _⟩ => ⟨S32x1024, .f32⟩
  | .hbm, ⟨18, _⟩ => ⟨S32x1024, .f32⟩
  | .hbm, ⟨19, _⟩ => ⟨S_, .f32⟩
  | .hbm, ⟨20, _⟩ => ⟨S32x1024, .f32⟩
  | .hbm, ⟨21, _⟩ => ⟨S32x1024, .f32⟩
  | .hbm, ⟨22, _⟩ => ⟨S_, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S_, .f32⟩
  | .hbm, ⟨27, _⟩ => ⟨S32x1024, .f32⟩
  | .hbm, ⟨28, _⟩ => ⟨S32x1024, .f32⟩
  | .hbm, ⟨29, _⟩ => ⟨S32x1024, .f32⟩
  | .hbm, ⟨30, _⟩ => ⟨S_, .f32⟩
  | .hbm, ⟨31, _⟩ => ⟨S32x1024, .f32⟩
  | .hbm, ⟨32, _⟩ => ⟨S32x1024, .f32⟩
  | .hbm, ⟨33, _⟩ => ⟨S32x1024, .f32⟩
  | .hbm, ⟨34, _⟩ => ⟨S_, .f32⟩
  | .hbm, ⟨35, _⟩ => ⟨S32x1024, .f32⟩
  | .hbm, ⟨36, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== PairSquare.lean ====
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairSquareIdeal.lean ====
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairSquareRefIdeal.lean ====
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairUp.lean ====
abbrev S4096x1408 : Shape := ⟨2, ![4096, 1408]⟩
abbrev S256x1408 : Shape := ⟨2, ![256, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1408, .bf16⟩
  | .hbm, ⟨1, _⟩ => ⟨S4096x1408, .bf16⟩
  | .hbm, ⟨2, _⟩ => ⟨S4096x1408, .bf16⟩
  | .local _ .vmem, ⟨0, _⟩ => ⟨S256x1408, .bf16⟩
  | .local _ .vmem, ⟨1, _⟩ => ⟨S256x1408, .bf16⟩
  | .local _ .vmem, ⟨2, _⟩ => ⟨S256x1408, .bf16⟩
  | .local _ .vmem, ⟨3, _⟩ => ⟨S256x1408, .bf16⟩
  | .local _ .vmem, ⟨4, _⟩ => ⟨S256x1408, .bf16⟩
  | .local _ .vmem, ⟨5, _⟩ => ⟨S256x1408, .bf16⟩
  | _, _ => ⟨S4096x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairUpIdeal.lean ====
abbrev S4096x1408 : Shape := ⟨2, ![4096, 1408]⟩
abbrev S256x1408 : Shape := ⟨2, ![256, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1408, .bf16⟩
  | .hbm, ⟨1, _⟩ => ⟨S4096x1408, .bf16⟩
  | .hbm, ⟨2, _⟩ => ⟨S4096x1408, .bf16⟩
  | .local _ .vmem, ⟨0, _⟩ => ⟨S256x1408, .bf16⟩
  | .local _ .vmem, ⟨1, _⟩ => ⟨S256x1408, .bf16⟩
  | .local _ .vmem, ⟨2, _⟩ => ⟨S256x1408, .bf16⟩
  | .local _ .vmem, ⟨3, _⟩ => ⟨S256x1408, .bf16⟩
  | .local _ .vmem, ⟨4, _⟩ => ⟨S256x1408, .bf16⟩
  | .local _ .vmem, ⟨5, _⟩ => ⟨S256x1408, .bf16⟩
  | _, _ => ⟨S4096x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairUpRefIdeal.lean ====
abbrev S4096x1408 : Shape := ⟨2, ![4096, 1408]⟩

abbrev nBuf : Space → Nat
  | .hbm => 6
  | .vmem => 0
  | .smem => 0
  | _ => 0

abbrev bufTy : (tb : Table) → Fin (tcTables nBuf tb) → BufTy
  | .hbm, ⟨0, _⟩ => ⟨S4096x1408, .bf16⟩
  | .hbm, ⟨1, _⟩ => ⟨S4096x1408, .bf16⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .bf16⟩
  | _, _ => ⟨S4096x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairDown.lean ====
abbrev S2816x1024 : Shape := ⟨2, ![2816, 1024]⟩
abbrev S352x1024 : Shape := ⟨2, ![352, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2816x1024, .bf16⟩
  | .hbm, ⟨1, _⟩ => ⟨S2816x1024, .bf16⟩
  | .hbm, ⟨2, _⟩ => ⟨S2816x1024, .bf16⟩
  | .local _ .vmem, ⟨0, _⟩ => ⟨S352x1024, .bf16⟩
  | .local _ .vmem, ⟨1, _⟩ => ⟨S352x1024, .bf16⟩
  | .local _ .vmem, ⟨2, _⟩ => ⟨S352x1024, .bf16⟩
  | .local _ .vmem, ⟨3, _⟩ => ⟨S352x1024, .bf16⟩
  | .local _ .vmem, ⟨4, _⟩ => ⟨S352x1024, .bf16⟩
  | .local _ .vmem, ⟨5, _⟩ => ⟨S352x1024, .bf16⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairDownIdeal.lean ====
abbrev S2816x1024 : Shape := ⟨2, ![2816, 1024]⟩
abbrev S352x1024 : Shape := ⟨2, ![352, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2816x1024, .bf16⟩
  | .hbm, ⟨1, _⟩ => ⟨S2816x1024, .bf16⟩
  | .hbm, ⟨2, _⟩ => ⟨S2816x1024, .bf16⟩
  | .local _ .vmem, ⟨0, _⟩ => ⟨S352x1024, .bf16⟩
  | .local _ .vmem, ⟨1, _⟩ => ⟨S352x1024, .bf16⟩
  | .local _ .vmem, ⟨2, _⟩ => ⟨S352x1024, .bf16⟩
  | .local _ .vmem, ⟨3, _⟩ => ⟨S352x1024, .bf16⟩
  | .local _ .vmem, ⟨4, _⟩ => ⟨S352x1024, .bf16⟩
  | .local _ .vmem, ⟨5, _⟩ => ⟨S352x1024, .bf16⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairDownRefIdeal.lean ====
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S2816x1024, .bf16⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .bf16⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairIn.lean ====
abbrev S1024x9232 : Shape := ⟨2, ![1024, 9232]⟩
abbrev S32x9232 : Shape := ⟨2, ![32, 9232]⟩

abbrev nBuf : Space → Nat
  | .hbm => 3
  | .vmem => 6
  | .smem => 0
  | _ => 0

abbrev bufTy : (tb : Table) → Fin (tcTables nBuf tb) → BufTy
  | .hbm, ⟨0, _⟩ => ⟨S1024x9232, .bf16⟩
  | .hbm, ⟨1, _⟩ => ⟨S1024x9232, .bf16⟩
  | .hbm, ⟨2, _⟩ => ⟨S1024x9232, .bf16⟩
  | .local _ .vmem, ⟨0, _⟩ => ⟨S32x9232, .bf16⟩
  | .local _ .vmem, ⟨1, _⟩ => ⟨S32x9232, .bf16⟩
  | .local _ .vmem, ⟨2, _⟩ => ⟨S32x9232, .bf16⟩
  | .local _ .vmem, ⟨3, _⟩ => ⟨S32x9232, .bf16⟩
  | .local _ .vmem, ⟨4, _⟩ => ⟨S32x9232, .bf16⟩
  | .local _ .vmem, ⟨5, _⟩ => ⟨S32x9232, .bf16⟩
  | _, _ => ⟨S1024x9232, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x9232 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x9232 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x9232 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairInRefIdeal.lean ====
abbrev S1024x9232 : Shape := ⟨2, ![1024, 9232]⟩

abbrev nBuf : Space → Nat
  | .hbm => 6
  | .vmem => 0
  | .smem => 0
  | _ => 0

abbrev bufTy : (tb : Table) → Fin (tcTables nBuf tb) → BufTy
  | .hbm, ⟨0, _⟩ => ⟨S1024x9232, .bf16⟩
  | .hbm, ⟨1, _⟩ => ⟨S1024x9232, .bf16⟩
  | .hbm, ⟨2, _⟩ => ⟨S1024x9232, .f32⟩
  | .hbm, ⟨3, _⟩ => ⟨S1024x9232, .f32⟩
  | .hbm, ⟨4, _⟩ => ⟨S1024x9232, .f32⟩
  | .hbm, ⟨5, _⟩ => ⟨S1024x9232, .bf16⟩
  | _, _ => ⟨S1024x9232, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SumSquare.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .local _ .vmem, ⟨0, _⟩ => ⟨S4x256x1024, .bf16⟩
  | .local _ .vmem, ⟨1, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSquareIdeal.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .local _ .vmem, ⟨0, _⟩ => ⟨S4x256x1024, .bf16⟩
  | .local _ .vmem, ⟨1, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSquareRefIdeal.lean ====
abbrev S4x256x1024 : Shape := ⟨3, ![4, 256, 1024]⟩
abbrev S_ : Shape := ⟨0, ![]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .f32⟩
  | .hbm, ⟨2, _⟩ => ⟨S_, .f32⟩
  | .hbm, ⟨3, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumUp.lean ====
abbrev S4x1024x1408 : Shape := ⟨3, ![4, 1024, 1408]⟩
abbrev S1024x1408 : Shape := ⟨2, ![1024, 1408]⟩
abbrev S4x256x1408 : Shape := ⟨3, ![4, 256, 1408]⟩
abbrev S256x1408 : Shape := ⟨2, ![256, 1408]⟩
abbrev S1x256x1408 : Shape := ⟨3, ![1, 256, 1408]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1408, .bf16⟩
  | .hbm, ⟨1, _⟩ => ⟨S1024x1408, .f32⟩
  | .local _ .vmem, ⟨0, _⟩ => ⟨S4x256x1408, .bf16⟩
  | .local _ .vmem, ⟨1, _⟩ => ⟨S4x256x1408, .bf16⟩
  | .local _ .vmem, ⟨2, _⟩ => ⟨S256x1408, .f32⟩
  | .local _ .vmem, ⟨3, _⟩ => ⟨S256x1408, .f32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpIdeal.lean ====
abbrev S4x1024x1408 : Shape := ⟨3, ![4, 1024, 1408]⟩
abbrev S1024x1408 : Shape := ⟨2, ![1024, 1408]⟩
abbrev S4x256x1408 : Shape := ⟨3, ![4, 256, 1408]⟩
abbrev S256x1408 : Shape := ⟨2, ![256, 1408]⟩
abbrev S1x256x1408 : Shape := ⟨3, ![1, 256, 1408]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1408, .bf16⟩
  | .hbm, ⟨1, _⟩ => ⟨S1024x1408, .f32⟩
  | .local _ .vmem, ⟨0, _⟩ => ⟨S4x256x1408, .bf16⟩
  | .local _ .vmem, ⟨1, _⟩ => ⟨S4x256x1408, .bf16⟩
  | .local _ .vmem, ⟨2, _⟩ => ⟨S256x1408, .f32⟩
  | .local _ .vmem, ⟨3, _⟩ => ⟨S256x1408, .f32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpRefIdeal.lean ====
abbrev S4x1024x1408 : Shape := ⟨3, ![4, 1024, 1408]⟩
abbrev S_ : Shape := ⟨0, ![]⟩
abbrev S1024x1408 : Shape := ⟨2, ![1024, 1408]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S4x1024x1408, .f32⟩
  | .hbm, ⟨2, _⟩ => ⟨S_, .f32⟩
  | .hbm, ⟨3, _⟩ => ⟨S1024x1408, .f32⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumDown.lean ====
abbrev S4x704x1024 : Shape := ⟨3, ![4, 704, 1024]⟩
abbrev S704x1024 : Shape := ⟨2, ![704, 1024]⟩
abbrev S4x352x1024 : Shape := ⟨3, ![4, 352, 1024]⟩
abbrev S352x1024 : Shape := ⟨2, ![352, 1024]⟩
abbrev S1x352x1024 : Shape := ⟨3, ![1, 352, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x704x1024, .bf16⟩
  | .hbm, ⟨1, _⟩ => ⟨S704x1024, .f32⟩
  | .local _ .vmem, ⟨0, _⟩ => ⟨S4x352x1024, .bf16⟩
  | .local _ .vmem, ⟨1, _⟩ => ⟨S4x352x1024, .bf16⟩
  | .local _ .vmem, ⟨2, _⟩ => ⟨S352x1024, .f32⟩
  | .local _ .vmem, ⟨3, _⟩ => ⟨S352x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownIdeal.lean ====
abbrev S4x704x1024 : Shape := ⟨3, ![4, 704, 1024]⟩
abbrev S704x1024 : Shape := ⟨2, ![704, 1024]⟩
abbrev S4x352x1024 : Shape := ⟨3, ![4, 352, 1024]⟩
abbrev S352x1024 : Shape := ⟨2, ![352, 1024]⟩
abbrev S1x352x1024 : Shape := ⟨3, ![1, 352, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x704x1024, .bf16⟩
  | .hbm, ⟨1, _⟩ => ⟨S704x1024, .f32⟩
  | .local _ .vmem, ⟨0, _⟩ => ⟨S4x352x1024, .bf16⟩
  | .local _ .vmem, ⟨1, _⟩ => ⟨S4x352x1024, .bf16⟩
  | .local _ .vmem, ⟨2, _⟩ => ⟨S352x1024, .f32⟩
  | .local _ .vmem, ⟨3, _⟩ => ⟨S352x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownRefIdeal.lean ====
abbrev S4x704x1024 : Shape := ⟨3, ![4, 704, 1024]⟩
abbrev S_ : Shape := ⟨0, ![]⟩
abbrev S704x1024 : Shape := ⟨2, ![704, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .f32⟩
  | .hbm, ⟨2, _⟩ => ⟨S_, .f32⟩
  | .hbm, ⟨3, _⟩ => ⟨S704x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumIn.lean ====
abbrev S4x1024x2308 : Shape := ⟨3, ![4, 1024, 2308]⟩
abbrev S1024x2308 : Shape := ⟨2, ![1024, 2308]⟩
abbrev S4x128x2308 : Shape := ⟨3, ![4, 128, 2308]⟩
abbrev S128x2308 : Shape := ⟨2, ![128, 2308]⟩
abbrev S1x128x2308 : Shape := ⟨3, ![1, 128, 2308]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x2308, .bf16⟩
  | .hbm, ⟨1, _⟩ => ⟨S1024x2308, .f32⟩
  | .local _ .vmem, ⟨0, _⟩ => ⟨S4x128x2308, .bf16⟩
  | .local _ .vmem, ⟨1, _⟩ => ⟨S4x128x2308, .bf16⟩
  | .local _ .vmem, ⟨2, _⟩ => ⟨S128x2308, .f32⟩
  | .local _ .vmem, ⟨3, _⟩ => ⟨S128x2308, .f32⟩
  | _, _ => ⟨S4x1024x2308, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2308 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2308 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInIdeal.lean ====
abbrev S4x1024x2308 : Shape := ⟨3, ![4, 1024, 2308]⟩
abbrev S1024x2308 : Shape := ⟨2, ![1024, 2308]⟩
abbrev S4x128x2308 : Shape := ⟨3, ![4, 128, 2308]⟩
abbrev S128x2308 : Shape := ⟨2, ![128, 2308]⟩
abbrev S1x128x2308 : Shape := ⟨3, ![1, 128, 2308]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x2308, .bf16⟩
  | .hbm, ⟨1, _⟩ => ⟨S1024x2308, .f32⟩
  | .local _ .vmem, ⟨0, _⟩ => ⟨S4x128x2308, .bf16⟩
  | .local _ .vmem, ⟨1, _⟩ => ⟨S4x128x2308, .bf16⟩
  | .local _ .vmem, ⟨2, _⟩ => ⟨S128x2308, .f32⟩
  | .local _ .vmem, ⟨3, _⟩ => ⟨S128x2308, .f32⟩
  | _, _ => ⟨S4x1024x2308, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2308 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2308 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInRefIdeal.lean ====
abbrev S4x1024x2308 : Shape := ⟨3, ![4, 1024, 2308]⟩
abbrev S_ : Shape := ⟨0, ![]⟩
abbrev S1024x2308 : Shape := ⟨2, ![1024, 2308]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x2308, .bf16⟩
  | .hbm, ⟨1, _⟩ => ⟨S4x1024x2308, .f32⟩
  | .hbm, ⟨2, _⟩ => ⟨S_, .f32⟩
  | .hbm, ⟨3, _⟩ => ⟨S1024x2308, .f32⟩
  | _, _ => ⟨S4x1024x2308, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S8x56x1024 : Shape := ⟨3, ![8, 56, 1024]⟩
abbrev S56x1024 : Shape := ⟨2, ![56, 1024]⟩
abbrev S1x56x1024 : Shape := ⟨3, ![1, 56, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x56x1024, .f32⟩
  | .hbm, ⟨1, _⟩ => ⟨S56x1024, .f32⟩
  | .local _ .vmem, ⟨0, _⟩ => ⟨S8x56x1024, .f32⟩
  | .local _ .vmem, ⟨1, _⟩ => ⟨S56x1024, .f32⟩
  | _, _ => ⟨S8x56x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x56x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S56x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x56x1024 : Shape := ⟨3, ![8, 56, 1024]⟩
abbrev S_ : Shape := ⟨0, ![]⟩
abbrev S56x1024 : Shape := ⟨2, ![56, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x56x1024, .f32⟩
  | .hbm, ⟨1, _⟩ => ⟨S_, .f32⟩
  | .hbm, ⟨2, _⟩ => ⟨S56x1024, .f32⟩
  | _, _ => ⟨S8x56x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Attn.Terms.lean ====
/- What one grid point of the attention's backward kernel leaves in each of its outputs and in the kept bias, as plain functions
of the blocks it reads: the printed payloads, with no view and no memory reference left. -/
module

public import proofs.«01_k».proof.Defs
public import proofs.«01_k».proof.Proof.Gen.KernelIdeal.Value
public import Idealize.ShloMosaic.Lib.Tactic
public import Idealize.ShloMosaic.Lib.VecWindow

@[expose] public section

set_option maxRecDepth 16384

noncomputable section

namespace Cert.Attn

open Cert.KernelIdeal Cert.KernelIdeal.Gen Idealize.ShloMosaic Idealize.ShloMosaic.TcCoe Idealize.SL.Sem

set_option maxHeartbeats 4000000

variable {F : FTy → Type} [FloatOps F] [Named F]

/-- The 768 rows of a key or value column that the point reads. -/
def win (i : grid0.Coords) (x : Vec F S8704x128 .bf16) : Vec F S768x128 .bf16 :=
  View.ld x (Rect.unit (s := S8704x128) (k0_off1 i) S768x128.size (k0_off1_inb i))

/-- The 768 rows of a gradient column that the point adds to. -/
def accWin (i : grid0.Coords) (x : Vec F S8704x128 .f32) : Vec F S768x128 .f32 :=
  View.ld x (Rect.unit (s := S8704x128) (k0_off1 i) S768x128.size (k0_off1_inb i))

/-- The kept bias of the group's first head. -/
def bias0 (b : Vec F S2x256x768 .f32) : Vec F S1x256x768 .f32 :=
  View.ld b (Rect.unit (s := S2x256x768) ![0, 0, 0] S1x256x768.size inb_S2x256x768_S1x256x768_0_0_0)

/-- The kept bias of the group's second head. -/
def bias1 (b : Vec F S2x256x768 .f32) : Vec F S1x256x768 .f32 :=
  View.ld b (Rect.unit (s := S2x256x768) ![1, 0, 0] S1x256x768.size inb_S2x256x768_S1x256x768_1_0_0)

/-- A whole block of the queries or of the cotangent. -/
def whole (x : Vec F S256x128 .bf16) : Vec F S256x128 .bf16 :=
  View.ld x (Rect.unit (s := S256x128) ![0, 0] S256x128.size inb_S256x128_S256x128_0_0)

/-- Contents nobody reads. -/
def junk {s : Shape} {e : EltTy} : Vec F s e := fun _ => Classical.arbitrary (Elt F e)

/-- A buffer filled whole with `w`. -/
def fill {s : Shape} {e : EltTy} (off : Fin s.rank → ℕ) (w : Vec F s e) : Vec F s e :=
  VecWindow.put junk off s.size w

/-- One head's block of the bias as the group's two heads hold it. -/
def row0 (b : Vec F S2x64x576 .f32) : Vec F S1x64x576 .f32 :=
  View.ld b (Rect.unit (s := S2x64x576) ![0, 0, 0] S1x64x576.size inb_S2x64x576_S1x64x576_0_0_0)

/-- The other head's block. -/
def row1 (b : Vec F S2x64x576 .f32) : Vec F S1x64x576 .f32 :=
  View.ld b (Rect.unit (s := S2x64x576) ![1, 0, 0] S1x64x576.size inb_S2x64x576_S1x64x576_1_0_0)

/-- Two heads' blocks put over `u`. -/
def both (u : Vec F S2x64x576 .f32) (r s : Vec F S1x64x576 .f32) : Vec F S2x64x576 .f32 :=
  VecWindow.put (VecWindow.put u ![0, 0, 0] S1x64x576.size r) ![1, 0, 0] S1x64x576.size s

section Point

variable (i : grid0.Coords) (q : Vec F S256x128 .bf16) (k v : Vec F S8704x128 .bf16) (d : Vec F S256x128 .bf16)
  (b : Vec F S2x256x768 .f32)

/-- The gradient of the point's 256 queries. -/
def dqNext : Vec F S256x128 .bf16 :=
  k0_pay1
    (k0_pay29 (k0_pay18 (win i k)) (k0_pay19 (win i v)) (whole d) (k0_pay22 i (win i k) (whole q) (bias0 b)) (k0_pay23 i (win i k) (whole q) (bias0 b)) k0_pay24)
    (k0_pay39 (k0_pay18 (win i k)) (k0_pay19 (win i v)) (whole d) (k0_pay21 i) (k0_pay32 (bias1 b)) (k0_pay33 (k0_pay18 (win i k)) (k0_pay20 (whole q))) k0_pay34)

/-- The key gradient's column after the point, from the column before it. -/
def dkNext (a : Vec F S8704x128 .f32) : Vec F S8704x128 .f32 :=
  VecWindow.put a (k0_off1 i) S768x128.size
    (k0_pay2
      (k0_pay30 (k0_pay19 (win i v)) (k0_pay20 (whole q)) (whole d) (k0_pay22 i (win i k) (whole q) (bias0 b)) (k0_pay23 i (win i k) (whole q) (bias0 b)) k0_pay24)
      (k0_pay40 (k0_pay20 (whole q)))
      (k0_pay41 (k0_pay19 (win i v)) (whole d) (k0_pay21 i) (k0_pay32 (bias1 b)) (k0_pay33 (k0_pay18 (win i k)) (k0_pay20 (whole q))) k0_pay34)
      (constant S768x64 .f32 0x00000000#32) (accWin i a))

/-- The value gradient's column after the point, from the column before it. -/
def dvNext (a : Vec F S8704x128 .f32) : Vec F S8704x128 .f32 :=
  VecWindow.put a (k0_off1 i) S768x128.size
    (k0_pay3 (whole d) (k0_pay31 (whole d) (k0_pay22 i (win i k) (whole q) (bias0 b)) (k0_pay23 i (win i k) (whole q) (bias0 b)) k0_pay24)
      (k0_pay35 (k0_pay21 i) (k0_pay32 (bias1 b)) (k0_pay33 (k0_pay18 (win i k)) (k0_pay20 (whole q))) k0_pay34) (accWin i a))

/-- The bias gradient of the group's first head after the point, from the one before it. -/
def db0Next (r : Vec F S1x64x576 .f32) : FVec F S1x64x576 .f32 :=
  k0_pay27 (k0_pay19 (win i v)) (whole d) (k0_pay22 i (win i k) (whole q) (bias0 b)) (k0_pay23 i (win i k) (whole q) (bias0 b)) k0_pay24 r

/-- The bias gradient of the group's second head after the point, from the one before it. -/
def db1Next (r : Vec F S1x64x576 .f32) : FVec F S1x64x576 .f32 :=
  k0_pay37 (k0_pay19 (win i v)) (whole d) (k0_pay21 i) (k0_pay32 (bias1 b)) (k0_pay33 (k0_pay18 (win i k)) (k0_pay20 (whole q))) k0_pay34 r

/-- The bias gradient of both heads after the point: both are written, over any `u`. -/
def dbNext (u a : Vec F S2x64x576 .f32) : Vec F S2x64x576 .f32 :=
  both u (db0Next i q k v d b (row0 a)) (db1Next i q k v d b (row1 a))

end Point

/-- The kept bias as the first point of a group fills it: the mask everywhere, then each chunk's band of the bias, head by head. -/
def biasFill (x : Vec F S2x64x576 .f32) : Vec F S2x256x768 .f32 :=
  VecWindow.put (VecWindow.put (VecWindow.put (VecWindow.put (VecWindow.put (VecWindow.put (VecWindow.put (VecWindow.put (fill ![0, 0, 0] k0_pay7)
    ![0, 0, 0] S1x64x576.size (k0_pay8 (row0 x))) ![0, 64, 64] S1x64x576.size (k0_pay9 (row0 x)))
    ![0, 128, 128] S1x64x576.size (k0_pay11 (k0_pay10 (row0 x)))) ![0, 192, 192] S1x64x576.size (k0_pay12 (row0 x)))
    ![1, 0, 0] S1x64x576.size (k0_pay13 (row1 x))) ![1, 64, 64] S1x64x576.size (k0_pay14 (row1 x)))
    ![1, 128, 128] S1x64x576.size (k0_pay15 (row1 x))) ![1, 192, 192] S1x64x576.size (k0_pay17 (k0_pay16 (row1 x)))

/-- Writing the first head's block leaves the second's. -/
theorem row1_put (u : Vec F S2x64x576 .f32) (w : Vec F S1x64x576 .f32) : row1 (VecWindow.put u ![0, 0, 0] S1x64x576.size w) = row1 u :=
  VecWindow.window_put_of_disjoint u ![0, 0, 0] S1x64x576.size ![1, 0, 0] S1x64x576.size inb_S2x64x576_S1x64x576_1_0_0 w (0 : Fin 3)
    (by decide)

/-- What a view reads of the contents nothing was written to. -/
theorem read_junk {s : Shape} {e : EltTy} {sp : Space} (w : View sig .tc sp s e) : w.read (Elt F) w.junk = junk :=
  funext fun y => View.read_junk_apply w y

variable (c : Dev nD) (i : grid0.Coords)

/-- A later point of a group writes the gradient of its queries. -/
theorem out_B_5 (arg2 : Memref sig .tc .vmem S256x128 .bf16) (harg2 : arg2.IsWhole) (arg3 : Memref sig .tc .vmem S8704x128 .bf16) (harg3 : arg3.IsWhole) (arg4 : Memref sig .tc .vmem S8704x128 .bf16) (harg4 : arg4.IsWhole) (arg5 : Memref sig .tc .vmem S2x64x576 .f32) (harg5 : arg5.IsWhole) (arg6 : Memref sig .tc .vmem S256x128 .bf16) (harg6 : arg6.IsWhole) (arg7 : Memref sig .tc .vmem S256x128 .bf16) (harg7 : arg7.IsWhole) (arg8 : Memref sig .tc .vmem S8704x128 .f32) (harg8 : arg8.IsWhole) (arg9 : Memref sig .tc .vmem S8704x128 .f32) (harg9 : arg9.IsWhole) (arg10 : Memref sig .tc .vmem S2x64x576 .f32) (harg10 : arg10.IsWhole) (arg11 : Memref sig .tc .vmem S2x256x768 .f32) (harg11 : arg11.IsWhole) (hc0 : ¬cond0_0 i)
    (x0 : Vec F S256x128 .bf16) (x1 : Vec F S8704x128 .bf16) (x2 : Vec F S8704x128 .bf16) (x3 : Vec F S2x64x576 .f32) (x4 : Vec F S256x128 .bf16) (xo6 : Vec F S8704x128 .f32) (xo7 : Vec F S8704x128 .f32) (xo8 : Vec F S2x64x576 .f32) (xs0 : Vec F S2x256x768 .f32) :
    out0_B_5 c i arg2 harg2 arg3 harg3 arg4 harg4 arg5 harg5 arg6 harg6 arg7 harg7 arg8 harg8 arg9 harg9 arg10 harg10 arg11 harg11 hc0 x0 x1 x2 x3 x4 xo6 xo7 xo8 xs0 = dqNext i x0 x1 x2 x4 xs0 := by
  unfold out0_B_5 kernelRun0_B
  dsimp only
  sl_unfold_words
  rw [View.read_writes_full]
  simp only [View.readCov, View.read_writes_cons_put _ _ _ _ _ rfl, View.writes_nil, read_junk, View.readAt_eq_ld, harg2.read_unread, harg3.read_unread, harg4.read_unread, harg5.read_unread, harg6.read_unread, harg8.read_unread, harg9.read_unread, harg10.read_unread, harg11.read_unread]
  rfl

/-- A later point of a group adds its part to the key gradient's column. -/
theorem out_B_6 (arg2 : Memref sig .tc .vmem S256x128 .bf16) (harg2 : arg2.IsWhole) (arg3 : Memref sig .tc .vmem S8704x128 .bf16) (harg3 : arg3.IsWhole) (arg4 : Memref sig .tc .vmem S8704x128 .bf16) (harg4 : arg4.IsWhole) (arg5 : Memref sig .tc .vmem S2x64x576 .f32) (harg5 : arg5.IsWhole) (arg6 : Memref sig .tc .vmem S256x128 .bf16) (harg6 : arg6.IsWhole) (arg7 : Memref sig .tc .vmem S256x128 .bf16) (harg7 : arg7.IsWhole) (arg8 : Memref sig .tc .vmem S8704x128 .f32) (harg8 : arg8.IsWhole) (arg9 : Memref sig .tc .vmem S8704x128 .f32) (harg9 : arg9.IsWhole) (arg10 : Memref sig .tc .vmem S2x64x576 .f32) (harg10 : arg10.IsWhole) (arg11 : Memref sig .tc .vmem S2x256x768 .f32) (harg11 : arg11.IsWhole) (hc0 : ¬cond0_0 i)
    (x0 : Vec F S256x128 .bf16) (x1 : Vec F S8704x128 .bf16) (x2 : Vec F S8704x128 .bf16) (x3 : Vec F S2x64x576 .f32) (x4 : Vec F S256x128 .bf16) (xo6 : Vec F S8704x128 .f32) (xo7 : Vec F S8704x128 .f32) (xo8 : Vec F S2x64x576 .f32) (xs0 : Vec F S2x256x768 .f32) :
    out0_B_6 c i arg2 harg2 arg3 harg3 arg4 harg4 arg5 harg5 arg6 harg6 arg7 harg7 arg8 harg8 arg9 harg9 arg10 harg10 arg11 harg11 hc0 x0 x1 x2 x3 x4 xo6 xo7 xo8 xs0 = dkNext i x0 x1 x2 x4 xs0 xo6 := by
  unfold out0_B_6 kernelRun0_B
  dsimp only
  sl_unfold_words
  refine (View.read_writes_cons_put _ _ _ _ _ rfl).trans ?_
  rw [View.writes_nil, harg8.read_unread]
  simp only [View.readCov, View.read_writes_cons_put _ _ _ _ _ rfl, View.writes_nil, read_junk, View.readAt_eq_ld, harg2.read_unread, harg3.read_unread, harg4.read_unread, harg5.read_unread, harg6.read_unread, harg8.read_unread, harg9.read_unread, harg10.read_unread, harg11.read_unread]
  rfl

/-- A later point of a group adds its part to the value gradient's column. -/
theorem out_B_7 (arg2 : Memref sig .tc .vmem S256x128 .bf16) (harg2 : arg2.IsWhole) (arg3 : Memref sig .tc .vmem S8704x128 .bf16) (harg3 : arg3.IsWhole) (arg4 : Memref sig .tc .vmem S8704x128 .bf16) (harg4 : arg4.IsWhole) (arg5 : Memref sig .tc .vmem S2x64x576 .f32) (harg5 : arg5.IsWhole) (arg6 : Memref sig .tc .vmem S256x128 .bf16) (harg6 : arg6.IsWhole) (arg7 : Memref sig .tc .vmem S256x128 .bf16) (harg7 : arg7.IsWhole) (arg8 : Memref sig .tc .vmem S8704x128 .f32) (harg8 : arg8.IsWhole) (arg9 : Memref sig .tc .vmem S8704x128 .f32) (harg9 : arg9.IsWhole) (arg10 : Memref sig .tc .vmem S2x64x576 .f32) (harg10 : arg10.IsWhole) (arg11 : Memref sig .tc .vmem S2x256x768 .f32) (harg11 : arg11.IsWhole) (hc0 : ¬cond0_0 i)
    (x0 : Vec F S256x128 .bf16) (x1 : Vec F S8704x128 .bf16) (x2 : Vec F S8704x128 .bf16) (x3 : Vec F S2x64x576 .f32) (x4 : Vec F S256x128 .bf16) (xo6 : Vec F S8704x128 .f32) (xo7 : Vec F S8704x128 .f32) (xo8 : Vec F S2x64x576 .f32) (xs0 : Vec F S2x256x768 .f32) :
    out0_B_7 c i arg2 harg2 arg3 harg3 arg4 harg4 arg5 harg5 arg6 harg6 arg7 harg7 arg8 harg8 arg9 harg9 arg10 harg10 arg11 harg11 hc0 x0 x1 x2 x3 x4 xo6 xo7 xo8 xs0 = dvNext i x0 x1 x4 xs0 xo7 := by
  unfold out0_B_7 kernelRun0_B
  dsimp only
  sl_unfold_words
  refine (View.read_writes_cons_put _ _ _ _ _ rfl).trans ?_
  rw [View.writes_nil, harg9.read_unread]
  simp only [View.readCov, View.read_writes_cons_put _ _ _ _ _ rfl, View.writes_nil, read_junk, View.readAt_eq_ld, harg2.read_unread, harg3.read_unread, harg4.read_unread, harg5.read_unread, harg6.read_unread, harg8.read_unread, harg9.read_unread, harg10.read_unread, harg11.read_unread]
  rfl

/-- A later point of a group adds its part to the bias gradient. -/
theorem out_B_8 (arg2 : Memref sig .tc .vmem S256x128 .bf16) (harg2 : arg2.IsWhole) (arg3 : Memref sig .tc .vmem S8704x128 .bf16) (harg3 : arg3.IsWhole) (arg4 : Memref sig .tc .vmem S8704x128 .bf16) (harg4 : arg4.IsWhole) (arg5 : Memref sig .tc .vmem S2x64x576 .f32) (harg5 : arg5.IsWhole) (arg6 : Memref sig .tc .vmem S256x128 .bf16) (harg6 : arg6.IsWhole) (arg7 : Memref sig .tc .vmem S256x128 .bf16) (harg7 : arg7.IsWhole) (arg8 : Memref sig .tc .vmem S8704x128 .f32) (harg8 : arg8.IsWhole) (arg9 : Memref sig .tc .vmem S8704x128 .f32) (harg9 : arg9.IsWhole) (arg10 : Memref sig .tc .vmem S2x64x576 .f32) (harg10 : arg10.IsWhole) (arg11 : Memref sig .tc .vmem S2x256x768 .f32) (harg11 : arg11.IsWhole) (hc0 : ¬cond0_0 i)
    (x0 : Vec F S256x128 .bf16) (x1 : Vec F S8704x128 .bf16) (x2 : Vec F S8704x128 .bf16) (x3 : Vec F S2x64x576 .f32) (x4 : Vec F S256x128 .bf16) (xo6 : Vec F S8704x128 .f32) (xo7 : Vec F S8704x128 .f32) (xo8 : Vec F S2x64x576 .f32) (xs0 : Vec F S2x256x768 .f32) :
    out0_B_8 c i arg2 harg2 arg3 harg3 arg4 harg4 arg5 harg5 arg6 harg6 arg7 harg7 arg8 harg8 arg9 harg9 arg10 harg10 arg11 harg11 hc0 x0 x1 x2 x3 x4 xo6 xo7 xo8 xs0 = dbNext i x0 x1 x2 x4 xs0 junk xo8 := by
  unfold out0_B_8 kernelRun0_B
  dsimp only
  sl_unfold_words
  simp only [View.readCov, View.read_writes_cons_put _ _ _ _ _ rfl, View.writes_nil, read_junk, View.readAt_eq_ld, harg2.read_unread, harg3.read_unread, harg4.read_unread, harg5.read_unread, harg6.read_unread, harg8.read_unread, harg9.read_unread, harg10.read_unread, harg11.read_unread]
  rfl

/-- The first point of a group writes the gradient of its queries. -/
theorem out_A_5 (arg2 : Memref sig .tc .vmem S256x128 .bf16) (harg2 : arg2.IsWhole) (arg3 : Memref sig .tc .vmem S8704x128 .bf16) (harg3 : arg3.IsWhole) (arg4 : Memref sig .tc .vmem S8704x128 .bf16) (harg4 : arg4.IsWhole) (arg5 : Memref sig .tc .vmem S2x64x576 .f32) (harg5 : arg5.IsWhole) (arg6 : Memref sig .tc .vmem S256x128 .bf16) (harg6 : arg6.IsWhole) (arg7 : Memref sig .tc .vmem S256x128 .bf16) (harg7 : arg7.IsWhole) (arg8 : Memref sig .tc .vmem S8704x128 .f32) (harg8 : arg8.IsWhole) (arg9 : Memref sig .tc .vmem S8704x128 .f32) (harg9 : arg9.IsWhole) (arg10 : Memref sig .tc .vmem S2x64x576 .f32) (harg10 : arg10.IsWhole) (arg11 : Memref sig .tc .vmem S2x256x768 .f32) (harg11 : arg11.IsWhole) (hc0 : cond0_0 i)
    (x0 : Vec F S256x128 .bf16) (x1 : Vec F S8704x128 .bf16) (x2 : Vec F S8704x128 .bf16) (x3 : Vec F S2x64x576 .f32) (x4 : Vec F S256x128 .bf16) :
    out0_A_5 c i arg2 harg2 arg3 harg3 arg4 harg4 arg5 harg5 arg6 harg6 arg7 harg7 arg8 harg8 arg9 harg9 arg10 harg10 arg11 harg11 hc0 x0 x1 x2 x3 x4 = dqNext i x0 x1 x2 x4 (biasFill x3) := by
  unfold out0_A_5 kernelRun0_A
  dsimp only
  sl_unfold_words
  rw [View.read_writes_full]
  simp only [View.readCov, View.read_writes_cons_put _ _ _ _ _ rfl, View.writes_nil, read_junk, View.readAt_eq_ld, harg2.read_unread, harg3.read_unread, harg4.read_unread, harg5.read_unread, harg6.read_unread, harg8.read_unread, harg9.read_unread, harg10.read_unread, harg11.read_unread]
  rfl

/-- The first point of a group. -/
theorem out_A_6 (arg2 : Memref sig .tc .vmem S256x128 .bf16) (harg2 : arg2.IsWhole) (arg3 : Memref sig .tc .vmem S8704x128 .bf16) (harg3 : arg3.IsWhole) (arg4 : Memref sig .tc .vmem S8704x128 .bf16) (harg4 : arg4.IsWhole) (arg5 : Memref sig .tc .vmem S2x64x576 .f32) (harg5 : arg5.IsWhole) (arg6 : Memref sig .tc .vmem S256x128 .bf16) (harg6 : arg6.IsWhole) (arg7 : Memref sig .tc .vmem S256x128 .bf16) (harg7 : arg7.IsWhole) (arg8 : Memref sig .tc .vmem S8704x128 .f32) (harg8 : arg8.IsWhole) (arg9 : Memref sig .tc .vmem S8704x128 .f32) (harg9 : arg9.IsWhole) (arg10 : Memref sig .tc .vmem S2x64x576 .f32) (harg10 : arg10.IsWhole) (arg11 : Memref sig .tc .vmem S2x256x768 .f32) (harg11 : arg11.IsWhole) (hc0 : cond0_0 i)
    (x0 : Vec F S256x128 .bf16) (x1 : Vec F S8704x128 .bf16) (x2 : Vec F S8704x128 .bf16) (x3 : Vec F S2x64x576 .f32) (x4 : Vec F S256x128 .bf16) :
    out0_A_6 c i arg2 harg2 arg3 harg3 arg4 harg4 arg5 harg5 arg6 harg6 arg7 harg7 arg8 harg8 arg9 harg9 arg10 harg10 arg11 harg11 hc0 x0 x1 x2 x3 x4 = dkNext i x0 x1 x2 x4 (biasFill x3) (fill ![0, 0] k0_pay4) := by
  unfold out0_A_6 kernelRun0_A
  dsimp only
  sl_unfold_words
  refine (View.read_writes_cons_put _ _ _ _ _ rfl).trans ?_
  simp only [View.readCov, View.read_writes_cons_put _ _ _ _ _ rfl, View.writes_nil, read_junk, View.readAt_eq_ld, harg2.read_unread, harg3.read_unread, harg4.read_unread, harg5.read_unread, harg6.read_unread, harg8.read_unread, harg9.read_unread, harg10.read_unread, harg11.read_unread]
  rfl

/-- The first point of a group. -/
theorem out_A_7 (arg2 : Memref sig .tc .vmem S256x128 .bf16) (harg2 : arg2.IsWhole) (arg3 : Memref sig .tc .vmem S8704x128 .bf16) (harg3 : arg3.IsWhole) (arg4 : Memref sig .tc .vmem S8704x128 .bf16) (harg4 : arg4.IsWhole) (arg5 : Memref sig .tc .vmem S2x64x576 .f32) (harg5 : arg5.IsWhole) (arg6 : Memref sig .tc .vmem S256x128 .bf16) (harg6 : arg6.IsWhole) (arg7 : Memref sig .tc .vmem S256x128 .bf16) (harg7 : arg7.IsWhole) (arg8 : Memref sig .tc .vmem S8704x128 .f32) (harg8 : arg8.IsWhole) (arg9 : Memref sig .tc .vmem S8704x128 .f32) (harg9 : arg9.IsWhole) (arg10 : Memref sig .tc .vmem S2x64x576 .f32) (harg10 : arg10.IsWhole) (arg11 : Memref sig .tc .vmem S2x256x768 .f32) (harg11 : arg11.IsWhole) (hc0 : cond0_0 i)
    (x0 : Vec F S256x128 .bf16) (x1 : Vec F S8704x128 .bf16) (x2 : Vec F S8704x128 .bf16) (x3 : Vec F S2x64x576 .f32) (x4 : Vec F S256x128 .bf16) :
    out0_A_7 c i arg2 harg2 arg3 harg3 arg4 harg4 arg5 harg5 arg6 harg6 arg7 harg7 arg8 harg8 arg9 harg9 arg10 harg10 arg11 harg11 hc0 x0 x1 x2 x3 x4 = dvNext i x0 x1 x4 (biasFill x3) (fill ![0, 0] k0_pay5) := by
  unfold out0_A_7 kernelRun0_A
  dsimp only
  sl_unfold_words
  refine (View.read_writes_cons_put _ _ _ _ _ rfl).trans ?_
  simp only [View.readCov, View.read_writes_cons_put _ _ _ _ _ rfl, View.writes_nil, read_junk, View.readAt_eq_ld, harg2.read_unread, harg3.read_unread, harg4.read_unread, harg5.read_unread, harg6.read_unread, harg8.read_unread, harg9.read_unread, harg10.read_unread, harg11.read_unread]
  rfl

/-- The first point of a group. -/
theorem out_A_8 (arg2 : Memref sig .tc .vmem S256x128 .bf16) (harg2 : arg2.IsWhole) (arg3 : Memref sig .tc .vmem S8704x128 .bf16) (harg3 : arg3.IsWhole) (arg4 : Memref sig .tc .vmem S8704x128 .bf16) (harg4 : arg4.IsWhole) (arg5 : Memref sig .tc .vmem S2x64x576 .f32) (harg5 : arg5.IsWhole) (arg6 : Memref sig .tc .vmem S256x128 .bf16) (harg6 : arg6.IsWhole) (arg7 : Memref sig .tc .vmem S256x128 .bf16) (harg7 : arg7.IsWhole) (arg8 : Memref sig .tc .vmem S8704x128 .f32) (harg8 : arg8.IsWhole) (arg9 : Memref sig .tc .vmem S8704x128 .f32) (harg9 : arg9.IsWhole) (arg10 : Memref sig .tc .vmem S2x64x576 .f32) (harg10 : arg10.IsWhole) (arg11 : Memref sig .tc .vmem S2x256x768 .f32) (harg11 : arg11.IsWhole) (hc0 : cond0_0 i)
    (x0 : Vec F S256x128 .bf16) (x1 : Vec F S8704x128 .bf16) (x2 : Vec F S8704x128 .bf16) (x3 : Vec F S2x64x576 .f32) (x4 : Vec F S256x128 .bf16) :
    out0_A_8 c i arg2 harg2 arg3 harg3 arg4 harg4 arg5 harg5 arg6 harg6 arg7 harg7 arg8 harg8 arg9 harg9 arg10 harg10 arg11 harg11 hc0 x0 x1 x2 x3 x4 = dbNext i x0 x1 x2 x4 (biasFill x3) (fill ![0, 0, 0] k0_pay6) (fill ![0, 0, 0] k0_pay6) := by
  unfold out0_A_8 kernelRun0_A
  dsimp only
  sl_unfold_words
  simp only [View.readCov, View.read_writes_cons_put _ _ _ _ _ rfl, View.writes_nil, read_junk, View.readAt_eq_ld, harg2.read_unread, harg3.read_unread, harg4.read_unread, harg5.read_unread, harg6.read_unread, harg8.read_unread, harg9.read_unread, harg10.read_unread, harg11.read_unread]
  refine Eq.trans (b := both (fill ![0, 0, 0] k0_pay6)
      (db0Next i x0 x1 x2 x4 (biasFill x3) (row0 (fill ![0, 0, 0] k0_pay6)))
      (db1Next i x0 x1 x2 x4 (biasFill x3) (row1 (VecWindow.put (fill ![0, 0, 0] k0_pay6) ![0, 0, 0] S1x64x576.size
        (db0Next i x0 x1 x2 x4 (biasFill x3) (row0 (fill ![0, 0, 0] k0_pay6))))))) rfl ?_
  rw [row1_put]
  rfl

/-- The first point of a group. -/
theorem out_A_S (arg2 : Memref sig .tc .vmem S256x128 .bf16) (harg2 : arg2.IsWhole) (arg3 : Memref sig .tc .vmem S8704x128 .bf16) (harg3 : arg3.IsWhole) (arg4 : Memref sig .tc .vmem S8704x128 .bf16) (harg4 : arg4.IsWhole) (arg5 : Memref sig .tc .vmem S2x64x576 .f32) (harg5 : arg5.IsWhole) (arg6 : Memref sig .tc .vmem S256x128 .bf16) (harg6 : arg6.IsWhole) (arg7 : Memref sig .tc .vmem S256x128 .bf16) (harg7 : arg7.IsWhole) (arg8 : Memref sig .tc .vmem S8704x128 .f32) (harg8 : arg8.IsWhole) (arg9 : Memref sig .tc .vmem S8704x128 .f32) (harg9 : arg9.IsWhole) (arg10 : Memref sig .tc .vmem S2x64x576 .f32) (harg10 : arg10.IsWhole) (arg11 : Memref sig .tc .vmem S2x256x768 .f32) (harg11 : arg11.IsWhole) (hc0 : cond0_0 i)
    (x0 : Vec F S256x128 .bf16) (x1 : Vec F S8704x128 .bf16) (x2 : Vec F S8704x128 .bf16) (x3 : Vec F S2x64x576 .f32) (x4 : Vec F S256x128 .bf16) :
    sout0_A_0 c i arg2 harg2 arg3 harg3 arg4 harg4 arg5 harg5 arg6 harg6 arg7 harg7 arg8 harg8 arg9 harg9 arg10 harg10 arg11 harg11 hc0 x0 x1 x2 x3 x4 = biasFill x3 := by
  unfold sout0_A_0 kernelRun0_A
  dsimp only
  sl_unfold_words
  simp only [View.readCov, View.read_writes_cons_put _ _ _ _ _ rfl, View.writes_nil, read_junk, View.readAt_eq_ld, harg2.read_unread, harg3.read_unread, harg4.read_unread, harg5.read_unread, harg6.read_unread, harg8.read_unread, harg9.read_unread, harg10.read_unread, harg11.read_unread]
  rfl

end Cert.Attn

end
-- ==== Proof.Attn.Row.lean ====
/-
  One row of a masked softmax and of its gradient over the extended reals: the row's weights `rP`, the gradient of
  its scores `rDs`, what a wider row that is −∞ off an embedded band gives, and the spelling of the same gradient
  that differentiating `exp / sum` gives.
-/
module

public import Mathlib.Data.EReal.Operations
public import Mathlib.Data.EReal.Inv
public import Idealize.ShloMosaic.PureOps.Ideal

@[expose] public section

noncomputable section

namespace Cert.Attn

open Idealize.ShloMosaic

variable {ι κ : Type} [Fintype ι] [Fintype κ]

/-- The greatest score of a row (−∞ of an empty one). -/
def rMax (s : ι → EReal) : EReal := Finset.univ.fold max ⊥ s

/-- The exponential of a score less the row's greatest. -/
def rExp (s : ι → EReal) (j : ι) : EReal := Ideal.exp (s j - rMax s)

/-- The sum of a row's exponentials. -/
def rSum (s : ι → EReal) : EReal := ∑ j, rExp s j

/-- The softmax weight, by the product with the reciprocal of the sum. -/
def rP (s : ι → EReal) (j : ι) : EReal := rExp s j * Ideal.div 1 (rSum s)

/-- The gradient of a row's scores from the gradient `g` of its weights. -/
def rDs (s g : ι → EReal) (j : ι) : EReal := rP s j * (g j - ∑ k, g k * rP s k)

/-! ## A band inside a wider row -/

/-- −∞ less anything is −∞. -/
theorem bot_sub' (x : EReal) : (⊥ : EReal) - x = ⊥ := by rw [sub_eq_add_neg, EReal.bot_add]

/-- The greatest score is the supremum of the scores. -/
theorem rMax_eq_sup (s : ι → EReal) : rMax s = Finset.univ.sup s := rfl

/-- A score of −∞ has exponential zero. -/
theorem rExp_of_bot {s : ι → EReal} {j : ι} (h : s j = ⊥) : rExp s j = 0 := by
  unfold rExp; rw [h, bot_sub', Ideal.exp_bot]

/-- A score of −∞ has weight zero. -/
theorem rP_of_bot {s : ι → EReal} {j : ι} (h : s j = ⊥) : rP s j = 0 := by
  unfold rP; rw [rExp_of_bot h, zero_mul]

/-- A score of −∞ has gradient zero. -/
theorem rDs_of_bot {s g : ι → EReal} {j : ι} (h : s j = ⊥) : rDs s g j = 0 := by
  unfold rDs; rw [rP_of_bot h, zero_mul]

section Band

variable {S : κ → EReal} {s : ι → EReal} (e : ι → κ) (he : Function.Injective e) (hin : ∀ j, S (e j) = s j)
  (hout : ∀ c, (∀ j, e j ≠ c) → S c = ⊥)

include hin hout in
/-- The wider row's greatest score is the band's. -/
theorem rMax_band : rMax S = rMax s := by
  rw [rMax_eq_sup, rMax_eq_sup]
  apply le_antisymm
  · refine Finset.sup_le fun c _ => ?_
    by_cases hc : ∃ j, e j = c
    · obtain ⟨j, rfl⟩ := hc
      rw [hin]; exact Finset.le_sup (f := s) (Finset.mem_univ j)
    · rw [hout c fun j hj => hc ⟨j, hj⟩]; exact bot_le
  · refine Finset.sup_le fun j _ => ?_
    rw [← hin]; exact Finset.le_sup (f := S) (Finset.mem_univ (e j))

include hin hout in
/-- The wider row's exponentials on the band. -/
theorem rExp_band (j : ι) : rExp S (e j) = rExp s j := by
  unfold rExp; rw [hin, rMax_band e hin hout]

/-- A sum over the wider row of something that is zero off the band. -/
theorem sum_band (he : Function.Injective e) (F : κ → EReal) (hF : ∀ c, (∀ j, e j ≠ c) → F c = 0) :
    ∑ c, F c = ∑ j, F (e j) := by
  classical
  rw [← Finset.sum_image (s := Finset.univ) (g := e) (f := F) fun a _ b _ h => he h]
  refine (Finset.sum_subset (Finset.subset_univ _) fun c _ hc => hF c fun j hj => hc ?_).symm
  exact Finset.mem_image.mpr ⟨j, Finset.mem_univ j, hj⟩

include he hin hout in
/-- The wider row's sum of exponentials is the band's. -/
theorem rSum_band : rSum S = rSum s := by
  unfold rSum
  rw [sum_band e he (rExp S) fun c hc => rExp_of_bot (hout c hc)]
  exact Finset.sum_congr rfl fun j _ => rExp_band e hin hout j

include he hin hout in
/-- The wider row's weights on the band. -/
theorem rP_band (j : ι) : rP S (e j) = rP s j := by
  unfold rP; rw [rExp_band e hin hout, rSum_band e he hin hout]

include he hin hout in
/-- The wider row's score gradients on the band. -/
theorem rDs_band (G : κ → EReal) (j : ι) : rDs S G (e j) = rDs s (fun j => G (e j)) j := by
  unfold rDs
  rw [rP_band e he hin hout, sum_band e he (fun c => G c * rP S c) fun c hc => by
    show G c * rP S c = 0
    rw [rP_of_bot (hout c hc), mul_zero]]
  simp only [rP_band e he hin hout]

end Band

/-! ## A row of finite scores, some masked -/

/-- A row of which each score is finite or −∞, and some score is finite. -/
def FiniteRow (s : ι → EReal) : Prop := (∀ j, s j ≠ ⊤) ∧ ∃ j, s j ≠ ⊥

/-- The greatest score of such a row is finite. -/
theorem FiniteRow.max {s : ι → EReal} (h : FiniteRow s) : ∃ M : ℝ, rMax s = M := by
  obtain ⟨j, hj⟩ := h.2
  have hne : (Finset.univ : Finset ι).Nonempty := ⟨j, Finset.mem_univ j⟩
  have htop : rMax s ≠ ⊤ := by
    rw [rMax_eq_sup]
    obtain ⟨k, _, hk⟩ := Finset.exists_mem_eq_sup _ hne s
    rw [hk]; exact h.1 k
  have hbot : rMax s ≠ ⊥ := fun hb => hj (le_bot_iff.mp (hb ▸ (rMax_eq_sup s ▸ Finset.le_sup (f := s) (Finset.mem_univ j))))
  exact ⟨_, (EReal.coe_toReal htop hbot).symm⟩

/-- Each exponential of such a row is a nonnegative real. -/
theorem FiniteRow.exp {s : ι → EReal} (h : FiniteRow s) (j : ι) : ∃ x : ℝ, 0 ≤ x ∧ rExp s j = x := by
  obtain ⟨M, hM⟩ := h.max
  unfold rExp
  rw [hM]
  induction hs : s j using EReal.rec with
  | bot => exact ⟨0, le_refl _, by rw [bot_sub']; rfl⟩
  | coe x => exact ⟨Real.exp (x - M), (Real.exp_pos _).le, rfl⟩
  | top => exact absurd hs (h.1 j)

/-- The sum of the exponentials of such a row is a positive real. -/
theorem FiniteRow.sum {s : ι → EReal} (h : FiniteRow s) : ∃ t : ℝ, 0 < t ∧ rSum s = t := by
  choose x hx hs using h.exp
  refine ⟨∑ j, x j, ?_, ?_⟩
  · obtain ⟨M, hM⟩ := h.max
    obtain ⟨j, hj⟩ := h.2
    have hpos : 0 < x j := by
      have h0 : rExp s j = x j := hs j
      unfold rExp at h0
      rw [hM] at h0
      induction hsj : s j using EReal.rec with
      | bot => exact absurd hsj hj
      | coe y =>
        rw [hsj] at h0
        have : Real.exp (y - M) = x j := EReal.coe_injective h0
        rw [← this]; exact Real.exp_pos _
      | top => exact absurd hsj (h.1 j)
    exact Finset.sum_pos' (fun k _ => hx k) ⟨j, Finset.mem_univ j, hpos⟩
  · unfold rSum
    rw [Finset.sum_congr rfl fun j _ => hs j]
    exact (map_sum (⟨⟨Real.toEReal, rfl⟩, EReal.coe_add⟩ : ℝ →+ EReal) x Finset.univ).symm

/-- A nonnegative real factor passes through a sum of extended reals. -/
theorem mul_sum_of_nonneg {c : ℝ} (hc : 0 ≤ c) (f : ι → EReal) : (c : EReal) * ∑ j, f j = ∑ j, (c : EReal) * f j :=
  map_sum (⟨⟨fun x => (c : EReal) * x, mul_zero _⟩, fun x y =>
    EReal.left_distrib_of_nonneg_of_ne_top (by exact_mod_cast hc) (EReal.coe_ne_top c) x y⟩ : EReal →+ EReal) f Finset.univ

/-- The weight by a division. -/
theorem div_eq_rP {s : ι → EReal} (h : FiniteRow s) (j : ι) : Ideal.div (rExp s j) (rSum s) = rP s j := by
  obtain ⟨t, ht, hS⟩ := h.sum
  unfold rP
  rw [hS, Ideal.div_coe ht.ne', Ideal.div_coe ht.ne', one_mul]

/-- The score gradient as differentiating the quotient of an exponential by the sum gives it, at a score that the mask keeps. -/
theorem quotient_eq_rDs {s : ι → EReal} (h : FiniteRow s) (g : ι → EReal) (j : ι) :
    (Ideal.div (g j) (rSum s) + -∑ k, g k * Ideal.div 1 (rSum s * rSum s) * rExp s k) * rExp s j = rDs s g j := by
  obtain ⟨t, ht, hS⟩ := h.sum
  have hc : (0 : ℝ) ≤ 1 / t := by positivity
  have htt : Ideal.div 1 (rSum s * rSum s) = ((1 / t : ℝ) : EReal) * ((1 / t : ℝ) : EReal) := by
    rw [hS, ← EReal.coe_mul, Ideal.div_coe (mul_pos ht ht).ne', one_mul, ← EReal.coe_mul]
    congr 1; field_simp
  have hp : ∀ k, rP s k = ((1 / t : ℝ) : EReal) * rExp s k := fun k => by
    unfold rP; rw [hS, Ideal.div_coe ht.ne', one_mul, mul_comm]
  unfold rDs
  rw [htt, hp j, hS, Ideal.div_coe ht.ne']
  have hsum : ∑ k, g k * (((1 / t : ℝ) : EReal) * ((1 / t : ℝ) : EReal)) * rExp s k
      = ((1 / t : ℝ) : EReal) * ∑ k, g k * rP s k := by
    rw [mul_sum_of_nonneg hc]
    refine Finset.sum_congr rfl fun k _ => ?_
    rw [hp k]; ac_rfl
  rw [hsum, mul_comm (g j), ← mul_neg, ← EReal.left_distrib_of_nonneg_of_ne_top (by exact_mod_cast hc) (EReal.coe_ne_top _),
    ← sub_eq_add_neg]
  ac_rfl

end Cert.Attn

end
-- ==== Proof.Attn.Tile.lean ====
/-
  One grid point of the attention's backward kernel over the extended reals: each payload at an index, as the row weights `rP` and the
  score gradients `rDs` of the point's 256 query rows over its 768 keys, and from them the point's four outputs.
-/
module

public import proofs.«01_k».proof.Proof.Attn.Terms
public import proofs.«01_k».proof.Proof.Attn.Row
public import Idealize.ShloMosaic.Lib.Pointwise
public import Idealize.ShloMosaic.Lib.Claim

@[expose] public section

set_option maxRecDepth 16384

noncomputable section

namespace Cert.Attn

open Cert.KernelIdeal Cert.KernelIdeal.Gen Idealize.ShloMosaic Idealize.ShloMosaic.TcCoe Idealize.SL.Sem

set_option maxHeartbeats 1000000

/-- The scale 1/8 of the scores. -/
def c8 : EReal := Ideal.ofBits .f32 0x3E000000#32

section Spec

variable (n : ℕ) (Q : Fin 256 → Fin 64 → EReal) (K V : Fin 768 → Fin 64 → EReal) (D : Fin 256 → Fin 64 → EReal)
  (b : Fin 256 → Fin 768 → EReal)

/-- The scores of one head at grid point `n`: −∞ at a key before the sequence's start. -/
def tS (r : Fin 256) (c : Fin 768) : EReal := if 512 ≤ 256 * n + c.val then (∑ d, Q r d * K c d) * c8 + b r c else ⊥

/-- The gradient of one head's weights. -/
def tG (r : Fin 256) (c : Fin 768) : EReal := ∑ d, D r d * V c d

/-- One head's weights. -/
def tP (r : Fin 256) (c : Fin 768) : EReal := rP (tS n Q K b r) c

/-- The gradient of one head's scores. -/
def tD (r : Fin 256) (c : Fin 768) : EReal := rDs (tS n Q K b r) (tG V D r) c

/-- The point's query gradient in one head. -/
def tdq (r : Fin 256) (d : Fin 64) : EReal := ∑ c, tD n Q K V D b r c * c8 * K c d

/-- The point's part of the key gradient in one head. -/
def tdk (c : Fin 768) (d : Fin 64) : EReal := ∑ r, tD n Q K V D b r c * c8 * Q r d

/-- The point's part of the value gradient in one head. -/
def tdv (c : Fin 768) (d : Fin 64) : EReal := ∑ r, tP n Q K b r c * D r d

/-- The point's part of the bias gradient in one head: its four chunks' bands. -/
def tdb (q : Fin 64) (j : Fin 576) : EReal :=
  tD n Q K V D b ⟨q.val, by omega⟩ ⟨j.val, by omega⟩ + tD n Q K V D b ⟨64 + q.val, by omega⟩ ⟨64 + j.val, by omega⟩
    + tD n Q K V D b ⟨128 + q.val, by omega⟩ ⟨128 + j.val, by omega⟩ + tD n Q K V D b ⟨192 + q.val, by omega⟩ ⟨192 + j.val, by omega⟩

end Spec

/-- The first head's 64 columns of a block of 128. -/
def hd0 {a : ℕ} (X : Vec Ideal ⟨2, ![a, 128]⟩ .bf16) (r : Fin a) (d : Fin 64) : EReal := X (ix2 r (⟨d.val, by omega⟩ : Fin 128))

/-- The second head's 64 columns. -/
def hd1 {a : ℕ} (X : Vec Ideal ⟨2, ![a, 128]⟩ .bf16) (r : Fin a) (d : Fin 64) : EReal := X (ix2 r (⟨64 + d.val, by omega⟩ : Fin 128))

/-- A one-head plane as a matrix. -/
def pl (X : Vec Ideal S1x256x768 .f32) (r : Fin 256) (c : Fin 768) : EReal := X (ix3 (0 : Fin 1) r c)

/-- The word comparison that marks the keys inside the sequence. -/
theorem select_valid (i : grid0.Coords) (c : Fin 768) (x y : EReal) :
    Scalar.select (IntOp.cmpi .sge (BitVec.ofNat 32 c.val) (Scalar.subi 512#32 (Scalar.muli (BitVec.ofNat 32 (i 1).val) 256#32))) x y
      = if 512 ≤ 256 * (i 1).val + c.val then x else y := by
  have hi : (i 1).val < 32 := (i 1).isLt
  have hc := c.isLt
  have e : (BitVec.sle (Scalar.subi 512#32 (Scalar.muli (BitVec.ofNat 32 (i 1).val) 256#32)) (BitVec.ofNat 32 c.val))
      = decide (512 ≤ 256 * (i 1).val + c.val) := by
    have en : ∀ x : ℕ, x < 1024 → (BitVec.ofNat 32 x).toInt = (x : ℤ) := fun x hx => by
      have h : (BitVec.ofNat 32 x).toNat = x := by rw [BitVec.toNat_ofNat]; omega
      rw [BitVec.toInt_eq_toNat_of_lt (by omega), h]
    have e1 := en c.val (by omega)
    have e2 : (Scalar.subi 512#32 (Scalar.muli (BitVec.ofNat 32 (i 1).val) 256#32)).toInt = 512 - 256 * ((i 1).val : ℤ) := by
      show (512#32 - BitVec.ofNat 32 (i 1).val * 256#32).toInt = _
      rw [BitVec.toInt_sub, BitVec.toInt_mul, en 512 (by omega), en _ (by omega : (i 1).val < 1024), en 256 (by omega),
        Int.bmod_eq_of_le (n := ((i 1).val : ℤ) * (256 : ℕ)) (by omega) (by omega), Int.bmod_eq_of_le (by omega) (by omega)]
      push_cast
      ring
    rw [BitVec.sle_eq_decide, e1, e2]
    exact decide_eq_decide.mpr (by omega)
  unfold IntOp.cmpi Scalar.select
  simp only [e]
  by_cases h : 512 ≤ 256 * (i 1).val + c.val
  · simp [h]
  · simp [h]

/-- The named constant is −∞. -/
theorem mask_bot : (Named.named (F := Ideal) Cert.KernelIdeal.κ "mask" 0xF149F2CA#32 : Ideal .f32) = (⊥ : EReal) :=
  IdealRules.named_const.ideal_named_scalar _ _ _ _ rfl

/-- The maximum's start is −∞. -/
theorem ninf_bot : Ideal.ofBits .f32 0xFF800000#32 = (⊥ : EReal) := by
  simp [Ideal.ofBits, Ideal.ieee]

variable (i : grid0.Coords) (kw vw : Vec Ideal S768x128 .bf16) (q d : Vec Ideal S256x128 .bf16) (b : Vec Ideal S1x256x768 .f32)

/-- The first head's exponentials. -/
theorem pay22_apply (r : Fin 256) (c : Fin 768) :
    k0_pay22 i kw q b (ix2 r c) = rExp (tS (i 1).val (hd0 q) (hd0 kw) (pl b) r) c := by
  pointwise [k0_pay22, k0_pay21, k0_pay20, k0_pay18]
  simp only [select_valid, mask_bot, ninf_bot]
  rfl

/-- The first head's row sums. -/
theorem pay23_apply (r : Fin 256) (u : Fin 1) :
    k0_pay23 i kw q b (ix2 r u) = rSum (tS (i 1).val (hd0 q) (hd0 kw) (pl b) r) := by
  pointwise [k0_pay23]
  simp only [pay22_apply]
  rfl

/-- The first head's weights. -/
theorem pay25_apply (r : Fin 256) (c : Fin 768) :
    k0_pay25 (k0_pay22 i kw q b) (k0_pay23 i kw q b) k0_pay24 (ix2 r c) = tP (i 1).val (hd0 q) (hd0 kw) (pl b) r c := by
  pointwise [k0_pay25, k0_pay24]
  simp only [pay22_apply, pay23_apply]
  rfl

/-- The gradient of the first head's scores. -/
theorem pay26_apply (r : Fin 256) (c : Fin 768) :
    k0_pay26 (k0_pay19 vw) d (k0_pay22 i kw q b) (k0_pay23 i kw q b) k0_pay24 (ix2 r c)
      = tD (i 1).val (hd0 q) (hd0 kw) (hd0 vw) (hd0 d) (pl b) r c := by
  pointwise [k0_pay26, k0_pay19]
  simp only [pay25_apply]
  rfl

/-- The second head's weights. -/
theorem pay35_apply (r : Fin 256) (c : Fin 768) :
    k0_pay35 (k0_pay21 i) (k0_pay32 b) (k0_pay33 (k0_pay18 kw) (k0_pay20 q)) k0_pay34 (ix2 r c)
      = tP (i 1).val (hd1 q) (hd1 kw) (pl b) r c := by
  pointwise [k0_pay35, k0_pay21, k0_pay32, k0_pay33, k0_pay18, k0_pay20, k0_pay34]
  simp only [select_valid, mask_bot, ninf_bot]
  rfl

/-- The gradient of the second head's scores. -/
theorem pay36_apply (r : Fin 256) (c : Fin 768) :
    k0_pay36 (k0_pay19 vw) d (k0_pay21 i) (k0_pay32 b) (k0_pay33 (k0_pay18 kw) (k0_pay20 q)) k0_pay34 (ix2 r c)
      = tD (i 1).val (hd1 q) (hd1 kw) (hd1 vw) (hd1 d) (pl b) r c := by
  pointwise [k0_pay36, k0_pay19]
  simp only [pay35_apply]
  rfl

variable (k v : Vec Ideal S8704x128 .bf16) (B : Vec Ideal S2x256x768 .f32)

theorem whole_eq (x : Vec Ideal S256x128 .bf16) : whole x = x :=
  View.ld_unit_zero (by decide) inb_S256x128_S256x128_0_0 x

theorem pay18_eq (x : Vec Ideal S768x128 .bf16) : k0_pay18 x = x := by
  funext j
  rw [eq_ix2 j]
  pointwise [k0_pay18]

theorem pay20_eq (x : Vec Ideal S256x128 .bf16) : k0_pay20 x = x := by
  funext j
  rw [eq_ix2 j]
  pointwise [k0_pay20]

/-- The query gradient in the first head's columns. -/
theorem dq0 (r : Fin 256) (e : Fin 64) :
    dqNext i q k v d B (ix2 r (⟨e.val, by omega⟩ : Fin 128))
      = tdq (i 1).val (hd0 q) (hd0 (win i k)) (hd0 (win i v)) (hd0 d) (pl (bias0 B)) r e := by
  have he := e.isLt
  unfold dqNext
  rw [whole_eq, whole_eq]
  pointwise [k0_pay1, k0_pay29, k0_pay28]
  simp only [he, ↓reduceDIte, pay26_apply, pay18_eq]
  rfl

/-- The query gradient in the second head's columns. -/
theorem dq1 (r : Fin 256) (e : Fin 64) :
    dqNext i q k v d B (ix2 r (⟨64 + e.val, by omega⟩ : Fin 128))
      = tdq (i 1).val (hd1 q) (hd1 (win i k)) (hd1 (win i v)) (hd1 d) (pl (bias1 B)) r e := by
  have he : ¬ 64 + e.val < 64 := by omega
  unfold dqNext
  rw [whole_eq, whole_eq]
  pointwise [k0_pay1, k0_pay39, k0_pay38]
  simp only [he, ↓reduceDIte, pay36_apply]
  simp only [pay18_eq]
  rfl

/-- What a point adds to the key gradient in the first head's columns. -/
theorem dk0 (w : Vec Ideal S768x128 .f32) (c : Fin 768) (e : Fin 64) :
    k0_pay2
      (k0_pay30 (k0_pay19 (win i v)) (k0_pay20 q) d (k0_pay22 i (win i k) q (bias0 B)) (k0_pay23 i (win i k) q (bias0 B)) k0_pay24)
      (k0_pay40 (k0_pay20 q))
      (k0_pay41 (k0_pay19 (win i v)) d (k0_pay21 i) (k0_pay32 (bias1 B)) (k0_pay33 (k0_pay18 (win i k)) (k0_pay20 q)) k0_pay34)
      (constant S768x64 .f32 0x00000000#32) w (ix2 c (⟨e.val, by omega⟩ : Fin 128))
      = w (ix2 c (⟨e.val, by omega⟩ : Fin 128))
        + tdk (i 1).val (hd0 q) (hd0 (win i k)) (hd0 (win i v)) (hd0 d) (pl (bias0 B)) c e := by
  have he := e.isLt
  pointwise [k0_pay2, k0_pay30, k0_pay28]
  simp only [he, ↓reduceDIte, pay26_apply, pay20_eq]
  rfl

/-- What a point adds to the key gradient in the second head's columns. -/
theorem dk1 (w : Vec Ideal S768x128 .f32) (c : Fin 768) (e : Fin 64) :
    k0_pay2
      (k0_pay30 (k0_pay19 (win i v)) (k0_pay20 q) d (k0_pay22 i (win i k) q (bias0 B)) (k0_pay23 i (win i k) q (bias0 B)) k0_pay24)
      (k0_pay40 (k0_pay20 q))
      (k0_pay41 (k0_pay19 (win i v)) d (k0_pay21 i) (k0_pay32 (bias1 B)) (k0_pay33 (k0_pay18 (win i k)) (k0_pay20 q)) k0_pay34)
      (constant S768x64 .f32 0x00000000#32) w (ix2 c (⟨64 + e.val, by omega⟩ : Fin 128))
      = w (ix2 c (⟨64 + e.val, by omega⟩ : Fin 128))
        + tdk (i 1).val (hd1 q) (hd1 (win i k)) (hd1 (win i v)) (hd1 d) (pl (bias1 B)) c e := by
  have he : ¬ 64 + e.val < 64 := by omega
  pointwise [k0_pay2, k0_pay40, k0_pay41, k0_pay38]
  simp only [he, ↓reduceDIte, pay36_apply]
  simp only [pay20_eq]
  rfl

/-- What a point adds to the value gradient in the first head's columns. -/
theorem dv0 (w : Vec Ideal S768x128 .f32) (c : Fin 768) (e : Fin 64) :
    k0_pay3 d (k0_pay31 d (k0_pay22 i (win i k) q (bias0 B)) (k0_pay23 i (win i k) q (bias0 B)) k0_pay24)
      (k0_pay35 (k0_pay21 i) (k0_pay32 (bias1 B)) (k0_pay33 (k0_pay18 (win i k)) (k0_pay20 q)) k0_pay34) w
      (ix2 c (⟨e.val, by omega⟩ : Fin 128))
      = w (ix2 c (⟨e.val, by omega⟩ : Fin 128)) + tdv (i 1).val (hd0 q) (hd0 (win i k)) (hd0 d) (pl (bias0 B)) c e := by
  have he := e.isLt
  pointwise [k0_pay3, k0_pay31]
  simp only [he, ↓reduceDIte, pay25_apply]
  rfl

/-- What a point adds to the value gradient in the second head's columns. -/
theorem dv1 (w : Vec Ideal S768x128 .f32) (c : Fin 768) (e : Fin 64) :
    k0_pay3 d (k0_pay31 d (k0_pay22 i (win i k) q (bias0 B)) (k0_pay23 i (win i k) q (bias0 B)) k0_pay24)
      (k0_pay35 (k0_pay21 i) (k0_pay32 (bias1 B)) (k0_pay33 (k0_pay18 (win i k)) (k0_pay20 q)) k0_pay34) w
      (ix2 c (⟨64 + e.val, by omega⟩ : Fin 128))
      = w (ix2 c (⟨64 + e.val, by omega⟩ : Fin 128)) + tdv (i 1).val (hd1 q) (hd1 (win i k)) (hd1 d) (pl (bias1 B)) c e := by
  have he : ¬ 64 + e.val < 64 := by omega
  pointwise [k0_pay3]
  simp only [he, ↓reduceDIte, pay35_apply]
  rfl

/-- What a point adds to the bias gradient of the first head. -/
theorem db0 (w : Vec Ideal S1x64x576 .f32) (a : Fin 64) (j : Fin 576) :
    db0Next i q k v d B w (ix3 (0 : Fin 1) a j)
      = w (ix3 (0 : Fin 1) a j) + tdb (i 1).val (hd0 q) (hd0 (win i k)) (hd0 (win i v)) (hd0 d) (pl (bias0 B)) a j := by
  unfold db0Next
  rw [whole_eq, whole_eq]
  pointwise [k0_pay27]
  simp only [pay26_apply]
  rfl

/-- What a point adds to the bias gradient of the second head. -/
theorem db1 (w : Vec Ideal S1x64x576 .f32) (a : Fin 64) (j : Fin 576) :
    db1Next i q k v d B w (ix3 (0 : Fin 1) a j)
      = w (ix3 (0 : Fin 1) a j) + tdb (i 1).val (hd1 q) (hd1 (win i k)) (hd1 (win i v)) (hd1 d) (pl (bias1 B)) a j := by
  unfold db1Next
  rw [whole_eq, whole_eq]
  pointwise [k0_pay37]
  simp only [pay36_apply]
  rfl

end Cert.Attn

end
-- ==== Proof.Attn.Band.lean ====
/-
  The attention's gradients chunk by chunk, from the arrays: the scores `sc` of chunk `m`'s 64 queries over its 576 keys, their weights
  `cP` and score gradients `cD`, and each chunk's part of the four results; and a grid point's 256 queries over 768 keys as its four chunks.
-/
module

public import proofs.«01_k».proof.Proof.Attn.Tile

@[expose] public section

noncomputable section

namespace Cert.Attn

open Idealize.ShloMosaic

/-- A matrix read at natural coordinates, 0 off it. -/
def rd2 {a b : ℕ} (X : (⟨2, ![a, b]⟩ : Shape).Idx → EReal) (r c : ℕ) : EReal :=
  if h : r < a ∧ c < b then X (ix2 (⟨r, h.1⟩ : Fin a) (⟨c, h.2⟩ : Fin b)) else 0

/-- A stack of matrices read at natural coordinates, 0 off it. -/
def rd3 {a b c : ℕ} (X : (⟨3, ![a, b, c]⟩ : Shape).Idx → EReal) (r s t : ℕ) : EReal :=
  if h : r < a ∧ s < b ∧ t < c then X (ix3 (⟨r, h.1⟩ : Fin a) (⟨s, h.2.1⟩ : Fin b) (⟨t, h.2.2⟩ : Fin c)) else 0

variable (X : (⟨2, ![8192, 3072]⟩ : Shape).Idx → EReal) (B : (⟨3, ![16, 64, 576]⟩ : Shape).Idx → EReal)
  (D : (⟨2, ![8192, 1024]⟩ : Shape).Idx → EReal) (h : ℕ)

/-- Head `h` of the queries. -/
def sQ (i : ℕ) (d : Fin 64) : EReal := rd2 X i (64 * h + d.val)

/-- Head `h` of the keys behind 512 rows of zeros. -/
def sK (x : ℕ) (d : Fin 64) : EReal := if x < 512 then 0 else rd2 X (x - 512) (1024 + (64 * h + d.val))

/-- Head `h` of the values behind 512 rows of zeros. -/
def sV (x : ℕ) (d : Fin 64) : EReal := if x < 512 then 0 else rd2 X (x - 512) (2048 + (64 * h + d.val))

/-- Head `h` of the cotangent. -/
def sD (i : ℕ) (d : Fin 64) : EReal := rd2 D i (64 * h + d.val)

/-- The scores of chunk `m`: −∞ at a key before the sequence's start. -/
def sc (m : ℕ) (q : Fin 64) (j : Fin 576) : EReal :=
  if 512 ≤ 64 * m + j.val then (∑ d, sQ X h (64 * m + q.val) d * sK X h (64 * m + j.val) d) * c8 + rd3 B h q.val j.val else ⊥

/-- The gradient of chunk `m`'s weights. -/
def gg (m : ℕ) (q : Fin 64) (j : Fin 576) : EReal := ∑ d, sD D h (64 * m + q.val) d * sV X h (64 * m + j.val) d

/-- Chunk `m`'s weights. -/
def cP (m : ℕ) (q : Fin 64) (j : Fin 576) : EReal := rP (sc X B h m q) j

/-- The gradient of chunk `m`'s scores. -/
def cD (m : ℕ) (q : Fin 64) (j : Fin 576) : EReal := rDs (sc X B h m q) (gg X D h m q) j

/-- Chunk `m`'s query gradient. -/
def dqC (m : ℕ) (q d : Fin 64) : EReal := ∑ j, cD X B D h m q j * c8 * sK X h (64 * m + j.val) d

/-- Chunk `m`'s part of the gradient of padded key row `x`. -/
def dkC (m x : ℕ) (d : Fin 64) : EReal :=
  if hx : 64 * m ≤ x ∧ x < 64 * m + 576 then ∑ q, cD X B D h m q ⟨x - 64 * m, by omega⟩ * c8 * sQ X h (64 * m + q.val) d else 0

/-- Chunk `m`'s part of the gradient of padded value row `x`. -/
def dvC (m x : ℕ) (d : Fin 64) : EReal :=
  if hx : 64 * m ≤ x ∧ x < 64 * m + 576 then ∑ q, cP X B h m q ⟨x - 64 * m, by omega⟩ * sD D h (64 * m + q.val) d else 0

/-- Point `n`'s queries. -/
def bQ (n : ℕ) (r : Fin 256) (d : Fin 64) : EReal := sQ X h (256 * n + r.val) d

/-- Point `n`'s keys. -/
def bK (n : ℕ) (c : Fin 768) (d : Fin 64) : EReal := sK X h (256 * n + c.val) d

/-- Point `n`'s values. -/
def bV (n : ℕ) (c : Fin 768) (d : Fin 64) : EReal := sV X h (256 * n + c.val) d

/-- Point `n`'s cotangent. -/
def bD (n : ℕ) (r : Fin 256) (d : Fin 64) : EReal := sD D h (256 * n + r.val) d

/-- The kept bias: each chunk's 64 rows hold the bias at the chunk's own 576 keys, and −∞ at the rest. -/
def bB (r : Fin 256) (c : Fin 768) : EReal :=
  if 64 * (r.val / 64) ≤ c.val ∧ c.val < 64 * (r.val / 64) + 576 then rd3 B h (r.val % 64) (c.val - 64 * (r.val / 64)) else ⊥

/-- Query `q` of the point's chunk `u`. -/
def row (u : Fin 4) (q : Fin 64) : Fin 256 := ⟨64 * u.val + q.val, by omega⟩

/-- Key `j` of the point's chunk `u`. -/
def key (u : Fin 4) (j : Fin 576) : Fin 768 := ⟨64 * u.val + j.val, by omega⟩

theorem key_inj (u : Fin 4) : Function.Injective (key u) := fun a b e => by
  have : 64 * u.val + a.val = 64 * u.val + b.val := congrArg Fin.val e
  exact Fin.ext (by omega)

variable (n : ℕ) (u : Fin 4) (q : Fin 64)

theorem tS_in (j : Fin 576) :
    tS n (bQ X h n) (bK X h n) (bB B h) (row u q) (key u j) = sc X B h (4 * n + u.val) q j := by
  have e1 : 256 * n + (64 * u.val + j.val) = 64 * (4 * n + u.val) + j.val := by omega
  have e2 : 256 * n + (64 * u.val + q.val) = 64 * (4 * n + u.val) + q.val := by omega
  have e3 : (64 * u.val + q.val) / 64 = u.val := by omega
  have e4 : (64 * u.val + q.val) % 64 = q.val := by omega
  have e5 : 64 * u.val + j.val - 64 * u.val = j.val := by omega
  have e6 : 64 * u.val ≤ 64 * u.val + j.val ∧ 64 * u.val + j.val < 64 * u.val + 576 := by omega
  simp only [tS, sc, bQ, bK, bB, row, key, e1, e2, e3, e4, e5, e6, and_self, if_true]

theorem tS_out (c : Fin 768) (hc : ∀ j, key u j ≠ c) :
    tS n (bQ X h n) (bK X h n) (bB B h) (row u q) c = ⊥ := by
  have e3 : (64 * u.val + q.val) / 64 = u.val := by omega
  have e6 : ¬ (64 * u.val ≤ c.val ∧ c.val < 64 * u.val + 576) := fun hh =>
    hc ⟨c.val - 64 * u.val, by omega⟩ (Fin.ext (by show 64 * u.val + (c.val - 64 * u.val) = c.val; omega))
  simp only [tS, bB, row, e3, e6, if_false, EReal.add_bot, ite_self]

theorem tG_in (j : Fin 576) : tG (bV X h n) (bD D h n) (row u q) (key u j) = gg X D h (4 * n + u.val) q j := by
  have e1 : 256 * n + (64 * u.val + j.val) = 64 * (4 * n + u.val) + j.val := by omega
  have e2 : 256 * n + (64 * u.val + q.val) = 64 * (4 * n + u.val) + q.val := by omega
  simp only [tG, gg, bV, bD, row, key, e1, e2]

theorem tP_in (j : Fin 576) : tP n (bQ X h n) (bK X h n) (bB B h) (row u q) (key u j) = cP X B h (4 * n + u.val) q j :=
  rP_band (key u) (key_inj u) (tS_in X B h n u q) (tS_out X B h n u q) j

theorem tP_out (c : Fin 768) (hc : ∀ j, key u j ≠ c) : tP n (bQ X h n) (bK X h n) (bB B h) (row u q) c = 0 :=
  rP_of_bot (tS_out X B h n u q c hc)

theorem tD_in (j : Fin 576) :
    tD n (bQ X h n) (bK X h n) (bV X h n) (bD D h n) (bB B h) (row u q) (key u j) = cD X B D h (4 * n + u.val) q j := by
  unfold tD cD
  rw [rDs_band (key u) (key_inj u) (tS_in X B h n u q) (tS_out X B h n u q)]
  simp only [tG_in]

theorem tD_out (c : Fin 768) (hc : ∀ j, key u j ≠ c) :
    tD n (bQ X h n) (bK X h n) (bV X h n) (bD D h n) (bB B h) (row u q) c = 0 :=
  rDs_of_bot (tS_out X B h n u q c hc)

/-- A point's query gradient is its chunks'. -/
theorem tdq_row (d : Fin 64) :
    tdq n (bQ X h n) (bK X h n) (bV X h n) (bD D h n) (bB B h) (row u q) d = dqC X B D h (4 * n + u.val) q d := by
  unfold tdq dqC
  rw [sum_band (key u) (key_inj u) _ (fun c hc => by rw [tD_out X B D h n u q c hc, zero_mul, zero_mul])]
  refine Finset.sum_congr rfl fun j _ => ?_
  rw [tD_in]
  have e1 : 256 * n + (64 * u.val + j.val) = 64 * (4 * n + u.val) + j.val := by omega
  simp only [bK, key, e1]

/-- A sum over a point's 256 queries, chunk by chunk. -/
theorem sum_rows (f : Fin 256 → EReal) : ∑ r, f r = ∑ u : Fin 4, ∑ q : Fin 64, f (row u q) := by
  rw [← Fintype.sum_prod_type' (f := fun u q => f (row u q))]
  exact (Fintype.sum_equiv (finProdFinEquiv (m := 4) (n := 64)) _ f fun x => congrArg f (Fin.ext (by
    show 64 * x.1.val + x.2.val = x.2.val + 64 * x.1.val; omega))).symm

/-- A point's part of the key gradient is its chunks'. -/
theorem tdk_eq (c : Fin 768) (d : Fin 64) :
    tdk n (bQ X h n) (bK X h n) (bV X h n) (bD D h n) (bB B h) c d = ∑ u : Fin 4, dkC X B D h (4 * n + u.val) (256 * n + c.val) d := by
  unfold tdk
  rw [sum_rows]
  refine Finset.sum_congr rfl fun u _ => ?_
  unfold dkC
  by_cases hx : 64 * (4 * n + u.val) ≤ 256 * n + c.val ∧ 256 * n + c.val < 64 * (4 * n + u.val) + 576
  · rw [dif_pos hx]
    refine Finset.sum_congr rfl fun q _ => ?_
    have hc : c = key u ⟨256 * n + c.val - 64 * (4 * n + u.val), by omega⟩ := Fin.ext (by
      show c.val = 64 * u.val + (256 * n + c.val - 64 * (4 * n + u.val)); omega)
    have e2 : 256 * n + (64 * u.val + q.val) = 64 * (4 * n + u.val) + q.val := by omega
    conv_lhs => rw [hc, tD_in]
    simp only [bQ, row, e2]
  · rw [dif_neg hx]
    refine Finset.sum_eq_zero fun q _ => ?_
    rw [tD_out X B D h n u q c (fun j e => hx (by have : 64 * u.val + j.val = c.val := congrArg Fin.val e; omega)), zero_mul, zero_mul]

/-- A point's part of the value gradient is its chunks'. -/
theorem tdv_eq (c : Fin 768) (d : Fin 64) :
    tdv n (bQ X h n) (bK X h n) (bD D h n) (bB B h) c d = ∑ u : Fin 4, dvC X B D h (4 * n + u.val) (256 * n + c.val) d := by
  unfold tdv
  rw [sum_rows]
  refine Finset.sum_congr rfl fun u _ => ?_
  unfold dvC
  by_cases hx : 64 * (4 * n + u.val) ≤ 256 * n + c.val ∧ 256 * n + c.val < 64 * (4 * n + u.val) + 576
  · rw [dif_pos hx]
    refine Finset.sum_congr rfl fun q _ => ?_
    have hc : c = key u ⟨256 * n + c.val - 64 * (4 * n + u.val), by omega⟩ := Fin.ext (by
      show c.val = 64 * u.val + (256 * n + c.val - 64 * (4 * n + u.val)); omega)
    have e2 : 256 * n + (64 * u.val + q.val) = 64 * (4 * n + u.val) + q.val := by omega
    conv_lhs => rw [hc, tP_in]
    simp only [bD, row, e2]
  · rw [dif_neg hx]
    refine Finset.sum_eq_zero fun q _ => ?_
    rw [tP_out X B h n u q c (fun j e => hx (by have : 64 * u.val + j.val = c.val := congrArg Fin.val e; omega)), zero_mul]

/-- A point's part of the bias gradient is its chunks'. -/
theorem tdb_eq (j : Fin 576) :
    tdb n (bQ X h n) (bK X h n) (bV X h n) (bD D h n) (bB B h) q j = ∑ u : Fin 4, cD X B D h (4 * n + u.val) q j := by
  have e0 : (⟨q.val, by omega⟩ : Fin 256) = row 0 q := Fin.ext (by show q.val = 64 * 0 + q.val; omega)
  have f0 : (⟨j.val, by omega⟩ : Fin 768) = key 0 j := Fin.ext (by show j.val = 64 * 0 + j.val; omega)
  have e := fun u => tD_in X B D h n u q j
  rw [Fin.sum_univ_four, ← e 0, ← e 1, ← e 2, ← e 3]
  unfold tdb
  rw [e0, f0]
  rfl

/-- Beyond the 768 keys of point `n` its four chunks add nothing to the key gradient. -/
theorem dkC_out (x : ℕ) (hx : ¬ (256 * n ≤ x ∧ x < 256 * n + 768)) (d : Fin 64) : dkC X B D h (4 * n + u.val) x d = 0 := by
  unfold dkC
  exact dif_neg (by omega)

/-- Beyond the 768 keys of point `n` its four chunks add nothing to the value gradient. -/
theorem dvC_out (x : ℕ) (hx : ¬ (256 * n ≤ x ∧ x < 256 * n + 768)) (d : Fin 64) : dvC X B D h (4 * n + u.val) x d = 0 := by
  unfold dvC
  exact dif_neg (by omega)

/-- Four more chunks. -/
theorem sum_range_four (f : ℕ → EReal) (n : ℕ) :
    ∑ m ∈ Finset.range (4 * (n + 1)), f m = ∑ m ∈ Finset.range (4 * n), f m + ∑ u : Fin 4, f (4 * n + u.val) := by
  rw [Nat.mul_add, Finset.sum_range_add, Finset.sum_range (n := 4 * 1)]

end Cert.Attn

end
-- ==== Proof.Attn.Blocks.lean ====
/-
  What one grid point finds in its blocks: head by head, the queries, keys, values and cotangent of the point's rows.
-/
module

public import proofs.«01_k».proof.Proof.Attn.Band
public import Idealize.ShloMosaic.Lib.KernelVsHost

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- The device's queries, keys and values. -/
def aX : (⟨2, ![8192, 3072]⟩ : Shape).Idx → EReal := m ((c : Thread nD τ).loc main_arg0)

/-- The device's bias. -/
def aB : (⟨3, ![16, 64, 576]⟩ : Shape).Idx → EReal := m ((c : Thread nD τ).loc main_arg1)

/-- The device's cotangent. -/
def aD : (⟨2, ![8192, 1024]⟩ : Shape).Idx → EReal := m ((c : Thread nD τ).loc main_arg2)

/-- The point's place in the grid, and the block each window stages there. -/
theorem grid_facts : ∀ t : Fin cfg0.N, (grid0.coords t 0).val = t.val / 32 ∧ (grid0.coords t 1).val = t.val % 32
    ∧ win0_0.index t (0 : Fin 2) = t.val % 32 + 2 ∧ win0_0.index t (1 : Fin 2) = t.val / 32
    ∧ win0_1.index t (0 : Fin 2) = 0 ∧ win0_1.index t (1 : Fin 2) = 8 + t.val / 32
    ∧ win0_2.index t (0 : Fin 2) = 0 ∧ win0_2.index t (1 : Fin 2) = 16 + t.val / 32
    ∧ win0_3.index t (0 : Fin 3) = t.val / 32 ∧ win0_3.index t (1 : Fin 3) = 0 ∧ win0_3.index t (2 : Fin 3) = 0
    ∧ win0_4.index t (0 : Fin 2) = t.val % 32 ∧ win0_4.index t (1 : Fin 2) = t.val / 32 := by
  decide +kernel

theorem t_lt : t.val < 256 := lt_of_lt_of_eq t.isLt N_0

/-- The padded array: 512 rows of zeros, then the argument's rows. -/
theorem padded (a : Fin 8704) (b : Fin 3072) :
    (V m c main_v0 : S8704x3072.Idx → EReal) (ix2 a b) = if a.val < 512 then 0 else rd2 (aX m c) (a.val - 512) b.val := by
  have e : V m c main_v0 = pad S8704x3072 ![512, 0] ![0, 0] ![0, 0] (aX m c)
      (sitofp (F := Ideal) .bf16 (constantI S_ 32 0#32)) pads_S8192x3072_S8704x3072_51200_000 h_S_ := by
    show StableHlo.after [_, _, _] _ (Proc.devRef .tc main_v0) = _
    after_results
    rfl
  rw [e]
  by_cases h : a.val < 512
  · rw [if_pos h, pad_apply_of_not_inside _ _ _ _ _ _ _ _ (0 : Fin 2) (by
      rintro ⟨h1, -⟩
      have : 512 ≤ a.val := h1
      omega)]
    pointwise
    show ((((0#32 : BitVec 32).toInt : ℤ) : ℝ) : EReal) = 0
    simp
  · rw [if_neg h, rd2, dif_pos (by omega)]
    exact pad_apply_of_inside _ _ _ _ _ _ _ _ _ (by
      intro x
      match x with
      | ⟨0, _⟩ => show a.val = 512 + (a.val - 512) * 1; omega
      | ⟨1, _⟩ => show b.val = 0 + b.val * 1; omega)

/-- The point's block of queries. -/
theorem blk_q (r : Fin 256) (e : Fin 128) :
    (iblk m c 0 t : Vec Ideal S256x128 .bf16) (ix2 r e) = rd2 (aX m c) (256 * (t.val % 32) + r.val) (128 * (t.val / 32) + e.val) := by
  have ht := t_lt t
  have hi := grid_facts t
  have := padded m c ⟨256 * (t.val % 32 + 2) + r.val, by omega⟩ ⟨128 * (t.val / 32) + e.val, by omega⟩
  rw [if_neg (by show ¬ 256 * (t.val % 32 + 2) + r.val < 512; omega)] at this
  refine Eq.trans ?_ (this.trans (congrArg (fun x => rd2 _ x _) (by show 256 * (t.val % 32 + 2) + r.val - 512 = _; omega)))
  unfold iblk
  rw [View.read_apply]
  show V m c main_v0 _ = V m c main_v0 _
  congr 1
  funext a
  apply Fin.ext
  match a with
  | ⟨0, _⟩ => show win0_0.index t 0 * 256 + 1 * r.val = 256 * (t.val % 32 + 2) + r.val; rw [hi.2.2.1]; omega
  | ⟨1, _⟩ => show win0_0.index t 1 * 128 + 1 * e.val = 128 * (t.val / 32) + e.val; rw [hi.2.2.2.1]; omega

/-- The point's column of keys. -/
theorem blk_k (r : Fin 8704) (e : Fin 128) :
    (iblk m c 1 t : Vec Ideal S8704x128 .bf16) (ix2 r e)
      = if r.val < 512 then 0 else rd2 (aX m c) (r.val - 512) (1024 + (128 * (t.val / 32) + e.val)) := by
  have ht := t_lt t
  have hi := grid_facts t
  refine Eq.trans ?_ (padded m c r ⟨1024 + (128 * (t.val / 32) + e.val), by omega⟩)
  unfold iblk
  rw [View.read_apply]
  show V m c main_v0 _ = V m c main_v0 _
  congr 1
  funext a
  apply Fin.ext
  match a with
  | ⟨0, _⟩ => show win0_1.index t 0 * 8704 + 1 * r.val = r.val; rw [hi.2.2.2.2.1]; omega
  | ⟨1, _⟩ => show win0_1.index t 1 * 128 + 1 * e.val = 1024 + (128 * (t.val / 32) + e.val); rw [hi.2.2.2.2.2.1]; omega

/-- The point's column of values. -/
theorem blk_v (r : Fin 8704) (e : Fin 128) :
    (iblk m c 2 t : Vec Ideal S8704x128 .bf16) (ix2 r e)
      = if r.val < 512 then 0 else rd2 (aX m c) (r.val - 512) (2048 + (128 * (t.val / 32) + e.val)) := by
  have ht := t_lt t
  have hi := grid_facts t
  refine Eq.trans ?_ (padded m c r ⟨2048 + (128 * (t.val / 32) + e.val), by omega⟩)
  unfold iblk
  rw [View.read_apply]
  show V m c main_v0 _ = V m c main_v0 _
  congr 1
  funext a
  apply Fin.ext
  match a with
  | ⟨0, _⟩ => show win0_2.index t 0 * 8704 + 1 * r.val = r.val; rw [hi.2.2.2.2.2.2.1]; omega
  | ⟨1, _⟩ => show win0_2.index t 1 * 128 + 1 * e.val = 2048 + (128 * (t.val / 32) + e.val); rw [hi.2.2.2.2.2.2.2.1]; omega

/-- The point's two heads of the bias. -/
theorem blk_b (s : Fin 2) (q : Fin 64) (j : Fin 576) :
    (iblk m c 3 t : Vec Ideal S2x64x576 .f32) (ix3 s q j) = rd3 (aB m c) (2 * (t.val / 32) + s.val) q.val j.val := by
  have ht := t_lt t
  have hi := grid_facts t
  rw [rd3, dif_pos (by omega)]
  unfold iblk
  rw [View.read_apply]
  show V m c main_arg1 _ = _
  rw [V_main_arg1]
  unfold aB
  congr 1
  funext a
  apply Fin.ext
  match a with
  | ⟨0, _⟩ => show win0_3.index t 0 * 2 + 1 * s.val = 2 * (t.val / 32) + s.val; rw [hi.2.2.2.2.2.2.2.2.1]; omega
  | ⟨1, _⟩ => show win0_3.index t 1 * 64 + 1 * q.val = q.val; rw [hi.2.2.2.2.2.2.2.2.2.1]; omega
  | ⟨2, _⟩ => show win0_3.index t 2 * 576 + 1 * j.val = j.val; rw [hi.2.2.2.2.2.2.2.2.2.2.1]; omega

/-- The point's block of the cotangent. -/
theorem blk_d (r : Fin 256) (e : Fin 128) :
    (iblk m c 4 t : Vec Ideal S256x128 .bf16) (ix2 r e) = rd2 (aD m c) (256 * (t.val % 32) + r.val) (128 * (t.val / 32) + e.val) := by
  have ht := t_lt t
  have hi := grid_facts t
  rw [rd2, dif_pos (by omega)]
  unfold iblk
  rw [View.read_apply]
  show V m c main_arg2 _ = _
  rw [V_main_arg2]
  unfold aD
  congr 1
  funext a
  apply Fin.ext
  match a with
  | ⟨0, _⟩ => show win0_4.index t 0 * 256 + 1 * r.val = 256 * (t.val % 32) + r.val; rw [hi.2.2.2.2.2.2.2.2.2.2.2.1]; omega
  | ⟨1, _⟩ => show win0_4.index t 1 * 128 + 1 * e.val = 128 * (t.val / 32) + e.val; rw [hi.2.2.2.2.2.2.2.2.2.2.2.2]; omega

/-- The window of a column that the point reads, at an index. -/
theorem win_apply (i : grid0.Coords) (x : Vec Ideal S8704x128 .bf16) (r : Fin 768) (e : Fin 128) :
    win i x (ix2 r e) = x (ix2 (⟨256 * (i 1).val + r.val, by have : (i 1).val < 32 := (i 1).isLt; omega⟩ : Fin 8704) e) := by
  unfold win
  show x _ = x _
  congr 1
  funext a
  apply Fin.ext
  match a with
  | ⟨0, _⟩ => show k0_off1 i 0 + 1 * r.val = 256 * (i 1).val + r.val; rw [k0_off1_eq]; show 256 * (i 1).val + 1 * r.val = _; omega
  | ⟨1, _⟩ => show k0_off1 i 1 + 1 * e.val = e.val; rw [k0_off1_eq]; show 0 + 1 * e.val = _; omega

theorem hd0_q : hd0 (a := 256) (iblk m c 0 t) = bQ (aX m c) (2 * (t.val / 32)) (t.val % 32) := by
  funext r d
  refine (blk_q m c t r _).trans ?_
  unfold bQ sQ
  congr 1
  show 128 * (t.val / 32) + d.val = _; omega

theorem hd1_q : hd1 (a := 256) (iblk m c 0 t) = bQ (aX m c) (2 * (t.val / 32) + 1) (t.val % 32) := by
  funext r d
  refine (blk_q m c t r _).trans ?_
  unfold bQ sQ
  congr 1
  show 128 * (t.val / 32) + (64 + d.val) = _; omega

theorem hd0_d : hd0 (a := 256) (iblk m c 4 t) = bD (aD m c) (2 * (t.val / 32)) (t.val % 32) := by
  funext r d
  refine (blk_d m c t r _).trans ?_
  unfold bD sD
  congr 1
  show 128 * (t.val / 32) + d.val = _; omega

theorem hd1_d : hd1 (a := 256) (iblk m c 4 t) = bD (aD m c) (2 * (t.val / 32) + 1) (t.val % 32) := by
  funext r d
  refine (blk_d m c t r _).trans ?_
  unfold bD sD
  congr 1
  show 128 * (t.val / 32) + (64 + d.val) = _; omega

theorem hd0_k : hd0 (a := 768) (win (grid0.coords t) (iblk m c 1 t)) = bK (aX m c) (2 * (t.val / 32)) (t.val % 32) := by
  funext r d
  have h1 := (grid_facts t).2.1
  refine (win_apply _ _ r _).trans ((blk_k m c t _ _).trans ?_)
  unfold bK sK
  rw [← h1]
  congr 2
  show 1024 + (128 * (t.val / 32) + d.val) = _; omega

theorem hd1_k : hd1 (a := 768) (win (grid0.coords t) (iblk m c 1 t)) = bK (aX m c) (2 * (t.val / 32) + 1) (t.val % 32) := by
  funext r d
  have h1 := (grid_facts t).2.1
  refine (win_apply _ _ r _).trans ((blk_k m c t _ _).trans ?_)
  unfold bK sK
  rw [← h1]
  congr 2
  show 1024 + (128 * (t.val / 32) + (64 + d.val)) = _; omega

theorem hd0_v : hd0 (a := 768) (win (grid0.coords t) (iblk m c 2 t)) = bV (aX m c) (2 * (t.val / 32)) (t.val % 32) := by
  funext r d
  have h1 := (grid_facts t).2.1
  refine (win_apply _ _ r _).trans ((blk_v m c t _ _).trans ?_)
  unfold bV sV
  rw [← h1]
  congr 2
  show 2048 + (128 * (t.val / 32) + d.val) = _; omega

theorem hd1_v : hd1 (a := 768) (win (grid0.coords t) (iblk m c 2 t)) = bV (aX m c) (2 * (t.val / 32) + 1) (t.val % 32) := by
  funext r d
  have h1 := (grid_facts t).2.1
  refine (win_apply _ _ r _).trans ((blk_v m c t _ _).trans ?_)
  unfold bV sV
  rw [← h1]
  congr 2
  show 2048 + (128 * (t.val / 32) + (64 + d.val)) = _; omega

end Cert.Attn

end
-- ==== Proof.Attn.Kept.lean ====
/-
  The kept bias as the first point of a group fills it, and one point's windows put into the columns, at an index.
-/
module

public import proofs.«01_k».proof.Proof.Attn.Tile

@[expose] public section

set_option maxRecDepth 16384

noncomputable section

namespace Cert.Attn

open Cert.KernelIdeal Cert.KernelIdeal.Gen Idealize.ShloMosaic Idealize.ShloMosaic.TcCoe Idealize.SL.Sem

theorem at3 {a b c : ℕ} {α : Type} (x : (⟨3, ![a, b, c]⟩ : Shape).Idx → α) {i i' : Fin a} {j j' : Fin b} {k k' : Fin c}
    (hi : i.val = i'.val) (hj : j.val = j'.val) (hk : k.val = k'.val) : x (ix3 i j k) = x (ix3 i' j' k') := by
  rw [Fin.ext hi, Fin.ext hj, Fin.ext hk]

theorem at2 {a b : ℕ} {α : Type} (x : (⟨2, ![a, b]⟩ : Shape).Idx → α) {i i' : Fin a} {j j' : Fin b}
    (hi : i.val = i'.val) (hj : j.val = j'.val) : x (ix2 i j) = x (ix2 i' j') := by
  rw [Fin.ext hi, Fin.ext hj]

/-- A buffer filled whole holds what it was filled with. -/
theorem fill_apply {s : Shape} {e : EltTy} (off : Fin s.rank → ℕ) (hoff : ∀ a, off a = 0) (w : Vec Ideal s e) (y : s.Idx) :
    fill off w y = w y := by
  unfold fill VecWindow.put
  rw [dif_pos fun a => ⟨by rw [hoff]; exact Nat.zero_le _, by rw [hoff]; exact lt_of_lt_of_eq (y a).isLt (Nat.zero_add _).symm⟩]
  congr 1
  funext a
  apply Fin.ext
  rw [Rect.unitLocal_val, hoff]
  exact Nat.sub_zero _

/-- One 64 × 576 block of one head, put at `(o, p, l)`, at an index. -/
theorem put3 (A C : ℕ) (u : Vec Ideal ⟨3, ![2, A, C]⟩ .f32) (o p l : ℕ) (w : Vec Ideal S1x64x576 .f32) (s : Fin 2) (r : Fin A) (c : Fin C) :
    VecWindow.put (s := ⟨3, ![2, A, C]⟩) u ![o, p, l] S1x64x576.size w (ix3 s r c)
      = if h : s.val = o ∧ (p ≤ r.val ∧ r.val < p + 64) ∧ (l ≤ c.val ∧ c.val < l + 576) then
          w (ix3 (0 : Fin 1) (⟨r.val - p, by omega⟩ : Fin 64) (⟨c.val - l, by omega⟩ : Fin 576)) else u (ix3 s r c) := by
  unfold VecWindow.put
  by_cases h : s.val = o ∧ (p ≤ r.val ∧ r.val < p + 64) ∧ (l ≤ c.val ∧ c.val < l + 576)
  · rw [dif_pos h, dif_pos (by
      intro a
      match a with
      | ⟨0, _⟩ => show o ≤ s.val ∧ s.val < o + 1; omega
      | ⟨1, _⟩ => exact h.2.1
      | ⟨2, _⟩ => exact h.2.2)]
    congr 1
    funext a
    apply Fin.ext
    rw [Rect.unitLocal_val]
    match a with
    | ⟨0, _⟩ => show s.val - o = 0; omega
    | ⟨1, _⟩ => rfl
    | ⟨2, _⟩ => rfl
  · rw [dif_neg h, dif_neg]
    intro hh
    have h0 : o ≤ s.val ∧ s.val < o + 1 := hh (0 : Fin 3)
    exact h ⟨by omega, hh (1 : Fin 3), hh (2 : Fin 3)⟩

/-- A window's 768 rows put into a column, at an index. -/
theorem put2 (u : Vec Ideal S8704x128 .f32) (off : Fin 2 → ℕ) (o : ℕ) (hoff : off = ![o, 0]) (w : Vec Ideal S768x128 .f32)
    (x : Fin 8704) (e : Fin 128) :
    VecWindow.put (s := S8704x128) u off S768x128.size w (ix2 x e)
      = if h : o ≤ x.val ∧ x.val < o + 768 then w (ix2 (⟨x.val - o, by omega⟩ : Fin 768) e) else u (ix2 x e) := by
  subst hoff
  unfold VecWindow.put
  by_cases h : o ≤ x.val ∧ x.val < o + 768
  · rw [dif_pos h, dif_pos (by
      intro a
      match a with
      | ⟨0, _⟩ => exact h
      | ⟨1, _⟩ => show 0 ≤ e.val ∧ e.val < 0 + 128; omega)]
    congr 1
    funext a
    apply Fin.ext
    rw [Rect.unitLocal_val]
    match a with
    | ⟨0, _⟩ => rfl
    | ⟨1, _⟩ => rfl
  · rw [dif_neg h, dif_neg]
    intro hh
    exact h (hh (0 : Fin 2))

theorem row0_apply (x : Vec Ideal S2x64x576 .f32) (q : Fin 64) (j : Fin 576) : row0 x (ix3 (0 : Fin 1) q j) = x (ix3 (0 : Fin 2) q j) := by
  unfold row0
  show x _ = x _
  congr 1
  funext a
  apply Fin.ext
  match a with
  | ⟨0, _⟩ => rfl
  | ⟨1, _⟩ => show 0 + 1 * q.val = q.val; omega
  | ⟨2, _⟩ => show 0 + 1 * j.val = j.val; omega

theorem row1_apply (x : Vec Ideal S2x64x576 .f32) (q : Fin 64) (j : Fin 576) : row1 x (ix3 (0 : Fin 1) q j) = x (ix3 (1 : Fin 2) q j) := by
  unfold row1
  show x _ = x _
  congr 1
  funext a
  apply Fin.ext
  match a with
  | ⟨0, _⟩ => rfl
  | ⟨1, _⟩ => show 0 + 1 * q.val = q.val; omega
  | ⟨2, _⟩ => show 0 + 1 * j.val = j.val; omega

theorem bias0_apply (x : Vec Ideal S2x256x768 .f32) (r : Fin 256) (c : Fin 768) : pl (bias0 x) r c = x (ix3 (0 : Fin 2) r c) := by
  unfold pl bias0
  show x _ = x _
  congr 1
  funext a
  apply Fin.ext
  match a with
  | ⟨0, _⟩ => rfl
  | ⟨1, _⟩ => show 0 + 1 * r.val = r.val; omega
  | ⟨2, _⟩ => show 0 + 1 * c.val = c.val; omega

theorem bias1_apply (x : Vec Ideal S2x256x768 .f32) (r : Fin 256) (c : Fin 768) : pl (bias1 x) r c = x (ix3 (1 : Fin 2) r c) := by
  unfold pl bias1
  show x _ = x _
  congr 1
  funext a
  apply Fin.ext
  match a with
  | ⟨0, _⟩ => rfl
  | ⟨1, _⟩ => show 0 + 1 * r.val = r.val; omega
  | ⟨2, _⟩ => show 0 + 1 * c.val = c.val; omega

section Recasts

variable (w : Vec Ideal S1x64x576 .f32) (q : Fin 64) (j : Fin 576)

theorem pay8_apply : k0_pay8 w (ix3 (0 : Fin 1) q j) = w (ix3 (0 : Fin 1) q j) := by pointwise [k0_pay8]
theorem pay9_apply : k0_pay9 w (ix3 (0 : Fin 1) q j) = w (ix3 (0 : Fin 1) q j) := by pointwise [k0_pay9]
theorem pay11_apply : k0_pay11 (k0_pay10 w) (ix3 (0 : Fin 1) q j) = w (ix3 (0 : Fin 1) q j) := by pointwise [k0_pay11, k0_pay10]
theorem pay12_apply : k0_pay12 w (ix3 (0 : Fin 1) q j) = w (ix3 (0 : Fin 1) q j) := by pointwise [k0_pay12]
theorem pay13_apply : k0_pay13 w (ix3 (0 : Fin 1) q j) = w (ix3 (0 : Fin 1) q j) := by pointwise [k0_pay13]
theorem pay14_apply : k0_pay14 w (ix3 (0 : Fin 1) q j) = w (ix3 (0 : Fin 1) q j) := by pointwise [k0_pay14]
theorem pay15_apply : k0_pay15 w (ix3 (0 : Fin 1) q j) = w (ix3 (0 : Fin 1) q j) := by pointwise [k0_pay15]
theorem pay17_apply : k0_pay17 (k0_pay16 w) (ix3 (0 : Fin 1) q j) = w (ix3 (0 : Fin 1) q j) := by pointwise [k0_pay17, k0_pay16]

end Recasts

theorem pay7_apply (s : Fin 2) (r : Fin 256) (c : Fin 768) : k0_pay7 (F := Ideal) (ix3 s r c) = ⊥ := by
  refine Eq.trans ?_ mask_bot
  pointwise [k0_pay7]

set_option maxHeartbeats 1000000 in
/-- The filled bias at an index: in each chunk's rows its own 576 keys' bias, and −∞ elsewhere. -/
theorem biasFill_apply (x : Vec Ideal S2x64x576 .f32) (s : Fin 2) (r : Fin 256) (c : Fin 768) :
    biasFill x (ix3 s r c)
      = if h : 64 * (r.val / 64) ≤ c.val ∧ c.val < 64 * (r.val / 64) + 576 then
          x (ix3 s (⟨r.val % 64, Nat.mod_lt _ (by decide)⟩ : Fin 64) (⟨c.val - 64 * (r.val / 64), by omega⟩ : Fin 576)) else ⊥ := by
  unfold biasFill
  have f : fill (s := S2x256x768) (e := .f32) ![0, 0, 0] (k0_pay7 (F := Ideal)) (ix3 s r c) = ⊥ := (fill_apply _ (by decide) _ _).trans (pay7_apply s r c)
  refine (put3 256 768 _ 1 192 192 _ s r c).trans ?_
  rw [put3 256 768 _ 1 128 128 _ s r c, put3 256 768 _ 1 64 64 _ s r c, put3 256 768 _ 1 0 0 _ s r c,
    put3 256 768 _ 0 192 192 _ s r c, put3 256 768 _ 0 128 128 _ s r c, put3 256 768 _ 0 64 64 _ s r c, put3 256 768 _ 0 0 0 _ s r c, f]
  simp only [pay8_apply, pay9_apply, pay11_apply, pay12_apply, pay13_apply, pay14_apply, pay15_apply, pay17_apply, row0_apply, row1_apply]
  have hs := s.isLt
  have hr := r.isLt
  have z0 : (0 : Fin 2).val = 0 := rfl
  have z1 : (1 : Fin 2).val = 1 := rfl
  split_ifs <;> first
    | (exfalso; omega)
    | (refine at3 x ?_ ?_ ?_ <;> clear f <;> (try dsimp only) <;> omega)
    | rfl

end Cert.Attn

end
-- ==== Proof.Attn.Fold.lean ====
/-
  The sweep of the grid: after each point the columns hold the sums over the chunks so far, and the four arrays at the end.
-/
module

public import proofs.«01_k».proof.Proof.Attn.Blocks
public import proofs.«01_k».proof.Proof.Attn.Kept

@[expose] public section

set_option maxRecDepth 16384
set_option maxHeartbeats 1000000

noncomputable section

namespace Cert.Attn

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD) (t : Fin cfg0.N)

/-- The 768 rows that the point adds to, at an index. -/
theorem accWin_apply (i : grid0.Coords) (x : Vec Ideal S8704x128 .f32) (r : Fin 768) (e : Fin 128) :
    accWin i x (ix2 r e) = x (ix2 (⟨256 * (i 1).val + r.val, by have : (i 1).val < 32 := (i 1).isLt; omega⟩ : Fin 8704) e) := by
  unfold accWin
  show x _ = x _
  congr 1
  funext a
  apply Fin.ext
  match a with
  | ⟨0, _⟩ => show k0_off1 i 0 + 1 * r.val = 256 * (i 1).val + r.val; rw [k0_off1_eq]; show 256 * (i 1).val + 1 * r.val = _; omega
  | ⟨1, _⟩ => show k0_off1 i 1 + 1 * e.val = e.val; rw [k0_off1_eq]; show 0 + 1 * e.val = _; omega

/-- The kept bias holds the group's two heads. -/
def Kept (g : ℕ) (b : Vec Ideal S2x256x768 .f32) : Prop := pl (bias0 b) = bB (aB m c) (2 * g) ∧ pl (bias1 b) = bB (aB m c) (2 * g + 1)

/-- The first point of a group fills it so. -/
theorem kept_fill : Kept m c (t.val / 32) (biasFill (iblk m c 3 t)) := by
  constructor
  all_goals
    funext r x
    first | rw [bias0_apply] | rw [bias1_apply]
    rw [biasFill_apply]
    unfold bB
    by_cases hc : 64 * (r.val / 64) ≤ x.val ∧ x.val < 64 * (r.val / 64) + 576
    · rw [dif_pos hc, if_pos hc]
      exact blk_b m c t _ _ _
    · rw [dif_neg hc, if_neg hc]

/-- The query gradient of the group's first head at the point. -/
theorem dq_step0 (B : Vec Ideal S2x256x768 .f32) (hb : Kept m c (t.val / 32) B) (u : Fin 4) (q e : Fin 64) :
    dqNext (grid0.coords t) (iblk m c 0 t) (iblk m c 1 t) (iblk m c 2 t) (iblk m c 4 t) B (ix2 (row u q) (⟨e.val, by omega⟩ : Fin 128))
      = dqC (aX m c) (aB m c) (aD m c) (2 * (t.val / 32)) (4 * (t.val % 32) + u.val) q e := by
  rw [dq0, hd0_q, hd0_k, hd0_v, hd0_d, hb.1, (grid_facts t).2.1]
  exact tdq_row _ _ _ _ _ _ _ _

/-- The key gradient's column of the group's first head after the point. -/
theorem dk_step0 (B : Vec Ideal S2x256x768 .f32) (hb : Kept m c (t.val / 32) B) (a : Vec Ideal S8704x128 .f32) (x : Fin 8704) (e : Fin 64) :
    dkNext (grid0.coords t) (iblk m c 0 t) (iblk m c 1 t) (iblk m c 2 t) (iblk m c 4 t) B a (ix2 x (⟨e.val, by omega⟩ : Fin 128))
      = a (ix2 x (⟨e.val, by omega⟩ : Fin 128))
        + ∑ u : Fin 4, dkC (aX m c) (aB m c) (aD m c) (2 * (t.val / 32)) (4 * (t.val % 32) + u.val) x.val e := by
  have h1 := (grid_facts t).2.1
  unfold dkNext
  refine (put2 _ _ (256 * (t.val % 32)) ((k0_off1_eq _).trans (by rw [h1])) _ _ _).trans ?_
  by_cases hx : 256 * (t.val % 32) ≤ x.val ∧ x.val < 256 * (t.val % 32) + 768
  · rw [dif_pos hx, whole_eq, whole_eq, dk0, hd0_q, hd0_k, hd0_v, hd0_d, hb.1, (grid_facts t).2.1, accWin_apply, tdk_eq]
    have e1 : 256 * (t.val % 32) + (x.val - 256 * (t.val % 32)) = x.val := by omega
    refine congrArg₂ (· + ·) (at2 a (by show 256 * (grid0.coords t 1).val + (x.val - 256 * (t.val % 32)) = x.val; omega) rfl) ?_
    refine Finset.sum_congr rfl fun u _ => ?_
    dsimp only
    rw [e1]
  · rw [dif_neg hx, Finset.sum_eq_zero fun u _ => dkC_out _ _ _ _ _ u _ hx e, add_zero]

/-- The value gradient's column of the group's first head after the point. -/
theorem dv_step0 (B : Vec Ideal S2x256x768 .f32) (hb : Kept m c (t.val / 32) B) (a : Vec Ideal S8704x128 .f32) (x : Fin 8704) (e : Fin 64) :
    dvNext (grid0.coords t) (iblk m c 0 t) (iblk m c 1 t) (iblk m c 4 t) B a (ix2 x (⟨e.val, by omega⟩ : Fin 128))
      = a (ix2 x (⟨e.val, by omega⟩ : Fin 128))
        + ∑ u : Fin 4, dvC (aX m c) (aB m c) (aD m c) (2 * (t.val / 32)) (4 * (t.val % 32) + u.val) x.val e := by
  have h1 := (grid_facts t).2.1
  unfold dvNext
  refine (put2 _ _ (256 * (t.val % 32)) ((k0_off1_eq _).trans (by rw [h1])) _ _ _).trans ?_
  by_cases hx : 256 * (t.val % 32) ≤ x.val ∧ x.val < 256 * (t.val % 32) + 768
  · rw [dif_pos hx, whole_eq, whole_eq, dv0, hd0_q, hd0_k, hd0_d, hb.1, (grid_facts t).2.1, accWin_apply, tdv_eq]
    have e1 : 256 * (t.val % 32) + (x.val - 256 * (t.val % 32)) = x.val := by omega
    refine congrArg₂ (· + ·) (at2 a (by show 256 * (grid0.coords t 1).val + (x.val - 256 * (t.val % 32)) = x.val; omega) rfl) ?_
    refine Finset.sum_congr rfl fun u _ => ?_
    dsimp only
    rw [e1]
  · rw [dif_neg hx, Finset.sum_eq_zero fun u _ => dvC_out _ _ _ _ _ u _ hx e, add_zero]

/-- The bias gradient of the group's first head after the point. -/
theorem db_step0 (B : Vec Ideal S2x256x768 .f32) (hb : Kept m c (t.val / 32) B) (v a : Vec Ideal S2x64x576 .f32) (q : Fin 64) (j : Fin 576) :
    dbNext (grid0.coords t) (iblk m c 0 t) (iblk m c 1 t) (iblk m c 2 t) (iblk m c 4 t) B v a (ix3 (0 : Fin 2) q j)
      = a (ix3 (0 : Fin 2) q j) + ∑ u : Fin 4, cD (aX m c) (aB m c) (aD m c) (2 * (t.val / 32)) (4 * (t.val % 32) + u.val) q j := by
  unfold dbNext both
  refine (put3 64 576 _ 1 0 0 _ _ _ _).trans ?_
  rw [dif_neg (by intro h; exact absurd h.1 (by decide))]
  refine (put3 64 576 _ 0 0 0 _ _ _ _).trans ?_
  rw [dif_pos ⟨rfl, ⟨Nat.zero_le _, by omega⟩, ⟨Nat.zero_le _, by omega⟩⟩]
  refine Eq.trans ?_ (congrArg₂ (· + ·) (row0_apply a q j) (tdb_eq (aX m c) (aB m c) (aD m c) (2 * (t.val / 32)) (t.val % 32) q j))
  refine Eq.trans (db0 _ _ _ _ _ _ _ _ _) ?_
  rw [hd0_q, hd0_k, hd0_v, hd0_d, hb.1, (grid_facts t).2.1]
  rfl

/-- The query gradient of the group's second head at the point. -/
theorem dq_step1 (B : Vec Ideal S2x256x768 .f32) (hb : Kept m c (t.val / 32) B) (u : Fin 4) (q e : Fin 64) :
    dqNext (grid0.coords t) (iblk m c 0 t) (iblk m c 1 t) (iblk m c 2 t) (iblk m c 4 t) B (ix2 (row u q) (⟨64 + e.val, by omega⟩ : Fin 128))
      = dqC (aX m c) (aB m c) (aD m c) (2 * (t.val / 32) + 1) (4 * (t.val % 32) + u.val) q e := by
  rw [dq1, hd1_q, hd1_k, hd1_v, hd1_d, hb.2, (grid_facts t).2.1]
  exact tdq_row _ _ _ _ _ _ _ _

/-- The key gradient's column of the group's second head after the point. -/
theorem dk_step1 (B : Vec Ideal S2x256x768 .f32) (hb : Kept m c (t.val / 32) B) (a : Vec Ideal S8704x128 .f32) (x : Fin 8704) (e : Fin 64) :
    dkNext (grid0.coords t) (iblk m c 0 t) (iblk m c 1 t) (iblk m c 2 t) (iblk m c 4 t) B a (ix2 x (⟨64 + e.val, by omega⟩ : Fin 128))
      = a (ix2 x (⟨64 + e.val, by omega⟩ : Fin 128))
        + ∑ u : Fin 4, dkC (aX m c) (aB m c) (aD m c) (2 * (t.val / 32) + 1) (4 * (t.val % 32) + u.val) x.val e := by
  have h1 := (grid_facts t).2.1
  unfold dkNext
  refine (put2 _ _ (256 * (t.val % 32)) ((k0_off1_eq _).trans (by rw [h1])) _ _ _).trans ?_
  by_cases hx : 256 * (t.val % 32) ≤ x.val ∧ x.val < 256 * (t.val % 32) + 768
  · rw [dif_pos hx, whole_eq, whole_eq, dk1, hd1_q, hd1_k, hd1_v, hd1_d, hb.2, (grid_facts t).2.1, accWin_apply, tdk_eq]
    have e1 : 256 * (t.val % 32) + (x.val - 256 * (t.val % 32)) = x.val := by omega
    refine congrArg₂ (· + ·) (at2 a (by show 256 * (grid0.coords t 1).val + (x.val - 256 * (t.val % 32)) = x.val; omega) rfl) ?_
    refine Finset.sum_congr rfl fun u _ => ?_
    dsimp only
    rw [e1]
  · rw [dif_neg hx, Finset.sum_eq_zero fun u _ => dkC_out _ _ _ _ _ u _ hx e, add_zero]

/-- The value gradient's column of the group's second head after the point. -/
theorem dv_step1 (B : Vec Ideal S2x256x768 .f32) (hb : Kept m c (t.val / 32) B) (a : Vec Ideal S8704x128 .f32) (x : Fin 8704) (e : Fin 64) :
    dvNext (grid0.coords t) (iblk m c 0 t) (iblk m c 1 t) (iblk m c 4 t) B a (ix2 x (⟨64 + e.val, by omega⟩ : Fin 128))
      = a (ix2 x (⟨64 + e.val, by omega⟩ : Fin 128))
        + ∑ u : Fin 4, dvC (aX m c) (aB m c) (aD m c) (2 * (t.val / 32) + 1) (4 * (t.val % 32) + u.val) x.val e := by
  have h1 := (grid_facts t).2.1
  unfold dvNext
  refine (put2 _ _ (256 * (t.val % 32)) ((k0_off1_eq _).trans (by rw [h1])) _ _ _).trans ?_
  by_cases hx : 256 * (t.val % 32) ≤ x.val ∧ x.val < 256 * (t.val % 32) + 768
  · rw [dif_pos hx, whole_eq, whole_eq, dv1, hd1_q, hd1_k, hd1_d, hb.2, (grid_facts t).2.1, accWin_apply, tdv_eq]
    have e1 : 256 * (t.val % 32) + (x.val - 256 * (t.val % 32)) = x.val := by omega
    refine congrArg₂ (· + ·) (at2 a (by show 256 * (grid0.coords t 1).val + (x.val - 256 * (t.val % 32)) = x.val; omega) rfl) ?_
    refine Finset.sum_congr rfl fun u _ => ?_
    dsimp only
    rw [e1]
  · rw [dif_neg hx, Finset.sum_eq_zero fun u _ => dvC_out _ _ _ _ _ u _ hx e, add_zero]

/-- The bias gradient of the group's second head after the point. -/
theorem db_step1 (B : Vec Ideal S2x256x768 .f32) (hb : Kept m c (t.val / 32) B) (v a : Vec Ideal S2x64x576 .f32) (q : Fin 64) (j : Fin 576) :
    dbNext (grid0.coords t) (iblk m c 0 t) (iblk m c 1 t) (iblk m c 2 t) (iblk m c 4 t) B v a (ix3 (1 : Fin 2) q j)
      = a (ix3 (1 : Fin 2) q j) + ∑ u : Fin 4, cD (aX m c) (aB m c) (aD m c) (2 * (t.val / 32) + 1) (4 * (t.val % 32) + u.val) q j := by
  unfold dbNext both
  refine (put3 64 576 _ 1 0 0 _ _ _ _).trans ?_
  rw [dif_pos ⟨rfl, ⟨Nat.zero_le _, by omega⟩, ⟨Nat.zero_le _, by omega⟩⟩]
  refine Eq.trans ?_ (congrArg₂ (· + ·) (row1_apply a q j) (tdb_eq (aX m c) (aB m c) (aD m c) (2 * (t.val / 32) + 1) (t.val % 32) q j))
  refine Eq.trans (db1 _ _ _ _ _ _ _ _ _) ?_
  rw [hd1_q, hd1_k, hd1_v, hd1_d, hb.2, (grid_facts t).2.1]
  rfl

/-- What the point leaves: its own query gradients, the sums over the group's chunks so far, and the kept bias. -/
structure Inv (g n : ℕ) (st : Vec Ideal S256x128 .bf16 × Vec Ideal S8704x128 .f32 × Vec Ideal S8704x128 .f32 × Vec Ideal S2x64x576 .f32 × Vec Ideal S2x256x768 .f32) : Prop where

  dq0 : ∀ (u : Fin 4) (q e : Fin 64), st.1 (ix2 (row u q) (⟨e.val, by omega⟩ : Fin 128))
    = dqC (aX m c) (aB m c) (aD m c) (2 * g) (4 * n + u.val) q e
  dk0 : ∀ (x : Fin 8704) (e : Fin 64), st.2.1 (ix2 x (⟨e.val, by omega⟩ : Fin 128))
    = ∑ l ∈ Finset.range (4 * (n + 1)), dkC (aX m c) (aB m c) (aD m c) (2 * g) l x.val e
  dv0 : ∀ (x : Fin 8704) (e : Fin 64), st.2.2.1 (ix2 x (⟨e.val, by omega⟩ : Fin 128))
    = ∑ l ∈ Finset.range (4 * (n + 1)), dvC (aX m c) (aB m c) (aD m c) (2 * g) l x.val e
  db0 : ∀ (q : Fin 64) (j : Fin 576), st.2.2.2.1 (ix3 (0 : Fin 2) q j)
    = ∑ l ∈ Finset.range (4 * (n + 1)), cD (aX m c) (aB m c) (aD m c) (2 * g) l q j
  dq1 : ∀ (u : Fin 4) (q e : Fin 64), st.1 (ix2 (row u q) (⟨64 + e.val, by omega⟩ : Fin 128))
    = dqC (aX m c) (aB m c) (aD m c) (2 * g + 1) (4 * n + u.val) q e
  dk1 : ∀ (x : Fin 8704) (e : Fin 64), st.2.1 (ix2 x (⟨64 + e.val, by omega⟩ : Fin 128))
    = ∑ l ∈ Finset.range (4 * (n + 1)), dkC (aX m c) (aB m c) (aD m c) (2 * g + 1) l x.val e
  dv1 : ∀ (x : Fin 8704) (e : Fin 64), st.2.2.1 (ix2 x (⟨64 + e.val, by omega⟩ : Fin 128))
    = ∑ l ∈ Finset.range (4 * (n + 1)), dvC (aX m c) (aB m c) (aD m c) (2 * g + 1) l x.val e
  db1 : ∀ (q : Fin 64) (j : Fin 576), st.2.2.2.1 (ix3 (1 : Fin 2) q j)
    = ∑ l ∈ Finset.range (4 * (n + 1)), cD (aX m c) (aB m c) (aD m c) (2 * g + 1) l q j
  kept : Kept m c g st.2.2.2.2

theorem pay4_zero (y : S8704x128.Idx) : k0_pay4 (F := Ideal) y = 0 := by
  rw [eq_ix2 y]; pointwise [k0_pay4]

theorem pay5_zero (y : S8704x128.Idx) : k0_pay5 (F := Ideal) y = 0 := by
  rw [eq_ix2 y]; pointwise [k0_pay5]

theorem pay6_zero (y : S2x64x576.Idx) : k0_pay6 (F := Ideal) y = 0 := by
  show Ideal.ofBits .f32 0x00000000#32 = 0
  exact Ideal.ofBits_zero_f32

/-- The first point of a group. -/
theorem inv_first (acc) (h0 : t.val % 32 = 0) : Inv m c (t.val / 32) (t.val % 32) (stAt0 m c t.val t.isLt acc) := by
  have hk := kept_fill m c t
  have z4 : ∀ y, fill (s := S8704x128) (e := .f32) ![0, 0] (k0_pay4 (F := Ideal)) y = 0 := fun y => (fill_apply _ (by decide) _ _).trans (pay4_zero y)
  have z5 : ∀ y, fill (s := S8704x128) (e := .f32) ![0, 0] (k0_pay5 (F := Ideal)) y = 0 := fun y => (fill_apply _ (by decide) _ _).trans (pay5_zero y)
  have z6 : ∀ y, fill (s := S2x64x576) (e := .f32) ![0, 0, 0] (k0_pay6 (F := Ideal)) y = 0 := fun y => (fill_apply _ (by decide) _ _).trans (pay6_zero y)
  have e0 : ∀ f : ℕ → EReal, ∑ l ∈ Finset.range (4 * (t.val % 32 + 1)), f l = 0 + ∑ u : Fin 4, f (4 * (t.val % 32) + u.val) := fun f => by
    rw [sum_range_four, h0]; rfl
  rw [stAt0_A m c t acc h0, out_A_5, out_A_6, out_A_7, out_A_8, out_A_S]
  exact
    { dq0 := dq_step0 m c t _ hk
      dk0 := fun x e => (dk_step0 m c t _ hk _ x e).trans (by rw [z4, e0])
      dv0 := fun x e => (dv_step0 m c t _ hk _ x e).trans (by rw [z5, e0])
      db0 := fun q j => (db_step0 m c t _ hk _ _ q j).trans (by rw [z6, e0])
      dq1 := dq_step1 m c t _ hk
      dk1 := fun x e => (dk_step1 m c t _ hk _ x e).trans (by rw [z4, e0])
      dv1 := fun x e => (dv_step1 m c t _ hk _ x e).trans (by rw [z5, e0])
      db1 := fun q j => (db_step1 m c t _ hk _ _ q j).trans (by rw [z6, e0])
      kept := hk }

/-- A later point. -/
theorem inv_later (acc) (h0 : ¬ t.val % 32 = 0) (n : ℕ) (hn : n + 1 = t.val % 32) (ih : Inv m c (t.val / 32) n acc) :
    Inv m c (t.val / 32) (t.val % 32) (stAt0 m c t.val t.isLt acc) := by
  have hk := ih.kept
  have e0 : ∀ f : ℕ → EReal, ∑ l ∈ Finset.range (4 * (t.val % 32 + 1)), f l
      = ∑ l ∈ Finset.range (4 * (n + 1)), f l + ∑ u : Fin 4, f (4 * (t.val % 32) + u.val) := fun f => by
    rw [sum_range_four, ← hn]
  rw [stAt0_B m c t acc h0, out_B_5, out_B_6, out_B_7, out_B_8]
  exact
    { dq0 := dq_step0 m c t _ hk
      dk0 := fun x e => (dk_step0 m c t _ hk _ x e).trans (by rw [ih.dk0, e0])
      dv0 := fun x e => (dv_step0 m c t _ hk _ x e).trans (by rw [ih.dv0, e0])
      db0 := fun q j => (db_step0 m c t _ hk _ _ q j).trans (by rw [ih.db0, e0])
      dq1 := dq_step1 m c t _ hk
      dk1 := fun x e => (dk_step1 m c t _ hk _ x e).trans (by rw [ih.dk1, e0])
      dv1 := fun x e => (dv_step1 m c t _ hk _ x e).trans (by rw [ih.dv1, e0])
      db1 := fun q j => (db_step1 m c t _ hk _ _ q j).trans (by rw [ih.db1, e0])
      kept := hk }

/-- Every point. -/
theorem inv : ∀ (n : ℕ) (hn : n < cfg0.N), Inv m c (n / 32) (n % 32) (outsAt0 m c n hn)
  | 0, hn => by
    rw [outsAt0_zero]
    exact inv_first m c ⟨0, hn⟩ _ rfl
  | n + 1, hn => by
    rw [outsAt0_succ]
    have ih := inv n (Nat.lt_of_succ_lt hn)
    by_cases h0 : (n + 1) % 32 = 0
    · exact inv_first m c ⟨n + 1, hn⟩ _ h0
    · refine inv_later m c ⟨n + 1, hn⟩ _ h0 (n % 32) (by show n % 32 + 1 = (n + 1) % 32; omega) ?_
      have e : (n + 1) / 32 = n / 32 := by omega
      show Inv m c ((n + 1) / 32) _ _
      rw [e]
      exact ih

end Cert.Attn

end
-- ==== Proof.Attn.Arrays.lean ====
/-
  The kernel's four arrays at an index, as sums over the chunks.
-/
module

public import proofs.«01_k».proof.Proof.Attn.Fold

@[expose] public section

set_option maxRecDepth 16384

noncomputable section

namespace Cert.Attn

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

theorem inv_at (g n p : ℕ) (hg : g < 8) (hn : n < 32) (hp : p = 32 * g + n) (h : p < cfg0.N) : Inv m c g n (outsAt0 m c p h) := by
  have e1 : p / 32 = g := by omega
  have e2 : p % 32 = n := by omega
  have I := inv m c p h
  rw [e1, e2] at I
  exact I

/-- The query gradient's array. -/
theorem G5_apply (h : Fin 16) (i : Fin 8192) (e : Fin 64) :
    (G5 m c : S8192x1024.Idx → EReal) (ix2 i (⟨64 * h.val + e.val, by omega⟩ : Fin 1024))
      = dqC (aX m c) (aB m c) (aD m c) h.val (i.val / 64) ⟨i.val % 64, Nat.mod_lt _ (by decide)⟩ e := by
  have hp : pt5Of (ix2 i (⟨64 * h.val + e.val, by omega⟩ : Fin 1024)) = 32 * (h.val / 2) + i.val / 256 := by
    show 1 * (i.val / 256 - 0) + 32 * ((64 * h.val + e.val) / 128 - 0) = _; omega
  have hb : pt5Of (ix2 i (⟨64 * h.val + e.val, by omega⟩ : Fin 1024)) < cfg0.N := by rw [hp, show cfg0.N = 256 from N_0]; omega
  unfold G5
  rw [dif_pos hb, ← outsAt0_sweep m c _ hb]
  have I := inv_at m c (h.val / 2) (i.val / 256) _ (by omega) (by omega) hp hb
  have ec : 4 * (i.val / 256) + i.val % 256 / 64 = i.val / 64 := by omega
  rcases Nat.mod_two_eq_zero_or_one h.val with hh | hh
  · refine Eq.trans (congrArg _ ?_) ((I.dq0 ⟨i.val % 256 / 64, by omega⟩ ⟨i.val % 64, by omega⟩ e).trans ?_)
    · funext a
      apply Fin.ext
      match a with
      | ⟨0, _⟩ => show i.val % 256 = 64 * (i.val % 256 / 64) + i.val % 64; omega
      | ⟨1, _⟩ => show (64 * h.val + e.val) % 128 = e.val; omega
    · dsimp only
      rw [ec, show 2 * (h.val / 2) = h.val by omega]
  · refine Eq.trans (congrArg _ ?_) ((I.dq1 ⟨i.val % 256 / 64, by omega⟩ ⟨i.val % 64, by omega⟩ e).trans ?_)
    · funext a
      apply Fin.ext
      match a with
      | ⟨0, _⟩ => show i.val % 256 = 64 * (i.val % 256 / 64) + i.val % 64; omega
      | ⟨1, _⟩ => show (64 * h.val + e.val) % 128 = 64 + e.val; omega
    · dsimp only
      rw [ec, show 2 * (h.val / 2) + 1 = h.val by omega]

/-- The key gradient's array. -/
theorem G6_apply (h : Fin 16) (x : Fin 8704) (e : Fin 64) :
    (G6 m c : S8704x1024.Idx → EReal) (ix2 x (⟨64 * h.val + e.val, by omega⟩ : Fin 1024))
      = ∑ l ∈ Finset.range 128, dkC (aX m c) (aB m c) (aD m c) h.val l x.val e := by
  have hp : pt6Of (ix2 x (⟨64 * h.val + e.val, by omega⟩ : Fin 1024)) = 32 * (h.val / 2) + 31 := by
    show 32 * (8 * (x.val / 8704 - 0) + 1 * ((64 * h.val + e.val) / 128 - 0)) + 31 = _; omega
  have hb : pt6Of (ix2 x (⟨64 * h.val + e.val, by omega⟩ : Fin 1024)) < cfg0.N := by rw [hp, show cfg0.N = 256 from N_0]; omega
  unfold G6
  rw [dif_pos hb, ← outsAt0_sweep m c _ hb]
  have I := inv_at m c (h.val / 2) 31 _ (by omega) (by omega) hp hb
  rcases Nat.mod_two_eq_zero_or_one h.val with hh | hh
  · refine Eq.trans (congrArg _ ?_) ((I.dk0 x e).trans ?_)
    · funext a
      apply Fin.ext
      match a with
      | ⟨0, _⟩ => show x.val % 8704 = x.val; omega
      | ⟨1, _⟩ => show (64 * h.val + e.val) % 128 = e.val; omega
    · rw [show 2 * (h.val / 2) = h.val by omega]
  · refine Eq.trans (congrArg _ ?_) ((I.dk1 x e).trans ?_)
    · funext a
      apply Fin.ext
      match a with
      | ⟨0, _⟩ => show x.val % 8704 = x.val; omega
      | ⟨1, _⟩ => show (64 * h.val + e.val) % 128 = 64 + e.val; omega
    · rw [show 2 * (h.val / 2) + 1 = h.val by omega]

/-- The value gradient's array. -/
theorem G7_apply (h : Fin 16) (x : Fin 8704) (e : Fin 64) :
    (G7 m c : S8704x1024.Idx → EReal) (ix2 x (⟨64 * h.val + e.val, by omega⟩ : Fin 1024))
      = ∑ l ∈ Finset.range 128, dvC (aX m c) (aB m c) (aD m c) h.val l x.val e := by
  have hp : pt7Of (ix2 x (⟨64 * h.val + e.val, by omega⟩ : Fin 1024)) = 32 * (h.val / 2) + 31 := by
    show 32 * (8 * (x.val / 8704 - 0) + 1 * ((64 * h.val + e.val) / 128 - 0)) + 31 = _; omega
  have hb : pt7Of (ix2 x (⟨64 * h.val + e.val, by omega⟩ : Fin 1024)) < cfg0.N := by rw [hp, show cfg0.N = 256 from N_0]; omega
  unfold G7
  rw [dif_pos hb, ← outsAt0_sweep m c _ hb]
  have I := inv_at m c (h.val / 2) 31 _ (by omega) (by omega) hp hb
  rcases Nat.mod_two_eq_zero_or_one h.val with hh | hh
  · refine Eq.trans (congrArg _ ?_) ((I.dv0 x e).trans ?_)
    · funext a
      apply Fin.ext
      match a with
      | ⟨0, _⟩ => show x.val % 8704 = x.val; omega
      | ⟨1, _⟩ => show (64 * h.val + e.val) % 128 = e.val; omega
    · rw [show 2 * (h.val / 2) = h.val by omega]
  · refine Eq.trans (congrArg _ ?_) ((I.dv1 x e).trans ?_)
    · funext a
      apply Fin.ext
      match a with
      | ⟨0, _⟩ => show x.val % 8704 = x.val; omega
      | ⟨1, _⟩ => show (64 * h.val + e.val) % 128 = 64 + e.val; omega
    · rw [show 2 * (h.val / 2) + 1 = h.val by omega]

/-- The bias gradient's array. -/
theorem G8_apply (h : Fin 16) (q : Fin 64) (j : Fin 576) :
    (G8 m c : S16x64x576.Idx → EReal) (ix3 h q j) = ∑ l ∈ Finset.range 128, cD (aX m c) (aB m c) (aD m c) h.val l q j := by
  have hp : pt8Of (ix3 h q j) = 32 * (h.val / 2) + 31 := by
    show 32 * (1 * (h.val / 2 - 0) + 1 * (q.val / 64 - 0) + 1 * (j.val / 576 - 0)) + 31 = _; omega
  have hb : pt8Of (ix3 h q j) < cfg0.N := by rw [hp, show cfg0.N = 256 from N_0]; omega
  unfold G8
  rw [dif_pos hb, ← outsAt0_sweep m c _ hb]
  have I := inv_at m c (h.val / 2) 31 _ (by omega) (by omega) hp hb
  rcases Nat.mod_two_eq_zero_or_one h.val with hh | hh
  · refine Eq.trans (congrArg _ ?_) ((I.db0 q j).trans ?_)
    · funext a
      apply Fin.ext
      match a with
      | ⟨0, _⟩ => show h.val % 2 = 0; omega
      | ⟨1, _⟩ => show q.val % 64 = q.val; omega
      | ⟨2, _⟩ => show j.val % 576 = j.val; omega
    · rw [show 2 * (h.val / 2) = h.val by omega]
  · refine Eq.trans (congrArg _ ?_) ((I.db1 q j).trans ?_)
    · funext a
      apply Fin.ext
      match a with
      | ⟨0, _⟩ => show h.val % 2 = 1; omega
      | ⟨1, _⟩ => show q.val % 64 = q.val; omega
      | ⟨2, _⟩ => show j.val % 576 = j.val; omega
    · rw [show 2 * (h.val / 2) + 1 = h.val by omega]

end Cert.Attn

end
-- ==== Proof.Attn.RefIn.lean ====
/-
  The reference's operands at an index: the queries by chunk, and each chunk's window of the padded keys and values.
-/
module

public import proofs.«01_k».proof.Proof.Gen.ReferenceIdeal.Read
public import Idealize.ShloMosaic.Lib.Pointwise
public import Idealize.ShloMosaic.Lib.KernelVsHost
public import proofs.«01_k».proof.Proof.Attn.Band

@[expose] public section

set_option maxRecDepth 16384

noncomputable section

namespace Cert.AttnRef

open Cert.Attn Cert.ReferenceIdeal Cert.ReferenceIdeal.Gen Cert.ReferenceIdeal.Read Idealize.ShloMosaic Idealize.ShloMosaic.TcCoe Idealize.SL.Sem

variable (X : (⟨2, ![8192, 3072]⟩ : Shape).Idx → EReal) (B : (⟨3, ![16, 64, 576]⟩ : Shape).Idx → EReal)
  (D : (⟨2, ![8192, 1024]⟩ : Shape).Idx → EReal)

theorem rd2_of {a b : ℕ} (X : (⟨2, ![a, b]⟩ : Shape).Idx → EReal) {r c : ℕ} (i : Fin a) (j : Fin b) (hr : i.val = r) (hc : j.val = c) :
    X (ix2 i j) = rd2 X r c := by
  subst hr hc
  unfold rd2
  rw [dif_pos ⟨i.isLt, j.isLt⟩]

theorem v9_apply (m : Fin 128) (q : Fin 64) (h : Fin 16) (d : Fin 64) :
    val_main_v9 (F := Ideal) X (ix4 m q h d) = sQ X h.val (64 * m.val + q.val) d := by
  pointwise [val_main_v9, val_main_v4, val_main_v1, val_main_v0]
  unfold sQ
  refine rd2_of X _ _ ?_ ?_ <;> (try dsimp only) <;> omega

theorem v7_apply (x : Fin 8704) (h : Fin 16) (d : Fin 64) : val_main_v7 (F := Ideal) X (ix3 x h d) = sK X h.val x.val d := by
  unfold val_main_v7 sK
  by_cases hx : x.val < 512
  · rw [if_pos hx, pad_apply_of_not_inside _ _ _ _ _ _ _ _ (0 : Fin 3) (by
      rintro ⟨h1, -⟩
      have : 512 ≤ x.val := h1
      omega)]
    pointwise [val_main_call0_v0, val_main_c]
    show ((((0#32 : BitVec 32).toInt : ℤ) : ℝ) : EReal) = 0
    simp
  · rw [if_neg hx, pad_apply_of_inside _ _ _ _ _ _ _ _ (ix3 (⟨x.val - 512, by omega⟩ : Fin 8192) h d) (by
      intro a
      match a with
      | ⟨0, _⟩ => show x.val = 512 + (x.val - 512) * 1; omega
      | ⟨1, _⟩ => show h.val = 0 + h.val * 1; omega
      | ⟨2, _⟩ => show d.val = 0 + d.val * 1; omega)]
    pointwise [val_main_v5, val_main_v2, val_main_v0]
    refine rd2_of X _ _ ?_ ?_ <;> (try dsimp only) <;> omega

theorem v8_apply (x : Fin 8704) (h : Fin 16) (d : Fin 64) : val_main_v8 (F := Ideal) X (ix3 x h d) = sV X h.val x.val d := by
  unfold val_main_v8 sV
  by_cases hx : x.val < 512
  · rw [if_pos hx, pad_apply_of_not_inside _ _ _ _ _ _ _ _ (0 : Fin 3) (by
      rintro ⟨h1, -⟩
      have : 512 ≤ x.val := h1
      omega)]
    pointwise [val_main_call1_v0, val_main_c_0]
    show ((((0#32 : BitVec 32).toInt : ℤ) : ℝ) : EReal) = 0
    simp
  · rw [if_neg hx, pad_apply_of_inside _ _ _ _ _ _ _ _ (ix3 (⟨x.val - 512, by omega⟩ : Fin 8192) h d) (by
      intro a
      match a with
      | ⟨0, _⟩ => show x.val = 512 + (x.val - 512) * 1; omega
      | ⟨1, _⟩ => show h.val = 0 + h.val * 1; omega
      | ⟨2, _⟩ => show d.val = 0 + d.val * 1; omega)]
    pointwise [val_main_v6, val_main_v3, val_main_v0]
    refine rd2_of X _ _ ?_ ?_ <;> (try dsimp only) <;> omega

theorem v7_of {y : ℕ} (i : Fin 8704) (h h' : Fin 16) (d d' : Fin 64) (hi : i.val = y) (hh : h = h') (hd : d = d') :
    val_main_v7 (F := Ideal) X (ix3 i h d) = sK X h'.val y d' := by
  subst hi hh hd
  exact v7_apply X i h d

theorem v8_of {y : ℕ} (i : Fin 8704) (h h' : Fin 16) (d d' : Fin 64) (hi : i.val = y) (hh : h = h') (hd : d = d') :
    val_main_v8 (F := Ideal) X (ix3 i h d) = sV X h'.val y d' := by
  subst hi hh hd
  exact v8_apply X i h d

theorem v20_apply (m : Fin 128) (j : Fin 576) (h : Fin 16) (d : Fin 64) :
    val_main_v20 (F := Ideal) X (ix4 m j h d) = sK X h.val (64 * m.val + j.val) d := by
  pointwise [val_main_v20, val_main_v19, val_main_v18, val_main_v17, val_main_v16, val_main_v15, val_main_v14, val_main_v13, val_main_v12, val_main_v11, val_main_v10]
  split_ifs <;> (refine v7_of X _ _ _ _ _ ?_ rfl rfl; dsimp only; omega)

theorem v31_apply (m : Fin 128) (j : Fin 576) (h : Fin 16) (d : Fin 64) :
    val_main_v31 (F := Ideal) X (ix4 m j h d) = sV X h.val (64 * m.val + j.val) d := by
  pointwise [val_main_v31, val_main_v30, val_main_v29, val_main_v28, val_main_v27, val_main_v26, val_main_v25, val_main_v24, val_main_v23, val_main_v22, val_main_v21]
  split_ifs <;> (refine v8_of X _ _ _ _ _ ?_ rfl rfl; dsimp only; omega)

/-- The cotangent by chunk and head. -/
theorem v85_apply (m : Fin 128) (h : Fin 16) (d q : Fin 64) :
    val_main_v85 (F := Ideal) D (ix4 m h d q) = sD D h.val (64 * m.val + q.val) d := by
  pointwise [val_main_v85, val_main_v83, val_main_v84]
  unfold sD
  refine rd2_of D _ _ ?_ ?_ <;> (try dsimp only) <;> omega

/-- The bias over the chunks. -/
theorem v48_apply (m : Fin 128) (h : Fin 16) (q : Fin 64) (j : Fin 576) :
    val_main_v48 (F := Ideal) B (ix4 m h q j) = rd3 B h.val q.val j.val := by
  pointwise [val_main_v48, val_main_v47]
  unfold rd3
  rw [dif_pos ⟨h.isLt, q.isLt, j.isLt⟩]

end Cert.AttnRef

end
-- ==== Proof.Attn.RefMask.lean ====
/-
  The reference's mask at an index.
-/
module

public import proofs.«01_k».proof.Proof.Attn.RefIn

@[expose] public section

set_option maxRecDepth 16384

noncomputable section

namespace Cert.AttnRef

open Cert.Attn Cert.ReferenceIdeal Cert.ReferenceIdeal.Gen Cert.ReferenceIdeal.Read Idealize.ShloMosaic Idealize.ShloMosaic.TcCoe Idealize.SL.Sem

theorem v33_apply (j : Fin 576) : val_main_v33 (F := Ideal) (ix1 j) = BitVec.ofNat 32 (j.val / 64) := by
  pointwise [val_main_v33, val_main_call2_v13, val_main_call2_v12, val_main_call2_v11, val_main_call2_v10, val_main_call2_v9, val_main_call2_v8, val_main_call2_v7, val_main_call2_v6, val_main_call2_v5, val_main_call2_v4, val_main_call2_v3, val_main_call2_v2, val_main_call2_v1, val_main_call2_v0, val_main_call2_c, val_main_call2_c_0, val_main_c_1, val_main_v32]
  revert j
  decide +kernel

theorem v43_apply (m : Fin 128) (j : Fin 576) : val_main_v43 (F := Ideal) (ix2 m j) = if 512 ≤ 64 * m.val + j.val then 1#1 else 0#1 := by
  pointwise [val_main_v43, val_main_v42, val_main_v41, val_main_v40, val_main_v39, val_main_v38, val_main_v37, val_main_v36, val_main_v35, val_main_v34, val_main_c_2, val_main_c_3, v33_apply]
  have key : ∀ m : Fin 128, ∀ a : Fin 9, IntOp.cmpi CmpIPredicate.sge (IntOp.addi (IntOp.subi (BitVec.ofNat 32 m.val) 8#32) (BitVec.ofNat 32 a.val)) 0#32
      = if 8 ≤ m.val + a.val then 1#1 else 0#1 := by decide +kernel
  refine (key m ⟨j.val / 64, by omega⟩).trans ?_
  dsimp only
  split_ifs <;> first | rfl | (exfalso; omega)

end Cert.AttnRef

end
-- ==== Proof.Attn.RefRow.lean ====
/-
  The reference's scores, weights and score gradients at an index: each row's are `rP` and `rDs` of its scores.
-/
module

public import proofs.«01_k».proof.Proof.Attn.RefMask

@[expose] public section

set_option maxRecDepth 16384

noncomputable section

namespace Cert.AttnRef

open Cert.Attn Cert.ReferenceIdeal Cert.ReferenceIdeal.Gen Cert.ReferenceIdeal.Read Idealize.ShloMosaic Idealize.ShloMosaic.TcCoe Idealize.SL.Sem

variable (X : (⟨2, ![8192, 3072]⟩ : Shape).Idx → EReal) (B : (⟨3, ![16, 64, 576]⟩ : Shape).Idx → EReal)
  (D : (⟨2, ![8192, 1024]⟩ : Shape).Idx → EReal) (m : Fin 128) (h : Fin 16) (q : Fin 64) (j : Fin 576)

theorem v51_1_apply : val_main_v51_1 (F := Ideal) (ix4 m h q j) = if 512 ≤ 64 * m.val + j.val then 1#1 else 0#1 := by
  pointwise [val_main_v51_1, val_main_v50, v43_apply]

theorem v49_apply : val_main_v49 (F := Ideal) X B (ix4 m h q j)
    = (∑ d, sQ X h.val (64 * m.val + q.val) d * sK X h.val (64 * m.val + j.val) d) * c8 + rd3 B h.val q.val j.val := by
  pointwise [val_main_v49, val_main_v46, val_main_v45, val_main_cst, val_main_v44, v9_apply, v20_apply, v48_apply]
  rfl

/-- The scores. -/
theorem v51_0_apply : val_main_v51_0 (F := Ideal) X B (ix4 m h q j) = sc X B h.val m.val q j := by
  pointwise [val_main_v51_0, v51_1_apply, v49_apply, val_main_call3_v2]
  have hbot : val_main_call3_v0 (F := Ideal) ix0 = (⊥ : EReal) := ninf_bot
  rw [hbot]
  unfold sc
  split_ifs <;> rfl

/-- Each row's greatest score. -/
theorem v52_apply : val_main_v52 (F := Ideal) X B (ix3 m h q) = rMax (sc X B h.val m.val q) := by
  pointwise [val_main_v52, v51_0_apply, val_main_cst_5]
  rw [ninf_bot]
  rfl

theorem maximum_ninf (y : S128x16x64.Idx → EReal) (i : S128x16x64.Idx) :
    maximumf (F := Ideal) (φ := .f32) (val_main_v58 (F := Ideal)) y i = y i := by
  have e : val_main_v58 (F := Ideal) i = (⊥ : EReal) := ninf_bot
  show max (val_main_v58 (F := Ideal) i : EReal) (y i) = y i
  rw [e]
  exact max_eq_right bot_le

theorem v59_apply : val_main_v59 (F := Ideal) X B (ix3 m h q) = rMax (sc X B h.val m.val q) := by
  rw [← v52_apply X B m h q]
  unfold val_main_v59
  generalize val_main_v52 (F := Ideal) X B = y
  exact maximum_ninf y _

theorem v71_apply : val_main_v71 (F := Ideal) X B (ix4 m h q j) = sc X B h.val m.val q j - rMax (sc X B h.val m.val q) := by
  pointwise [val_main_v71, val_main_v70, val_main_v69, v59_apply, v51_0_apply]

theorem v72_apply : val_main_v72 (F := Ideal) X B (ix4 m h q j) = rExp (sc X B h.val m.val q) j := by
  unfold rExp
  pointwise [val_main_v72, v71_apply]

theorem v73_apply : val_main_v73 (F := Ideal) X B (ix3 m h q) = rSum (sc X B h.val m.val q) := by
  unfold rSum
  generalize hr : rExp (sc X B h.val m.val q) = r
  pointwise [val_main_v73, v72_apply, val_main_cst_13]
  rw [hr]

theorem v74_apply (z : Fin 1) : val_main_v74 (F := Ideal) X B (ix4 m h q z) = rSum (sc X B h.val m.val q) := by
  pointwise [val_main_v74, v73_apply]

theorem v76_apply (hf : FiniteRow (sc X B h.val m.val q)) : val_main_v76 (F := Ideal) X B (ix4 m h q j) = cP X B h.val m.val q j := by
  pointwise [val_main_v76, val_main_v75, v74_apply, v72_apply]
  exact div_eq_rP hf j

theorem v86_apply : val_main_v86 (F := Ideal) X D (ix4 m h q j) = gg X D h.val m.val q j := by
  pointwise [val_main_v86, v85_apply, v31_apply]
  rfl

theorem v100_apply (hf : FiniteRow (sc X B h.val m.val q)) : val_main_v100 (F := Ideal) X B D (ix4 m h q j) = cD X B D h.val m.val q j := by
  pointwise [val_main_v100, val_main_v99, val_main_v98, val_main_v97, val_main_v96, val_main_v95, val_main_v94, val_main_v93, val_main_v92, val_main_v91, val_main_v90, val_main_v89, val_main_v79, val_main_v78, val_main_v77, val_main_cst_14, val_main_cst_15, val_main_cst_16, v86_apply, v74_apply, v72_apply]
  rw [Fin.sum_univ_one]
  exact quotient_eq_rDs hf _ j

theorem v101_apply (hf : FiniteRow (sc X B h.val m.val q)) : val_main_v101 (F := Ideal) X B D (ix4 m h q j) = cD X B D h.val m.val q j := by
  pointwise [val_main_v101, v51_1_apply, val_main_call4_v0, val_main_call4_cst, v100_apply X B D m h q j hf]
  split_ifs with hv
  · rfl
  · refine (rDs_of_bot ?_).symm
    unfold sc
    rw [if_neg hv]

end Cert.AttnRef

end
-- ==== Proof.Attn.RefSum.lean ====
/-
  A sum over the chunks of something that only the nine chunks whose window holds a row give, as nine shifted arrays added.
-/
module

public import proofs.«01_k».proof.Proof.Attn.RefRow

@[expose] public section

set_option maxRecDepth 16384

noncomputable section

namespace Cert.AttnRef

open Cert.Attn Cert.ReferenceIdeal Cert.ReferenceIdeal.Gen Cert.ReferenceIdeal.Read Idealize.ShloMosaic Idealize.ShloMosaic.TcCoe Idealize.SL.Sem

/-- What the array shifted by `t` chunks holds at chunk `b`. -/
def shifted (f : ℕ → EReal) (b t : ℕ) : EReal := if t ≤ b ∧ b - t < 128 then f (b - t) else 0

theorem shifted_eq (f : ℕ → EReal) (b t : ℕ) : shifted f b t = ∑ l ∈ Finset.range 128, if l + t = b then f l else 0 := by
  unfold shifted
  split_ifs with h
  · rw [Finset.sum_eq_single (b - t)]
    · rw [if_pos (by omega)]
    · intro l _ hl
      rw [if_neg (by omega)]
    · intro hl
      exact absurd (Finset.mem_range.mpr h.2) hl
  · refine (Finset.sum_eq_zero fun l hl => ?_).symm
    have := Finset.mem_range.mp hl
    rw [if_neg (by omega)]

theorem sum_shifted (f : ℕ → EReal) (b : ℕ) (hf : ∀ l, l < 128 → (¬∃ t, t < 9 ∧ l + t = b) → f l = 0) :
    shifted f b 8 + shifted f b 7 + shifted f b 6 + shifted f b 5 + shifted f b 4 + shifted f b 3 + shifted f b 2 + shifted f b 1 + shifted f b 0
      = ∑ l ∈ Finset.range 128, f l := by
  simp only [shifted_eq, ← Finset.sum_add_distrib]
  refine Finset.sum_congr rfl fun l hl => ?_
  by_cases h : ∃ t, t < 9 ∧ l + t = b
  · obtain ⟨t, ht, rfl⟩ := h
    interval_cases t <;> simp
  · rw [hf l (Finset.mem_range.mp hl) h]
    simp

/-- An array of chunks moved down by `t` chunks, at an index. -/
theorem pad_chunks {t : ℕ} (lo hi interior : Fin 4 → ℕ) (x : S128x64x16x64.Idx → EReal) (z : S_.Idx → EReal)
    (hp : S128x64x16x64.Pads lo hi interior S136x64x16x64) (hu : 0 < S_.numel) (hlo : lo = ![t, 0, 0, 0]) (hint : interior = ![0, 0, 0, 0])
    (hz : ∀ i, z i = 0) (b : Fin 136) (y : Fin 64) (h : Fin 16) (d : Fin 64) (f : ℕ → EReal)
    (hx : ∀ k : Fin 128, k.val + t = b.val → x (ix4 k y h d) = f k.val) :
    pad S136x64x16x64 lo hi interior x z hp hu (ix4 b y h d) = shifted f b.val t := by
  subst hlo hint
  unfold shifted
  split_ifs with hh
  · rw [pad_apply_of_inside _ _ _ _ _ _ _ _ (ix4 (⟨b.val - t, hh.2⟩ : Fin 128) y h d) (by
      intro a
      match a with
      | ⟨0, _⟩ => show b.val = t + (b.val - t) * 1; omega
      | ⟨1, _⟩ => show y.val = 0 + y.val * 1; omega
      | ⟨2, _⟩ => show h.val = 0 + h.val * 1; omega
      | ⟨3, _⟩ => show d.val = 0 + d.val * 1; omega)]
    exact hx _ (by dsimp only; omega)
  · rw [pad_apply_of_not_inside _ _ _ _ _ _ _ _ (0 : Fin 4) (by
      rintro ⟨h1, h2, h3⟩
      have h1' : t ≤ b.val := h1
      have h3' : (b.val - t) / 1 < 128 := h3
      omega)]
    exact hz _

end Cert.AttnRef

end
-- ==== Proof.Attn.RefOut.lean ====
/-
  The reference's four results at an index, as sums over the chunks.
-/
module

public import proofs.«01_k».proof.Proof.Attn.RefSum

@[expose] public section

set_option maxRecDepth 16384

noncomputable section

namespace Cert.AttnRef

open Cert.Attn Cert.ReferenceIdeal Cert.ReferenceIdeal.Gen Cert.ReferenceIdeal.Read Idealize.ShloMosaic Idealize.ShloMosaic.TcCoe Idealize.SL.Sem

variable (X : (⟨2, ![8192, 3072]⟩ : Shape).Idx → EReal) (B : (⟨3, ![16, 64, 576]⟩ : Shape).Idx → EReal)
  (D : (⟨2, ![8192, 1024]⟩ : Shape).Idx → EReal)

/-- Each row of scores has a finite score and none of +∞. -/
def FiniteScores : Prop := ∀ (m : Fin 128) (h : Fin 16) (q : Fin 64), FiniteRow (sc X B h.val m.val q)

variable (hf : FiniteScores X B)

include hf

/-- The bias gradient. -/
theorem v104_apply (h : Fin 16) (q : Fin 64) (j : Fin 576) :
    val_main_v104 (F := Ideal) X B D (ix3 h q j) = ∑ l ∈ Finset.range 128, cD X B D h.val l q j := by
  have e : ∀ m : Fin 128, val_main_v101 (F := Ideal) X B D (ix4 m h q j) = cD X B D h.val m.val q j := fun m => v101_apply X B D m h q j (hf m h q)
  pointwise [val_main_v104, val_main_v103, val_main_v102, val_main_cst_17, val_main_cst_18, e]
  rw [Fin.sum_univ_one, Finset.sum_range]

/-- The score gradients times the scale. -/
theorem v106_apply (m : Fin 128) (h : Fin 16) (q : Fin 64) (j : Fin 576) :
    val_main_v106 (F := Ideal) X B D (ix4 m h q j) = cD X B D h.val m.val q j * c8 := by
  pointwise [val_main_v106, val_main_v105, val_main_cst_19, v101_apply X B D m h q j (hf m h q)]
  rfl

theorem v110_apply (m : Fin 128) (q : Fin 64) (h : Fin 16) (e : Fin 64) :
    val_main_v110 (F := Ideal) X B D (ix4 m q h e) = dqC X B D h.val m.val q e := by
  have e1 : ∀ j : Fin 576, val_main_v106 (F := Ideal) X B D (ix4 m h q j) = cD X B D h.val m.val q j * c8 := fun j => v106_apply X B D hf m h q j
  unfold dqC
  pointwise [val_main_v110, val_main_v109, v20_apply, e1]

/-- The query gradient. -/
theorem v167_apply (h : Fin 16) (i : Fin 8192) (e : Fin 64) :
    val_main_v167 (F := Ideal) X B D (ix2 i (⟨64 * h.val + e.val, by omega⟩ : Fin 1024))
      = dqC X B D h.val (i.val / 64) (⟨i.val % 64, Nat.mod_lt _ (by decide)⟩ : Fin 64) e := by
  refine Eq.trans ?_ (v110_apply X B D hf (⟨i.val / 64, by omega⟩ : Fin 128) (⟨i.val % 64, Nat.mod_lt _ (by decide)⟩ : Fin 64) h e)
  generalize hy : val_main_v110 (F := Ideal) X B D = y
  pointwise [val_main_v167, val_main_v166, val_main_v165, hy]

/-- What one chunk gives the key gradient of its window's rows. -/
theorem v108_apply (m : Fin 128) (j : Fin 576) (h : Fin 16) (e : Fin 64) :
    val_main_v108 (F := Ideal) X B D (ix4 m j h e) = dkC X B D h.val m.val (64 * m.val + j.val) e := by
  have e1 : ∀ q : Fin 64, val_main_v106 (F := Ideal) X B D (ix4 m h q j) = cD X B D h.val m.val q j * c8 := fun q => v106_apply X B D hf m h q j
  unfold dkC
  rw [dif_pos ⟨by omega, by omega⟩]
  have ej : (⟨64 * m.val + j.val - 64 * m.val, by omega⟩ : Fin 576) = j := Fin.ext (by dsimp only; omega)
  rw [ej]
  pointwise [val_main_v108, val_main_v107, v9_apply, e1]

/-- What one chunk gives the value gradient of its window's rows. -/
theorem v88_apply (m : Fin 128) (j : Fin 576) (h : Fin 16) (e : Fin 64) :
    val_main_v88 (F := Ideal) X B D (ix4 m j h e) = dvC X B D h.val m.val (64 * m.val + j.val) e := by
  have e1 : ∀ q : Fin 64, val_main_v76 (F := Ideal) X B (ix4 m h q j) = cP X B h.val m.val q j := fun q => v76_apply X B m h q j (hf m h q)
  unfold dvC
  rw [dif_pos ⟨by omega, by omega⟩]
  have ej : (⟨64 * m.val + j.val - 64 * m.val, by omega⟩ : Fin 576) = j := Fin.ext (by dsimp only; omega)
  rw [ej]
  pointwise [val_main_v88, val_main_v87, v85_apply, e1]
  exact Finset.sum_congr rfl fun q _ => mul_comm _ _

theorem v135_apply (b : Fin 136) (y : Fin 64) (h : Fin 16) (e : Fin 64) :
    val_main_v135 (F := Ideal) X B D (ix4 b y h e) = shifted (fun l => dvC X B D h.val l (64 * b.val + y.val) e) b.val 0 := by
  unfold val_main_v135
  refine pad_chunks _ _ _ _ _ _ _ rfl rfl (fun _ => Ideal.ofBits_zero_f32) b y h e _ fun k hk => ?_
  pointwise [val_main_v111]
  rw [v88_apply X B D hf]
  congr 1
  dsimp only
  omega

theorem v133_apply (b : Fin 136) (y : Fin 64) (h : Fin 16) (e : Fin 64) :
    val_main_v133 (F := Ideal) X B D (ix4 b y h e) = shifted (fun l => dvC X B D h.val l (64 * b.val + y.val) e) b.val 1 := by
  unfold val_main_v133
  refine pad_chunks _ _ _ _ _ _ _ rfl rfl (fun _ => Ideal.ofBits_zero_f32) b y h e _ fun k hk => ?_
  pointwise [val_main_v112]
  rw [v88_apply X B D hf]
  congr 1
  dsimp only
  omega

theorem v131_apply (b : Fin 136) (y : Fin 64) (h : Fin 16) (e : Fin 64) :
    val_main_v131 (F := Ideal) X B D (ix4 b y h e) = shifted (fun l => dvC X B D h.val l (64 * b.val + y.val) e) b.val 2 := by
  unfold val_main_v131
  refine pad_chunks _ _ _ _ _ _ _ rfl rfl (fun _ => Ideal.ofBits_zero_f32) b y h e _ fun k hk => ?_
  pointwise [val_main_v113]
  rw [v88_apply X B D hf]
  congr 1
  dsimp only
  omega

theorem v129_apply (b : Fin 136) (y : Fin 64) (h : Fin 16) (e : Fin 64) :
    val_main_v129 (F := Ideal) X B D (ix4 b y h e) = shifted (fun l => dvC X B D h.val l (64 * b.val + y.val) e) b.val 3 := by
  unfold val_main_v129
  refine pad_chunks _ _ _ _ _ _ _ rfl rfl (fun _ => Ideal.ofBits_zero_f32) b y h e _ fun k hk => ?_
  pointwise [val_main_v114]
  rw [v88_apply X B D hf]
  congr 1
  dsimp only
  omega

theorem v127_apply (b : Fin 136) (y : Fin 64) (h : Fin 16) (e : Fin 64) :
    val_main_v127 (F := Ideal) X B D (ix4 b y h e) = shifted (fun l => dvC X B D h.val l (64 * b.val + y.val) e) b.val 4 := by
  unfold val_main_v127
  refine pad_chunks _ _ _ _ _ _ _ rfl rfl (fun _ => Ideal.ofBits_zero_f32) b y h e _ fun k hk => ?_
  pointwise [val_main_v115]
  rw [v88_apply X B D hf]
  congr 1
  dsimp only
  omega

theorem v125_apply (b : Fin 136) (y : Fin 64) (h : Fin 16) (e : Fin 64) :
    val_main_v125 (F := Ideal) X B D (ix4 b y h e) = shifted (fun l => dvC X B D h.val l (64 * b.val + y.val) e) b.val 5 := by
  unfold val_main_v125
  refine pad_chunks _ _ _ _ _ _ _ rfl rfl (fun _ => Ideal.ofBits_zero_f32) b y h e _ fun k hk => ?_
  pointwise [val_main_v116]
  rw [v88_apply X B D hf]
  congr 1
  dsimp only
  omega

theorem v123_apply (b : Fin 136) (y : Fin 64) (h : Fin 16) (e : Fin 64) :
    val_main_v123 (F := Ideal) X B D (ix4 b y h e) = shifted (fun l => dvC X B D h.val l (64 * b.val + y.val) e) b.val 6 := by
  unfold val_main_v123
  refine pad_chunks _ _ _ _ _ _ _ rfl rfl (fun _ => Ideal.ofBits_zero_f32) b y h e _ fun k hk => ?_
  pointwise [val_main_v117]
  rw [v88_apply X B D hf]
  congr 1
  dsimp only
  omega

theorem v121_apply (b : Fin 136) (y : Fin 64) (h : Fin 16) (e : Fin 64) :
    val_main_v121 (F := Ideal) X B D (ix4 b y h e) = shifted (fun l => dvC X B D h.val l (64 * b.val + y.val) e) b.val 7 := by
  unfold val_main_v121
  refine pad_chunks _ _ _ _ _ _ _ rfl rfl (fun _ => Ideal.ofBits_zero_f32) b y h e _ fun k hk => ?_
  pointwise [val_main_v118]
  rw [v88_apply X B D hf]
  congr 1
  dsimp only
  omega

theorem v120_apply (b : Fin 136) (y : Fin 64) (h : Fin 16) (e : Fin 64) :
    val_main_v120 (F := Ideal) X B D (ix4 b y h e) = shifted (fun l => dvC X B D h.val l (64 * b.val + y.val) e) b.val 8 := by
  unfold val_main_v120
  refine pad_chunks _ _ _ _ _ _ _ rfl rfl (fun _ => Ideal.ofBits_zero_f32) b y h e _ fun k hk => ?_
  pointwise [val_main_v119]
  rw [v88_apply X B D hf]
  congr 1
  dsimp only
  omega

theorem v162_apply (b : Fin 136) (y : Fin 64) (h : Fin 16) (e : Fin 64) :
    val_main_v162 (F := Ideal) X B D (ix4 b y h e) = shifted (fun l => dkC X B D h.val l (64 * b.val + y.val) e) b.val 0 := by
  unfold val_main_v162
  refine pad_chunks _ _ _ _ _ _ _ rfl rfl (fun _ => Ideal.ofBits_zero_f32) b y h e _ fun k hk => ?_
  pointwise [val_main_v138]
  rw [v108_apply X B D hf]
  congr 1
  dsimp only
  omega

theorem v160_apply (b : Fin 136) (y : Fin 64) (h : Fin 16) (e : Fin 64) :
    val_main_v160 (F := Ideal) X B D (ix4 b y h e) = shifted (fun l => dkC X B D h.val l (64 * b.val + y.val) e) b.val 1 := by
  unfold val_main_v160
  refine pad_chunks _ _ _ _ _ _ _ rfl rfl (fun _ => Ideal.ofBits_zero_f32) b y h e _ fun k hk => ?_
  pointwise [val_main_v139]
  rw [v108_apply X B D hf]
  congr 1
  dsimp only
  omega

theorem v158_apply (b : Fin 136) (y : Fin 64) (h : Fin 16) (e : Fin 64) :
    val_main_v158 (F := Ideal) X B D (ix4 b y h e) = shifted (fun l => dkC X B D h.val l (64 * b.val + y.val) e) b.val 2 := by
  unfold val_main_v158
  refine pad_chunks _ _ _ _ _ _ _ rfl rfl (fun _ => Ideal.ofBits_zero_f32) b y h e _ fun k hk => ?_
  pointwise [val_main_v140]
  rw [v108_apply X B D hf]
  congr 1
  dsimp only
  omega

theorem v156_apply (b : Fin 136) (y : Fin 64) (h : Fin 16) (e : Fin 64) :
    val_main_v156 (F := Ideal) X B D (ix4 b y h e) = shifted (fun l => dkC X B D h.val l (64 * b.val + y.val) e) b.val 3 := by
  unfold val_main_v156
  refine pad_chunks _ _ _ _ _ _ _ rfl rfl (fun _ => Ideal.ofBits_zero_f32) b y h e _ fun k hk => ?_
  pointwise [val_main_v141]
  rw [v108_apply X B D hf]
  congr 1
  dsimp only
  omega

theorem v154_apply (b : Fin 136) (y : Fin 64) (h : Fin 16) (e : Fin 64) :
    val_main_v154 (F := Ideal) X B D (ix4 b y h e) = shifted (fun l => dkC X B D h.val l (64 * b.val + y.val) e) b.val 4 := by
  unfold val_main_v154
  refine pad_chunks _ _ _ _ _ _ _ rfl rfl (fun _ => Ideal.ofBits_zero_f32) b y h e _ fun k hk => ?_
  pointwise [val_main_v142]
  rw [v108_apply X B D hf]
  congr 1
  dsimp only
  omega

theorem v152_apply (b : Fin 136) (y : Fin 64) (h : Fin 16) (e : Fin 64) :
    val_main_v152 (F := Ideal) X B D (ix4 b y h e) = shifted (fun l => dkC X B D h.val l (64 * b.val + y.val) e) b.val 5 := by
  unfold val_main_v152
  refine pad_chunks _ _ _ _ _ _ _ rfl rfl (fun _ => Ideal.ofBits_zero_f32) b y h e _ fun k hk => ?_
  pointwise [val_main_v143]
  rw [v108_apply X B D hf]
  congr 1
  dsimp only
  omega

theorem v150_apply (b : Fin 136) (y : Fin 64) (h : Fin 16) (e : Fin 64) :
    val_main_v150 (F := Ideal) X B D (ix4 b y h e) = shifted (fun l => dkC X B D h.val l (64 * b.val + y.val) e) b.val 6 := by
  unfold val_main_v150
  refine pad_chunks _ _ _ _ _ _ _ rfl rfl (fun _ => Ideal.ofBits_zero_f32) b y h e _ fun k hk => ?_
  pointwise [val_main_v144]
  rw [v108_apply X B D hf]
  congr 1
  dsimp only
  omega

theorem v148_apply (b : Fin 136) (y : Fin 64) (h : Fin 16) (e : Fin 64) :
    val_main_v148 (F := Ideal) X B D (ix4 b y h e) = shifted (fun l => dkC X B D h.val l (64 * b.val + y.val) e) b.val 7 := by
  unfold val_main_v148
  refine pad_chunks _ _ _ _ _ _ _ rfl rfl (fun _ => Ideal.ofBits_zero_f32) b y h e _ fun k hk => ?_
  pointwise [val_main_v145]
  rw [v108_apply X B D hf]
  congr 1
  dsimp only
  omega

theorem v147_apply (b : Fin 136) (y : Fin 64) (h : Fin 16) (e : Fin 64) :
    val_main_v147 (F := Ideal) X B D (ix4 b y h e) = shifted (fun l => dkC X B D h.val l (64 * b.val + y.val) e) b.val 8 := by
  unfold val_main_v147
  refine pad_chunks _ _ _ _ _ _ _ rfl rfl (fun _ => Ideal.ofBits_zero_f32) b y h e _ fun k hk => ?_
  pointwise [val_main_v146]
  rw [v108_apply X B D hf]
  congr 1
  dsimp only
  omega

theorem dvC_far (h b y l : ℕ) (e : Fin 64) (hy : y < 64) (hl : ¬∃ t, t < 9 ∧ l + t = b) : dvC X B D h l (64 * b + y) e = 0 := by
  unfold dvC
  rw [dif_neg]
  rintro ⟨h1, h2⟩
  exact hl ⟨b - l, by omega, by omega⟩

theorem v136_apply (b : Fin 136) (y : Fin 64) (h : Fin 16) (e : Fin 64) :
    val_main_v136 (F := Ideal) X B D (ix4 b y h e) = ∑ l ∈ Finset.range 128, dvC X B D h.val l (64 * b.val + y.val) e := by
  pointwise [val_main_v136, val_main_v134, val_main_v132, val_main_v130, val_main_v128, val_main_v126, val_main_v124, val_main_v122, v120_apply X B D hf, v121_apply X B D hf, v123_apply X B D hf, v125_apply X B D hf, v127_apply X B D hf, v129_apply X B D hf, v131_apply X B D hf, v133_apply X B D hf, v135_apply X B D hf]
  exact sum_shifted _ _ fun l _ hl => dvC_far X B D hf h.val b.val y.val l e y.isLt hl

/-- The value gradient. -/
theorem v169_apply (h : Fin 16) (x : Fin 8704) (e : Fin 64) :
    val_main_v169 (F := Ideal) X B D (ix2 x (⟨64 * h.val + e.val, by omega⟩ : Fin 1024)) = ∑ l ∈ Finset.range 128, dvC X B D h.val l x.val e := by
  have s := v136_apply X B D hf (⟨x.val / 64, by omega⟩ : Fin 136) (⟨x.val % 64, Nat.mod_lt _ (by decide)⟩ : Fin 64) h e
  dsimp only at s
  rw [show 64 * (x.val / 64) + x.val % 64 = x.val from by omega] at s
  refine Eq.trans ?_ s
  generalize hy : val_main_v136 (F := Ideal) X B D = y
  pointwise [val_main_v169, val_main_v137, hy]

theorem dkC_far (h b y l : ℕ) (e : Fin 64) (hy : y < 64) (hl : ¬∃ t, t < 9 ∧ l + t = b) : dkC X B D h l (64 * b + y) e = 0 := by
  unfold dkC
  rw [dif_neg]
  rintro ⟨h1, h2⟩
  exact hl ⟨b - l, by omega, by omega⟩

theorem v163_apply (b : Fin 136) (y : Fin 64) (h : Fin 16) (e : Fin 64) :
    val_main_v163 (F := Ideal) X B D (ix4 b y h e) = ∑ l ∈ Finset.range 128, dkC X B D h.val l (64 * b.val + y.val) e := by
  pointwise [val_main_v163, val_main_v161, val_main_v159, val_main_v157, val_main_v155, val_main_v153, val_main_v151, val_main_v149, v147_apply X B D hf, v148_apply X B D hf, v150_apply X B D hf, v152_apply X B D hf, v154_apply X B D hf, v156_apply X B D hf, v158_apply X B D hf, v160_apply X B D hf, v162_apply X B D hf]
  exact sum_shifted _ _ fun l _ hl => dkC_far X B D hf h.val b.val y.val l e y.isLt hl

/-- The key gradient. -/
theorem v168_apply (h : Fin 16) (x : Fin 8704) (e : Fin 64) :
    val_main_v168 (F := Ideal) X B D (ix2 x (⟨64 * h.val + e.val, by omega⟩ : Fin 1024)) = ∑ l ∈ Finset.range 128, dkC X B D h.val l x.val e := by
  have s := v163_apply X B D hf (⟨x.val / 64, by omega⟩ : Fin 136) (⟨x.val % 64, Nat.mod_lt _ (by decide)⟩ : Fin 64) h e
  dsimp only at s
  rw [show 64 * (x.val / 64) + x.val % 64 = x.val from by omega] at s
  refine Eq.trans ?_ s
  generalize hy : val_main_v163 (F := Ideal) X B D = y
  pointwise [val_main_v168, val_main_v164, hy]

end Cert.AttnRef

end
-- ==== Proof.Attn.Finite.lean ====
/-
  What the precondition gives: each row of scores has a finite score and none of +∞.
-/
module

public import proofs.«01_k».proof.Pre_finite_scores
public import proofs.«01_k».proof.Proof.Attn.RefOut

@[expose] public section

set_option maxRecDepth 16384

noncomputable section

namespace Cert.AttnRef

open Cert.Attn Idealize.ShloMosaic Idealize.ShloMosaic.TcCoe Idealize.SL.Sem

/-- The precondition's shape relations. -/
theorem pre_facts : Cert.Pre_finite_scores.Facts where
  slices_S8192x3072_S8192x2048_0_0 := by
    decide
  bitsLt_bf16_f32 := by decide
  bcast_S_S8192x2048 := by decide
  bcast_S_S16x64x576 := by decide

/-- A real number. -/
def IsReal (x : EReal) : Prop := ∃ r : ℝ, x = r

theorem IsReal.zero : IsReal 0 := ⟨0, rfl⟩

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem IsReal.sum {ι : Type} (s : Finset ι) (f : ι → EReal) (hf : ∀ i, IsReal (f i)) : IsReal (∑ i ∈ s, f i) := by
  classical
  induction s using Finset.induction_on with
  | empty => exact ⟨0, by simp⟩
  | insert a s ha ih => rw [Finset.sum_insert ha]; exact (hf a).add ih

theorem isReal_c8 : IsReal c8 := ⟨_, rfl⟩

/-- A value of which the absolute value is less than +∞ is real. -/
theorem isReal_of_abs_lt (x : EReal)
    (hx : BitVec.ofBool (decide ((FloatOps.absf (F := Ideal) (φ := .f32) x : EReal) < Ideal.ofBits .f32 0x7F800000#32)) = 1#1) : IsReal x := by
  have hinf : Ideal.ofBits .f32 0x7F800000#32 = (⊤ : EReal) := by simp [Ideal.ofBits, Ideal.ieee]
  rw [hinf] at hx
  have hlt : max x (-x) < (⊤ : EReal) := by
    by_contra hn
    rw [decide_eq_false (show ¬(FloatOps.absf (F := Ideal) (φ := .f32) x : EReal) < ⊤ from hn)] at hx
    exact absurd hx (by decide)
  induction x using EReal.rec with
  | bot => exact absurd hlt (by simp)
  | coe r => exact ⟨r, rfl⟩
  | top => exact absurd hlt (by simp)

variable (X : (⟨2, ![8192, 3072]⟩ : Shape).Idx → EReal) (B : (⟨3, ![16, 64, 576]⟩ : Shape).Idx → EReal)
  (D : (⟨2, ![8192, 1024]⟩ : Shape).Idx → EReal)

theorem real_X [Cert.Pre_finite_scores.Facts] (hp : (Cert.Pre_finite_scores.fn (F := Ideal) X B D).1 = fun _ => 1#1) (i : Fin 8192) (c : Fin 3072) (hc : c.val < 2048) :
    IsReal (X (ix2 i c)) := by
  have e := congrFun hp (ix2 i (⟨c.val, hc⟩ : Fin 2048))
  unfold Cert.Pre_finite_scores.fn at e
  dsimp only at e
  revert e
  pointwise []
  exact isReal_of_abs_lt _

theorem real_B [Cert.Pre_finite_scores.Facts] (hp : (Cert.Pre_finite_scores.fn (F := Ideal) X B D).2 = fun _ => 1#1) (h : Fin 16) (q : Fin 64) (j : Fin 576) :
    IsReal (B (ix3 h q j)) := by
  have e := congrFun hp (ix3 h q j)
  unfold Cert.Pre_finite_scores.fn at e
  dsimp only at e
  revert e
  pointwise []
  exact isReal_of_abs_lt _

theorem finiteScores [Cert.Pre_finite_scores.Facts] (hp : (Cert.Pre_finite_scores.fn (F := Ideal) X B D).1 = fun _ => 1#1)
    (hb : (Cert.Pre_finite_scores.fn (F := Ideal) X B D).2 = fun _ => 1#1) : FiniteScores X B := by
  have rX : ∀ r c : ℕ, c < 2048 → IsReal (rd2 X r c) := by
    intro r c hc
    unfold rd2
    split_ifs with hh
    · exact real_X X B D hp _ _ hc
    · exact IsReal.zero
  have rB : ∀ r s t : ℕ, IsReal (rd3 B r s t) := by
    intro r s t
    unfold rd3
    split_ifs with hh
    · exact real_B X B D hb _ _ _
    · exact IsReal.zero
  intro m h q
  have hs : ∀ j : Fin 576, 512 ≤ 64 * m.val + j.val → IsReal (sc X B h.val m.val q j) := by
    intro j hj
    unfold sc
    rw [if_pos hj]
    refine ((IsReal.sum _ _ fun d => IsReal.mul ?_ ?_).mul isReal_c8).add (rB _ _ _)
    · exact rX _ _ (by omega)
    · unfold sK
      split_ifs
      · exact IsReal.zero
      · exact rX _ _ (by omega)
  refine ⟨fun j => ?_, ⟨(⟨512, by decide⟩ : Fin 576), ?_⟩⟩
  · by_cases hj : 512 ≤ 64 * m.val + j.val
    · obtain ⟨r, hr⟩ := hs j hj
      rw [hr]; exact EReal.coe_ne_top r
    · unfold sc
      rw [if_neg hj]
      exact bot_ne_top
  · obtain ⟨r, hr⟩ := hs (⟨512, by decide⟩ : Fin 576) (by dsimp only; omega)
    rw [hr]; exact EReal.coe_ne_bot r

end Cert.AttnRef

end
-- ==== Proof.Attn.Equation.lean ====
/-
  The kernel's four arrays are the reference's.
-/
module

public import proofs.«01_k».proof.Proof.Attn.Arrays
public import proofs.«01_k».proof.Proof.Attn.Finite

@[expose] public section

set_option maxRecDepth 16384

noncomputable section

namespace Cert.AttnRef

open Cert.Attn Cert.KernelIdeal Cert.KernelIdeal.Value Cert.ReferenceIdeal.Read Idealize.ShloMosaic Idealize.ShloMosaic.TcCoe Idealize.SL.Sem

variable (m : (ℓ : Loc nD τ sig) → Buf (Elt Ideal) ℓ) (c : Dev nD) (hf : FiniteScores (aX m c) (aB m c))

theorem col_split (k : Fin 1024) : k = (⟨64 * (⟨k.val / 64, by omega⟩ : Fin 16).val + (⟨k.val % 64, Nat.mod_lt _ (by decide)⟩ : Fin 64).val, by dsimp only; omega⟩ : Fin 1024) :=
  Fin.ext (by dsimp only; omega)

include hf

theorem eq5 : (G5 m c : S8192x1024.Idx → EReal) = val_main_v167 (F := Ideal) (aX m c) (aB m c) (aD m c) := by
  funext i
  obtain ⟨a, b, rfl⟩ : ∃ (a : Fin 8192) (b : Fin 1024), i = ix2 a b := ⟨_, _, eq_ix2 i⟩
  rw [col_split b]
  exact (G5_apply m c _ a _).trans (v167_apply _ _ _ hf _ a _).symm

theorem eq6 : (G6 m c : S8704x1024.Idx → EReal) = val_main_v168 (F := Ideal) (aX m c) (aB m c) (aD m c) := by
  funext i
  obtain ⟨a, b, rfl⟩ : ∃ (a : Fin 8704) (b : Fin 1024), i = ix2 a b := ⟨_, _, eq_ix2 i⟩
  rw [col_split b]
  exact (G6_apply m c _ a _).trans (v168_apply _ _ _ hf _ a _).symm

theorem eq7 : (G7 m c : S8704x1024.Idx → EReal) = val_main_v169 (F := Ideal) (aX m c) (aB m c) (aD m c) := by
  funext i
  obtain ⟨a, b, rfl⟩ : ∃ (a : Fin 8704) (b : Fin 1024), i = ix2 a b := ⟨_, _, eq_ix2 i⟩
  rw [col_split b]
  exact (G7_apply m c _ a _).trans (v169_apply _ _ _ hf _ a _).symm

theorem eq8 : (G8 m c : S16x64x576.Idx → EReal) = val_main_v104 (F := Ideal) (aX m c) (aB m c) (aD m c) := by
  funext i
  obtain ⟨h, q, j, rfl⟩ : ∃ (h : Fin 16) (q : Fin 64) (j : Fin 576), i = ix3 h q j := ⟨_, _, _, eq_ix3 i⟩
  exact (G8_apply m c h q j).trans (v104_apply _ _ _ hf h q j).symm

end Cert.AttnRef

end
-- ==== Proof.Mm.Blocks.lean ====
/- A product accumulated over four blocks of its contracted axis, at the last point of the block's four. -/
module

public import Idealize.ShloMosaic.Lib.Pipeline.ValueKit
public import Idealize.ShloMosaic.PureOps.Ideal.Laws

@[expose] public section

noncomputable section

namespace Cert.Mm

open Idealize.ShloMosaic

/-- A block that starts at a quarter's product and adds the next quarter's at every point holds the whole product after the fourth. -/
theorem fold_four {N n L : ℕ} {ι : Type} (acc : (k : ℕ) → k < N → ι → EReal) (x y : Fin N → ι → Fin n → EReal) {X Y : Fin L → EReal}
    (h0 : ∀ t : Fin N, t.val % 4 = 0 → ∀ j, acc t.val t.isLt j = 0 + ∑ k, x t j k * y t j k)
    (hs : ∀ t : Fin N, ¬t.val % 4 = 0 → ∀ j,
      acc t.val t.isLt j = acc (t.val - 1) (Nat.lt_of_le_of_lt (Nat.sub_le _ _) t.isLt) j + ∑ k, x t j k * y t j k)
    (t : Fin N) (h : t.val % 4 = 4 - 1) (j : ι)
    (e : ∀ (p : Fin N) (q : Fin 4) (k : Fin n) (hl : q.val * n + k.val < L), p.val = 4 * (t.val / 4) + q.val →
      x p j k = X ⟨q.val * n + k.val, hl⟩ ∧ y p j k = Y ⟨q.val * n + k.val, hl⟩)
    (hL : L = 4 * n := by decide) :
    acc t.val t.isLt j = ∑ l, X l * Y l := by
  rw [Pipeline.eq_sum_fin_of_reset_step_apply_of_flush acc 4 (fun _ => (0 : EReal)) (fun t j => ∑ k, x t j k * y t j k) h0 hs t h j, zero_add]
  refine Fin.sum_mul_add_congr (fun q k hl => ?_) hL
  obtain ⟨e0, e1⟩ := e ⟨4 * (t.val / 4) + q.val, Pipeline.run_point_lt_of_flush t h q⟩ q k hl rfl
  rw [e0, e1]

end Cert.Mm

end
-- ==== Proof.Mm.GwUp.lean ====
/- The gradient of the MLP's first product in its weight: each of the four shards is the product of the activations' transpose and the cotangent,
summed over the tokens in four blocks of 2048. -/
module

public import proofs.«01_k».proof.Defs
public import proofs.«01_k».proof.Proof.Gen.GwUpIdeal.Value
public import proofs.«01_k».proof.Proof.Gen.GwUpRefIdeal.Read
public import proofs.«01_k».proof.Proof.Mm.Blocks
public import Idealize.ShloMosaic.Lib.Claim
public import Idealize.ShloMosaic.Lib.Quiescent
public import Idealize.ShloMosaic.Lib.Pointwise

@[expose] public section

noncomputable section

namespace Cert.Mm.GwUp

open Cert.GwUpIdeal Cert.GwUpIdeal.Gen Cert.GwUpIdeal.Value Idealize.ShloMosaic Idealize.ShloMosaic.TcCoe Idealize.SL.Sem

/-- One block's product, added to what is held. -/
theorem step_apply (acc : Vec Ideal S1024x1408 .f32) (x : Vec Ideal S2048x1024 .bf16) (g : Vec Ideal S2048x1408 .bf16) (j : S1024x1408.Idx) :
    (k0_pay2 acc x g : S1024x1408.Idx → EReal) j = (acc j : EReal) + ∑ k : Fin 2048, (x (ix2 k (j 0)) : EReal) * (g (ix2 k (j 1)) : EReal) := by
  pointwise [k0_pay2]

theorem zero_apply (j : S1024x1408.Idx) : (k0_pay1 (F := Ideal) : S1024x1408.Idx → EReal) j = 0 := by
  pointwise [k0_pay1]

theorem written_apply (acc : Vec Ideal S1024x1408 .f32) (j : S1x1024x1408.Idx) : (k0_pay3 acc : S1x1024x1408.Idx → EReal) j = (acc (ix2 (j 1) (j 2)) : EReal) := by
  pointwise [k0_pay3]

/-- The reference. -/
theorem ref_apply (X : Cert.GwUpRefIdeal.S8192x1024.Idx → EReal) (G : Cert.GwUpRefIdeal.S8192x5632.Idx → EReal) (i : Cert.GwUpRefIdeal.S4x1024x1408.Idx) :
    (Cert.GwUpRefIdeal.Read.val_main_v15 (F := Ideal) X G : Cert.GwUpRefIdeal.S4x1024x1408.Idx → EReal) i = ∑ k : Fin 8192, X (ix2 k (i 1)) * G (ix2 k (⟨1408 * (i 0).val + (i 2).val, by have h0 : (i 0).val < 4 := (i 0).isLt; have h2 : (i 2).val < 1408 := (i 2).isLt; omega⟩ : Fin 5632)) := by
  have e : ∀ (p : Fin 1024) (q : Fin 5632), Cert.GwUpRefIdeal.Read.val_main_v5 (F := Ideal) X G (ix2 p q) = ∑ k : Fin 8192, X (ix2 k p) * G (ix2 k q) := by
    intro p q
    pointwise [Cert.GwUpRefIdeal.Read.val_main_v5, Cert.GwUpRefIdeal.Read.val_main_v4, Cert.GwUpRefIdeal.Read.val_main_v3, Cert.GwUpRefIdeal.Read.val_main_v1]
    exact Finset.sum_congr rfl fun k _ => mul_comm _ _
  rw [eq_ix3 i]
  generalize i 0 = s, i 1 = a, i 2 = b
  fin_cases s <;> pointwise [Cert.GwUpRefIdeal.Read.val_main_v15, Cert.GwUpRefIdeal.Read.val_main_v14, Cert.GwUpRefIdeal.Read.val_main_v13, Cert.GwUpRefIdeal.Read.val_main_v12,
    Cert.GwUpRefIdeal.Read.val_main_v11, Cert.GwUpRefIdeal.Read.val_main_v10, Cert.GwUpRefIdeal.Read.val_main_v9, Cert.GwUpRefIdeal.Read.val_main_v8,
    Cert.GwUpRefIdeal.Read.val_main_v7, Cert.GwUpRefIdeal.Read.val_main_v6, e]

variable (m : (ℓ : Loc nD τ sig) → Buf (Elt Ideal) ℓ) (c : Dev nD)

/-- The blocks a point reads. -/
def bX (t : Fin cfg0.N) : S2048x1024.Idx → EReal := iblk m c 0 t
def bG (t : Fin cfg0.N) : S2048x1408.Idx → EReal := iblk m c 1 t

theorem index : ∀ t : Fin cfg0.N, win0_0.index t = ![t.val % 4, 0] ∧ win0_1.index t = ![t.val % 4, t.val / 4] ∧ win0_2.index t = ![t.val / 4, 0, 0] :=
  (by decide +kernel : ∀ t : Fin grid0.N, _)

theorem last : ∀ t : Fin cfg0.N, (cfg0.win 2).flush t = true → t.val % 4 = 4 - 1 := (by decide +kernel : ∀ t : Fin grid0.N, _)

/-- The held block after a point: its product, added to what the point before held. -/
theorem held (t : Fin cfg0.N) (j : S1024x1408.Idx) (h : ¬t.val % 4 = 0) :
    ((outsAt0 m c t.val t.isLt).2 : S1024x1408.Idx → EReal) j
      = ((outsAt0 m c (t.val - 1) (Nat.lt_of_le_of_lt (Nat.sub_le _ _) t.isLt)).2 j : EReal)
        + ∑ k : Fin 2048, bX m c t (ix2 k (j 0)) * bG m c t (ix2 k (j 1)) := by
  by_cases h1 : t.val % 4 = 3
  · rw [outsAt0_C m c t h h1]
    frame_out
    rw [step_apply]
    exact congrArg (· + _) (congrFun ((Memref.isWhole_whole cc0_scratch0).read_unread (outsAt0 m c (t.val - 1) _).2) j)
  · rw [outsAt0_B m c t h h1]
    frame_out
    rw [step_apply]
    exact congrArg (· + _) (congrFun ((Memref.isWhole_whole cc0_scratch0).read_unread (outsAt0 m c (t.val - 1) _).2) j)

theorem result : (dats m 0 c).arrAt 2 cfg0.N
    = Cert.GwUpRefIdeal.Read.val_main_v15 (F := Ideal) (m ((c : Thread nD τ).loc main_arg0)) (m ((c : Thread nD τ).loc main_arg1)) := by
  refine (dats m 0 c).arrAt_eq_of_covers 2 _ (by decide +kernel) fun t hf y => ?_
  have h := last t hf
  obtain ⟨-, -, e2⟩ := index t
  have hw : (outsAt0 m c t.val t.isLt).1 = k0_pay3 (outsAt0 m c t.val t.isLt).2 := by
    rw [outsAt0_C m c t (by omega) h]
    frame_out
  rw [ref_apply]
  blk_simp
  rw [after0_2, hw, written_apply]
  refine fold_four (fun n h => (outsAt0 m c n h).2) (fun t j k => bX m c t (ix2 k (j 0))) (fun t j k => bG m c t (ix2 k (j 1)))
    (fun t h j => ?_) (fun t h j => held m c t j h) t h (ix2 (y 1) (y 2)) fun p q k hl hp => ?_
  · rw [outsAt0_A m c t h (by omega)]
    frame_out
    rw [step_apply, zero_apply]
    rfl
  · obtain ⟨e0, e1, -⟩ := index p
    unfold bX bG
    constructor
    · blk_ext [iblk, V, e0, e2]
    · blk_ext [iblk, V, e1, e2]

theorem ref_frame : Cert.quiescent_GwUpRefIdeal (hGwUpRefIdeal := Cert.GwUpRefIdeal.Gen.facts) := fun m g _ =>
  (θ_run _ _ _).mono (fun r h => ⟨fun c => (h c).2, sem_eq_zero_of_no_sems rfl r.2⟩) (Cert.GwUpRefIdeal.Value.run (F := Ideal) m g)

theorem algebraic : Cert.algebraic_GwUpIdeal_GwUpRefIdeal (hGwUpIdeal := facts) (hGwUpRefIdeal := Cert.GwUpRefIdeal.Gen.facts) := by
  intro m g m' g' _ ha
  refine ⟨fun c => (dats m 0 c).arrAt 2 cfg0.N, run_blocks m g, (θ_run _ _ _).mono (fun r h c => ?_) (Cert.GwUpRefIdeal.Value.run (F := Ideal) m' g')⟩
  refine ⟨(h c).1.trans ((Cert.GwUpRefIdeal.Read.val_main_v15_eq _ _).trans ?_), (h c).2⟩
  rw [(ha c).1, (ha c).2]
  exact (result m c).symm

end Cert.Mm.GwUp

end
-- ==== Proof.Mm.DH2.lean ====
/- The gradient of the MLP's first product in its input: the cotangent times the transpose of the weight's four shards, one shard after another. -/
module

public import proofs.«01_k».proof.Defs
public import proofs.«01_k».proof.Proof.Gen.DH2Ideal.Value
public import proofs.«01_k».proof.Proof.Gen.DH2RefIdeal.Read
public import proofs.«01_k».proof.Proof.Mm.Blocks
public import Idealize.ShloMosaic.Lib.Claim
public import Idealize.ShloMosaic.Lib.Quiescent
public import Idealize.ShloMosaic.Lib.Pointwise

@[expose] public section

noncomputable section

namespace Cert.Mm.DH2

open Cert.DH2Ideal Cert.DH2Ideal.Gen Cert.DH2Ideal.Value Idealize.ShloMosaic Idealize.ShloMosaic.TcCoe Idealize.SL.Sem

/-- One block's product, added to what is held. -/
theorem step_apply (acc : Vec Ideal S1024x1024 .f32) (x : Vec Ideal S1024x1408 .bf16) (g : Vec Ideal S1x1024x1408 .bf16) (j : S1024x1024.Idx) :
    (k0_pay2 acc x g : S1024x1024.Idx → EReal) j = (acc j : EReal) + ∑ k : Fin 1408, (x (ix2 (j 0) k) : EReal) * (g (ix3 0 (j 1) k) : EReal) := by
  pointwise [k0_pay2]

theorem zero_apply (j : S1024x1024.Idx) : (k0_pay1 (F := Ideal) : S1024x1024.Idx → EReal) j = 0 := by
  pointwise [k0_pay1]

/-- The whole weight of its four shards of columns. -/
theorem columns_apply (W : Cert.DH2RefIdeal.S4x1024x1408.Idx → EReal) (k : Fin 1024) (l : Fin 5632) :
    (Cert.DH2RefIdeal.Read.val_main_v8 (F := Ideal) W : Cert.DH2RefIdeal.S1024x5632.Idx → EReal) (ix2 k l)
      = W (ix3 (⟨l.val / 1408, Nat.div_lt_of_lt_mul l.isLt⟩ : Fin 4) k (⟨l.val % 1408, Nat.mod_lt _ (by decide)⟩ : Fin 1408)) := by
  pointwise [Cert.DH2RefIdeal.Read.val_main_v8, Cert.DH2RefIdeal.Read.val_main_v7, Cert.DH2RefIdeal.Read.val_main_v6, Cert.DH2RefIdeal.Read.val_main_v5,
    Cert.DH2RefIdeal.Read.val_main_v4, Cert.DH2RefIdeal.Read.val_main_v3, Cert.DH2RefIdeal.Read.val_main_v2, Cert.DH2RefIdeal.Read.val_main_v1, Cert.DH2RefIdeal.Read.val_main_v0]
  have e : ∀ (s : Fin 4) (r : ℕ) (hr : r < 1408), s.val = l.val / 1408 → r = l.val % 1408 → W (ix3 s k ⟨r, hr⟩)
      = W (ix3 (⟨l.val / 1408, Nat.div_lt_of_lt_mul l.isLt⟩ : Fin 4) k (⟨l.val % 1408, Nat.mod_lt _ (by decide)⟩ : Fin 1408)) :=
    fun s r hr hs hb => congrArg₂ (fun s b => W (ix3 s k b)) (Fin.ext hs) (Fin.ext hb)
  have hl := l.isLt
  split_ifs <;> first
    | exact e 0 _ _ (by show 0 = l.val / 1408; omega) (by omega)
    | exact e 1 _ _ (by show 1 = l.val / 1408; omega) (by omega)
    | exact e 2 _ _ (by show 2 = l.val / 1408; omega) (by omega)
    | exact e 3 _ _ (by show 3 = l.val / 1408; omega) (by omega)

/-- The reference. -/
theorem ref_apply (X : Cert.DH2RefIdeal.S8192x5632.Idx → EReal) (G : Cert.DH2RefIdeal.S4x1024x1408.Idx → EReal) (i : Cert.DH2RefIdeal.S8192x1024.Idx) :
    (Cert.DH2RefIdeal.Read.val_main_v13 (F := Ideal) X G : Cert.DH2RefIdeal.S8192x1024.Idx → EReal) i = ∑ k : Fin 5632, X (ix2 (i 0) k) * G (ix3 (⟨k.val / 1408, Nat.div_lt_of_lt_mul k.isLt⟩ : Fin 4) (i 1) (⟨k.val % 1408, Nat.mod_lt _ (by decide)⟩ : Fin 1408)) := by
  pointwise [Cert.DH2RefIdeal.Read.val_main_v13, Cert.DH2RefIdeal.Read.val_main_v12, Cert.DH2RefIdeal.Read.val_main_v10, columns_apply]

variable (m : (ℓ : Loc nD τ sig) → Buf (Elt Ideal) ℓ) (c : Dev nD)

/-- The blocks a point reads. -/
def bX (t : Fin cfg0.N) : S1024x1408.Idx → EReal := iblk m c 0 t
def bG (t : Fin cfg0.N) : S1x1024x1408.Idx → EReal := iblk m c 1 t

theorem index : ∀ t : Fin cfg0.N, win0_0.index t = ![t.val / 4, t.val % 4] ∧ win0_1.index t = ![t.val % 4, 0, 0] ∧ win0_2.index t = ![t.val / 4, 0] :=
  (by decide +kernel : ∀ t : Fin grid0.N, _)

theorem last : ∀ t : Fin cfg0.N, (cfg0.win 2).flush t = true → t.val % 4 = 4 - 1 := (by decide +kernel : ∀ t : Fin grid0.N, _)

/-- The held block after a point: its product, added to what the point before held. -/
theorem held (t : Fin cfg0.N) (j : S1024x1024.Idx) (h : ¬t.val % 4 = 0) :
    ((outsAt0 m c t.val t.isLt).2 : S1024x1024.Idx → EReal) j
      = ((outsAt0 m c (t.val - 1) (Nat.lt_of_le_of_lt (Nat.sub_le _ _) t.isLt)).2 j : EReal)
        + ∑ k : Fin 1408, bX m c t (ix2 (j 0) k) * bG m c t (ix3 0 (j 1) k) := by
  by_cases h1 : t.val % 4 = 3
  · rw [outsAt0_C m c t h h1]
    frame_out
    rw [step_apply]
    exact congrArg (· + _) (congrFun ((Memref.isWhole_whole cc0_scratch0).read_unread (outsAt0 m c (t.val - 1) _).2) j)
  · rw [outsAt0_B m c t h h1]
    frame_out
    rw [step_apply]
    exact congrArg (· + _) (congrFun ((Memref.isWhole_whole cc0_scratch0).read_unread (outsAt0 m c (t.val - 1) _).2) j)

theorem result : (dats m 0 c).arrAt 2 cfg0.N
    = Cert.DH2RefIdeal.Read.val_main_v13 (F := Ideal) (m ((c : Thread nD τ).loc main_arg0)) (m ((c : Thread nD τ).loc main_arg1)) := by
  refine (dats m 0 c).arrAt_eq_of_covers 2 _ (by decide +kernel) fun t hf y => ?_
  have h := last t hf
  obtain ⟨-, -, e2⟩ := index t
  have hw : (outsAt0 m c t.val t.isLt).1 = (outsAt0 m c t.val t.isLt).2 := by
    rw [outsAt0_C m c t (by omega) h]
    frame_out
  rw [ref_apply]
  blk_simp
  rw [after0_2, hw]
  refine fold_four (fun n h => (outsAt0 m c n h).2) (fun t j k => bX m c t (ix2 (j 0) k)) (fun t j k => bG m c t (ix3 0 (j 1) k))
    (fun t h j => ?_) (fun t h j => held m c t j h) t h y fun p q k hl hp => ?_
  · rw [outsAt0_A m c t h (by omega)]
    frame_out
    rw [step_apply, zero_apply]
    rfl
  · obtain ⟨e0, e1, -⟩ := index p
    unfold bX bG
    constructor
    · blk_ext [iblk, V, e0, e2]
    · blk_ext [iblk, V, e1, e2]

theorem ref_frame : Cert.quiescent_DH2RefIdeal (hDH2RefIdeal := Cert.DH2RefIdeal.Gen.facts) := fun m g _ =>
  (θ_run _ _ _).mono (fun r h => ⟨fun c => (h c).2, sem_eq_zero_of_no_sems rfl r.2⟩) (Cert.DH2RefIdeal.Value.run (F := Ideal) m g)

theorem algebraic : Cert.algebraic_DH2Ideal_DH2RefIdeal (hDH2Ideal := facts) (hDH2RefIdeal := Cert.DH2RefIdeal.Gen.facts) := by
  intro m g m' g' _ ha
  refine ⟨fun c => (dats m 0 c).arrAt 2 cfg0.N, run_blocks m g, (θ_run _ _ _).mono (fun r h c => ?_) (Cert.DH2RefIdeal.Value.run (F := Ideal) m' g')⟩
  refine ⟨(h c).1.trans ((Cert.DH2RefIdeal.Read.val_main_v13_eq _ _).trans ?_), (h c).2⟩
  rw [(ha c).1, (ha c).2]
  exact (result m c).symm

end Cert.Mm.DH2

end
-- ==== Proof.Mm.GwQkv.lean ====
/- The gradient of the projection of q, k and v in its weight: the activations' transpose times the cotangent, summed over the tokens in
four blocks of 2048. -/
module

public import proofs.«01_k».proof.Defs
public import proofs.«01_k».proof.Proof.Gen.GwQkvIdeal.Value
public import proofs.«01_k».proof.Proof.Gen.GwQkvRefIdeal.Read
public import proofs.«01_k».proof.Proof.Mm.Blocks
public import Idealize.ShloMosaic.Lib.Claim
public import Idealize.ShloMosaic.Lib.Quiescent
public import Idealize.ShloMosaic.Lib.Pointwise

@[expose] public section

noncomputable section

namespace Cert.Mm.GwQkv

open Cert.GwQkvIdeal Cert.GwQkvIdeal.Gen Cert.GwQkvIdeal.Value Idealize.ShloMosaic Idealize.ShloMosaic.TcCoe Idealize.SL.Sem

/-- One block's product, added to what is held. -/
theorem step_apply (acc : Vec Ideal S1024x1536 .f32) (x : Vec Ideal S2048x1024 .bf16) (g : Vec Ideal S2048x1536 .bf16) (j : S1024x1536.Idx) :
    (k0_pay2 acc x g : S1024x1536.Idx → EReal) j = (acc j : EReal) + ∑ k : Fin 2048, (x (ix2 k (j 0)) : EReal) * (g (ix2 k (j 1)) : EReal) := by
  pointwise [k0_pay2]

theorem zero_apply (j : S1024x1536.Idx) : (k0_pay1 (F := Ideal) : S1024x1536.Idx → EReal) j = 0 := by
  pointwise [k0_pay1]

theorem written_apply (acc : Vec Ideal S1024x1536 .f32) (j : S1024x1536.Idx) : (k0_pay3 acc : S1024x1536.Idx → EReal) j = (acc j : EReal) := by
  pointwise [k0_pay3]

/-- The reference. -/
theorem ref_apply (X : Cert.GwQkvRefIdeal.S8192x1024.Idx → EReal) (G : Cert.GwQkvRefIdeal.S8192x3072.Idx → EReal) (i : Cert.GwQkvRefIdeal.S1024x3072.Idx) :
    (Cert.GwQkvRefIdeal.Read.val_main_v6 (F := Ideal) X G : Cert.GwQkvRefIdeal.S1024x3072.Idx → EReal) i = ∑ k : Fin 8192, X (ix2 k (i 0)) * G (ix2 k (i 1)) := by
  pointwise [Cert.GwQkvRefIdeal.Read.val_main_v6, Cert.GwQkvRefIdeal.Read.val_main_v5, Cert.GwQkvRefIdeal.Read.val_main_v4, Cert.GwQkvRefIdeal.Read.val_main_v3, Cert.GwQkvRefIdeal.Read.val_main_v1]
  exact Finset.sum_congr rfl fun k _ => mul_comm _ _

variable (m : (ℓ : Loc nD τ sig) → Buf (Elt Ideal) ℓ) (c : Dev nD)

/-- The blocks a point reads. -/
def bX (t : Fin cfg0.N) : S2048x1024.Idx → EReal := iblk m c 0 t
def bG (t : Fin cfg0.N) : S2048x1536.Idx → EReal := iblk m c 1 t

theorem index : ∀ t : Fin cfg0.N, win0_0.index t = ![t.val % 4, 0] ∧ win0_1.index t = ![t.val % 4, t.val / 4] ∧ win0_2.index t = ![0, t.val / 4] :=
  (by decide +kernel : ∀ t : Fin grid0.N, _)

theorem last : ∀ t : Fin cfg0.N, (cfg0.win 2).flush t = true → t.val % 4 = 4 - 1 := (by decide +kernel : ∀ t : Fin grid0.N, _)

/-- The held block after a point: its product, added to what the point before held. -/
theorem held (t : Fin cfg0.N) (j : S1024x1536.Idx) (h : ¬t.val % 4 = 0) :
    ((outsAt0 m c t.val t.isLt).2 : S1024x1536.Idx → EReal) j
      = ((outsAt0 m c (t.val - 1) (Nat.lt_of_le_of_lt (Nat.sub_le _ _) t.isLt)).2 j : EReal)
        + ∑ k : Fin 2048, bX m c t (ix2 k (j 0)) * bG m c t (ix2 k (j 1)) := by
  by_cases h1 : t.val % 4 = 3
  · rw [outsAt0_C m c t h h1]
    frame_out
    rw [step_apply]
    exact congrArg (· + _) (congrFun ((Memref.isWhole_whole cc0_scratch0).read_unread (outsAt0 m c (t.val - 1) _).2) j)
  · rw [outsAt0_B m c t h h1]
    frame_out
    rw [step_apply]
    exact congrArg (· + _) (congrFun ((Memref.isWhole_whole cc0_scratch0).read_unread (outsAt0 m c (t.val - 1) _).2) j)

theorem result : (dats m 0 c).arrAt 2 cfg0.N
    = Cert.GwQkvRefIdeal.Read.val_main_v6 (F := Ideal) (m ((c : Thread nD τ).loc main_arg0)) (m ((c : Thread nD τ).loc main_arg1)) := by
  refine (dats m 0 c).arrAt_eq_of_covers 2 _ (by decide +kernel) fun t hf y => ?_
  have h := last t hf
  obtain ⟨-, -, e2⟩ := index t
  have hw : (outsAt0 m c t.val t.isLt).1 = k0_pay3 (outsAt0 m c t.val t.isLt).2 := by
    rw [outsAt0_C m c t (by omega) h]
    frame_out
  rw [ref_apply]
  blk_simp
  rw [after0_2, hw, written_apply]
  refine fold_four (fun n h => (outsAt0 m c n h).2) (fun t j k => bX m c t (ix2 k (j 0))) (fun t j k => bG m c t (ix2 k (j 1)))
    (fun t h j => ?_) (fun t h j => held m c t j h) t h y fun p q k hl hp => ?_
  · rw [outsAt0_A m c t h (by omega)]
    frame_out
    rw [step_apply, zero_apply]
    rfl
  · obtain ⟨e0, e1, -⟩ := index p
    unfold bX bG
    constructor
    · blk_ext [iblk, V, e0, e2]
    · blk_ext [iblk, V, e1, e2]

theorem ref_frame : Cert.quiescent_GwQkvRefIdeal (hGwQkvRefIdeal := Cert.GwQkvRefIdeal.Gen.facts) := fun m g _ =>
  (θ_run _ _ _).mono (fun r h => ⟨fun c => (h c).2, sem_eq_zero_of_no_sems rfl r.2⟩) (Cert.GwQkvRefIdeal.Value.run (F := Ideal) m g)

theorem algebraic : Cert.algebraic_GwQkvIdeal_GwQkvRefIdeal (hGwQkvIdeal := facts) (hGwQkvRefIdeal := Cert.GwQkvRefIdeal.Gen.facts) := by
  intro m g m' g' _ ha
  refine ⟨fun c => (dats m 0 c).arrAt 2 cfg0.N, run_blocks m g, (θ_run _ _ _).mono (fun r h c => ?_) (Cert.GwQkvRefIdeal.Value.run (F := Ideal) m' g')⟩
  refine ⟨(h c).1.trans ((Cert.GwQkvRefIdeal.Read.val_main_v6_eq _ _).trans ?_), (h c).2⟩
  rw [(ha c).1, (ha c).2]
  exact (result m c).symm

end Cert.Mm.GwQkv

end
-- ==== Proof.Mm.DH1.lean ====
/- The gradient of the projection of q, k and v in its input, added to the gradient that the other projections left: the cotangent times the weight's
transpose, one block of rows at a time. -/
module

public import proofs.«01_k».proof.Defs
public import proofs.«01_k».proof.Proof.Gen.DH1Ideal.Value
public import proofs.«01_k».proof.Proof.Gen.DH1RefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Mm.DH1

open Cert.DH1Ideal Cert.DH1Ideal.Gen Cert.DH1Ideal.Value Idealize.ShloMosaic Idealize.ShloMosaic.TcCoe Idealize.SL.Sem

/-- One point's block. -/
theorem block_apply (a : Vec Ideal S1024x1024 .f32) (x : Vec Ideal S1024x3072 .bf16) (w : Vec Ideal S1024x3072 .bf16) (j : S1024x1024.Idx) :
    (k0_pay2 (k0_pay1 a) x w : S1024x1024.Idx → EReal) j = (a j : EReal) + ∑ k : Fin 3072, (x (ix2 (j 0) k) : EReal) * (w (ix2 (j 1) k) : EReal) := by
  pointwise [k0_pay1, k0_pay2]

/-- The reference. -/
theorem ref_apply (A : Cert.DH1RefIdeal.S8192x1024.Idx → EReal) (X : Cert.DH1RefIdeal.S8192x3072.Idx → EReal) (W : Cert.DH1RefIdeal.S1024x3072.Idx → EReal) (i : Cert.DH1RefIdeal.S8192x1024.Idx) :
    (Cert.DH1RefIdeal.Read.val_main_v5 (F := Ideal) X W A : Cert.DH1RefIdeal.S8192x1024.Idx → EReal) i = A i + ∑ k : Fin 3072, X (ix2 (i 0) k) * W (ix2 (i 1) k) := by
  pointwise [Cert.DH1RefIdeal.Read.val_main_v5, Cert.DH1RefIdeal.Read.val_main_v4, Cert.DH1RefIdeal.Read.val_main_v3, Cert.DH1RefIdeal.Read.val_main_v1]

variable (m : (ℓ : Loc nD τ sig) → Buf (Elt Ideal) ℓ) (c : Dev nD)

theorem index : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem result : (dats m 0 c).arrAt 3 cfg0.N
    = Cert.DH1RefIdeal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1, e2, e3⟩ := index t
  rw [ref_apply]
  blk_simp
  rw [after0_3]
  unfold outsAt0
  frame_out
  rw [block_apply]
  refine congrArg₂ (· + ·) (by blk_ext [iblk, V, e2, e3]) (Fin.sum_fin_congr fun k => ?_)
  congr 1
  · blk_ext [iblk, V, e0, e3]
  · blk_ext [iblk, V, e1, e3]

theorem ref_frame : Cert.quiescent_DH1RefIdeal (hDH1RefIdeal := Cert.DH1RefIdeal.Gen.facts) := fun m g _ =>
  (θ_run _ _ _).mono (fun r h => ⟨fun c => (h c).2, sem_eq_zero_of_no_sems rfl r.2⟩) (Cert.DH1RefIdeal.Value.run (F := Ideal) m g)

theorem algebraic : Cert.algebraic_DH1Ideal_DH1RefIdeal (hDH1Ideal := facts) (hDH1RefIdeal := Cert.DH1RefIdeal.Gen.facts) := by
  intro m g m' g' _ ha
  refine ⟨fun c => (dats m 0 c).arrAt 3 cfg0.N, run_blocks m g, (θ_run _ _ _).mono (fun r h c => ?_) (Cert.DH1RefIdeal.Value.run (F := Ideal) m' g')⟩
  refine ⟨(h c).1.trans ((Cert.DH1RefIdeal.Read.val_main_v5_eq _ _ _).trans ?_), (h c).2⟩
  rw [(ha c).1, (ha c).2.1, (ha c).2.2]
  exact (result m c).symm

end Cert.Mm.DH1

end
-- ==== Proof.Mm.GwDown.lean ====
/- The gradient of the MLP's second product in its weight: the activations' transpose times the cotangent, summed over the tokens in
four blocks of 2048. -/
module

public import proofs.«01_k».proof.Defs
public import proofs.«01_k».proof.Proof.Gen.GwDownIdeal.Value
public import proofs.«01_k».proof.Proof.Gen.GwDownRefIdeal.Read
public import proofs.«01_k».proof.Proof.Mm.Blocks
public import Idealize.ShloMosaic.Lib.Claim
public import Idealize.ShloMosaic.Lib.Quiescent
public import Idealize.ShloMosaic.Lib.Pointwise

@[expose] public section

noncomputable section

namespace Cert.Mm.GwDown

open Cert.GwDownIdeal Cert.GwDownIdeal.Gen Cert.GwDownIdeal.Value Idealize.ShloMosaic Idealize.ShloMosaic.TcCoe Idealize.SL.Sem

/-- One block's product, added to what is held. -/
theorem step_apply (acc : Vec Ideal S1408x1024 .f32) (x : Vec Ideal S2048x1408 .bf16) (g : Vec Ideal S2048x1024 .bf16) (j : S1408x1024.Idx) :
    (k0_pay2 acc x g : S1408x1024.Idx → EReal) j = (acc j : EReal) + ∑ k : Fin 2048, (x (ix2 k (j 0)) : EReal) * (g (ix2 k (j 1)) : EReal) := by
  pointwise [k0_pay2]

theorem zero_apply (j : S1408x1024.Idx) : (k0_pay1 (F := Ideal) : S1408x1024.Idx → EReal) j = 0 := by
  pointwise [k0_pay1]

theorem written_apply (acc : Vec Ideal S1408x1024 .f32) (j : S1408x1024.Idx) : (k0_pay3 acc : S1408x1024.Idx → EReal) j = (acc j : EReal) := by
  pointwise [k0_pay3]

/-- The reference. -/
theorem ref_apply (X : Cert.GwDownRefIdeal.S8192x2816.Idx → EReal) (G : Cert.GwDownRefIdeal.S8192x1024.Idx → EReal) (i : Cert.GwDownRefIdeal.S2816x1024.Idx) :
    (Cert.GwDownRefIdeal.Read.val_main_v6 (F := Ideal) X G : Cert.GwDownRefIdeal.S2816x1024.Idx → EReal) i = ∑ k : Fin 8192, X (ix2 k (i 0)) * G (ix2 k (i 1)) := by
  pointwise [Cert.GwDownRefIdeal.Read.val_main_v6, Cert.GwDownRefIdeal.Read.val_main_v5, Cert.GwDownRefIdeal.Read.val_main_v4, Cert.GwDownRefIdeal.Read.val_main_v3, Cert.GwDownRefIdeal.Read.val_main_v1]
  exact Finset.sum_congr rfl fun k _ => mul_comm _ _

variable (m : (ℓ : Loc nD τ sig) → Buf (Elt Ideal) ℓ) (c : Dev nD)

/-- The blocks a point reads. -/
def bX (t : Fin cfg0.N) : S2048x1408.Idx → EReal := iblk m c 0 t
def bG (t : Fin cfg0.N) : S2048x1024.Idx → EReal := iblk m c 1 t

theorem index : ∀ t : Fin cfg0.N, win0_0.index t = ![t.val % 4, t.val / 4] ∧ win0_1.index t = ![t.val % 4, 0] ∧ win0_2.index t = ![t.val / 4, 0] :=
  (by decide +kernel : ∀ t : Fin grid0.N, _)

theorem last : ∀ t : Fin cfg0.N, (cfg0.win 2).flush t = true → t.val % 4 = 4 - 1 := (by decide +kernel : ∀ t : Fin grid0.N, _)

/-- The held block after a point: its product, added to what the point before held. -/
theorem held (t : Fin cfg0.N) (j : S1408x1024.Idx) (h : ¬t.val % 4 = 0) :
    ((outsAt0 m c t.val t.isLt).2 : S1408x1024.Idx → EReal) j
      = ((outsAt0 m c (t.val - 1) (Nat.lt_of_le_of_lt (Nat.sub_le _ _) t.isLt)).2 j : EReal)
        + ∑ k : Fin 2048, bX m c t (ix2 k (j 0)) * bG m c t (ix2 k (j 1)) := by
  by_cases h1 : t.val % 4 = 3
  · rw [outsAt0_C m c t h h1]
    frame_out
    rw [step_apply]
    exact congrArg (· + _) (congrFun ((Memref.isWhole_whole cc0_scratch0).read_unread (outsAt0 m c (t.val - 1) _).2) j)
  · rw [outsAt0_B m c t h h1]
    frame_out
    rw [step_apply]
    exact congrArg (· + _) (congrFun ((Memref.isWhole_whole cc0_scratch0).read_unread (outsAt0 m c (t.val - 1) _).2) j)

theorem result : (dats m 0 c).arrAt 2 cfg0.N
    = Cert.GwDownRefIdeal.Read.val_main_v6 (F := Ideal) (m ((c : Thread nD τ).loc main_arg0)) (m ((c : Thread nD τ).loc main_arg1)) := by
  refine (dats m 0 c).arrAt_eq_of_covers 2 _ (by decide +kernel) fun t hf y => ?_
  have h := last t hf
  obtain ⟨-, -, e2⟩ := index t
  have hw : (outsAt0 m c t.val t.isLt).1 = k0_pay3 (outsAt0 m c t.val t.isLt).2 := by
    rw [outsAt0_C m c t (by omega) h]
    frame_out
  rw [ref_apply]
  blk_simp
  rw [after0_2, hw, written_apply]
  refine fold_four (fun n h => (outsAt0 m c n h).2) (fun t j k => bX m c t (ix2 k (j 0))) (fun t j k => bG m c t (ix2 k (j 1)))
    (fun t h j => ?_) (fun t h j => held m c t j h) t h y fun p q k hl hp => ?_
  · rw [outsAt0_A m c t h (by omega)]
    frame_out
    rw [step_apply, zero_apply]
    rfl
  · obtain ⟨e0, e1, -⟩ := index p
    unfold bX bG
    constructor
    · blk_ext [iblk, V, e0, e2]
    · blk_ext [iblk, V, e1, e2]

theorem ref_frame : Cert.quiescent_GwDownRefIdeal (hGwDownRefIdeal := Cert.GwDownRefIdeal.Gen.facts) := fun m g _ =>
  (θ_run _ _ _).mono (fun r h => ⟨fun c => (h c).2, sem_eq_zero_of_no_sems rfl r.2⟩) (Cert.GwDownRefIdeal.Value.run (F := Ideal) m g)

theorem algebraic : Cert.algebraic_GwDownIdeal_GwDownRefIdeal (hGwDownIdeal := facts) (hGwDownRefIdeal := Cert.GwDownRefIdeal.Gen.facts) := by
  intro m g m' g' _ ha
  refine ⟨fun c => (dats m 0 c).arrAt 2 cfg0.N, run_blocks m g, (θ_run _ _ _).mono (fun r h c => ?_) (Cert.GwDownRefIdeal.Value.run (F := Ideal) m' g')⟩
  refine ⟨(h c).1.trans ((Cert.GwDownRefIdeal.Read.val_main_v6_eq _ _).trans ?_), (h c).2⟩
  rw [(ha c).1, (ha c).2]
  exact (result m c).symm

end Cert.Mm.GwDown

end
-- ==== Proof.Mm.DAct.lean ====
/- The gradient of the MLP's second product in its input: the cotangent times the weight's transpose, one block of outputs at a time. -/
module

public import proofs.«01_k».proof.Defs
public import proofs.«01_k».proof.Proof.Gen.DActIdeal.Value
public import proofs.«01_k».proof.Proof.Gen.DActRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Mm.DAct

open Cert.DActIdeal Cert.DActIdeal.Gen Cert.DActIdeal.Value Idealize.ShloMosaic Idealize.ShloMosaic.TcCoe Idealize.SL.Sem

/-- One point's block. -/
theorem block_apply (x : Vec Ideal S1024x1024 .bf16) (w : Vec Ideal S1408x1024 .bf16) (j : S1024x1408.Idx) :
    (k0_pay3 (k0_pay2 k0_pay1 x w) : S1024x1408.Idx → EReal) j = ∑ k : Fin 1024, (x (ix2 (j 0) k) : EReal) * (w (ix2 (j 1) k) : EReal) := by
  pointwise [k0_pay1, k0_pay2, k0_pay3]

/-- The reference. -/
theorem ref_apply (X : Cert.DActRefIdeal.S8192x1024.Idx → EReal) (W : Cert.DActRefIdeal.S2816x1024.Idx → EReal) (i : Cert.DActRefIdeal.S8192x2816.Idx) :
    (Cert.DActRefIdeal.Read.val_main_v5 (F := Ideal) X W : Cert.DActRefIdeal.S8192x2816.Idx → EReal) i = ∑ k : Fin 1024, X (ix2 (i 0) k) * W (ix2 (i 1) k) := by
  pointwise [Cert.DActRefIdeal.Read.val_main_v5, Cert.DActRefIdeal.Read.val_main_v4, Cert.DActRefIdeal.Read.val_main_v3, Cert.DActRefIdeal.Read.val_main_v1]

variable (m : (ℓ : Loc nD τ sig) → Buf (Elt Ideal) ℓ) (c : Dev nD)

theorem index : ∀ t : Fin cfg0.N, win0_0.index t = ![t.val / 2, 0] ∧ win0_1.index t = ![t.val % 2, 0] ∧ win0_2.index t = ![t.val / 2, t.val % 2] :=
  (by decide +kernel : ∀ t : Fin grid0.N, _)

theorem result : (dats m 0 c).arrAt 2 cfg0.N
    = Cert.DActRefIdeal.Read.val_main_v5 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index t
  rw [ref_apply]
  blk_simp
  rw [after0_2]
  unfold outsAt0
  frame_out
  rw [block_apply]
  refine Fin.sum_fin_congr fun k => ?_
  congr 1
  · blk_ext [iblk, V, e0, e2]
  · blk_ext [iblk, V, e1, e2]

theorem ref_frame : Cert.quiescent_DActRefIdeal (hDActRefIdeal := Cert.DActRefIdeal.Gen.facts) := fun m g _ =>
  (θ_run _ _ _).mono (fun r h => ⟨fun c => (h c).2, sem_eq_zero_of_no_sems rfl r.2⟩) (Cert.DActRefIdeal.Value.run (F := Ideal) m g)

theorem algebraic : Cert.algebraic_DActIdeal_DActRefIdeal (hDActIdeal := facts) (hDActRefIdeal := Cert.DActRefIdeal.Gen.facts) := by
  intro m g m' g' _ ha
  refine ⟨fun c => (dats m 0 c).arrAt 2 cfg0.N, run_blocks m g, (θ_run _ _ _).mono (fun r h c => ?_) (Cert.DActRefIdeal.Value.run (F := Ideal) m' g')⟩
  refine ⟨(h c).1.trans ((Cert.DActRefIdeal.Read.val_main_v5_eq _ _).trans ?_), (h c).2⟩
  rw [(ha c).1, (ha c).2]
  exact (result m c).symm

end Cert.Mm.DAct

end
-- ==== Proof.Mm.GwO.lean ====
/- The gradient of the output projection in its weight: the activations' transpose times the cotangent, summed over the tokens in
four blocks of 2048. -/
module

public import proofs.«01_k».proof.Defs
public import proofs.«01_k».proof.Proof.Gen.GwOIdeal.Value
public import proofs.«01_k».proof.Proof.Gen.GwORefIdeal.Read
public import proofs.«01_k».proof.Proof.Mm.Blocks
public import Idealize.ShloMosaic.Lib.Claim
public import Idealize.ShloMosaic.Lib.Quiescent
public import Idealize.ShloMosaic.Lib.Pointwise

@[expose] public section

noncomputable section

namespace Cert.Mm.GwO

open Cert.GwOIdeal Cert.GwOIdeal.Gen Cert.GwOIdeal.Value Idealize.ShloMosaic Idealize.ShloMosaic.TcCoe Idealize.SL.Sem

/-- One block's product, added to what is held. -/
theorem step_apply (acc : Vec Ideal S1024x1024 .f32) (x : Vec Ideal S2048x1024 .bf16) (g : Vec Ideal S2048x1024 .bf16) (j : S1024x1024.Idx) :
    (k0_pay2 acc x g : S1024x1024.Idx → EReal) j = (acc j : EReal) + ∑ k : Fin 2048, (x (ix2 k (j 0)) : EReal) * (g (ix2 k (j 1)) : EReal) := by
  pointwise [k0_pay2]

theorem zero_apply (j : S1024x1024.Idx) : (k0_pay1 (F := Ideal) : S1024x1024.Idx → EReal) j = 0 := by
  pointwise [k0_pay1]

theorem written_apply (acc : Vec Ideal S1024x1024 .f32) (j : S1024x1024.Idx) : (k0_pay3 acc : S1024x1024.Idx → EReal) j = (acc j : EReal) := by
  pointwise [k0_pay3]

/-- The reference. -/
theorem ref_apply (X : Cert.GwORefIdeal.S8192x1024.Idx → EReal) (G : Cert.GwORefIdeal.S8192x1024.Idx → EReal) (i : Cert.GwORefIdeal.S1024x1024.Idx) :
    (Cert.GwORefIdeal.Read.val_main_v6 (F := Ideal) X G : Cert.GwORefIdeal.S1024x1024.Idx → EReal) i = ∑ k : Fin 8192, X (ix2 k (i 0)) * G (ix2 k (i 1)) := by
  pointwise [Cert.GwORefIdeal.Read.val_main_v6, Cert.GwORefIdeal.Read.val_main_v5, Cert.GwORefIdeal.Read.val_main_v4, Cert.GwORefIdeal.Read.val_main_v3, Cert.GwORefIdeal.Read.val_main_v1]
  exact Finset.sum_congr rfl fun k _ => mul_comm _ _

variable (m : (ℓ : Loc nD τ sig) → Buf (Elt Ideal) ℓ) (c : Dev nD)

/-- The blocks a point reads. -/
def bX (t : Fin cfg0.N) : S2048x1024.Idx → EReal := iblk m c 0 t
def bG (t : Fin cfg0.N) : S2048x1024.Idx → EReal := iblk m c 1 t

theorem index : ∀ t : Fin cfg0.N, win0_0.index t = ![t.val % 4, 0] ∧ win0_1.index t = ![t.val % 4, 0] ∧ win0_2.index t = ![0, 0] :=
  (by decide +kernel : ∀ t : Fin grid0.N, _)

theorem last : ∀ t : Fin cfg0.N, (cfg0.win 2).flush t = true → t.val % 4 = 4 - 1 := (by decide +kernel : ∀ t : Fin grid0.N, _)

/-- The held block after a point: its product, added to what the point before held. -/
theorem held (t : Fin cfg0.N) (j : S1024x1024.Idx) (h : ¬t.val % 4 = 0) :
    ((outsAt0 m c t.val t.isLt).2 : S1024x1024.Idx → EReal) j
      = ((outsAt0 m c (t.val - 1) (Nat.lt_of_le_of_lt (Nat.sub_le _ _) t.isLt)).2 j : EReal)
        + ∑ k : Fin 2048, bX m c t (ix2 k (j 0)) * bG m c t (ix2 k (j 1)) := by
  by_cases h1 : t.val % 4 = 3
  · rw [outsAt0_C m c t h h1]
    frame_out
    rw [step_apply]
    exact congrArg (· + _) (congrFun ((Memref.isWhole_whole cc0_scratch0).read_unread (outsAt0 m c (t.val - 1) _).2) j)
  · rw [outsAt0_B m c t h h1]
    frame_out
    rw [step_apply]
    exact congrArg (· + _) (congrFun ((Memref.isWhole_whole cc0_scratch0).read_unread (outsAt0 m c (t.val - 1) _).2) j)

theorem result : (dats m 0 c).arrAt 2 cfg0.N
    = Cert.GwORefIdeal.Read.val_main_v6 (F := Ideal) (m ((c : Thread nD τ).loc main_arg0)) (m ((c : Thread nD τ).loc main_arg1)) := by
  refine (dats m 0 c).arrAt_eq_of_covers 2 _ (by decide +kernel) fun t hf y => ?_
  have h := last t hf
  obtain ⟨-, -, e2⟩ := index t
  have hw : (outsAt0 m c t.val t.isLt).1 = k0_pay3 (outsAt0 m c t.val t.isLt).2 := by
    rw [outsAt0_C m c t (by omega) h]
    frame_out
  rw [ref_apply]
  blk_simp
  rw [after0_2, hw, written_apply]
  refine fold_four (fun n h => (outsAt0 m c n h).2) (fun t j k => bX m c t (ix2 k (j 0))) (fun t j k => bG m c t (ix2 k (j 1)))
    (fun t h j => ?_) (fun t h j => held m c t j h) t h y fun p q k hl hp => ?_
  · rw [outsAt0_A m c t h (by omega)]
    frame_out
    rw [step_apply, zero_apply]
    rfl
  · obtain ⟨e0, e1, -⟩ := index p
    unfold bX bG
    constructor
    · blk_ext [iblk, V, e0, e2]
    · blk_ext [iblk, V, e1, e2]

theorem ref_frame : Cert.quiescent_GwORefIdeal (hGwORefIdeal := Cert.GwORefIdeal.Gen.facts) := fun m g _ =>
  (θ_run _ _ _).mono (fun r h => ⟨fun c => (h c).2, sem_eq_zero_of_no_sems rfl r.2⟩) (Cert.GwORefIdeal.Value.run (F := Ideal) m g)

theorem algebraic : Cert.algebraic_GwOIdeal_GwORefIdeal (hGwOIdeal := facts) (hGwORefIdeal := Cert.GwORefIdeal.Gen.facts) := by
  intro m g m' g' _ ha
  refine ⟨fun c => (dats m 0 c).arrAt 2 cfg0.N, run_blocks m g, (θ_run _ _ _).mono (fun r h c => ?_) (Cert.GwORefIdeal.Value.run (F := Ideal) m' g')⟩
  refine ⟨(h c).1.trans ((Cert.GwORefIdeal.Read.val_main_v6_eq _ _).trans ?_), (h c).2⟩
  rw [(ha c).1, (ha c).2]
  exact (result m c).symm

end Cert.Mm.GwO

end
-- ==== Proof.Mm.DMerged.lean ====
/- The gradient of the output projection in its input: the cotangent times the weight's transpose, one block of rows at a time. -/
module

public import proofs.«01_k».proof.Defs
public import proofs.«01_k».proof.Proof.Gen.DMergedIdeal.Value
public import proofs.«01_k».proof.Proof.Gen.DMergedRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Mm.DMerged

open Cert.DMergedIdeal Cert.DMergedIdeal.Gen Cert.DMergedIdeal.Value Idealize.ShloMosaic Idealize.ShloMosaic.TcCoe Idealize.SL.Sem

/-- One point's block. -/
theorem block_apply (x : Vec Ideal S1024x1024 .bf16) (w : Vec Ideal S1024x1024 .bf16) (j : S1024x1024.Idx) :
    (k0_pay3 (k0_pay2 k0_pay1 x w) : S1024x1024.Idx → EReal) j = ∑ k : Fin 1024, (x (ix2 (j 0) k) : EReal) * (w (ix2 (j 1) k) : EReal) := by
  pointwise [k0_pay1, k0_pay2, k0_pay3]

/-- The reference. -/
theorem ref_apply (X : Cert.DMergedRefIdeal.S8192x1024.Idx → EReal) (W : Cert.DMergedRefIdeal.S1024x1024.Idx → EReal) (i : Cert.DMergedRefIdeal.S8192x1024.Idx) :
    (Cert.DMergedRefIdeal.Read.val_main_v5 (F := Ideal) X W : Cert.DMergedRefIdeal.S8192x1024.Idx → EReal) i = ∑ k : Fin 1024, X (ix2 (i 0) k) * W (ix2 (i 1) k) := by
  pointwise [Cert.DMergedRefIdeal.Read.val_main_v5, Cert.DMergedRefIdeal.Read.val_main_v4, Cert.DMergedRefIdeal.Read.val_main_v3, Cert.DMergedRefIdeal.Read.val_main_v1]

variable (m : (ℓ : Loc nD τ sig) → Buf (Elt Ideal) ℓ) (c : Dev nD)

theorem index : ∀ t : Fin cfg0.N, win0_0.index t = ![t.val, 0] ∧ win0_1.index t = ![0, 0] ∧ win0_2.index t = ![t.val, 0] :=
  (by decide +kernel : ∀ t : Fin grid0.N, _)

theorem result : (dats m 0 c).arrAt 2 cfg0.N
    = Cert.DMergedRefIdeal.Read.val_main_v5 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index t
  rw [ref_apply]
  blk_simp
  rw [after0_2]
  unfold outsAt0
  frame_out
  rw [block_apply]
  refine Fin.sum_fin_congr fun k => ?_
  congr 1
  · blk_ext [iblk, V, e0, e2]
  · blk_ext [iblk, V, e1, e2]

theorem ref_frame : Cert.quiescent_DMergedRefIdeal (hDMergedRefIdeal := Cert.DMergedRefIdeal.Gen.facts) := fun m g _ =>
  (θ_run _ _ _).mono (fun r h => ⟨fun c => (h c).2, sem_eq_zero_of_no_sems rfl r.2⟩) (Cert.DMergedRefIdeal.Value.run (F := Ideal) m g)

theorem algebraic : Cert.algebraic_DMergedIdeal_DMergedRefIdeal (hDMergedIdeal := facts) (hDMergedRefIdeal := Cert.DMergedRefIdeal.Gen.facts) := by
  intro m g m' g' _ ha
  refine ⟨fun c => (dats m 0 c).arrAt 2 cfg0.N, run_blocks m g, (θ_run _ _ _).mono (fun r h c => ?_) (Cert.DMergedRefIdeal.Value.run (F := Ideal) m' g')⟩
  refine ⟨(h c).1.trans ((Cert.DMergedRefIdeal.Read.val_main_v5_eq _ _).trans ?_), (h c).2⟩
  rw [(ha c).1, (ha c).2]
  exact (result m c).symm

end Cert.Mm.DMerged

end
-- ==== Proof.Mm.FfnUp.lean ====
/- The MLP's first product, one shard of the weight and one block of rows at a time. -/
module

public import proofs.«01_k».proof.Defs
public import proofs.«01_k».proof.Proof.Gen.FfnUpIdeal.Value
public import proofs.«01_k».proof.Proof.Gen.FfnUpRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Mm.FfnUp

open Cert.FfnUpIdeal Cert.FfnUpIdeal.Gen Cert.FfnUpIdeal.Value Idealize.ShloMosaic Idealize.ShloMosaic.TcCoe Idealize.SL.Sem

/-- One point's block. -/
theorem block_apply (x : Vec Ideal S1024x1024 .bf16) (w : Vec Ideal S1x1024x1408 .bf16) (j : S1024x1408.Idx) :
    (k0_pay3 (k0_pay2 k0_pay1 x w) : S1024x1408.Idx → EReal) j = ∑ k : Fin 1024, (x (ix2 (j 0) k) : EReal) * (w (ix3 0 k (j 1)) : EReal) := by
  pointwise [k0_pay1, k0_pay2, k0_pay3]

/-- The whole weight of its four shards of columns. -/
theorem columns_apply (W : Cert.FfnUpRefIdeal.S4x1024x1408.Idx → EReal) (k : Fin 1024) (l : Fin 5632) :
    (Cert.FfnUpRefIdeal.Read.val_main_v8 (F := Ideal) W : Cert.FfnUpRefIdeal.S1024x5632.Idx → EReal) (ix2 k l)
      = W (ix3 (⟨l.val / 1408, Nat.div_lt_of_lt_mul l.isLt⟩ : Fin 4) k (⟨l.val % 1408, Nat.mod_lt _ (by decide)⟩ : Fin 1408)) := by
  pointwise [Cert.FfnUpRefIdeal.Read.val_main_v8, Cert.FfnUpRefIdeal.Read.val_main_v7, Cert.FfnUpRefIdeal.Read.val_main_v6, Cert.FfnUpRefIdeal.Read.val_main_v5,
    Cert.FfnUpRefIdeal.Read.val_main_v4, Cert.FfnUpRefIdeal.Read.val_main_v3, Cert.FfnUpRefIdeal.Read.val_main_v2, Cert.FfnUpRefIdeal.Read.val_main_v1, Cert.FfnUpRefIdeal.Read.val_main_v0]
  have e : ∀ (s : Fin 4) (r : ℕ) (hr : r < 1408), s.val = l.val / 1408 → r = l.val % 1408 → W (ix3 s k ⟨r, hr⟩)
      = W (ix3 (⟨l.val / 1408, Nat.div_lt_of_lt_mul l.isLt⟩ : Fin 4) k (⟨l.val % 1408, Nat.mod_lt _ (by decide)⟩ : Fin 1408)) :=
    fun s r hr hs hb => congrArg₂ (fun s b => W (ix3 s k b)) (Fin.ext hs) (Fin.ext hb)
  have hl := l.isLt
  split_ifs <;> first
    | exact e 0 _ _ (by show 0 = l.val / 1408; omega) (by omega)
    | exact e 1 _ _ (by show 1 = l.val / 1408; omega) (by omega)
    | exact e 2 _ _ (by show 2 = l.val / 1408; omega) (by omega)
    | exact e 3 _ _ (by show 3 = l.val / 1408; omega) (by omega)

/-- The reference. -/
theorem ref_apply (X : Cert.FfnUpRefIdeal.S8192x1024.Idx → EReal) (W : Cert.FfnUpRefIdeal.S4x1024x1408.Idx → EReal) (i : Cert.FfnUpRefIdeal.S8192x5632.Idx) :
    (Cert.FfnUpRefIdeal.Read.val_main_v12 (F := Ideal) X W : Cert.FfnUpRefIdeal.S8192x5632.Idx → EReal) i = ∑ k : Fin 1024, X (ix2 (i 0) k) * W (ix3 (⟨(i 1).val / 1408, Nat.div_lt_of_lt_mul (i 1).isLt⟩ : Fin 4) k (⟨(i 1).val % 1408, Nat.mod_lt _ (by decide)⟩ : Fin 1408)) := by
  pointwise [Cert.FfnUpRefIdeal.Read.val_main_v12, Cert.FfnUpRefIdeal.Read.val_main_v11, Cert.FfnUpRefIdeal.Read.val_main_v10, Cert.FfnUpRefIdeal.Read.val_main_v9, columns_apply]

variable (m : (ℓ : Loc nD τ sig) → Buf (Elt Ideal) ℓ) (c : Dev nD)

theorem index : ∀ t : Fin cfg0.N, win0_0.index t = ![t.val / 4, 0] ∧ win0_1.index t = ![t.val % 4, 0, 0] ∧ win0_2.index t = ![t.val / 4, t.val % 4] :=
  (by decide +kernel : ∀ t : Fin grid0.N, _)

theorem result : (dats m 0 c).arrAt 2 cfg0.N
    = Cert.FfnUpRefIdeal.Read.val_main_v12 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index t
  rw [ref_apply]
  blk_simp
  rw [after0_2]
  unfold outsAt0
  frame_out
  rw [block_apply]
  refine Fin.sum_fin_congr fun k => ?_
  congr 1
  · blk_ext [iblk, V, e0, e2]
  · blk_ext [iblk, V, e1, e2]

theorem ref_frame : Cert.quiescent_FfnUpRefIdeal (hFfnUpRefIdeal := Cert.FfnUpRefIdeal.Gen.facts) := fun m g _ =>
  (θ_run _ _ _).mono (fun r h => ⟨fun c => (h c).2, sem_eq_zero_of_no_sems rfl r.2⟩) (Cert.FfnUpRefIdeal.Value.run (F := Ideal) m g)

theorem algebraic : Cert.algebraic_FfnUpIdeal_FfnUpRefIdeal (hFfnUpIdeal := facts) (hFfnUpRefIdeal := Cert.FfnUpRefIdeal.Gen.facts) := by
  intro m g m' g' _ ha
  refine ⟨fun c => (dats m 0 c).arrAt 2 cfg0.N, run_blocks m g, (θ_run _ _ _).mono (fun r h c => ?_) (Cert.FfnUpRefIdeal.Value.run (F := Ideal) m' g')⟩
  refine ⟨(h c).1.trans ((Cert.FfnUpRefIdeal.Read.val_main_v12_eq _ _).trans ?_), (h c).2⟩
  rw [(ha c).1, (ha c).2]
  exact (result m c).symm

end Cert.Mm.FfnUp

end
-- ==== Proof.Mm.ProjQkv.lean ====
/- The projection of the normed activations to q, k and v, one block of outputs at a time. -/
module

public import proofs.«01_k».proof.Defs
public import proofs.«01_k».proof.Proof.Gen.ProjQkvIdeal.Value
public import proofs.«01_k».proof.Proof.Gen.ProjQkvRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Mm.ProjQkv

open Cert.ProjQkvIdeal Cert.ProjQkvIdeal.Gen Cert.ProjQkvIdeal.Value Idealize.ShloMosaic Idealize.ShloMosaic.TcCoe Idealize.SL.Sem

/-- One point's block. -/
theorem block_apply (x : Vec Ideal S1024x1024 .bf16) (w : Vec Ideal S1024x1536 .bf16) (j : S1024x1536.Idx) :
    (k0_pay3 (k0_pay2 k0_pay1 x w) : S1024x1536.Idx → EReal) j = ∑ k : Fin 1024, (x (ix2 (j 0) k) : EReal) * (w (ix2 k (j 1)) : EReal) := by
  pointwise [k0_pay1, k0_pay2, k0_pay3]

/-- The reference. -/
theorem ref_apply (X : Cert.ProjQkvRefIdeal.S8192x1024.Idx → EReal) (W : Cert.ProjQkvRefIdeal.S1024x3072.Idx → EReal) (i : Cert.ProjQkvRefIdeal.S8192x3072.Idx) :
    (Cert.ProjQkvRefIdeal.Read.val_main_v3 (F := Ideal) X W : Cert.ProjQkvRefIdeal.S8192x3072.Idx → EReal) i = ∑ k : Fin 1024, X (ix2 (i 0) k) * W (ix2 k (i 1)) := by
  pointwise [Cert.ProjQkvRefIdeal.Read.val_main_v3, Cert.ProjQkvRefIdeal.Read.val_main_v2, Cert.ProjQkvRefIdeal.Read.val_main_v1, Cert.ProjQkvRefIdeal.Read.val_main_v0]

variable (m : (ℓ : Loc nD τ sig) → Buf (Elt Ideal) ℓ) (c : Dev nD)

theorem index : ∀ t : Fin cfg0.N, win0_0.index t = ![t.val / 2, 0] ∧ win0_1.index t = ![0, t.val % 2] ∧ win0_2.index t = ![t.val / 2, t.val % 2] :=
  (by decide +kernel : ∀ t : Fin grid0.N, _)

theorem result : (dats m 0 c).arrAt 2 cfg0.N
    = Cert.ProjQkvRefIdeal.Read.val_main_v3 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index t
  rw [ref_apply]
  blk_simp
  rw [after0_2]
  unfold outsAt0
  frame_out
  rw [block_apply]
  refine Fin.sum_fin_congr fun k => ?_
  congr 1
  · blk_ext [iblk, V, e0, e2]
  · blk_ext [iblk, V, e1, e2]

theorem ref_frame : Cert.quiescent_ProjQkvRefIdeal (hProjQkvRefIdeal := Cert.ProjQkvRefIdeal.Gen.facts) := fun m g _ =>
  (θ_run _ _ _).mono (fun r h => ⟨fun c => (h c).2, sem_eq_zero_of_no_sems rfl r.2⟩) (Cert.ProjQkvRefIdeal.Value.run (F := Ideal) m g)

theorem algebraic : Cert.algebraic_ProjQkvIdeal_ProjQkvRefIdeal (hProjQkvIdeal := facts) (hProjQkvRefIdeal := Cert.ProjQkvRefIdeal.Gen.facts) := by
  intro m g m' g' _ ha
  refine ⟨fun c => (dats m 0 c).arrAt 2 cfg0.N, run_blocks m g, (θ_run _ _ _).mono (fun r h c => ?_) (Cert.ProjQkvRefIdeal.Value.run (F := Ideal) m' g')⟩
  refine ⟨(h c).1.trans ((Cert.ProjQkvRefIdeal.Read.val_main_v3_eq _ _).trans ?_), (h c).2⟩
  rw [(ha c).1, (ha c).2]
  exact (result m c).symm

end Cert.Mm.ProjQkv

end
-- ==== Proof.Mm.ProjZ.lean ====
/- The projection of the normed activations to the gate, one block of rows at a time. -/
module

public import proofs.«01_k».proof.Defs
public import proofs.«01_k».proof.Proof.Gen.ProjZIdeal.Value
public import proofs.«01_k».proof.Proof.Gen.ProjZRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Mm.ProjZ

open Cert.ProjZIdeal Cert.ProjZIdeal.Gen Cert.ProjZIdeal.Value Idealize.ShloMosaic Idealize.ShloMosaic.TcCoe Idealize.SL.Sem

/-- One point's block. -/
theorem block_apply (x : Vec Ideal S1024x1024 .bf16) (w : Vec Ideal S1024x1024 .bf16) (j : S1024x1024.Idx) :
    (k0_pay3 (k0_pay2 k0_pay1 x w) : S1024x1024.Idx → EReal) j = ∑ k : Fin 1024, (x (ix2 (j 0) k) : EReal) * (w (ix2 k (j 1)) : EReal) := by
  pointwise [k0_pay1, k0_pay2, k0_pay3]

/-- The reference. -/
theorem ref_apply (X : Cert.ProjZRefIdeal.S8192x1024.Idx → EReal) (W : Cert.ProjZRefIdeal.S1024x1024.Idx → EReal) (i : Cert.ProjZRefIdeal.S8192x1024.Idx) :
    (Cert.ProjZRefIdeal.Read.val_main_v3 (F := Ideal) X W : Cert.ProjZRefIdeal.S8192x1024.Idx → EReal) i = ∑ k : Fin 1024, X (ix2 (i 0) k) * W (ix2 k (i 1)) := by
  pointwise [Cert.ProjZRefIdeal.Read.val_main_v3, Cert.ProjZRefIdeal.Read.val_main_v2, Cert.ProjZRefIdeal.Read.val_main_v1, Cert.ProjZRefIdeal.Read.val_main_v0]

variable (m : (ℓ : Loc nD τ sig) → Buf (Elt Ideal) ℓ) (c : Dev nD)

theorem index : ∀ t : Fin cfg0.N, win0_0.index t = ![t.val, 0] ∧ win0_1.index t = ![0, 0] ∧ win0_2.index t = ![t.val, 0] :=
  (by decide +kernel : ∀ t : Fin grid0.N, _)

theorem result : (dats m 0 c).arrAt 2 cfg0.N
    = Cert.ProjZRefIdeal.Read.val_main_v3 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index t
  rw [ref_apply]
  blk_simp
  rw [after0_2]
  unfold outsAt0
  frame_out
  rw [block_apply]
  refine Fin.sum_fin_congr fun k => ?_
  congr 1
  · blk_ext [iblk, V, e0, e2]
  · blk_ext [iblk, V, e1, e2]

theorem ref_frame : Cert.quiescent_ProjZRefIdeal (hProjZRefIdeal := Cert.ProjZRefIdeal.Gen.facts) := fun m g _ =>
  (θ_run _ _ _).mono (fun r h => ⟨fun c => (h c).2, sem_eq_zero_of_no_sems rfl r.2⟩) (Cert.ProjZRefIdeal.Value.run (F := Ideal) m g)

theorem algebraic : Cert.algebraic_ProjZIdeal_ProjZRefIdeal (hProjZIdeal := facts) (hProjZRefIdeal := Cert.ProjZRefIdeal.Gen.facts) := by
  intro m g m' g' _ ha
  refine ⟨fun c => (dats m 0 c).arrAt 2 cfg0.N, run_blocks m g, (θ_run _ _ _).mono (fun r h c => ?_) (Cert.ProjZRefIdeal.Value.run (F := Ideal) m' g')⟩
  refine ⟨(h c).1.trans ((Cert.ProjZRefIdeal.Read.val_main_v3_eq _ _).trans ?_), (h c).2⟩
  rw [(ha c).1, (ha c).2]
  exact (result m c).symm

end Cert.Mm.ProjZ

end
-- ==== Proof.Mm.FfnDown.lean ====
/- The MLP's second product, one block of rows at a time. -/
module

public import proofs.«01_k».proof.Defs
public import proofs.«01_k».proof.Proof.Gen.FfnDownIdeal.Value
public import proofs.«01_k».proof.Proof.Gen.FfnDownRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Mm.FfnDown

open Cert.FfnDownIdeal Cert.FfnDownIdeal.Gen Cert.FfnDownIdeal.Value Idealize.ShloMosaic Idealize.ShloMosaic.TcCoe Idealize.SL.Sem

/-- One point's block. -/
theorem block_apply (x : Vec Ideal S1024x2816 .bf16) (w : Vec Ideal S2816x1024 .bf16) (j : S1024x1024.Idx) :
    (k0_pay2 k0_pay1 x w : S1024x1024.Idx → EReal) j = ∑ k : Fin 2816, (x (ix2 (j 0) k) : EReal) * (w (ix2 k (j 1)) : EReal) := by
  pointwise [k0_pay1, k0_pay2]

/-- The reference. -/
theorem ref_apply (X : Cert.FfnDownRefIdeal.S8192x2816.Idx → EReal) (W : Cert.FfnDownRefIdeal.S2816x1024.Idx → EReal) (i : Cert.FfnDownRefIdeal.S8192x1024.Idx) :
    (Cert.FfnDownRefIdeal.Read.val_main_v2 (F := Ideal) X W : Cert.FfnDownRefIdeal.S8192x1024.Idx → EReal) i = ∑ k : Fin 2816, X (ix2 (i 0) k) * W (ix2 k (i 1)) := by
  pointwise [Cert.FfnDownRefIdeal.Read.val_main_v2, Cert.FfnDownRefIdeal.Read.val_main_v1, Cert.FfnDownRefIdeal.Read.val_main_v0]

variable (m : (ℓ : Loc nD τ sig) → Buf (Elt Ideal) ℓ) (c : Dev nD)

theorem index : ∀ t : Fin cfg0.N, win0_0.index t = ![t.val, 0] ∧ win0_1.index t = ![0, 0] ∧ win0_2.index t = ![t.val, 0] :=
  (by decide +kernel : ∀ t : Fin grid0.N, _)

theorem result : (dats m 0 c).arrAt 2 cfg0.N
    = Cert.FfnDownRefIdeal.Read.val_main_v2 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index t
  rw [ref_apply]
  blk_simp
  rw [after0_2]
  unfold outsAt0
  frame_out
  rw [block_apply]
  refine Fin.sum_fin_congr fun k => ?_
  congr 1
  · blk_ext [iblk, V, e0, e2]
  · blk_ext [iblk, V, e1, e2]

theorem ref_frame : Cert.quiescent_FfnDownRefIdeal (hFfnDownRefIdeal := Cert.FfnDownRefIdeal.Gen.facts) := fun m g _ =>
  (θ_run _ _ _).mono (fun r h => ⟨fun c => (h c).2, sem_eq_zero_of_no_sems rfl r.2⟩) (Cert.FfnDownRefIdeal.Value.run (F := Ideal) m g)

theorem algebraic : Cert.algebraic_FfnDownIdeal_FfnDownRefIdeal (hFfnDownIdeal := facts) (hFfnDownRefIdeal := Cert.FfnDownRefIdeal.Gen.facts) := by
  intro m g m' g' _ ha
  refine ⟨fun c => (dats m 0 c).arrAt 2 cfg0.N, run_blocks m g, (θ_run _ _ _).mono (fun r h c => ?_) (Cert.FfnDownRefIdeal.Value.run (F := Ideal) m' g')⟩
  refine ⟨(h c).1.trans ((Cert.FfnDownRefIdeal.Read.val_main_v2_eq _ _).trans ?_), (h c).2⟩
  rw [(ha c).1, (ha c).2]
  exact (result m c).symm

end Cert.Mm.FfnDown

end
-- ==== Proof.Rows.Blocks.lean ====
/- A sum over the rows, accumulated block by block over the whole grid. -/
module

public import Idealize.ShloMosaic.Lib.Pipeline.ValueKit
public import Idealize.ShloMosaic.PureOps.Ideal.Laws

@[expose] public section

noncomputable section

namespace Cert.Rows

open Idealize.ShloMosaic

/-- What starts at the first block's sum and adds each next block's holds the sum over all the rows after the last of the 16. -/
theorem fold_rows {N n L : ℕ} {ι : Type} (acc : (k : ℕ) → k < N → ι → EReal) (x : Fin N → ι → Fin n → EReal) {X : Fin L → EReal}
    (h0 : ∀ t : Fin N, t.val % 16 = 0 → ∀ j, acc t.val t.isLt j = 0 + ∑ k, x t j k)
    (hs : ∀ t : Fin N, ¬t.val % 16 = 0 → ∀ j,
      acc t.val t.isLt j = acc (t.val - 1) (Nat.lt_of_le_of_lt (Nat.sub_le _ _) t.isLt) j + ∑ k, x t j k)
    (t : Fin N) (h : t.val % 16 = 15) (j : ι)
    (e : ∀ (p : Fin N) (k : Fin n) (hl : p.val * n + k.val < L), x p j k = X ⟨p.val * n + k.val, hl⟩)
    (hN : N = 16 := by decide) (hL : L = N * n := by decide) :
    acc t.val t.isLt j = ∑ l, X l := by
  rw [Pipeline.eq_sum_fin_of_reset_step_apply_last acc 16 (fun _ => (0 : EReal)) (fun t j => ∑ k, x t j k) h0 hs hN.le t
    (by have := t.isLt; omega) j, zero_add]
  exact Fin.sum_mul_add_congr (fun p k hl => e p k hl) hL

/-- A factor of a sum of terms that aren't negative, taken to each. -/
theorem mul_sum_of_nonneg {n : ℕ} (a : EReal) (f : Fin n → EReal) (hf : ∀ k, 0 ≤ f k) : a * ∑ k, f k = ∑ k, a * f k := by
  induction (Finset.univ : Finset (Fin n)) using Finset.cons_induction with
  | empty => simp
  | cons k s hk ih => rw [Finset.sum_cons, Finset.sum_cons, EReal.left_distrib_of_nonneg (hf k) (Finset.sum_nonneg fun k _ => hf k), ih]

end Cert.Rows

end
-- ==== Proof.Rows.Norm.lean ====
/- One row of a layer norm's gradient over the extended reals: where the row and the gradient of its normed values are real, the spelling
that differentiating mean and variance gives is the closed one. -/
module

public import Mathlib.Data.EReal.Operations
public import Mathlib.Data.EReal.Inv
public import Idealize.ShloMosaic.PureOps.Ideal

@[expose] public section

noncomputable section

namespace Cert.Rows

open Idealize.ShloMosaic

variable {n : ℕ} [NeZero n]

/-- A row's mean. -/
def mean (N : EReal) (x : Fin n → EReal) : EReal := Ideal.div (∑ k, x k) N

/-- A row less its mean. -/
def cen (N : EReal) (x : Fin n → EReal) (j : Fin n) : EReal := x j - mean N x

/-- A row's variance, and a small constant. -/
def spread (N ε : EReal) (x : Fin n → EReal) : EReal := mean N (fun k => cen N x k * cen N x k) + ε

/-- The normed row. -/
def xhat (N ε : EReal) (x : Fin n → EReal) (j : Fin n) : EReal := cen N x j * Ideal.rsqrt (spread N ε x)

/-- The gradient of the row from the gradient `q` of its normed values, in closed form. -/
def dNorm (N ε : EReal) (x q : Fin n → EReal) (j : Fin n) : EReal :=
  Ideal.rsqrt (spread N ε x) * (q j - mean N q - xhat N ε x j * mean N fun k => q k * xhat N ε x k)

/-- The gradient of each squared difference, by the chain rule through the variance; `h` is −1/2. -/
def dVar (N ε h : EReal) (x q : Fin n → EReal) : EReal :=
  Ideal.div ((∑ k, cen N x k * q k) * (h * Ideal.div (Ideal.rsqrt (spread N ε x)) (spread N ε x))) N

/-- The gradient of the row by the chain rule; `two` is 2. -/
def dChain (N ε h two : EReal) (x q : Fin n → EReal) (j : Fin n) : EReal :=
  q j * Ideal.rsqrt (spread N ε x) + dVar N ε h x q * (two * cen N x j)
    + Ideal.div ((∑ k, -(q k * Ideal.rsqrt (spread N ε x))) + ∑ k, -(dVar N ε h x q * (two * cen N x k))) N

theorem coe_sum (f : Fin n → ℝ) : ((∑ k, f k : ℝ) : EReal) = ∑ k, (f k : EReal) := by
  induction (Finset.univ : Finset (Fin n)) using Finset.cons_induction with
  | empty => simp
  | cons a s ha ih => rw [Finset.sum_cons, Finset.sum_cons, EReal.coe_add, ih]

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem rsqrt_coe_pos (a : ℝ) (ha : 0 < a) : Ideal.rsqrt (a : EReal) = (((Real.sqrt a)⁻¹ : ℝ) : EReal) := by
  rw [Ideal.rsqrt_coe, if_neg (not_lt.mpr ha.le), if_neg ha.ne']

/-- The two spellings, over the reals. -/
theorem real_chain (N u v : ℝ) (hN : N ≠ 0) (hu : u ≠ 0) (hv : v * v * u = 1) (c q : Fin n → ℝ) (hc : ∑ k, c k = 0) (j : Fin n) :
    q j * v + (∑ k, c k * q k) * (-(1 / 2) * (v / u)) / N * (2 * c j)
        + ((∑ k, -(q k * v)) + ∑ k, -((∑ k, c k * q k) * (-(1 / 2) * (v / u)) / N * (2 * c k))) / N
      = v * (q j - (∑ k, q k) / N - c j * v * ((∑ k, q k * (c k * v)) / N)) := by
  have h1 : v / u = v * v * v := by
    field_simp
    linear_combination (-v) * hv
  have h2 : ∑ k, -((∑ k, c k * q k) * (-(1 / 2) * (v / u)) / N * (2 * c k)) = 0 := by
    rw [Finset.sum_neg_distrib, ← Finset.mul_sum, ← Finset.mul_sum, hc]
    ring
  have h3 : ∑ k, q k * (c k * v) = (∑ k, c k * q k) * v := by
    rw [Finset.sum_mul]
    exact Finset.sum_congr rfl fun k _ => by ring
  rw [h2, h3, Finset.sum_neg_distrib, ← Finset.sum_mul, h1]
  ring

/-- Over the extended reals, of a real row and real gradients. -/
theorem dChain_eq (ε : ℝ) (hε : 0 < ε) (x q : Fin n → EReal) (hx : ∀ k, ∃ r : ℝ, x k = r) (hq : ∀ k, ∃ r : ℝ, q k = r) (j : Fin n) :
    dChain ((n : ℝ) : EReal) ε ((-(1 / 2) : ℝ) : EReal) ((2 : ℝ) : EReal) x q j = dNorm ((n : ℝ) : EReal) ε x q j := by
  choose x' hx using hx
  choose q' hq using hq
  obtain rfl : x = fun k => (x' k : EReal) := funext hx
  obtain rfl : q = fun k => (q' k : EReal) := funext hq
  have hN : (n : ℝ) ≠ 0 := Nat.cast_ne_zero.mpr (NeZero.ne n)
  have hm : ∀ f : Fin n → ℝ, mean ((n : ℝ) : EReal) (fun k => (f k : EReal)) = (((∑ k, f k) / n : ℝ) : EReal) := fun f => by
    unfold mean
    rw [← coe_sum, div_coe _ _ hN]
  have hc : ∀ k, cen ((n : ℝ) : EReal) (fun k => (x' k : EReal)) k = ((x' k - (∑ k, x' k) / n : ℝ) : EReal) := fun k => by
    unfold cen
    rw [hm, ← EReal.coe_sub]
  set c : Fin n → ℝ := fun k => x' k - (∑ k, x' k) / n with hcdef
  have h0 : ∑ k, c k = 0 := by
    rw [hcdef, Finset.sum_sub_distrib, Finset.sum_const, Finset.card_univ, Fintype.card_fin, nsmul_eq_mul]
    field_simp
    ring
  have hs : spread ((n : ℝ) : EReal) ε (fun k => (x' k : EReal)) = (((∑ k, c k * c k) / n + ε : ℝ) : EReal) := by
    unfold spread
    simp only [hc, ← EReal.coe_mul]
    rw [hm, ← EReal.coe_add]
  set u : ℝ := (∑ k, c k * c k) / n + ε with hudef
  have hu : 0 < u := add_pos_of_nonneg_of_pos (div_nonneg (Finset.sum_nonneg fun k _ => mul_self_nonneg _) (Nat.cast_nonneg n)) hε
  have hr : Ideal.rsqrt (spread ((n : ℝ) : EReal) ε (fun k => (x' k : EReal))) = (((Real.sqrt u)⁻¹ : ℝ) : EReal) := by
    rw [hs, rsqrt_coe_pos u hu]
  have hv : (Real.sqrt u)⁻¹ * (Real.sqrt u)⁻¹ * u = 1 := by
    rw [← mul_inv, Real.mul_self_sqrt hu.le, inv_mul_cancel₀ hu.ne']
  have hd : dVar ((n : ℝ) : EReal) ε ((-(1 / 2) : ℝ) : EReal) (fun k => (x' k : EReal)) (fun k => (q' k : EReal))
      = (((∑ k, c k * q' k) * (-(1 / 2) * ((Real.sqrt u)⁻¹ / u)) / n : ℝ) : EReal) := by
    unfold dVar
    rw [hr, hs]
    simp only [hc, ← EReal.coe_mul]
    rw [← coe_sum, div_coe _ _ hu.ne', ← EReal.coe_mul, ← EReal.coe_mul, div_coe _ _ hN]
  unfold dChain dNorm xhat
  rw [hd]
  simp only [hc, hr, ← EReal.coe_mul, ← EReal.coe_neg]
  rw [hm, hm, ← coe_sum, ← coe_sum]
  simp only [← EReal.coe_mul, ← EReal.coe_add, ← EReal.coe_sub]
  rw [div_coe _ _ hN, ← EReal.coe_add]
  exact congrArg _ (real_chain (n : ℝ) u _ hN hu.ne' hv c q' h0 j)

/-! ## A row with an infinite entry -/

theorem isReal_of_sum {n : ℕ} (f : Fin n → EReal) (h : ∃ r : ℝ, ∑ k, f k = r) (k : Fin n) : ∃ r : ℝ, f k = r := by
  have add : ∀ a b : EReal, (∃ r : ℝ, a + b = r) → (∃ r : ℝ, a = r) ∧ ∃ r : ℝ, b = r := fun a b => by
    induction a <;> induction b <;> simp
  have : ∀ s : Finset (Fin n), (∃ r : ℝ, ∑ k ∈ s, f k = r) → ∀ k ∈ s, ∃ r : ℝ, f k = r := fun s => by
    induction s using Finset.cons_induction with
    | empty => simp
    | cons a s ha ih =>
      intro h
      rw [Finset.sum_cons] at h
      simp only [Finset.mem_cons, forall_eq_or_imp]
      exact ⟨(add _ _ h).1, ih (add _ _ h).2⟩
  exact this _ h k (Finset.mem_univ k)

/-- The mean is real only of real numbers. -/
theorem isReal_of_mean (f : Fin n → EReal) (h : ∃ r : ℝ, mean ((n : ℝ) : EReal) f = r) (k : Fin n) : ∃ r : ℝ, f k = r := by
  have hN : (0 : ℝ) < (n : ℝ)⁻¹ := inv_pos.mpr (Nat.cast_pos.mpr (Nat.pos_of_ne_zero (NeZero.ne n)))
  refine isReal_of_sum f ?_ k
  unfold mean Ideal.div at h
  rw [if_neg (by exact_mod_cast (Nat.cast_ne_zero.mpr (NeZero.ne n) : (n : ℝ) ≠ 0)), ← EReal.coe_inv] at h
  revert h
  generalize ∑ k, f k = s
  induction s with
  | bot => rw [EReal.bot_mul_coe_of_pos hN]; simp
  | top => rw [EReal.top_mul_coe_of_pos hN]; simp
  | coe r => exact fun _ => ⟨r, rfl⟩

/-- An infinite entry makes the spread infinite. -/
theorem spread_top (ε : ℝ) (x : Fin n → EReal) (hx : ¬∀ k, ∃ r : ℝ, x k = r) : spread ((n : ℝ) : EReal) ε x = ⊤ := by
  have hm : ¬∃ r : ℝ, mean ((n : ℝ) : EReal) x = r := fun h => hx (isReal_of_mean x h)
  have hc : ∀ k, cen ((n : ℝ) : EReal) x k * cen ((n : ℝ) : EReal) x k = ⊤ := fun k => by
    unfold cen
    revert hm
    generalize mean ((n : ℝ) : EReal) x = a
    generalize x k = b
    induction a <;> induction b <;> simp
  unfold spread
  simp only [hc]
  have ht : ¬∃ r : ℝ, mean ((n : ℝ) : EReal) (fun _ : Fin n => (⊤ : EReal)) = r := fun h => by
    simpa using isReal_of_mean _ h ⟨0, Nat.pos_of_ne_zero (NeZero.ne n)⟩
  have h0 : (0 : EReal) ≤ mean ((n : ℝ) : EReal) (fun _ : Fin n => (⊤ : EReal)) := by
    unfold mean Ideal.div
    rw [if_neg (by exact_mod_cast (Nat.cast_ne_zero.mpr (NeZero.ne n) : (n : ℝ) ≠ 0)), ← EReal.coe_inv]
    exact mul_nonneg (Finset.sum_nonneg fun _ _ => le_top) (by exact_mod_cast inv_nonneg.mpr (Nat.cast_nonneg n))
  revert ht h0
  generalize mean ((n : ℝ) : EReal) (fun _ : Fin n => (⊤ : EReal)) = a
  induction a <;> simp

theorem div_zero_left (a : EReal) (N : EReal) (hN : N ≠ 0) (ha : a = 0) : Ideal.div a N = 0 := by
  unfold Ideal.div
  rw [if_neg hN, ha, zero_mul]

/-- Over the extended reals, of any row: an infinite entry makes both sides 0. -/
theorem dChain_eq_dNorm (ε : ℝ) (hε : 0 < ε) (x q : Fin n → EReal) (hq : ∀ k, ∃ r : ℝ, q k = r) (j : Fin n) :
    dChain ((n : ℝ) : EReal) ε ((-(1 / 2) : ℝ) : EReal) ((2 : ℝ) : EReal) x q j = dNorm ((n : ℝ) : EReal) ε x q j := by
  by_cases hx : ∀ k, ∃ r : ℝ, x k = r
  · exact dChain_eq ε hε x q hx hq j
  have hN : ((n : ℝ) : EReal) ≠ 0 := by exact_mod_cast (Nat.cast_ne_zero.mpr (NeZero.ne n) : (n : ℝ) ≠ 0)
  have hr : Ideal.rsqrt (spread ((n : ℝ) : EReal) ε x) = 0 := by
    rw [spread_top ε x hx]
    rfl
  have hd : dVar ((n : ℝ) : EReal) ε ((-(1 / 2) : ℝ) : EReal) x q = 0 := by
    unfold dVar
    refine div_zero_left _ _ hN ?_
    rw [hr, spread_top ε x hx, div_zero_left 0 ⊤ (by simp) rfl, mul_zero, mul_zero]
  unfold dChain dNorm
  rw [hd, hr]
  simp only [mul_zero, zero_mul, neg_zero, Finset.sum_const_zero, add_zero, zero_add]
  exact div_zero_left _ _ hN rfl

/-- The normed row is real, of any row. -/
theorem xhat_real (ε : ℝ) (hε : 0 < ε) (x : Fin n → EReal) (j : Fin n) : ∃ r : ℝ, xhat ((n : ℝ) : EReal) ε x j = r := by
  unfold xhat
  by_cases hx : ∀ k, ∃ r : ℝ, x k = r
  · choose x' hx using hx
    obtain rfl : x = fun k => (x' k : EReal) := funext hx
    have hN : (n : ℝ) ≠ 0 := Nat.cast_ne_zero.mpr (NeZero.ne n)
    have hm : ∀ f : Fin n → ℝ, mean ((n : ℝ) : EReal) (fun k => (f k : EReal)) = (((∑ k, f k) / n : ℝ) : EReal) := fun f => by
      unfold mean
      rw [← coe_sum, div_coe _ _ hN]
    have hc : ∀ k, cen ((n : ℝ) : EReal) (fun k => (x' k : EReal)) k = ((x' k - (∑ k, x' k) / n : ℝ) : EReal) := fun k => by
      unfold cen
      rw [hm, ← EReal.coe_sub]
    unfold spread
    simp only [hc, ← EReal.coe_mul]
    rw [hm, ← EReal.coe_add, rsqrt_coe_pos _ (add_pos_of_nonneg_of_pos (div_nonneg (Finset.sum_nonneg fun k _ => mul_self_nonneg _) (Nat.cast_nonneg n)) hε),
      ← EReal.coe_mul]
    exact ⟨_, rfl⟩
  · rw [spread_top ε x hx]
    exact ⟨0, mul_zero _⟩

end Cert.Rows

end
-- ==== Proof.Rows.Constants.lean ====
/- The constants of the norms, as real numbers. -/
module

public import proofs.«01_k».proof.Proof.Attn.Finite
public import Idealize.ShloMosaic.PureOps.Ideal

@[expose] public section

noncomputable section

namespace Cert.Rows

open Idealize.ShloMosaic

/-- The row's length, the norm's small constant and the residual path's factor. -/
def width : EReal := Ideal.ofBits .f32 0x44800000#32
def eps : EReal := Ideal.ofBits .f32 0x3727C5AC#32
def alpha : EReal := Ideal.ofBits .f32 0x3F9837F0#32

/-- The chain rule's two factors, −1/2 and 2. -/
def half : EReal := Ideal.ofBits .f32 0xBF000000#32
def two : EReal := Ideal.ofBits .f32 0x40000000#32

theorem width_eq : width = (((1024 : ℕ) : ℝ) : EReal) := by
  unfold width
  simp [Ideal.ofBits, Ideal.ieee]
  rw [← EReal.coe_mul]
  norm_num

theorem half_eq : half = ((-(1 / 2) : ℝ) : EReal) := by
  unfold half
  simp [Ideal.ofBits, Ideal.ieee]
  rw [← EReal.coe_mul]
  norm_num

theorem two_eq : two = ((2 : ℝ) : EReal) := by
  unfold two
  simp [Ideal.ofBits, Ideal.ieee]
  rw [← EReal.coe_mul]
  norm_num

theorem eps_eq : ∃ e : ℝ, 0 < e ∧ eps = e := by
  unfold eps
  refine ⟨10995116 * (2 ^ 40)⁻¹, by norm_num, ?_⟩
  simp [Ideal.ofBits, Ideal.ieee]

theorem alpha_real : Cert.AttnRef.IsReal alpha := ⟨_, rfl⟩

theorem one_real : Cert.AttnRef.IsReal 1 := ⟨1, rfl⟩

end Cert.Rows

end
-- ==== Proof.Rows.LnBwd.lean ====
/- The backward of the first sub-layer's residual and layer norm, with the gated mixer it adds: the gradients of the residual sum, of the
mixer's output, and of the modulation's and the norm's vectors. -/
module

public import proofs.«01_k».proof.Defs
public import proofs.«01_k».proof.Proof.Gen.LnBwdIdeal.Value
public import proofs.«01_k».proof.Proof.Gen.LnBwdRefIdeal.Read
public import proofs.«01_k».proof.Proof.Attn.Finite
public import proofs.«01_k».proof.Proof.Rows.Blocks
public import proofs.«01_k».proof.Proof.Rows.Norm
public import proofs.«01_k».proof.Proof.Rows.Constants
public import Idealize.ShloMosaic.Lib.Claim
public import Idealize.ShloMosaic.Lib.Quiescent
public import Idealize.ShloMosaic.Lib.Pointwise

@[expose] public section

noncomputable section

namespace Cert.Rows.LnBwd

open Cert.LnBwdIdeal Cert.LnBwdIdeal.Gen Cert.LnBwdIdeal.Value Idealize.ShloMosaic Idealize.ShloMosaic.TcCoe Idealize.SL.Sem

/-- A row of the gradient of the normed activations, from the two uses'. -/
def grad (d h s : Fin 1024 → EReal) (j : Fin 1024) : EReal := alpha * d j + h j * (1 + s j)

/-! ## The kernel's terms -/

section Kernel

variable (x d h v : Vec Ideal S512x1024 .f32) (w : Vec Ideal S6x1024 .f32) (g b acc : Vec Ideal S1x1024 .f32)

theorem cen_apply (j : S512x1024.Idx) : (k0_pay9 x : S512x1024.Idx → EReal) j = cen width (fun k => x (ix2 (j 0) k)) (j 1) := by
  unfold cen mean width
  pointwise [k0_pay9]

theorem rstd_apply (j : S512x1.Idx) : (k0_pay10 x : S512x1.Idx → EReal) j = Ideal.rsqrt (spread width eps fun k => x (ix2 (j 0) k)) := by
  unfold spread mean width eps
  pointwise [k0_pay10]
  simp only [cen_apply]
  rfl

theorem xhat_apply (j : S512x1024.Idx) : (k0_pay11 x : S512x1024.Idx → EReal) j = xhat width eps (fun k => x (ix2 (j 0) k)) (j 1) := by
  unfold xhat
  pointwise [k0_pay11]
  rw [cen_apply, rstd_apply]
  rfl

theorem grad_apply (j : S512x1024.Idx) : (k0_pay13 w h d : S512x1024.Idx → EReal) j
    = grad (fun k => d (ix2 (j 0) k)) (fun k => h (ix2 (j 0) k)) (fun k => w (ix2 (4 : Fin 6) k)) (j 1) := by
  unfold grad alpha
  pointwise [k0_pay13]

theorem dx_apply (j : S512x1024.Idx) :
    (k0_pay1 (k0_pay10 x) (k0_pay11 x) (k0_pay18 v g) (k0_pay19 v g) k0_pay20 : S512x1024.Idx → EReal) j
      = dNorm width eps (fun k => x (ix2 (j 0) k)) (fun k => v (ix2 (j 0) k) * g (ix2 (0 : Fin 1) k)) (j 1) := by
  unfold dNorm mean width
  pointwise [k0_pay1, k0_pay18, k0_pay19, k0_pay20]
  simp only [xhat_apply, rstd_apply]
  rfl

end Kernel

section Ref
open Cert.LnBwdRefIdeal.Read

variable (d h x y : Cert.LnBwdRefIdeal.S8192x1024.Idx → EReal) (w : Cert.LnBwdRefIdeal.S6x1024.Idx → EReal) (g b : Cert.LnBwdRefIdeal.S1x1024.Idx → EReal)

theorem ref_cen (i : Cert.LnBwdRefIdeal.S8192x1024.Idx) :
    (val_main_v11 (F := Ideal) x : Cert.LnBwdRefIdeal.S8192x1024.Idx → EReal) i = cen width (fun k => x (ix2 (i 0) k)) (i 1) := by
  unfold cen mean width
  pointwise [val_main_v11, val_main_v10, val_main_v9, val_main_v8, val_main_cst_0, val_main_v7, val_main_v6, val_main_cst]

theorem ref_cen' (i : Cert.LnBwdRefIdeal.S8192x1024.Idx) :
    (val_main_v20 (F := Ideal) x : Cert.LnBwdRefIdeal.S8192x1024.Idx → EReal) i = cen width (fun k => x (ix2 (i 0) k)) (i 1) := by
  unfold cen mean width
  pointwise [val_main_v20, val_main_v19, val_main_v9, val_main_v8, val_main_cst_0, val_main_v7, val_main_v6, val_main_cst]

theorem ref_spread (i : Cert.LnBwdRefIdeal.S8192x1.Idx) :
    (val_main_v22 (F := Ideal) x : Cert.LnBwdRefIdeal.S8192x1.Idx → EReal) i = spread width eps fun k => x (ix2 (i 0) k) := by
  unfold spread mean width eps
  pointwise [val_main_v22, val_main_v21, val_main_cst_4, val_main_v18, val_main_v17, val_main_cst_3, val_main_v16, val_main_v15, val_main_cst_2, val_main_v12]
  simp only [ref_cen]
  rfl

theorem ref_xhat (i : Cert.LnBwdRefIdeal.S8192x1024.Idx) :
    (val_main_v28 (F := Ideal) x : Cert.LnBwdRefIdeal.S8192x1024.Idx → EReal) i = xhat width eps (fun k => x (ix2 (i 0) k)) (i 1) := by
  unfold xhat
  pointwise [val_main_v28, val_main_v27, val_main_v23]
  rw [ref_cen', ref_spread]
  rfl

theorem ref_grad (i : Cert.LnBwdRefIdeal.S8192x1024.Idx) :
    (val_main_v51 (F := Ideal) d h w : Cert.LnBwdRefIdeal.S8192x1024.Idx → EReal) i
      = grad (fun k => d (ix2 (i 0) k)) (fun k => h (ix2 (i 0) k)) (fun k => w (ix2 (4 : Fin 6) k)) (i 1) := by
  unfold grad alpha
  pointwise [val_main_v51, val_main_v50, val_main_v49, val_main_cst_10, val_main_v48, val_main_v47, val_main_v41, val_main_v36, val_main_v35, val_main_cst_7, val_main_v4]
  rw [add_comm]

theorem ref_var (i : Cert.LnBwdRefIdeal.S8192.Idx) :
    (val_main_v70 (F := Ideal) d h x w g : Cert.LnBwdRefIdeal.S8192.Idx → EReal) i
      = dVar width eps half (fun k => x (ix2 (i 0) k))
          (fun k => (val_main_v51 (F := Ideal) d h w : Cert.LnBwdRefIdeal.S8192x1024.Idx → EReal) (ix2 (i 0) k) * g (ix2 (0 : Fin 1) k)) := by
  unfold dVar width half
  pointwise [val_main_v70, val_main_cst_16, val_main_v69, val_main_v68, val_main_cst_15, val_main_v64, val_main_v61, val_main_v60, val_main_cst_13, val_main_v59, val_main_v58, val_main_v57,
    val_main_v26, val_main_v25, val_main_cst_5, val_main_v24, val_main_v23]
  simp only [ref_cen', ref_spread, Finset.univ_unique, Finset.sum_singleton]
  rfl

theorem ref_dx (i : Cert.LnBwdRefIdeal.S8192x1024.Idx) :
    (val_main_v82 (F := Ideal) d h x w g : Cert.LnBwdRefIdeal.S8192x1024.Idx → EReal) i
      = dChain width eps half two (fun k => x (ix2 (i 0) k))
          (fun k => (val_main_v51 (F := Ideal) d h w : Cert.LnBwdRefIdeal.S8192x1024.Idx → EReal) (ix2 (i 0) k) * g (ix2 (0 : Fin 1) k)) (i 1) := by
  unfold dChain width two
  pointwise [val_main_v82, val_main_v81, val_main_v80, val_main_cst_19, val_main_v79, val_main_v78, val_main_cst_18, val_main_v77, val_main_v76, val_main_v75, val_main_v74, val_main_cst_17,
    val_main_v73, val_main_v72, val_main_v71, val_main_v67, val_main_v66, val_main_cst_14, val_main_v65, val_main_v63, val_main_v62, val_main_v58, val_main_v57, val_main_v23, val_main_v14, val_main_v13, val_main_cst_1]
  simp only [ref_cen, ref_spread, ref_var, Finset.univ_unique, Finset.sum_singleton]
  rfl

end Ref

/-! ## The two spellings of the norm's gradient -/

open Cert.LnBwdRefIdeal.Read in
/-- Where the gradients, the scale and the norm's weight are real, the reference's gradient is the closed one. -/
theorem ref_norm (d h x : Cert.LnBwdRefIdeal.S8192x1024.Idx → EReal) (w : Cert.LnBwdRefIdeal.S6x1024.Idx → EReal) (g : Cert.LnBwdRefIdeal.S1x1024.Idx → EReal)
    (hd : ∀ i, Cert.AttnRef.IsReal (d i)) (hh : ∀ i, Cert.AttnRef.IsReal (h i)) (hw : ∀ k, Cert.AttnRef.IsReal (w (ix2 (4 : Fin 6) k)))
    (hg : ∀ k, Cert.AttnRef.IsReal (g (ix2 (0 : Fin 1) k))) (i : Cert.LnBwdRefIdeal.S8192x1024.Idx) :
    (val_main_v82 (F := Ideal) d h x w g : Cert.LnBwdRefIdeal.S8192x1024.Idx → EReal) i
      = dNorm width eps (fun k => x (ix2 (i 0) k))
          (fun k => grad (fun k => d (ix2 (i 0) k)) (fun k => h (ix2 (i 0) k)) (fun k => w (ix2 (4 : Fin 6) k)) k * g (ix2 (0 : Fin 1) k)) (i 1) := by
  obtain ⟨e, he, ee⟩ := eps_eq
  rw [ref_dx, width_eq, half_eq, two_eq, ee]
  simp only [ref_grad]
  refine dChain_eq_dNorm e he _ _ (fun k => ?_) _
  exact Cert.AttnRef.IsReal.mul ((alpha_real.mul (hd _)).add ((hh _).mul (one_real.add (hw _)))) (hg k)

/-! ## The summed terms -/

/-- A row's term of a sum over the rows, from the row of the residual sum, the two gradients' rows, the mixer's row, the scale, the norm's weight and bias. -/
abbrev Term := (x d h y s g b : Fin 1024 → EReal) → Fin 1024 → EReal

def tScale : Term := fun x _ h _ _ g b j => h j * (xhat width eps x j * g j + b j)
def tShift : Term := fun _ _ h _ _ _ _ j => h j
def tGate : Term := fun x d h y s g _ j => dNorm width eps x (fun k => grad d h s k * g k) j * y j
def tWeight : Term := fun x d h _ s _ _ j => grad d h s j * xhat width eps x j
def tBias : Term := fun _ d h _ s _ _ j => grad d h s j

/-- The term at row `i` of the arrays. -/
def Term.at {n : ℕ} (T : Term) (X D H Y : (⟨2, ![n, 1024]⟩ : Shape).Idx → EReal) (W : (⟨2, ![6, 1024]⟩ : Shape).Idx → EReal)
    (G B : (⟨2, ![1, 1024]⟩ : Shape).Idx → EReal) (i : Fin n) (j : Fin 1024) : EReal :=
  T (fun l => X (ix2 i l)) (fun l => D (ix2 i l)) (fun l => H (ix2 i l)) (fun l => Y (ix2 i l)) (fun l => W (ix2 (4 : Fin 6) l))
    (fun l => G (ix2 (0 : Fin 1) l)) (fun l => B (ix2 (0 : Fin 1) l)) j

section Kernel

variable (x d h y : Vec Ideal S512x1024 .f32) (w : Vec Ideal S6x1024 .f32) (g b acc : Vec Ideal S1x1024 .f32) (j : S1x1024.Idx)

theorem scale_apply : (k0_pay14 (k0_pay12 x g b) h acc : S1x1024.Idx → EReal) j = acc j + ∑ k, tScale.at x d h y w g b k (j 1) := by
  pointwise [k0_pay14, k0_pay12]
  exact congrArg _ (Fin.sum_fin_congr fun k => by rw [xhat_apply]; rfl)

theorem shift_apply : (k0_pay15 h acc : S1x1024.Idx → EReal) j = acc j + ∑ k, tShift.at x d h y w g b k (j 1) := by
  pointwise [k0_pay15]
  rfl

theorem gate_apply : (k0_pay3 (k0_pay10 x) (k0_pay11 x) (k0_pay18 (k0_pay13 w h d) g) (k0_pay19 (k0_pay13 w h d) g) k0_pay20 acc y : S1x1024.Idx → EReal) j
    = acc j + ∑ k, tGate.at x d h y w g b k (j 1) := by
  pointwise [k0_pay3]
  exact congrArg _ (Fin.sum_fin_congr fun k => by rw [dx_apply]; simp only [grad_apply]; rfl)

theorem weight_apply : (k0_pay16 (k0_pay11 x) (k0_pay13 w h d) acc : S1x1024.Idx → EReal) j = acc j + ∑ k, tWeight.at x d h y w g b k (j 1) := by
  pointwise [k0_pay16]
  exact congrArg _ (Fin.sum_fin_congr fun k => by rw [xhat_apply, grad_apply]; rfl)

theorem bias_apply : (k0_pay17 (k0_pay13 w h d) acc : S1x1024.Idx → EReal) j = acc j + ∑ k, tBias.at x d h y w g b k (j 1) := by
  pointwise [k0_pay17]
  exact congrArg _ (Fin.sum_fin_congr fun k => by rw [grad_apply]; rfl)

theorem zero_apply : (k0_pay4 (F := Ideal) : S1x1024.Idx → EReal) j = 0 ∧ (k0_pay5 (F := Ideal) : S1x1024.Idx → EReal) j = 0
    ∧ (k0_pay6 (F := Ideal) : S1x1024.Idx → EReal) j = 0 ∧ (k0_pay7 (F := Ideal) : S1x1024.Idx → EReal) j = 0
    ∧ (k0_pay8 (F := Ideal) : S1x1024.Idx → EReal) j = 0 := by
  refine ⟨?_, ?_, ?_, ?_, ?_⟩
  · pointwise [k0_pay4]
  · pointwise [k0_pay5]
  · pointwise [k0_pay6]
  · pointwise [k0_pay7]
  · pointwise [k0_pay8]

end Kernel

section Ref
open Cert.LnBwdRefIdeal.Read

variable (d h x y : Cert.LnBwdRefIdeal.S8192x1024.Idx → EReal) (w : Cert.LnBwdRefIdeal.S6x1024.Idx → EReal) (g b : Cert.LnBwdRefIdeal.S1x1024.Idx → EReal)
  (i : Cert.LnBwdRefIdeal.S1x1024.Idx)

theorem ref_scale : (val_main_v46 (F := Ideal) h x g b : Cert.LnBwdRefIdeal.S1x1024.Idx → EReal) i = ∑ k, tScale.at x d h y w g b k (i 1) := by
  pointwise [val_main_v46, val_main_v45, val_main_cst_9, val_main_v44, val_main_v41, val_main_v32, val_main_v31, val_main_v30, val_main_v29]
  exact Fin.sum_fin_congr fun k => by rw [ref_xhat, mul_comm]; rfl

theorem ref_shift : (val_main_v43 (F := Ideal) h : Cert.LnBwdRefIdeal.S1x1024.Idx → EReal) i = ∑ k, tShift.at x d h y w g b k (i 1) := by
  pointwise [val_main_v43, val_main_v42, val_main_cst_8]
  rfl

theorem ref_gate (hd : ∀ i, Cert.AttnRef.IsReal (d i)) (hh : ∀ i, Cert.AttnRef.IsReal (h i)) (hw : ∀ k, Cert.AttnRef.IsReal (w (ix2 (4 : Fin 6) k)))
    (hg : ∀ k, Cert.AttnRef.IsReal (g (ix2 (0 : Fin 1) k))) :
    (val_main_v89 (F := Ideal) d h x y w g : Cert.LnBwdRefIdeal.S1x1024.Idx → EReal) i = ∑ k, tGate.at x d h y w g b k (i 1) := by
  pointwise [val_main_v89, val_main_v88, val_main_cst_20, val_main_v87]
  exact Fin.sum_fin_congr fun k => by rw [ref_norm d h x w g hd hh hw hg]; rfl

theorem ref_weight : (val_main_v56 (F := Ideal) d h x w : Cert.LnBwdRefIdeal.S1x1024.Idx → EReal) i = ∑ k, tWeight.at x d h y w g b k (i 1) := by
  pointwise [val_main_v56, val_main_v55, val_main_cst_12, val_main_v54]
  exact Fin.sum_fin_congr fun k => by rw [ref_xhat, ref_grad, mul_comm]; rfl

theorem ref_bias : (val_main_v53 (F := Ideal) d h w : Cert.LnBwdRefIdeal.S1x1024.Idx → EReal) i = ∑ k, tBias.at x d h y w g b k (i 1) := by
  pointwise [val_main_v53, val_main_v52, val_main_cst_11]
  exact Fin.sum_fin_congr fun k => by rw [ref_grad]; rfl

end Ref

/-! ## The arrays -/

variable (m : (ℓ : Loc nD τ sig) → Buf (Elt Ideal) ℓ) (c : Dev nD)

/-- The arrays, and the blocks a point reads. -/
def aD : (⟨2, ![8192, 1024]⟩ : Shape).Idx → EReal := m ((c : Thread nD τ).loc main_arg0)
def aH : (⟨2, ![8192, 1024]⟩ : Shape).Idx → EReal := m ((c : Thread nD τ).loc main_arg1)
def aX : (⟨2, ![8192, 1024]⟩ : Shape).Idx → EReal := m ((c : Thread nD τ).loc main_arg2)
def aY : (⟨2, ![8192, 1024]⟩ : Shape).Idx → EReal := m ((c : Thread nD τ).loc main_arg3)
def aW : (⟨2, ![6, 1024]⟩ : Shape).Idx → EReal := m ((c : Thread nD τ).loc main_arg4)
def aG : (⟨2, ![1, 1024]⟩ : Shape).Idx → EReal := m ((c : Thread nD τ).loc main_arg5)
def aB : (⟨2, ![1, 1024]⟩ : Shape).Idx → EReal := m ((c : Thread nD τ).loc main_arg6)
def bD (t : Fin cfg0.N) : S512x1024.Idx → EReal := iblk m c 0 t
def bH (t : Fin cfg0.N) : S512x1024.Idx → EReal := iblk m c 1 t
def bX (t : Fin cfg0.N) : S512x1024.Idx → EReal := iblk m c 2 t
def bY (t : Fin cfg0.N) : S512x1024.Idx → EReal := iblk m c 3 t
def bW (t : Fin cfg0.N) : S6x1024.Idx → EReal := iblk m c 4 t
def bG (t : Fin cfg0.N) : S1x1024.Idx → EReal := iblk m c 5 t
def bB (t : Fin cfg0.N) : S1x1024.Idx → EReal := iblk m c 6 t

theorem index : ∀ t : Fin cfg0.N, (win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0])
    ∧ win0_7.index t = ![t.val, 0] ∧ win0_8.index t = ![t.val, 0] ∧ win0_9.index t = ![0, 0] ∧ win0_10.index t = ![0, 0]
    ∧ win0_11.index t = ![0, 0] ∧ win0_12.index t = ![0, 0] ∧ win0_13.index t = ![0, 0] :=
  (by decide +kernel : ∀ t : Fin grid0.N, _)

/-- Row `k` of a point's blocks, in the arrays. -/
def row (t : Fin cfg0.N) (k : Fin 512) : Fin 8192 := ⟨t.val * 512 + k.val, by have h : t.val < 16 := t.isLt; omega⟩

theorem blocks (t : Fin cfg0.N) (k : Fin 512) (l : Fin 1024) :
    bX m c t (ix2 k l) = aX m c (ix2 (row t k) l) ∧ bD m c t (ix2 k l) = aD m c (ix2 (row t k) l) ∧ bH m c t (ix2 k l) = aH m c (ix2 (row t k) l)
      ∧ bY m c t (ix2 k l) = aY m c (ix2 (row t k) l) := by
  obtain ⟨⟨e0, e1, e2, e3, -⟩, -⟩ := index t
  unfold bX bD bH bY aX aD aH aY row
  refine ⟨?_, ?_, ?_, ?_⟩
  · blk_ext [iblk, V, e2]
  · blk_ext [iblk, V, e0]
  · blk_ext [iblk, V, e1]
  · blk_ext [iblk, V, e3]

theorem vectors (t : Fin cfg0.N) : bW m c t = aW m c ∧ bG m c t = aG m c ∧ bB m c t = aB m c := by
  obtain ⟨⟨-, -, -, -, e4, e5, e6⟩, -⟩ := index t
  unfold bW bG bB aW aG aB
  refine ⟨?_, ?_, ?_⟩
  · funext i; blk_ext [iblk, V, e4]
  · funext i; blk_ext [iblk, V, e5]
  · funext i; blk_ext [iblk, V, e6]

/-- A term at row `k` of a point's blocks, and at row `i` of the arrays. -/
def atBlk (T : Term) (t : Fin cfg0.N) (k : Fin 512) (j : Fin 1024) : EReal :=
  T.at (bX m c t) (bD m c t) (bH m c t) (bY m c t) (bW m c t) (bG m c t) (bB m c t) k j
def atArr (T : Term) (i : Fin 8192) (j : Fin 1024) : EReal := T.at (aX m c) (aD m c) (aH m c) (aY m c) (aW m c) (aG m c) (aB m c) i j

theorem atBlk_eq (T : Term) (t : Fin cfg0.N) (k : Fin 512) (j : Fin 1024) : atBlk m c T t k j = atArr m c T (row t k) j := by
  obtain ⟨hw, hg, hb⟩ := vectors m c t
  unfold atBlk atArr Term.at
  simp only [fun l => (blocks m c t k l).1, fun l => (blocks m c t k l).2.1, fun l => (blocks m c t k l).2.2.1, fun l => (blocks m c t k l).2.2.2, hw, hg, hb]

/-- What adds up a term over the points' rows holds its sum over the arrays' rows. -/
theorem fold (T : Term) (acc : (k : ℕ) → k < cfg0.N → S1x1024.Idx → EReal)
    (h0 : ∀ t : Fin cfg0.N, t.val % 16 = 0 → ∀ j, acc t.val t.isLt j = 0 + ∑ k, atBlk m c T t k (j 1))
    (hs : ∀ t : Fin cfg0.N, ¬t.val % 16 = 0 → ∀ j,
      acc t.val t.isLt j = acc (t.val - 1) (Nat.lt_of_le_of_lt (Nat.sub_le _ _) t.isLt) j + ∑ k, atBlk m c T t k (j 1))
    (t : Fin cfg0.N) (h : t.val % 16 = 15) (j : S1x1024.Idx) (j' : Fin 1024) (hj : j' = j 1) :
    acc t.val t.isLt j = ∑ i : Fin 8192, atArr m c T i j' := by
  rw [hj]
  exact fold_rows acc (fun t j k => atBlk m c T t k (j 1)) h0 hs t h j fun p k hl => atBlk_eq m c T p k (j 1)

theorem out7 (t : Fin cfg0.N) : (outsAt0 m c t.val t.isLt).1
    = k0_pay1 (F := Ideal) (k0_pay10 (bX m c t)) (k0_pay11 (bX m c t)) (k0_pay18 (k0_pay13 (bW m c t) (bH m c t) (bD m c t)) (bG m c t)) (k0_pay19 (k0_pay13 (bW m c t) (bH m c t) (bD m c t)) (bG m c t)) k0_pay20 := by
  by_cases h : t.val % 16 = 0
  · rw [outsAt0_A m c t h]; frame_out; rfl
  · rw [outsAt0_B m c t h]; frame_out; rfl

theorem out8 (t : Fin cfg0.N) : (outsAt0 m c t.val t.isLt).2.1
    = k0_pay2 (F := Ideal) (bW m c t) (k0_pay10 (bX m c t)) (k0_pay11 (bX m c t)) (k0_pay18 (k0_pay13 (bW m c t) (bH m c t) (bD m c t)) (bG m c t)) (k0_pay19 (k0_pay13 (bW m c t) (bH m c t) (bD m c t)) (bG m c t)) k0_pay20 := by
  by_cases h : t.val % 16 = 0
  · rw [outsAt0_A m c t h]; frame_out; rfl
  · rw [outsAt0_B m c t h]; frame_out; rfl

/-- The gradient of the residual sum, at a block's row and at an array's. -/
def tNorm : Term := fun x d h _ s g _ j => dNorm width eps x (fun k => grad d h s k * g k) j

theorem norm_apply (t : Fin cfg0.N) (j : S512x1024.Idx) :
    (k0_pay1 (F := Ideal) (k0_pay10 (bX m c t)) (k0_pay11 (bX m c t)) (k0_pay18 (k0_pay13 (bW m c t) (bH m c t) (bD m c t)) (bG m c t)) (k0_pay19 (k0_pay13 (bW m c t) (bH m c t) (bD m c t)) (bG m c t)) k0_pay20 : S512x1024.Idx → EReal) j
      = atArr m c tNorm (row t (j 0)) (j 1) := by
  refine Eq.trans ?_ (atBlk_eq m c tNorm t (j 0) (j 1))
  rw [dx_apply]
  unfold atBlk Term.at tNorm
  refine congrArg (fun q => dNorm width eps (fun k => bX m c t (ix2 (j 0 : Fin 512) k)) q (j 1 : Fin 1024)) (funext fun k => ?_)
  rw [grad_apply]
  rfl

/-- What the precondition gives. -/
structure Real : Prop where
  d : ∀ i, Cert.AttnRef.IsReal (aD m c i)
  h : ∀ i, Cert.AttnRef.IsReal (aH m c i)
  w : ∀ k, Cert.AttnRef.IsReal (aW m c (ix2 (4 : Fin 6) k))
  g : ∀ k, Cert.AttnRef.IsReal (aG m c (ix2 (0 : Fin 1) k))

variable {m c}

theorem residual (r : Real m c) : (dats m 0 c).arrAt 7 cfg0.N
    = Cert.LnBwdRefIdeal.Read.val_main_v82 (F := Ideal) (aD m c) (aH m c) (aX m c) (aW m c) (aG m c) := by
  refine (dats m 0 c).arrAt_eq_of_covers 7 _ (by decide +kernel) fun t hf y => ?_
  obtain ⟨-, e7, -⟩ := index t
  rw [ref_norm _ _ _ _ _ r.d r.h r.w r.g]
  rw [after0_7, out7]
  refine (norm_apply m c t y).trans ?_
  have h0 : (((cfg0.win 7).blk t).view.emb y 0 : Fin 8192) = row t (y 0) := by
    refine Fin.ext ?_; blk_simp; simp [e7, row]
  have h1 : (((cfg0.win 7).blk t).view.emb y 1 : Fin 1024) = y 1 := by
    refine Fin.ext ?_; blk_simp; simp [e7]
  rw [h0, h1]
  rfl

theorem mixer (r : Real m c) : (dats m 0 c).arrAt 8 cfg0.N
    = Cert.LnBwdRefIdeal.Read.val_main_v90 (F := Ideal) (aD m c) (aH m c) (aX m c) (aW m c) (aG m c) := by
  refine (dats m 0 c).arrAt_eq_of_covers 8 _ (by decide +kernel) fun t hf y => ?_
  obtain ⟨-, -, e8, -⟩ := index t
  have h0 : (((cfg0.win 8).blk t).view.emb y 0 : Fin 8192) = row t (y 0) := by
    refine Fin.ext ?_; blk_simp; simp [e8, row]
  have h1 : (((cfg0.win 8).blk t).view.emb y 1 : Fin 1024) = y 1 := by
    refine Fin.ext ?_; blk_simp; simp [e8]
  have hr : ∀ i, (Cert.LnBwdRefIdeal.Read.val_main_v90 (F := Ideal) (aD m c) (aH m c) (aX m c) (aW m c) (aG m c) : Cert.LnBwdRefIdeal.S8192x1024.Idx → EReal) i
      = aW m c (ix2 (2 : Fin 6) (i 1)) * atArr m c tNorm (i 0) (i 1) := fun i => by
    pointwise [Cert.LnBwdRefIdeal.Read.val_main_v90, Cert.LnBwdRefIdeal.Read.val_main_v86, Cert.LnBwdRefIdeal.Read.val_main_v85, Cert.LnBwdRefIdeal.Read.val_main_v2]
    rw [ref_norm _ _ _ _ _ r.d r.h r.w r.g]
    rfl
  have hk : ∀ j : S512x1024.Idx, (k0_pay2 (F := Ideal) (bW m c t) (k0_pay10 (bX m c t)) (k0_pay11 (bX m c t)) (k0_pay18 (k0_pay13 (bW m c t) (bH m c t) (bD m c t)) (bG m c t)) (k0_pay19 (k0_pay13 (bW m c t) (bH m c t) (bD m c t)) (bG m c t)) k0_pay20 : S512x1024.Idx → EReal) j
      = aW m c (ix2 (2 : Fin 6) (j 1)) * atArr m c tNorm (row t (j 0)) (j 1) := fun j => by
    pointwise [k0_pay2]
    rw [norm_apply, (vectors m c t).1]
  rw [after0_8, out8]
  refine (hk y).trans ?_
  rw [hr, h0, h1]

variable (m c)

theorem scale : (dats m 0 c).arrAt 9 cfg0.N = Cert.LnBwdRefIdeal.Read.val_main_v46 (F := Ideal) (aH m c) (aX m c) (aG m c) (aB m c) := by
  refine (dats m 0 c).arrAt_eq_of_covers 9 _ (by decide +kernel) fun t hf y => ?_
  rw [ref_scale (aD m c) _ _ (aY m c) (aW m c), after0_9]
  obtain ⟨-, -, -, e, -⟩ := index t
  refine fold m c tScale (fun n h => (outsAt0 m c n h).2.2.1) (fun t h j => ?_) (fun t h j => ?_) t ((flush0_9 t).mp hf) y _ ?_
  · rw [outsAt0_A m c t h]
    frame_out
    exact (scale_apply (bX m c t) (bD m c t) (bH m c t) (bY m c t) (bW m c t) (bG m c t) (bB m c t) _ j).trans (congrArg (· + _) (by simp only [zero_apply]))
  · rw [outsAt0_B m c t h]
    frame_out
    exact scale_apply (bX m c t) (bD m c t) (bH m c t) (bY m c t) (bW m c t) (bG m c t) (bB m c t) _ j
  · refine Fin.ext ?_; blk_simp; simp [e]

theorem shift : (dats m 0 c).arrAt 10 cfg0.N = Cert.LnBwdRefIdeal.Read.val_main_v43 (F := Ideal) (aH m c) := by
  refine (dats m 0 c).arrAt_eq_of_covers 10 _ (by decide +kernel) fun t hf y => ?_
  rw [ref_shift (aD m c) (aH m c) (aX m c) (aY m c) (aW m c) (aG m c) (aB m c), after0_10]
  obtain ⟨-, -, -, -, e, -⟩ := index t
  refine fold m c tShift (fun n h => (outsAt0 m c n h).2.2.2.1) (fun t h j => ?_) (fun t h j => ?_) t ((flush0_10 t).mp hf) y _ ?_
  · rw [outsAt0_A m c t h]
    frame_out
    exact (shift_apply (bX m c t) (bD m c t) (bH m c t) (bY m c t) (bW m c t) (bG m c t) (bB m c t) _ j).trans (congrArg (· + _) (by simp only [zero_apply]))
  · rw [outsAt0_B m c t h]
    frame_out
    exact shift_apply (bX m c t) (bD m c t) (bH m c t) (bY m c t) (bW m c t) (bG m c t) (bB m c t) _ j
  · refine Fin.ext ?_; blk_simp; simp [e]

theorem gate (r : Real m c) : (dats m 0 c).arrAt 11 cfg0.N = Cert.LnBwdRefIdeal.Read.val_main_v89 (F := Ideal) (aD m c) (aH m c) (aX m c) (aY m c) (aW m c) (aG m c) := by
  refine (dats m 0 c).arrAt_eq_of_covers 11 _ (by decide +kernel) fun t hf y => ?_
  rw [ref_gate (aD m c) (aH m c) (aX m c) (aY m c) (aW m c) (aG m c) (aB m c) _ r.d r.h r.w r.g, after0_11]
  obtain ⟨-, -, -, -, -, e, -⟩ := index t
  refine fold m c tGate (fun n h => (outsAt0 m c n h).2.2.2.2.1) (fun t h j => ?_) (fun t h j => ?_) t ((flush0_11 t).mp hf) y _ ?_
  · rw [outsAt0_A m c t h]
    frame_out
    exact (gate_apply (bX m c t) (bD m c t) (bH m c t) (bY m c t) (bW m c t) (bG m c t) (bB m c t) _ j).trans (congrArg (· + _) (by simp only [zero_apply]))
  · rw [outsAt0_B m c t h]
    frame_out
    exact gate_apply (bX m c t) (bD m c t) (bH m c t) (bY m c t) (bW m c t) (bG m c t) (bB m c t) _ j
  · refine Fin.ext ?_; blk_simp; simp [e]

theorem weight : (dats m 0 c).arrAt 12 cfg0.N = Cert.LnBwdRefIdeal.Read.val_main_v56 (F := Ideal) (aD m c) (aH m c) (aX m c) (aW m c) := by
  refine (dats m 0 c).arrAt_eq_of_covers 12 _ (by decide +kernel) fun t hf y => ?_
  rw [ref_weight (aD m c) (aH m c) (aX m c) (aY m c) (aW m c) (aG m c) (aB m c), after0_12]
  obtain ⟨-, -, -, -, -, -, e, -⟩ := index t
  refine fold m c tWeight (fun n h => (outsAt0 m c n h).2.2.2.2.2.1) (fun t h j => ?_) (fun t h j => ?_) t ((flush0_12 t).mp hf) y _ ?_
  · rw [outsAt0_A m c t h]
    frame_out
    exact (weight_apply (bX m c t) (bD m c t) (bH m c t) (bY m c t) (bW m c t) (bG m c t) (bB m c t) _ j).trans (congrArg (· + _) (by simp only [zero_apply]))
  · rw [outsAt0_B m c t h]
    frame_out
    exact weight_apply (bX m c t) (bD m c t) (bH m c t) (bY m c t) (bW m c t) (bG m c t) (bB m c t) _ j
  · refine Fin.ext ?_; blk_simp; simp [e]

theorem bias : (dats m 0 c).arrAt 13 cfg0.N = Cert.LnBwdRefIdeal.Read.val_main_v53 (F := Ideal) (aD m c) (aH m c) (aW m c) := by
  refine (dats m 0 c).arrAt_eq_of_covers 13 _ (by decide +kernel) fun t hf y => ?_
  rw [ref_bias (aD m c) (aH m c) (aX m c) (aY m c) (aW m c) (aG m c) (aB m c), after0_13]
  obtain ⟨-, -, -, -, -, -, -, e⟩ := index t
  refine fold m c tBias (fun n h => (outsAt0 m c n h).2.2.2.2.2.2) (fun t h j => ?_) (fun t h j => ?_) t ((flush0_13 t).mp hf) y _ ?_
  · rw [outsAt0_A m c t h]
    frame_out
    exact (bias_apply (bX m c t) (bD m c t) (bH m c t) (bY m c t) (bW m c t) (bG m c t) (bB m c t) _ j).trans (congrArg (· + _) (by simp only [zero_apply]))
  · rw [outsAt0_B m c t h]
    frame_out
    exact bias_apply (bX m c t) (bD m c t) (bH m c t) (bY m c t) (bW m c t) (bG m c t) (bB m c t) _ j
  · refine Fin.ext ?_; blk_simp; simp [e]

/-! ## The claims -/

/-- The precondition's shape relations. -/
theorem pre_facts : Cert.Pre_finite_norm.Facts where
  bcast_S_S8192x1024 := by decide
  slices_S6x1024_S1x1024_4_0 := by decide
  bcast_S_S1x1024 := by decide

theorem real_of_pre (hp : Cert.Pre_LnBwdIdeal_finite_norm (hPre_finite_norm := pre_facts) m) : Real m c := by
  obtain ⟨p0, p1, p2, p3⟩ := hp c
  unfold Cert.Pre_finite_norm.fn at p0 p1 p2 p3
  dsimp only at p0 p1 p2 p3
  refine ⟨fun i => ?_, fun i => ?_, fun k => ?_, fun k => ?_⟩
  · have e := congrFun p0 i
    revert e
    pointwise []
    exact Cert.AttnRef.isReal_of_abs_lt _
  · have e := congrFun p1 i
    revert e
    pointwise []
    exact Cert.AttnRef.isReal_of_abs_lt _
  · have e := congrFun p2 (ix2 0 k)
    revert e
    pointwise []
    exact Cert.AttnRef.isReal_of_abs_lt _
  · have e := congrFun p3 (ix2 0 k)
    revert e
    pointwise []
    exact Cert.AttnRef.isReal_of_abs_lt _

theorem ref_frame : Cert.quiescent_LnBwdRefIdeal (hLnBwdRefIdeal := Cert.LnBwdRefIdeal.Gen.facts) := fun m g _ =>
  (θ_run _ _ _).mono (fun r h => ⟨fun c => (h c).2.2.2.2.2.2.2, sem_eq_zero_of_no_sems rfl r.2⟩) (Cert.LnBwdRefIdeal.Value.run (F := Ideal) m g)

theorem algebraic : Cert.algebraic_LnBwdIdeal_LnBwdRefIdeal_pre_finite_norm (hLnBwdIdeal := facts)
    (hLnBwdRefIdeal := Cert.LnBwdRefIdeal.Gen.facts) (hPre_finite_norm := pre_facts) := by
  intro m g m' g' hp ha
  refine ⟨fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, fun c => (dats m 0 c).arrAt 12 cfg0.N,
    fun c => (dats m 0 c).arrAt 13 cfg0.N, run_blocks m g, (θ_run _ _ _).mono (fun r h c => ?_) (Cert.LnBwdRefIdeal.Value.run (F := Ideal) m' g')⟩
  obtain ⟨h0, h1, h2, h3, h4, h5, h6, h7⟩ := h c
  obtain ⟨a0, a1, a2, a3, a4, a5, a6⟩ := ha c
  have r := real_of_pre m c hp
  refine ⟨h0.trans ((Cert.LnBwdRefIdeal.Read.val_main_v82_eq _ _).trans ?_), h1.trans ((Cert.LnBwdRefIdeal.Read.val_main_v90_eq _ _).trans ?_),
    h2.trans ((Cert.LnBwdRefIdeal.Read.val_main_v46_eq _ _ _ _).trans ?_), h3.trans ((Cert.LnBwdRefIdeal.Read.val_main_v43_eq _).trans ?_),
    h4.trans ((Cert.LnBwdRefIdeal.Read.val_main_v89_eq _ _).trans ?_), h5.trans ((Cert.LnBwdRefIdeal.Read.val_main_v56_eq _ _ _ _).trans ?_),
    h6.trans ((Cert.LnBwdRefIdeal.Read.val_main_v53_eq _ _ _).trans ?_), h7⟩
  · rw [a0, a1, a2, a4, a5]; exact (residual r).symm
  · rw [a0, a1, a2, a4, a5]; exact (mixer r).symm
  · rw [a1, a2, a5, a6]; exact (scale m c).symm
  · rw [a1]; exact (shift m c).symm
  · rw [a0, a1, a2, a3, a4, a5]; exact (gate m c r).symm
  · rw [a0, a1, a2, a4]; exact (weight m c).symm
  · rw [a0, a1, a4]; exact (bias m c).symm

end Cert.Rows.LnBwd

end
-- ==== Proof.Rows.MergeBwd.lean ====
/- The backward of the two gated branches' merge: the gradients of the two branches, of the gates before their sigmoid and of their bias. -/
module

public import proofs.«01_k».proof.Defs
public import proofs.«01_k».proof.Proof.Gen.MergeBwdIdeal.Value
public import proofs.«01_k».proof.Proof.Gen.MergeBwdRefIdeal.Read
public import proofs.«01_k».proof.Proof.Rows.Blocks
public import Idealize.ShloMosaic.Lib.Claim
public import Idealize.ShloMosaic.Lib.Quiescent
public import Idealize.ShloMosaic.Lib.Pointwise

@[expose] public section

noncomputable section

namespace Cert.Rows.MergeBwd

open Cert.MergeBwdIdeal Cert.MergeBwdIdeal.Gen Cert.MergeBwdIdeal.Value Idealize.ShloMosaic Idealize.ShloMosaic.TcCoe Idealize.SL.Sem

/-- The sigmoid. -/
def sigm (x : EReal) : EReal := Ideal.div 1 (1 + Ideal.exp (-x))

/-- The gradient of gate `j`, from the merge's gradient, the two branches' outputs, the gates and their bias. -/
def gate (d a b : Fin 1024 → EReal) (g w : Fin 2048 → EReal) (j : Fin 2048) : EReal :=
  (if h : j.val < 1024 then d ⟨j.val, h⟩ * a ⟨j.val, h⟩ else d ⟨j.val - 1024, by omega⟩ * b ⟨j.val - 1024, by omega⟩)
    * (sigm (g j + w j) * (1 - sigm (g j + w j)))

/-! ## The kernel's terms -/

section Kernel

variable (d ya yb : Vec Ideal S512x1024 .bf16) (g : Vec Ideal S512x2048 .bf16) (w acc : Vec Ideal S1x2048 .f32)

theorem sig_apply (j : S512x2048.Idx) : (k0_pay5 g w : S512x2048.Idx → EReal) j = sigm ((g j : EReal) + (w (ix2 (0 : Fin 1) (j 1)) : EReal)) := by
  unfold sigm
  pointwise [k0_pay5]
  rw [zero_sub]

theorem gate_apply (j : S512x2048.Idx) :
    (k0_pay1 (k0_pay8 g w) (k0_pay11 g w d ya) (k0_pay12 g w d yb) : S512x2048.Idx → EReal) j
      = gate (fun k => d (ix2 (j 0) k)) (fun k => ya (ix2 (j 0) k)) (fun k => yb (ix2 (j 0) k)) (fun k => g (ix2 (j 0) k)) (fun k => w (ix2 0 k)) (j 1) := by
  unfold gate
  pointwise [k0_pay1, k0_pay8, k0_pay11, k0_pay12, k0_pay7, k0_pay6]
  split_ifs with h
  · rw [sig_apply, mul_assoc (_ * _)]
  · have e (p : 1024 + ((j 1).val - 1024) < 2048) : (ix2 (j 0) ⟨1024 + ((j 1).val - 1024), p⟩ : S512x2048.Idx) = j := by
      blk_ext
    rw [e, sig_apply, mul_assoc (_ * _)]
  · exact absurd rfl ‹_›

theorem sum_apply (j : S1x2048.Idx) :
    (k0_pay3 (k0_pay8 g w) (k0_pay11 g w d ya) (k0_pay12 g w d yb) acc : S1x2048.Idx → EReal) j
      = (acc j : EReal) + ∑ k : Fin 512, gate (fun l => d (ix2 k l)) (fun l => ya (ix2 k l)) (fun l => yb (ix2 k l)) (fun l => g (ix2 k l)) (fun l => w (ix2 0 l)) (j 1) := by
  pointwise [k0_pay3]
  exact congrArg _ (Fin.sum_fin_congr fun k => gate_apply d ya yb g w _)

theorem zero_sum (j : S1x2048.Idx) : (k0_pay4 (F := Ideal) : S1x2048.Idx → EReal) j = 0 := by
  pointwise [k0_pay4]

theorem branch_a (j : S512x1024.Idx) : (k0_pay9 g w d : S512x1024.Idx → EReal) j
    = (d j : EReal) * sigm (g (ix2 (j 0) ⟨(j 1).val, Nat.lt_trans (j 1).isLt (by decide)⟩) + w (ix2 0 ⟨(j 1).val, Nat.lt_trans (j 1).isLt (by decide)⟩)) := by
  pointwise [k0_pay9, k0_pay7, k0_pay6]
  rw [sig_apply]
  rfl

theorem branch_b (j : S512x1024.Idx) : (k0_pay10 g w d : S512x1024.Idx → EReal) j
    = (d j : EReal) * sigm (g (ix2 (j 0) ⟨1024 + (j 1).val, Nat.add_lt_add_left (j 1).isLt 1024⟩) + w (ix2 0 ⟨1024 + (j 1).val, Nat.add_lt_add_left (j 1).isLt 1024⟩)) := by
  pointwise [k0_pay10, k0_pay8, k0_pay6]
  rw [sig_apply]
  rfl

end Kernel

section Ref
open Cert.MergeBwdRefIdeal.Read

variable (d ya yb : Cert.MergeBwdRefIdeal.S8192x1024.Idx → EReal) (g : Cert.MergeBwdRefIdeal.S8192x2048.Idx → EReal) (w : Cert.MergeBwdRefIdeal.S1x2048.Idx → EReal)

theorem ref_sig (i : Cert.MergeBwdRefIdeal.S8192x2048.Idx) :
    (val_main_v10 (F := Ideal) g w : Cert.MergeBwdRefIdeal.S8192x2048.Idx → EReal) i = sigm (g i + w (ix2 (0 : Fin 1) (i 1))) := by
  unfold sigm
  pointwise [val_main_v10, val_main_v9, val_main_cst_0, val_main_v8, val_main_v7, val_main_cst, val_main_v6, val_main_v5, val_main_v4, val_main_v3, val_main_v0]

theorem ref_gate (i : Cert.MergeBwdRefIdeal.S8192x2048.Idx) :
    (val_main_v25 (F := Ideal) d g w ya yb : Cert.MergeBwdRefIdeal.S8192x2048.Idx → EReal) i
      = gate (fun k => d (ix2 (i 0) k)) (fun k => ya (ix2 (i 0) k)) (fun k => yb (ix2 (i 0) k)) (fun k => g (ix2 (i 0) k)) (fun k => w (ix2 0 k)) (i 1) := by
  unfold gate
  pointwise [val_main_v25, val_main_v24, val_main_v23, val_main_v21, val_main_v13, val_main_v12, val_main_v11, val_main_cst_1, val_main_v1, val_main_v2, val_main_v19]
  rw [ref_sig]

theorem ref_sum (i : Cert.MergeBwdRefIdeal.S1x2048.Idx) :
    (val_main_v27 (F := Ideal) d g w ya yb : Cert.MergeBwdRefIdeal.S1x2048.Idx → EReal) i
      = ∑ k : Fin 8192, gate (fun l => d (ix2 k l)) (fun l => ya (ix2 k l)) (fun l => yb (ix2 k l)) (fun l => g (ix2 k l)) (fun l => w (ix2 0 l)) (i 1) := by
  pointwise [val_main_v27, val_main_v26, val_main_cst_2]
  exact Fin.sum_fin_congr fun k => ref_gate d ya yb g w _

theorem ref_a (i : Cert.MergeBwdRefIdeal.S8192x1024.Idx) : (val_main_v28 (F := Ideal) d g w : Cert.MergeBwdRefIdeal.S8192x1024.Idx → EReal) i
    = d i * sigm (g (ix2 (i 0) ⟨(i 1).val, Nat.lt_trans (i 1).isLt (by decide)⟩) + w (ix2 0 ⟨(i 1).val, Nat.lt_trans (i 1).isLt (by decide)⟩)) := by
  pointwise [val_main_v28, val_main_v22, val_main_v19, val_main_v14]
  rw [ref_sig, mul_comm]
  rfl

theorem ref_b (i : Cert.MergeBwdRefIdeal.S8192x1024.Idx) : (val_main_v29 (F := Ideal) d g w : Cert.MergeBwdRefIdeal.S8192x1024.Idx → EReal) i
    = d i * sigm (g (ix2 (i 0) ⟨1024 + (i 1).val, Nat.add_lt_add_left (i 1).isLt 1024⟩) + w (ix2 0 ⟨1024 + (i 1).val, Nat.add_lt_add_left (i 1).isLt 1024⟩)) := by
  pointwise [val_main_v29, val_main_v20, val_main_v19, val_main_v15]
  rw [ref_sig, mul_comm]
  rfl

end Ref

/-! ## The arrays -/

variable (m : (ℓ : Loc nD τ sig) → Buf (Elt Ideal) ℓ) (c : Dev nD)

/-- The blocks a point reads. -/
def bD (t : Fin cfg0.N) : S512x1024.Idx → EReal := iblk m c 0 t
def bG (t : Fin cfg0.N) : S512x2048.Idx → EReal := iblk m c 1 t
def bW (t : Fin cfg0.N) : S1x2048.Idx → EReal := iblk m c 2 t
def bA (t : Fin cfg0.N) : S512x1024.Idx → EReal := iblk m c 3 t
def bB (t : Fin cfg0.N) : S512x1024.Idx → EReal := iblk m c 4 t

theorem index : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0] :=
  (by decide +kernel : ∀ t : Fin grid0.N, _)

theorem grad_a : (dats m 0 c).arrAt 5 cfg0.N = Cert.MergeBwdRefIdeal.Read.val_main_v28 (F := Ideal)
    (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨e0, e1, e2, -, -, e5, -⟩ := index t
  rw [ref_a]
  blk_simp
  have hw : (outsAt0 m c t.val t.isLt).1 = k0_pay9 (iblk m c 1 t) (iblk m c 2 t) (iblk m c 0 t) := by
    by_cases h : t.val % 16 = 0
    · rw [outsAt0_A m c t h]; frame_out
    · rw [outsAt0_B m c t h]; frame_out
  rw [after0_5, hw, branch_a]
  blk_point [iblk, V, e0, e1, e2, e5]

theorem grad_b : (dats m 0 c).arrAt 6 cfg0.N = Cert.MergeBwdRefIdeal.Read.val_main_v29 (F := Ideal)
    (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨e0, e1, e2, -, -, -, e6, -⟩ := index t
  rw [ref_b]
  blk_simp
  have hw : (outsAt0 m c t.val t.isLt).2.1 = k0_pay10 (iblk m c 1 t) (iblk m c 2 t) (iblk m c 0 t) := by
    by_cases h : t.val % 16 = 0
    · rw [outsAt0_A m c t h]; frame_out
    · rw [outsAt0_B m c t h]; frame_out
  rw [after0_6, hw, branch_b]
  blk_point [iblk, V, e0, e1, e2, e6]

theorem grad_gates : (dats m 0 c).arrAt 7 cfg0.N = Cert.MergeBwdRefIdeal.Read.val_main_v30 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 7 _ (by decide +kernel) fun t hf y => ?_
  obtain ⟨e0, e1, e2, e3, e4, -, -, e7, -⟩ := index t
  refine Eq.trans ?_ (ref_gate _ _ _ _ _ _).symm
  blk_simp
  have hw : (outsAt0 m c t.val t.isLt).2.2.1 = k0_pay2 (k0_pay8 (iblk m c 1 t) (iblk m c 2 t))
      (k0_pay11 (iblk m c 1 t) (iblk m c 2 t) (iblk m c 0 t) (iblk m c 3 t)) (k0_pay12 (iblk m c 1 t) (iblk m c 2 t) (iblk m c 0 t) (iblk m c 4 t)) := by
    by_cases h : t.val % 16 = 0
    · rw [outsAt0_A m c t h]; frame_out
    · rw [outsAt0_B m c t h]; frame_out
  rw [after0_7, hw]
  refine (gate_apply _ _ _ _ _ y).trans ?_
  congr 1
  · funext k; blk_ext [iblk, V, e0, e7]
  · funext k; blk_ext [iblk, V, e3, e7]
  · funext k; blk_ext [iblk, V, e4, e7]
  · funext k; blk_ext [iblk, V, e1, e7]
  · funext k; blk_ext [iblk, V, e2, e7]
  · refine Fin.ext ?_; blk_simp; simp [e7]

theorem grad_bias : (dats m 0 c).arrAt 8 cfg0.N = Cert.MergeBwdRefIdeal.Read.val_main_v27 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 8 _ (by decide +kernel) fun t hf y => ?_
  have h := (flush0_8 t).mp hf
  rw [ref_sum]
  blk_simp
  rw [after0_8]
  refine fold_rows (fun n h => (outsAt0 m c n h).2.2.2) (fun t j k => gate (fun l => bD m c t (ix2 k l)) (fun l => bA m c t (ix2 k l))
      (fun l => bB m c t (ix2 k l)) (fun l => bG m c t (ix2 k l)) (fun l => bW m c t (ix2 0 l)) (j 1))
    (fun t h j => ?_) (fun t h j => ?_) t h y fun p k hl => ?_
  · rw [outsAt0_A m c t h]
    frame_out
    refine (sum_apply _ _ _ _ _ _ _).trans ?_
    rw [zero_sum]
    rfl
  · rw [outsAt0_B m c t h]
    frame_out
    exact sum_apply _ _ _ _ _ _ _
  · obtain ⟨e0, e1, e2, e3, e4, -⟩ := index p
    obtain ⟨-, -, -, -, -, -, -, -, e8⟩ := index t
    unfold bD bA bB bG bW
    congr 1
    · funext l; blk_ext [iblk, V, e0]
    · funext l; blk_ext [iblk, V, e3]
    · funext l; blk_ext [iblk, V, e4]
    · funext l; blk_ext [iblk, V, e1]
    · funext l; blk_ext [iblk, V, e2]
    · refine Fin.ext ?_; blk_simp; simp [e8]

/-! ## The claims -/

theorem ref_frame : Cert.quiescent_MergeBwdRefIdeal (hMergeBwdRefIdeal := Cert.MergeBwdRefIdeal.Gen.facts) := fun m g _ =>
  (θ_run _ _ _).mono (fun r h => ⟨fun c => (h c).2.2.2.2, sem_eq_zero_of_no_sems rfl r.2⟩) (Cert.MergeBwdRefIdeal.Value.run (F := Ideal) m g)

theorem algebraic : Cert.algebraic_MergeBwdIdeal_MergeBwdRefIdeal (hMergeBwdIdeal := facts) (hMergeBwdRefIdeal := Cert.MergeBwdRefIdeal.Gen.facts) := by
  intro m g m' g' _ ha
  refine ⟨fun c => (dats m 0 c).arrAt 5 cfg0.N, fun c => (dats m 0 c).arrAt 6 cfg0.N, fun c => (dats m 0 c).arrAt 7 cfg0.N,
    fun c => (dats m 0 c).arrAt 8 cfg0.N, run_blocks m g, (θ_run _ _ _).mono (fun r h c => ?_) (Cert.MergeBwdRefIdeal.Value.run (F := Ideal) m' g')⟩
  obtain ⟨h0, h1, h2, h3, h4⟩ := h c
  obtain ⟨a0, a1, a2, a3, a4⟩ := ha c
  refine ⟨h0.trans ((Cert.MergeBwdRefIdeal.Read.val_main_v28_eq _ _ _).trans ?_), h1.trans ((Cert.MergeBwdRefIdeal.Read.val_main_v29_eq _ _ _).trans ?_),
    h2.trans ((Cert.MergeBwdRefIdeal.Read.val_main_v30_eq _ _ _ _ _).trans ?_), h3.trans ((Cert.MergeBwdRefIdeal.Read.val_main_v27_eq _ _ _ _ _).trans ?_), h4⟩
  · rw [a0, a1, a2]; exact (grad_a m c).symm
  · rw [a0, a1, a2]; exact (grad_b m c).symm
  · rw [a0, a1, a2, a3, a4]; exact (grad_gates m c).symm
  · rw [a0, a1, a2, a3, a4]; exact (grad_bias m c).symm

end Cert.Rows.MergeBwd

end
-- ==== Proof.Rows.GradX.lean ====
/- The gradient of the step's input: its two uses, on the residual path and in the modulated input of the first sub-layer; with the gradients
of that modulation's scale and shift, summed over the rows. -/
module

public import proofs.«01_k».proof.Defs
public import proofs.«01_k».proof.Proof.Gen.GradXIdeal.Value
public import proofs.«01_k».proof.Proof.Gen.GradXRefIdeal.Read
public import proofs.«01_k».proof.Proof.Rows.Blocks
public import Idealize.ShloMosaic.Lib.Claim
public import Idealize.ShloMosaic.Lib.Quiescent
public import Idealize.ShloMosaic.Lib.Pointwise

@[expose] public section

noncomputable section

namespace Cert.Rows.GradX

open Cert.GradXIdeal Cert.GradXIdeal.Gen Cert.GradXIdeal.Value Idealize.ShloMosaic Idealize.ShloMosaic.TcCoe Idealize.SL.Sem

/-- The residual path's factor, and 1. -/
def alpha : EReal := Ideal.ofBits .f32 0x3F9837F0#32
def one : EReal := Ideal.ofBits .f32 0x3F800000#32

/-! ## The kernel's terms -/

theorem row_apply (g d : Vec Ideal S512x1024 .f32) (w : Vec Ideal S6x1024 .f32) (j : S512x1024.Idx) :
    (k0_pay3 g d w : S512x1024.Idx → EReal) j = alpha * (d j : EReal) + (g j : EReal) * (one + (w (ix2 (1 : Fin 6) (j 1)) : EReal)) := by
  unfold alpha one
  pointwise [k0_pay3]

theorem scale_apply (g x : Vec Ideal S512x1024 .f32) (acc : Vec Ideal S1x1024 .f32) (j : S1x1024.Idx) :
    (k0_pay4 g acc x : S1x1024.Idx → EReal) j = (acc j : EReal) + ∑ k : Fin 512, (g (ix2 k (j 1)) : EReal) * (x (ix2 k (j 1)) : EReal) := by
  pointwise [k0_pay4]

theorem shift_apply (g : Vec Ideal S512x1024 .f32) (acc : Vec Ideal S1x1024 .f32) (j : S1x1024.Idx) :
    (k0_pay5 g acc : S1x1024.Idx → EReal) j = (acc j : EReal) + ∑ k : Fin 512, (g (ix2 k (j 1)) : EReal) := by
  pointwise [k0_pay5]

theorem zero_scale (j : S1x1024.Idx) : (k0_pay1 (F := Ideal) : S1x1024.Idx → EReal) j = 0 := by
  pointwise [k0_pay1]

theorem zero_shift (j : S1x1024.Idx) : (k0_pay2 (F := Ideal) : S1x1024.Idx → EReal) j = 0 := by
  pointwise [k0_pay2]

/-! ## The reference's terms -/

section Ref
open Cert.GradXRefIdeal.Read

variable (g x d : Cert.GradXRefIdeal.S8192x1024.Idx → EReal) (w : Cert.GradXRefIdeal.S6x1024.Idx → EReal)

theorem ref_row (i : Cert.GradXRefIdeal.S8192x1024.Idx) :
    (val_main_v24 (F := Ideal) g d w : Cert.GradXRefIdeal.S8192x1024.Idx → EReal) i = g i * (one + w (ix2 (1 : Fin 6) (i 1))) + alpha * d i := by
  unfold alpha one
  pointwise [val_main_v24, val_main_v23, val_main_v22, val_main_cst_3, val_main_v21, val_main_v20, val_main_v14, val_main_v9, val_main_v8, val_main_cst_0, val_main_v1]

theorem ref_scale (i : Cert.GradXRefIdeal.S1x1024.Idx) :
    (val_main_v19 (F := Ideal) g x : Cert.GradXRefIdeal.S1x1024.Idx → EReal) i = ∑ k : Fin 8192, g (ix2 k (i 1)) * x (ix2 k (i 1)) := by
  pointwise [val_main_v19, val_main_v18, val_main_cst_2, val_main_v17, val_main_v14]
  exact Finset.sum_congr rfl fun k _ => mul_comm _ _

theorem ref_shift (i : Cert.GradXRefIdeal.S1x1024.Idx) :
    (val_main_v16 (F := Ideal) g : Cert.GradXRefIdeal.S1x1024.Idx → EReal) i = ∑ k : Fin 8192, g (ix2 k (i 1)) := by
  pointwise [val_main_v16, val_main_v15, val_main_cst_1]

end Ref

/-! ## The arrays -/

variable (m : (ℓ : Loc nD τ sig) → Buf (Elt Ideal) ℓ) (c : Dev nD)

/-- The blocks a point reads. -/
def bG (t : Fin cfg0.N) : S512x1024.Idx → EReal := iblk m c 0 t
def bX (t : Fin cfg0.N) : S512x1024.Idx → EReal := iblk m c 1 t

theorem index : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![0, 0] :=
  (by decide +kernel : ∀ t : Fin grid0.N, _)

theorem rows : (dats m 0 c).arrAt 4 cfg0.N
    = Cert.GradXRefIdeal.Read.val_main_v24 (F := Ideal) (m ((c : Thread nD τ).loc main_arg0)) (m ((c : Thread nD τ).loc main_arg2)) (m ((c : Thread nD τ).loc main_arg3)) := by
  refine (dats m 0 c).arrAt_eq_of_covers 4 _ (by decide +kernel) fun t hf y => ?_
  obtain ⟨e0, -, e2, e3, e4, -⟩ := index t
  rw [ref_row]
  blk_simp
  have hw : (outsAt0 m c t.val t.isLt).1 = k0_pay3 (iblk m c 0 t) (iblk m c 2 t) (iblk m c 3 t) := by
    by_cases h : t.val % 16 = 0
    · rw [outsAt0_A m c t h]; frame_out
    · rw [outsAt0_B m c t h]; frame_out
  rw [after0_4, hw, row_apply, add_comm]
  blk_point [iblk, V, e0, e2, e3, e4]

theorem scale : (dats m 0 c).arrAt 5 cfg0.N
    = Cert.GradXRefIdeal.Read.val_main_v19 (F := Ideal) (m ((c : Thread nD τ).loc main_arg0)) (m ((c : Thread nD τ).loc main_arg1)) := by
  refine (dats m 0 c).arrAt_eq_of_covers 5 _ (by decide +kernel) fun t hf y => ?_
  have h := (flush0_5 t).mp hf
  rw [ref_scale]
  blk_simp
  rw [after0_5]
  refine fold_rows (fun n h => (outsAt0 m c n h).2.1) (fun t j k => bG m c t (ix2 k (j 1)) * bX m c t (ix2 k (j 1)))
    (fun t h j => ?_) (fun t h j => ?_) t h y fun p k hl => ?_
  · rw [outsAt0_A m c t h]
    frame_out
    rw [scale_apply, zero_scale]
    rfl
  · rw [outsAt0_B m c t h]
    frame_out
    rw [scale_apply]
    rfl
  · obtain ⟨e0, e1, -⟩ := index p
    obtain ⟨-, -, -, -, -, e5, -⟩ := index t
    unfold bG bX
    congr 1
    · blk_ext [iblk, V, e0, e5]
    · blk_ext [iblk, V, e1, e5]

theorem shift : (dats m 0 c).arrAt 6 cfg0.N = Cert.GradXRefIdeal.Read.val_main_v16 (F := Ideal) (m ((c : Thread nD τ).loc main_arg0)) := by
  refine (dats m 0 c).arrAt_eq_of_covers 6 _ (by decide +kernel) fun t hf y => ?_
  have h := (flush0_6 t).mp hf
  rw [ref_shift]
  blk_simp
  rw [after0_6]
  refine fold_rows (fun n h => (outsAt0 m c n h).2.2) (fun t j k => bG m c t (ix2 k (j 1)))
    (fun t h j => ?_) (fun t h j => ?_) t h y fun p k hl => ?_
  · rw [outsAt0_A m c t h]
    frame_out
    rw [shift_apply, zero_shift]
    rfl
  · rw [outsAt0_B m c t h]
    frame_out
    rw [shift_apply]
    rfl
  · obtain ⟨e0, -⟩ := index p
    obtain ⟨-, -, -, -, -, -, e6⟩ := index t
    unfold bG
    blk_ext [iblk, V, e0, e6]

/-! ## The claims -/

theorem ref_frame : Cert.quiescent_GradXRefIdeal (hGradXRefIdeal := Cert.GradXRefIdeal.Gen.facts) := fun m g _ =>
  (θ_run _ _ _).mono (fun r h => ⟨fun c => (h c).2.2.2, sem_eq_zero_of_no_sems rfl r.2⟩) (Cert.GradXRefIdeal.Value.run (F := Ideal) m g)

theorem algebraic : Cert.algebraic_GradXIdeal_GradXRefIdeal (hGradXIdeal := facts) (hGradXRefIdeal := Cert.GradXRefIdeal.Gen.facts) := by
  intro m g m' g' _ ha
  refine ⟨fun c => (dats m 0 c).arrAt 4 cfg0.N, fun c => (dats m 0 c).arrAt 5 cfg0.N, fun c => (dats m 0 c).arrAt 6 cfg0.N,
    run_blocks m g, (θ_run _ _ _).mono (fun r h c => ?_) (Cert.GradXRefIdeal.Value.run (F := Ideal) m' g')⟩
  obtain ⟨h0, h1, h2, h3⟩ := h c
  obtain ⟨a0, a1, a2, a3⟩ := ha c
  refine ⟨h0.trans ((Cert.GradXRefIdeal.Read.val_main_v24_eq _ _ _).trans ?_), h1.trans ((Cert.GradXRefIdeal.Read.val_main_v19_eq _ _).trans ?_),
    h2.trans ((Cert.GradXRefIdeal.Read.val_main_v16_eq _).trans ?_), h3⟩
  · rw [a0, a2, a3]; exact (rows m c).symm
  · rw [a0, a1]; exact (scale m c).symm
  · rw [a0]; exact (shift m c).symm

end Cert.Rows.GradX

end
-- ==== Proof.Rows.GateFwd.lean ====
/- The recurrent branch's output gate: each head's RMS norm, times the sigmoid-weighted gate. -/
module

public import proofs.«01_k».proof.Defs
public import proofs.«01_k».proof.Proof.Gen.GateFwdIdeal.Value
public import proofs.«01_k».proof.Proof.Gen.GateFwdRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Rows.GateFwd

open Cert.GateFwdIdeal Cert.GateFwdIdeal.Gen Cert.GateFwdIdeal.Value Idealize.ShloMosaic Idealize.ShloMosaic.TcCoe Idealize.SL.Sem

/-- The sigmoid. -/
def sigm (x : EReal) : EReal := Ideal.div 1 (1 + Ideal.exp (-x))

/-- The head size and the norm's small constant. -/
def size : EReal := Ideal.ofBits .f32 0x43000000#32
def eps : EReal := Ideal.ofBits .f32 0x358637BD#32

/-- One entry of a head's gated norm: its row of 128, its lane, the gate there and the lane's weight. -/
def gated (o : Fin 128 → EReal) (l : Fin 128) (z w : EReal) : EReal :=
  o l * Ideal.rsqrt (Ideal.div (∑ k, o k * o k) size + eps) * w * (z * sigm z)

/-- Lane `k` of the head of column `j`, and the lane of column `j`. -/
def head (j : Fin 1024) (k : Fin 128) : Fin 1024 := ⟨j.val / 128 * 128 + k.val, by omega⟩
def lane (j : Fin 1024) : Fin 128 := ⟨j.val % 128, Nat.mod_lt _ (by decide)⟩

theorem head_lane (n : ℕ) (i : (⟨2, ![n, 1024]⟩ : Shape).Idx) : ix2 (i 0) (head (i 1) (lane (i 1))) = i := by
  unfold head lane
  blk_ext

theorem read_eq {n k : ℕ} (f : (⟨2, ![n, k]⟩ : Shape).Idx → EReal) (i j : (⟨2, ![n, k]⟩ : Shape).Idx) (h0 : (i 0).val = (j 0).val) (h1 : (i 1).val = (j 1).val) :
    f i = f j := congrArg f (funext fun a => Fin.ext (by match a with | 0 => exact h0 | 1 => exact h1))

theorem gated_congr {o o' : Fin 128 → EReal} {l l' : Fin 128} {z z' w w' : EReal} (ho : ∀ k, o k = o' k) (hl : l = l') (hz : z = z') (hw : w = w') :
    gated o l z w = gated o' l' z' w' := by
  rw [funext ho, hl, hz, hw]

/-- The block's entries. -/
theorem out_apply (o : Vec Ideal S1024x1024 .f32) (z : Vec Ideal S1024x1024 .bf16) (w : Vec Ideal S1x128 .f32) (y : S1024x1024.Idx) :
    (out0_3 o z w : S1024x1024.Idx → EReal) y
      = gated (fun k => o (ix2 (y 0) (head (y 1) k))) (lane (y 1)) (z y) (w (ix2 (0 : Fin 1) (lane (y 1)))) := by
  canon_tiles x h using cover0_3 ..
  all_goals unfold gated sigm size eps
  all_goals pointwise [k0_pay1, k0_pay2, k0_pay3, k0_pay4, k0_pay5, k0_pay6, k0_pay7, k0_pay8, k0_pay9, k0_pay10, k0_pay11, k0_pay12, k0_pay13]
  all_goals rw [zero_sub]
  all_goals refine congrArg₂ (· * ·) (congrArg₂ (· * ·) (congrArg₂ (· * ·) ?_ (congrArg (fun q => Ideal.rsqrt (Ideal.div q _ + _))
    (Finset.sum_congr rfl fun k _ => congrArg₂ (· * ·) ?_ ?_))) ?_) (congrArg (fun q => q * Ideal.div 1 (1 + Ideal.exp (-q))) ?_)
  all_goals refine read_eq _ _ _ ?_ ?_ <;> simp [head, lane] <;> omega

open Cert.GateFwdRefIdeal.Read in
theorem ref_apply (o z : Cert.GateFwdRefIdeal.S8192x1024.Idx → EReal) (w : Cert.GateFwdRefIdeal.S1x128.Idx → EReal) (i : Cert.GateFwdRefIdeal.S8192x1024.Idx) :
    (val_main_v19 (F := Ideal) o z w : Cert.GateFwdRefIdeal.S8192x1024.Idx → EReal) i
      = gated (fun k => o (ix2 (i 0) (head (i 1) k))) (lane (i 1)) (z i) (w (ix2 (0 : Fin 1) (lane (i 1)))) := by
  unfold gated sigm size eps
  pointwise [val_main_v19, val_main_v18, val_main_v17, val_main_v16, val_main_call0_v5, val_main_call0_v4, val_main_call0_cst_0, val_main_call0_v3, val_main_call0_v2, val_main_call0_cst,
    val_main_call0_v1, val_main_call0_v0, val_main_v15, val_main_v14, val_main_v13, val_main_v12, val_main_v11, val_main_v10, val_main_v9, val_main_v8, val_main_v7, val_main_cst_1,
    val_main_v6, val_main_v5, val_main_cst_0, val_main_v4, val_main_v3, val_main_cst, val_main_v2, val_main_v1, val_main_v0]
  exact congrArg (fun q => q * _ * _ * _) (congrArg o (head_lane 8192 i).symm)

variable (m : (ℓ : Loc nD τ sig) → Buf (Elt Ideal) ℓ) (c : Dev nD)

/-- The arrays, and the blocks a point reads. -/
def aO : (⟨2, ![8192, 1024]⟩ : Shape).Idx → EReal := m ((c : Thread nD τ).loc main_arg0)
def aZ : (⟨2, ![8192, 1024]⟩ : Shape).Idx → EReal := m ((c : Thread nD τ).loc main_arg1)
def aW : (⟨2, ![1, 128]⟩ : Shape).Idx → EReal := m ((c : Thread nD τ).loc main_arg2)
def bO (t : Fin cfg0.N) : S1024x1024.Idx → EReal := iblk m c 0 t
def bZ (t : Fin cfg0.N) : S1024x1024.Idx → EReal := iblk m c 1 t
def bW (t : Fin cfg0.N) : S1x128.Idx → EReal := iblk m c 2 t

theorem index : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- Row `k` of a point's blocks, in the arrays. -/
def row (t : Fin cfg0.N) (k : Fin 1024) : Fin 8192 := ⟨t.val * 1024 + k.val, by have h : t.val < 8 := t.isLt; omega⟩

theorem blocks (t : Fin cfg0.N) (k l : Fin 1024) : bO m c t (ix2 k l) = aO m c (ix2 (row t k) l) ∧ bZ m c t (ix2 k l) = aZ m c (ix2 (row t k) l) := by
  obtain ⟨e0, e1, -⟩ := index t
  unfold bO bZ aO aZ row
  refine ⟨?_, ?_⟩
  · blk_ext [iblk, V, e0]
  · blk_ext [iblk, V, e1]

theorem vector (t : Fin cfg0.N) : bW m c t = aW m c := by
  obtain ⟨-, -, e2, -⟩ := index t
  unfold bW aW
  funext i; blk_ext [iblk, V, e2]

theorem result : (dats m 0 c).arrAt 3 cfg0.N = Cert.GateFwdRefIdeal.Read.val_main_v19 (F := Ideal) (aO m c) (aZ m c) (aW m c) := by
  refine (dats m 0 c).arrAt_eq_of_covers 3 _ (by decide +kernel) fun t hf y => ?_
  obtain ⟨-, -, -, e⟩ := index t
  have hi : ((cfg0.win 3).blk t).view.emb y = (ix2 (row t (y 0)) (y 1 : Fin 1024) : (⟨2, ![8192, 1024]⟩ : Shape).Idx) := by
    unfold row
    blk_ext [e]
  rw [hi, ref_apply, after0_3]
  blk_simp
  refine (out_apply (bO m c t) (bZ m c t) (bW m c t) y).trans ?_
  rw [vector]
  refine gated_congr (fun k => (blocks m c t (y 0) _).1) rfl ?_ rfl
  exact (read_eq (bZ m c t) y (ix2 (y 0) (y 1)) rfl rfl).trans (blocks m c t (y 0) (y 1)).2

/-! ## The claims -/

theorem ref_frame : Cert.quiescent_GateFwdRefIdeal (hGateFwdRefIdeal := Cert.GateFwdRefIdeal.Gen.facts) := fun m g _ =>
  (θ_run _ _ _).mono (fun r h => ⟨fun c => (h c).2, sem_eq_zero_of_no_sems rfl r.2⟩) (Cert.GateFwdRefIdeal.Value.run (F := Ideal) m g)

theorem algebraic : Cert.algebraic_GateFwdIdeal_GateFwdRefIdeal (hGateFwdIdeal := facts) (hGateFwdRefIdeal := Cert.GateFwdRefIdeal.Gen.facts) := by
  intro m g m' g' _ ha
  refine ⟨fun c => (dats m 0 c).arrAt 3 cfg0.N, run_blocks m g, (θ_run _ _ _).mono (fun r h c => ⟨?_, (h c).2⟩) (Cert.GateFwdRefIdeal.Value.run (F := Ideal) m' g')⟩
  obtain ⟨a0, a1, a2⟩ := ha c
  rw [(h c).1, a0, a1, a2]
  exact (result m c).symm

end Cert.Rows.GateFwd

end
-- ==== Proof.Rows.GateBwd.lean ====
/- The recurrent branch's output gate, backward: the gradients of the normed rows, of the gate, and of the norm's weight. -/
module

public import proofs.«01_k».proof.Defs
public import proofs.«01_k».proof.Proof.Gen.GateBwdIdeal.Value
public import proofs.«01_k».proof.Proof.Gen.GateBwdRefIdeal.Read
public import proofs.«01_k».proof.Proof.Rows.Blocks
public import proofs.«01_k».proof.Proof.Rows.Constants
public import proofs.«01_k».proof.Proof.Rows.Norm
public import proofs.«01_k».proof.Proof.Rows.GateFwd
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Rows.GateBwd

open Cert.GateBwdIdeal Cert.GateBwdIdeal.Gen Cert.GateBwdIdeal.Value Idealize.ShloMosaic Idealize.ShloMosaic.TcCoe Idealize.SL.Sem
open Cert.Rows.GateFwd (sigm size lane read_eq)

/-- Lane `k` of head `h`, and the head of column `j`. -/
def col (h : Fin 8) (k : Fin 128) : Fin 1024 := ⟨h.val * 128 + k.val, by omega⟩
def hd (j : Fin 1024) : Fin 8 := ⟨j.val / 128, by omega⟩

/-- A head's mean square with the small constant, its reciprocal root, and the gate's factor with its slope. -/
def spread (o : Fin 128 → EReal) : EReal := Ideal.div (∑ k, o k * o k) size + GateFwd.eps
def root (o : Fin 128 → EReal) : EReal := Ideal.rsqrt (spread o)
def silu (z : EReal) : EReal := z * sigm z
def slope (z : EReal) : EReal := sigm z * (1 + z * (1 - sigm z))

/-- The three gradients at a lane of a head, as the kernel spells them. -/
def dRow (d o z w : Fin 128 → EReal) (l : Fin 128) : EReal :=
  root o * (d l * w l * silu (z l)) - o l * (root o * root o * root o) * Ideal.div (∑ k, d k * w k * silu (z k) * o k) size
def dGate (d o z w : Fin 128 → EReal) (l : Fin 128) : EReal := d l * o l * root o * w l * slope (z l)
def dWeight (d o z : Fin 128 → EReal) (l : Fin 128) : EReal := d l * o l * root o * silu (z l)

/-- The three gradients, by the chain rule. -/
def dRowChain (d o z w : Fin 128 → EReal) (l : Fin 128) : EReal :=
  d l * silu (z l) * w l * root o
    + Ideal.div ((∑ k, o k * (d k * silu (z k) * w k)) * (half * Ideal.div (root o) (spread o))) size * (two * o l)
def dGateChain (d o z w : Fin 128 → EReal) (l : Fin 128) : EReal :=
  o l * root o * w l * d l * sigm (z l) + z l * (o l * root o * w l * d l) * (sigm (z l) * (1 - sigm (z l)))
def dWeightChain (d o z : Fin 128 → EReal) (l : Fin 128) : EReal := o l * root o * (d l * silu (z l))

/-! ## The reference's terms -/

section Ref
open Cert.GateBwdRefIdeal Cert.GateBwdRefIdeal.Read

variable (d o z : (⟨2, ![8192, 1024]⟩ : Shape).Idx → EReal) (w : (⟨2, ![1, 128]⟩ : Shape).Idx → EReal) (q : (⟨3, ![8192, 8, 128]⟩ : Shape).Idx)

theorem ref_row : (val_main_v48 (F := Ideal) d o z w : Cert.GateBwdRefIdeal.S8192x8x128.Idx → EReal) q
    = dRowChain (fun k => d (ix2 (q 0) (col (q 1) k))) (fun k => o (ix2 (q 0) (col (q 1) k))) (fun k => z (ix2 (q 0) (col (q 1) k)))
        (fun k => w (ix2 (0 : Fin 1) k)) (q 2) := by
  unfold dRowChain root spread silu sigm size GateFwd.eps half two
  pointwise [val_main_v0, val_main_v1, val_main_v2, val_main_cst, val_main_v3, val_main_v4, val_main_cst_0, val_main_v5, val_main_v6, val_main_cst_1, val_main_v7, val_main_v8,
    val_main_cst_2, val_main_v9, val_main_v10, val_main_v11, val_main_v12, val_main_cst_3, val_main_v13, val_main_v14, val_main_v15, val_main_v16, val_main_v17, val_main_v18,
    val_main_v19, val_main_v20, val_main_call0_v0, val_main_call0_v1, val_main_call0_cst, val_main_call0_v2, val_main_call0_v3, val_main_call0_cst_0, val_main_call0_v4,
    val_main_v21_2, val_main_call0_cst_1, val_main_call0_v6, val_main_call0_v7, val_main_v21_1, val_main_v21_0, val_main_v24, val_main_v25, val_main_v26, val_main_v27,
    val_main_call1_v0, val_main_call1_v1, val_main_call1_v2, val_main_v28, val_main_v30, val_main_cst_4, val_main_v33, val_main_v34, val_main_cst_5, val_main_v37,
    val_main_cst_6, val_main_v38, val_main_v39, val_main_v40, val_main_v41, val_main_v42, val_main_cst_7, val_main_v43, val_main_v44, val_main_cst_8, val_main_v45,
    val_main_v46, val_main_v47, val_main_v48]
  refine congrArg₂ (· + ·) rfl (congrArg₂ (· * ·) (Fin.sum_univ_one _) rfl)

theorem ref_gate : (val_main_v28 (F := Ideal) d o z w : Cert.GateBwdRefIdeal.S8192x8x128.Idx → EReal) q
    = dGateChain (fun k => d (ix2 (q 0) (col (q 1) k))) (fun k => o (ix2 (q 0) (col (q 1) k))) (fun k => z (ix2 (q 0) (col (q 1) k)))
        (fun k => w (ix2 (0 : Fin 1) k)) (q 2) := by
  unfold dGateChain root spread sigm size GateFwd.eps
  pointwise [val_main_v0, val_main_v1, val_main_v2, val_main_cst, val_main_v3, val_main_v4, val_main_cst_0, val_main_v5, val_main_v6, val_main_cst_1, val_main_v7, val_main_v8,
    val_main_cst_2, val_main_v9, val_main_v10, val_main_v11, val_main_v12, val_main_cst_3, val_main_v13, val_main_v14, val_main_v15, val_main_v16, val_main_v17, val_main_v18,
    val_main_v19, val_main_v20, val_main_call0_v0, val_main_call0_v1, val_main_call0_cst, val_main_call0_v2, val_main_call0_v3, val_main_call0_cst_0, val_main_call0_v4,
    val_main_v21_2, val_main_call0_cst_1, val_main_call0_v6, val_main_call0_v7, val_main_v21_1, val_main_v21_0, val_main_v24, val_main_v25, val_main_v26, val_main_v27,
    val_main_call1_v0, val_main_call1_v1, val_main_call1_v2, val_main_v28, val_main_v30, val_main_cst_4, val_main_v33, val_main_v34, val_main_cst_5, val_main_v37,
    val_main_cst_6, val_main_v38, val_main_v39, val_main_v40, val_main_v41, val_main_v42, val_main_cst_7, val_main_v43, val_main_v44, val_main_cst_8, val_main_v45,
    val_main_v46, val_main_v47, val_main_v48]
  rfl

theorem ref_weight : (val_main_v30 (F := Ideal) d o z : Cert.GateBwdRefIdeal.S8192x8x128.Idx → EReal) q
    = dWeightChain (fun k => d (ix2 (q 0) (col (q 1) k))) (fun k => o (ix2 (q 0) (col (q 1) k))) (fun k => z (ix2 (q 0) (col (q 1) k))) (q 2) := by
  unfold dWeightChain root spread silu sigm size GateFwd.eps
  pointwise [val_main_v0, val_main_v1, val_main_v2, val_main_cst, val_main_v3, val_main_v4, val_main_cst_0, val_main_v5, val_main_v6, val_main_cst_1, val_main_v7, val_main_v8,
    val_main_cst_2, val_main_v9, val_main_v10, val_main_v11, val_main_v12, val_main_cst_3, val_main_v13, val_main_v14, val_main_v15, val_main_v16, val_main_v17, val_main_v18,
    val_main_v19, val_main_v20, val_main_call0_v0, val_main_call0_v1, val_main_call0_cst, val_main_call0_v2, val_main_call0_v3, val_main_call0_cst_0, val_main_call0_v4,
    val_main_v21_2, val_main_call0_cst_1, val_main_call0_v6, val_main_call0_v7, val_main_v21_1, val_main_v21_0, val_main_v24, val_main_v25, val_main_v26, val_main_v27,
    val_main_call1_v0, val_main_call1_v1, val_main_call1_v2, val_main_v28, val_main_v30, val_main_cst_4, val_main_v33, val_main_v34, val_main_cst_5, val_main_v37,
    val_main_cst_6, val_main_v38, val_main_v39, val_main_v40, val_main_v41, val_main_v42, val_main_cst_7, val_main_v43, val_main_v44, val_main_cst_8, val_main_v45,
    val_main_v46, val_main_v47, val_main_v48]
  rfl

/-- A sum over the first two of three axes. -/
theorem sum_two {a b n : ℕ} (h : (⟨3, ![a, b, n]⟩ : Shape).ReducesTo [0, 1] ⟨1, ![n]⟩) (x : (⟨3, ![a, b, n]⟩ : Shape).Idx → EReal) (init : EReal)
    (j : (⟨1, ![n]⟩ : Shape).Idx) : Ideal.hostReduceAdd h x init j = init + ∑ r : Fin a, ∑ s : Fin b, x (ix3 r s (j 0 : Fin n)) := by
  unfold Ideal.hostReduceAdd
  rw [← Fintype.sum_prod_type' (f := fun (r : Fin a) (s : Fin b) => x (ix3 r s (j 0 : Fin n)))]
  refine congrArg _ ?_
  have hd : ∀ i, h.drop i = j ↔ (i 2 : Fin n) = j 0 := fun i => by
    constructor
    · intro e
      exact (congrFun e 0)
    · intro e
      funext k
      match k with
      | 0 => exact e
  refine Finset.sum_nbij' (fun i => ((i 0 : Fin a), (i 1 : Fin b))) (fun p => ix3 p.1 p.2 (j 0 : Fin n)) ?_ ?_ ?_ ?_ ?_
  · intro i _; exact Finset.mem_univ _
  · intro p _; exact Finset.mem_filter.2 ⟨Finset.mem_univ _, (hd _).2 rfl⟩
  · intro i hi
    have e := (hd i).1 (Finset.mem_filter.1 hi).2
    funext k
    match k with
    | 0 => rfl
    | 1 => rfl
    | 2 => exact e.symm
  · intro p _; rfl
  · intro i hi
    have e := (hd i).1 (Finset.mem_filter.1 hi).2
    refine congrArg x ?_
    funext k
    match k with
    | 0 => rfl
    | 1 => rfl
    | 2 => exact e

theorem ref_sum (i : (⟨2, ![1, 128]⟩ : Shape).Idx) : (val_main_v36 (F := Ideal) d o z : Cert.GateBwdRefIdeal.S1x128.Idx → EReal) i
    = ∑ r : Fin 8192, ∑ h : Fin 8, dWeightChain (fun k => d (ix2 r (col h k))) (fun k => o (ix2 r (col h k))) (fun k => z (ix2 r (col h k))) (i 1) := by
  rw [val_main_v36_apply]
  refine (sum_two Cert.GateBwdRefIdeal.Gen.facts.reducesTo_S1x1x128_S128_d0_1 _ _ _).trans ?_
  simp only [Finset.univ_unique, Finset.sum_singleton]
  have h5 : ∀ i, (val_main_cst_5 (F := Ideal) : Cert.GateBwdRefIdeal.S_.Idx → EReal) i = 0 := fun i => by pointwise [val_main_cst_5]
  have h4 : ∀ i, (val_main_cst_4 (F := Ideal) : Cert.GateBwdRefIdeal.S_.Idx → EReal) i = 0 := fun i => by pointwise [val_main_cst_4]
  rw [h5, zero_add, val_main_v32_apply]
  refine (sum_two Cert.GateBwdRefIdeal.Gen.facts.reducesTo_S8192x8x128_S128_d0_1 _ _ _).trans ?_
  rw [h4, zero_add]
  refine Fin.sum_fin_congr fun r => Finset.sum_congr rfl fun h _ => (congrArg (val_main_v30 (F := Ideal) d o z) ?_).trans (ref_weight d o z (ix3 r h (i 1 : Fin 128)))
  refine congrArg (ix3 r h) (Fin.ext ?_)
  show (0 * 1 + 0) * 128 + (i 1).val = (i 1).val
  omega

end Ref

/-! ## The two spellings -/

theorem size_eq : size = ((128 : ℝ) : EReal) := by
  unfold size
  simp [Ideal.ofBits, Ideal.ieee]
  rw [← EReal.coe_mul]
  norm_num

theorem small_eq : ∃ e : ℝ, 0 < e ∧ GateFwd.eps = e := by
  unfold GateFwd.eps
  refine ⟨8796093 * (2 ^ 43)⁻¹, by norm_num, ?_⟩
  simp [Ideal.ofBits, Ideal.ieee]

theorem div_size (x : EReal) : Ideal.div x size = x * (((128 : ℝ)⁻¹ : ℝ) : EReal) := by
  unfold Ideal.div
  rw [size_eq, if_neg (by exact_mod_cast (by norm_num : (128 : ℝ) ≠ 0)), ← EReal.coe_inv]

/-- A real row's spread is a positive number, and its root a real one. -/
theorem spread_real (o : Fin 128 → EReal) (ho : ∀ k, ∃ r : ℝ, o k = r) : ∃ v r : ℝ, 0 < v ∧ r * r * v = 1 ∧ spread o = v ∧ root o = r := by
  choose o' ho using ho
  obtain rfl : o = fun k => (o' k : EReal) := funext ho
  obtain ⟨e, he, ee⟩ := small_eq
  have hs : spread (fun k => (o' k : EReal)) = (((∑ k, o' k * o' k) * (128 : ℝ)⁻¹ + e : ℝ) : EReal) := by
    unfold spread
    rw [div_size, ee]
    simp only [← EReal.coe_mul]
    rw [← coe_sum, ← EReal.coe_mul, ← EReal.coe_add]
  have hv : 0 < (∑ k, o' k * o' k) * (128 : ℝ)⁻¹ + e :=
    add_pos_of_nonneg_of_pos (mul_nonneg (Finset.sum_nonneg fun k _ => mul_self_nonneg _) (by norm_num)) he
  refine ⟨_, _, hv, ?_, hs, (congrArg Ideal.rsqrt hs).trans (rsqrt_coe_pos _ hv)⟩
  rw [← mul_inv, Real.mul_self_sqrt hv.le, inv_mul_cancel₀ hv.ne']

/-- An infinite entry makes the spread infinite and the root 0. -/
theorem spread_top (o : Fin 128 → EReal) (ho : ¬∀ k, ∃ r : ℝ, o k = r) : spread o = ⊤ ∧ root o = 0 := by
  have h : spread o = ⊤ := by
    have hs : ¬∃ r : ℝ, ∑ k, o k * o k = r := fun h => ho fun k => by
      have e := isReal_of_sum _ h k
      revert e
      generalize o k = a
      induction a <;> simp
    have h0 : 0 ≤ ∑ k, o k * o k := Finset.sum_nonneg fun k _ => by
      rcases le_total 0 (o k) with h | h
      · exact mul_nonneg h h
      · rw [← neg_mul_neg]
        exact mul_nonneg (EReal.neg_nonneg.mpr h) (EReal.neg_nonneg.mpr h)
    have ht : ∑ k, o k * o k = ⊤ := by
      revert hs h0
      generalize ∑ k, o k * o k = a
      induction a <;> simp
    obtain ⟨e, -, ee⟩ := small_eq
    unfold spread
    rw [ht, div_size, EReal.top_mul_coe_of_pos (by norm_num), ee, EReal.top_add_coe]
  refine ⟨h, ?_⟩
  unfold root
  rw [h]
  rfl

/-- An entry times its row's root is real, of any row. -/
theorem normed_real (o : Fin 128 → EReal) (l : Fin 128) : ∃ r : ℝ, o l * root o = r := by
  by_cases ho : ∀ k, ∃ r : ℝ, o k = r
  · obtain ⟨v, r, -, -, -, hr⟩ := spread_real o ho
    obtain ⟨a, ha⟩ := ho l
    exact ⟨a * r, by rw [hr, ha, EReal.coe_mul]⟩
  · exact ⟨0, by rw [(spread_top o ho).2, mul_zero]; rfl⟩

theorem dRow_eq (d o z w : Fin 128 → EReal) (l : Fin 128) : dRowChain d o z w l = dRow d o z w l := by
  have hm : ∑ k, o k * (d k * silu (z k) * w k) = ∑ k, d k * w k * silu (z k) * o k :=
    Finset.sum_congr rfl fun k _ => by simp only [mul_comm, mul_left_comm, mul_assoc]
  have hl : d l * silu (z l) * w l * root o = root o * (d l * w l * silu (z l)) := by simp only [mul_comm, mul_left_comm, mul_assoc]
  unfold dRowChain dRow
  rw [hm, hl, sub_eq_add_neg]
  generalize ∑ k, d k * w k * silu (z k) * o k = M
  refine congrArg _ ?_
  by_cases ho : ∀ k, ∃ r : ℝ, o k = r
  · obtain ⟨v, r, hv, hr, ev, er⟩ := spread_real o ho
    obtain ⟨a, ha⟩ := ho l
    have h1 : r / v = r * r * r := by
      have := hv.ne'
      field_simp
      linear_combination (-r) * hr
    rw [div_size, div_size, ev, er, ha, half_eq, two_eq, div_coe _ _ hv.ne', h1]
    simp only [mul_assoc, ← EReal.coe_mul]
    rw [mul_left_comm _ M, ← mul_neg, ← EReal.coe_mul, ← EReal.coe_neg]
    exact congrArg (fun x : ℝ => M * (x : EReal)) (by ring)
  · obtain ⟨hs, hr⟩ := spread_top o ho
    rw [hs, hr, div_zero_left 0 ⊤ (by simp) rfl, div_size]
    simp only [mul_zero, zero_mul, neg_zero]

theorem dWeight_eq (d o z : Fin 128 → EReal) (l : Fin 128) : dWeightChain d o z l = dWeight d o z l := by
  unfold dWeightChain dWeight
  simp only [mul_comm, mul_left_comm, mul_assoc]

theorem dGate_eq (d o z w : Fin 128 → EReal) (l : Fin 128) (hd : ∃ r : ℝ, d l = r) (hw : ∃ r : ℝ, w l = r) : dGateChain d o z w l = dGate d o z w l := by
  obtain ⟨x, hx⟩ := normed_real o l
  obtain ⟨a, ha⟩ := hd
  obtain ⟨b, hb⟩ := hw
  have hc : d l * o l * root o * w l = o l * root o * w l * d l := by simp only [mul_comm, mul_left_comm, mul_assoc]
  unfold dGateChain dGate slope
  rw [hc, hx, ha, hb, ← EReal.coe_mul, ← EReal.coe_mul]
  generalize x * b * a = g
  generalize z l = y
  induction y with
  | bot =>
    have h : sigm ⊥ = 0 := by
      unfold sigm
      rw [EReal.neg_bot]
      show Ideal.div 1 (1 + ⊤) = 0
      rw [EReal.add_top_of_ne_bot (by decide)]
      unfold Ideal.div
      simp
    rw [h]
    simp only [mul_zero, zero_mul, add_zero]
  | top =>
    have h : sigm ⊤ = 1 := by
      unfold sigm
      rw [EReal.neg_top]
      show Ideal.div 1 (1 + 0) = 1
      unfold Ideal.div
      simp
    have h1 : (1 : EReal) - 1 = 0 := by
      rw [← EReal.coe_one, ← EReal.coe_sub, sub_self, EReal.coe_zero]
    rw [h, h1]
    simp only [mul_zero, mul_one, add_zero]
  | coe y =>
    have h : ∃ s : ℝ, sigm (y : EReal) = s := by
      unfold sigm
      have h0 : 1 + Real.exp (-y) ≠ 0 := by positivity
      refine ⟨1 / (1 + Real.exp (-y)), ?_⟩
      rw [← div_coe _ _ h0, EReal.coe_add]
      rfl
    obtain ⟨s, hs⟩ := h
    rw [hs, ← EReal.coe_one]
    simp only [← EReal.coe_mul, ← EReal.coe_add, ← EReal.coe_sub]
    exact congrArg _ (by ring)

/-- Where a result's column lies among the heads. -/
theorem split (i : Cert.GateBwdRefIdeal.S8192x1024.Idx) : Cert.GateBwdRefIdeal.Read.idx_main_v49 i = ix3 (i 0 : Fin 8192) (hd (i 1)) (lane (i 1)) := by
  have h : (i 1).val < 1024 := (i 1).isLt
  funext k
  match k with
  | 0 => exact Fin.ext (by show ((i 0).val * 1024 + (i 1).val) / 1024 = (i 0).val; omega)
  | 1 => exact Fin.ext (by show ((i 0).val * 1024 + (i 1).val) / 128 % 8 = (i 1).val / 128; omega)
  | 2 => exact Fin.ext (by show ((i 0).val * 1024 + (i 1).val) % 128 = (i 1).val % 128; omega)

open Cert.GateBwdRefIdeal.Read in
theorem row_at (d o z : Cert.GateBwdRefIdeal.S8192x1024.Idx → EReal) (w : Cert.GateBwdRefIdeal.S1x128.Idx → EReal) (i : Cert.GateBwdRefIdeal.S8192x1024.Idx) :
    (val_main_v49 (F := Ideal) d o z w : Cert.GateBwdRefIdeal.S8192x1024.Idx → EReal) i
      = dRow (fun k => d (ix2 (i 0) (col (hd (i 1)) k))) (fun k => o (ix2 (i 0) (col (hd (i 1)) k))) (fun k => z (ix2 (i 0) (col (hd (i 1)) k)))
        (fun k => w (ix2 (0 : Fin 1) k)) (lane (i 1)) := by
  refine (val_main_v49_apply (F := Ideal) d o z w i).trans ?_
  rw [split]
  exact (ref_row d o z w _).trans (dRow_eq _ _ _ _ _)

open Cert.GateBwdRefIdeal.Read in
theorem gate_at (d o z : Cert.GateBwdRefIdeal.S8192x1024.Idx → EReal) (w : Cert.GateBwdRefIdeal.S1x128.Idx → EReal) (i : Cert.GateBwdRefIdeal.S8192x1024.Idx)
    (hd' : ∀ i, ∃ r : ℝ, d i = r) (hw : ∀ k, ∃ r : ℝ, w (ix2 (0 : Fin 1) k) = r) :
    (val_main_v50 (F := Ideal) d o z w : Cert.GateBwdRefIdeal.S8192x1024.Idx → EReal) i
      = dGate (fun k => d (ix2 (i 0) (col (hd (i 1)) k))) (fun k => o (ix2 (i 0) (col (hd (i 1)) k))) (fun k => z (ix2 (i 0) (col (hd (i 1)) k)))
        (fun k => w (ix2 (0 : Fin 1) k)) (lane (i 1)) := by
  refine (val_main_v29_apply (F := Ideal) d o z w i).trans ?_
  rw [show idx_main_v29 i = _ from split i]
  exact (ref_gate d o z w _).trans (dGate_eq _ _ _ _ _ (hd' _) (hw _))

/-! ## The kernel's blocks -/

theorem root_eq {f g : Fin 128 → EReal} (h : ∀ k, f k = g k) : Ideal.rsqrt (Ideal.div (∑ k, f k * f k) size + GateFwd.eps) = root g := by
  rw [funext h]; rfl

theorem silu_eq {a b : EReal} (h : a = b) : a * Ideal.div 1 (1 + Ideal.exp (0 - a)) = silu b := by
  rw [zero_sub, h]; rfl

theorem slope_eq {a b : EReal} (h : a = b) :
    Ideal.div 1 (1 + Ideal.exp (0 - a)) * (1 + a * (1 - Ideal.div 1 (1 + Ideal.exp (0 - a)))) = slope b := by
  rw [zero_sub, h]; rfl

variable (m : (ℓ : Loc nD τ sig) → Buf (Elt Ideal) ℓ) (c : Dev nD)

def bD (t : Fin cfg0.N) : S512x1024.Idx → EReal := iblk m c 0 t
def bO (t : Fin cfg0.N) : S512x1024.Idx → EReal := iblk m c 1 t
def bZ (t : Fin cfg0.N) : S512x1024.Idx → EReal := iblk m c 2 t
def bW (t : Fin cfg0.N) : S1x128.Idx → EReal := iblk m c 3 t

set_option maxHeartbeats 4000000 in
theorem out5 (t : Fin cfg0.N) (y : S512x1024.Idx) : ((outsAt0 m c t.val t.isLt).2.1 : S512x1024.Idx → EReal) y
    = dGate (fun k => bD m c t (ix2 (y 0) (col (hd (y 1)) k))) (fun k => bO m c t (ix2 (y 0) (col (hd (y 1)) k))) (fun k => bZ m c t (ix2 (y 0) (col (hd (y 1)) k)))
        (fun k => bW m c t (ix2 (0 : Fin 1) k)) (lane (y 1)) := by
  unfold bD bO bZ bW
  obtain ⟨d, ed⟩ : ∃ d : Vec Ideal S512x1024 .bf16, d = iblk m c 0 t := ⟨_, rfl⟩
  obtain ⟨o, eo⟩ : ∃ o : Vec Ideal S512x1024 .f32, o = iblk m c 1 t := ⟨_, rfl⟩
  obtain ⟨z, ez⟩ : ∃ z : Vec Ideal S512x1024 .bf16, z = iblk m c 2 t := ⟨_, rfl⟩
  obtain ⟨w, ew⟩ : ∃ w : Vec Ideal S1x128 .f32, w = iblk m c 3 t := ⟨_, rfl⟩
  by_cases h : t.val % 16 = 0
  on_goal 1 => rw [outsAt0_A m c t h]
  on_goal 2 => rw [outsAt0_B m c t h]
  all_goals frame_out
  all_goals rw [← ed, ← eo, ← ez, ← ew]
  all_goals canon_tiles x h
  all_goals unfold dGate
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18,
    k0_pay19, k0_pay20, k0_pay21, k0_pay22, k0_pay23, k0_pay24, k0_pay25, k0_pay26, k0_pay27, k0_pay28, k0_pay29, k0_pay30, k0_pay31, k0_pay32, k0_pay33, k0_pay34, k0_pay35,
    k0_pay36, k0_pay37, k0_pay38, k0_pay39, k0_pay40, k0_pay41, k0_pay42, k0_pay43, k0_pay44, k0_pay45, k0_pay46, k0_pay47, k0_pay48, k0_pay49, k0_pay50, k0_pay51, k0_pay52,
    k0_pay53, k0_pay54, k0_pay55, k0_pay56, k0_pay57, k0_pay58, k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80, k0_pay81]
  all_goals refine congrArg₂ (· * ·) (congrArg₂ (· * ·) (congrArg₂ (· * ·) (congrArg₂ (· * ·) ?_ ?_) (root_eq fun k => ?_)) ?_) (slope_eq ?_)
  all_goals refine read_eq _ _ _ ?_ ?_ <;> simp [hd, col, lane] <;> omega

set_option maxHeartbeats 4000000 in
theorem out4 (t : Fin cfg0.N) (y : S512x1024.Idx) : ((outsAt0 m c t.val t.isLt).1 : S512x1024.Idx → EReal) y
    = dRow (fun k => bD m c t (ix2 (y 0) (col (hd (y 1)) k))) (fun k => bO m c t (ix2 (y 0) (col (hd (y 1)) k))) (fun k => bZ m c t (ix2 (y 0) (col (hd (y 1)) k)))
        (fun k => bW m c t (ix2 (0 : Fin 1) k)) (lane (y 1)) := by
  unfold bD bO bZ bW
  obtain ⟨d, ed⟩ : ∃ d : Vec Ideal S512x1024 .bf16, d = iblk m c 0 t := ⟨_, rfl⟩
  obtain ⟨o, eo⟩ : ∃ o : Vec Ideal S512x1024 .f32, o = iblk m c 1 t := ⟨_, rfl⟩
  obtain ⟨z, ez⟩ : ∃ z : Vec Ideal S512x1024 .bf16, z = iblk m c 2 t := ⟨_, rfl⟩
  obtain ⟨w, ew⟩ : ∃ w : Vec Ideal S1x128 .f32, w = iblk m c 3 t := ⟨_, rfl⟩
  by_cases h : t.val % 16 = 0
  on_goal 1 => rw [outsAt0_A m c t h]
  on_goal 2 => rw [outsAt0_B m c t h]
  all_goals frame_out
  all_goals rw [← ed, ← eo, ← ez, ← ew]
  all_goals canon_tiles x h
  all_goals unfold dRow
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18,
    k0_pay19, k0_pay20, k0_pay21, k0_pay22, k0_pay23, k0_pay24, k0_pay25, k0_pay26, k0_pay27, k0_pay28, k0_pay29, k0_pay30, k0_pay31, k0_pay32, k0_pay33, k0_pay34, k0_pay35,
    k0_pay36, k0_pay37, k0_pay38, k0_pay39, k0_pay40, k0_pay41, k0_pay42, k0_pay43, k0_pay44, k0_pay45, k0_pay46, k0_pay47, k0_pay48, k0_pay49, k0_pay50, k0_pay51, k0_pay52,
    k0_pay53, k0_pay54, k0_pay55, k0_pay56, k0_pay57, k0_pay58, k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80, k0_pay81]
  all_goals
    refine congrArg₂ (· - ·) (congrArg₂ (· * ·) (root_eq fun k => ?_) (congrArg₂ (· * ·) (congrArg₂ (· * ·) ?_ ?_) (silu_eq ?_)))
      (congrArg₂ (· * ·) (congrArg₂ (· * ·) ?_ (congrArg₂ (· * ·) (congrArg₂ (· * ·) (root_eq fun k => ?_) (root_eq fun k => ?_)) (root_eq fun k => ?_)))
        (congrArg (fun s => Ideal.div s size) (Finset.sum_congr rfl fun k _ => congrArg₂ (· * ·) (congrArg₂ (· * ·) (congrArg₂ (· * ·) ?_ ?_) (silu_eq ?_)) ?_)))
  all_goals refine read_eq _ _ _ ?_ ?_ <;> simp [hd, col, lane] <;> omega

/-- A block's row's share of the norm's weight's gradient at a lane, over its heads. -/
def share {n : ℕ} (d o z : (⟨2, ![n, 1024]⟩ : Shape).Idx → EReal) (r : Fin n) (l : Fin 128) : EReal :=
  ∑ g : Fin 8, dWeight (fun k => d (ix2 r (col g k))) (fun k => o (ix2 r (col g k))) (fun k => z (ix2 r (col g k))) l

theorem weight_eq {d o z : S512x1024.Idx → EReal} {r : Fin 512} {a : Fin 1024} {f : Fin 128 → EReal} {g : Fin 8} {l : Fin 128} (ha : a = col g l)
    (hf : ∀ k, f k = o (ix2 r (col g k))) :
    d (ix2 r a) * o (ix2 r a) * Ideal.rsqrt (Ideal.div (∑ k, f k * f k) size + GateFwd.eps)
        * (z (ix2 r a) * Ideal.div 1 (1 + Ideal.exp (0 - z (ix2 r a))))
      = dWeight (fun k => d (ix2 r (col g k))) (fun k => o (ix2 r (col g k))) (fun k => z (ix2 r (col g k))) l := by
  rw [ha, root_eq hf, silu_eq rfl]
  rfl

set_option maxHeartbeats 4000000 in
theorem out6_A (t : Fin cfg0.N) (h : t.val % 16 = 0) (y : S1x128.Idx) : ((outsAt0 m c t.val t.isLt).2.2 : S1x128.Idx → EReal) y
    = 0 + ∑ r : Fin 512, share (bD m c t) (bO m c t) (bZ m c t) r (y 1) := by
  unfold bD bO bZ
  obtain ⟨d, ed⟩ : ∃ d : Vec Ideal S512x1024 .bf16, d = iblk m c 0 t := ⟨_, rfl⟩
  obtain ⟨o, eo⟩ : ∃ o : Vec Ideal S512x1024 .f32, o = iblk m c 1 t := ⟨_, rfl⟩
  obtain ⟨z, ez⟩ : ∃ z : Vec Ideal S512x1024 .bf16, z = iblk m c 2 t := ⟨_, rfl⟩
  rw [outsAt0_A m c t h]
  frame_out
  rw [← ed, ← eo, ← ez]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18,
    k0_pay19, k0_pay20, k0_pay21, k0_pay22, k0_pay23, k0_pay24, k0_pay25, k0_pay26, k0_pay27, k0_pay28, k0_pay29, k0_pay30, k0_pay31, k0_pay32, k0_pay33, k0_pay34, k0_pay35,
    k0_pay36, k0_pay37, k0_pay38, k0_pay39, k0_pay40, k0_pay41, k0_pay42, k0_pay43, k0_pay44, k0_pay45, k0_pay46, k0_pay47, k0_pay48, k0_pay49, k0_pay50, k0_pay51, k0_pay52,
    k0_pay53, k0_pay54, k0_pay55, k0_pay56, k0_pay57, k0_pay58, k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80, k0_pay81]
  unfold share
  rw [Finset.sum_comm, Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals
    refine Finset.sum_congr rfl fun r _ => weight_eq (Fin.ext ?_) fun k => congrArg (fun a => o (ix2 r a)) (Fin.ext ?_)
  all_goals simp [col]

set_option maxHeartbeats 4000000 in
theorem out6_B (t : Fin cfg0.N) (h : ¬t.val % 16 = 0) (y : S1x128.Idx) : ((outsAt0 m c t.val t.isLt).2.2 : S1x128.Idx → EReal) y
    = (outsAt0 m c (t.val - 1) (Nat.lt_of_le_of_lt (Nat.sub_le _ _) t.isLt)).2.2 y + ∑ r : Fin 512, share (bD m c t) (bO m c t) (bZ m c t) r (y 1) := by
  unfold bD bO bZ
  obtain ⟨d, ed⟩ : ∃ d : Vec Ideal S512x1024 .bf16, d = iblk m c 0 t := ⟨_, rfl⟩
  obtain ⟨o, eo⟩ : ∃ o : Vec Ideal S512x1024 .f32, o = iblk m c 1 t := ⟨_, rfl⟩
  obtain ⟨z, ez⟩ : ∃ z : Vec Ideal S512x1024 .bf16, z = iblk m c 2 t := ⟨_, rfl⟩
  rw [outsAt0_B m c t h]
  frame_out
  rw [← ed, ← eo, ← ez]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18,
    k0_pay19, k0_pay20, k0_pay21, k0_pay22, k0_pay23, k0_pay24, k0_pay25, k0_pay26, k0_pay27, k0_pay28, k0_pay29, k0_pay30, k0_pay31, k0_pay32, k0_pay33, k0_pay34, k0_pay35,
    k0_pay36, k0_pay37, k0_pay38, k0_pay39, k0_pay40, k0_pay41, k0_pay42, k0_pay43, k0_pay44, k0_pay45, k0_pay46, k0_pay47, k0_pay48, k0_pay49, k0_pay50, k0_pay51, k0_pay52,
    k0_pay53, k0_pay54, k0_pay55, k0_pay56, k0_pay57, k0_pay58, k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80, k0_pay81]
  refine congrArg _ ?_
  unfold share
  rw [Finset.sum_comm, Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals
    refine Finset.sum_congr rfl fun r _ => weight_eq (Fin.ext ?_) fun k => congrArg (fun a => o (ix2 r a)) (Fin.ext ?_)
  all_goals simp [col]

/-! ## The arrays -/

def aD : (⟨2, ![8192, 1024]⟩ : Shape).Idx → EReal := m ((c : Thread nD τ).loc main_arg0)
def aO : (⟨2, ![8192, 1024]⟩ : Shape).Idx → EReal := m ((c : Thread nD τ).loc main_arg1)
def aZ : (⟨2, ![8192, 1024]⟩ : Shape).Idx → EReal := m ((c : Thread nD τ).loc main_arg2)
def aW : (⟨2, ![1, 128]⟩ : Shape).Idx → EReal := m ((c : Thread nD τ).loc main_arg3)

theorem index : ∀ t : Fin cfg0.N, (win0_0.index t = ![t.val, 0] ∧ win0_1.index t = ![t.val, 0] ∧ win0_2.index t = ![t.val, 0] ∧ win0_3.index t = ![0, 0])
    ∧ win0_4.index t = ![t.val, 0] ∧ win0_5.index t = ![t.val, 0] ∧ win0_6.index t = ![0, 0] :=
  (by decide +kernel : ∀ t : Fin grid0.N, _)

/-- Row `k` of a point's blocks, in the arrays. -/
def row (t : Fin cfg0.N) (k : Fin 512) : Fin 8192 := ⟨t.val * 512 + k.val, by have h : t.val < 16 := t.isLt; omega⟩

theorem blocks (t : Fin cfg0.N) (k : Fin 512) (l : Fin 1024) :
    bD m c t (ix2 k l) = aD m c (ix2 (row t k) l) ∧ bO m c t (ix2 k l) = aO m c (ix2 (row t k) l) ∧ bZ m c t (ix2 k l) = aZ m c (ix2 (row t k) l) := by
  obtain ⟨⟨e0, e1, e2, -⟩, -⟩ := index t
  unfold bD bO bZ aD aO aZ row
  refine ⟨?_, ?_, ?_⟩
  · blk_ext [iblk, V, e0]
  · blk_ext [iblk, V, e1]
  · blk_ext [iblk, V, e2]

theorem vector (t : Fin cfg0.N) : bW m c t = aW m c := by
  obtain ⟨⟨-, -, -, e3⟩, -⟩ := index t
  unfold bW aW
  funext i; blk_ext [iblk, V, e3]

/-- A head's vector of a point's block, and of the arrays. -/
theorem heads (t : Fin cfg0.N) (r : Fin 512) (g : Fin 8) : (fun k => bD m c t (ix2 r (col g k))) = (fun k => aD m c (ix2 (row t r) (col g k)))
    ∧ (fun k => bO m c t (ix2 r (col g k))) = (fun k => aO m c (ix2 (row t r) (col g k)))
    ∧ (fun k => bZ m c t (ix2 r (col g k))) = (fun k => aZ m c (ix2 (row t r) (col g k))) :=
  ⟨funext fun k => (blocks m c t r (col g k)).1, funext fun k => (blocks m c t r (col g k)).2.1, funext fun k => (blocks m c t r (col g k)).2.2⟩

theorem rows : (dats m 0 c).arrAt 4 cfg0.N = Cert.GateBwdRefIdeal.Read.val_main_v49 (F := Ideal) (aD m c) (aO m c) (aZ m c) (aW m c) := by
  refine (dats m 0 c).arrAt_eq_of_covers 4 _ (by decide +kernel) fun t hf y => ?_
  obtain ⟨-, e, -⟩ := index t
  have hi : ((cfg0.win 4).blk t).view.emb y = (ix2 (row t (y 0)) (y 1 : Fin 1024) : (⟨2, ![8192, 1024]⟩ : Shape).Idx) := by
    unfold row
    blk_ext [e]
  rw [hi, row_at, after0_4]
  blk_simp
  refine (out4 m c t y).trans ?_
  obtain ⟨h0, h1, h2⟩ := heads m c t (y 0) (hd (y 1))
  rw [h0, h1, h2, vector]
  rfl

/-- What the precondition gives. -/
structure Real : Prop where
  d : ∀ i, Cert.AttnRef.IsReal (aD m c i)
  w : ∀ k, Cert.AttnRef.IsReal (aW m c (ix2 (0 : Fin 1) k))

theorem gates (r : Real m c) : (dats m 0 c).arrAt 5 cfg0.N = Cert.GateBwdRefIdeal.Read.val_main_v50 (F := Ideal) (aD m c) (aO m c) (aZ m c) (aW m c) := by
  refine (dats m 0 c).arrAt_eq_of_covers 5 _ (by decide +kernel) fun t hf y => ?_
  obtain ⟨-, -, e, -⟩ := index t
  have hi : ((cfg0.win 5).blk t).view.emb y = (ix2 (row t (y 0)) (y 1 : Fin 1024) : (⟨2, ![8192, 1024]⟩ : Shape).Idx) := by
    unfold row
    blk_ext [e]
  rw [hi, gate_at _ _ _ _ _ r.d r.w, after0_5]
  blk_simp
  refine (out5 m c t y).trans ?_
  obtain ⟨h0, h1, h2⟩ := heads m c t (y 0) (hd (y 1))
  rw [h0, h1, h2, vector]
  rfl

open Cert.GateBwdRefIdeal.Read in
theorem weight_at (d o z : Cert.GateBwdRefIdeal.S8192x1024.Idx → EReal) (i : Cert.GateBwdRefIdeal.S1x128.Idx) :
    (val_main_v36 (F := Ideal) d o z : Cert.GateBwdRefIdeal.S1x128.Idx → EReal) i = ∑ r : Fin 8192, share d o z r (i 1) :=
  (ref_sum d o z i).trans (Fin.sum_fin_congr fun r => Finset.sum_congr rfl fun h _ => dWeight_eq _ _ _ _)

theorem weight : (dats m 0 c).arrAt 6 cfg0.N = Cert.GateBwdRefIdeal.Read.val_main_v36 (F := Ideal) (aD m c) (aO m c) (aZ m c) := by
  refine (dats m 0 c).arrAt_eq_of_covers 6 _ (by decide +kernel) fun t hf y => ?_
  obtain ⟨-, -, -, e⟩ := index t
  have hi : (((cfg0.win 6).blk t).view.emb y 1 : Fin 128) = y 1 := by
    refine Fin.ext ?_; blk_simp; simp [e]
  rw [weight_at, hi, after0_6]
  refine fold_rows (X := fun i : Fin 8192 => share (aD m c) (aO m c) (aZ m c) i (y 1)) (fun n h => (outsAt0 m c n h).2.2)
    (fun t (j : S1x128.Idx) k => share (bD m c t) (bO m c t) (bZ m c t) k (j 1)) (out6_A m c) (out6_B m c) t ((flush0_6 t).mp hf) y fun q k hl => ?_
  unfold share
  refine Finset.sum_congr rfl fun g _ => ?_
  obtain ⟨h0, h1, h2⟩ := heads m c q k g
  rw [h0, h1, h2]
  rfl

/-! ## The claims -/

/-- The precondition's shape relations. -/
theorem pre_facts : Cert.Pre_finite_gate.Facts where
  bitsLt_bf16_f32 := by decide
  bcast_S_S8192x1024 := by decide
  bcast_S_S1x128 := by decide

theorem real_of_pre (hp : Cert.Pre_GateBwdIdeal_finite_gate (hPre_finite_gate := pre_facts) m) : Real m c := by
  obtain ⟨p0, p1⟩ := hp c
  unfold Cert.Pre_finite_gate.fn at p0 p1
  dsimp only at p0 p1
  refine ⟨fun i => ?_, fun k => ?_⟩
  · have e := congrFun p0 i
    revert e
    pointwise []
    exact Cert.AttnRef.isReal_of_abs_lt _
  · have e := congrFun p1 (ix2 0 k)
    revert e
    pointwise []
    exact Cert.AttnRef.isReal_of_abs_lt _

theorem ref_frame : Cert.quiescent_GateBwdRefIdeal (hGateBwdRefIdeal := Cert.GateBwdRefIdeal.Gen.facts) := fun m g _ =>
  (θ_run _ _ _).mono (fun r h => ⟨fun c => (h c).2.2.2, sem_eq_zero_of_no_sems rfl r.2⟩) (Cert.GateBwdRefIdeal.Value.run (F := Ideal) m g)

theorem algebraic : Cert.algebraic_GateBwdIdeal_GateBwdRefIdeal_pre_finite_gate (hGateBwdIdeal := facts)
    (hGateBwdRefIdeal := Cert.GateBwdRefIdeal.Gen.facts) (hPre_finite_gate := pre_facts) := by
  intro m g m' g' hp ha
  refine ⟨fun c => (dats m 0 c).arrAt 4 cfg0.N, fun c => (dats m 0 c).arrAt 5 cfg0.N, fun c => (dats m 0 c).arrAt 6 cfg0.N,
    run_blocks m g, (θ_run _ _ _).mono (fun r h c => ?_) (Cert.GateBwdRefIdeal.Value.run (F := Ideal) m' g')⟩
  obtain ⟨h0, h1, h2, h3⟩ := h c
  obtain ⟨a0, a1, a2, a3⟩ := ha c
  have r := real_of_pre m c hp
  refine ⟨h0.trans ((Cert.GateBwdRefIdeal.Read.val_main_v49_eq _ _).trans ?_), h1.trans ((Cert.GateBwdRefIdeal.Read.val_main_v50_eq _ _ _ _).trans ?_),
    h2.trans ((Cert.GateBwdRefIdeal.Read.val_main_v36_eq _ _ _).trans ?_), h3⟩
  · rw [a0, a1, a2, a3]
    exact (rows m c).symm
  · rw [a0, a1, a2, a3]
    exact (gates m c r).symm
  · rw [a0, a1, a2]
    exact (weight m c).symm

end Cert.Rows.GateBwd

end
-- ==== Proof.Rows.Final.lean ====
/- The second sub-layer's residual and layer norm with the loss head, forward and backward: the loss, and the gradients of the residual sum, of
the MLP's output, and of the gate and the norm's vectors. -/
module

public import proofs.«01_k».proof.Defs
public import proofs.«01_k».proof.Proof.Gen.FinalIdeal.Value
public import proofs.«01_k».proof.Proof.Gen.FinalRefIdeal.Read
public import proofs.«01_k».proof.Proof.Rows.Blocks
public import proofs.«01_k».proof.Proof.Rows.Constants
public import proofs.«01_k».proof.Proof.Rows.Norm
public import Idealize.ShloMosaic.Lib.Claim
public import Idealize.ShloMosaic.Lib.Quiescent
public import Idealize.ShloMosaic.Lib.Pointwise

@[expose] public section

noncomputable section

namespace Cert.Rows.Final

open Cert.FinalIdeal Cert.FinalIdeal.Gen Cert.FinalIdeal.Value Idealize.ShloMosaic Idealize.ShloMosaic.TcCoe Idealize.SL.Sem

/-- 1/1024 and 1/2, as the kernel spells them. -/
def inv : EReal := Ideal.ofBits .f32 0x3A800000#32
def pHalf : EReal := Ideal.ofBits .f32 0x3F000000#32

/-- A row of the residual sum, from the rows of its two addends and of the gate. -/
def pre (x f w : Fin 1024 → EReal) (j : Fin 1024) : EReal := alpha * x j + w j * f j

/-- A row of the normed sum less the target. -/
def err (x f t w g b : Fin 1024 → EReal) (j : Fin 1024) : EReal := xhat width eps (pre x f w) j * g j + b j - t j

/-- A row's gradient of the loss in the normed sum. -/
def dy (x f t w g b : Fin 1024 → EReal) (j : Fin 1024) : EReal := err x f t w g b j * inv

/-- A row's share of the loss, twice. -/
def sq (e : Fin 1024 → EReal) : EReal := mean width fun k => e k * e k

/-! ## The kernel's terms -/

section Kernel

variable (x f t e v : Vec Ideal S512x1024 .f32) (w : Vec Ideal S6x1024 .f32) (g b acc : Vec Ideal S1x1024 .f32)

theorem cen_apply (j : S512x1024.Idx) : (k0_pay9 w f x : S512x1024.Idx → EReal) j
    = cen width (pre (fun k => x (ix2 (j 0) k)) (fun k => f (ix2 (j 0) k)) fun k => w (ix2 (5 : Fin 6) k)) (j 1) := by
  unfold cen mean pre alpha width
  pointwise [k0_pay9, k0_pay8]

theorem rstd_apply (j : S512x1.Idx) : (k0_pay10 w f x : S512x1.Idx → EReal) j
    = Ideal.rsqrt (spread width eps (pre (fun k => x (ix2 (j 0) k)) (fun k => f (ix2 (j 0) k)) fun k => w (ix2 (5 : Fin 6) k))) := by
  unfold spread mean width eps
  pointwise [k0_pay10]
  simp only [cen_apply]
  rfl

theorem xhat_apply (j : S512x1024.Idx) : (k0_pay11 w f x : S512x1024.Idx → EReal) j
    = xhat width eps (pre (fun k => x (ix2 (j 0) k)) (fun k => f (ix2 (j 0) k)) fun k => w (ix2 (5 : Fin 6) k)) (j 1) := by
  unfold xhat
  pointwise [k0_pay11]
  rw [cen_apply, rstd_apply]
  rfl

theorem err_apply (j : S512x1024.Idx) : (k0_pay12 w f x g b t : S512x1024.Idx → EReal) j
    = err (fun k => x (ix2 (j 0) k)) (fun k => f (ix2 (j 0) k)) (fun k => t (ix2 (j 0) k)) (fun k => w (ix2 (5 : Fin 6) k))
        (fun k => g (ix2 (0 : Fin 1) k)) (fun k => b (ix2 (0 : Fin 1) k)) (j 1) := by
  unfold err
  pointwise [k0_pay12]
  rw [xhat_apply]

theorem dx_apply (j : S512x1024.Idx) :
    (k0_pay1 (k0_pay10 w f x) (k0_pay11 w f x) (k0_pay17 e g) (k0_pay18 e g) : S512x1024.Idx → EReal) j
      = dNorm width eps (pre (fun k => x (ix2 (j 0) k)) (fun k => f (ix2 (j 0) k)) fun k => w (ix2 (5 : Fin 6) k))
          (fun k => e (ix2 (j 0) k) * inv * g (ix2 (0 : Fin 1) k)) (j 1) := by
  unfold dNorm mean width inv
  pointwise [k0_pay1, k0_pay17, k0_pay18, k0_pay14]
  simp only [xhat_apply, rstd_apply]
  rfl

end Kernel

section Ref
open Cert.FinalRefIdeal.Read

variable (x f t : Cert.FinalRefIdeal.S8192x1024.Idx → EReal) (w : Cert.FinalRefIdeal.S6x1024.Idx → EReal) (g b : Cert.FinalRefIdeal.S1x1024.Idx → EReal)

theorem ref_pre (i : Cert.FinalRefIdeal.S8192x1024.Idx) : (val_main_v10 (F := Ideal) x f w : Cert.FinalRefIdeal.S8192x1024.Idx → EReal) i
    = pre (fun k => x (ix2 (i 0) k)) (fun k => f (ix2 (i 0) k)) (fun k => w (ix2 (5 : Fin 6) k)) (i 1) := by
  unfold pre alpha
  pointwise [val_main_v10, val_main_v9, val_main_v8, val_main_v7, val_main_v6, val_main_cst, val_main_v5]

theorem ref_cen (i : Cert.FinalRefIdeal.S8192x1024.Idx) : (val_main_v16 (F := Ideal) x f w : Cert.FinalRefIdeal.S8192x1024.Idx → EReal) i
    = cen width (pre (fun k => x (ix2 (i 0) k)) (fun k => f (ix2 (i 0) k)) fun k => w (ix2 (5 : Fin 6) k)) (i 1) := by
  unfold cen mean width
  pointwise [val_main_v16, val_main_v15, val_main_v14, val_main_v13, val_main_cst_1, val_main_v12, val_main_v11, val_main_cst_0]
  simp only [ref_pre]
  rfl

theorem ref_cen' (i : Cert.FinalRefIdeal.S8192x1024.Idx) : (val_main_v25 (F := Ideal) x f w : Cert.FinalRefIdeal.S8192x1024.Idx → EReal) i
    = cen width (pre (fun k => x (ix2 (i 0) k)) (fun k => f (ix2 (i 0) k)) fun k => w (ix2 (5 : Fin 6) k)) (i 1) := by
  refine Eq.trans ?_ (ref_cen x f w i)
  pointwise [val_main_v25, val_main_v24, val_main_v16, val_main_v15]

theorem ref_spread (i : Cert.FinalRefIdeal.S8192x1.Idx) : (val_main_v27 (F := Ideal) x f w : Cert.FinalRefIdeal.S8192x1.Idx → EReal) i
    = spread width eps (pre (fun k => x (ix2 (i 0) k)) (fun k => f (ix2 (i 0) k)) fun k => w (ix2 (5 : Fin 6) k)) := by
  unfold spread mean width eps
  pointwise [val_main_v27, val_main_v26, val_main_cst_5, val_main_v23, val_main_v22, val_main_cst_4, val_main_v21, val_main_v20, val_main_cst_3, val_main_v17]
  simp only [ref_cen]
  rfl

theorem ref_xhat (i : Cert.FinalRefIdeal.S8192x1024.Idx) : (val_main_v33 (F := Ideal) x f w : Cert.FinalRefIdeal.S8192x1024.Idx → EReal) i
    = xhat width eps (pre (fun k => x (ix2 (i 0) k)) (fun k => f (ix2 (i 0) k)) fun k => w (ix2 (5 : Fin 6) k)) (i 1) := by
  unfold xhat
  pointwise [val_main_v33, val_main_v32, val_main_v28]
  rw [ref_cen', ref_spread]
  rfl

theorem ref_err (i : Cert.FinalRefIdeal.S8192x1024.Idx) : (val_main_v38 (F := Ideal) x f t w g b : Cert.FinalRefIdeal.S8192x1024.Idx → EReal) i
    = err (fun k => x (ix2 (i 0) k)) (fun k => f (ix2 (i 0) k)) (fun k => t (ix2 (i 0) k)) (fun k => w (ix2 (5 : Fin 6) k))
        (fun k => g (ix2 (0 : Fin 1) k)) (fun k => b (ix2 (0 : Fin 1) k)) (i 1) := by
  unfold err
  pointwise [val_main_v38, val_main_v37, val_main_v36, val_main_v35, val_main_v34]
  rw [ref_xhat]

theorem inv_eq : Ideal.div (pHalf * 1) width * two = inv := by
  have h : pHalf = ((1 / 2 : ℝ) : EReal) := by
    unfold pHalf
    simp [Ideal.ofBits, Ideal.ieee]
    rw [← EReal.coe_mul]
    norm_num
  have hi : inv = ((1 / 1024 : ℝ) : EReal) := by
    unfold inv
    simp [Ideal.ofBits, Ideal.ieee]
    rw [← EReal.coe_mul]
    norm_num
  rw [h, hi, width_eq, two_eq, mul_one, div_coe _ _ (by norm_num), ← EReal.coe_mul]
  norm_num

theorem ref_dy (i : Cert.FinalRefIdeal.S8192x1024.Idx) : (val_main_v52 (F := Ideal) x f t w g b : Cert.FinalRefIdeal.S8192x1024.Idx → EReal) i
    = dy (fun k => x (ix2 (i 0) k)) (fun k => f (ix2 (i 0) k)) (fun k => t (ix2 (i 0) k)) (fun k => w (ix2 (5 : Fin 6) k))
        (fun k => g (ix2 (0 : Fin 1) k)) (fun k => b (ix2 (0 : Fin 1) k)) (i 1) := by
  unfold dy
  rw [← inv_eq, mul_comm, mul_assoc]
  unfold pHalf width two
  pointwise [val_main_v52, val_main_v51, val_main_v50, val_main_v49, val_main_cst_14, val_main_v48, val_main_v47, val_main_cst_13, val_main_cst_12, val_main_v41, val_main_v40, val_main_cst_7]
  rw [ref_err]

theorem ref_var (i : Cert.FinalRefIdeal.S8192.Idx) : (val_main_v71 (F := Ideal) x f t w g b : Cert.FinalRefIdeal.S8192.Idx → EReal) i
    = dVar width eps half (pre (fun k => x (ix2 (i 0) k)) (fun k => f (ix2 (i 0) k)) fun k => w (ix2 (5 : Fin 6) k))
        (fun k => (val_main_v52 (F := Ideal) x f t w g b : Cert.FinalRefIdeal.S8192x1024.Idx → EReal) (ix2 (i 0) k) * g (ix2 (0 : Fin 1) k)) := by
  unfold dVar width half
  pointwise [val_main_v71, val_main_cst_20, val_main_v70, val_main_v69, val_main_cst_19, val_main_v65, val_main_v62, val_main_v61, val_main_cst_17, val_main_v60, val_main_v59, val_main_v58,
    val_main_v31, val_main_v30, val_main_cst_6, val_main_v29, val_main_v28]
  simp only [ref_cen', ref_spread, Finset.univ_unique, Finset.sum_singleton]
  rfl

theorem ref_dx (i : Cert.FinalRefIdeal.S8192x1024.Idx) : (val_main_v83 (F := Ideal) x f t w g b : Cert.FinalRefIdeal.S8192x1024.Idx → EReal) i
    = dChain width eps half two (pre (fun k => x (ix2 (i 0) k)) (fun k => f (ix2 (i 0) k)) fun k => w (ix2 (5 : Fin 6) k))
        (fun k => (val_main_v52 (F := Ideal) x f t w g b : Cert.FinalRefIdeal.S8192x1024.Idx → EReal) (ix2 (i 0) k) * g (ix2 (0 : Fin 1) k)) (i 1) := by
  unfold dChain width two
  pointwise [val_main_v83, val_main_v82, val_main_v81, val_main_cst_23, val_main_v80, val_main_v79, val_main_cst_22, val_main_v78, val_main_v77, val_main_v76, val_main_v75, val_main_cst_21,
    val_main_v74, val_main_v73, val_main_v72, val_main_v68, val_main_v67, val_main_cst_18, val_main_v66, val_main_v64, val_main_v63, val_main_v59, val_main_v58, val_main_v28, val_main_v19, val_main_v18, val_main_cst_2]
  simp only [ref_cen, ref_spread, ref_var, Finset.univ_unique, Finset.sum_singleton]
  rfl

end Ref

/-! ## The two spellings of the norm's gradient -/

open Cert.FinalRefIdeal.Read in
/-- Where the target, the norm's weight and its bias are real, the reference's gradient is the closed one. -/
theorem ref_norm (x f t : Cert.FinalRefIdeal.S8192x1024.Idx → EReal) (w : Cert.FinalRefIdeal.S6x1024.Idx → EReal) (g b : Cert.FinalRefIdeal.S1x1024.Idx → EReal)
    (ht : ∀ i, Cert.AttnRef.IsReal (t i)) (hg : ∀ k, Cert.AttnRef.IsReal (g (ix2 (0 : Fin 1) k))) (hb : ∀ k, Cert.AttnRef.IsReal (b (ix2 (0 : Fin 1) k)))
    (i : Cert.FinalRefIdeal.S8192x1024.Idx) : (val_main_v83 (F := Ideal) x f t w g b : Cert.FinalRefIdeal.S8192x1024.Idx → EReal) i
      = dNorm width eps (pre (fun k => x (ix2 (i 0) k)) (fun k => f (ix2 (i 0) k)) fun k => w (ix2 (5 : Fin 6) k))
          (fun k => dy (fun k => x (ix2 (i 0) k)) (fun k => f (ix2 (i 0) k)) (fun k => t (ix2 (i 0) k)) (fun k => w (ix2 (5 : Fin 6) k))
            (fun k => g (ix2 (0 : Fin 1) k)) (fun k => b (ix2 (0 : Fin 1) k)) k * g (ix2 (0 : Fin 1) k)) (i 1) := by
  obtain ⟨e, he, ee⟩ := eps_eq
  rw [ref_dx]
  simp only [ref_dy]
  unfold dy err
  rw [width_eq, half_eq, two_eq, ee]
  refine dChain_eq_dNorm e he _ _ (fun k => ?_) _
  have hx : Cert.AttnRef.IsReal (xhat (((1024 : ℕ) : ℝ) : EReal) e _ k) := xhat_real e he (pre (fun k => x (ix2 (i 0) k)) (fun k => f (ix2 (i 0) k)) fun k => w (ix2 (5 : Fin 6) k)) k
  obtain ⟨r, hr⟩ := ((hx.mul (hg k)).add (hb k))
  obtain ⟨r', hr'⟩ := ht (ix2 (i 0) k)
  have hi : Cert.AttnRef.IsReal inv := ⟨_, rfl⟩
  refine Cert.AttnRef.IsReal.mul (Cert.AttnRef.IsReal.mul ⟨r - r', ?_⟩ hi) (hg k)
  exact (congrArg₂ (· - ·) hr hr').trans (EReal.coe_sub r r').symm

/-! ## The summed terms -/

/-- A row's term of a sum over the rows, from the rows of the residual sum's two addends, the target's row, the gate, and the norm's weight and bias. -/
abbrev Term := (x f t w g b : Fin 1024 → EReal) → Fin 1024 → EReal

def tNorm : Term := fun x f t w g b j => dNorm width eps (pre x f w) (fun k => dy x f t w g b k * g k) j
def tGate : Term := fun x f t w g b j => tNorm x f t w g b j * f j
def tWeight : Term := fun x f t w g b j => dy x f t w g b j * xhat width eps (pre x f w) j
def tBias : Term := fun x f t w g b j => dy x f t w g b j
def tLoss : Term := fun x f t w g b _ => pHalf * sq (err x f t w g b)

/-- The term at row `i` of the arrays. -/
def Term.at {n : ℕ} (T : Term) (X F T' : (⟨2, ![n, 1024]⟩ : Shape).Idx → EReal) (W : (⟨2, ![6, 1024]⟩ : Shape).Idx → EReal)
    (G B : (⟨2, ![1, 1024]⟩ : Shape).Idx → EReal) (i : Fin n) (j : Fin 1024) : EReal :=
  T (fun l => X (ix2 i l)) (fun l => F (ix2 i l)) (fun l => T' (ix2 i l)) (fun l => W (ix2 (5 : Fin 6) l))
    (fun l => G (ix2 (0 : Fin 1) l)) (fun l => B (ix2 (0 : Fin 1) l)) j

theorem sq_nonneg (e : Fin 1024 → EReal) : 0 ≤ sq e := by
  unfold sq mean Ideal.div
  have h (a : EReal) : 0 ≤ a * a := by
    rcases le_total 0 a with h | h
    · exact mul_nonneg h h
    · rw [← neg_mul_neg]
      exact mul_nonneg (EReal.neg_nonneg.mpr h) (EReal.neg_nonneg.mpr h)
  rw [width_eq, if_neg (by simp), ← EReal.coe_inv]
  exact mul_nonneg (Finset.sum_nonneg fun k _ => h _) (by exact_mod_cast inv_nonneg.mpr (Nat.cast_nonneg 1024))

section Kernel

variable (x f t : Vec Ideal S512x1024 .f32) (w : Vec Ideal S6x1024 .f32) (g b acc : Vec Ideal S1x1024 .f32) (j : S1x1024.Idx)

theorem norm_apply (i : S512x1024.Idx) :
    (k0_pay1 (k0_pay10 w f x) (k0_pay11 w f x) (k0_pay17 (k0_pay12 w f x g b t) g) (k0_pay18 (k0_pay12 w f x g b t) g) : S512x1024.Idx → EReal) i
      = tNorm.at x f t w g b (i 0) (i 1) := by
  rw [dx_apply]
  simp only [err_apply]
  rfl

theorem gate_apply : (k0_pay3 f (k0_pay10 w f x) (k0_pay11 w f x) (k0_pay17 (k0_pay12 w f x g b t) g) (k0_pay18 (k0_pay12 w f x g b t) g) acc : S1x1024.Idx → EReal) j
    = acc j + ∑ k, tGate.at x f t w g b k (j 1) := by
  pointwise [k0_pay3]
  exact congrArg _ (Fin.sum_fin_congr fun k => by rw [norm_apply]; rfl)

theorem weight_apply : (k0_pay15 (k0_pay11 w f x) (k0_pay12 w f x g b t) acc : S1x1024.Idx → EReal) j = acc j + ∑ k, tWeight.at x f t w g b k (j 1) := by
  pointwise [k0_pay15, k0_pay14]
  exact congrArg _ (Fin.sum_fin_congr fun k => by rw [xhat_apply, err_apply]; rfl)

theorem bias_apply : (k0_pay16 (k0_pay12 w f x g b t) acc : S1x1024.Idx → EReal) j = acc j + ∑ k, tBias.at x f t w g b k (j 1) := by
  pointwise [k0_pay16, k0_pay14]
  exact congrArg _ (Fin.sum_fin_congr fun k => by rw [err_apply]; rfl)

theorem loss_apply (a : Vec Ideal S1x1 .f32) (i : S1x1.Idx) (l : Fin 1024) :
    (k0_pay13 (k0_pay12 w f x g b t) a : S1x1.Idx → EReal) i = a i + ∑ k, tLoss.at x f t w g b k l := by
  have h : ∑ k, tLoss.at x f t w g b k l = pHalf * ∑ k : Fin 512, sq (err (fun l => x (ix2 k l)) (fun l => f (ix2 k l)) (fun l => t (ix2 k l)) (fun l => w (ix2 (5 : Fin 6) l))
      (fun l => g (ix2 (0 : Fin 1) l)) (fun l => b (ix2 (0 : Fin 1) l))) := (mul_sum_of_nonneg _ _ fun k => sq_nonneg _).symm
  rw [h]
  unfold sq mean width pHalf
  pointwise [k0_pay13]
  simp only [err_apply]
  rfl

theorem zero_apply : (k0_pay5 (F := Ideal) : S1x1024.Idx → EReal) j = 0 ∧ (k0_pay6 (F := Ideal) : S1x1024.Idx → EReal) j = 0
    ∧ (k0_pay7 (F := Ideal) : S1x1024.Idx → EReal) j = 0 := by
  refine ⟨?_, ?_, ?_⟩
  · pointwise [k0_pay5]
  · pointwise [k0_pay6]
  · pointwise [k0_pay7]

theorem zero_loss (i : S1x1.Idx) : (k0_pay4 (F := Ideal) : S1x1.Idx → EReal) i = 0 := by
  pointwise [k0_pay4]

end Kernel

section Ref
open Cert.FinalRefIdeal.Read

variable (x f t : Cert.FinalRefIdeal.S8192x1024.Idx → EReal) (w : Cert.FinalRefIdeal.S6x1024.Idx → EReal) (g b : Cert.FinalRefIdeal.S1x1024.Idx → EReal)
  (i : Cert.FinalRefIdeal.S1x1024.Idx)

theorem ref_gate (ht : ∀ i, Cert.AttnRef.IsReal (t i)) (hg : ∀ k, Cert.AttnRef.IsReal (g (ix2 (0 : Fin 1) k))) (hb : ∀ k, Cert.AttnRef.IsReal (b (ix2 (0 : Fin 1) k))) :
    (val_main_v90 (F := Ideal) x f t w g b : Cert.FinalRefIdeal.S1x1024.Idx → EReal) i = ∑ k, tGate.at x f t w g b k (i 1) := by
  pointwise [val_main_v90, val_main_v89, val_main_cst_24, val_main_v88]
  exact Fin.sum_fin_congr fun k => by rw [ref_norm x f t w g b ht hg hb]; rfl

theorem ref_weight : (val_main_v57 (F := Ideal) x f t w g b : Cert.FinalRefIdeal.S1x1024.Idx → EReal) i = ∑ k, tWeight.at x f t w g b k (i 1) := by
  pointwise [val_main_v57, val_main_v56, val_main_cst_16, val_main_v55]
  exact Fin.sum_fin_congr fun k => by rw [ref_xhat, ref_dy, mul_comm]; rfl

theorem ref_bias : (val_main_v54 (F := Ideal) x f t w g b : Cert.FinalRefIdeal.S1x1024.Idx → EReal) i = ∑ k, tBias.at x f t w g b k (i 1) := by
  pointwise [val_main_v54, val_main_v53, val_main_cst_15]
  exact Fin.sum_fin_congr fun k => by rw [ref_dy]; rfl

theorem ref_loss (i : Cert.FinalRefIdeal.S1x1.Idx) (l : Fin 1024) :
    (val_main_v92 (F := Ideal) x f t w g b : Cert.FinalRefIdeal.S1x1.Idx → EReal) i = ∑ k, tLoss.at x f t w g b k l := by
  have h : ∑ k, tLoss.at x f t w g b k l = pHalf * ∑ k : Fin 8192, sq (err (fun l => x (ix2 k l)) (fun l => f (ix2 k l)) (fun l => t (ix2 k l)) (fun l => w (ix2 (5 : Fin 6) l))
      (fun l => g (ix2 (0 : Fin 1) l)) (fun l => b (ix2 (0 : Fin 1) l))) := (mul_sum_of_nonneg _ _ fun k => sq_nonneg _).symm
  rw [h]
  unfold sq mean width pHalf
  pointwise [val_main_v92, val_main_v46, val_main_cst_11, val_main_v45, val_main_cst_10, val_main_v44, val_main_v43, val_main_cst_9, val_main_v42, val_main_cst_8, val_main_v39]
  simp only [ref_err]
  rfl

end Ref

/-! ## The arrays -/

variable (m : (ℓ : Loc nD τ sig) → Buf (Elt Ideal) ℓ) (c : Dev nD)

/-- The arrays, and the blocks a point reads. -/
def aX : (⟨2, ![8192, 1024]⟩ : Shape).Idx → EReal := m ((c : Thread nD τ).loc main_arg0)
def aF : (⟨2, ![8192, 1024]⟩ : Shape).Idx → EReal := m ((c : Thread nD τ).loc main_arg1)
def aT : (⟨2, ![8192, 1024]⟩ : Shape).Idx → EReal := m ((c : Thread nD τ).loc main_arg2)
def aW : (⟨2, ![6, 1024]⟩ : Shape).Idx → EReal := m ((c : Thread nD τ).loc main_arg3)
def aG : (⟨2, ![1, 1024]⟩ : Shape).Idx → EReal := m ((c : Thread nD τ).loc main_arg4)
def aB : (⟨2, ![1, 1024]⟩ : Shape).Idx → EReal := m ((c : Thread nD τ).loc main_arg5)
def bX (t : Fin cfg0.N) : S512x1024.Idx → EReal := iblk m c 0 t
def bF (t : Fin cfg0.N) : S512x1024.Idx → EReal := iblk m c 1 t
def bT (t : Fin cfg0.N) : S512x1024.Idx → EReal := iblk m c 2 t
def bW (t : Fin cfg0.N) : S6x1024.Idx → EReal := iblk m c 3 t
def bG (t : Fin cfg0.N) : S1x1024.Idx → EReal := iblk m c 4 t
def bB (t : Fin cfg0.N) : S1x1024.Idx → EReal := iblk m c 5 t

theorem index : ∀ t : Fin cfg0.N, (win0_0.index t = ![t.val, 0] ∧ win0_1.index t = ![t.val, 0] ∧ win0_2.index t = ![t.val, 0]
    ∧ win0_3.index t = ![0, 0] ∧ win0_4.index t = ![0, 0] ∧ win0_5.index t = ![0, 0]) ∧ win0_6.index t = ![t.val, 0] ∧ win0_7.index t = ![t.val, 0]
    ∧ win0_8.index t = ![0, 0] ∧ win0_9.index t = ![0, 0] ∧ win0_10.index t = ![0, 0] ∧ win0_11.index t = ![0, 0] :=
  (by decide +kernel : ∀ t : Fin grid0.N, _)

/-- Row `k` of a point's blocks, in the arrays. -/
def row (t : Fin cfg0.N) (k : Fin 512) : Fin 8192 := ⟨t.val * 512 + k.val, by have h : t.val < 16 := t.isLt; omega⟩

theorem blocks (t : Fin cfg0.N) (k : Fin 512) (l : Fin 1024) :
    bX m c t (ix2 k l) = aX m c (ix2 (row t k) l) ∧ bF m c t (ix2 k l) = aF m c (ix2 (row t k) l) ∧ bT m c t (ix2 k l) = aT m c (ix2 (row t k) l) := by
  obtain ⟨⟨e0, e1, e2, -⟩, -⟩ := index t
  unfold bX bF bT aX aF aT row
  refine ⟨?_, ?_, ?_⟩
  · blk_ext [iblk, V, e0]
  · blk_ext [iblk, V, e1]
  · blk_ext [iblk, V, e2]

theorem vectors (t : Fin cfg0.N) : bW m c t = aW m c ∧ bG m c t = aG m c ∧ bB m c t = aB m c := by
  obtain ⟨⟨-, -, -, e3, e4, e5⟩, -⟩ := index t
  unfold bW bG bB aW aG aB
  refine ⟨?_, ?_, ?_⟩
  · funext i; blk_ext [iblk, V, e3]
  · funext i; blk_ext [iblk, V, e4]
  · funext i; blk_ext [iblk, V, e5]

/-- A term at row `k` of a point's blocks, and at row `i` of the arrays. -/
def atBlk (T : Term) (t : Fin cfg0.N) (k : Fin 512) (j : Fin 1024) : EReal := T.at (bX m c t) (bF m c t) (bT m c t) (bW m c t) (bG m c t) (bB m c t) k j
def atArr (T : Term) (i : Fin 8192) (j : Fin 1024) : EReal := T.at (aX m c) (aF m c) (aT m c) (aW m c) (aG m c) (aB m c) i j

theorem atBlk_eq (T : Term) (t : Fin cfg0.N) (k : Fin 512) (j : Fin 1024) : atBlk m c T t k j = atArr m c T (row t k) j := by
  obtain ⟨hw, hg, hb⟩ := vectors m c t
  unfold atBlk atArr Term.at
  simp only [fun l => (blocks m c t k l).1, fun l => (blocks m c t k l).2.1, fun l => (blocks m c t k l).2.2, hw, hg, hb]

/-- What adds up a term over the points' rows holds its sum over the arrays' rows; `p` takes the accumulator's index to the term's column. -/
theorem fold (T : Term) {ι : Type} (p : ι → Fin 1024) (acc : (k : ℕ) → k < cfg0.N → ι → EReal)
    (h0 : ∀ t : Fin cfg0.N, t.val % 16 = 0 → ∀ j, acc t.val t.isLt j = 0 + ∑ k, atBlk m c T t k (p j))
    (hs : ∀ t : Fin cfg0.N, ¬t.val % 16 = 0 → ∀ j,
      acc t.val t.isLt j = acc (t.val - 1) (Nat.lt_of_le_of_lt (Nat.sub_le _ _) t.isLt) j + ∑ k, atBlk m c T t k (p j))
    (t : Fin cfg0.N) (h : t.val % 16 = 15) (j : ι) (j' : Fin 1024) (hj : j' = p j) :
    acc t.val t.isLt j = ∑ i : Fin 8192, atArr m c T i j' := by
  rw [hj]
  exact fold_rows acc (fun t j k => atBlk m c T t k (p j)) h0 hs t h j fun q k hl => atBlk_eq m c T q k (p j)

theorem out6 (t : Fin cfg0.N) : (outsAt0 m c t.val t.isLt).1
    = k0_pay1 (F := Ideal) (k0_pay10 (bW m c t) (bF m c t) (bX m c t)) (k0_pay11 (bW m c t) (bF m c t) (bX m c t))
        (k0_pay17 (k0_pay12 (bW m c t) (bF m c t) (bX m c t) (bG m c t) (bB m c t) (bT m c t)) (bG m c t))
        (k0_pay18 (k0_pay12 (bW m c t) (bF m c t) (bX m c t) (bG m c t) (bB m c t) (bT m c t)) (bG m c t)) := by
  by_cases h : t.val % 16 = 0
  · rw [outsAt0_A m c t h]; frame_out; rfl
  · rw [outsAt0_B m c t h]; frame_out; rfl

theorem out7 (t : Fin cfg0.N) : (outsAt0 m c t.val t.isLt).2.1
    = k0_pay2 (F := Ideal) (k0_pay8 (bW m c t)) (k0_pay10 (bW m c t) (bF m c t) (bX m c t)) (k0_pay11 (bW m c t) (bF m c t) (bX m c t))
        (k0_pay17 (k0_pay12 (bW m c t) (bF m c t) (bX m c t) (bG m c t) (bB m c t) (bT m c t)) (bG m c t))
        (k0_pay18 (k0_pay12 (bW m c t) (bF m c t) (bX m c t) (bG m c t) (bB m c t) (bT m c t)) (bG m c t)) := by
  by_cases h : t.val % 16 = 0
  · rw [outsAt0_A m c t h]; frame_out; rfl
  · rw [outsAt0_B m c t h]; frame_out; rfl

/-- What the precondition gives. -/
structure Real : Prop where
  t : ∀ i, Cert.AttnRef.IsReal (aT m c i)
  g : ∀ k, Cert.AttnRef.IsReal (aG m c (ix2 (0 : Fin 1) k))
  b : ∀ k, Cert.AttnRef.IsReal (aB m c (ix2 (0 : Fin 1) k))

variable {m c}

theorem residual (r : Real m c) : (dats m 0 c).arrAt 6 cfg0.N
    = Cert.FinalRefIdeal.Read.val_main_v83 (F := Ideal) (aX m c) (aF m c) (aT m c) (aW m c) (aG m c) (aB m c) := by
  refine (dats m 0 c).arrAt_eq_of_covers 6 _ (by decide +kernel) fun t hf y => ?_
  obtain ⟨-, e6, -⟩ := index t
  rw [ref_norm _ _ _ _ _ _ r.t r.g r.b, after0_6, out6]
  refine (norm_apply _ _ _ _ _ _ y).trans ((atBlk_eq m c tNorm t (y 0) (y 1)).trans ?_)
  have h0 : (((cfg0.win 6).blk t).view.emb y 0 : Fin 8192) = row t (y 0) := by
    refine Fin.ext ?_; blk_simp; simp [e6, row]
  have h1 : (((cfg0.win 6).blk t).view.emb y 1 : Fin 1024) = y 1 := by
    refine Fin.ext ?_; blk_simp; simp [e6]
  rw [h0, h1]
  rfl

theorem mlp (r : Real m c) : (dats m 0 c).arrAt 7 cfg0.N
    = Cert.FinalRefIdeal.Read.val_main_v91 (F := Ideal) (aX m c) (aF m c) (aT m c) (aW m c) (aG m c) (aB m c) := by
  refine (dats m 0 c).arrAt_eq_of_covers 7 _ (by decide +kernel) fun t hf y => ?_
  obtain ⟨-, -, e7, -⟩ := index t
  have h0 : (((cfg0.win 7).blk t).view.emb y 0 : Fin 8192) = row t (y 0) := by
    refine Fin.ext ?_; blk_simp; simp [e7, row]
  have h1 : (((cfg0.win 7).blk t).view.emb y 1 : Fin 1024) = y 1 := by
    refine Fin.ext ?_; blk_simp; simp [e7]
  have hr : ∀ i, (Cert.FinalRefIdeal.Read.val_main_v91 (F := Ideal) (aX m c) (aF m c) (aT m c) (aW m c) (aG m c) (aB m c) : Cert.FinalRefIdeal.S8192x1024.Idx → EReal) i
      = aW m c (ix2 (5 : Fin 6) (i 1)) * atArr m c tNorm (i 0) (i 1) := fun i => by
    pointwise [Cert.FinalRefIdeal.Read.val_main_v91, Cert.FinalRefIdeal.Read.val_main_v87, Cert.FinalRefIdeal.Read.val_main_v86, Cert.FinalRefIdeal.Read.val_main_v5]
    rw [ref_norm _ _ _ _ _ _ r.t r.g r.b]
    rfl
  have hk : ∀ j : S512x1024.Idx, (k0_pay2 (F := Ideal) (k0_pay8 (bW m c t)) (k0_pay10 (bW m c t) (bF m c t) (bX m c t)) (k0_pay11 (bW m c t) (bF m c t) (bX m c t))
        (k0_pay17 (k0_pay12 (bW m c t) (bF m c t) (bX m c t) (bG m c t) (bB m c t) (bT m c t)) (bG m c t))
        (k0_pay18 (k0_pay12 (bW m c t) (bF m c t) (bX m c t) (bG m c t) (bB m c t) (bT m c t)) (bG m c t)) : S512x1024.Idx → EReal) j
      = aW m c (ix2 (5 : Fin 6) (j 1)) * atArr m c tNorm (row t (j 0)) (j 1) := fun j => by
    pointwise [k0_pay2, k0_pay8]
    rw [norm_apply, (vectors m c t).1]
    exact congrArg _ ((congrArg (fun w => tNorm.at (bX m c t) (bF m c t) (bT m c t) w (bG m c t) (bB m c t) (j 0 : Fin 512) (j 1 : Fin 1024)) (vectors m c t).1.symm).trans
      (atBlk_eq m c tNorm t (j 0) (j 1)))
  rw [after0_7, out7]
  refine (hk y).trans ?_
  rw [hr, h0, h1]

variable (m c)

theorem loss : (dats m 0 c).arrAt 8 cfg0.N = Cert.FinalRefIdeal.Read.val_main_v92 (F := Ideal) (aX m c) (aF m c) (aT m c) (aW m c) (aG m c) (aB m c) := by
  refine (dats m 0 c).arrAt_eq_of_covers 8 _ (by decide +kernel) fun t hf y => ?_
  rw [ref_loss _ _ _ _ _ _ _ 0, after0_8]
  refine fold m c tLoss (fun _ => 0) (fun n h => (outsAt0 m c n h).2.2.1) (fun t h j => ?_) (fun t h j => ?_) t ((flush0_8 t).mp hf) y 0 rfl
  · rw [outsAt0_A m c t h]
    frame_out
    exact (loss_apply (bX m c t) (bF m c t) (bT m c t) (bW m c t) (bG m c t) (bB m c t) _ j 0).trans (congrArg (· + _) (zero_loss j))
  · rw [outsAt0_B m c t h]
    frame_out
    exact loss_apply (bX m c t) (bF m c t) (bT m c t) (bW m c t) (bG m c t) (bB m c t) _ j 0

theorem gate (r : Real m c) : (dats m 0 c).arrAt 9 cfg0.N = Cert.FinalRefIdeal.Read.val_main_v90 (F := Ideal) (aX m c) (aF m c) (aT m c) (aW m c) (aG m c) (aB m c) := by
  refine (dats m 0 c).arrAt_eq_of_covers 9 _ (by decide +kernel) fun t hf y => ?_
  rw [ref_gate _ _ _ _ _ _ _ r.t r.g r.b, after0_9]
  obtain ⟨-, -, -, -, e, -⟩ := index t
  refine fold m c tGate (fun j : S1x1024.Idx => j 1) (fun n h => (outsAt0 m c n h).2.2.2.1) (fun t h j => ?_) (fun t h j => ?_) t ((flush0_9 t).mp hf) y _ ?_
  · rw [outsAt0_A m c t h]
    frame_out
    exact (gate_apply (bX m c t) (bF m c t) (bT m c t) (bW m c t) (bG m c t) (bB m c t) _ j).trans (congrArg (· + _) (by simp only [zero_apply]))
  · rw [outsAt0_B m c t h]
    frame_out
    exact gate_apply (bX m c t) (bF m c t) (bT m c t) (bW m c t) (bG m c t) (bB m c t) _ j
  · refine Fin.ext ?_; blk_simp; simp [e]

theorem weight : (dats m 0 c).arrAt 10 cfg0.N = Cert.FinalRefIdeal.Read.val_main_v57 (F := Ideal) (aX m c) (aF m c) (aT m c) (aW m c) (aG m c) (aB m c) := by
  refine (dats m 0 c).arrAt_eq_of_covers 10 _ (by decide +kernel) fun t hf y => ?_
  rw [ref_weight, after0_10]
  obtain ⟨-, -, -, -, -, e, -⟩ := index t
  refine fold m c tWeight (fun j : S1x1024.Idx => j 1) (fun n h => (outsAt0 m c n h).2.2.2.2.1) (fun t h j => ?_) (fun t h j => ?_) t ((flush0_10 t).mp hf) y _ ?_
  · rw [outsAt0_A m c t h]
    frame_out
    exact (weight_apply (bX m c t) (bF m c t) (bT m c t) (bW m c t) (bG m c t) (bB m c t) _ j).trans (congrArg (· + _) (by simp only [zero_apply]))
  · rw [outsAt0_B m c t h]
    frame_out
    exact weight_apply (bX m c t) (bF m c t) (bT m c t) (bW m c t) (bG m c t) (bB m c t) _ j
  · refine Fin.ext ?_; blk_simp; simp [e]

theorem bias : (dats m 0 c).arrAt 11 cfg0.N = Cert.FinalRefIdeal.Read.val_main_v54 (F := Ideal) (aX m c) (aF m c) (aT m c) (aW m c) (aG m c) (aB m c) := by
  refine (dats m 0 c).arrAt_eq_of_covers 11 _ (by decide +kernel) fun t hf y => ?_
  rw [ref_bias, after0_11]
  obtain ⟨-, -, -, -, -, -, e⟩ := index t
  refine fold m c tBias (fun j : S1x1024.Idx => j 1) (fun n h => (outsAt0 m c n h).2.2.2.2.2) (fun t h j => ?_) (fun t h j => ?_) t ((flush0_11 t).mp hf) y _ ?_
  · rw [outsAt0_A m c t h]
    frame_out
    exact (bias_apply (bX m c t) (bF m c t) (bT m c t) (bW m c t) (bG m c t) (bB m c t) _ j).trans (congrArg (· + _) (by simp only [zero_apply]))
  · rw [outsAt0_B m c t h]
    frame_out
    exact bias_apply (bX m c t) (bF m c t) (bT m c t) (bW m c t) (bG m c t) (bB m c t) _ j
  · refine Fin.ext ?_; blk_simp; simp [e]

/-! ## The claims -/

/-- The precondition's shape relations. -/
theorem pre_facts : Cert.Pre_finite_loss.Facts where
  bcast_S_S8192x1024 := by decide
  bcast_S_S1x1024 := by decide

theorem real_of_pre (hp : Cert.Pre_FinalIdeal_finite_loss (hPre_finite_loss := pre_facts) m) : Real m c := by
  obtain ⟨p0, p1, p2⟩ := hp c
  unfold Cert.Pre_finite_loss.fn at p0 p1 p2
  dsimp only at p0 p1 p2
  refine ⟨fun i => ?_, fun k => ?_, fun k => ?_⟩
  · have e := congrFun p0 i
    revert e
    pointwise []
    exact Cert.AttnRef.isReal_of_abs_lt _
  · have e := congrFun p1 (ix2 0 k)
    revert e
    pointwise []
    exact Cert.AttnRef.isReal_of_abs_lt _
  · have e := congrFun p2 (ix2 0 k)
    revert e
    pointwise []
    exact Cert.AttnRef.isReal_of_abs_lt _

theorem ref_frame : Cert.quiescent_FinalRefIdeal (hFinalRefIdeal := Cert.FinalRefIdeal.Gen.facts) := fun m g _ =>
  (θ_run _ _ _).mono (fun r h => ⟨fun c => (h c).2.2.2.2.2.2, sem_eq_zero_of_no_sems rfl r.2⟩) (Cert.FinalRefIdeal.Value.run (F := Ideal) m g)

theorem algebraic : Cert.algebraic_FinalIdeal_FinalRefIdeal_pre_finite_loss (hFinalIdeal := facts)
    (hFinalRefIdeal := Cert.FinalRefIdeal.Gen.facts) (hPre_finite_loss := pre_facts) := by
  intro m g m' g' hp ha
  refine ⟨fun c => (dats m 0 c).arrAt 6 cfg0.N, fun c => (dats m 0 c).arrAt 7 cfg0.N, fun c => (dats m 0 c).arrAt 8 cfg0.N,
    fun c => (dats m 0 c).arrAt 9 cfg0.N, fun c => (dats m 0 c).arrAt 10 cfg0.N, fun c => (dats m 0 c).arrAt 11 cfg0.N,
    run_blocks m g, (θ_run _ _ _).mono (fun r h c => ?_) (Cert.FinalRefIdeal.Value.run (F := Ideal) m' g')⟩
  obtain ⟨h0, h1, h2, h3, h4, h5, h6⟩ := h c
  obtain ⟨a0, a1, a2, a3, a4, a5⟩ := ha c
  have r := real_of_pre m c hp
  refine ⟨h0.trans ((Cert.FinalRefIdeal.Read.val_main_v83_eq _ _).trans ?_), h1.trans ((Cert.FinalRefIdeal.Read.val_main_v91_eq _ _).trans ?_),
    h2.trans ((Cert.FinalRefIdeal.Read.val_main_v92_eq _ _).trans ?_), h3.trans ((Cert.FinalRefIdeal.Read.val_main_v90_eq _ _).trans ?_),
    h4.trans ((Cert.FinalRefIdeal.Read.val_main_v57_eq _ _).trans ?_), h5.trans ((Cert.FinalRefIdeal.Read.val_main_v54_eq _ _).trans ?_), h6⟩
  all_goals rw [a0, a1, a2, a3, a4, a5]
  · exact (residual r).symm
  · exact (mlp r).symm
  · exact (loss m c).symm
  · exact (gate m c r).symm
  · exact (weight m c).symm
  · exact (bias m c).symm

end Cert.Rows.Final

end
-- ==== Proof.Rows.ModT.lean ====
/- The modulation of a layer's input: a scale and a shift per column. -/
module

public import proofs.«01_k».proof.Defs
public import proofs.«01_k».proof.Proof.Gen.ModTIdeal.Value
public import proofs.«01_k».proof.Proof.Gen.ModTRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Rows.ModT

open Cert.ModTIdeal Cert.ModTIdeal.Gen Cert.ModTIdeal.Value Idealize.ShloMosaic Idealize.ShloMosaic.TcCoe Idealize.SL.Sem

theorem pay_apply (w : Vec Ideal S6x1024 .f32) (x : Vec Ideal S1024x1024 .bf16) (j : S1024x1024.Idx) : (k0_pay1 w x : S1024x1024.Idx → EReal) j
    = (x j : EReal) * (1 + (w (ix2 (1 : Fin 6) (j 1)) : EReal)) + (w (ix2 (0 : Fin 6) (j 1)) : EReal) := by
  pointwise [k0_pay1]

open Cert.ModTRefIdeal.Read in
theorem ref_apply (x : Cert.ModTRefIdeal.S8192x1024.Idx → EReal) (w : Cert.ModTRefIdeal.S6x1024.Idx → EReal) (i : Cert.ModTRefIdeal.S8192x1024.Idx) :
    (val_main_v12 (F := Ideal) x w : Cert.ModTRefIdeal.S8192x1024.Idx → EReal) i = x i * (1 + w (ix2 (1 : Fin 6) (i 1))) + w (ix2 (0 : Fin 6) (i 1)) := by
  pointwise [val_main_v12, val_main_v11, val_main_v10, val_main_v9, val_main_v8, val_main_v7, val_main_v6, val_main_cst, val_main_v1, val_main_v0]

variable (m : (ℓ : Loc nD τ sig) → Buf (Elt Ideal) ℓ) (c : Dev nD)

theorem index : ∀ t : Fin cfg0.N, win0_0.index t = ![t.val, 0] ∧ win0_1.index t = ![0, 0] ∧ win0_2.index t = ![t.val, 0] :=
  (by decide +kernel : ∀ t : Fin grid0.N, _)

theorem result : (dats m 0 c).arrAt 2 cfg0.N
    = Cert.ModTRefIdeal.Read.val_main_v12 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index t
  rw [ref_apply, after0_2]
  frame_out
  rw [pay_apply]
  refine congrArg₂ (· + ·) (congrArg₂ (· * ·) ?_ (congrArg (1 + ·) ?_)) ?_
  all_goals blk_ext [iblk, V, e0, e1, e2]

/-! ## The claims -/

theorem ref_frame : Cert.quiescent_ModTRefIdeal (hModTRefIdeal := Cert.ModTRefIdeal.Gen.facts) := fun m g _ =>
  (θ_run _ _ _).mono (fun r h => ⟨fun c => (h c).2, sem_eq_zero_of_no_sems rfl r.2⟩) (Cert.ModTRefIdeal.Value.run (F := Ideal) m g)

theorem algebraic : Cert.algebraic_ModTIdeal_ModTRefIdeal (hModTIdeal := facts) (hModTRefIdeal := Cert.ModTRefIdeal.Gen.facts) := by
  intro m g m' g' _ ha
  refine ⟨fun c => (dats m 0 c).arrAt 2 cfg0.N, run_blocks m g, (θ_run _ _ _).mono (fun r h c => ⟨?_, (h c).2⟩) (Cert.ModTRefIdeal.Value.run (F := Ideal) m' g')⟩
  rw [(h c).1, (ha c).1, (ha c).2]
  exact (result m c).symm

end Cert.Rows.ModT

end
-- ==== Proof.Rows.MergeFwd.lean ====
/- The gated merge of the two branches. -/
module

public import proofs.«01_k».proof.Defs
public import proofs.«01_k».proof.Proof.Gen.MergeFwdIdeal.Value
public import proofs.«01_k».proof.Proof.Gen.MergeFwdRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Rows.MergeFwd

open Cert.MergeFwdIdeal Cert.MergeFwdIdeal.Gen Cert.MergeFwdIdeal.Value Idealize.ShloMosaic Idealize.ShloMosaic.TcCoe Idealize.SL.Sem

/-- The sigmoid. -/
def sigm (x : EReal) : EReal := Ideal.div 1 (1 + Ideal.exp (-x))

/-- Columns `k` and `1024 + k` of the gates. -/
abbrev colA (k : Fin 1024) : Fin 2048 := ⟨k.val, Nat.lt_trans k.isLt (by decide)⟩
abbrev colB (k : Fin 1024) : Fin 2048 := ⟨1024 + k.val, Nat.add_lt_add_left k.isLt 1024⟩

theorem pay_apply (g : Vec Ideal S512x2048 .bf16) (w : Vec Ideal S1x2048 .f32) (a b : Vec Ideal S512x1024 .bf16) (j : S512x1024.Idx) :
    (k0_pay1 g w a b : S512x1024.Idx → EReal) j
      = sigm (g (ix2 (j 0) (colA (j 1))) + w (ix2 (0 : Fin 1) (colA (j 1)))) * a j + sigm (g (ix2 (j 0) (colB (j 1))) + w (ix2 (0 : Fin 1) (colB (j 1)))) * b j := by
  unfold sigm
  pointwise [k0_pay1]
  simp only [zero_sub]

open Cert.MergeFwdRefIdeal.Read in
theorem ref_apply (g : Cert.MergeFwdRefIdeal.S8192x2048.Idx → EReal) (w : Cert.MergeFwdRefIdeal.S1x2048.Idx → EReal)
    (a b : Cert.MergeFwdRefIdeal.S8192x1024.Idx → EReal) (i : Cert.MergeFwdRefIdeal.S8192x1024.Idx) :
    (val_main_v16 (F := Ideal) g w a b : Cert.MergeFwdRefIdeal.S8192x1024.Idx → EReal) i
      = sigm (g (ix2 (i 0) (colA (i 1))) + w (ix2 (0 : Fin 1) (colA (i 1)))) * a i + sigm (g (ix2 (i 0) (colB (i 1))) + w (ix2 (0 : Fin 1) (colB (i 1)))) * b i := by
  unfold sigm
  pointwise [val_main_v16, val_main_v15, val_main_v14, val_main_v13, val_main_v12, val_main_v11, val_main_v10, val_main_v9, val_main_cst_0, val_main_v8, val_main_v7, val_main_cst,
    val_main_v6, val_main_v5, val_main_v4, val_main_v3, val_main_v2, val_main_v1, val_main_v0]

variable (m : (ℓ : Loc nD τ sig) → Buf (Elt Ideal) ℓ) (c : Dev nD)

theorem index : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

theorem result : (dats m 0 c).arrAt 4 cfg0.N = Cert.MergeFwdRefIdeal.Read.val_main_v16 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4⟩ := index t
  have h : (((cfg0.win 4).blk t).view.emb y 1 : Fin 1024) = y 1 := by
    refine Fin.ext ?_; blk_simp; simp [e4]
  rw [ref_apply, after0_4, h]
  frame_out
  rw [pay_apply]
  refine congrArg₂ (· + ·) (congrArg₂ (· * ·) (congrArg sigm (congrArg₂ (· + ·) ?_ ?_)) ?_) (congrArg₂ (· * ·) (congrArg sigm (congrArg₂ (· + ·) ?_ ?_)) ?_)
  all_goals blk_ext [iblk, V, e0, e1, e2, e3, e4]

/-! ## The claims -/

theorem ref_frame : Cert.quiescent_MergeFwdRefIdeal (hMergeFwdRefIdeal := Cert.MergeFwdRefIdeal.Gen.facts) := fun m g _ =>
  (θ_run _ _ _).mono (fun r h => ⟨fun c => (h c).2, sem_eq_zero_of_no_sems rfl r.2⟩) (Cert.MergeFwdRefIdeal.Value.run (F := Ideal) m g)

theorem algebraic : Cert.algebraic_MergeFwdIdeal_MergeFwdRefIdeal (hMergeFwdIdeal := facts) (hMergeFwdRefIdeal := Cert.MergeFwdRefIdeal.Gen.facts) := by
  intro m g m' g' _ ha
  refine ⟨fun c => (dats m 0 c).arrAt 4 cfg0.N, run_blocks m g, (θ_run _ _ _).mono (fun r h c => ⟨?_, (h c).2⟩) (Cert.MergeFwdRefIdeal.Value.run (F := Ideal) m' g')⟩
  obtain ⟨a0, a1, a2, a3⟩ := ha c
  rw [(h c).1, a0, a1, a2, a3]
  exact (result m c).symm

end Cert.Rows.MergeFwd

end
-- ==== Proof.Rows.LnFwd.lean ====
/- The first sub-layer's residual sum, its layer norm, and the modulation of the normed rows. -/
module

public import proofs.«01_k».proof.Defs
public import proofs.«01_k».proof.Proof.Gen.LnFwdIdeal.Value
public import proofs.«01_k».proof.Proof.Gen.LnFwdRefIdeal.Read
public import proofs.«01_k».proof.Proof.Rows.Constants
public import proofs.«01_k».proof.Proof.Rows.Norm
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Rows.LnFwd

open Cert.LnFwdIdeal Cert.LnFwdIdeal.Gen Cert.LnFwdIdeal.Value Idealize.ShloMosaic Idealize.ShloMosaic.TcCoe Idealize.SL.Sem

/-- A row of the residual sum, from the rows of its two addends and of the gate. -/
def pre (x y w : Fin 1024 → EReal) (j : Fin 1024) : EReal := alpha * x j + w j * y j

/-- The normed row, and its modulation by the scale `s` and the shift `d`. -/
def normed (x y w g b : Fin 1024 → EReal) (j : Fin 1024) : EReal := xhat width eps (pre x y w) j * g j + b j
def modulated (x y w g b s d : Fin 1024 → EReal) (j : Fin 1024) : EReal := normed x y w g b j * (1 + s j) + d j

/-! ## The kernel's terms -/

section Kernel

variable (x y : Vec Ideal S512x1024 .f32) (w : Vec Ideal S6x1024 .f32) (g b : Vec Ideal S1x1024 .f32) (j : S512x1024.Idx)

theorem pre_apply : (k0_pay2 w x y : S512x1024.Idx → EReal) j
    = pre (fun k => x (ix2 (j 0) k)) (fun k => y (ix2 (j 0) k)) (fun k => w (ix2 (2 : Fin 6) k)) (j 1) := by
  unfold pre alpha
  pointwise [k0_pay2]

theorem normed_apply : (k0_pay3 w x y g b : S512x1024.Idx → EReal) j
    = normed (fun k => x (ix2 (j 0) k)) (fun k => y (ix2 (j 0) k)) (fun k => w (ix2 (2 : Fin 6) k)) (fun k => g (ix2 (0 : Fin 1) k)) (fun k => b (ix2 (0 : Fin 1) k)) (j 1) := by
  unfold normed xhat spread cen mean width eps
  pointwise [k0_pay3]
  simp only [pre_apply]
  rfl

theorem modulated_apply : (k0_pay1 w (k0_pay3 w x y g b) (k0_pay4 w) : S512x1024.Idx → EReal) j
    = modulated (fun k => x (ix2 (j 0) k)) (fun k => y (ix2 (j 0) k)) (fun k => w (ix2 (2 : Fin 6) k)) (fun k => g (ix2 (0 : Fin 1) k)) (fun k => b (ix2 (0 : Fin 1) k))
        (fun k => w (ix2 (4 : Fin 6) k)) (fun k => w (ix2 (3 : Fin 6) k)) (j 1) := by
  unfold modulated
  pointwise [k0_pay1, k0_pay4]
  rw [normed_apply]

end Kernel

section Ref
open Cert.LnFwdRefIdeal.Read

variable (x y : Cert.LnFwdRefIdeal.S8192x1024.Idx → EReal) (w : Cert.LnFwdRefIdeal.S6x1024.Idx → EReal) (g b : Cert.LnFwdRefIdeal.S1x1024.Idx → EReal)
  (i : Cert.LnFwdRefIdeal.S8192x1024.Idx)

theorem ref_pre : (val_main_v10 (F := Ideal) x y w : Cert.LnFwdRefIdeal.S8192x1024.Idx → EReal) i
    = pre (fun k => x (ix2 (i 0) k)) (fun k => y (ix2 (i 0) k)) (fun k => w (ix2 (2 : Fin 6) k)) (i 1) := by
  unfold pre alpha
  pointwise [val_main_v10, val_main_v9, val_main_v8, val_main_v7, val_main_v6, val_main_cst, val_main_v2]

theorem ref_normed : (val_main_v32 (F := Ideal) x y w g b : Cert.LnFwdRefIdeal.S8192x1024.Idx → EReal) i
    = normed (fun k => x (ix2 (i 0) k)) (fun k => y (ix2 (i 0) k)) (fun k => w (ix2 (2 : Fin 6) k)) (fun k => g (ix2 (0 : Fin 1) k)) (fun k => b (ix2 (0 : Fin 1) k)) (i 1) := by
  unfold normed xhat spread cen mean width eps
  pointwise [val_main_v32, val_main_v31, val_main_v30, val_main_v29, val_main_v28, val_main_v27, val_main_v26, val_main_v25, val_main_v24, val_main_cst_4, val_main_v23, val_main_v22,
    val_main_v21, val_main_v20, val_main_cst_3, val_main_v19, val_main_v18, val_main_cst_2, val_main_v17, val_main_v16, val_main_v15, val_main_v14, val_main_v13, val_main_cst_1,
    val_main_v12, val_main_v11, val_main_cst_0]
  simp only [ref_pre]
  rfl

theorem ref_modulated : (val_main_v39 (F := Ideal) x y w g b : Cert.LnFwdRefIdeal.S8192x1024.Idx → EReal) i
    = modulated (fun k => x (ix2 (i 0) k)) (fun k => y (ix2 (i 0) k)) (fun k => w (ix2 (2 : Fin 6) k)) (fun k => g (ix2 (0 : Fin 1) k)) (fun k => b (ix2 (0 : Fin 1) k))
        (fun k => w (ix2 (4 : Fin 6) k)) (fun k => w (ix2 (3 : Fin 6) k)) (i 1) := by
  unfold modulated
  pointwise [val_main_v39, val_main_v38, val_main_v37, val_main_v36, val_main_v35, val_main_v34, val_main_v33, val_main_cst_5, val_main_v4, val_main_v3]
  rw [ref_normed]

end Ref

/-! ## The arrays -/

variable (m : (ℓ : Loc nD τ sig) → Buf (Elt Ideal) ℓ) (c : Dev nD)

/-- The arrays, and the blocks a point reads. -/
def aX : (⟨2, ![8192, 1024]⟩ : Shape).Idx → EReal := m ((c : Thread nD τ).loc main_arg0)
def aY : (⟨2, ![8192, 1024]⟩ : Shape).Idx → EReal := m ((c : Thread nD τ).loc main_arg1)
def aW : (⟨2, ![6, 1024]⟩ : Shape).Idx → EReal := m ((c : Thread nD τ).loc main_arg2)
def aG : (⟨2, ![1, 1024]⟩ : Shape).Idx → EReal := m ((c : Thread nD τ).loc main_arg3)
def aB : (⟨2, ![1, 1024]⟩ : Shape).Idx → EReal := m ((c : Thread nD τ).loc main_arg4)
def bX (t : Fin cfg0.N) : S512x1024.Idx → EReal := iblk m c 0 t
def bY (t : Fin cfg0.N) : S512x1024.Idx → EReal := iblk m c 1 t
def bW (t : Fin cfg0.N) : S6x1024.Idx → EReal := iblk m c 2 t
def bG (t : Fin cfg0.N) : S1x1024.Idx → EReal := iblk m c 3 t
def bB (t : Fin cfg0.N) : S1x1024.Idx → EReal := iblk m c 4 t

theorem index : ∀ t : Fin cfg0.N, (win0_0.index t = ![t.val, 0] ∧ win0_1.index t = ![t.val, 0]
    ∧ win0_2.index t = ![0, 0] ∧ win0_3.index t = ![0, 0] ∧ win0_4.index t = ![0, 0]) ∧ win0_5.index t = ![t.val, 0] ∧ win0_6.index t = ![t.val, 0]
    ∧ win0_7.index t = ![t.val, 0] :=
  (by decide +kernel : ∀ t : Fin grid0.N, _)

/-- Row `k` of a point's blocks, in the arrays. -/
def row (t : Fin cfg0.N) (k : Fin 512) : Fin 8192 := ⟨t.val * 512 + k.val, by have h : t.val < 16 := t.isLt; omega⟩

theorem blocks (t : Fin cfg0.N) (k : Fin 512) (l : Fin 1024) : bX m c t (ix2 k l) = aX m c (ix2 (row t k) l) ∧ bY m c t (ix2 k l) = aY m c (ix2 (row t k) l) := by
  obtain ⟨⟨e0, e1, -⟩, -⟩ := index t
  unfold bX bY aX aY row
  refine ⟨?_, ?_⟩
  · blk_ext [iblk, V, e0]
  · blk_ext [iblk, V, e1]

theorem vectors (t : Fin cfg0.N) : bW m c t = aW m c ∧ bG m c t = aG m c ∧ bB m c t = aB m c := by
  obtain ⟨⟨-, -, e2, e3, e4⟩, -⟩ := index t
  unfold bW bG bB aW aG aB
  refine ⟨?_, ?_, ?_⟩
  · funext i; blk_ext [iblk, V, e2]
  · funext i; blk_ext [iblk, V, e3]
  · funext i; blk_ext [iblk, V, e4]

theorem sum : (dats m 0 c).arrAt 5 cfg0.N = Cert.LnFwdRefIdeal.Read.val_main_v10 (F := Ideal) (aX m c) (aY m c) (aW m c) := by
  refine (dats m 0 c).arrAt_eq_of_covers 5 _ (by decide +kernel) fun t hf y => ?_
  obtain ⟨-, e, -⟩ := index t
  have h0 : (((cfg0.win 5).blk t).view.emb y 0 : Fin 8192) = row t (y 0) := by
    refine Fin.ext ?_; blk_simp; simp [e, row]
  have h1 : (((cfg0.win 5).blk t).view.emb y 1 : Fin 1024) = y 1 := by
    refine Fin.ext ?_; blk_simp; simp [e]
  rw [ref_pre, after0_5, h0, h1]
  frame_out
  refine (pre_apply (bX m c t) (bY m c t) (bW m c t) y).trans ?_
  simp only [fun l => (blocks m c t (y 0) l).1, fun l => (blocks m c t (y 0) l).2, vectors]

theorem norm : (dats m 0 c).arrAt 6 cfg0.N = Cert.LnFwdRefIdeal.Read.val_main_v32 (F := Ideal) (aX m c) (aY m c) (aW m c) (aG m c) (aB m c) := by
  refine (dats m 0 c).arrAt_eq_of_covers 6 _ (by decide +kernel) fun t hf y => ?_
  obtain ⟨-, -, e, -⟩ := index t
  have h0 : (((cfg0.win 6).blk t).view.emb y 0 : Fin 8192) = row t (y 0) := by
    refine Fin.ext ?_; blk_simp; simp [e, row]
  have h1 : (((cfg0.win 6).blk t).view.emb y 1 : Fin 1024) = y 1 := by
    refine Fin.ext ?_; blk_simp; simp [e]
  rw [ref_normed, after0_6, h0, h1]
  frame_out
  refine (normed_apply (bX m c t) (bY m c t) (bW m c t) (bG m c t) (bB m c t) y).trans ?_
  simp only [fun l => (blocks m c t (y 0) l).1, fun l => (blocks m c t (y 0) l).2, vectors]

theorem modulation : (dats m 0 c).arrAt 7 cfg0.N = Cert.LnFwdRefIdeal.Read.val_main_v39 (F := Ideal) (aX m c) (aY m c) (aW m c) (aG m c) (aB m c) := by
  refine (dats m 0 c).arrAt_eq_of_covers 7 _ (by decide +kernel) fun t hf y => ?_
  obtain ⟨-, -, -, e⟩ := index t
  have h0 : (((cfg0.win 7).blk t).view.emb y 0 : Fin 8192) = row t (y 0) := by
    refine Fin.ext ?_; blk_simp; simp [e, row]
  have h1 : (((cfg0.win 7).blk t).view.emb y 1 : Fin 1024) = y 1 := by
    refine Fin.ext ?_; blk_simp; simp [e]
  rw [ref_modulated, after0_7, h0, h1]
  frame_out
  refine (modulated_apply (bX m c t) (bY m c t) (bW m c t) (bG m c t) (bB m c t) y).trans ?_
  simp only [fun l => (blocks m c t (y 0) l).1, fun l => (blocks m c t (y 0) l).2, vectors]

/-! ## The claims -/

theorem ref_frame : Cert.quiescent_LnFwdRefIdeal (hLnFwdRefIdeal := Cert.LnFwdRefIdeal.Gen.facts) := fun m g _ =>
  (θ_run _ _ _).mono (fun r h => ⟨fun c => (h c).2.2.2, sem_eq_zero_of_no_sems rfl r.2⟩) (Cert.LnFwdRefIdeal.Value.run (F := Ideal) m g)

theorem algebraic : Cert.algebraic_LnFwdIdeal_LnFwdRefIdeal (hLnFwdIdeal := facts) (hLnFwdRefIdeal := Cert.LnFwdRefIdeal.Gen.facts) := by
  intro m g m' g' _ ha
  refine ⟨fun c => (dats m 0 c).arrAt 5 cfg0.N, fun c => (dats m 0 c).arrAt 6 cfg0.N, fun c => (dats m 0 c).arrAt 7 cfg0.N,
    run_blocks m g, (θ_run _ _ _).mono (fun r h c => ?_) (Cert.LnFwdRefIdeal.Value.run (F := Ideal) m' g')⟩
  obtain ⟨h0, h1, h2, h3⟩ := h c
  obtain ⟨a0, a1, a2, a3, a4⟩ := ha c
  refine ⟨h0.trans ((Cert.LnFwdRefIdeal.Read.val_main_v10_eq _ _ _).trans ?_), h1.trans ((Cert.LnFwdRefIdeal.Read.val_main_v32_eq _ _ _ _ _).trans ?_),
    h2.trans ((Cert.LnFwdRefIdeal.Read.val_main_v39_eq _ _).trans ?_), h3⟩
  · rw [a0, a1, a2]; exact (sum m c).symm
  · rw [a0, a1, a2, a3, a4]; exact (norm m c).symm
  · rw [a0, a1, a2, a3, a4]; exact (modulation m c).symm

end Cert.Rows.LnFwd

end
-- ==== Proof.Mm.Mix.lean ====
/- The output projection of the merged branches, one block of rows at a time. -/
module

public import proofs.«01_k».proof.Defs
public import proofs.«01_k».proof.Proof.Gen.MixIdeal.Value
public import proofs.«01_k».proof.Proof.Gen.MixRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Mm.Mix

open Cert.MixIdeal Cert.MixIdeal.Gen Cert.MixIdeal.Value Idealize.ShloMosaic Idealize.ShloMosaic.TcCoe Idealize.SL.Sem

theorem block_apply (x w : Vec Ideal S1024x1024 .bf16) (j : S1024x1024.Idx) :
    (k0_pay2 k0_pay1 x w : S1024x1024.Idx → EReal) j = ∑ k : Fin 1024, (x (ix2 (j 0) k) : EReal) * (w (ix2 k (j 1)) : EReal) := by
  pointwise [k0_pay1, k0_pay2]

section Ref
open Cert.MixRefIdeal Cert.MixRefIdeal.Read

theorem ref_apply (X : Cert.MixRefIdeal.S8192x1024.Idx → EReal) (W : Cert.MixRefIdeal.S1024x1024.Idx → EReal) (i : Cert.MixRefIdeal.S8192x1024.Idx) :
    (val_main_v2 (F := Ideal) X W : Cert.MixRefIdeal.S8192x1024.Idx → EReal) i = ∑ k : Fin 1024, X (ix2 (i 0) k) * W (ix2 k (i 1)) := by
  pointwise [val_main_v2, val_main_v1, val_main_v0]

end Ref

variable (m : (ℓ : Loc nD τ sig) → Buf (Elt Ideal) ℓ) (c : Dev nD)

theorem index : ∀ t : Fin cfg0.N, win0_0.index t = ![t.val, 0] ∧ win0_1.index t = ![0, 0] ∧ win0_2.index t = ![t.val, 0] :=
  (by decide +kernel : ∀ t : Fin grid0.N, _)

theorem result : (dats m 0 c).arrAt 2 cfg0.N
    = Cert.MixRefIdeal.Read.val_main_v2 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index t
  rw [ref_apply]
  blk_simp
  rw [after0_2]
  unfold outsAt0
  frame_out
  rw [block_apply]
  refine Fin.sum_fin_congr fun k => congrArg₂ (· * ·) (by blk_ext [iblk, V, e0, e2]) (by blk_ext [iblk, V, e1, e2])

theorem ref_frame : Cert.quiescent_MixRefIdeal (hMixRefIdeal := Cert.MixRefIdeal.Gen.facts) := fun m g _ =>
  (θ_run _ _ _).mono (fun r h => ⟨fun c => (h c).2, sem_eq_zero_of_no_sems rfl r.2⟩) (Cert.MixRefIdeal.Value.run (F := Ideal) m g)

theorem algebraic : Cert.algebraic_MixIdeal_MixRefIdeal (hMixIdeal := facts) (hMixRefIdeal := Cert.MixRefIdeal.Gen.facts) := by
  intro m g m' g' _ ha
  refine ⟨fun c => (dats m 0 c).arrAt 2 cfg0.N, run_blocks m g, (θ_run _ _ _).mono (fun r h c => ⟨?_, (h c).2⟩) (Cert.MixRefIdeal.Value.run (F := Ideal) m' g')⟩
  rw [(h c).1, (ha c).1, (ha c).2]
  exact (result m c).symm

end Cert.Mm.Mix

end
-- ==== Proof.Mm.ProjG.lean ====
/- The projection of the normed activations to the two merge gates, one block of outputs at a time. -/
module

public import proofs.«01_k».proof.Defs
public import proofs.«01_k».proof.Proof.Gen.ProjGIdeal.Value
public import proofs.«01_k».proof.Proof.Gen.ProjGRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Mm.ProjG

open Cert.ProjGIdeal Cert.ProjGIdeal.Gen Cert.ProjGIdeal.Value Idealize.ShloMosaic Idealize.ShloMosaic.TcCoe Idealize.SL.Sem

theorem block_apply (x w : Vec Ideal S1024x1024 .bf16) (j : S1024x1024.Idx) :
    (k0_pay3 (k0_pay2 k0_pay1 x w) : S1024x1024.Idx → EReal) j = ∑ k : Fin 1024, (x (ix2 (j 0) k) : EReal) * (w (ix2 k (j 1)) : EReal) := by
  pointwise [k0_pay1, k0_pay2, k0_pay3]

section Ref
open Cert.ProjGRefIdeal.Read

theorem ref_apply (X : Cert.ProjGRefIdeal.S8192x1024.Idx → EReal) (W : Cert.ProjGRefIdeal.S1024x2048.Idx → EReal) (i : Cert.ProjGRefIdeal.S8192x2048.Idx) :
    (val_main_v3 (F := Ideal) X W : Cert.ProjGRefIdeal.S8192x2048.Idx → EReal) i = ∑ k : Fin 1024, X (ix2 (i 0) k) * W (ix2 k (i 1)) := by
  pointwise [val_main_v3, val_main_v2, val_main_v1, val_main_v0]

end Ref

variable (m : (ℓ : Loc nD τ sig) → Buf (Elt Ideal) ℓ) (c : Dev nD)

theorem index : ∀ t : Fin cfg0.N, win0_0.index t = ![t.val / 2, 0] ∧ win0_1.index t = ![0, t.val % 2] ∧ win0_2.index t = ![t.val / 2, t.val % 2] :=
  (by decide +kernel : ∀ t : Fin grid0.N, _)

theorem result : (dats m 0 c).arrAt 2 cfg0.N
    = Cert.ProjGRefIdeal.Read.val_main_v3 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index t
  rw [ref_apply]
  blk_simp
  rw [after0_2]
  unfold outsAt0
  frame_out
  rw [block_apply]
  refine Fin.sum_fin_congr fun k => congrArg₂ (· * ·) (by blk_ext [iblk, V, e0, e2]) (by blk_ext [iblk, V, e1, e2])

theorem ref_frame : Cert.quiescent_ProjGRefIdeal (hProjGRefIdeal := Cert.ProjGRefIdeal.Gen.facts) := fun m g _ =>
  (θ_run _ _ _).mono (fun r h => ⟨fun c => (h c).2, sem_eq_zero_of_no_sems rfl r.2⟩) (Cert.ProjGRefIdeal.Value.run (F := Ideal) m g)

theorem algebraic : Cert.algebraic_ProjGIdeal_ProjGRefIdeal (hProjGIdeal := facts) (hProjGRefIdeal := Cert.ProjGRefIdeal.Gen.facts) := by
  intro m g m' g' _ ha
  refine ⟨fun c => (dats m 0 c).arrAt 2 cfg0.N, run_blocks m g, (θ_run _ _ _).mono (fun r h c => ⟨?_, (h c).2⟩) (Cert.ProjGRefIdeal.Value.run (F := Ideal) m' g')⟩
  rw [(h c).1, (ha c).1, (ha c).2]
  exact (result m c).symm

end Cert.Mm.ProjG

end
-- ==== Proof.Mm.ProjBa.lean ====
/- The projection of the normed activations to the delta rule's two rates, one block of rows at a time. -/
module

public import proofs.«01_k».proof.Defs
public import proofs.«01_k».proof.Proof.Gen.ProjBaIdeal.Value
public import proofs.«01_k».proof.Proof.Gen.ProjBaRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Mm.ProjBa

open Cert.ProjBaIdeal Cert.ProjBaIdeal.Gen Cert.ProjBaIdeal.Value Idealize.ShloMosaic Idealize.ShloMosaic.TcCoe Idealize.SL.Sem

theorem block_apply (x : Vec Ideal S1024x1024 .bf16) (w : Vec Ideal S1024x128 .bf16) (j : S1024x128.Idx) :
    (k0_pay2 k0_pay1 x w : S1024x128.Idx → EReal) j = ∑ k : Fin 1024, (x (ix2 (j 0) k) : EReal) * (w (ix2 k (j 1)) : EReal) := by
  pointwise [k0_pay1, k0_pay2]

section Ref
open Cert.ProjBaRefIdeal.Read

theorem ref_apply (X : Cert.ProjBaRefIdeal.S8192x1024.Idx → EReal) (W : Cert.ProjBaRefIdeal.S1024x128.Idx → EReal) (i : Cert.ProjBaRefIdeal.S8192x128.Idx) :
    (val_main_v2 (F := Ideal) X W : Cert.ProjBaRefIdeal.S8192x128.Idx → EReal) i = ∑ k : Fin 1024, X (ix2 (i 0) k) * W (ix2 k (i 1)) := by
  pointwise [val_main_v2, val_main_v1, val_main_v0]

end Ref

variable (m : (ℓ : Loc nD τ sig) → Buf (Elt Ideal) ℓ) (c : Dev nD)

theorem index : ∀ t : Fin cfg0.N, win0_0.index t = ![t.val, 0] ∧ win0_1.index t = ![0, 0] ∧ win0_2.index t = ![t.val, 0] :=
  (by decide +kernel : ∀ t : Fin grid0.N, _)

theorem result : (dats m 0 c).arrAt 2 cfg0.N
    = Cert.ProjBaRefIdeal.Read.val_main_v2 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index t
  rw [ref_apply]
  blk_simp
  rw [after0_2]
  unfold outsAt0
  frame_out
  rw [block_apply]
  refine Fin.sum_fin_congr fun k => congrArg₂ (· * ·) (by blk_ext [iblk, V, e0, e2]) (by blk_ext [iblk, V, e1, e2])

theorem ref_frame : Cert.quiescent_ProjBaRefIdeal (hProjBaRefIdeal := Cert.ProjBaRefIdeal.Gen.facts) := fun m g _ =>
  (θ_run _ _ _).mono (fun r h => ⟨fun c => (h c).2, sem_eq_zero_of_no_sems rfl r.2⟩) (Cert.ProjBaRefIdeal.Value.run (F := Ideal) m g)

theorem algebraic : Cert.algebraic_ProjBaIdeal_ProjBaRefIdeal (hProjBaIdeal := facts) (hProjBaRefIdeal := Cert.ProjBaRefIdeal.Gen.facts) := by
  intro m g m' g' _ ha
  refine ⟨fun c => (dats m 0 c).arrAt 2 cfg0.N, run_blocks m g, (θ_run _ _ _).mono (fun r h c => ⟨?_, (h c).2⟩) (Cert.ProjBaRefIdeal.Value.run (F := Ideal) m' g')⟩
  rw [(h c).1, (ha c).1, (ha c).2]
  exact (result m c).symm

end Cert.Mm.ProjBa

end
-- ==== Proof.Mm.GwG.lean ====
/- The gradient of the projection to the two merge gates in its weight: the activations' transpose times the cotangent, summed over the tokens
in four blocks of 2048. -/
module

public import proofs.«01_k».proof.Defs
public import proofs.«01_k».proof.Proof.Gen.GwGIdeal.Value
public import proofs.«01_k».proof.Proof.Gen.GwGRefIdeal.Read
public import proofs.«01_k».proof.Proof.Mm.Blocks
public import Idealize.ShloMosaic.Lib.Claim
public import Idealize.ShloMosaic.Lib.Quiescent
public import Idealize.ShloMosaic.Lib.Pointwise

@[expose] public section

noncomputable section

namespace Cert.Mm.GwG

open Cert.GwGIdeal Cert.GwGIdeal.Gen Cert.GwGIdeal.Value Idealize.ShloMosaic Idealize.ShloMosaic.TcCoe Idealize.SL.Sem

/-- One block's product, added to what is held. -/
theorem step_apply (acc : Vec Ideal S1024x1024 .f32) (x g : Vec Ideal S2048x1024 .bf16) (j : S1024x1024.Idx) :
    (k0_pay2 acc x g : S1024x1024.Idx → EReal) j = (acc j : EReal) + ∑ k : Fin 2048, (x (ix2 k (j 0)) : EReal) * (g (ix2 k (j 1)) : EReal) := by
  pointwise [k0_pay2]

theorem zero_apply (j : S1024x1024.Idx) : (k0_pay1 (F := Ideal) : S1024x1024.Idx → EReal) j = 0 := by
  pointwise [k0_pay1]

theorem written_apply (acc : Vec Ideal S1024x1024 .f32) (j : S1024x1024.Idx) : (k0_pay3 acc : S1024x1024.Idx → EReal) j = (acc j : EReal) := by
  pointwise [k0_pay3]

section Ref
open Cert.GwGRefIdeal.Read

theorem ref_apply (X : Cert.GwGRefIdeal.S8192x1024.Idx → EReal) (G : Cert.GwGRefIdeal.S8192x2048.Idx → EReal) (i : Cert.GwGRefIdeal.S1024x2048.Idx) :
    (val_main_v6 (F := Ideal) X G : Cert.GwGRefIdeal.S1024x2048.Idx → EReal) i = ∑ k : Fin 8192, X (ix2 k (i 0)) * G (ix2 k (i 1)) := by
  pointwise [val_main_v6, val_main_v5, val_main_v4, val_main_v3, val_main_v1]
  exact Finset.sum_congr rfl fun k _ => mul_comm _ _

end Ref

variable (m : (ℓ : Loc nD τ sig) → Buf (Elt Ideal) ℓ) (c : Dev nD)

/-- The blocks a point reads. -/
def bX (t : Fin cfg0.N) : S2048x1024.Idx → EReal := iblk m c 0 t
def bG (t : Fin cfg0.N) : S2048x1024.Idx → EReal := iblk m c 1 t

theorem index : ∀ t : Fin cfg0.N, win0_0.index t = ![t.val % 4, 0] ∧ win0_1.index t = ![t.val % 4, t.val / 4] ∧ win0_2.index t = ![0, t.val / 4] :=
  (by decide +kernel : ∀ t : Fin grid0.N, _)

theorem last : ∀ t : Fin cfg0.N, (cfg0.win 2).flush t = true → t.val % 4 = 4 - 1 := (by decide +kernel : ∀ t : Fin grid0.N, _)

/-- The held block after a point: its product, added to what the point before held. -/
theorem held (t : Fin cfg0.N) (j : S1024x1024.Idx) (h : ¬t.val % 4 = 0) :
    ((outsAt0 m c t.val t.isLt).2 : S1024x1024.Idx → EReal) j
      = ((outsAt0 m c (t.val - 1) (Nat.lt_of_le_of_lt (Nat.sub_le _ _) t.isLt)).2 j : EReal)
        + ∑ k : Fin 2048, bX m c t (ix2 k (j 0)) * bG m c t (ix2 k (j 1)) := by
  have e := congrFun ((Memref.isWhole_whole cc0_scratch0).read_unread (outsAt0 m c (t.val - 1) (Nat.lt_of_le_of_lt (Nat.sub_le _ _) t.isLt)).2) j
  by_cases h1 : t.val % 4 = 3
  · rw [outsAt0_C m c t h h1]
    frame_out
    exact (step_apply _ _ _ _).trans (congrArg (· + _) e)
  · rw [outsAt0_B m c t h h1]
    frame_out
    exact (step_apply _ _ _ _).trans (congrArg (· + _) e)

theorem result : (dats m 0 c).arrAt 2 cfg0.N
    = Cert.GwGRefIdeal.Read.val_main_v6 (F := Ideal) (m ((c : Thread nD τ).loc main_arg0)) (m ((c : Thread nD τ).loc main_arg1)) := by
  refine (dats m 0 c).arrAt_eq_of_covers 2 _ (by decide +kernel) fun t hf y => ?_
  have h := last t hf
  obtain ⟨-, -, e2⟩ := index t
  have hw : (outsAt0 m c t.val t.isLt).1 = k0_pay3 (outsAt0 m c t.val t.isLt).2 := by
    rw [outsAt0_C m c t (by omega) h]
    frame_out
  rw [ref_apply]
  blk_simp
  rw [after0_2, hw, written_apply]
  refine fold_four (fun n h => (outsAt0 m c n h).2) (fun t j k => bX m c t (ix2 k (j 0))) (fun t j k => bG m c t (ix2 k (j 1)))
    (fun t h j => ?_) (fun t h j => held m c t j h) t h y fun p q k hl hp => ?_
  · rw [outsAt0_A m c t h (by omega)]
    frame_out
    rw [step_apply, zero_apply]
    rfl
  · obtain ⟨e0, e1, -⟩ := index p
    unfold bX bG
    exact ⟨by blk_ext [iblk, V, e0, e2], by blk_ext [iblk, V, e1, e2]⟩

theorem ref_frame : Cert.quiescent_GwGRefIdeal (hGwGRefIdeal := Cert.GwGRefIdeal.Gen.facts) := fun m g _ =>
  (θ_run _ _ _).mono (fun r h => ⟨fun c => (h c).2, sem_eq_zero_of_no_sems rfl r.2⟩) (Cert.GwGRefIdeal.Value.run (F := Ideal) m g)

theorem algebraic : Cert.algebraic_GwGIdeal_GwGRefIdeal (hGwGIdeal := facts) (hGwGRefIdeal := Cert.GwGRefIdeal.Gen.facts) := by
  intro m g m' g' _ ha
  refine ⟨fun c => (dats m 0 c).arrAt 2 cfg0.N, run_blocks m g, (θ_run _ _ _).mono (fun r h c => ⟨?_, (h c).2⟩) (Cert.GwGRefIdeal.Value.run (F := Ideal) m' g')⟩
  rw [(h c).1, (ha c).1, (ha c).2]
  exact (result m c).symm

end Cert.Mm.GwG

end
-- ==== Proof.Mm.GwBa.lean ====
/- The gradient of the projection to the delta rule's rates in its weight: the activations' transpose times the cotangent, summed over the
tokens in four blocks of 2048. -/
module

public import proofs.«01_k».proof.Defs
public import proofs.«01_k».proof.Proof.Gen.GwBaIdeal.Value
public import proofs.«01_k».proof.Proof.Gen.GwBaRefIdeal.Read
public import proofs.«01_k».proof.Proof.Mm.Blocks
public import Idealize.ShloMosaic.Lib.Claim
public import Idealize.ShloMosaic.Lib.Quiescent
public import Idealize.ShloMosaic.Lib.Pointwise

@[expose] public section

noncomputable section

namespace Cert.Mm.GwBa

open Cert.GwBaIdeal Cert.GwBaIdeal.Gen Cert.GwBaIdeal.Value Idealize.ShloMosaic Idealize.ShloMosaic.TcCoe Idealize.SL.Sem

/-- One block's product, added to what is held. -/
theorem step_apply (acc : Vec Ideal S1024x128 .f32) (x : Vec Ideal S2048x1024 .bf16) (g : Vec Ideal S2048x128 .bf16) (j : S1024x128.Idx) :
    (k0_pay2 acc x g : S1024x128.Idx → EReal) j = (acc j : EReal) + ∑ k : Fin 2048, (x (ix2 k (j 0)) : EReal) * (g (ix2 k (j 1)) : EReal) := by
  pointwise [k0_pay2]

theorem zero_apply (j : S1024x128.Idx) : (k0_pay1 (F := Ideal) : S1024x128.Idx → EReal) j = 0 := by
  pointwise [k0_pay1]

theorem written_apply (acc : Vec Ideal S1024x128 .f32) (j : S1024x128.Idx) : (k0_pay3 acc : S1024x128.Idx → EReal) j = (acc j : EReal) := by
  pointwise [k0_pay3]

section Ref
open Cert.GwBaRefIdeal.Read

theorem ref_apply (X : Cert.GwBaRefIdeal.S8192x1024.Idx → EReal) (G : Cert.GwBaRefIdeal.S8192x128.Idx → EReal) (i : Cert.GwBaRefIdeal.S1024x128.Idx) :
    (val_main_v6 (F := Ideal) X G : Cert.GwBaRefIdeal.S1024x128.Idx → EReal) i = ∑ k : Fin 8192, X (ix2 k (i 0)) * G (ix2 k (i 1)) := by
  pointwise [val_main_v6, val_main_v5, val_main_v4, val_main_v3, val_main_v1]
  exact Finset.sum_congr rfl fun k _ => mul_comm _ _

end Ref

variable (m : (ℓ : Loc nD τ sig) → Buf (Elt Ideal) ℓ) (c : Dev nD)

/-- The blocks a point reads. -/
def bX (t : Fin cfg0.N) : S2048x1024.Idx → EReal := iblk m c 0 t
def bG (t : Fin cfg0.N) : S2048x128.Idx → EReal := iblk m c 1 t

theorem index : ∀ t : Fin cfg0.N, win0_0.index t = ![t.val, 0] ∧ win0_1.index t = ![t.val, 0] ∧ win0_2.index t = ![0, 0] :=
  (by decide +kernel : ∀ t : Fin grid0.N, _)

theorem last : ∀ t : Fin cfg0.N, (cfg0.win 2).flush t = true → t.val % 4 = 4 - 1 := (by decide +kernel : ∀ t : Fin grid0.N, _)

/-- The held block after a point: its product, added to what the point before held. -/
theorem held (t : Fin cfg0.N) (j : S1024x128.Idx) (h : ¬t.val % 4 = 0) :
    ((outsAt0 m c t.val t.isLt).2 : S1024x128.Idx → EReal) j
      = ((outsAt0 m c (t.val - 1) (Nat.lt_of_le_of_lt (Nat.sub_le _ _) t.isLt)).2 j : EReal)
        + ∑ k : Fin 2048, bX m c t (ix2 k (j 0)) * bG m c t (ix2 k (j 1)) := by
  have e := congrFun ((Memref.isWhole_whole cc0_scratch0).read_unread (outsAt0 m c (t.val - 1) (Nat.lt_of_le_of_lt (Nat.sub_le _ _) t.isLt)).2) j
  by_cases h1 : t.val % 4 = 3
  · rw [outsAt0_C m c t h h1]
    frame_out
    exact (step_apply _ _ _ _).trans (congrArg (· + _) e)
  · rw [outsAt0_B m c t h h1]
    frame_out
    exact (step_apply _ _ _ _).trans (congrArg (· + _) e)

theorem result : (dats m 0 c).arrAt 2 cfg0.N
    = Cert.GwBaRefIdeal.Read.val_main_v6 (F := Ideal) (m ((c : Thread nD τ).loc main_arg0)) (m ((c : Thread nD τ).loc main_arg1)) := by
  refine (dats m 0 c).arrAt_eq_of_covers 2 _ (by decide +kernel) fun t hf y => ?_
  have h := last t hf
  obtain ⟨-, -, e2⟩ := index t
  have hw : (outsAt0 m c t.val t.isLt).1 = k0_pay3 (outsAt0 m c t.val t.isLt).2 := by
    rw [outsAt0_C m c t (by omega) h]
    frame_out
  rw [ref_apply]
  blk_simp
  rw [after0_2, hw, written_apply]
  refine fold_four (fun n h => (outsAt0 m c n h).2) (fun t j k => bX m c t (ix2 k (j 0))) (fun t j k => bG m c t (ix2 k (j 1)))
    (fun t h j => ?_) (fun t h j => held m c t j h) t h y fun p q k hl hp => ?_
  · rw [outsAt0_A m c t h (by omega)]
    frame_out
    rw [step_apply, zero_apply]
    rfl
  · obtain ⟨e0, e1, -⟩ := index p
    have hq : p.val = q.val := by have : t.val < 4 := t.isLt; omega
    unfold bX bG
    exact ⟨by blk_ext [iblk, V, e0, e2, hq], by blk_ext [iblk, V, e1, e2, hq]⟩

theorem ref_frame : Cert.quiescent_GwBaRefIdeal (hGwBaRefIdeal := Cert.GwBaRefIdeal.Gen.facts) := fun m g _ =>
  (θ_run _ _ _).mono (fun r h => ⟨fun c => (h c).2, sem_eq_zero_of_no_sems rfl r.2⟩) (Cert.GwBaRefIdeal.Value.run (F := Ideal) m g)

theorem algebraic : Cert.algebraic_GwBaIdeal_GwBaRefIdeal (hGwBaIdeal := facts) (hGwBaRefIdeal := Cert.GwBaRefIdeal.Gen.facts) := by
  intro m g m' g' _ ha
  refine ⟨fun c => (dats m 0 c).arrAt 2 cfg0.N, run_blocks m g, (θ_run _ _ _).mono (fun r h c => ⟨?_, (h c).2⟩) (Cert.GwBaRefIdeal.Value.run (F := Ideal) m' g')⟩
  rw [(h c).1, (ha c).1, (ha c).2]
  exact (result m c).symm

end Cert.Mm.GwBa

end
-- ==== Proof.Mm.DH1Ba.lean ====
/- The gradient of the projection to the delta rule's rates in its input: the cotangent times the weight's transpose, one block of rows at a time. -/
module

public import proofs.«01_k».proof.Defs
public import proofs.«01_k».proof.Proof.Gen.DH1BaIdeal.Value
public import proofs.«01_k».proof.Proof.Gen.DH1BaRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Mm.DH1Ba

open Cert.DH1BaIdeal Cert.DH1BaIdeal.Gen Cert.DH1BaIdeal.Value Idealize.ShloMosaic Idealize.ShloMosaic.TcCoe Idealize.SL.Sem

theorem block_apply (x w : Vec Ideal S1024x128 .bf16) (j : S1024x1024.Idx) :
    (k0_pay2 k0_pay1 x w : S1024x1024.Idx → EReal) j = ∑ k : Fin 128, (x (ix2 (j 0) k) : EReal) * (w (ix2 (j 1) k) : EReal) := by
  pointwise [k0_pay1, k0_pay2]

section Ref
open Cert.DH1BaRefIdeal.Read

theorem ref_apply (X : Cert.DH1BaRefIdeal.S8192x128.Idx → EReal) (W : Cert.DH1BaRefIdeal.S1024x128.Idx → EReal) (i : Cert.DH1BaRefIdeal.S8192x1024.Idx) :
    (val_main_v4 (F := Ideal) X W : Cert.DH1BaRefIdeal.S8192x1024.Idx → EReal) i = ∑ k : Fin 128, X (ix2 (i 0) k) * W (ix2 (i 1) k) := by
  pointwise [val_main_v4, val_main_v3, val_main_v1]

end Ref

variable (m : (ℓ : Loc nD τ sig) → Buf (Elt Ideal) ℓ) (c : Dev nD)

theorem index : ∀ t : Fin cfg0.N, win0_0.index t = ![t.val, 0] ∧ win0_1.index t = ![0, 0] ∧ win0_2.index t = ![t.val, 0] :=
  (by decide +kernel : ∀ t : Fin grid0.N, _)

theorem result : (dats m 0 c).arrAt 2 cfg0.N
    = Cert.DH1BaRefIdeal.Read.val_main_v4 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index t
  rw [ref_apply]
  blk_simp
  rw [after0_2]
  unfold outsAt0
  frame_out
  rw [block_apply]
  refine Fin.sum_fin_congr fun k => congrArg₂ (· * ·) (by blk_ext [iblk, V, e0, e2]) (by blk_ext [iblk, V, e1, e2])

theorem ref_frame : Cert.quiescent_DH1BaRefIdeal (hDH1BaRefIdeal := Cert.DH1BaRefIdeal.Gen.facts) := fun m g _ =>
  (θ_run _ _ _).mono (fun r h => ⟨fun c => (h c).2, sem_eq_zero_of_no_sems rfl r.2⟩) (Cert.DH1BaRefIdeal.Value.run (F := Ideal) m g)

theorem algebraic : Cert.algebraic_DH1BaIdeal_DH1BaRefIdeal (hDH1BaIdeal := facts) (hDH1BaRefIdeal := Cert.DH1BaRefIdeal.Gen.facts) := by
  intro m g m' g' _ ha
  refine ⟨fun c => (dats m 0 c).arrAt 2 cfg0.N, run_blocks m g, (θ_run _ _ _).mono (fun r h c => ⟨?_, (h c).2⟩) (Cert.DH1BaRefIdeal.Value.run (F := Ideal) m' g')⟩
  rw [(h c).1, (ha c).1, (ha c).2]
  exact (result m c).symm

end Cert.Mm.DH1Ba

end
-- ==== Proof.Mm.DH1Z.lean ====
/- The gradient of the projection to the gate in its input, added to the gradient that the other projections left: the cotangent times the
weight's transpose, one block of rows at a time. -/
module

public import proofs.«01_k».proof.Defs
public import proofs.«01_k».proof.Proof.Gen.DH1ZIdeal.Value
public import proofs.«01_k».proof.Proof.Gen.DH1ZRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Mm.DH1Z

open Cert.DH1ZIdeal Cert.DH1ZIdeal.Gen Cert.DH1ZIdeal.Value Idealize.ShloMosaic Idealize.ShloMosaic.TcCoe Idealize.SL.Sem

theorem block_apply (a : Vec Ideal S1024x1024 .f32) (x w : Vec Ideal S1024x1024 .bf16) (j : S1024x1024.Idx) :
    (k0_pay2 (k0_pay1 a) x w : S1024x1024.Idx → EReal) j = (a j : EReal) + ∑ k : Fin 1024, (x (ix2 (j 0) k) : EReal) * (w (ix2 (j 1) k) : EReal) := by
  pointwise [k0_pay1, k0_pay2]

section Ref
open Cert.DH1ZRefIdeal.Read

theorem ref_apply (X A : Cert.DH1ZRefIdeal.S8192x1024.Idx → EReal) (W : Cert.DH1ZRefIdeal.S1024x1024.Idx → EReal) (i : Cert.DH1ZRefIdeal.S8192x1024.Idx) :
    (val_main_v5 (F := Ideal) X W A : Cert.DH1ZRefIdeal.S8192x1024.Idx → EReal) i = A i + ∑ k : Fin 1024, X (ix2 (i 0) k) * W (ix2 (i 1) k) := by
  pointwise [val_main_v5, val_main_v4, val_main_v3, val_main_v1]

end Ref

variable (m : (ℓ : Loc nD τ sig) → Buf (Elt Ideal) ℓ) (c : Dev nD)

theorem index : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem result : (dats m 0 c).arrAt 3 cfg0.N
    = Cert.DH1ZRefIdeal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1, e2, e3⟩ := index t
  rw [ref_apply]
  blk_simp
  rw [after0_3]
  unfold outsAt0
  frame_out
  rw [block_apply]
  refine congrArg₂ (· + ·) (by blk_ext [iblk, V, e2, e3]) (Fin.sum_fin_congr fun k => congrArg₂ (· * ·) (by blk_ext [iblk, V, e0, e3]) (by blk_ext [iblk, V, e1, e3]))

theorem ref_frame : Cert.quiescent_DH1ZRefIdeal (hDH1ZRefIdeal := Cert.DH1ZRefIdeal.Gen.facts) := fun m g _ =>
  (θ_run _ _ _).mono (fun r h => ⟨fun c => (h c).2, sem_eq_zero_of_no_sems rfl r.2⟩) (Cert.DH1ZRefIdeal.Value.run (F := Ideal) m g)

theorem algebraic : Cert.algebraic_DH1ZIdeal_DH1ZRefIdeal (hDH1ZIdeal := facts) (hDH1ZRefIdeal := Cert.DH1ZRefIdeal.Gen.facts) := by
  intro m g m' g' _ ha
  refine ⟨fun c => (dats m 0 c).arrAt 3 cfg0.N, run_blocks m g, (θ_run _ _ _).mono (fun r h c => ⟨?_, (h c).2⟩) (Cert.DH1ZRefIdeal.Value.run (F := Ideal) m' g')⟩
  rw [(h c).1, (ha c).1, (ha c).2.1, (ha c).2.2]
  exact (result m c).symm

end Cert.Mm.DH1Z

end
-- ==== Proof.Mm.DH1G.lean ====
/- The gradient of the projection to the two merge gates in its input, added to the gradient that the other projections left: the cotangent
times the weight's transpose, one block of rows at a time. -/
module

public import proofs.«01_k».proof.Defs
public import proofs.«01_k».proof.Proof.Gen.DH1GIdeal.Value
public import proofs.«01_k».proof.Proof.Gen.DH1GRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Mm.DH1G

open Cert.DH1GIdeal Cert.DH1GIdeal.Gen Cert.DH1GIdeal.Value Idealize.ShloMosaic Idealize.ShloMosaic.TcCoe Idealize.SL.Sem

theorem block_apply (a : Vec Ideal S1024x1024 .f32) (x w : Vec Ideal S1024x2048 .bf16) (j : S1024x1024.Idx) :
    (k0_pay2 (k0_pay1 a) x w : S1024x1024.Idx → EReal) j = (a j : EReal) + ∑ k : Fin 2048, (x (ix2 (j 0) k) : EReal) * (w (ix2 (j 1) k) : EReal) := by
  pointwise [k0_pay1, k0_pay2]

section Ref
open Cert.DH1GRefIdeal.Read

theorem ref_apply (X : Cert.DH1GRefIdeal.S8192x2048.Idx → EReal) (W : Cert.DH1GRefIdeal.S1024x2048.Idx → EReal)
    (A : Cert.DH1GRefIdeal.S8192x1024.Idx → EReal) (i : Cert.DH1GRefIdeal.S8192x1024.Idx) :
    (val_main_v5 (F := Ideal) X W A : Cert.DH1GRefIdeal.S8192x1024.Idx → EReal) i = A i + ∑ k : Fin 2048, X (ix2 (i 0) k) * W (ix2 (i 1) k) := by
  pointwise [val_main_v5, val_main_v4, val_main_v3, val_main_v1]

end Ref

variable (m : (ℓ : Loc nD τ sig) → Buf (Elt Ideal) ℓ) (c : Dev nD)

theorem index : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem result : (dats m 0 c).arrAt 3 cfg0.N
    = Cert.DH1GRefIdeal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1, e2, e3⟩ := index t
  rw [ref_apply]
  blk_simp
  rw [after0_3]
  unfold outsAt0
  frame_out
  rw [block_apply]
  refine congrArg₂ (· + ·) (by blk_ext [iblk, V, e2, e3]) (Fin.sum_fin_congr fun k => congrArg₂ (· * ·) (by blk_ext [iblk, V, e0, e3]) (by blk_ext [iblk, V, e1, e3]))

theorem ref_frame : Cert.quiescent_DH1GRefIdeal (hDH1GRefIdeal := Cert.DH1GRefIdeal.Gen.facts) := fun m g _ =>
  (θ_run _ _ _).mono (fun r h => ⟨fun c => (h c).2, sem_eq_zero_of_no_sems rfl r.2⟩) (Cert.DH1GRefIdeal.Value.run (F := Ideal) m g)

theorem algebraic : Cert.algebraic_DH1GIdeal_DH1GRefIdeal (hDH1GIdeal := facts) (hDH1GRefIdeal := Cert.DH1GRefIdeal.Gen.facts) := by
  intro m g m' g' _ ha
  refine ⟨fun c => (dats m 0 c).arrAt 3 cfg0.N, run_blocks m g, (θ_run _ _ _).mono (fun r h c => ⟨?_, (h c).2⟩) (Cert.DH1GRefIdeal.Value.run (F := Ideal) m' g')⟩
  rw [(h c).1, (ha c).1, (ha c).2.1, (ha c).2.2]
  exact (result m c).symm

end Cert.Mm.DH1G

end
-- ==== Proof.Mm.AdaBwd.lean ====
/- The gradient of one device's columns of the adaLN weight: the activated conditions against the vectors' cotangent. -/
module

public import proofs.«01_k».proof.Defs
public import proofs.«01_k».proof.Proof.Gen.AdaBwdIdeal.Value
public import proofs.«01_k».proof.Proof.Gen.AdaBwdRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Mm.AdaBwd

open Cert.AdaBwdIdeal Cert.AdaBwdIdeal.Gen Cert.AdaBwdIdeal.Value Idealize.ShloMosaic Idealize.ShloMosaic.TcCoe Idealize.SL.Sem

/-- The SiLU. -/
def silu (x : EReal) : EReal := x * Ideal.div 1 (1 + Ideal.exp (-x))

theorem block_apply (x : Vec Ideal S8x1024 .f32) (d : Vec Ideal S8x512 .f32) (j : S1024x512.Idx) :
    (k0_pay1 x d : S1024x512.Idx → EReal) j = ∑ k : Fin 8, silu (x (ix2 k (j 0)) : EReal) * (d (ix2 k (j 1)) : EReal) := by
  unfold silu
  pointwise [k0_pay1]
  simp only [zero_sub]

section Ref
open Cert.AdaBwdRefIdeal.Read

theorem ref_apply (X : Cert.AdaBwdRefIdeal.S8x1024.Idx → EReal) (D : Cert.AdaBwdRefIdeal.S8x1536.Idx → EReal) (i : Cert.AdaBwdRefIdeal.S1024x1536.Idx) :
    (val_main_v7 (F := Ideal) X D : Cert.AdaBwdRefIdeal.S1024x1536.Idx → EReal) i = ∑ k : Fin 8, silu (X (ix2 k (i 0))) * D (ix2 k (i 1)) := by
  unfold silu
  pointwise [val_main_v7, val_main_v6, val_main_v2, val_main_call0_v5, val_main_call0_v4, val_main_call0_cst_0, val_main_call0_v3, val_main_call0_v2, val_main_call0_cst,
    val_main_call0_v1, val_main_call0_v0]
  exact Finset.sum_congr rfl fun k _ => mul_comm _ _

end Ref

variable (m : (ℓ : Loc nD τ sig) → Buf (Elt Ideal) ℓ) (c : Dev nD)

theorem index : ∀ t : Fin cfg0.N, win0_0.index t = ![0, 0] ∧ win0_1.index t = ![0, t.val] ∧ win0_2.index t = ![0, t.val] :=
  (by decide +kernel : ∀ t : Fin grid0.N, _)

theorem result : (dats m 0 c).arrAt 2 cfg0.N
    = Cert.AdaBwdRefIdeal.Read.val_main_v7 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index t
  rw [ref_apply, after0_2]
  frame_out
  rw [block_apply]
  refine Fin.sum_fin_congr fun k => congrArg₂ (· * ·) (congrArg silu ?_) ?_
  all_goals blk_ext [iblk, V, e0, e1, e2]

theorem ref_frame : Cert.quiescent_AdaBwdRefIdeal (hAdaBwdRefIdeal := Cert.AdaBwdRefIdeal.Gen.facts) := fun m g _ =>
  (θ_run _ _ _).mono (fun r h => ⟨fun c => (h c).2, sem_eq_zero_of_no_sems rfl r.2⟩) (Cert.AdaBwdRefIdeal.Value.run (F := Ideal) m g)

theorem algebraic : Cert.algebraic_AdaBwdIdeal_AdaBwdRefIdeal (hAdaBwdIdeal := facts) (hAdaBwdRefIdeal := Cert.AdaBwdRefIdeal.Gen.facts) := by
  intro m g m' g' _ ha
  refine ⟨fun c => (dats m 0 c).arrAt 2 cfg0.N, run_blocks m g, (θ_run _ _ _).mono (fun r h c => ⟨?_, (h c).2⟩) (Cert.AdaBwdRefIdeal.Value.run (F := Ideal) m' g')⟩
  rw [(h c).1, (ha c).1, (ha c).2]
  exact (result m c).symm

end Cert.Mm.AdaBwd

end
-- ==== Proof.Mm.AdaFwd.lean ====
/- One device's columns of the adaLN vectors: the activated conditions times the weight, plus the bias. -/
module

public import proofs.«01_k».proof.Defs
public import proofs.«01_k».proof.Proof.Gen.AdaFwdIdeal.Value
public import proofs.«01_k».proof.Proof.Gen.AdaFwdRefIdeal.Read
public import proofs.«01_k».proof.Proof.Mm.AdaBwd
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Mm.AdaFwd

open Cert.AdaFwdIdeal Cert.AdaFwdIdeal.Gen Cert.AdaFwdIdeal.Value Idealize.ShloMosaic Idealize.ShloMosaic.TcCoe Idealize.SL.Sem

theorem block_apply (x : Vec Ideal S8x1024 .f32) (w : Vec Ideal S1024x512 .f32) (b : Vec Ideal S1x512 .f32) (j : S8x512.Idx) :
    (k0_pay1 x w b : S8x512.Idx → EReal) j
    = (∑ k : Fin 1024, AdaBwd.silu (x (ix2 (j 0) k) : EReal) * (w (ix2 k (j 1)) : EReal)) + (b (ix2 (0 : Fin 1) (j 1)) : EReal) := by
  unfold AdaBwd.silu
  pointwise [k0_pay1]
  simp only [zero_sub]

section Ref
open Cert.AdaFwdRefIdeal.Read

theorem ref_apply (X : Cert.AdaFwdRefIdeal.S8x1024.Idx → EReal) (W : Cert.AdaFwdRefIdeal.S1024x1536.Idx → EReal) (B : Cert.AdaFwdRefIdeal.S1x1536.Idx → EReal)
    (i : Cert.AdaFwdRefIdeal.S8x1536.Idx) : (val_main_v3 (F := Ideal) X W B : Cert.AdaFwdRefIdeal.S8x1536.Idx → EReal) i
    = (∑ k : Fin 1024, AdaBwd.silu (X (ix2 (i 0) k)) * W (ix2 k (i 1))) + B (ix2 (0 : Fin 1) (i 1)) := by
  unfold AdaBwd.silu
  pointwise [val_main_v3, val_main_v2, val_main_v1, val_main_v0, val_main_call0_v5, val_main_call0_v4, val_main_call0_cst_0, val_main_call0_v3, val_main_call0_v2, val_main_call0_cst,
    val_main_call0_v1, val_main_call0_v0]

end Ref

variable (m : (ℓ : Loc nD τ sig) → Buf (Elt Ideal) ℓ) (c : Dev nD)

theorem index : ∀ t : Fin cfg0.N, win0_0.index t = ![0, 0] ∧ win0_1.index t = ![0, t.val] ∧ win0_2.index t = ![0, t.val] ∧ win0_3.index t = ![0, t.val] :=
  (by decide +kernel : ∀ t : Fin grid0.N, _)

theorem result : (dats m 0 c).arrAt 3 cfg0.N = Cert.AdaFwdRefIdeal.Read.val_main_v3 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1, e2, e3⟩ := index t
  rw [ref_apply, after0_3]
  frame_out
  rw [block_apply]
  refine congrArg₂ (· + ·) (Fin.sum_fin_congr fun k => congrArg₂ (· * ·) (congrArg AdaBwd.silu ?_) ?_) ?_
  all_goals blk_ext [iblk, V, e0, e1, e2, e3]

theorem ref_frame : Cert.quiescent_AdaFwdRefIdeal (hAdaFwdRefIdeal := Cert.AdaFwdRefIdeal.Gen.facts) := fun m g _ =>
  (θ_run _ _ _).mono (fun r h => ⟨fun c => (h c).2, sem_eq_zero_of_no_sems rfl r.2⟩) (Cert.AdaFwdRefIdeal.Value.run (F := Ideal) m g)

theorem algebraic : Cert.algebraic_AdaFwdIdeal_AdaFwdRefIdeal (hAdaFwdIdeal := facts) (hAdaFwdRefIdeal := Cert.AdaFwdRefIdeal.Gen.facts) := by
  intro m g m' g' _ ha
  refine ⟨fun c => (dats m 0 c).arrAt 3 cfg0.N, run_blocks m g, (θ_run _ _ _).mono (fun r h c => ⟨?_, (h c).2⟩) (Cert.AdaFwdRefIdeal.Value.run (F := Ideal) m' g')⟩
  rw [(h c).1, (ha c).1, (ha c).2.1, (ha c).2.2]
  exact (result m c).symm

end Cert.Mm.AdaFwd

end
-- ==== Proof.Rows.AdamAda.lean ====
/- One optimiser step of one device's columns of the adaLN weight: the update and the two moments. -/
module

public import proofs.«01_k».proof.Defs
public import proofs.«01_k».proof.Proof.Gen.AdamAdaIdeal.Value
public import proofs.«01_k».proof.Proof.Gen.AdamAdaRefIdeal.Read
public import Idealize.ShloMosaic.Lib.Claim
public import Idealize.ShloMosaic.Lib.Quiescent
public import Idealize.ShloMosaic.Lib.Pointwise

@[expose] public section

noncomputable section

namespace Cert.Rows.AdamAda

open Cert.AdamAdaIdeal Cert.AdamAdaIdeal.Gen Cert.AdamAdaIdeal.Value Idealize.ShloMosaic Idealize.ShloMosaic.TcCoe Idealize.SL.Sem
open Cert.AdamAdaRefIdeal.Read (val_main_v4 val_main_v10 val_main_v23)

variable (w g m v : (⟨⟨2, ![1024, 1536]⟩, .f32⟩ : BufTy).Contents (Elt Ideal))

/-- Entry by entry the kernel's arrays are the reference's. -/
theorem first : G5 (F := Ideal) g m = val_main_v4 (F := Ideal) g m := rfl
theorem second : G6 (F := Ideal) g v = val_main_v10 (F := Ideal) g v := rfl
theorem update : G4 (F := Ideal) g m v w = val_main_v23 (F := Ideal) w g m v := rfl

theorem ref_frame : Cert.quiescent_AdamAdaRefIdeal (hAdamAdaRefIdeal := Cert.AdamAdaRefIdeal.Gen.facts) := fun m g _ =>
  (θ_run _ _ _).mono (fun r h => ⟨fun c => (h c).2.2.2, sem_eq_zero_of_no_sems rfl r.2⟩) (Cert.AdamAdaRefIdeal.Value.run (F := Ideal) m g)

theorem algebraic : Cert.algebraic_AdamAdaIdeal_AdamAdaRefIdeal (hAdamAdaIdeal := facts) (hAdamAdaRefIdeal := Cert.AdamAdaRefIdeal.Gen.facts) := by
  intro m g m' g' _ ha
  refine ⟨_, _, _, run m g, (θ_run _ _ _).mono (fun r h c => ?_) (Cert.AdamAdaRefIdeal.Value.run (F := Ideal) m' g')⟩
  obtain ⟨h0, h1, h2, h3⟩ := h c
  obtain ⟨a0, a1, a2, a3⟩ := ha c
  rw [update, first, second]
  refine ⟨h0.trans ((Cert.AdamAdaRefIdeal.Read.val_main_v23_eq _ _ _ _).trans ?_), h1.trans ((Cert.AdamAdaRefIdeal.Read.val_main_v4_eq _ _).trans ?_),
    h2.trans ((Cert.AdamAdaRefIdeal.Read.val_main_v10_eq _ _).trans ?_), h3⟩
  · rw [a0, a1, a2, a3]
  · rw [a1, a2]
  · rw [a1, a3]

end Cert.Rows.AdamAda

end
-- ==== Proof.Rows.AdamIn.lean ====
/- One optimiser step of one device's columns of the input projection: the update and the two moments. -/
module

public import proofs.«01_k».proof.Defs
public import proofs.«01_k».proof.Proof.Gen.AdamInIdeal.Value
public import proofs.«01_k».proof.Proof.Gen.AdamInRefIdeal.Read
public import Idealize.ShloMosaic.Lib.Claim
public import Idealize.ShloMosaic.Lib.Quiescent
public import Idealize.ShloMosaic.Lib.Pointwise

@[expose] public section

noncomputable section

namespace Cert.Rows.AdamIn

open Cert.AdamInIdeal Cert.AdamInIdeal.Gen Cert.AdamInIdeal.Value Idealize.ShloMosaic Idealize.ShloMosaic.TcCoe Idealize.SL.Sem
open Cert.AdamInRefIdeal.Read (val_main_v4 val_main_v10 val_main_v23)

variable (w g m v : (⟨⟨2, ![1024, 2308]⟩, .f32⟩ : BufTy).Contents (Elt Ideal))

/-- Entry by entry the kernel's arrays are the reference's. -/
theorem first : G5 (F := Ideal) g m = val_main_v4 (F := Ideal) g m := rfl
theorem second : G6 (F := Ideal) g v = val_main_v10 (F := Ideal) g v := rfl
theorem update : G4 (F := Ideal) g m v w = val_main_v23 (F := Ideal) w g m v := rfl

theorem ref_frame : Cert.quiescent_AdamInRefIdeal (hAdamInRefIdeal := Cert.AdamInRefIdeal.Gen.facts) := fun m g _ =>
  (θ_run _ _ _).mono (fun r h => ⟨fun c => (h c).2.2.2, sem_eq_zero_of_no_sems rfl r.2⟩) (Cert.AdamInRefIdeal.Value.run (F := Ideal) m g)

theorem algebraic : Cert.algebraic_AdamInIdeal_AdamInRefIdeal (hAdamInIdeal := facts) (hAdamInRefIdeal := Cert.AdamInRefIdeal.Gen.facts) := by
  intro m g m' g' _ ha
  refine ⟨_, _, _, run m g, (θ_run _ _ _).mono (fun r h c => ?_) (Cert.AdamInRefIdeal.Value.run (F := Ideal) m' g')⟩
  obtain ⟨h0, h1, h2, h3⟩ := h c
  obtain ⟨a0, a1, a2, a3⟩ := ha c
  rw [update, first, second]
  refine ⟨h0.trans ((Cert.AdamInRefIdeal.Read.val_main_v23_eq _ _ _ _).trans ?_), h1.trans ((Cert.AdamInRefIdeal.Read.val_main_v4_eq _ _).trans ?_),
    h2.trans ((Cert.AdamInRefIdeal.Read.val_main_v10_eq _ _).trans ?_), h3⟩
  · rw [a0, a1, a2, a3]
  · rw [a1, a2]
  · rw [a1, a3]

end Cert.Rows.AdamIn

end
-- ==== Proof.Rows.AdamSquare.lean ====
/- One optimiser step of one device's rows of a square weight: the update and the two moments. -/
module

public import proofs.«01_k».proof.Defs
public import proofs.«01_k».proof.Proof.Gen.AdamSquareIdeal.Value
public import proofs.«01_k».proof.Proof.Gen.AdamSquareRefIdeal.Read
public import Idealize.ShloMosaic.Lib.Claim
public import Idealize.ShloMosaic.Lib.Quiescent
public import Idealize.ShloMosaic.Lib.Pointwise

@[expose] public section

noncomputable section

namespace Cert.Rows.AdamSquare

open Cert.AdamSquareIdeal Cert.AdamSquareIdeal.Gen Cert.AdamSquareIdeal.Value Idealize.ShloMosaic Idealize.ShloMosaic.TcCoe Idealize.SL.Sem
open Cert.AdamSquareRefIdeal.Read (val_main_v4 val_main_v10 val_main_v23)

variable (w g m v : (⟨⟨2, ![256, 1024]⟩, .f32⟩ : BufTy).Contents (Elt Ideal))

/-- Entry by entry the kernel's arrays are the reference's. -/
theorem first : G5 (F := Ideal) g m = val_main_v4 (F := Ideal) g m := rfl
theorem second : G6 (F := Ideal) g v = val_main_v10 (F := Ideal) g v := rfl
theorem update : G4 (F := Ideal) g m v w = val_main_v23 (F := Ideal) w g m v := rfl

theorem ref_frame : Cert.quiescent_AdamSquareRefIdeal (hAdamSquareRefIdeal := Cert.AdamSquareRefIdeal.Gen.facts) := fun m g _ =>
  (θ_run _ _ _).mono (fun r h => ⟨fun c => (h c).2.2.2, sem_eq_zero_of_no_sems rfl r.2⟩) (Cert.AdamSquareRefIdeal.Value.run (F := Ideal) m g)

theorem algebraic : Cert.algebraic_AdamSquareIdeal_AdamSquareRefIdeal (hAdamSquareIdeal := facts) (hAdamSquareRefIdeal := Cert.AdamSquareRefIdeal.Gen.facts) := by
  intro m g m' g' _ ha
  refine ⟨_, _, _, run m g, (θ_run _ _ _).mono (fun r h c => ?_) (Cert.AdamSquareRefIdeal.Value.run (F := Ideal) m' g')⟩
  obtain ⟨h0, h1, h2, h3⟩ := h c
  obtain ⟨a0, a1, a2, a3⟩ := ha c
  rw [update, first, second]
  refine ⟨h0.trans ((Cert.AdamSquareRefIdeal.Read.val_main_v23_eq _ _ _ _).trans ?_), h1.trans ((Cert.AdamSquareRefIdeal.Read.val_main_v4_eq _ _).trans ?_),
    h2.trans ((Cert.AdamSquareRefIdeal.Read.val_main_v10_eq _ _).trans ?_), h3⟩
  · rw [a0, a1, a2, a3]
  · rw [a1, a2]
  · rw [a1, a3]

end Cert.Rows.AdamSquare

end
-- ==== Proof.Rows.AdamUp.lean ====
/- One optimiser step of one device's columns of the MLP's first weight: the update and the two moments. -/
module

public import proofs.«01_k».proof.Defs
public import proofs.«01_k».proof.Proof.Gen.AdamUpIdeal.Value
public import proofs.«01_k».proof.Proof.Gen.AdamUpRefIdeal.Read
public import Idealize.ShloMosaic.Lib.Claim
public import Idealize.ShloMosaic.Lib.Quiescent
public import Idealize.ShloMosaic.Lib.Pointwise

@[expose] public section

noncomputable section

namespace Cert.Rows.AdamUp

open Cert.AdamUpIdeal Cert.AdamUpIdeal.Gen Cert.AdamUpIdeal.Value Idealize.ShloMosaic Idealize.ShloMosaic.TcCoe Idealize.SL.Sem
open Cert.AdamUpRefIdeal.Read (val_main_v4 val_main_v10 val_main_v23)

variable (w g m v : (⟨⟨2, ![1024, 1408]⟩, .f32⟩ : BufTy).Contents (Elt Ideal))

/-- Entry by entry the kernel's arrays are the reference's. -/
theorem first : G5 (F := Ideal) g m = val_main_v4 (F := Ideal) g m := rfl
theorem second : G6 (F := Ideal) g v = val_main_v10 (F := Ideal) g v := rfl
theorem update : G4 (F := Ideal) g m v w = val_main_v23 (F := Ideal) w g m v := rfl

theorem ref_frame : Cert.quiescent_AdamUpRefIdeal (hAdamUpRefIdeal := Cert.AdamUpRefIdeal.Gen.facts) := fun m g _ =>
  (θ_run _ _ _).mono (fun r h => ⟨fun c => (h c).2.2.2, sem_eq_zero_of_no_sems rfl r.2⟩) (Cert.AdamUpRefIdeal.Value.run (F := Ideal) m g)

theorem algebraic : Cert.algebraic_AdamUpIdeal_AdamUpRefIdeal (hAdamUpIdeal := facts) (hAdamUpRefIdeal := Cert.AdamUpRefIdeal.Gen.facts) := by
  intro m g m' g' _ ha
  refine ⟨_, _, _, run m g, (θ_run _ _ _).mono (fun r h c => ?_) (Cert.AdamUpRefIdeal.Value.run (F := Ideal) m' g')⟩
  obtain ⟨h0, h1, h2, h3⟩ := h c
  obtain ⟨a0, a1, a2, a3⟩ := ha c
  rw [update, first, second]
  refine ⟨h0.trans ((Cert.AdamUpRefIdeal.Read.val_main_v23_eq _ _ _ _).trans ?_), h1.trans ((Cert.AdamUpRefIdeal.Read.val_main_v4_eq _ _).trans ?_),
    h2.trans ((Cert.AdamUpRefIdeal.Read.val_main_v10_eq _ _).trans ?_), h3⟩
  · rw [a0, a1, a2, a3]
  · rw [a1, a2]
  · rw [a1, a3]

end Cert.Rows.AdamUp

end
-- ==== Proof.Rows.AdamDown.lean ====
/- One optimiser step of one device's rows of the MLP's second weight: the update and the two moments. -/
module

public import proofs.«01_k».proof.Defs
public import proofs.«01_k».proof.Proof.Gen.AdamDownIdeal.Value
public import proofs.«01_k».proof.Proof.Gen.AdamDownRefIdeal.Read
public import Idealize.ShloMosaic.Lib.Claim
public import Idealize.ShloMosaic.Lib.Quiescent
public import Idealize.ShloMosaic.Lib.Pointwise

@[expose] public section

noncomputable section

namespace Cert.Rows.AdamDown

open Cert.AdamDownIdeal Cert.AdamDownIdeal.Gen Cert.AdamDownIdeal.Value Idealize.ShloMosaic Idealize.ShloMosaic.TcCoe Idealize.SL.Sem
open Cert.AdamDownRefIdeal.Read (val_main_v4 val_main_v10 val_main_v23)

variable (w g m v : (⟨⟨2, ![704, 1024]⟩, .f32⟩ : BufTy).Contents (Elt Ideal))

/-- Entry by entry the kernel's arrays are the reference's. -/
theorem first : G5 (F := Ideal) g m = val_main_v4 (F := Ideal) g m := rfl
theorem second : G6 (F := Ideal) g v = val_main_v10 (F := Ideal) g v := rfl
theorem update : G4 (F := Ideal) g m v w = val_main_v23 (F := Ideal) w g m v := rfl

theorem ref_frame : Cert.quiescent_AdamDownRefIdeal (hAdamDownRefIdeal := Cert.AdamDownRefIdeal.Gen.facts) := fun m g _ =>
  (θ_run _ _ _).mono (fun r h => ⟨fun c => (h c).2.2.2, sem_eq_zero_of_no_sems rfl r.2⟩) (Cert.AdamDownRefIdeal.Value.run (F := Ideal) m g)

theorem algebraic : Cert.algebraic_AdamDownIdeal_AdamDownRefIdeal (hAdamDownIdeal := facts) (hAdamDownRefIdeal := Cert.AdamDownRefIdeal.Gen.facts) := by
  intro m g m' g' _ ha
  refine ⟨_, _, _, run m g, (θ_run _ _ _).mono (fun r h c => ?_) (Cert.AdamDownRefIdeal.Value.run (F := Ideal) m' g')⟩
  obtain ⟨h0, h1, h2, h3⟩ := h c
  obtain ⟨a0, a1, a2, a3⟩ := ha c
  rw [update, first, second]
  refine ⟨h0.trans ((Cert.AdamDownRefIdeal.Read.val_main_v23_eq _ _ _ _).trans ?_), h1.trans ((Cert.AdamDownRefIdeal.Read.val_main_v4_eq _ _).trans ?_),
    h2.trans ((Cert.AdamDownRefIdeal.Read.val_main_v10_eq _ _).trans ?_), h3⟩
  · rw [a0, a1, a2, a3]
  · rw [a1, a2]
  · rw [a1, a3]

end Cert.Rows.AdamDown

end
-- ==== Proof.Rows.AdamSmall.lean ====
/- One optimiser step of the small parameters, packed: the update and the two moments. -/
module

public import proofs.«01_k».proof.Defs
public import proofs.«01_k».proof.Proof.Gen.AdamSmallIdeal.Value
public import proofs.«01_k».proof.Proof.Gen.AdamSmallRefIdeal.Read
public import Idealize.ShloMosaic.Lib.Claim
public import Idealize.ShloMosaic.Lib.Quiescent
public import Idealize.ShloMosaic.Lib.Pointwise

@[expose] public section

noncomputable section

namespace Cert.Rows.AdamSmall

open Cert.AdamSmallIdeal Cert.AdamSmallIdeal.Gen Cert.AdamSmallIdeal.Value Idealize.ShloMosaic Idealize.ShloMosaic.TcCoe Idealize.SL.Sem
open Cert.AdamSmallRefIdeal.Read (val_main_v4 val_main_v10 val_main_v23)

variable (w g m v : (⟨⟨2, ![32, 1024]⟩, .f32⟩ : BufTy).Contents (Elt Ideal))

/-- Entry by entry the kernel's arrays are the reference's. -/
theorem first : G5 (F := Ideal) g m = val_main_v4 (F := Ideal) g m := rfl
theorem second : G6 (F := Ideal) g v = val_main_v10 (F := Ideal) g v := rfl
theorem update : G4 (F := Ideal) g m v w = val_main_v23 (F := Ideal) w g m v := rfl

theorem ref_frame : Cert.quiescent_AdamSmallRefIdeal (hAdamSmallRefIdeal := Cert.AdamSmallRefIdeal.Gen.facts) := fun m g _ =>
  (θ_run _ _ _).mono (fun r h => ⟨fun c => (h c).2.2.2, sem_eq_zero_of_no_sems rfl r.2⟩) (Cert.AdamSmallRefIdeal.Value.run (F := Ideal) m g)

theorem algebraic : Cert.algebraic_AdamSmallIdeal_AdamSmallRefIdeal (hAdamSmallIdeal := facts) (hAdamSmallRefIdeal := Cert.AdamSmallRefIdeal.Gen.facts) := by
  intro m g m' g' _ ha
  refine ⟨_, _, _, run m g, (θ_run _ _ _).mono (fun r h c => ?_) (Cert.AdamSmallRefIdeal.Value.run (F := Ideal) m' g')⟩
  obtain ⟨h0, h1, h2, h3⟩ := h c
  obtain ⟨a0, a1, a2, a3⟩ := ha c
  rw [update, first, second]
  refine ⟨h0.trans ((Cert.AdamSmallRefIdeal.Read.val_main_v23_eq _ _ _ _).trans ?_), h1.trans ((Cert.AdamSmallRefIdeal.Read.val_main_v4_eq _ _).trans ?_),
    h2.trans ((Cert.AdamSmallRefIdeal.Read.val_main_v10_eq _ _).trans ?_), h3⟩
  · rw [a0, a1, a2, a3]
  · rw [a1, a2]
  · rw [a1, a3]

end Cert.Rows.AdamSmall

end
-- ==== Proof.Rows.PairSquare.lean ====
/- The sum of two cores' addends to a square weight's gradient. -/
module

public import proofs.«01_k».proof.Defs
public import proofs.«01_k».proof.Proof.Gen.PairSquareIdeal.Value
public import proofs.«01_k».proof.Proof.Gen.PairSquareRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Rows.PairSquare

open Cert.PairSquareIdeal Cert.PairSquareIdeal.Gen Cert.PairSquareIdeal.Value Idealize.ShloMosaic Idealize.ShloMosaic.TcCoe Idealize.SL.Sem

/-- Entry by entry the kernel's array is the reference's. -/
theorem result (a b : (⟨⟨2, ![1024, 1024]⟩, .bf16⟩ : BufTy).Contents (Elt Ideal)) : G2 (F := Ideal) a b = Cert.PairSquareRefIdeal.Read.val_main_v3 (F := Ideal) a b := rfl

theorem ref_frame : Cert.quiescent_PairSquareRefIdeal (hPairSquareRefIdeal := Cert.PairSquareRefIdeal.Gen.facts) := fun m g _ =>
  (θ_run _ _ _).mono (fun r h => ⟨fun c => (h c).2, sem_eq_zero_of_no_sems rfl r.2⟩) (Cert.PairSquareRefIdeal.Value.run (F := Ideal) m g)

theorem algebraic : Cert.algebraic_PairSquareIdeal_PairSquareRefIdeal (hPairSquareIdeal := facts) (hPairSquareRefIdeal := Cert.PairSquareRefIdeal.Gen.facts) := by
  intro m g m' g' _ ha
  refine ⟨_, run m g, (θ_run _ _ _).mono (fun r h c => ⟨?_, (h c).2⟩) (Cert.PairSquareRefIdeal.Value.run (F := Ideal) m' g')⟩
  rw [result, (h c).1, (ha c).1, (ha c).2]
  rfl

end Cert.Rows.PairSquare

end
-- ==== Proof.Rows.PairUp.lean ====
/- The sum of two cores' addends to the gradient of the MLP's first weight. -/
module

public import proofs.«01_k».proof.Defs
public import proofs.«01_k».proof.Proof.Gen.PairUpIdeal.Value
public import proofs.«01_k».proof.Proof.Gen.PairUpRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Rows.PairUp

open Cert.PairUpIdeal Cert.PairUpIdeal.Gen Cert.PairUpIdeal.Value Idealize.ShloMosaic Idealize.ShloMosaic.TcCoe Idealize.SL.Sem

/-- Entry by entry the kernel's array is the reference's. -/
theorem result (a b : (⟨⟨2, ![4096, 1408]⟩, .bf16⟩ : BufTy).Contents (Elt Ideal)) : G2 (F := Ideal) a b = Cert.PairUpRefIdeal.Read.val_main_v3 (F := Ideal) a b := rfl

theorem ref_frame : Cert.quiescent_PairUpRefIdeal (hPairUpRefIdeal := Cert.PairUpRefIdeal.Gen.facts) := fun m g _ =>
  (θ_run _ _ _).mono (fun r h => ⟨fun c => (h c).2, sem_eq_zero_of_no_sems rfl r.2⟩) (Cert.PairUpRefIdeal.Value.run (F := Ideal) m g)

theorem algebraic : Cert.algebraic_PairUpIdeal_PairUpRefIdeal (hPairUpIdeal := facts) (hPairUpRefIdeal := Cert.PairUpRefIdeal.Gen.facts) := by
  intro m g m' g' _ ha
  refine ⟨_, run m g, (θ_run _ _ _).mono (fun r h c => ⟨?_, (h c).2⟩) (Cert.PairUpRefIdeal.Value.run (F := Ideal) m' g')⟩
  rw [result, (h c).1, (ha c).1, (ha c).2]
  rfl

end Cert.Rows.PairUp

end
-- ==== Proof.Rows.PairDown.lean ====
/- The sum of two cores' addends to the gradient of the MLP's second weight. -/
module

public import proofs.«01_k».proof.Defs
public import proofs.«01_k».proof.Proof.Gen.PairDownIdeal.Value
public import proofs.«01_k».proof.Proof.Gen.PairDownRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Rows.PairDown

open Cert.PairDownIdeal Cert.PairDownIdeal.Gen Cert.PairDownIdeal.Value Idealize.ShloMosaic Idealize.ShloMosaic.TcCoe Idealize.SL.Sem

/-- Entry by entry the kernel's array is the reference's. -/
theorem result (a b : (⟨⟨2, ![2816, 1024]⟩, .bf16⟩ : BufTy).Contents (Elt Ideal)) : G2 (F := Ideal) a b = Cert.PairDownRefIdeal.Read.val_main_v3 (F := Ideal) a b := rfl

theorem ref_frame : Cert.quiescent_PairDownRefIdeal (hPairDownRefIdeal := Cert.PairDownRefIdeal.Gen.facts) := fun m g _ =>
  (θ_run _ _ _).mono (fun r h => ⟨fun c => (h c).2, sem_eq_zero_of_no_sems rfl r.2⟩) (Cert.PairDownRefIdeal.Value.run (F := Ideal) m g)

theorem algebraic : Cert.algebraic_PairDownIdeal_PairDownRefIdeal (hPairDownIdeal := facts) (hPairDownRefIdeal := Cert.PairDownRefIdeal.Gen.facts) := by
  intro m g m' g' _ ha
  refine ⟨_, run m g, (θ_run _ _ _).mono (fun r h c => ⟨?_, (h c).2⟩) (Cert.PairDownRefIdeal.Value.run (F := Ideal) m' g')⟩
  rw [result, (h c).1, (ha c).1, (ha c).2]
  rfl

end Cert.Rows.PairDown

end
-- ==== Proof.Rows.PairIn.lean ====
/- The sum of two cores' addends to the gradient of the input projection. -/
module

public import proofs.«01_k».proof.Defs
public import proofs.«01_k».proof.Proof.Gen.PairInIdeal.Value
public import proofs.«01_k».proof.Proof.Gen.PairInRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Rows.PairIn

open Cert.PairInIdeal Cert.PairInIdeal.Gen Cert.PairInIdeal.Value Idealize.ShloMosaic Idealize.ShloMosaic.TcCoe Idealize.SL.Sem

/-- Entry by entry the kernel's array is the reference's. -/
theorem result (a b : (⟨⟨2, ![1024, 9232]⟩, .bf16⟩ : BufTy).Contents (Elt Ideal)) : G2 (F := Ideal) a b = Cert.PairInRefIdeal.Read.val_main_v3 (F := Ideal) a b := rfl

theorem ref_frame : Cert.quiescent_PairInRefIdeal (hPairInRefIdeal := Cert.PairInRefIdeal.Gen.facts) := fun m g _ =>
  (θ_run _ _ _).mono (fun r h => ⟨fun c => (h c).2, sem_eq_zero_of_no_sems rfl r.2⟩) (Cert.PairInRefIdeal.Value.run (F := Ideal) m g)

theorem algebraic : Cert.algebraic_PairInIdeal_PairInRefIdeal (hPairInIdeal := facts) (hPairInRefIdeal := Cert.PairInRefIdeal.Gen.facts) := by
  intro m g m' g' _ ha
  refine ⟨_, run m g, (θ_run _ _ _).mono (fun r h c => ⟨?_, (h c).2⟩) (Cert.PairInRefIdeal.Value.run (F := Ideal) m' g')⟩
  rw [result, (h c).1, (ha c).1, (ha c).2]
  rfl

end Cert.Rows.PairIn

end
-- ==== Proof.Rows.SumSquare.lean ====
/- The sum over the devices of the addends to a square weight's gradient. -/
module

public import proofs.«01_k».proof.Defs
public import proofs.«01_k».proof.Proof.Gen.SumSquareIdeal.Value
public import proofs.«01_k».proof.Proof.Gen.SumSquareRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Rows.SumSquare

open Cert.SumSquareIdeal Cert.SumSquareIdeal.Gen Cert.SumSquareIdeal.Value Idealize.ShloMosaic Idealize.ShloMosaic.TcCoe Idealize.SL.Sem

variable (m : (ℓ : Loc nD τ sig) → Buf (Elt Ideal) ℓ) (c : Dev nD)

theorem ref_apply (X : Cert.SumSquareRefIdeal.S4x256x1024.Idx → EReal) (i : Cert.SumSquareRefIdeal.S256x1024.Idx) :
    (Cert.SumSquareRefIdeal.Read.val_main_v1 (F := Ideal) X : Cert.SumSquareRefIdeal.S256x1024.Idx → EReal) i = ∑ k : Fin 4, X (ix3 k (i 0) (i 1)) := by
  pointwise [Cert.SumSquareRefIdeal.Read.val_main_v1, Cert.SumSquareRefIdeal.Read.val_main_v0, Cert.SumSquareRefIdeal.Read.val_main_cst]

theorem index : ∀ t : Fin cfg0.N, win0_0.index t = ![0, t.val, 0] ∧ win0_1.index t = ![t.val, 0] :=
  (by decide +kernel : ∀ t : Fin grid0.N, _)

theorem result : (dats m 0 c).arrAt 1 cfg0.N = Cert.SumSquareRefIdeal.Read.val_main_v1 (F := Ideal) (m ((c : Thread nD τ).loc main_arg0)) := by
  refine (dats m 0 c).arrAt_eq_of_covers 1 _ (by decide +kernel) fun t hf y => ?_
  obtain ⟨e0, e1⟩ := index t
  rw [ref_apply, after0_1, Fin.sum_univ_four]
  frame_out
  pointwise [k0_pay1]
  refine (cast_eq _ _).trans (congrArg₂ (· + ·) (congrArg₂ (· + ·) (congrArg₂ (· + ·) ?_ ?_) ?_) ?_)
  all_goals blk_ext [iblk, V, e0, e1]

theorem ref_frame : Cert.quiescent_SumSquareRefIdeal (hSumSquareRefIdeal := Cert.SumSquareRefIdeal.Gen.facts) := fun m g _ =>
  (θ_run _ _ _).mono (fun r h => ⟨fun c => (h c).2, sem_eq_zero_of_no_sems rfl r.2⟩) (Cert.SumSquareRefIdeal.Value.run (F := Ideal) m g)

theorem algebraic : Cert.algebraic_SumSquareIdeal_SumSquareRefIdeal (hSumSquareIdeal := facts) (hSumSquareRefIdeal := Cert.SumSquareRefIdeal.Gen.facts) := by
  intro m g m' g' _ ha
  refine ⟨fun c => (dats m 0 c).arrAt 1 cfg0.N, run_blocks m g, (θ_run _ _ _).mono (fun r h c => ⟨?_, (h c).2⟩) (Cert.SumSquareRefIdeal.Value.run (F := Ideal) m' g')⟩
  rw [(h c).1, ha c]
  exact (result m c).symm

end Cert.Rows.SumSquare

end
-- ==== Proof.Rows.SumUp.lean ====
/- The sum over the devices of the addends to the gradient of the MLP's first weight. -/
module

public import proofs.«01_k».proof.Defs
public import proofs.«01_k».proof.Proof.Gen.SumUpIdeal.Value
public import proofs.«01_k».proof.Proof.Gen.SumUpRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Rows.SumUp

open Cert.SumUpIdeal Cert.SumUpIdeal.Gen Cert.SumUpIdeal.Value Idealize.ShloMosaic Idealize.ShloMosaic.TcCoe Idealize.SL.Sem

variable (m : (ℓ : Loc nD τ sig) → Buf (Elt Ideal) ℓ) (c : Dev nD)

theorem ref_apply (X : Cert.SumUpRefIdeal.S4x1024x1408.Idx → EReal) (i : Cert.SumUpRefIdeal.S1024x1408.Idx) :
    (Cert.SumUpRefIdeal.Read.val_main_v1 (F := Ideal) X : Cert.SumUpRefIdeal.S1024x1408.Idx → EReal) i = ∑ k : Fin 4, X (ix3 k (i 0) (i 1)) := by
  pointwise [Cert.SumUpRefIdeal.Read.val_main_v1, Cert.SumUpRefIdeal.Read.val_main_v0, Cert.SumUpRefIdeal.Read.val_main_cst]

theorem index : ∀ t : Fin cfg0.N, win0_0.index t = ![0, t.val, 0] ∧ win0_1.index t = ![t.val, 0] :=
  (by decide +kernel : ∀ t : Fin grid0.N, _)

theorem result : (dats m 0 c).arrAt 1 cfg0.N = Cert.SumUpRefIdeal.Read.val_main_v1 (F := Ideal) (m ((c : Thread nD τ).loc main_arg0)) := by
  refine (dats m 0 c).arrAt_eq_of_covers 1 _ (by decide +kernel) fun t hf y => ?_
  obtain ⟨e0, e1⟩ := index t
  rw [ref_apply, after0_1, Fin.sum_univ_four]
  frame_out
  pointwise [k0_pay1]
  refine (cast_eq _ _).trans (congrArg₂ (· + ·) (congrArg₂ (· + ·) (congrArg₂ (· + ·) ?_ ?_) ?_) ?_)
  all_goals blk_ext [iblk, V, e0, e1]

theorem ref_frame : Cert.quiescent_SumUpRefIdeal (hSumUpRefIdeal := Cert.SumUpRefIdeal.Gen.facts) := fun m g _ =>
  (θ_run _ _ _).mono (fun r h => ⟨fun c => (h c).2, sem_eq_zero_of_no_sems rfl r.2⟩) (Cert.SumUpRefIdeal.Value.run (F := Ideal) m g)

theorem algebraic : Cert.algebraic_SumUpIdeal_SumUpRefIdeal (hSumUpIdeal := facts) (hSumUpRefIdeal := Cert.SumUpRefIdeal.Gen.facts) := by
  intro m g m' g' _ ha
  refine ⟨fun c => (dats m 0 c).arrAt 1 cfg0.N, run_blocks m g, (θ_run _ _ _).mono (fun r h c => ⟨?_, (h c).2⟩) (Cert.SumUpRefIdeal.Value.run (F := Ideal) m' g')⟩
  rw [(h c).1, ha c]
  exact (result m c).symm

end Cert.Rows.SumUp

end
-- ==== Proof.Rows.SumDown.lean ====
/- The sum over the devices of the addends to the gradient of the MLP's second weight. -/
module

public import proofs.«01_k».proof.Defs
public import proofs.«01_k».proof.Proof.Gen.SumDownIdeal.Value
public import proofs.«01_k».proof.Proof.Gen.SumDownRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Rows.SumDown

open Cert.SumDownIdeal Cert.SumDownIdeal.Gen Cert.SumDownIdeal.Value Idealize.ShloMosaic Idealize.ShloMosaic.TcCoe Idealize.SL.Sem

variable (m : (ℓ : Loc nD τ sig) → Buf (Elt Ideal) ℓ) (c : Dev nD)

theorem ref_apply (X : Cert.SumDownRefIdeal.S4x704x1024.Idx → EReal) (i : Cert.SumDownRefIdeal.S704x1024.Idx) :
    (Cert.SumDownRefIdeal.Read.val_main_v1 (F := Ideal) X : Cert.SumDownRefIdeal.S704x1024.Idx → EReal) i = ∑ k : Fin 4, X (ix3 k (i 0) (i 1)) := by
  pointwise [Cert.SumDownRefIdeal.Read.val_main_v1, Cert.SumDownRefIdeal.Read.val_main_v0, Cert.SumDownRefIdeal.Read.val_main_cst]

theorem index : ∀ t : Fin cfg0.N, win0_0.index t = ![0, t.val, 0] ∧ win0_1.index t = ![t.val, 0] :=
  (by decide +kernel : ∀ t : Fin grid0.N, _)

theorem result : (dats m 0 c).arrAt 1 cfg0.N = Cert.SumDownRefIdeal.Read.val_main_v1 (F := Ideal) (m ((c : Thread nD τ).loc main_arg0)) := by
  refine (dats m 0 c).arrAt_eq_of_covers 1 _ (by decide +kernel) fun t hf y => ?_
  obtain ⟨e0, e1⟩ := index t
  rw [ref_apply, after0_1, Fin.sum_univ_four]
  frame_out
  pointwise [k0_pay1]
  refine (cast_eq _ _).trans (congrArg₂ (· + ·) (congrArg₂ (· + ·) (congrArg₂ (· + ·) ?_ ?_) ?_) ?_)
  all_goals blk_ext [iblk, V, e0, e1]

theorem ref_frame : Cert.quiescent_SumDownRefIdeal (hSumDownRefIdeal := Cert.SumDownRefIdeal.Gen.facts) := fun m g _ =>
  (θ_run _ _ _).mono (fun r h => ⟨fun c => (h c).2, sem_eq_zero_of_no_sems rfl r.2⟩) (Cert.SumDownRefIdeal.Value.run (F := Ideal) m g)

theorem algebraic : Cert.algebraic_SumDownIdeal_SumDownRefIdeal (hSumDownIdeal := facts) (hSumDownRefIdeal := Cert.SumDownRefIdeal.Gen.facts) := by
  intro m g m' g' _ ha
  refine ⟨fun c => (dats m 0 c).arrAt 1 cfg0.N, run_blocks m g, (θ_run _ _ _).mono (fun r h c => ⟨?_, (h c).2⟩) (Cert.SumDownRefIdeal.Value.run (F := Ideal) m' g')⟩
  rw [(h c).1, ha c]
  exact (result m c).symm

end Cert.Rows.SumDown

end
-- ==== Proof.Rows.SumIn.lean ====
/- The sum over the devices of the addends to the gradient of the input projection. -/
module

public import proofs.«01_k».proof.Defs
public import proofs.«01_k».proof.Proof.Gen.SumInIdeal.Value
public import proofs.«01_k».proof.Proof.Gen.SumInRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Rows.SumIn

open Cert.SumInIdeal Cert.SumInIdeal.Gen Cert.SumInIdeal.Value Idealize.ShloMosaic Idealize.ShloMosaic.TcCoe Idealize.SL.Sem

variable (m : (ℓ : Loc nD τ sig) → Buf (Elt Ideal) ℓ) (c : Dev nD)

theorem ref_apply (X : Cert.SumInRefIdeal.S4x1024x2308.Idx → EReal) (i : Cert.SumInRefIdeal.S1024x2308.Idx) :
    (Cert.SumInRefIdeal.Read.val_main_v1 (F := Ideal) X : Cert.SumInRefIdeal.S1024x2308.Idx → EReal) i = ∑ k : Fin 4, X (ix3 k (i 0) (i 1)) := by
  pointwise [Cert.SumInRefIdeal.Read.val_main_v1, Cert.SumInRefIdeal.Read.val_main_v0, Cert.SumInRefIdeal.Read.val_main_cst]

theorem index : ∀ t : Fin cfg0.N, win0_0.index t = ![0, t.val, 0] ∧ win0_1.index t = ![t.val, 0] :=
  (by decide +kernel : ∀ t : Fin grid0.N, _)

theorem result : (dats m 0 c).arrAt 1 cfg0.N = Cert.SumInRefIdeal.Read.val_main_v1 (F := Ideal) (m ((c : Thread nD τ).loc main_arg0)) := by
  refine (dats m 0 c).arrAt_eq_of_covers 1 _ (by decide +kernel) fun t hf y => ?_
  obtain ⟨e0, e1⟩ := index t
  rw [ref_apply, after0_1, Fin.sum_univ_four]
  frame_out
  pointwise [k0_pay1]
  refine (cast_eq _ _).trans (congrArg₂ (· + ·) (congrArg₂ (· + ·) (congrArg₂ (· + ·) ?_ ?_) ?_) ?_)
  all_goals blk_ext [iblk, V, e0, e1]

theorem ref_frame : Cert.quiescent_SumInRefIdeal (hSumInRefIdeal := Cert.SumInRefIdeal.Gen.facts) := fun m g _ =>
  (θ_run _ _ _).mono (fun r h => ⟨fun c => (h c).2, sem_eq_zero_of_no_sems rfl r.2⟩) (Cert.SumInRefIdeal.Value.run (F := Ideal) m g)

theorem algebraic : Cert.algebraic_SumInIdeal_SumInRefIdeal (hSumInIdeal := facts) (hSumInRefIdeal := Cert.SumInRefIdeal.Gen.facts) := by
  intro m g m' g' _ ha
  refine ⟨fun c => (dats m 0 c).arrAt 1 cfg0.N, run_blocks m g, (θ_run _ _ _).mono (fun r h c => ⟨?_, (h c).2⟩) (Cert.SumInRefIdeal.Value.run (F := Ideal) m' g')⟩
  rw [(h c).1, ha c]
  exact (result m c).symm

end Cert.Rows.SumIn

end
-- ==== Proof.Rows.SumSmall.lean ====
/- The sum over the devices of the addends to the small gradients, packed. -/
module

public import proofs.«01_k».proof.Defs
public import proofs.«01_k».proof.Proof.Gen.SumSmallIdeal.Value
public import proofs.«01_k».proof.Proof.Gen.SumSmallRefIdeal.Read
public import Idealize.ShloMosaic.Lib.Claim
public import Idealize.ShloMosaic.Lib.Quiescent
public import Idealize.ShloMosaic.Lib.Pipeline.ValueKit
public import Idealize.ShloMosaic.Lib.Pointwise

@[expose] public section

noncomputable section

namespace Cert.Rows.SumSmall

open Cert.SumSmallIdeal Cert.SumSmallIdeal.Gen Cert.SumSmallIdeal.Value Idealize.ShloMosaic Idealize.ShloMosaic.TcCoe Idealize.SL.Sem

variable (m : (ℓ : Loc nD τ sig) → Buf (Elt Ideal) ℓ) (c : Dev nD)

theorem ref_apply (X : Cert.SumSmallRefIdeal.S8x56x1024.Idx → EReal) (i : Cert.SumSmallRefIdeal.S56x1024.Idx) :
    (Cert.SumSmallRefIdeal.Read.val_main_v0 (F := Ideal) X : Cert.SumSmallRefIdeal.S56x1024.Idx → EReal) i = ∑ k : Fin 8, X (ix3 k (i 0) (i 1)) := by
  pointwise [Cert.SumSmallRefIdeal.Read.val_main_v0, Cert.SumSmallRefIdeal.Read.val_main_cst]

theorem index : ∀ t : Fin cfg0.N, win0_0.index t = ![0, t.val, 0] ∧ win0_1.index t = ![t.val, 0] :=
  (by decide +kernel : ∀ t : Fin grid0.N, _)

theorem result : (dats m 0 c).arrAt 1 cfg0.N = Cert.SumSmallRefIdeal.Read.val_main_v0 (F := Ideal) (m ((c : Thread nD τ).loc main_arg0)) := by
  refine (dats m 0 c).arrAt_eq_of_covers 1 _ (by decide +kernel) fun t hf y => ?_
  obtain ⟨e0, e1⟩ := index t
  rw [ref_apply, after0_1, Fin.sum_univ_eight]
  frame_out
  pointwise [k0_pay1]
  refine (cast_eq _ _).trans (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_)
  all_goals blk_ext [iblk, V, e0, e1]

theorem ref_frame : Cert.quiescent_SumSmallRefIdeal (hSumSmallRefIdeal := Cert.SumSmallRefIdeal.Gen.facts) := fun m g _ =>
  (θ_run _ _ _).mono (fun r h => ⟨fun c => (h c).2, sem_eq_zero_of_no_sems rfl r.2⟩) (Cert.SumSmallRefIdeal.Value.run (F := Ideal) m g)

theorem algebraic : Cert.algebraic_SumSmallIdeal_SumSmallRefIdeal (hSumSmallIdeal := facts) (hSumSmallRefIdeal := Cert.SumSmallRefIdeal.Gen.facts) := by
  intro m g m' g' _ ha
  refine ⟨fun c => (dats m 0 c).arrAt 1 cfg0.N, run_blocks m g, (θ_run _ _ _).mono (fun r h c => ⟨?_, (h c).2⟩) (Cert.SumSmallRefIdeal.Value.run (F := Ideal) m' g')⟩
  rw [(h c).1, ha c]
  exact (result m c).symm

end Cert.Rows.SumSmall

end
-- ==== Proof.lean ====
/-
  The proof of `Cert.Claim`: every program runs and ends quiescent. The idealized attention kernel is the kernel with its mask
  constant named −∞, and its four results are the reference's. The results of each other kernel are its reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Attn.Equation
public import proofs.«01_k».proof.Proof.Gen.GwUp.Frame
public import proofs.«01_k».proof.Proof.Mm.GwUp
public import proofs.«01_k».proof.Proof.Gen.DH2.Frame
public import proofs.«01_k».proof.Proof.Mm.DH2
public import proofs.«01_k».proof.Proof.Gen.GwQkv.Frame
public import proofs.«01_k».proof.Proof.Mm.GwQkv
public import proofs.«01_k».proof.Proof.Gen.DH1.Frame
public import proofs.«01_k».proof.Proof.Mm.DH1
public import proofs.«01_k».proof.Proof.Gen.GwDown.Frame
public import proofs.«01_k».proof.Proof.Mm.GwDown
public import proofs.«01_k».proof.Proof.Gen.DAct.Frame
public import proofs.«01_k».proof.Proof.Mm.DAct
public import proofs.«01_k».proof.Proof.Gen.GwO.Frame
public import proofs.«01_k».proof.Proof.Mm.GwO
public import proofs.«01_k».proof.Proof.Gen.DMerged.Frame
public import proofs.«01_k».proof.Proof.Mm.DMerged
public import proofs.«01_k».proof.Proof.Gen.FfnUp.Frame
public import proofs.«01_k».proof.Proof.Mm.FfnUp
public import proofs.«01_k».proof.Proof.Gen.ProjQkv.Frame
public import proofs.«01_k».proof.Proof.Mm.ProjQkv
public import proofs.«01_k».proof.Proof.Gen.ProjZ.Frame
public import proofs.«01_k».proof.Proof.Mm.ProjZ
public import proofs.«01_k».proof.Proof.Gen.FfnDown.Frame
public import proofs.«01_k».proof.Proof.Mm.FfnDown
public import Idealize.ShloMosaic.Lib.Claim
public import Idealize.ShloMosaic.Lib.Quiescent
public import proofs.«01_k».proof.Proof.Gen.LnBwd.Frame
public import proofs.«01_k».proof.Proof.Gen.LnBwdIdeal.Frame
public import proofs.«01_k».proof.Proof.Rows.LnBwd
public import proofs.«01_k».proof.Proof.Gen.MergeBwd.Frame
public import proofs.«01_k».proof.Proof.Gen.MergeBwdIdeal.Frame
public import proofs.«01_k».proof.Proof.Rows.MergeBwd
public import proofs.«01_k».proof.Proof.Gen.GradX.Frame
public import proofs.«01_k».proof.Proof.Gen.GradXIdeal.Frame
public import proofs.«01_k».proof.Proof.Rows.GradX
public import proofs.«01_k».proof.Proof.Gen.GateBwd.Frame
public import proofs.«01_k».proof.Proof.Gen.GateBwdIdeal.Frame
public import proofs.«01_k».proof.Proof.Rows.GateBwd
public import proofs.«01_k».proof.Proof.Gen.Final.Frame
public import proofs.«01_k».proof.Proof.Gen.FinalIdeal.Frame
public import proofs.«01_k».proof.Proof.Rows.Final
public import proofs.«01_k».proof.Proof.Gen.ModT.Frame
public import proofs.«01_k».proof.Proof.Gen.ModTIdeal.Frame
public import proofs.«01_k».proof.Proof.Rows.ModT
public import proofs.«01_k».proof.Proof.Gen.GateFwd.Frame
public import proofs.«01_k».proof.Proof.Gen.GateFwdIdeal.Frame
public import proofs.«01_k».proof.Proof.Rows.GateFwd
public import proofs.«01_k».proof.Proof.Gen.MergeFwd.Frame
public import proofs.«01_k».proof.Proof.Gen.MergeFwdIdeal.Frame
public import proofs.«01_k».proof.Proof.Rows.MergeFwd
public import proofs.«01_k».proof.Proof.Gen.LnFwd.Frame
public import proofs.«01_k».proof.Proof.Gen.LnFwdIdeal.Frame
public import proofs.«01_k».proof.Proof.Rows.LnFwd
public import proofs.«01_k».proof.Proof.Gen.Mix.Frame
public import proofs.«01_k».proof.Proof.Gen.MixIdeal.Frame
public import proofs.«01_k».proof.Proof.Mm.Mix
public import proofs.«01_k».proof.Proof.Gen.ProjG.Frame
public import proofs.«01_k».proof.Proof.Gen.ProjGIdeal.Frame
public import proofs.«01_k».proof.Proof.Mm.ProjG
public import proofs.«01_k».proof.Proof.Gen.ProjBa.Frame
public import proofs.«01_k».proof.Proof.Gen.ProjBaIdeal.Frame
public import proofs.«01_k».proof.Proof.Mm.ProjBa
public import proofs.«01_k».proof.Proof.Gen.GwG.Frame
public import proofs.«01_k».proof.Proof.Gen.GwGIdeal.Frame
public import proofs.«01_k».proof.Proof.Mm.GwG
public import proofs.«01_k».proof.Proof.Gen.GwBa.Frame
public import proofs.«01_k».proof.Proof.Gen.GwBaIdeal.Frame
public import proofs.«01_k».proof.Proof.Mm.GwBa
public import proofs.«01_k».proof.Proof.Gen.DH1Ba.Frame
public import proofs.«01_k».proof.Proof.Gen.DH1BaIdeal.Frame
public import proofs.«01_k».proof.Proof.Mm.DH1Ba
public import proofs.«01_k».proof.Proof.Gen.DH1Z.Frame
public import proofs.«01_k».proof.Proof.Gen.DH1ZIdeal.Frame
public import proofs.«01_k».proof.Proof.Mm.DH1Z
public import proofs.«01_k».proof.Proof.Gen.DH1G.Frame
public import proofs.«01_k».proof.Proof.Gen.DH1GIdeal.Frame
public import proofs.«01_k».proof.Proof.Mm.DH1G
public import proofs.«01_k».proof.Proof.Gen.AdaBwd.Frame
public import proofs.«01_k».proof.Proof.Gen.AdaBwdIdeal.Frame
public import proofs.«01_k».proof.Proof.Mm.AdaBwd
public import proofs.«01_k».proof.Proof.Gen.AdaFwd.Frame
public import proofs.«01_k».proof.Proof.Gen.AdaFwdIdeal.Frame
public import proofs.«01_k».proof.Proof.Mm.AdaFwd
public import proofs.«01_k».proof.Proof.Gen.AdamAda.Frame
public import proofs.«01_k».proof.Proof.Gen.AdamAdaIdeal.Frame
public import proofs.«01_k».proof.Proof.Rows.AdamAda
public import proofs.«01_k».proof.Proof.Gen.AdamIn.Frame
public import proofs.«01_k».proof.Proof.Gen.AdamInIdeal.Frame
public import proofs.«01_k».proof.Proof.Rows.AdamIn
public import proofs.«01_k».proof.Proof.Gen.AdamSquare.Frame
public import proofs.«01_k».proof.Proof.Gen.AdamSquareIdeal.Frame
public import proofs.«01_k».proof.Proof.Rows.AdamSquare
public import proofs.«01_k».proof.Proof.Gen.AdamUp.Frame
public import proofs.«01_k».proof.Proof.Gen.AdamUpIdeal.Frame
public import proofs.«01_k».proof.Proof.Rows.AdamUp
public import proofs.«01_k».proof.Proof.Gen.AdamDown.Frame
public import proofs.«01_k».proof.Proof.Gen.AdamDownIdeal.Frame
public import proofs.«01_k».proof.Proof.Rows.AdamDown
public import proofs.«01_k».proof.Proof.Gen.AdamSmall.Frame
public import proofs.«01_k».proof.Proof.Gen.AdamSmallIdeal.Frame
public import proofs.«01_k».proof.Proof.Rows.AdamSmall
public import proofs.«01_k».proof.Proof.Gen.PairSquare.Frame
public import proofs.«01_k».proof.Proof.Gen.PairSquareIdeal.Frame
public import proofs.«01_k».proof.Proof.Rows.PairSquare
public import proofs.«01_k».proof.Proof.Gen.PairUp.Frame
public import proofs.«01_k».proof.Proof.Gen.PairUpIdeal.Frame
public import proofs.«01_k».proof.Proof.Rows.PairUp
public import proofs.«01_k».proof.Proof.Gen.PairDown.Frame
public import proofs.«01_k».proof.Proof.Gen.PairDownIdeal.Frame
public import proofs.«01_k».proof.Proof.Rows.PairDown
public import proofs.«01_k».proof.Proof.Gen.PairIn.Frame
public import proofs.«01_k».proof.Proof.Gen.PairInIdeal.Frame
public import proofs.«01_k».proof.Proof.Rows.PairIn
public import proofs.«01_k».proof.Proof.Gen.SumSquare.Frame
public import proofs.«01_k».proof.Proof.Gen.SumSquareIdeal.Frame
public import proofs.«01_k».proof.Proof.Rows.SumSquare
public import proofs.«01_k».proof.Proof.Gen.SumUp.Frame
public import proofs.«01_k».proof.Proof.Gen.SumUpIdeal.Frame
public import proofs.«01_k».proof.Proof.Rows.SumUp
public import proofs.«01_k».proof.Proof.Gen.SumDown.Frame
public import proofs.«01_k».proof.Proof.Gen.SumDownIdeal.Frame
public import proofs.«01_k».proof.Proof.Rows.SumDown
public import proofs.«01_k».proof.Proof.Gen.SumIn.Frame
public import proofs.«01_k».proof.Proof.Gen.SumInIdeal.Frame
public import proofs.«01_k».proof.Proof.Rows.SumIn
public import proofs.«01_k».proof.Proof.Gen.SumSmall.Frame
public import proofs.«01_k».proof.Proof.Gen.SumSmallIdeal.Frame
public import proofs.«01_k».proof.Proof.Rows.SumSmall

@[expose] public section

noncomputable section

namespace Cert.Proof

open Idealize.ShloMosaic Idealize.ShloMosaic.TcCoe Idealize.SL.Sem Cert.Attn Cert.AttnRef

/-- The reference runs, leaves its arguments and ends with every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2.2.2.2, sem_eq_zero_of_no_sems rfl r.2⟩) (Cert.ReferenceIdeal.Value.run (F := Ideal) m g)

/-- From memories that agree on the arguments, the idealized kernel's results are the reference's. -/
theorem results_agree : Cert.algebraic_KernelIdeal_ReferenceIdeal_pre_finite_scores (hKernelIdeal := Cert.KernelIdeal.Gen.facts)
    (hReferenceIdeal := Cert.ReferenceIdeal.Gen.facts) (hPre_finite_scores := pre_facts) := by
  intro m g m' g' hp ha
  have hf : ∀ c : Dev Cert.KernelIdeal.nD, FiniteScores (aX m c) (aB m c) := fun c =>
    @finiteScores (aX m c) (aB m c) (aD m c) pre_facts (hp c).1 (hp c).2
  refine ⟨Cert.KernelIdeal.Value.G5 m, Cert.KernelIdeal.Value.G6 m, Cert.KernelIdeal.Value.G7 m, Cert.KernelIdeal.Value.G8 m,
    Cert.KernelIdeal.Value.run m g, (θ_run _ _ _).mono (fun r h c => ?_) (Cert.ReferenceIdeal.Value.run (F := Ideal) m' g')⟩
  obtain ⟨h0, h1, h2, h3, h4, h5, h6⟩ := h c
  obtain ⟨a0, a1, a2⟩ := ha c
  refine ⟨h0.trans ((Cert.ReferenceIdeal.Read.val_main_v167_eq (StableHlo.launchContents m' c)).trans ?_),
    h1.trans ((Cert.ReferenceIdeal.Read.val_main_v168_eq (StableHlo.launchContents m' c)).trans ?_),
    h2.trans ((Cert.ReferenceIdeal.Read.val_main_v169_eq (StableHlo.launchContents m' c)).trans ?_),
    h3.trans ((Cert.ReferenceIdeal.Read.val_main_v104_eq (StableHlo.launchContents m' c)).trans ?_), h4, h5, h6⟩
  all_goals rw [StableHlo.launchContents_devRef, StableHlo.launchContents_devRef, StableHlo.launchContents_devRef, a0, a1, a2]
  · exact (eq5 m c (hf c)).symm
  · exact (eq6 m c (hf c)).symm
  · exact (eq7 m c (hf c)).symm
  · exact (eq8 m c (hf c)).symm

theorem claim : Cert.Claim :=
  ⟨Cert.Kernel.Gen.facts, Cert.KernelIdeal.Gen.facts, Cert.ReferenceIdeal.Gen.facts,
    Cert.GwUp.Gen.facts, Cert.GwUpIdeal.Gen.facts, Cert.GwUpRefIdeal.Gen.facts,
    Cert.DH2.Gen.facts, Cert.DH2Ideal.Gen.facts, Cert.DH2RefIdeal.Gen.facts,
    Cert.GwQkv.Gen.facts, Cert.GwQkvIdeal.Gen.facts, Cert.GwQkvRefIdeal.Gen.facts,
    Cert.DH1.Gen.facts, Cert.DH1Ideal.Gen.facts, Cert.DH1RefIdeal.Gen.facts,
    Cert.GwDown.Gen.facts, Cert.GwDownIdeal.Gen.facts, Cert.GwDownRefIdeal.Gen.facts,
    Cert.DAct.Gen.facts, Cert.DActIdeal.Gen.facts, Cert.DActRefIdeal.Gen.facts,
    Cert.GwO.Gen.facts, Cert.GwOIdeal.Gen.facts, Cert.GwORefIdeal.Gen.facts,
    Cert.DMerged.Gen.facts, Cert.DMergedIdeal.Gen.facts, Cert.DMergedRefIdeal.Gen.facts,
    Cert.FfnUp.Gen.facts, Cert.FfnUpIdeal.Gen.facts, Cert.FfnUpRefIdeal.Gen.facts,
    Cert.ProjQkv.Gen.facts, Cert.ProjQkvIdeal.Gen.facts, Cert.ProjQkvRefIdeal.Gen.facts,
    Cert.ProjZ.Gen.facts, Cert.ProjZIdeal.Gen.facts, Cert.ProjZRefIdeal.Gen.facts,
    Cert.FfnDown.Gen.facts, Cert.FfnDownIdeal.Gen.facts, Cert.FfnDownRefIdeal.Gen.facts,
    Cert.LnBwd.Gen.facts, Cert.LnBwdIdeal.Gen.facts, Cert.LnBwdRefIdeal.Gen.facts,
    Cert.MergeBwd.Gen.facts, Cert.MergeBwdIdeal.Gen.facts, Cert.MergeBwdRefIdeal.Gen.facts,
    Cert.GradX.Gen.facts, Cert.GradXIdeal.Gen.facts, Cert.GradXRefIdeal.Gen.facts,
    Cert.GateBwd.Gen.facts, Cert.GateBwdIdeal.Gen.facts, Cert.GateBwdRefIdeal.Gen.facts,
    Cert.Final.Gen.facts, Cert.FinalIdeal.Gen.facts, Cert.FinalRefIdeal.Gen.facts,
    Cert.ModT.Gen.facts, Cert.ModTIdeal.Gen.facts, Cert.ModTRefIdeal.Gen.facts,
    Cert.GateFwd.Gen.facts, Cert.GateFwdIdeal.Gen.facts, Cert.GateFwdRefIdeal.Gen.facts,
    Cert.MergeFwd.Gen.facts, Cert.MergeFwdIdeal.Gen.facts, Cert.MergeFwdRefIdeal.Gen.facts,
    Cert.LnFwd.Gen.facts, Cert.LnFwdIdeal.Gen.facts, Cert.LnFwdRefIdeal.Gen.facts,
    Cert.Mix.Gen.facts, Cert.MixIdeal.Gen.facts, Cert.MixRefIdeal.Gen.facts,
    Cert.ProjG.Gen.facts, Cert.ProjGIdeal.Gen.facts, Cert.ProjGRefIdeal.Gen.facts,
    Cert.ProjBa.Gen.facts, Cert.ProjBaIdeal.Gen.facts, Cert.ProjBaRefIdeal.Gen.facts,
    Cert.GwG.Gen.facts, Cert.GwGIdeal.Gen.facts, Cert.GwGRefIdeal.Gen.facts,
    Cert.GwBa.Gen.facts, Cert.GwBaIdeal.Gen.facts, Cert.GwBaRefIdeal.Gen.facts,
    Cert.DH1Ba.Gen.facts, Cert.DH1BaIdeal.Gen.facts, Cert.DH1BaRefIdeal.Gen.facts,
    Cert.DH1Z.Gen.facts, Cert.DH1ZIdeal.Gen.facts, Cert.DH1ZRefIdeal.Gen.facts,
    Cert.DH1G.Gen.facts, Cert.DH1GIdeal.Gen.facts, Cert.DH1GRefIdeal.Gen.facts,
    Cert.AdaBwd.Gen.facts, Cert.AdaBwdIdeal.Gen.facts, Cert.AdaBwdRefIdeal.Gen.facts,
    Cert.AdaFwd.Gen.facts, Cert.AdaFwdIdeal.Gen.facts, Cert.AdaFwdRefIdeal.Gen.facts,
    Cert.AdamAda.Gen.facts, Cert.AdamAdaIdeal.Gen.facts, Cert.AdamAdaRefIdeal.Gen.facts,
    Cert.AdamIn.Gen.facts, Cert.AdamInIdeal.Gen.facts, Cert.AdamInRefIdeal.Gen.facts,
    Cert.AdamSquare.Gen.facts, Cert.AdamSquareIdeal.Gen.facts, Cert.AdamSquareRefIdeal.Gen.facts,
    Cert.AdamUp.Gen.facts, Cert.AdamUpIdeal.Gen.facts, Cert.AdamUpRefIdeal.Gen.facts,
    Cert.AdamDown.Gen.facts, Cert.AdamDownIdeal.Gen.facts, Cert.AdamDownRefIdeal.Gen.facts,
    Cert.AdamSmall.Gen.facts, Cert.AdamSmallIdeal.Gen.facts, Cert.AdamSmallRefIdeal.Gen.facts,
    Cert.PairSquare.Gen.facts, Cert.PairSquareIdeal.Gen.facts, Cert.PairSquareRefIdeal.Gen.facts,
    Cert.PairUp.Gen.facts, Cert.PairUpIdeal.Gen.facts, Cert.PairUpRefIdeal.Gen.facts,
    Cert.PairDown.Gen.facts, Cert.PairDownIdeal.Gen.facts, Cert.PairDownRefIdeal.Gen.facts,
    Cert.PairIn.Gen.facts, Cert.PairInIdeal.Gen.facts, Cert.PairInRefIdeal.Gen.facts,
    Cert.SumSquare.Gen.facts, Cert.SumSquareIdeal.Gen.facts, Cert.SumSquareRefIdeal.Gen.facts,
    Cert.SumUp.Gen.facts, Cert.SumUpIdeal.Gen.facts, Cert.SumUpRefIdeal.Gen.facts,
    Cert.SumDown.Gen.facts, Cert.SumDownIdeal.Gen.facts, Cert.SumDownRefIdeal.Gen.facts,
    Cert.SumIn.Gen.facts, Cert.SumInIdeal.Gen.facts, Cert.SumInRefIdeal.Gen.facts,
    Cert.SumSmall.Gen.facts, Cert.SumSmallIdeal.Gen.facts, Cert.SumSmallRefIdeal.Gen.facts,
    pre_facts,
    Cert.Rows.LnBwd.pre_facts,
    Cert.Rows.GateBwd.pre_facts,
    Cert.Rows.Final.pre_facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    fun m g _ => Cert.GwUp.Gen.frame m g, fun m g _ => Cert.GwUpIdeal.Gen.frame m g, Cert.Mm.GwUp.ref_frame,
    fun m g _ => Cert.DH2.Gen.frame m g, fun m g _ => Cert.DH2Ideal.Gen.frame m g, Cert.Mm.DH2.ref_frame,
    fun m g _ => Cert.GwQkv.Gen.frame m g, fun m g _ => Cert.GwQkvIdeal.Gen.frame m g, Cert.Mm.GwQkv.ref_frame,
    fun m g _ => Cert.DH1.Gen.frame m g, fun m g _ => Cert.DH1Ideal.Gen.frame m g, Cert.Mm.DH1.ref_frame,
    fun m g _ => Cert.GwDown.Gen.frame m g, fun m g _ => Cert.GwDownIdeal.Gen.frame m g, Cert.Mm.GwDown.ref_frame,
    fun m g _ => Cert.DAct.Gen.frame m g, fun m g _ => Cert.DActIdeal.Gen.frame m g, Cert.Mm.DAct.ref_frame,
    fun m g _ => Cert.GwO.Gen.frame m g, fun m g _ => Cert.GwOIdeal.Gen.frame m g, Cert.Mm.GwO.ref_frame,
    fun m g _ => Cert.DMerged.Gen.frame m g, fun m g _ => Cert.DMergedIdeal.Gen.frame m g, Cert.Mm.DMerged.ref_frame,
    fun m g _ => Cert.FfnUp.Gen.frame m g, fun m g _ => Cert.FfnUpIdeal.Gen.frame m g, Cert.Mm.FfnUp.ref_frame,
    fun m g _ => Cert.ProjQkv.Gen.frame m g, fun m g _ => Cert.ProjQkvIdeal.Gen.frame m g, Cert.Mm.ProjQkv.ref_frame,
    fun m g _ => Cert.ProjZ.Gen.frame m g, fun m g _ => Cert.ProjZIdeal.Gen.frame m g, Cert.Mm.ProjZ.ref_frame,
    fun m g _ => Cert.FfnDown.Gen.frame m g, fun m g _ => Cert.FfnDownIdeal.Gen.frame m g, Cert.Mm.FfnDown.ref_frame,
    fun m g _ => Cert.LnBwd.Gen.frame m g, fun m g _ => Cert.LnBwdIdeal.Gen.frame m g, fun m g _ => Cert.LnBwdIdeal.Gen.frame m g,
    Cert.Rows.LnBwd.ref_frame, fun m g _ => Cert.Rows.LnBwd.ref_frame m g trivial,
    fun m g _ => Cert.MergeBwd.Gen.frame m g, fun m g _ => Cert.MergeBwdIdeal.Gen.frame m g, Cert.Rows.MergeBwd.ref_frame,
    fun m g _ => Cert.GradX.Gen.frame m g, fun m g _ => Cert.GradXIdeal.Gen.frame m g, Cert.Rows.GradX.ref_frame,
    fun m g _ => Cert.GateBwd.Gen.frame m g, fun m g _ => Cert.GateBwdIdeal.Gen.frame m g, fun m g _ => Cert.GateBwdIdeal.Gen.frame m g,
    Cert.Rows.GateBwd.ref_frame, fun m g _ => Cert.Rows.GateBwd.ref_frame m g trivial,
    fun m g _ => Cert.Final.Gen.frame m g, fun m g _ => Cert.FinalIdeal.Gen.frame m g, fun m g _ => Cert.FinalIdeal.Gen.frame m g,
    Cert.Rows.Final.ref_frame, fun m g _ => Cert.Rows.Final.ref_frame m g trivial,
    fun m g _ => Cert.ModT.Gen.frame m g, fun m g _ => Cert.ModTIdeal.Gen.frame m g, Cert.Rows.ModT.ref_frame,
    fun m g _ => Cert.GateFwd.Gen.frame m g, fun m g _ => Cert.GateFwdIdeal.Gen.frame m g, Cert.Rows.GateFwd.ref_frame,
    fun m g _ => Cert.MergeFwd.Gen.frame m g, fun m g _ => Cert.MergeFwdIdeal.Gen.frame m g, Cert.Rows.MergeFwd.ref_frame,
    fun m g _ => Cert.LnFwd.Gen.frame m g, fun m g _ => Cert.LnFwdIdeal.Gen.frame m g, Cert.Rows.LnFwd.ref_frame,
    fun m g _ => Cert.Mix.Gen.frame m g, fun m g _ => Cert.MixIdeal.Gen.frame m g, Cert.Mm.Mix.ref_frame,
    fun m g _ => Cert.ProjG.Gen.frame m g, fun m g _ => Cert.ProjGIdeal.Gen.frame m g, Cert.Mm.ProjG.ref_frame,
    fun m g _ => Cert.ProjBa.Gen.frame m g, fun m g _ => Cert.ProjBaIdeal.Gen.frame m g, Cert.Mm.ProjBa.ref_frame,
    fun m g _ => Cert.GwG.Gen.frame m g, fun m g _ => Cert.GwGIdeal.Gen.frame m g, Cert.Mm.GwG.ref_frame,
    fun m g _ => Cert.GwBa.Gen.frame m g, fun m g _ => Cert.GwBaIdeal.Gen.frame m g, Cert.Mm.GwBa.ref_frame,
    fun m g _ => Cert.DH1Ba.Gen.frame m g, fun m g _ => Cert.DH1BaIdeal.Gen.frame m g, Cert.Mm.DH1Ba.ref_frame,
    fun m g _ => Cert.DH1Z.Gen.frame m g, fun m g _ => Cert.DH1ZIdeal.Gen.frame m g, Cert.Mm.DH1Z.ref_frame,
    fun m g _ => Cert.DH1G.Gen.frame m g, fun m g _ => Cert.DH1GIdeal.Gen.frame m g, Cert.Mm.DH1G.ref_frame,
    fun m g _ => Cert.AdaBwd.Gen.frame m g, fun m g _ => Cert.AdaBwdIdeal.Gen.frame m g, Cert.Mm.AdaBwd.ref_frame,
    fun m g _ => Cert.AdaFwd.Gen.frame m g, fun m g _ => Cert.AdaFwdIdeal.Gen.frame m g, Cert.Mm.AdaFwd.ref_frame,
    fun m g _ => Cert.AdamAda.Gen.frame m g, fun m g _ => Cert.AdamAdaIdeal.Gen.frame m g, Cert.Rows.AdamAda.ref_frame,
    fun m g _ => Cert.AdamIn.Gen.frame m g, fun m g _ => Cert.AdamInIdeal.Gen.frame m g, Cert.Rows.AdamIn.ref_frame,
    fun m g _ => Cert.AdamSquare.Gen.frame m g, fun m g _ => Cert.AdamSquareIdeal.Gen.frame m g, Cert.Rows.AdamSquare.ref_frame,
    fun m g _ => Cert.AdamUp.Gen.frame m g, fun m g _ => Cert.AdamUpIdeal.Gen.frame m g, Cert.Rows.AdamUp.ref_frame,
    fun m g _ => Cert.AdamDown.Gen.frame m g, fun m g _ => Cert.AdamDownIdeal.Gen.frame m g, Cert.Rows.AdamDown.ref_frame,
    fun m g _ => Cert.AdamSmall.Gen.frame m g, fun m g _ => Cert.AdamSmallIdeal.Gen.frame m g, Cert.Rows.AdamSmall.ref_frame,
    fun m g _ => Cert.PairSquare.Gen.frame m g, fun m g _ => Cert.PairSquareIdeal.Gen.frame m g, Cert.Rows.PairSquare.ref_frame,
    fun m g _ => Cert.PairUp.Gen.frame m g, fun m g _ => Cert.PairUpIdeal.Gen.frame m g, Cert.Rows.PairUp.ref_frame,
    fun m g _ => Cert.PairDown.Gen.frame m g, fun m g _ => Cert.PairDownIdeal.Gen.frame m g, Cert.Rows.PairDown.ref_frame,
    fun m g _ => Cert.PairIn.Gen.frame m g, fun m g _ => Cert.PairInIdeal.Gen.frame m g, Cert.Rows.PairIn.ref_frame,
    fun m g _ => Cert.SumSquare.Gen.frame m g, fun m g _ => Cert.SumSquareIdeal.Gen.frame m g, Cert.Rows.SumSquare.ref_frame,
    fun m g _ => Cert.SumUp.Gen.frame m g, fun m g _ => Cert.SumUpIdeal.Gen.frame m g, Cert.Rows.SumUp.ref_frame,
    fun m g _ => Cert.SumDown.Gen.frame m g, fun m g _ => Cert.SumDownIdeal.Gen.frame m g, Cert.Rows.SumDown.ref_frame,
    fun m g _ => Cert.SumIn.Gen.frame m g, fun m g _ => Cert.SumInIdeal.Gen.frame m g, Cert.Rows.SumIn.ref_frame,
    fun m g _ => Cert.SumSmall.Gen.frame m g, fun m g _ => Cert.SumSmallIdeal.Gen.frame m g, Cert.Rows.SumSmall.ref_frame,
    IdealRules.named_const.statement Cert.KernelIdeal.κ "mask" .f32 0xF149F2CA#32 ⊥ rfl,
    results_agree,
    trivial, Cert.Mm.GwUp.algebraic,
    trivial, Cert.Mm.DH2.algebraic,
    trivial, Cert.Mm.GwQkv.algebraic,
    trivial, Cert.Mm.DH1.algebraic,
    trivial, Cert.Mm.GwDown.algebraic,
    trivial, Cert.Mm.DAct.algebraic,
    trivial, Cert.Mm.GwO.algebraic,
    trivial, Cert.Mm.DMerged.algebraic,
    trivial, Cert.Mm.FfnUp.algebraic,
    trivial, Cert.Mm.ProjQkv.algebraic,
    trivial, Cert.Mm.ProjZ.algebraic,
    trivial, Cert.Mm.FfnDown.algebraic,
    trivial, Cert.Rows.LnBwd.algebraic,
    trivial, Cert.Rows.MergeBwd.algebraic,
    trivial, Cert.Rows.GradX.algebraic,
    trivial, Cert.Rows.GateBwd.algebraic,
    trivial, Cert.Rows.Final.algebraic,
    trivial, Cert.Rows.ModT.algebraic,
    trivial, Cert.Rows.GateFwd.algebraic,
    trivial, Cert.Rows.MergeFwd.algebraic,
    trivial, Cert.Rows.LnFwd.algebraic,
    trivial, Cert.Mm.Mix.algebraic,
    trivial, Cert.Mm.ProjG.algebraic,
    trivial, Cert.Mm.ProjBa.algebraic,
    trivial, Cert.Mm.GwG.algebraic,
    trivial, Cert.Mm.GwBa.algebraic,
    trivial, Cert.Mm.DH1Ba.algebraic,
    trivial, Cert.Mm.DH1Z.algebraic,
    trivial, Cert.Mm.DH1G.algebraic,
    trivial, Cert.Mm.AdaBwd.algebraic,
    trivial, Cert.Mm.AdaFwd.algebraic,
    trivial, Cert.Rows.AdamAda.algebraic,
    trivial, Cert.Rows.AdamIn.algebraic,
    trivial, Cert.Rows.AdamSquare.algebraic,
    trivial, Cert.Rows.AdamUp.algebraic,
    trivial, Cert.Rows.AdamDown.algebraic,
    trivial, Cert.Rows.AdamSmall.algebraic,
    trivial, Cert.Rows.PairSquare.algebraic,
    trivial, Cert.Rows.PairUp.algebraic,
    trivial, Cert.Rows.PairDown.algebraic,
    trivial, Cert.Rows.PairIn.algebraic,
    trivial, Cert.Rows.SumSquare.algebraic,
    trivial, Cert.Rows.SumUp.algebraic,
    trivial, Cert.Rows.SumDown.algebraic,
    trivial, Cert.Rows.SumIn.algebraic,
    trivial, Cert.Rows.SumSmall.algebraic⟩

end Cert.Proof

end
